-- ==== Defs.lean ====
def Pre_AttnGrad (m : (ℓ : Loc Cert.AttnGrad.nD Cert.AttnGrad.τ Cert.AttnGrad.sig) → Buf (Elt Bits) ℓ) : Prop :=
  True

def Pre_AttnGradIdeal (m : (ℓ : Loc Cert.AttnGradIdeal.nD Cert.AttnGradIdeal.τ Cert.AttnGradIdeal.sig) → Buf (Elt Ideal) ℓ) : Prop :=
  True

def Pre_AttnGradIdeal_finite_operands [hPre_finite_operands : Cert.Pre_finite_operands.Facts] (m : (ℓ : Loc Cert.AttnGradIdeal.nD Cert.AttnGradIdeal.τ Cert.AttnGradIdeal.sig) → Buf (Elt Ideal) ℓ) : Prop :=
  ∀ c : Dev Cert.AttnGradIdeal.nD,
    (Cert.Pre_finite_operands.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2)) (m ((c.tc : Thread Cert.AttnGradIdeal.nD Cert.AttnGradIdeal.τ).loc Cert.AttnGradIdeal.main_arg3)) (m ((c.tc : Thread Cert.AttnGradIdeal.nD Cert.AttnGradIdeal.τ).loc Cert.AttnGradIdeal.main_arg4))).1 = (fun _ => 1#1)
    ∧ (Cert.Pre_finite_operands.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2)) (m ((c.tc : Thread Cert.AttnGradIdeal.nD Cert.AttnGradIdeal.τ).loc Cert.AttnGradIdeal.main_arg3)) (m ((c.tc : Thread Cert.AttnGradIdeal.nD Cert.AttnGradIdeal.τ).loc Cert.AttnGradIdeal.main_arg4))).2.1 = (fun _ => 1#1)
    ∧ (Cert.Pre_finite_operands.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2)) (m ((c.tc : Thread Cert.AttnGradIdeal.nD Cert.AttnGradIdeal.τ).loc Cert.AttnGradIdeal.main_arg3)) (m ((c.tc : Thread Cert.AttnGradIdeal.nD Cert.AttnGradIdeal.τ).loc Cert.AttnGradIdeal.main_arg4))).2.2.1 = (fun _ => 1#1)
    ∧ (Cert.Pre_finite_operands.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2)) (m ((c.tc : Thread Cert.AttnGradIdeal.nD Cert.AttnGradIdeal.τ).loc Cert.AttnGradIdeal.main_arg3)) (m ((c.tc : Thread Cert.AttnGradIdeal.nD Cert.AttnGradIdeal.τ).loc Cert.AttnGradIdeal.main_arg4))).2.2.2 = (fun _ => 1#1)

def Pre_AttnGradRefIdeal (m : (ℓ : Loc Cert.AttnGradRefIdeal.nD Cert.AttnGradRefIdeal.τ Cert.AttnGradRefIdeal.sig) → Buf (Elt Ideal) ℓ) : Prop :=
  True

def Pre_AttnGradRefIdeal_finite_operands [hPre_finite_operands : Cert.Pre_finite_operands.Facts] (m : (ℓ : Loc Cert.AttnGradRefIdeal.nD Cert.AttnGradRefIdeal.τ Cert.AttnGradRefIdeal.sig) → Buf (Elt Ideal) ℓ) : Prop :=
  ∀ c : Dev Cert.AttnGradRefIdeal.nD,
    (Cert.Pre_finite_operands.fn (F := Ideal) (m ((c.tc : Thread Cert.AttnGradRefIdeal.nD Cert.AttnGradRefIdeal.τ).loc Cert.AttnGradRefIdeal.main_arg0)) (m ((c.tc : Thread Cert.AttnGradRefIdeal.nD Cert.AttnGradRefIdeal.τ).loc Cert.AttnGradRefIdeal.main_arg1)) (m ((c.tc : Thread Cert.AttnGradRefIdeal.nD Cert.AttnGradRefIdeal.τ).loc Cert.AttnGradRefIdeal.main_arg2)) (m ((c.tc : Thread Cert.AttnGradRefIdeal.nD Cert.AttnGradRefIdeal.τ).loc Cert.AttnGradRefIdeal.main_arg3)) (m ((c.tc : Thread Cert.AttnGradRefIdeal.nD Cert.AttnGradRefIdeal.τ).loc Cert.AttnGradRefIdeal.main_arg4))).1 = (fun _ => 1#1)
    ∧ (Cert.Pre_finite_operands.fn (F := Ideal) (m ((c.tc : Thread Cert.AttnGradRefIdeal.nD Cert.AttnGradRefIdeal.τ).loc Cert.AttnGradRefIdeal.main_arg0)) (m ((c.tc : Thread Cert.AttnGradRefIdeal.nD Cert.AttnGradRefIdeal.τ).loc Cert.AttnGradRefIdeal.main_arg1)) (m ((c.tc : Thread Cert.AttnGradRefIdeal.nD Cert.AttnGradRefIdeal.τ).loc Cert.AttnGradRefIdeal.main_arg2)) (m ((c.tc : Thread Cert.AttnGradRefIdeal.nD Cert.AttnGradRefIdeal.τ).loc Cert.AttnGradRefIdeal.main_arg3)) (m ((c.tc : Thread Cert.AttnGradRefIdeal.nD Cert.AttnGradRefIdeal.τ).loc Cert.AttnGradRefIdeal.main_arg4))).2.1 = (fun _ => 1#1)
    ∧ (Cert.Pre_finite_operands.fn (F := Ideal) (m ((c.tc : Thread Cert.AttnGradRefIdeal.nD Cert.AttnGradRefIdeal.τ).loc Cert.AttnGradRefIdeal.main_arg0)) (m ((c.tc : Thread Cert.AttnGradRefIdeal.nD Cert.AttnGradRefIdeal.τ).loc Cert.AttnGradRefIdeal.main_arg1)) (m ((c.tc : Thread Cert.AttnGradRefIdeal.nD Cert.AttnGradRefIdeal.τ).loc Cert.AttnGradRefIdeal.main_arg2)) (m ((c.tc : Thread Cert.AttnGradRefIdeal.nD Cert.AttnGradRefIdeal.τ).loc Cert.AttnGradRefIdeal.main_arg3)) (m ((c.tc : Thread Cert.AttnGradRefIdeal.nD Cert.AttnGradRefIdeal.τ).loc Cert.AttnGradRefIdeal.main_arg4))).2.2.1 = (fun _ => 1#1)
    ∧ (Cert.Pre_finite_operands.fn (F := Ideal) (m ((c.tc : Thread Cert.AttnGradRefIdeal.nD Cert.AttnGradRefIdeal.τ).loc Cert.AttnGradRefIdeal.main_arg0)) (m ((c.tc : Thread Cert.AttnGradRefIdeal.nD Cert.AttnGradRefIdeal.τ).loc Cert.AttnGradRefIdeal.main_arg1)) (m ((c.tc : Thread Cert.AttnGradRefIdeal.nD Cert.AttnGradRefIdeal.τ).loc Cert.AttnGradRefIdeal.main_arg2)) (m ((c.tc : Thread Cert.AttnGradRefIdeal.nD Cert.AttnGradRefIdeal.τ).loc Cert.AttnGradRefIdeal.main_arg3)) (m ((c.tc : Thread Cert.AttnGradRefIdeal.nD Cert.AttnGradRefIdeal.τ).loc Cert.AttnGradRefIdeal.main_arg4))).2.2.2 = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnInDx (m : (ℓ : Loc Cert.FfnInDx.nD Cert.FfnInDx.τ Cert.FfnInDx.sig) → Buf (Elt Bits) ℓ) : Prop :=
  True

def Pre_FfnInDxIdeal (m : (ℓ : Loc Cert.FfnInDxIdeal.nD Cert.FfnInDxIdeal.τ Cert.FfnInDxIdeal.sig) → Buf (Elt Ideal) ℓ) : Prop :=
  True

def Pre_FfnInDxRefIdeal (m : (ℓ : Loc Cert.FfnInDxRefIdeal.nD Cert.FfnInDxRefIdeal.τ Cert.FfnInDxRefIdeal.sig) → Buf (Elt Ideal) ℓ) : Prop :=
  True

def Pre_FfnInDw (m : (ℓ : Loc Cert.FfnInDw.nD Cert.FfnInDw.τ Cert.FfnInDw.sig) → Buf (Elt Bits) ℓ) : Prop :=
  True

def Pre_FfnInDwIdeal (m : (ℓ : Loc Cert.FfnInDwIdeal.nD Cert.FfnInDwIdeal.τ Cert.FfnInDwIdeal.sig) → Buf (Elt Ideal) ℓ) : Prop :=
  True

def Pre_FfnInDwRefIdeal (m : (ℓ : Loc Cert.FfnInDwRefIdeal.nD Cert.FfnInDwRefIdeal.τ Cert.FfnInDwRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_FfnOutDx (m : (ℓ : Loc Cert.FfnOutDx.nD Cert.FfnOutDx.τ Cert.FfnOutDx.sig) → Buf (Elt Bits) ℓ) : Prop :=
  True

def Pre_FfnOutDxIdeal (m : (ℓ : Loc Cert.FfnOutDxIdeal.nD Cert.FfnOutDxIdeal.τ Cert.FfnOutDxIdeal.sig) → Buf (Elt Ideal) ℓ) : Prop :=
  True

def Pre_FfnOutDxRefIdeal (m : (ℓ : Loc Cert.FfnOutDxRefIdeal.nD Cert.FfnOutDxRefIdeal.τ Cert.FfnOutDxRefIdeal.sig) → Buf (Elt Ideal) ℓ) : Prop :=
  True

def Pre_FfnOutDw (m : (ℓ : Loc Cert.FfnOutDw.nD Cert.FfnOutDw.τ Cert.FfnOutDw.sig) → Buf (Elt Bits) ℓ) : Prop :=
  True

def Pre_FfnOutDwIdeal (m : (ℓ : Loc Cert.FfnOutDwIdeal.nD Cert.FfnOutDwIdeal.τ Cert.FfnOutDwIdeal.sig) → Buf (Elt Ideal) ℓ) : Prop :=
  True

def Pre_FfnOutDwRefIdeal (m : (ℓ : Loc Cert.FfnOutDwRefIdeal.nD Cert.FfnOutDwRefIdeal.τ Cert.FfnOutDwRefIdeal.sig) → Buf (Elt Ideal) ℓ) : Prop :=
  True

def Pre_LruIn (m : (ℓ : Loc Cert.LruIn.nD Cert.LruIn.τ Cert.LruIn.sig) → Buf (Elt Bits) ℓ) : Prop :=
  True

def Pre_LruInIdeal (m : (ℓ : Loc Cert.LruInIdeal.nD Cert.LruInIdeal.τ Cert.LruInIdeal.sig) → Buf (Elt Ideal) ℓ) : Prop :=
  True

def Pre_LruInRefIdeal (m : (ℓ : Loc Cert.LruInRefIdeal.nD Cert.LruInRefIdeal.τ Cert.LruInRefIdeal.sig) → Buf (Elt Ideal) ℓ) : Prop :=
  True

def Pre_LruInDx (m : (ℓ : Loc Cert.LruInDx.nD Cert.LruInDx.τ Cert.LruInDx.sig) → Buf (Elt Bits) ℓ) : Prop :=
  True

def Pre_LruInDxIdeal (m : (ℓ : Loc Cert.LruInDxIdeal.nD Cert.LruInDxIdeal.τ Cert.LruInDxIdeal.sig) → Buf (Elt Ideal) ℓ) : Prop :=
  True

def Pre_LruInDxRefIdeal (m : (ℓ : Loc Cert.LruInDxRefIdeal.nD Cert.LruInDxRefIdeal.τ Cert.LruInDxRefIdeal.sig) → Buf (Elt Ideal) ℓ) : Prop :=
  True

def Pre_LruInDw (m : (ℓ : Loc Cert.LruInDw.nD Cert.LruInDw.τ Cert.LruInDw.sig) → Buf (Elt Bits) ℓ) : Prop :=
  True

def Pre_LruInDwIdeal (m : (ℓ : Loc Cert.LruInDwIdeal.nD Cert.LruInDwIdeal.τ Cert.LruInDwIdeal.sig) → Buf (Elt Ideal) ℓ) : Prop :=
  True

def Pre_LruInDwRefIdeal (m : (ℓ : Loc Cert.LruInDwRefIdeal.nD Cert.LruInDwRefIdeal.τ Cert.LruInDwRefIdeal.sig) → Buf (Elt Ideal) ℓ) : Prop :=
  True

def Pre_LruOut (m : (ℓ : Loc Cert.LruOut.nD Cert.LruOut.τ Cert.LruOut.sig) → Buf (Elt Bits) ℓ) : Prop :=
  True

def Pre_LruOutIdeal (m : (ℓ : Loc Cert.LruOutIdeal.nD Cert.LruOutIdeal.τ Cert.LruOutIdeal.sig) → Buf (Elt Ideal) ℓ) : Prop :=
  True

def Pre_LruOutRefIdeal (m : (ℓ : Loc Cert.LruOutRefIdeal.nD Cert.LruOutRefIdeal.τ Cert.LruOutRefIdeal.sig) → Buf (Elt Ideal) ℓ) : Prop :=
  True

def Pre_LruOutDw (m : (ℓ : Loc Cert.LruOutDw.nD Cert.LruOutDw.τ Cert.LruOutDw.sig) → Buf (Elt Bits) ℓ) : Prop :=
  True

def Pre_LruOutDwIdeal (m : (ℓ : Loc Cert.LruOutDwIdeal.nD Cert.LruOutDwIdeal.τ Cert.LruOutDwIdeal.sig) → Buf (Elt Ideal) ℓ) : Prop :=
  True

def Pre_LruOutDwRefIdeal (m : (ℓ : Loc Cert.LruOutDwRefIdeal.nD Cert.LruOutDwRefIdeal.τ Cert.LruOutDwRefIdeal.sig) → Buf (Elt Ideal) ℓ) : Prop :=
  True

def Pre_AttnIn (m : (ℓ : Loc Cert.AttnIn.nD Cert.AttnIn.τ Cert.AttnIn.sig) → Buf (Elt Bits) ℓ) : Prop :=
  True

def Pre_AttnInIdeal (m : (ℓ : Loc Cert.AttnInIdeal.nD Cert.AttnInIdeal.τ Cert.AttnInIdeal.sig) → Buf (Elt Ideal) ℓ) : Prop :=
  True

def Pre_AttnInRefIdeal (m : (ℓ : Loc Cert.AttnInRefIdeal.nD Cert.AttnInRefIdeal.τ Cert.AttnInRefIdeal.sig) → Buf (Elt Ideal) ℓ) : Prop :=
  True

def Pre_AttnInDx (m : (ℓ : Loc Cert.AttnInDx.nD Cert.AttnInDx.τ Cert.AttnInDx.sig) → Buf (Elt Bits) ℓ) : Prop :=
  True

def Pre_AttnInDxIdeal (m : (ℓ : Loc Cert.AttnInDxIdeal.nD Cert.AttnInDxIdeal.τ Cert.AttnInDxIdeal.sig) → Buf (Elt Ideal) ℓ) : Prop :=
  True

def Pre_AttnInDxRefIdeal (m : (ℓ : Loc Cert.AttnInDxRefIdeal.nD Cert.AttnInDxRefIdeal.τ Cert.AttnInDxRefIdeal.sig) → Buf (Elt Ideal) ℓ) : Prop :=
  True

def Pre_AttnInDw (m : (ℓ : Loc Cert.AttnInDw.nD Cert.AttnInDw.τ Cert.AttnInDw.sig) → Buf (Elt Bits) ℓ) : Prop :=
  True

def Pre_AttnInDwIdeal (m : (ℓ : Loc Cert.AttnInDwIdeal.nD Cert.AttnInDwIdeal.τ Cert.AttnInDwIdeal.sig) → Buf (Elt Ideal) ℓ) : Prop :=
  True

def Pre_AttnInDwRefIdeal (m : (ℓ : Loc Cert.AttnInDwRefIdeal.nD Cert.AttnInDwRefIdeal.τ Cert.AttnInDwRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_AttnOutDw (m : (ℓ : Loc Cert.AttnOutDw.nD Cert.AttnOutDw.τ Cert.AttnOutDw.sig) → Buf (Elt Bits) ℓ) : Prop :=
  True

def Pre_AttnOutDwIdeal (m : (ℓ : Loc Cert.AttnOutDwIdeal.nD Cert.AttnOutDwIdeal.τ Cert.AttnOutDwIdeal.sig) → Buf (Elt Ideal) ℓ) : Prop :=
  True

def Pre_AttnOutDwRefIdeal (m : (ℓ : Loc Cert.AttnOutDwRefIdeal.nD Cert.AttnOutDwRefIdeal.τ Cert.AttnOutDwRefIdeal.sig) → Buf (Elt Ideal) ℓ) : Prop :=
  True

def Pre_KvIn (m : (ℓ : Loc Cert.KvIn.nD Cert.KvIn.τ Cert.KvIn.sig) → Buf (Elt Bits) ℓ) : Prop :=
  True

def Pre_KvInIdeal (m : (ℓ : Loc Cert.KvInIdeal.nD Cert.KvInIdeal.τ Cert.KvInIdeal.sig) → Buf (Elt Ideal) ℓ) : Prop :=
  True

def Pre_KvInRefIdeal (m : (ℓ : Loc Cert.KvInRefIdeal.nD Cert.KvInRefIdeal.τ Cert.KvInRefIdeal.sig) → Buf (Elt Ideal) ℓ) : Prop :=
  True

def Pre_KvInDx (m : (ℓ : Loc Cert.KvInDx.nD Cert.KvInDx.τ Cert.KvInDx.sig) → Buf (Elt Bits) ℓ) : Prop :=
  True

def Pre_KvInDxIdeal (m : (ℓ : Loc Cert.KvInDxIdeal.nD Cert.KvInDxIdeal.τ Cert.KvInDxIdeal.sig) → Buf (Elt Ideal) ℓ) : Prop :=
  True

def Pre_KvInDxRefIdeal (m : (ℓ : Loc Cert.KvInDxRefIdeal.nD Cert.KvInDxRefIdeal.τ Cert.KvInDxRefIdeal.sig) → Buf (Elt Ideal) ℓ) : Prop :=
  True

def Pre_KvInDw (m : (ℓ : Loc Cert.KvInDw.nD Cert.KvInDw.τ Cert.KvInDw.sig) → Buf (Elt Bits) ℓ) : Prop :=
  True

def Pre_KvInDwIdeal (m : (ℓ : Loc Cert.KvInDwIdeal.nD Cert.KvInDwIdeal.τ Cert.KvInDwIdeal.sig) → Buf (Elt Ideal) ℓ) : Prop :=
  True

def Pre_KvInDwRefIdeal (m : (ℓ : Loc Cert.KvInDwRefIdeal.nD Cert.KvInDwRefIdeal.τ Cert.KvInDwRefIdeal.sig) → Buf (Elt Ideal) ℓ) : Prop :=
  True

def Pre_FfnBack (m : (ℓ : Loc Cert.FfnBack.nD Cert.FfnBack.τ Cert.FfnBack.sig) → Buf (Elt Bits) ℓ) : Prop :=
  True

def Pre_FfnBackIdeal (m : (ℓ : Loc Cert.FfnBackIdeal.nD Cert.FfnBackIdeal.τ Cert.FfnBackIdeal.sig) → Buf (Elt Ideal) ℓ) : Prop :=
  True

def Pre_FfnBackIdeal_finite_rows [hPre_finite_rows : Cert.Pre_finite_rows.Facts] (m : (ℓ : Loc Cert.FfnBackIdeal.nD Cert.FfnBackIdeal.τ Cert.FfnBackIdeal.sig) → Buf (Elt Ideal) ℓ) : Prop :=
  ∀ c : Dev Cert.FfnBackIdeal.nD,
    (Cert.Pre_finite_rows.fn (F := Ideal) (m ((c.tc : Thread Cert.FfnBackIdeal.nD Cert.FfnBackIdeal.τ).loc Cert.FfnBackIdeal.main_arg0)) (m ((c.tc : Thread Cert.FfnBackIdeal.nD Cert.FfnBackIdeal.τ).loc Cert.FfnBackIdeal.main_arg1)) (m ((c.tc : Thread Cert.FfnBackIdeal.nD Cert.FfnBackIdeal.τ).loc Cert.FfnBackIdeal.main_arg2)) (m ((c.tc : Thread Cert.FfnBackIdeal.nD Cert.FfnBackIdeal.τ).loc Cert.FfnBackIdeal.main_arg3))).1 = (fun _ => 1#1)
    ∧ (Cert.Pre_finite_rows.fn (F := Ideal) (m ((c.tc : Thread Cert.FfnBackIdeal.nD Cert.FfnBackIdeal.τ).loc Cert.FfnBackIdeal.main_arg0)) (m ((c.tc : Thread Cert.FfnBackIdeal.nD Cert.FfnBackIdeal.τ).loc Cert.FfnBackIdeal.main_arg1)) (m ((c.tc : Thread Cert.FfnBackIdeal.nD Cert.FfnBackIdeal.τ).loc Cert.FfnBackIdeal.main_arg2)) (m ((c.tc : Thread Cert.FfnBackIdeal.nD Cert.FfnBackIdeal.τ).loc Cert.FfnBackIdeal.main_arg3))).2.1 = (fun _ => 1#1)
    ∧ (Cert.Pre_finite_rows.fn (F := Ideal) (m ((c.tc : Thread Cert.FfnBackIdeal.nD Cert.FfnBackIdeal.τ).loc Cert.FfnBackIdeal.main_arg0)) (m ((c.tc : Thread Cert.FfnBackIdeal.nD Cert.FfnBackIdeal.τ).loc Cert.FfnBackIdeal.main_arg1)) (m ((c.tc : Thread Cert.FfnBackIdeal.nD Cert.FfnBackIdeal.τ).loc Cert.FfnBackIdeal.main_arg2)) (m ((c.tc : Thread Cert.FfnBackIdeal.nD Cert.FfnBackIdeal.τ).loc Cert.FfnBackIdeal.main_arg3))).2.2 = (fun _ => 1#1)

def Pre_FfnBackRefIdeal (m : (ℓ : Loc Cert.FfnBackRefIdeal.nD Cert.FfnBackRefIdeal.τ Cert.FfnBackRefIdeal.sig) → Buf (Elt Ideal) ℓ) : Prop :=
  True

def Pre_FfnBackRefIdeal_finite_rows [hPre_finite_rows : Cert.Pre_finite_rows.Facts] (m : (ℓ : Loc Cert.FfnBackRefIdeal.nD Cert.FfnBackRefIdeal.τ Cert.FfnBackRefIdeal.sig) → Buf (Elt Ideal) ℓ) : Prop :=
  ∀ c : Dev Cert.FfnBackRefIdeal.nD,
    (Cert.Pre_finite_rows.fn (F := Ideal) (m ((c.tc : Thread Cert.FfnBackRefIdeal.nD Cert.FfnBackRefIdeal.τ).loc Cert.FfnBackRefIdeal.main_arg0)) (m ((c.tc : Thread Cert.FfnBackRefIdeal.nD Cert.FfnBackRefIdeal.τ).loc Cert.FfnBackRefIdeal.main_arg1)) (m ((c.tc : Thread Cert.FfnBackRefIdeal.nD Cert.FfnBackRefIdeal.τ).loc Cert.FfnBackRefIdeal.main_arg2)) (m ((c.tc : Thread Cert.FfnBackRefIdeal.nD Cert.FfnBackRefIdeal.τ).loc Cert.FfnBackRefIdeal.main_arg3))).1 = (fun _ => 1#1)
    ∧ (Cert.Pre_finite_rows.fn (F := Ideal) (m ((c.tc : Thread Cert.FfnBackRefIdeal.nD Cert.FfnBackRefIdeal.τ).loc Cert.FfnBackRefIdeal.main_arg0)) (m ((c.tc : Thread Cert.FfnBackRefIdeal.nD Cert.FfnBackRefIdeal.τ).loc Cert.FfnBackRefIdeal.main_arg1)) (m ((c.tc : Thread Cert.FfnBackRefIdeal.nD Cert.FfnBackRefIdeal.τ).loc Cert.FfnBackRefIdeal.main_arg2)) (m ((c.tc : Thread Cert.FfnBackRefIdeal.nD Cert.FfnBackRefIdeal.τ).loc Cert.FfnBackRefIdeal.main_arg3))).2.1 = (fun _ => 1#1)
    ∧ (Cert.Pre_finite_rows.fn (F := Ideal) (m ((c.tc : Thread Cert.FfnBackRefIdeal.nD Cert.FfnBackRefIdeal.τ).loc Cert.FfnBackRefIdeal.main_arg0)) (m ((c.tc : Thread Cert.FfnBackRefIdeal.nD Cert.FfnBackRefIdeal.τ).loc Cert.FfnBackRefIdeal.main_arg1)) (m ((c.tc : Thread Cert.FfnBackRefIdeal.nD Cert.FfnBackRefIdeal.τ).loc Cert.FfnBackRefIdeal.main_arg2)) (m ((c.tc : Thread Cert.FfnBackRefIdeal.nD Cert.FfnBackRefIdeal.τ).loc Cert.FfnBackRefIdeal.main_arg3))).2.2 = (fun _ => 1#1)

def Pre_LruBack (m : (ℓ : Loc Cert.LruBack.nD Cert.LruBack.τ Cert.LruBack.sig) → Buf (Elt Bits) ℓ) : Prop :=
  True

def Pre_LruBackIdeal (m : (ℓ : Loc Cert.LruBackIdeal.nD Cert.LruBackIdeal.τ Cert.LruBackIdeal.sig) → Buf (Elt Ideal) ℓ) : Prop :=
  True

def Pre_LruBackIdeal_finite_lru_rows [hPre_finite_lru_rows : Cert.Pre_finite_lru_rows.Facts] (m : (ℓ : Loc Cert.LruBackIdeal.nD Cert.LruBackIdeal.τ Cert.LruBackIdeal.sig) → Buf (Elt Ideal) ℓ) : Prop :=
  ∀ c : Dev Cert.LruBackIdeal.nD,
    (Cert.Pre_finite_lru_rows.fn (F := Ideal) (m ((c.tc : Thread Cert.LruBackIdeal.nD Cert.LruBackIdeal.τ).loc Cert.LruBackIdeal.main_arg0)) (m ((c.tc : Thread Cert.LruBackIdeal.nD Cert.LruBackIdeal.τ).loc Cert.LruBackIdeal.main_arg1)) (m ((c.tc : Thread Cert.LruBackIdeal.nD Cert.LruBackIdeal.τ).loc Cert.LruBackIdeal.main_arg2)) (m ((c.tc : Thread Cert.LruBackIdeal.nD Cert.LruBackIdeal.τ).loc Cert.LruBackIdeal.main_arg3)) (m ((c.tc : Thread Cert.LruBackIdeal.nD Cert.LruBackIdeal.τ).loc Cert.LruBackIdeal.main_arg4))).1 = (fun _ => 1#1)
    ∧ (Cert.Pre_finite_lru_rows.fn (F := Ideal) (m ((c.tc : Thread Cert.LruBackIdeal.nD Cert.LruBackIdeal.τ).loc Cert.LruBackIdeal.main_arg0)) (m ((c.tc : Thread Cert.LruBackIdeal.nD Cert.LruBackIdeal.τ).loc Cert.LruBackIdeal.main_arg1)) (m ((c.tc : Thread Cert.LruBackIdeal.nD Cert.LruBackIdeal.τ).loc Cert.LruBackIdeal.main_arg2)) (m ((c.tc : Thread Cert.LruBackIdeal.nD Cert.LruBackIdeal.τ).loc Cert.LruBackIdeal.main_arg3)) (m ((c.tc : Thread Cert.LruBackIdeal.nD Cert.LruBackIdeal.τ).loc Cert.LruBackIdeal.main_arg4))).2.1 = (fun _ => 1#1)
    ∧ (Cert.Pre_finite_lru_rows.fn (F := Ideal) (m ((c.tc : Thread Cert.LruBackIdeal.nD Cert.LruBackIdeal.τ).loc Cert.LruBackIdeal.main_arg0)) (m ((c.tc : Thread Cert.LruBackIdeal.nD Cert.LruBackIdeal.τ).loc Cert.LruBackIdeal.main_arg1)) (m ((c.tc : Thread Cert.LruBackIdeal.nD Cert.LruBackIdeal.τ).loc Cert.LruBackIdeal.main_arg2)) (m ((c.tc : Thread Cert.LruBackIdeal.nD Cert.LruBackIdeal.τ).loc Cert.LruBackIdeal.main_arg3)) (m ((c.tc : Thread Cert.LruBackIdeal.nD Cert.LruBackIdeal.τ).loc Cert.LruBackIdeal.main_arg4))).2.2 = (fun _ => 1#1)

def Pre_LruBackRefIdeal (m : (ℓ : Loc Cert.LruBackRefIdeal.nD Cert.LruBackRefIdeal.τ Cert.LruBackRefIdeal.sig) → Buf (Elt Ideal) ℓ) : Prop :=
  True

def Pre_LruBackRefIdeal_finite_lru_rows [hPre_finite_lru_rows : Cert.Pre_finite_lru_rows.Facts] (m : (ℓ : Loc Cert.LruBackRefIdeal.nD Cert.LruBackRefIdeal.τ Cert.LruBackRefIdeal.sig) → Buf (Elt Ideal) ℓ) : Prop :=
  ∀ c : Dev Cert.LruBackRefIdeal.nD,
    (Cert.Pre_finite_lru_rows.fn (F := Ideal) (m ((c.tc : Thread Cert.LruBackRefIdeal.nD Cert.LruBackRefIdeal.τ).loc Cert.LruBackRefIdeal.main_arg0)) (m ((c.tc : Thread Cert.LruBackRefIdeal.nD Cert.LruBackRefIdeal.τ).loc Cert.LruBackRefIdeal.main_arg1)) (m ((c.tc : Thread Cert.LruBackRefIdeal.nD Cert.LruBackRefIdeal.τ).loc Cert.LruBackRefIdeal.main_arg2)) (m ((c.tc : Thread Cert.LruBackRefIdeal.nD Cert.LruBackRefIdeal.τ).loc Cert.LruBackRefIdeal.main_arg3)) (m ((c.tc : Thread Cert.LruBackRefIdeal.nD Cert.LruBackRefIdeal.τ).loc Cert.LruBackRefIdeal.main_arg4))).1 = (fun _ => 1#1)
    ∧ (Cert.Pre_finite_lru_rows.fn (F := Ideal) (m ((c.tc : Thread Cert.LruBackRefIdeal.nD Cert.LruBackRefIdeal.τ).loc Cert.LruBackRefIdeal.main_arg0)) (m ((c.tc : Thread Cert.LruBackRefIdeal.nD Cert.LruBackRefIdeal.τ).loc Cert.LruBackRefIdeal.main_arg1)) (m ((c.tc : Thread Cert.LruBackRefIdeal.nD Cert.LruBackRefIdeal.τ).loc Cert.LruBackRefIdeal.main_arg2)) (m ((c.tc : Thread Cert.LruBackRefIdeal.nD Cert.LruBackRefIdeal.τ).loc Cert.LruBackRefIdeal.main_arg3)) (m ((c.tc : Thread Cert.LruBackRefIdeal.nD Cert.LruBackRefIdeal.τ).loc Cert.LruBackRefIdeal.main_arg4))).2.1 = (fun _ => 1#1)
    ∧ (Cert.Pre_finite_lru_rows.fn (F := Ideal) (m ((c.tc : Thread Cert.LruBackRefIdeal.nD Cert.LruBackRefIdeal.τ).loc Cert.LruBackRefIdeal.main_arg0)) (m ((c.tc : Thread Cert.LruBackRefIdeal.nD Cert.LruBackRefIdeal.τ).loc Cert.LruBackRefIdeal.main_arg1)) (m ((c.tc : Thread Cert.LruBackRefIdeal.nD Cert.LruBackRefIdeal.τ).loc Cert.LruBackRefIdeal.main_arg2)) (m ((c.tc : Thread Cert.LruBackRefIdeal.nD Cert.LruBackRefIdeal.τ).loc Cert.LruBackRefIdeal.main_arg3)) (m ((c.tc : Thread Cert.LruBackRefIdeal.nD Cert.LruBackRefIdeal.τ).loc Cert.LruBackRefIdeal.main_arg4))).2.2 = (fun _ => 1#1)

def Pre_AttnBack (m : (ℓ : Loc Cert.AttnBack.nD Cert.AttnBack.τ Cert.AttnBack.sig) → Buf (Elt Bits) ℓ) : Prop :=
  True

def Pre_AttnBackIdeal (m : (ℓ : Loc Cert.AttnBackIdeal.nD Cert.AttnBackIdeal.τ Cert.AttnBackIdeal.sig) → Buf (Elt Ideal) ℓ) : Prop :=
  True

def Pre_AttnBackIdeal_finite_attn_rows [hPre_finite_attn_rows : Cert.Pre_finite_attn_rows.Facts] (m : (ℓ : Loc Cert.AttnBackIdeal.nD Cert.AttnBackIdeal.τ Cert.AttnBackIdeal.sig) → Buf (Elt Ideal) ℓ) : Prop :=
  ∀ c : Dev Cert.AttnBackIdeal.nD,
    (Cert.Pre_finite_attn_rows.fn (F := Ideal) (m ((c.tc : Thread Cert.AttnBackIdeal.nD Cert.AttnBackIdeal.τ).loc Cert.AttnBackIdeal.main_arg0)) (m ((c.tc : Thread Cert.AttnBackIdeal.nD Cert.AttnBackIdeal.τ).loc Cert.AttnBackIdeal.main_arg1)) (m ((c.tc : Thread Cert.AttnBackIdeal.nD Cert.AttnBackIdeal.τ).loc Cert.AttnBackIdeal.main_arg2)) (m ((c.tc : Thread Cert.AttnBackIdeal.nD Cert.AttnBackIdeal.τ).loc Cert.AttnBackIdeal.main_arg3)) (m ((c.tc : Thread Cert.AttnBackIdeal.nD Cert.AttnBackIdeal.τ).loc Cert.AttnBackIdeal.main_arg4))).1 = (fun _ => 1#1)
    ∧ (Cert.Pre_finite_attn_rows.fn (F := Ideal) (m ((c.tc : Thread Cert.AttnBackIdeal.nD Cert.AttnBackIdeal.τ).loc Cert.AttnBackIdeal.main_arg0)) (m ((c.tc : Thread Cert.AttnBackIdeal.nD Cert.AttnBackIdeal.τ).loc Cert.AttnBackIdeal.main_arg1)) (m ((c.tc : Thread Cert.AttnBackIdeal.nD Cert.AttnBackIdeal.τ).loc Cert.AttnBackIdeal.main_arg2)) (m ((c.tc : Thread Cert.AttnBackIdeal.nD Cert.AttnBackIdeal.τ).loc Cert.AttnBackIdeal.main_arg3)) (m ((c.tc : Thread Cert.AttnBackIdeal.nD Cert.AttnBackIdeal.τ).loc Cert.AttnBackIdeal.main_arg4))).2.1 = (fun _ => 1#1)
    ∧ (Cert.Pre_finite_attn_rows.fn (F := Ideal) (m ((c.tc : Thread Cert.AttnBackIdeal.nD Cert.AttnBackIdeal.τ).loc Cert.AttnBackIdeal.main_arg0)) (m ((c.tc : Thread Cert.AttnBackIdeal.nD Cert.AttnBackIdeal.τ).loc Cert.AttnBackIdeal.main_arg1)) (m ((c.tc : Thread Cert.AttnBackIdeal.nD Cert.AttnBackIdeal.τ).loc Cert.AttnBackIdeal.main_arg2)) (m ((c.tc : Thread Cert.AttnBackIdeal.nD Cert.AttnBackIdeal.τ).loc Cert.AttnBackIdeal.main_arg3)) (m ((c.tc : Thread Cert.AttnBackIdeal.nD Cert.AttnBackIdeal.τ).loc Cert.AttnBackIdeal.main_arg4))).2.2 = (fun _ => 1#1)

def Pre_AttnBackRefIdeal (m : (ℓ : Loc Cert.AttnBackRefIdeal.nD Cert.AttnBackRefIdeal.τ Cert.AttnBackRefIdeal.sig) → Buf (Elt Ideal) ℓ) : Prop :=
  True

def Pre_AttnBackRefIdeal_finite_attn_rows [hPre_finite_attn_rows : Cert.Pre_finite_attn_rows.Facts] (m : (ℓ : Loc Cert.AttnBackRefIdeal.nD Cert.AttnBackRefIdeal.τ Cert.AttnBackRefIdeal.sig) → Buf (Elt Ideal) ℓ) : Prop :=
  ∀ c : Dev Cert.AttnBackRefIdeal.nD,
    (Cert.Pre_finite_attn_rows.fn (F := Ideal) (m ((c.tc : Thread Cert.AttnBackRefIdeal.nD Cert.AttnBackRefIdeal.τ).loc Cert.AttnBackRefIdeal.main_arg0)) (m ((c.tc : Thread Cert.AttnBackRefIdeal.nD Cert.AttnBackRefIdeal.τ).loc Cert.AttnBackRefIdeal.main_arg1)) (m ((c.tc : Thread Cert.AttnBackRefIdeal.nD Cert.AttnBackRefIdeal.τ).loc Cert.AttnBackRefIdeal.main_arg2)) (m ((c.tc : Thread Cert.AttnBackRefIdeal.nD Cert.AttnBackRefIdeal.τ).loc Cert.AttnBackRefIdeal.main_arg3)) (m ((c.tc : Thread Cert.AttnBackRefIdeal.nD Cert.AttnBackRefIdeal.τ).loc Cert.AttnBackRefIdeal.main_arg4))).1 = (fun _ => 1#1)
    ∧ (Cert.Pre_finite_attn_rows.fn (F := Ideal) (m ((c.tc : Thread Cert.AttnBackRefIdeal.nD Cert.AttnBackRefIdeal.τ).loc Cert.AttnBackRefIdeal.main_arg0)) (m ((c.tc : Thread Cert.AttnBackRefIdeal.nD Cert.AttnBackRefIdeal.τ).loc Cert.AttnBackRefIdeal.main_arg1)) (m ((c.tc : Thread Cert.AttnBackRefIdeal.nD Cert.AttnBackRefIdeal.τ).loc Cert.AttnBackRefIdeal.main_arg2)) (m ((c.tc : Thread Cert.AttnBackRefIdeal.nD Cert.AttnBackRefIdeal.τ).loc Cert.AttnBackRefIdeal.main_arg3)) (m ((c.tc : Thread Cert.AttnBackRefIdeal.nD Cert.AttnBackRefIdeal.τ).loc Cert.AttnBackRefIdeal.main_arg4))).2.1 = (fun _ => 1#1)
    ∧ (Cert.Pre_finite_attn_rows.fn (F := Ideal) (m ((c.tc : Thread Cert.AttnBackRefIdeal.nD Cert.AttnBackRefIdeal.τ).loc Cert.AttnBackRefIdeal.main_arg0)) (m ((c.tc : Thread Cert.AttnBackRefIdeal.nD Cert.AttnBackRefIdeal.τ).loc Cert.AttnBackRefIdeal.main_arg1)) (m ((c.tc : Thread Cert.AttnBackRefIdeal.nD Cert.AttnBackRefIdeal.τ).loc Cert.AttnBackRefIdeal.main_arg2)) (m ((c.tc : Thread Cert.AttnBackRefIdeal.nD Cert.AttnBackRefIdeal.τ).loc Cert.AttnBackRefIdeal.main_arg3)) (m ((c.tc : Thread Cert.AttnBackRefIdeal.nD Cert.AttnBackRefIdeal.τ).loc Cert.AttnBackRefIdeal.main_arg4))).2.2 = (fun _ => 1#1)

def quiescent_AttnGrad [hAttnGrad : Cert.AttnGrad.Facts] : Prop :=
  ∀ (m : (ℓ : Loc Cert.AttnGrad.nD Cert.AttnGrad.τ Cert.AttnGrad.sig) → Buf (Elt Bits) ℓ) (g : Dev Cert.AttnGrad.nD → PrngReg), Pre_AttnGrad m →
    θ_run (Cert.AttnGrad.defs (F := Bits)) (onTc (τ := Cert.AttnGrad.τ) (Cert.AttnGrad.main (F := Bits))) ⟨m, fun _ => 0, g⟩ (fun r => (∀ c : Dev Cert.AttnGrad.nD,
      r.2.mem ((c.tc : Thread Cert.AttnGrad.nD Cert.AttnGrad.τ).loc Cert.AttnGrad.main_arg0) = m ((c.tc : Thread Cert.AttnGrad.nD Cert.AttnGrad.τ).loc Cert.AttnGrad.main_arg0)
      ∧ r.2.mem ((c.tc : Thread Cert.AttnGrad.nD Cert.AttnGrad.τ).loc Cert.AttnGrad.main_arg1) = m ((c.tc : Thread Cert.AttnGrad.nD Cert.AttnGrad.τ).loc Cert.AttnGrad.main_arg1)
      ∧ r.2.mem ((c.tc : Thread Cert.AttnGrad.nD Cert.AttnGrad.τ).loc Cert.AttnGrad.main_arg2) = m ((c.tc : Thread Cert.AttnGrad.nD Cert.AttnGrad.τ).loc Cert.AttnGrad.main_arg2)
      ∧ r.2.mem ((c.tc : Thread Cert.AttnGrad.nD Cert.AttnGrad.τ).loc Cert.AttnGrad.main_arg3) = m ((c.tc : Thread Cert.AttnGrad.nD Cert.AttnGrad.τ).loc Cert.AttnGrad.main_arg3)
      ∧ r.2.mem ((c.tc : Thread Cert.AttnGrad.nD Cert.AttnGrad.τ).loc Cert.AttnGrad.main_arg4) = m ((c.tc : Thread Cert.AttnGrad.nD Cert.AttnGrad.τ).loc Cert.AttnGrad.main_arg4))
      ∧ r.2.sem = fun _ => 0)

def quiescent_AttnGradIdeal [hAttnGradIdeal : Cert.AttnGradIdeal.Facts] : Prop :=
  ∀ (m : (ℓ : Loc Cert.AttnGradIdeal.nD Cert.AttnGradIdeal.τ Cert.AttnGradIdeal.sig) → Buf (Elt Ideal) ℓ) (g : Dev Cert.AttnGradIdeal.nD → PrngReg), Pre_AttnGradIdeal m →
    θ_run (Cert.AttnGradIdeal.defs (F := Ideal)) (onTc (τ := Cert.AttnGradIdeal.τ) (Cert.AttnGradIdeal.main (F := Ideal))) ⟨m, fun _ => 0, g⟩ (fun r => (∀ c : Dev Cert.AttnGradIdeal.nD,
      r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
      ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1)
      ∧ r.2.mem ((c.tc : Thread Cert.AttnGradIdeal.nD Cert.AttnGradIdeal.τ).loc Cert.AttnGradIdeal.main_arg2) = m ((c.tc : Thread Cert.AttnGradIdeal.nD Cert.AttnGradIdeal.τ).loc Cert.AttnGradIdeal.main_arg2)
      ∧ r.2.mem ((c.tc : Thread Cert.AttnGradIdeal.nD Cert.AttnGradIdeal.τ).loc Cert.AttnGradIdeal.main_arg3) = m ((c.tc : Thread Cert.AttnGradIdeal.nD Cert.AttnGradIdeal.τ).loc Cert.AttnGradIdeal.main_arg3)
      ∧ r.2.mem ((c.tc : Thread Cert.AttnGradIdeal.nD Cert.AttnGradIdeal.τ).loc Cert.AttnGradIdeal.main_arg4) = m ((c.tc : Thread Cert.AttnGradIdeal.nD Cert.AttnGradIdeal.τ).loc Cert.AttnGradIdeal.main_arg4))
      ∧ r.2.sem = fun _ => 0)

def quiescent_AttnGradIdeal_pre_finite_operands [hAttnGradIdeal : Cert.AttnGradIdeal.Facts] [hPre_finite_operands : Cert.Pre_finite_operands.Facts] : Prop :=
  ∀ (m : (ℓ : Loc Cert.AttnGradIdeal.nD Cert.AttnGradIdeal.τ Cert.AttnGradIdeal.sig) → Buf (Elt Ideal) ℓ) (g : Dev Cert.AttnGradIdeal.nD → PrngReg), Pre_AttnGradIdeal_finite_operands m →
    θ_run (Cert.AttnGradIdeal.defs (F := Ideal)) (onTc (τ := Cert.AttnGradIdeal.τ) (Cert.AttnGradIdeal.main (F := Ideal))) ⟨m, fun _ => 0, g⟩ (fun r => (∀ c : Dev Cert.AttnGradIdeal.nD,
      r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
      ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1)
      ∧ r.2.mem ((c.tc : Thread Cert.AttnGradIdeal.nD Cert.AttnGradIdeal.τ).loc Cert.AttnGradIdeal.main_arg2) = m ((c.tc : Thread Cert.AttnGradIdeal.nD Cert.AttnGradIdeal.τ).loc Cert.AttnGradIdeal.main_arg2)
      ∧ r.2.mem ((c.tc : Thread Cert.AttnGradIdeal.nD Cert.AttnGradIdeal.τ).loc Cert.AttnGradIdeal.main_arg3) = m ((c.tc : Thread Cert.AttnGradIdeal.nD Cert.AttnGradIdeal.τ).loc Cert.AttnGradIdeal.main_arg3)
      ∧ r.2.mem ((c.tc : Thread Cert.AttnGradIdeal.nD Cert.AttnGradIdeal.τ).loc Cert.AttnGradIdeal.main_arg4) = m ((c.tc : Thread Cert.AttnGradIdeal.nD Cert.AttnGradIdeal.τ).loc Cert.AttnGradIdeal.main_arg4))
      ∧ r.2.sem = fun _ => 0)

def quiescent_AttnGradRefIdeal [hAttnGradRefIdeal : Cert.AttnGradRefIdeal.Facts] : Prop :=
  ∀ (m : (ℓ : Loc Cert.AttnGradRefIdeal.nD Cert.AttnGradRefIdeal.τ Cert.AttnGradRefIdeal.sig) → Buf (Elt Ideal) ℓ) (g : Dev Cert.AttnGradRefIdeal.nD → PrngReg), Pre_AttnGradRefIdeal m →
    θ_run (Cert.AttnGradRefIdeal.defs (F := Ideal)) (onTc (τ := Cert.AttnGradRefIdeal.τ) (Cert.AttnGradRefIdeal.main (F := Ideal))) ⟨m, fun _ => 0, g⟩ (fun r => (∀ c : Dev Cert.AttnGradRefIdeal.nD,
      r.2.mem ((c.tc : Thread Cert.AttnGradRefIdeal.nD Cert.AttnGradRefIdeal.τ).loc Cert.AttnGradRefIdeal.main_arg0) = m ((c.tc : Thread Cert.AttnGradRefIdeal.nD Cert.AttnGradRefIdeal.τ).loc Cert.AttnGradRefIdeal.main_arg0)
      ∧ r.2.mem ((c.tc : Thread Cert.AttnGradRefIdeal.nD Cert.AttnGradRefIdeal.τ).loc Cert.AttnGradRefIdeal.main_arg1) = m ((c.tc : Thread Cert.AttnGradRefIdeal.nD Cert.AttnGradRefIdeal.τ).loc Cert.AttnGradRefIdeal.main_arg1)
      ∧ r.2.mem ((c.tc : Thread Cert.AttnGradRefIdeal.nD Cert.AttnGradRefIdeal.τ).loc Cert.AttnGradRefIdeal.main_arg2) = m ((c.tc : Thread Cert.AttnGradRefIdeal.nD Cert.AttnGradRefIdeal.τ).loc Cert.AttnGradRefIdeal.main_arg2)
      ∧ r.2.mem ((c.tc : Thread Cert.AttnGradRefIdeal.nD Cert.AttnGradRefIdeal.τ).loc Cert.AttnGradRefIdeal.main_arg3) = m ((c.tc : Thread Cert.AttnGradRefIdeal.nD Cert.AttnGradRefIdeal.τ).loc Cert.AttnGradRefIdeal.main_arg3)
      ∧ r.2.mem ((c.tc : Thread Cert.AttnGradRefIdeal.nD Cert.AttnGradRefIdeal.τ).loc Cert.AttnGradRefIdeal.main_arg4) = m ((c.tc : Thread Cert.AttnGradRefIdeal.nD Cert.AttnGradRefIdeal.τ).loc Cert.AttnGradRefIdeal.main_arg4))
      ∧ r.2.sem = fun _ => 0)

def quiescent_AttnGradRefIdeal_pre_finite_operands [hAttnGradRefIdeal : Cert.AttnGradRefIdeal.Facts] [hPre_finite_operands : Cert.Pre_finite_operands.Facts] : Prop :=
  ∀ (m : (ℓ : Loc Cert.AttnGradRefIdeal.nD Cert.AttnGradRefIdeal.τ Cert.AttnGradRefIdeal.sig) → Buf (Elt Ideal) ℓ) (g : Dev Cert.AttnGradRefIdeal.nD → PrngReg), Pre_AttnGradRefIdeal_finite_operands m →
    θ_run (Cert.AttnGradRefIdeal.defs (F := Ideal)) (onTc (τ := Cert.AttnGradRefIdeal.τ) (Cert.AttnGradRefIdeal.main (F := Ideal))) ⟨m, fun _ => 0, g⟩ (fun r => (∀ c : Dev Cert.AttnGradRefIdeal.nD,
      r.2.mem ((c.tc : Thread Cert.AttnGradRefIdeal.nD Cert.AttnGradRefIdeal.τ).loc Cert.AttnGradRefIdeal.main_arg0) = m ((c.tc : Thread Cert.AttnGradRefIdeal.nD Cert.AttnGradRefIdeal.τ).loc Cert.AttnGradRefIdeal.main_arg0)
      ∧ r.2.mem ((c.tc : Thread Cert.AttnGradRefIdeal.nD Cert.AttnGradRefIdeal.τ).loc Cert.AttnGradRefIdeal.main_arg1) = m ((c.tc : Thread Cert.AttnGradRefIdeal.nD Cert.AttnGradRefIdeal.τ).loc Cert.AttnGradRefIdeal.main_arg1)
      ∧ r.2.mem ((c.tc : Thread Cert.AttnGradRefIdeal.nD Cert.AttnGradRefIdeal.τ).loc Cert.AttnGradRefIdeal.main_arg2) = m ((c.tc : Thread Cert.AttnGradRefIdeal.nD Cert.AttnGradRefIdeal.τ).loc Cert.AttnGradRefIdeal.main_arg2)
      ∧ r.2.mem ((c.tc : Thread Cert.AttnGradRefIdeal.nD Cert.AttnGradRefIdeal.τ).loc Cert.AttnGradRefIdeal.main_arg3) = m ((c.tc : Thread Cert.AttnGradRefIdeal.nD Cert.AttnGradRefIdeal.τ).loc Cert.AttnGradRefIdeal.main_arg3)
      ∧ r.2.mem ((c.tc : Thread Cert.AttnGradRefIdeal.nD Cert.AttnGradRefIdeal.τ).loc Cert.AttnGradRefIdeal.main_arg4) = m ((c.tc : Thread Cert.AttnGradRefIdeal.nD Cert.AttnGradRefIdeal.τ).loc Cert.AttnGradRefIdeal.main_arg4))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_FfnInDx [hFfnInDx : Cert.FfnInDx.Facts] : Prop :=
  ∀ (m : (ℓ : Loc Cert.FfnInDx.nD Cert.FfnInDx.τ Cert.FfnInDx.sig) → Buf (Elt Bits) ℓ) (g : Dev Cert.FfnInDx.nD → PrngReg), Pre_FfnInDx m →
    θ_run (Cert.FfnInDx.defs (F := Bits)) (onTc (τ := Cert.FfnInDx.τ) (Cert.FfnInDx.main (F := Bits))) ⟨m, fun _ => 0, g⟩ (fun r => (∀ c : Dev Cert.FfnInDx.nD,
      r.2.mem ((c.tc : Thread Cert.FfnInDx.nD Cert.FfnInDx.τ).loc Cert.FfnInDx.main_arg0) = m ((c.tc : Thread Cert.FfnInDx.nD Cert.FfnInDx.τ).loc Cert.FfnInDx.main_arg0)
      ∧ r.2.mem ((c.tc : Thread Cert.FfnInDx.nD Cert.FfnInDx.τ).loc Cert.FfnInDx.main_arg1) = m ((c.tc : Thread Cert.FfnInDx.nD Cert.FfnInDx.τ).loc Cert.FfnInDx.main_arg1)
      ∧ r.2.mem ((c.tc : Thread Cert.FfnInDx.nD Cert.FfnInDx.τ).loc Cert.FfnInDx.main_arg2) = m ((c.tc : Thread Cert.FfnInDx.nD Cert.FfnInDx.τ).loc Cert.FfnInDx.main_arg2))
      ∧ r.2.sem = fun _ => 0)

def quiescent_FfnInDxIdeal [hFfnInDxIdeal : Cert.FfnInDxIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg), Pre_FfnInDxIdeal m →
    θ_run (Cert.FfnInDxIdeal.defs (F := Ideal)) (onTc (τ := Cert.FfnInDxIdeal.τ) (Cert.FfnInDxIdeal.main (F := Ideal))) ⟨m, fun _ => 0, g⟩ (fun r => (∀ c : Dev Cert.FfnInDxIdeal.nD,
      r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
      ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1)
      ∧ r.2.mem ((c.tc : Thread Cert.FfnInDxIdeal.nD Cert.FfnInDxIdeal.τ).loc Cert.FfnInDxIdeal.main_arg2) = m ((c.tc : Thread Cert.FfnInDxIdeal.nD Cert.FfnInDxIdeal.τ).loc Cert.FfnInDxIdeal.main_arg2))
      ∧ r.2.sem = fun _ => 0)

def quiescent_FfnInDxRefIdeal [hFfnInDxRefIdeal : Cert.FfnInDxRefIdeal.Facts] : Prop :=
  ∀ (m : (ℓ : Loc Cert.FfnInDxRefIdeal.nD Cert.FfnInDxRefIdeal.τ Cert.FfnInDxRefIdeal.sig) → Buf (Elt Ideal) ℓ) (g : Dev Cert.FfnInDxRefIdeal.nD → PrngReg), Pre_FfnInDxRefIdeal m →
    θ_run (Cert.FfnInDxRefIdeal.defs (F := Ideal)) (onTc (τ := Cert.FfnInDxRefIdeal.τ) (Cert.FfnInDxRefIdeal.main (F := Ideal))) ⟨m, fun _ => 0, g⟩ (fun r => (∀ c : Dev Cert.FfnInDxRefIdeal.nD,
      r.2.mem ((c.tc : Thread Cert.FfnInDxRefIdeal.nD Cert.FfnInDxRefIdeal.τ).loc Cert.FfnInDxRefIdeal.main_arg0) = m ((c.tc : Thread Cert.FfnInDxRefIdeal.nD Cert.FfnInDxRefIdeal.τ).loc Cert.FfnInDxRefIdeal.main_arg0)
      ∧ r.2.mem ((c.tc : Thread Cert.FfnInDxRefIdeal.nD Cert.FfnInDxRefIdeal.τ).loc Cert.FfnInDxRefIdeal.main_arg1) = m ((c.tc : Thread Cert.FfnInDxRefIdeal.nD Cert.FfnInDxRefIdeal.τ).loc Cert.FfnInDxRefIdeal.main_arg1)
      ∧ r.2.mem ((c.tc : Thread Cert.FfnInDxRefIdeal.nD Cert.FfnInDxRefIdeal.τ).loc Cert.FfnInDxRefIdeal.main_arg2) = m ((c.tc : Thread Cert.FfnInDxRefIdeal.nD Cert.FfnInDxRefIdeal.τ).loc Cert.FfnInDxRefIdeal.main_arg2))
      ∧ r.2.sem = fun _ => 0)

def quiescent_FfnInDw [hFfnInDw : Cert.FfnInDw.Facts] : Prop :=
  ∀ (m : (ℓ : Loc Cert.FfnInDw.nD Cert.FfnInDw.τ Cert.FfnInDw.sig) → Buf (Elt Bits) ℓ) (g : Dev Cert.FfnInDw.nD → PrngReg), Pre_FfnInDw m →
    θ_run (Cert.FfnInDw.defs (F := Bits)) (onTc (τ := Cert.FfnInDw.τ) (Cert.FfnInDw.main (F := Bits))) ⟨m, fun _ => 0, g⟩ (fun r => (∀ c : Dev Cert.FfnInDw.nD,
      r.2.mem ((c.tc : Thread Cert.FfnInDw.nD Cert.FfnInDw.τ).loc Cert.FfnInDw.main_arg0) = m ((c.tc : Thread Cert.FfnInDw.nD Cert.FfnInDw.τ).loc Cert.FfnInDw.main_arg0)
      ∧ r.2.mem ((c.tc : Thread Cert.FfnInDw.nD Cert.FfnInDw.τ).loc Cert.FfnInDw.main_arg1) = m ((c.tc : Thread Cert.FfnInDw.nD Cert.FfnInDw.τ).loc Cert.FfnInDw.main_arg1)
      ∧ r.2.mem ((c.tc : Thread Cert.FfnInDw.nD Cert.FfnInDw.τ).loc Cert.FfnInDw.main_arg2) = m ((c.tc : Thread Cert.FfnInDw.nD Cert.FfnInDw.τ).loc Cert.FfnInDw.main_arg2))
      ∧ r.2.sem = fun _ => 0)

def quiescent_FfnInDwIdeal [hFfnInDwIdeal : Cert.FfnInDwIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg), Pre_FfnInDwIdeal m →
    θ_run (Cert.FfnInDwIdeal.defs (F := Ideal)) (onTc (τ := Cert.FfnInDwIdeal.τ) (Cert.FfnInDwIdeal.main (F := Ideal))) ⟨m, fun _ => 0, g⟩ (fun r => (∀ c : Dev Cert.FfnInDwIdeal.nD,
      r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
      ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1)
      ∧ r.2.mem ((c.tc : Thread Cert.FfnInDwIdeal.nD Cert.FfnInDwIdeal.τ).loc Cert.FfnInDwIdeal.main_arg2) = m ((c.tc : Thread Cert.FfnInDwIdeal.nD Cert.FfnInDwIdeal.τ).loc Cert.FfnInDwIdeal.main_arg2))
      ∧ r.2.sem = fun _ => 0)

def quiescent_FfnInDwRefIdeal [hFfnInDwRefIdeal : Cert.FfnInDwRefIdeal.Facts] : Prop :=
  ∀ (m : (ℓ : Loc Cert.FfnInDwRefIdeal.nD Cert.FfnInDwRefIdeal.τ Cert.FfnInDwRefIdeal.sig) → Buf (Elt Ideal) ℓ) (g : Dev Cert.FfnInDwRefIdeal.nD → PrngReg), Pre_FfnInDwRefIdeal m →
    θ_run (Cert.FfnInDwRefIdeal.defs (F := Ideal)) (onTc (τ := Cert.FfnInDwRefIdeal.τ) (Cert.FfnInDwRefIdeal.main (F := Ideal))) ⟨m, fun _ => 0, g⟩ (fun r => (∀ c : Dev Cert.FfnInDwRefIdeal.nD,
      r.2.mem ((c.tc : Thread Cert.FfnInDwRefIdeal.nD Cert.FfnInDwRefIdeal.τ).loc Cert.FfnInDwRefIdeal.main_arg0) = m ((c.tc : Thread Cert.FfnInDwRefIdeal.nD Cert.FfnInDwRefIdeal.τ).loc Cert.FfnInDwRefIdeal.main_arg0)
      ∧ r.2.mem ((c.tc : Thread Cert.FfnInDwRefIdeal.nD Cert.FfnInDwRefIdeal.τ).loc Cert.FfnInDwRefIdeal.main_arg1) = m ((c.tc : Thread Cert.FfnInDwRefIdeal.nD Cert.FfnInDwRefIdeal.τ).loc Cert.FfnInDwRefIdeal.main_arg1)
      ∧ r.2.mem ((c.tc : Thread Cert.FfnInDwRefIdeal.nD Cert.FfnInDwRefIdeal.τ).loc Cert.FfnInDwRefIdeal.main_arg2) = m ((c.tc : Thread Cert.FfnInDwRefIdeal.nD Cert.FfnInDwRefIdeal.τ).loc Cert.FfnInDwRefIdeal.main_arg2))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3)
      ∧ r.2.mem ((c.tc : Thread Cert.FfnOut.nD Cert.FfnOut.τ).loc Cert.FfnOut.main_arg4) = m ((c.tc : Thread Cert.FfnOut.nD Cert.FfnOut.τ).loc Cert.FfnOut.main_arg4))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
      ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3)
      ∧ r.2.mem ((c.tc : Thread Cert.FfnOutRefIdeal.nD Cert.FfnOutRefIdeal.τ).loc Cert.FfnOutRefIdeal.main_arg4) = m ((c.tc : Thread Cert.FfnOutRefIdeal.nD Cert.FfnOutRefIdeal.τ).loc Cert.FfnOutRefIdeal.main_arg4))
      ∧ r.2.sem = fun _ => 0)

def quiescent_FfnOutDx [hFfnOutDx : Cert.FfnOutDx.Facts] : Prop :=
  ∀ (m : (ℓ : Loc Cert.FfnOutDx.nD Cert.FfnOutDx.τ Cert.FfnOutDx.sig) → Buf (Elt Bits) ℓ) (g : Dev Cert.FfnOutDx.nD → PrngReg), Pre_FfnOutDx m →
    θ_run (Cert.FfnOutDx.defs (F := Bits)) (onTc (τ := Cert.FfnOutDx.τ) (Cert.FfnOutDx.main (F := Bits))) ⟨m, fun _ => 0, g⟩ (fun r => (∀ c : Dev Cert.FfnOutDx.nD,
      r.2.mem ((c.tc : Thread Cert.FfnOutDx.nD Cert.FfnOutDx.τ).loc Cert.FfnOutDx.main_arg0) = m ((c.tc : Thread Cert.FfnOutDx.nD Cert.FfnOutDx.τ).loc Cert.FfnOutDx.main_arg0)
      ∧ r.2.mem ((c.tc : Thread Cert.FfnOutDx.nD Cert.FfnOutDx.τ).loc Cert.FfnOutDx.main_arg1) = m ((c.tc : Thread Cert.FfnOutDx.nD Cert.FfnOutDx.τ).loc Cert.FfnOutDx.main_arg1))
      ∧ r.2.sem = fun _ => 0)

def quiescent_FfnOutDxIdeal [hFfnOutDxIdeal : Cert.FfnOutDxIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg), Pre_FfnOutDxIdeal m →
    θ_run (Cert.FfnOutDxIdeal.defs (F := Ideal)) (onTc (τ := Cert.FfnOutDxIdeal.τ) (Cert.FfnOutDxIdeal.main (F := Ideal))) ⟨m, fun _ => 0, g⟩ (fun r => (∀ c : Dev Cert.FfnOutDxIdeal.nD,
      r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
      ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1))
      ∧ r.2.sem = fun _ => 0)

def quiescent_FfnOutDxRefIdeal [hFfnOutDxRefIdeal : Cert.FfnOutDxRefIdeal.Facts] : Prop :=
  ∀ (m : (ℓ : Loc Cert.FfnOutDxRefIdeal.nD Cert.FfnOutDxRefIdeal.τ Cert.FfnOutDxRefIdeal.sig) → Buf (Elt Ideal) ℓ) (g : Dev Cert.FfnOutDxRefIdeal.nD → PrngReg), Pre_FfnOutDxRefIdeal m →
    θ_run (Cert.FfnOutDxRefIdeal.defs (F := Ideal)) (onTc (τ := Cert.FfnOutDxRefIdeal.τ) (Cert.FfnOutDxRefIdeal.main (F := Ideal))) ⟨m, fun _ => 0, g⟩ (fun r => (∀ c : Dev Cert.FfnOutDxRefIdeal.nD,
      r.2.mem ((c.tc : Thread Cert.FfnOutDxRefIdeal.nD Cert.FfnOutDxRefIdeal.τ).loc Cert.FfnOutDxRefIdeal.main_arg0) = m ((c.tc : Thread Cert.FfnOutDxRefIdeal.nD Cert.FfnOutDxRefIdeal.τ).loc Cert.FfnOutDxRefIdeal.main_arg0)
      ∧ r.2.mem ((c.tc : Thread Cert.FfnOutDxRefIdeal.nD Cert.FfnOutDxRefIdeal.τ).loc Cert.FfnOutDxRefIdeal.main_arg1) = m ((c.tc : Thread Cert.FfnOutDxRefIdeal.nD Cert.FfnOutDxRefIdeal.τ).loc Cert.FfnOutDxRefIdeal.main_arg1))
      ∧ r.2.sem = fun _ => 0)

def quiescent_FfnOutDw [hFfnOutDw : Cert.FfnOutDw.Facts] : Prop :=
  ∀ (m : (ℓ : Loc Cert.FfnOutDw.nD Cert.FfnOutDw.τ Cert.FfnOutDw.sig) → Buf (Elt Bits) ℓ) (g : Dev Cert.FfnOutDw.nD → PrngReg), Pre_FfnOutDw m →
    θ_run (Cert.FfnOutDw.defs (F := Bits)) (onTc (τ := Cert.FfnOutDw.τ) (Cert.FfnOutDw.main (F := Bits))) ⟨m, fun _ => 0, g⟩ (fun r => (∀ c : Dev Cert.FfnOutDw.nD,
      r.2.mem ((c.tc : Thread Cert.FfnOutDw.nD Cert.FfnOutDw.τ).loc Cert.FfnOutDw.main_arg0) = m ((c.tc : Thread Cert.FfnOutDw.nD Cert.FfnOutDw.τ).loc Cert.FfnOutDw.main_arg0)
      ∧ r.2.mem ((c.tc : Thread Cert.FfnOutDw.nD Cert.FfnOutDw.τ).loc Cert.FfnOutDw.main_arg1) = m ((c.tc : Thread Cert.FfnOutDw.nD Cert.FfnOutDw.τ).loc Cert.FfnOutDw.main_arg1))
      ∧ r.2.sem = fun _ => 0)

def quiescent_FfnOutDwIdeal [hFfnOutDwIdeal : Cert.FfnOutDwIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg), Pre_FfnOutDwIdeal m →
    θ_run (Cert.FfnOutDwIdeal.defs (F := Ideal)) (onTc (τ := Cert.FfnOutDwIdeal.τ) (Cert.FfnOutDwIdeal.main (F := Ideal))) ⟨m, fun _ => 0, g⟩ (fun r => (∀ c : Dev Cert.FfnOutDwIdeal.nD,
      r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
      ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ r.2.sem = fun _ => 0)

def quiescent_FfnOutDwRefIdeal [hFfnOutDwRefIdeal : Cert.FfnOutDwRefIdeal.Facts] : Prop :=
  ∀ (m : (ℓ : Loc Cert.FfnOutDwRefIdeal.nD Cert.FfnOutDwRefIdeal.τ Cert.FfnOutDwRefIdeal.sig) → Buf (Elt Ideal) ℓ) (g : Dev Cert.FfnOutDwRefIdeal.nD → PrngReg), Pre_FfnOutDwRefIdeal m →
    θ_run (Cert.FfnOutDwRefIdeal.defs (F := Ideal)) (onTc (τ := Cert.FfnOutDwRefIdeal.τ) (Cert.FfnOutDwRefIdeal.main (F := Ideal))) ⟨m, fun _ => 0, g⟩ (fun r => (∀ c : Dev Cert.FfnOutDwRefIdeal.nD,
      r.2.mem ((c.tc : Thread Cert.FfnOutDwRefIdeal.nD Cert.FfnOutDwRefIdeal.τ).loc Cert.FfnOutDwRefIdeal.main_arg0) = m ((c.tc : Thread Cert.FfnOutDwRefIdeal.nD Cert.FfnOutDwRefIdeal.τ).loc Cert.FfnOutDwRefIdeal.main_arg0)
      ∧ r.2.mem ((c.tc : Thread Cert.FfnOutDwRefIdeal.nD Cert.FfnOutDwRefIdeal.τ).loc Cert.FfnOutDwRefIdeal.main_arg1) = m ((c.tc : Thread Cert.FfnOutDwRefIdeal.nD Cert.FfnOutDwRefIdeal.τ).loc Cert.FfnOutDwRefIdeal.main_arg1))
      ∧ r.2.sem = fun _ => 0)

def quiescent_LruIn [hLruIn : Cert.LruIn.Facts] : Prop :=
  ∀ (m : (ℓ : Loc Cert.LruIn.nD Cert.LruIn.τ Cert.LruIn.sig) → Buf (Elt Bits) ℓ) (g : Dev Cert.LruIn.nD → PrngReg), Pre_LruIn m →
    θ_run (Cert.LruIn.defs (F := Bits)) (onTc (τ := Cert.LruIn.τ) (Cert.LruIn.main (F := Bits))) ⟨m, fun _ => 0, g⟩ (fun r => (∀ c : Dev Cert.LruIn.nD,
      r.2.mem ((c.tc : Thread Cert.LruIn.nD Cert.LruIn.τ).loc Cert.LruIn.main_arg0) = m ((c.tc : Thread Cert.LruIn.nD Cert.LruIn.τ).loc Cert.LruIn.main_arg0)
      ∧ r.2.mem ((c.tc : Thread Cert.LruIn.nD Cert.LruIn.τ).loc Cert.LruIn.main_arg1) = m ((c.tc : Thread Cert.LruIn.nD Cert.LruIn.τ).loc Cert.LruIn.main_arg1))
      ∧ r.2.sem = fun _ => 0)

def quiescent_LruInIdeal [hLruInIdeal : Cert.LruInIdeal.Facts] : Prop :=
  ∀ (m : (ℓ : Loc Cert.LruInIdeal.nD Cert.LruInIdeal.τ Cert.LruInIdeal.sig) → Buf (Elt Ideal) ℓ) (g : Dev Cert.LruInIdeal.nD → PrngReg), Pre_LruInIdeal m →
    θ_run (Cert.LruInIdeal.defs (F := Ideal)) (onTc (τ := Cert.LruInIdeal.τ) (Cert.LruInIdeal.main (F := Ideal))) ⟨m, fun _ => 0, g⟩ (fun r => (∀ c : Dev Cert.LruInIdeal.nD,
      r.2.mem ((c.tc : Thread Cert.LruInIdeal.nD Cert.LruInIdeal.τ).loc Cert.LruInIdeal.main_arg0) = m ((c.tc : Thread Cert.LruInIdeal.nD Cert.LruInIdeal.τ).loc Cert.LruInIdeal.main_arg0)
      ∧ r.2.mem ((c.tc : Thread Cert.LruInIdeal.nD Cert.LruInIdeal.τ).loc Cert.LruInIdeal.main_arg1) = m ((c.tc : Thread Cert.LruInIdeal.nD Cert.LruInIdeal.τ).loc Cert.LruInIdeal.main_arg1))
      ∧ r.2.sem = fun _ => 0)

def quiescent_LruInRefIdeal [hLruInRefIdeal : Cert.LruInRefIdeal.Facts] : Prop :=
  ∀ (m : (ℓ : Loc Cert.LruInRefIdeal.nD Cert.LruInRefIdeal.τ Cert.LruInRefIdeal.sig) → Buf (Elt Ideal) ℓ) (g : Dev Cert.LruInRefIdeal.nD → PrngReg), Pre_LruInRefIdeal m →
    θ_run (Cert.LruInRefIdeal.defs (F := Ideal)) (onTc (τ := Cert.LruInRefIdeal.τ) (Cert.LruInRefIdeal.main (F := Ideal))) ⟨m, fun _ => 0, g⟩ (fun r => (∀ c : Dev Cert.LruInRefIdeal.nD,
      r.2.mem ((c.tc : Thread Cert.LruInRefIdeal.nD Cert.LruInRefIdeal.τ).loc Cert.LruInRefIdeal.main_arg0) = m ((c.tc : Thread Cert.LruInRefIdeal.nD Cert.LruInRefIdeal.τ).loc Cert.LruInRefIdeal.main_arg0)
      ∧ r.2.mem ((c.tc : Thread Cert.LruInRefIdeal.nD Cert.LruInRefIdeal.τ).loc Cert.LruInRefIdeal.main_arg1) = m ((c.tc : Thread Cert.LruInRefIdeal.nD Cert.LruInRefIdeal.τ).loc Cert.LruInRefIdeal.main_arg1))
      ∧ r.2.sem = fun _ => 0)

def quiescent_LruInDx [hLruInDx : Cert.LruInDx.Facts] : Prop :=
  ∀ (m : (ℓ : Loc Cert.LruInDx.nD Cert.LruInDx.τ Cert.LruInDx.sig) → Buf (Elt Bits) ℓ) (g : Dev Cert.LruInDx.nD → PrngReg), Pre_LruInDx m →
    θ_run (Cert.LruInDx.defs (F := Bits)) (onTc (τ := Cert.LruInDx.τ) (Cert.LruInDx.main (F := Bits))) ⟨m, fun _ => 0, g⟩ (fun r => (∀ c : Dev Cert.LruInDx.nD,
      r.2.mem ((c.tc : Thread Cert.LruInDx.nD Cert.LruInDx.τ).loc Cert.LruInDx.main_arg0) = m ((c.tc : Thread Cert.LruInDx.nD Cert.LruInDx.τ).loc Cert.LruInDx.main_arg0)
      ∧ r.2.mem ((c.tc : Thread Cert.LruInDx.nD Cert.LruInDx.τ).loc Cert.LruInDx.main_arg1) = m ((c.tc : Thread Cert.LruInDx.nD Cert.LruInDx.τ).loc Cert.LruInDx.main_arg1))
      ∧ r.2.sem = fun _ => 0)

def quiescent_LruInDxIdeal [hLruInDxIdeal : Cert.LruInDxIdeal.Facts] : Prop :=
  ∀ (m : (ℓ : Loc Cert.LruInDxIdeal.nD Cert.LruInDxIdeal.τ Cert.LruInDxIdeal.sig) → Buf (Elt Ideal) ℓ) (g : Dev Cert.LruInDxIdeal.nD → PrngReg), Pre_LruInDxIdeal m →
    θ_run (Cert.LruInDxIdeal.defs (F := Ideal)) (onTc (τ := Cert.LruInDxIdeal.τ) (Cert.LruInDxIdeal.main (F := Ideal))) ⟨m, fun _ => 0, g⟩ (fun r => (∀ c : Dev Cert.LruInDxIdeal.nD,
      r.2.mem ((c.tc : Thread Cert.LruInDxIdeal.nD Cert.LruInDxIdeal.τ).loc Cert.LruInDxIdeal.main_arg0) = m ((c.tc : Thread Cert.LruInDxIdeal.nD Cert.LruInDxIdeal.τ).loc Cert.LruInDxIdeal.main_arg0)
      ∧ r.2.mem ((c.tc : Thread Cert.LruInDxIdeal.nD Cert.LruInDxIdeal.τ).loc Cert.LruInDxIdeal.main_arg1) = m ((c.tc : Thread Cert.LruInDxIdeal.nD Cert.LruInDxIdeal.τ).loc Cert.LruInDxIdeal.main_arg1))
      ∧ r.2.sem = fun _ => 0)

def quiescent_LruInDxRefIdeal [hLruInDxRefIdeal : Cert.LruInDxRefIdeal.Facts] : Prop :=
  ∀ (m : (ℓ : Loc Cert.LruInDxRefIdeal.nD Cert.LruInDxRefIdeal.τ Cert.LruInDxRefIdeal.sig) → Buf (Elt Ideal) ℓ) (g : Dev Cert.LruInDxRefIdeal.nD → PrngReg), Pre_LruInDxRefIdeal m →
    θ_run (Cert.LruInDxRefIdeal.defs (F := Ideal)) (onTc (τ := Cert.LruInDxRefIdeal.τ) (Cert.LruInDxRefIdeal.main (F := Ideal))) ⟨m, fun _ => 0, g⟩ (fun r => (∀ c : Dev Cert.LruInDxRefIdeal.nD,
      r.2.mem ((c.tc : Thread Cert.LruInDxRefIdeal.nD Cert.LruInDxRefIdeal.τ).loc Cert.LruInDxRefIdeal.main_arg0) = m ((c.tc : Thread Cert.LruInDxRefIdeal.nD Cert.LruInDxRefIdeal.τ).loc Cert.LruInDxRefIdeal.main_arg0)
      ∧ r.2.mem ((c.tc : Thread Cert.LruInDxRefIdeal.nD Cert.LruInDxRefIdeal.τ).loc Cert.LruInDxRefIdeal.main_arg1) = m ((c.tc : Thread Cert.LruInDxRefIdeal.nD Cert.LruInDxRefIdeal.τ).loc Cert.LruInDxRefIdeal.main_arg1))
      ∧ r.2.sem = fun _ => 0)

def quiescent_LruInDw [hLruInDw : Cert.LruInDw.Facts] : Prop :=
  ∀ (m : (ℓ : Loc Cert.LruInDw.nD Cert.LruInDw.τ Cert.LruInDw.sig) → Buf (Elt Bits) ℓ) (g : Dev Cert.LruInDw.nD → PrngReg), Pre_LruInDw m →
    θ_run (Cert.LruInDw.defs (F := Bits)) (onTc (τ := Cert.LruInDw.τ) (Cert.LruInDw.main (F := Bits))) ⟨m, fun _ => 0, g⟩ (fun r => (∀ c : Dev Cert.LruInDw.nD,
      r.2.mem ((c.tc : Thread Cert.LruInDw.nD Cert.LruInDw.τ).loc Cert.LruInDw.main_arg0) = m ((c.tc : Thread Cert.LruInDw.nD Cert.LruInDw.τ).loc Cert.LruInDw.main_arg0)
      ∧ r.2.mem ((c.tc : Thread Cert.LruInDw.nD Cert.LruInDw.τ).loc Cert.LruInDw.main_arg1) = m ((c.tc : Thread Cert.LruInDw.nD Cert.LruInDw.τ).loc Cert.LruInDw.main_arg1))
      ∧ r.2.sem = fun _ => 0)

def quiescent_LruInDwIdeal [hLruInDwIdeal : Cert.LruInDwIdeal.Facts] : Prop :=
  ∀ (m : (ℓ : Loc Cert.LruInDwIdeal.nD Cert.LruInDwIdeal.τ Cert.LruInDwIdeal.sig) → Buf (Elt Ideal) ℓ) (g : Dev Cert.LruInDwIdeal.nD → PrngReg), Pre_LruInDwIdeal m →
    θ_run (Cert.LruInDwIdeal.defs (F := Ideal)) (onTc (τ := Cert.LruInDwIdeal.τ) (Cert.LruInDwIdeal.main (F := Ideal))) ⟨m, fun _ => 0, g⟩ (fun r => (∀ c : Dev Cert.LruInDwIdeal.nD,
      r.2.mem ((c.tc : Thread Cert.LruInDwIdeal.nD Cert.LruInDwIdeal.τ).loc Cert.LruInDwIdeal.main_arg0) = m ((c.tc : Thread Cert.LruInDwIdeal.nD Cert.LruInDwIdeal.τ).loc Cert.LruInDwIdeal.main_arg0)
      ∧ r.2.mem ((c.tc : Thread Cert.LruInDwIdeal.nD Cert.LruInDwIdeal.τ).loc Cert.LruInDwIdeal.main_arg1) = m ((c.tc : Thread Cert.LruInDwIdeal.nD Cert.LruInDwIdeal.τ).loc Cert.LruInDwIdeal.main_arg1))
      ∧ r.2.sem = fun _ => 0)

def quiescent_LruInDwRefIdeal [hLruInDwRefIdeal : Cert.LruInDwRefIdeal.Facts] : Prop :=
  ∀ (m : (ℓ : Loc Cert.LruInDwRefIdeal.nD Cert.LruInDwRefIdeal.τ Cert.LruInDwRefIdeal.sig) → Buf (Elt Ideal) ℓ) (g : Dev Cert.LruInDwRefIdeal.nD → PrngReg), Pre_LruInDwRefIdeal m →
    θ_run (Cert.LruInDwRefIdeal.defs (F := Ideal)) (onTc (τ := Cert.LruInDwRefIdeal.τ) (Cert.LruInDwRefIdeal.main (F := Ideal))) ⟨m, fun _ => 0, g⟩ (fun r => (∀ c : Dev Cert.LruInDwRefIdeal.nD,
      r.2.mem ((c.tc : Thread Cert.LruInDwRefIdeal.nD Cert.LruInDwRefIdeal.τ).loc Cert.LruInDwRefIdeal.main_arg0) = m ((c.tc : Thread Cert.LruInDwRefIdeal.nD Cert.LruInDwRefIdeal.τ).loc Cert.LruInDwRefIdeal.main_arg0)
      ∧ r.2.mem ((c.tc : Thread Cert.LruInDwRefIdeal.nD Cert.LruInDwRefIdeal.τ).loc Cert.LruInDwRefIdeal.main_arg1) = m ((c.tc : Thread Cert.LruInDwRefIdeal.nD Cert.LruInDwRefIdeal.τ).loc Cert.LruInDwRefIdeal.main_arg1))
      ∧ r.2.sem = fun _ => 0)

def quiescent_LruOut [hLruOut : Cert.LruOut.Facts] : Prop :=
  ∀ (m : (ℓ : Loc Cert.LruOut.nD Cert.LruOut.τ Cert.LruOut.sig) → Buf (Elt Bits) ℓ) (g : Dev Cert.LruOut.nD → PrngReg), Pre_LruOut m →
    θ_run (Cert.LruOut.defs (F := Bits)) (onTc (τ := Cert.LruOut.τ) (Cert.LruOut.main (F := Bits))) ⟨m, fun _ => 0, g⟩ (fun r => (∀ c : Dev Cert.LruOut.nD,
      r.2.mem ((c.tc : Thread Cert.LruOut.nD Cert.LruOut.τ).loc Cert.LruOut.main_arg0) = m ((c.tc : Thread Cert.LruOut.nD Cert.LruOut.τ).loc Cert.LruOut.main_arg0)
      ∧ r.2.mem ((c.tc : Thread Cert.LruOut.nD Cert.LruOut.τ).loc Cert.LruOut.main_arg1) = m ((c.tc : Thread Cert.LruOut.nD Cert.LruOut.τ).loc Cert.LruOut.main_arg1)
      ∧ r.2.mem ((c.tc : Thread Cert.LruOut.nD Cert.LruOut.τ).loc Cert.LruOut.main_arg2) = m ((c.tc : Thread Cert.LruOut.nD Cert.LruOut.τ).loc Cert.LruOut.main_arg2)
      ∧ r.2.mem ((c.tc : Thread Cert.LruOut.nD Cert.LruOut.τ).loc Cert.LruOut.main_arg3) = m ((c.tc : Thread Cert.LruOut.nD Cert.LruOut.τ).loc Cert.LruOut.main_arg3)
      ∧ r.2.mem ((c.tc : Thread Cert.LruOut.nD Cert.LruOut.τ).loc Cert.LruOut.main_arg4) = m ((c.tc : Thread Cert.LruOut.nD Cert.LruOut.τ).loc Cert.LruOut.main_arg4))
      ∧ r.2.sem = fun _ => 0)

def quiescent_LruOutIdeal [hLruOutIdeal : Cert.LruOutIdeal.Facts] : Prop :=
  ∀ (m : (ℓ : Loc Cert.LruOutIdeal.nD Cert.LruOutIdeal.τ Cert.LruOutIdeal.sig) → Buf (Elt Ideal) ℓ) (g : Dev Cert.LruOutIdeal.nD → PrngReg), Pre_LruOutIdeal m →
    θ_run (Cert.LruOutIdeal.defs (F := Ideal)) (onTc (τ := Cert.LruOutIdeal.τ) (Cert.LruOutIdeal.main (F := Ideal))) ⟨m, fun _ => 0, g⟩ (fun r => (∀ c : Dev Cert.LruOutIdeal.nD,
      r.2.mem ((c.tc : Thread Cert.LruOutIdeal.nD Cert.LruOutIdeal.τ).loc Cert.LruOutIdeal.main_arg0) = m ((c.tc : Thread Cert.LruOutIdeal.nD Cert.LruOutIdeal.τ).loc Cert.LruOutIdeal.main_arg0)
      ∧ r.2.mem ((c.tc : Thread Cert.LruOutIdeal.nD Cert.LruOutIdeal.τ).loc Cert.LruOutIdeal.main_arg1) = m ((c.tc : Thread Cert.LruOutIdeal.nD Cert.LruOutIdeal.τ).loc Cert.LruOutIdeal.main_arg1)
      ∧ r.2.mem ((c.tc : Thread Cert.LruOutIdeal.nD Cert.LruOutIdeal.τ).loc Cert.LruOutIdeal.main_arg2) = m ((c.tc : Thread Cert.LruOutIdeal.nD Cert.LruOutIdeal.τ).loc Cert.LruOutIdeal.main_arg2)
      ∧ r.2.mem ((c.tc : Thread Cert.LruOutIdeal.nD Cert.LruOutIdeal.τ).loc Cert.LruOutIdeal.main_arg3) = m ((c.tc : Thread Cert.LruOutIdeal.nD Cert.LruOutIdeal.τ).loc Cert.LruOutIdeal.main_arg3)
      ∧ r.2.mem ((c.tc : Thread Cert.LruOutIdeal.nD Cert.LruOutIdeal.τ).loc Cert.LruOutIdeal.main_arg4) = m ((c.tc : Thread Cert.LruOutIdeal.nD Cert.LruOutIdeal.τ).loc Cert.LruOutIdeal.main_arg4))
      ∧ r.2.sem = fun _ => 0)

def quiescent_LruOutRefIdeal [hLruOutRefIdeal : Cert.LruOutRefIdeal.Facts] : Prop :=
  ∀ (m : (ℓ : Loc Cert.LruOutRefIdeal.nD Cert.LruOutRefIdeal.τ Cert.LruOutRefIdeal.sig) → Buf (Elt Ideal) ℓ) (g : Dev Cert.LruOutRefIdeal.nD → PrngReg), Pre_LruOutRefIdeal m →
    θ_run (Cert.LruOutRefIdeal.defs (F := Ideal)) (onTc (τ := Cert.LruOutRefIdeal.τ) (Cert.LruOutRefIdeal.main (F := Ideal))) ⟨m, fun _ => 0, g⟩ (fun r => (∀ c : Dev Cert.LruOutRefIdeal.nD,
      r.2.mem ((c.tc : Thread Cert.LruOutRefIdeal.nD Cert.LruOutRefIdeal.τ).loc Cert.LruOutRefIdeal.main_arg0) = m ((c.tc : Thread Cert.LruOutRefIdeal.nD Cert.LruOutRefIdeal.τ).loc Cert.LruOutRefIdeal.main_arg0)
      ∧ r.2.mem ((c.tc : Thread Cert.LruOutRefIdeal.nD Cert.LruOutRefIdeal.τ).loc Cert.LruOutRefIdeal.main_arg1) = m ((c.tc : Thread Cert.LruOutRefIdeal.nD Cert.LruOutRefIdeal.τ).loc Cert.LruOutRefIdeal.main_arg1)
      ∧ r.2.mem ((c.tc : Thread Cert.LruOutRefIdeal.nD Cert.LruOutRefIdeal.τ).loc Cert.LruOutRefIdeal.main_arg2) = m ((c.tc : Thread Cert.LruOutRefIdeal.nD Cert.LruOutRefIdeal.τ).loc Cert.LruOutRefIdeal.main_arg2)
      ∧ r.2.mem ((c.tc : Thread Cert.LruOutRefIdeal.nD Cert.LruOutRefIdeal.τ).loc Cert.LruOutRefIdeal.main_arg3) = m ((c.tc : Thread Cert.LruOutRefIdeal.nD Cert.LruOutRefIdeal.τ).loc Cert.LruOutRefIdeal.main_arg3)
      ∧ r.2.mem ((c.tc : Thread Cert.LruOutRefIdeal.nD Cert.LruOutRefIdeal.τ).loc Cert.LruOutRefIdeal.main_arg4) = m ((c.tc : Thread Cert.LruOutRefIdeal.nD Cert.LruOutRefIdeal.τ).loc Cert.LruOutRefIdeal.main_arg4))
      ∧ r.2.sem = fun _ => 0)

def quiescent_LruOutDw [hLruOutDw : Cert.LruOutDw.Facts] : Prop :=
  ∀ (m : (ℓ : Loc Cert.LruOutDw.nD Cert.LruOutDw.τ Cert.LruOutDw.sig) → Buf (Elt Bits) ℓ) (g : Dev Cert.LruOutDw.nD → PrngReg), Pre_LruOutDw m →
    θ_run (Cert.LruOutDw.defs (F := Bits)) (onTc (τ := Cert.LruOutDw.τ) (Cert.LruOutDw.main (F := Bits))) ⟨m, fun _ => 0, g⟩ (fun r => (∀ c : Dev Cert.LruOutDw.nD,
      r.2.mem ((c.tc : Thread Cert.LruOutDw.nD Cert.LruOutDw.τ).loc Cert.LruOutDw.main_arg0) = m ((c.tc : Thread Cert.LruOutDw.nD Cert.LruOutDw.τ).loc Cert.LruOutDw.main_arg0)
      ∧ r.2.mem ((c.tc : Thread Cert.LruOutDw.nD Cert.LruOutDw.τ).loc Cert.LruOutDw.main_arg1) = m ((c.tc : Thread Cert.LruOutDw.nD Cert.LruOutDw.τ).loc Cert.LruOutDw.main_arg1))
      ∧ r.2.sem = fun _ => 0)

def quiescent_LruOutDwIdeal [hLruOutDwIdeal : Cert.LruOutDwIdeal.Facts] : Prop :=
  ∀ (m : (ℓ : Loc Cert.LruOutDwIdeal.nD Cert.LruOutDwIdeal.τ Cert.LruOutDwIdeal.sig) → Buf (Elt Ideal) ℓ) (g : Dev Cert.LruOutDwIdeal.nD → PrngReg), Pre_LruOutDwIdeal m →
    θ_run (Cert.LruOutDwIdeal.defs (F := Ideal)) (onTc (τ := Cert.LruOutDwIdeal.τ) (Cert.LruOutDwIdeal.main (F := Ideal))) ⟨m, fun _ => 0, g⟩ (fun r => (∀ c : Dev Cert.LruOutDwIdeal.nD,
      r.2.mem ((c.tc : Thread Cert.LruOutDwIdeal.nD Cert.LruOutDwIdeal.τ).loc Cert.LruOutDwIdeal.main_arg0) = m ((c.tc : Thread Cert.LruOutDwIdeal.nD Cert.LruOutDwIdeal.τ).loc Cert.LruOutDwIdeal.main_arg0)
      ∧ r.2.mem ((c.tc : Thread Cert.LruOutDwIdeal.nD Cert.LruOutDwIdeal.τ).loc Cert.LruOutDwIdeal.main_arg1) = m ((c.tc : Thread Cert.LruOutDwIdeal.nD Cert.LruOutDwIdeal.τ).loc Cert.LruOutDwIdeal.main_arg1))
      ∧ r.2.sem = fun _ => 0)

def quiescent_LruOutDwRefIdeal [hLruOutDwRefIdeal : Cert.LruOutDwRefIdeal.Facts] : Prop :=
  ∀ (m : (ℓ : Loc Cert.LruOutDwRefIdeal.nD Cert.LruOutDwRefIdeal.τ Cert.LruOutDwRefIdeal.sig) → Buf (Elt Ideal) ℓ) (g : Dev Cert.LruOutDwRefIdeal.nD → PrngReg), Pre_LruOutDwRefIdeal m →
    θ_run (Cert.LruOutDwRefIdeal.defs (F := Ideal)) (onTc (τ := Cert.LruOutDwRefIdeal.τ) (Cert.LruOutDwRefIdeal.main (F := Ideal))) ⟨m, fun _ => 0, g⟩ (fun r => (∀ c : Dev Cert.LruOutDwRefIdeal.nD,
      r.2.mem ((c.tc : Thread Cert.LruOutDwRefIdeal.nD Cert.LruOutDwRefIdeal.τ).loc Cert.LruOutDwRefIdeal.main_arg0) = m ((c.tc : Thread Cert.LruOutDwRefIdeal.nD Cert.LruOutDwRefIdeal.τ).loc Cert.LruOutDwRefIdeal.main_arg0)
      ∧ r.2.mem ((c.tc : Thread Cert.LruOutDwRefIdeal.nD Cert.LruOutDwRefIdeal.τ).loc Cert.LruOutDwRefIdeal.main_arg1) = m ((c.tc : Thread Cert.LruOutDwRefIdeal.nD Cert.LruOutDwRefIdeal.τ).loc Cert.LruOutDwRefIdeal.main_arg1))
      ∧ r.2.sem = fun _ => 0)

def quiescent_AttnIn [hAttnIn : Cert.AttnIn.Facts] : Prop :=
  ∀ (m : (ℓ : Loc Cert.AttnIn.nD Cert.AttnIn.τ Cert.AttnIn.sig) → Buf (Elt Bits) ℓ) (g : Dev Cert.AttnIn.nD → PrngReg), Pre_AttnIn m →
    θ_run (Cert.AttnIn.defs (F := Bits)) (onTc (τ := Cert.AttnIn.τ) (Cert.AttnIn.main (F := Bits))) ⟨m, fun _ => 0, g⟩ (fun r => (∀ c : Dev Cert.AttnIn.nD,
      r.2.mem ((c.tc : Thread Cert.AttnIn.nD Cert.AttnIn.τ).loc Cert.AttnIn.main_arg0) = m ((c.tc : Thread Cert.AttnIn.nD Cert.AttnIn.τ).loc Cert.AttnIn.main_arg0)
      ∧ r.2.mem ((c.tc : Thread Cert.AttnIn.nD Cert.AttnIn.τ).loc Cert.AttnIn.main_arg1) = m ((c.tc : Thread Cert.AttnIn.nD Cert.AttnIn.τ).loc Cert.AttnIn.main_arg1))
      ∧ r.2.sem = fun _ => 0)

def quiescent_AttnInIdeal [hAttnInIdeal : Cert.AttnInIdeal.Facts] : Prop :=
  ∀ (m : (ℓ : Loc Cert.AttnInIdeal.nD Cert.AttnInIdeal.τ Cert.AttnInIdeal.sig) → Buf (Elt Ideal) ℓ) (g : Dev Cert.AttnInIdeal.nD → PrngReg), Pre_AttnInIdeal m →
    θ_run (Cert.AttnInIdeal.defs (F := Ideal)) (onTc (τ := Cert.AttnInIdeal.τ) (Cert.AttnInIdeal.main (F := Ideal))) ⟨m, fun _ => 0, g⟩ (fun r => (∀ c : Dev Cert.AttnInIdeal.nD,
      r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
      ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1))
      ∧ r.2.sem = fun _ => 0)

def quiescent_AttnInRefIdeal [hAttnInRefIdeal : Cert.AttnInRefIdeal.Facts] : Prop :=
  ∀ (m : (ℓ : Loc Cert.AttnInRefIdeal.nD Cert.AttnInRefIdeal.τ Cert.AttnInRefIdeal.sig) → Buf (Elt Ideal) ℓ) (g : Dev Cert.AttnInRefIdeal.nD → PrngReg), Pre_AttnInRefIdeal m →
    θ_run (Cert.AttnInRefIdeal.defs (F := Ideal)) (onTc (τ := Cert.AttnInRefIdeal.τ) (Cert.AttnInRefIdeal.main (F := Ideal))) ⟨m, fun _ => 0, g⟩ (fun r => (∀ c : Dev Cert.AttnInRefIdeal.nD,
      r.2.mem ((c.tc : Thread Cert.AttnInRefIdeal.nD Cert.AttnInRefIdeal.τ).loc Cert.AttnInRefIdeal.main_arg0) = m ((c.tc : Thread Cert.AttnInRefIdeal.nD Cert.AttnInRefIdeal.τ).loc Cert.AttnInRefIdeal.main_arg0)
      ∧ r.2.mem ((c.tc : Thread Cert.AttnInRefIdeal.nD Cert.AttnInRefIdeal.τ).loc Cert.AttnInRefIdeal.main_arg1) = m ((c.tc : Thread Cert.AttnInRefIdeal.nD Cert.AttnInRefIdeal.τ).loc Cert.AttnInRefIdeal.main_arg1))
      ∧ r.2.sem = fun _ => 0)

def quiescent_AttnInDx [hAttnInDx : Cert.AttnInDx.Facts] : Prop :=
  ∀ (m : (ℓ : Loc Cert.AttnInDx.nD Cert.AttnInDx.τ Cert.AttnInDx.sig) → Buf (Elt Bits) ℓ) (g : Dev Cert.AttnInDx.nD → PrngReg), Pre_AttnInDx m →
    θ_run (Cert.AttnInDx.defs (F := Bits)) (onTc (τ := Cert.AttnInDx.τ) (Cert.AttnInDx.main (F := Bits))) ⟨m, fun _ => 0, g⟩ (fun r => (∀ c : Dev Cert.AttnInDx.nD,
      r.2.mem ((c.tc : Thread Cert.AttnInDx.nD Cert.AttnInDx.τ).loc Cert.AttnInDx.main_arg0) = m ((c.tc : Thread Cert.AttnInDx.nD Cert.AttnInDx.τ).loc Cert.AttnInDx.main_arg0)
      ∧ r.2.mem ((c.tc : Thread Cert.AttnInDx.nD Cert.AttnInDx.τ).loc Cert.AttnInDx.main_arg1) = m ((c.tc : Thread Cert.AttnInDx.nD Cert.AttnInDx.τ).loc Cert.AttnInDx.main_arg1)
      ∧ r.2.mem ((c.tc : Thread Cert.AttnInDx.nD Cert.AttnInDx.τ).loc Cert.AttnInDx.main_arg2) = m ((c.tc : Thread Cert.AttnInDx.nD Cert.AttnInDx.τ).loc Cert.AttnInDx.main_arg2))
      ∧ r.2.sem = fun _ => 0)

def quiescent_AttnInDxIdeal [hAttnInDxIdeal : Cert.AttnInDxIdeal.Facts] : Prop :=
  ∀ (m : (ℓ : Loc Cert.AttnInDxIdeal.nD Cert.AttnInDxIdeal.τ Cert.AttnInDxIdeal.sig) → Buf (Elt Ideal) ℓ) (g : Dev Cert.AttnInDxIdeal.nD → PrngReg), Pre_AttnInDxIdeal m →
    θ_run (Cert.AttnInDxIdeal.defs (F := Ideal)) (onTc (τ := Cert.AttnInDxIdeal.τ) (Cert.AttnInDxIdeal.main (F := Ideal))) ⟨m, fun _ => 0, g⟩ (fun r => (∀ c : Dev Cert.AttnInDxIdeal.nD,
      r.2.mem ((c.tc : Thread Cert.AttnInDxIdeal.nD Cert.AttnInDxIdeal.τ).loc Cert.AttnInDxIdeal.main_arg0) = m ((c.tc : Thread Cert.AttnInDxIdeal.nD Cert.AttnInDxIdeal.τ).loc Cert.AttnInDxIdeal.main_arg0)
      ∧ r.2.mem ((c.tc : Thread Cert.AttnInDxIdeal.nD Cert.AttnInDxIdeal.τ).loc Cert.AttnInDxIdeal.main_arg1) = m ((c.tc : Thread Cert.AttnInDxIdeal.nD Cert.AttnInDxIdeal.τ).loc Cert.AttnInDxIdeal.main_arg1)
      ∧ r.2.mem ((c.tc : Thread Cert.AttnInDxIdeal.nD Cert.AttnInDxIdeal.τ).loc Cert.AttnInDxIdeal.main_arg2) = m ((c.tc : Thread Cert.AttnInDxIdeal.nD Cert.AttnInDxIdeal.τ).loc Cert.AttnInDxIdeal.main_arg2))
      ∧ r.2.sem = fun _ => 0)

def quiescent_AttnInDxRefIdeal [hAttnInDxRefIdeal : Cert.AttnInDxRefIdeal.Facts] : Prop :=
  ∀ (m : (ℓ : Loc Cert.AttnInDxRefIdeal.nD Cert.AttnInDxRefIdeal.τ Cert.AttnInDxRefIdeal.sig) → Buf (Elt Ideal) ℓ) (g : Dev Cert.AttnInDxRefIdeal.nD → PrngReg), Pre_AttnInDxRefIdeal m →
    θ_run (Cert.AttnInDxRefIdeal.defs (F := Ideal)) (onTc (τ := Cert.AttnInDxRefIdeal.τ) (Cert.AttnInDxRefIdeal.main (F := Ideal))) ⟨m, fun _ => 0, g⟩ (fun r => (∀ c : Dev Cert.AttnInDxRefIdeal.nD,
      r.2.mem ((c.tc : Thread Cert.AttnInDxRefIdeal.nD Cert.AttnInDxRefIdeal.τ).loc Cert.AttnInDxRefIdeal.main_arg0) = m ((c.tc : Thread Cert.AttnInDxRefIdeal.nD Cert.AttnInDxRefIdeal.τ).loc Cert.AttnInDxRefIdeal.main_arg0)
      ∧ r.2.mem ((c.tc : Thread Cert.AttnInDxRefIdeal.nD Cert.AttnInDxRefIdeal.τ).loc Cert.AttnInDxRefIdeal.main_arg1) = m ((c.tc : Thread Cert.AttnInDxRefIdeal.nD Cert.AttnInDxRefIdeal.τ).loc Cert.AttnInDxRefIdeal.main_arg1)
      ∧ r.2.mem ((c.tc : Thread Cert.AttnInDxRefIdeal.nD Cert.AttnInDxRefIdeal.τ).loc Cert.AttnInDxRefIdeal.main_arg2) = m ((c.tc : Thread Cert.AttnInDxRefIdeal.nD Cert.AttnInDxRefIdeal.τ).loc Cert.AttnInDxRefIdeal.main_arg2))
      ∧ r.2.sem = fun _ => 0)

def quiescent_AttnInDw [hAttnInDw : Cert.AttnInDw.Facts] : Prop :=
  ∀ (m : (ℓ : Loc Cert.AttnInDw.nD Cert.AttnInDw.τ Cert.AttnInDw.sig) → Buf (Elt Bits) ℓ) (g : Dev Cert.AttnInDw.nD → PrngReg), Pre_AttnInDw m →
    θ_run (Cert.AttnInDw.defs (F := Bits)) (onTc (τ := Cert.AttnInDw.τ) (Cert.AttnInDw.main (F := Bits))) ⟨m, fun _ => 0, g⟩ (fun r => (∀ c : Dev Cert.AttnInDw.nD,
      r.2.mem ((c.tc : Thread Cert.AttnInDw.nD Cert.AttnInDw.τ).loc Cert.AttnInDw.main_arg0) = m ((c.tc : Thread Cert.AttnInDw.nD Cert.AttnInDw.τ).loc Cert.AttnInDw.main_arg0)
      ∧ r.2.mem ((c.tc : Thread Cert.AttnInDw.nD Cert.AttnInDw.τ).loc Cert.AttnInDw.main_arg1) = m ((c.tc : Thread Cert.AttnInDw.nD Cert.AttnInDw.τ).loc Cert.AttnInDw.main_arg1)
      ∧ r.2.mem ((c.tc : Thread Cert.AttnInDw.nD Cert.AttnInDw.τ).loc Cert.AttnInDw.main_arg2) = m ((c.tc : Thread Cert.AttnInDw.nD Cert.AttnInDw.τ).loc Cert.AttnInDw.main_arg2))
      ∧ r.2.sem = fun _ => 0)

def quiescent_AttnInDwIdeal [hAttnInDwIdeal : Cert.AttnInDwIdeal.Facts] : Prop :=
  ∀ (m : (ℓ : Loc Cert.AttnInDwIdeal.nD Cert.AttnInDwIdeal.τ Cert.AttnInDwIdeal.sig) → Buf (Elt Ideal) ℓ) (g : Dev Cert.AttnInDwIdeal.nD → PrngReg), Pre_AttnInDwIdeal m →
    θ_run (Cert.AttnInDwIdeal.defs (F := Ideal)) (onTc (τ := Cert.AttnInDwIdeal.τ) (Cert.AttnInDwIdeal.main (F := Ideal))) ⟨m, fun _ => 0, g⟩ (fun r => (∀ c : Dev Cert.AttnInDwIdeal.nD,
      r.2.mem ((c.tc : Thread Cert.AttnInDwIdeal.nD Cert.AttnInDwIdeal.τ).loc Cert.AttnInDwIdeal.main_arg0) = m ((c.tc : Thread Cert.AttnInDwIdeal.nD Cert.AttnInDwIdeal.τ).loc Cert.AttnInDwIdeal.main_arg0)
      ∧ r.2.mem ((c.tc : Thread Cert.AttnInDwIdeal.nD Cert.AttnInDwIdeal.τ).loc Cert.AttnInDwIdeal.main_arg1) = m ((c.tc : Thread Cert.AttnInDwIdeal.nD Cert.AttnInDwIdeal.τ).loc Cert.AttnInDwIdeal.main_arg1)
      ∧ r.2.mem ((c.tc : Thread Cert.AttnInDwIdeal.nD Cert.AttnInDwIdeal.τ).loc Cert.AttnInDwIdeal.main_arg2) = m ((c.tc : Thread Cert.AttnInDwIdeal.nD Cert.AttnInDwIdeal.τ).loc Cert.AttnInDwIdeal.main_arg2))
      ∧ r.2.sem = fun _ => 0)

def quiescent_AttnInDwRefIdeal [hAttnInDwRefIdeal : Cert.AttnInDwRefIdeal.Facts] : Prop :=
  ∀ (m : (ℓ : Loc Cert.AttnInDwRefIdeal.nD Cert.AttnInDwRefIdeal.τ Cert.AttnInDwRefIdeal.sig) → Buf (Elt Ideal) ℓ) (g : Dev Cert.AttnInDwRefIdeal.nD → PrngReg), Pre_AttnInDwRefIdeal m →
    θ_run (Cert.AttnInDwRefIdeal.defs (F := Ideal)) (onTc (τ := Cert.AttnInDwRefIdeal.τ) (Cert.AttnInDwRefIdeal.main (F := Ideal))) ⟨m, fun _ => 0, g⟩ (fun r => (∀ c : Dev Cert.AttnInDwRefIdeal.nD,
      r.2.mem ((c.tc : Thread Cert.AttnInDwRefIdeal.nD Cert.AttnInDwRefIdeal.τ).loc Cert.AttnInDwRefIdeal.main_arg0) = m ((c.tc : Thread Cert.AttnInDwRefIdeal.nD Cert.AttnInDwRefIdeal.τ).loc Cert.AttnInDwRefIdeal.main_arg0)
      ∧ r.2.mem ((c.tc : Thread Cert.AttnInDwRefIdeal.nD Cert.AttnInDwRefIdeal.τ).loc Cert.AttnInDwRefIdeal.main_arg1) = m ((c.tc : Thread Cert.AttnInDwRefIdeal.nD Cert.AttnInDwRefIdeal.τ).loc Cert.AttnInDwRefIdeal.main_arg1)
      ∧ r.2.mem ((c.tc : Thread Cert.AttnInDwRefIdeal.nD Cert.AttnInDwRefIdeal.τ).loc Cert.AttnInDwRefIdeal.main_arg2) = m ((c.tc : Thread Cert.AttnInDwRefIdeal.nD Cert.AttnInDwRefIdeal.τ).loc Cert.AttnInDwRefIdeal.main_arg2))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3)
      ∧ r.2.mem ((c.tc : Thread Cert.AttnOut.nD Cert.AttnOut.τ).loc Cert.AttnOut.main_arg4) = m ((c.tc : Thread Cert.AttnOut.nD Cert.AttnOut.τ).loc Cert.AttnOut.main_arg4))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
      ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2)
      ∧ r.2.mem ((c.tc : Thread Cert.AttnOutRefIdeal.nD Cert.AttnOutRefIdeal.τ).loc Cert.AttnOutRefIdeal.main_arg3) = m ((c.tc : Thread Cert.AttnOutRefIdeal.nD Cert.AttnOutRefIdeal.τ).loc Cert.AttnOutRefIdeal.main_arg3)
      ∧ r.2.mem ((c.tc : Thread Cert.AttnOutRefIdeal.nD Cert.AttnOutRefIdeal.τ).loc Cert.AttnOutRefIdeal.main_arg4) = m ((c.tc : Thread Cert.AttnOutRefIdeal.nD Cert.AttnOutRefIdeal.τ).loc Cert.AttnOutRefIdeal.main_arg4))
      ∧ r.2.sem = fun _ => 0)

def quiescent_AttnOutDw [hAttnOutDw : Cert.AttnOutDw.Facts] : Prop :=
  ∀ (m : (ℓ : Loc Cert.AttnOutDw.nD Cert.AttnOutDw.τ Cert.AttnOutDw.sig) → Buf (Elt Bits) ℓ) (g : Dev Cert.AttnOutDw.nD → PrngReg), Pre_AttnOutDw m →
    θ_run (Cert.AttnOutDw.defs (F := Bits)) (onTc (τ := Cert.AttnOutDw.τ) (Cert.AttnOutDw.main (F := Bits))) ⟨m, fun _ => 0, g⟩ (fun r => (∀ c : Dev Cert.AttnOutDw.nD,
      r.2.mem ((c.tc : Thread Cert.AttnOutDw.nD Cert.AttnOutDw.τ).loc Cert.AttnOutDw.main_arg0) = m ((c.tc : Thread Cert.AttnOutDw.nD Cert.AttnOutDw.τ).loc Cert.AttnOutDw.main_arg0)
      ∧ r.2.mem ((c.tc : Thread Cert.AttnOutDw.nD Cert.AttnOutDw.τ).loc Cert.AttnOutDw.main_arg1) = m ((c.tc : Thread Cert.AttnOutDw.nD Cert.AttnOutDw.τ).loc Cert.AttnOutDw.main_arg1))
      ∧ r.2.sem = fun _ => 0)

def quiescent_AttnOutDwIdeal [hAttnOutDwIdeal : Cert.AttnOutDwIdeal.Facts] : Prop :=
  ∀ (m : (ℓ : Loc Cert.AttnOutDwIdeal.nD Cert.AttnOutDwIdeal.τ Cert.AttnOutDwIdeal.sig) → Buf (Elt Ideal) ℓ) (g : Dev Cert.AttnOutDwIdeal.nD → PrngReg), Pre_AttnOutDwIdeal m →
    θ_run (Cert.AttnOutDwIdeal.defs (F := Ideal)) (onTc (τ := Cert.AttnOutDwIdeal.τ) (Cert.AttnOutDwIdeal.main (F := Ideal))) ⟨m, fun _ => 0, g⟩ (fun r => (∀ c : Dev Cert.AttnOutDwIdeal.nD,
      r.2.mem ((c.tc : Thread Cert.AttnOutDwIdeal.nD Cert.AttnOutDwIdeal.τ).loc Cert.AttnOutDwIdeal.main_arg0) = m ((c.tc : Thread Cert.AttnOutDwIdeal.nD Cert.AttnOutDwIdeal.τ).loc Cert.AttnOutDwIdeal.main_arg0)
      ∧ r.2.mem ((c.tc : Thread Cert.AttnOutDwIdeal.nD Cert.AttnOutDwIdeal.τ).loc Cert.AttnOutDwIdeal.main_arg1) = m ((c.tc : Thread Cert.AttnOutDwIdeal.nD Cert.AttnOutDwIdeal.τ).loc Cert.AttnOutDwIdeal.main_arg1))
      ∧ r.2.sem = fun _ => 0)

def quiescent_AttnOutDwRefIdeal [hAttnOutDwRefIdeal : Cert.AttnOutDwRefIdeal.Facts] : Prop :=
  ∀ (m : (ℓ : Loc Cert.AttnOutDwRefIdeal.nD Cert.AttnOutDwRefIdeal.τ Cert.AttnOutDwRefIdeal.sig) → Buf (Elt Ideal) ℓ) (g : Dev Cert.AttnOutDwRefIdeal.nD → PrngReg), Pre_AttnOutDwRefIdeal m →
    θ_run (Cert.AttnOutDwRefIdeal.defs (F := Ideal)) (onTc (τ := Cert.AttnOutDwRefIdeal.τ) (Cert.AttnOutDwRefIdeal.main (F := Ideal))) ⟨m, fun _ => 0, g⟩ (fun r => (∀ c : Dev Cert.AttnOutDwRefIdeal.nD,
      r.2.mem ((c.tc : Thread Cert.AttnOutDwRefIdeal.nD Cert.AttnOutDwRefIdeal.τ).loc Cert.AttnOutDwRefIdeal.main_arg0) = m ((c.tc : Thread Cert.AttnOutDwRefIdeal.nD Cert.AttnOutDwRefIdeal.τ).loc Cert.AttnOutDwRefIdeal.main_arg0)
      ∧ r.2.mem ((c.tc : Thread Cert.AttnOutDwRefIdeal.nD Cert.AttnOutDwRefIdeal.τ).loc Cert.AttnOutDwRefIdeal.main_arg1) = m ((c.tc : Thread Cert.AttnOutDwRefIdeal.nD Cert.AttnOutDwRefIdeal.τ).loc Cert.AttnOutDwRefIdeal.main_arg1))
      ∧ r.2.sem = fun _ => 0)

def quiescent_KvIn [hKvIn : Cert.KvIn.Facts] : Prop :=
  ∀ (m : (ℓ : Loc Cert.KvIn.nD Cert.KvIn.τ Cert.KvIn.sig) → Buf (Elt Bits) ℓ) (g : Dev Cert.KvIn.nD → PrngReg), Pre_KvIn m →
    θ_run (Cert.KvIn.defs (F := Bits)) (onTc (τ := Cert.KvIn.τ) (Cert.KvIn.main (F := Bits))) ⟨m, fun _ => 0, g⟩ (fun r => (∀ c : Dev Cert.KvIn.nD,
      r.2.mem ((c.tc : Thread Cert.KvIn.nD Cert.KvIn.τ).loc Cert.KvIn.main_arg0) = m ((c.tc : Thread Cert.KvIn.nD Cert.KvIn.τ).loc Cert.KvIn.main_arg0)
      ∧ r.2.mem ((c.tc : Thread Cert.KvIn.nD Cert.KvIn.τ).loc Cert.KvIn.main_arg1) = m ((c.tc : Thread Cert.KvIn.nD Cert.KvIn.τ).loc Cert.KvIn.main_arg1))
      ∧ r.2.sem = fun _ => 0)

def quiescent_KvInIdeal [hKvInIdeal : Cert.KvInIdeal.Facts] : Prop :=
  ∀ (m : (ℓ : Loc Cert.KvInIdeal.nD Cert.KvInIdeal.τ Cert.KvInIdeal.sig) → Buf (Elt Ideal) ℓ) (g : Dev Cert.KvInIdeal.nD → PrngReg), Pre_KvInIdeal m →
    θ_run (Cert.KvInIdeal.defs (F := Ideal)) (onTc (τ := Cert.KvInIdeal.τ) (Cert.KvInIdeal.main (F := Ideal))) ⟨m, fun _ => 0, g⟩ (fun r => (∀ c : Dev Cert.KvInIdeal.nD,
      r.2.mem ((c.tc : Thread Cert.KvInIdeal.nD Cert.KvInIdeal.τ).loc Cert.KvInIdeal.main_arg0) = m ((c.tc : Thread Cert.KvInIdeal.nD Cert.KvInIdeal.τ).loc Cert.KvInIdeal.main_arg0)
      ∧ r.2.mem ((c.tc : Thread Cert.KvInIdeal.nD Cert.KvInIdeal.τ).loc Cert.KvInIdeal.main_arg1) = m ((c.tc : Thread Cert.KvInIdeal.nD Cert.KvInIdeal.τ).loc Cert.KvInIdeal.main_arg1))
      ∧ r.2.sem = fun _ => 0)

def quiescent_KvInRefIdeal [hKvInRefIdeal : Cert.KvInRefIdeal.Facts] : Prop :=
  ∀ (m : (ℓ : Loc Cert.KvInRefIdeal.nD Cert.KvInRefIdeal.τ Cert.KvInRefIdeal.sig) → Buf (Elt Ideal) ℓ) (g : Dev Cert.KvInRefIdeal.nD → PrngReg), Pre_KvInRefIdeal m →
    θ_run (Cert.KvInRefIdeal.defs (F := Ideal)) (onTc (τ := Cert.KvInRefIdeal.τ) (Cert.KvInRefIdeal.main (F := Ideal))) ⟨m, fun _ => 0, g⟩ (fun r => (∀ c : Dev Cert.KvInRefIdeal.nD,
      r.2.mem ((c.tc : Thread Cert.KvInRefIdeal.nD Cert.KvInRefIdeal.τ).loc Cert.KvInRefIdeal.main_arg0) = m ((c.tc : Thread Cert.KvInRefIdeal.nD Cert.KvInRefIdeal.τ).loc Cert.KvInRefIdeal.main_arg0)
      ∧ r.2.mem ((c.tc : Thread Cert.KvInRefIdeal.nD Cert.KvInRefIdeal.τ).loc Cert.KvInRefIdeal.main_arg1) = m ((c.tc : Thread Cert.KvInRefIdeal.nD Cert.KvInRefIdeal.τ).loc Cert.KvInRefIdeal.main_arg1))
      ∧ r.2.sem = fun _ => 0)

def quiescent_KvInDx [hKvInDx : Cert.KvInDx.Facts] : Prop :=
  ∀ (m : (ℓ : Loc Cert.KvInDx.nD Cert.KvInDx.τ Cert.KvInDx.sig) → Buf (Elt Bits) ℓ) (g : Dev Cert.KvInDx.nD → PrngReg), Pre_KvInDx m →
    θ_run (Cert.KvInDx.defs (F := Bits)) (onTc (τ := Cert.KvInDx.τ) (Cert.KvInDx.main (F := Bits))) ⟨m, fun _ => 0, g⟩ (fun r => (∀ c : Dev Cert.KvInDx.nD,
      r.2.mem ((c.tc : Thread Cert.KvInDx.nD Cert.KvInDx.τ).loc Cert.KvInDx.main_arg0) = m ((c.tc : Thread Cert.KvInDx.nD Cert.KvInDx.τ).loc Cert.KvInDx.main_arg0)
      ∧ r.2.mem ((c.tc : Thread Cert.KvInDx.nD Cert.KvInDx.τ).loc Cert.KvInDx.main_arg1) = m ((c.tc : Thread Cert.KvInDx.nD Cert.KvInDx.τ).loc Cert.KvInDx.main_arg1))
      ∧ r.2.sem = fun _ => 0)

def quiescent_KvInDxIdeal [hKvInDxIdeal : Cert.KvInDxIdeal.Facts] : Prop :=
  ∀ (m : (ℓ : Loc Cert.KvInDxIdeal.nD Cert.KvInDxIdeal.τ Cert.KvInDxIdeal.sig) → Buf (Elt Ideal) ℓ) (g : Dev Cert.KvInDxIdeal.nD → PrngReg), Pre_KvInDxIdeal m →
    θ_run (Cert.KvInDxIdeal.defs (F := Ideal)) (onTc (τ := Cert.KvInDxIdeal.τ) (Cert.KvInDxIdeal.main (F := Ideal))) ⟨m, fun _ => 0, g⟩ (fun r => (∀ c : Dev Cert.KvInDxIdeal.nD,
      r.2.mem ((c.tc : Thread Cert.KvInDxIdeal.nD Cert.KvInDxIdeal.τ).loc Cert.KvInDxIdeal.main_arg0) = m ((c.tc : Thread Cert.KvInDxIdeal.nD Cert.KvInDxIdeal.τ).loc Cert.KvInDxIdeal.main_arg0)
      ∧ r.2.mem ((c.tc : Thread Cert.KvInDxIdeal.nD Cert.KvInDxIdeal.τ).loc Cert.KvInDxIdeal.main_arg1) = m ((c.tc : Thread Cert.KvInDxIdeal.nD Cert.KvInDxIdeal.τ).loc Cert.KvInDxIdeal.main_arg1))
      ∧ r.2.sem = fun _ => 0)

def quiescent_KvInDxRefIdeal [hKvInDxRefIdeal : Cert.KvInDxRefIdeal.Facts] : Prop :=
  ∀ (m : (ℓ : Loc Cert.KvInDxRefIdeal.nD Cert.KvInDxRefIdeal.τ Cert.KvInDxRefIdeal.sig) → Buf (Elt Ideal) ℓ) (g : Dev Cert.KvInDxRefIdeal.nD → PrngReg), Pre_KvInDxRefIdeal m →
    θ_run (Cert.KvInDxRefIdeal.defs (F := Ideal)) (onTc (τ := Cert.KvInDxRefIdeal.τ) (Cert.KvInDxRefIdeal.main (F := Ideal))) ⟨m, fun _ => 0, g⟩ (fun r => (∀ c : Dev Cert.KvInDxRefIdeal.nD,
      r.2.mem ((c.tc : Thread Cert.KvInDxRefIdeal.nD Cert.KvInDxRefIdeal.τ).loc Cert.KvInDxRefIdeal.main_arg0) = m ((c.tc : Thread Cert.KvInDxRefIdeal.nD Cert.KvInDxRefIdeal.τ).loc Cert.KvInDxRefIdeal.main_arg0)
      ∧ r.2.mem ((c.tc : Thread Cert.KvInDxRefIdeal.nD Cert.KvInDxRefIdeal.τ).loc Cert.KvInDxRefIdeal.main_arg1) = m ((c.tc : Thread Cert.KvInDxRefIdeal.nD Cert.KvInDxRefIdeal.τ).loc Cert.KvInDxRefIdeal.main_arg1))
      ∧ r.2.sem = fun _ => 0)

def quiescent_KvInDw [hKvInDw : Cert.KvInDw.Facts] : Prop :=
  ∀ (m : (ℓ : Loc Cert.KvInDw.nD Cert.KvInDw.τ Cert.KvInDw.sig) → Buf (Elt Bits) ℓ) (g : Dev Cert.KvInDw.nD → PrngReg), Pre_KvInDw m →
    θ_run (Cert.KvInDw.defs (F := Bits)) (onTc (τ := Cert.KvInDw.τ) (Cert.KvInDw.main (F := Bits))) ⟨m, fun _ => 0, g⟩ (fun r => (∀ c : Dev Cert.KvInDw.nD,
      r.2.mem ((c.tc : Thread Cert.KvInDw.nD Cert.KvInDw.τ).loc Cert.KvInDw.main_arg0) = m ((c.tc : Thread Cert.KvInDw.nD Cert.KvInDw.τ).loc Cert.KvInDw.main_arg0)
      ∧ r.2.mem ((c.tc : Thread Cert.KvInDw.nD Cert.KvInDw.τ).loc Cert.KvInDw.main_arg1) = m ((c.tc : Thread Cert.KvInDw.nD Cert.KvInDw.τ).loc Cert.KvInDw.main_arg1))
      ∧ r.2.sem = fun _ => 0)

def quiescent_KvInDwIdeal [hKvInDwIdeal : Cert.KvInDwIdeal.Facts] : Prop :=
  ∀ (m : (ℓ : Loc Cert.KvInDwIdeal.nD Cert.KvInDwIdeal.τ Cert.KvInDwIdeal.sig) → Buf (Elt Ideal) ℓ) (g : Dev Cert.KvInDwIdeal.nD → PrngReg), Pre_KvInDwIdeal m →
    θ_run (Cert.KvInDwIdeal.defs (F := Ideal)) (onTc (τ := Cert.KvInDwIdeal.τ) (Cert.KvInDwIdeal.main (F := Ideal))) ⟨m, fun _ => 0, g⟩ (fun r => (∀ c : Dev Cert.KvInDwIdeal.nD,
      r.2.mem ((c.tc : Thread Cert.KvInDwIdeal.nD Cert.KvInDwIdeal.τ).loc Cert.KvInDwIdeal.main_arg0) = m ((c.tc : Thread Cert.KvInDwIdeal.nD Cert.KvInDwIdeal.τ).loc Cert.KvInDwIdeal.main_arg0)
      ∧ r.2.mem ((c.tc : Thread Cert.KvInDwIdeal.nD Cert.KvInDwIdeal.τ).loc Cert.KvInDwIdeal.main_arg1) = m ((c.tc : Thread Cert.KvInDwIdeal.nD Cert.KvInDwIdeal.τ).loc Cert.KvInDwIdeal.main_arg1))
      ∧ r.2.sem = fun _ => 0)

def quiescent_KvInDwRefIdeal [hKvInDwRefIdeal : Cert.KvInDwRefIdeal.Facts] : Prop :=
  ∀ (m : (ℓ : Loc Cert.KvInDwRefIdeal.nD Cert.KvInDwRefIdeal.τ Cert.KvInDwRefIdeal.sig) → Buf (Elt Ideal) ℓ) (g : Dev Cert.KvInDwRefIdeal.nD → PrngReg), Pre_KvInDwRefIdeal m →
    θ_run (Cert.KvInDwRefIdeal.defs (F := Ideal)) (onTc (τ := Cert.KvInDwRefIdeal.τ) (Cert.KvInDwRefIdeal.main (F := Ideal))) ⟨m, fun _ => 0, g⟩ (fun r => (∀ c : Dev Cert.KvInDwRefIdeal.nD,
      r.2.mem ((c.tc : Thread Cert.KvInDwRefIdeal.nD Cert.KvInDwRefIdeal.τ).loc Cert.KvInDwRefIdeal.main_arg0) = m ((c.tc : Thread Cert.KvInDwRefIdeal.nD Cert.KvInDwRefIdeal.τ).loc Cert.KvInDwRefIdeal.main_arg0)
      ∧ r.2.mem ((c.tc : Thread Cert.KvInDwRefIdeal.nD Cert.KvInDwRefIdeal.τ).loc Cert.KvInDwRefIdeal.main_arg1) = m ((c.tc : Thread Cert.KvInDwRefIdeal.nD Cert.KvInDwRefIdeal.τ).loc Cert.KvInDwRefIdeal.main_arg1))
      ∧ r.2.sem = fun _ => 0)

def quiescent_FfnBack [hFfnBack : Cert.FfnBack.Facts] : Prop :=
  ∀ (m : (ℓ : Loc Cert.FfnBack.nD Cert.FfnBack.τ Cert.FfnBack.sig) → Buf (Elt Bits) ℓ) (g : Dev Cert.FfnBack.nD → PrngReg), Pre_FfnBack m →
    θ_run (Cert.FfnBack.defs (F := Bits)) (onTc (τ := Cert.FfnBack.τ) (Cert.FfnBack.main (F := Bits))) ⟨m, fun _ => 0, g⟩ (fun r => (∀ c : Dev Cert.FfnBack.nD,
      r.2.mem ((c.tc : Thread Cert.FfnBack.nD Cert.FfnBack.τ).loc Cert.FfnBack.main_arg0) = m ((c.tc : Thread Cert.FfnBack.nD Cert.FfnBack.τ).loc Cert.FfnBack.main_arg0)
      ∧ r.2.mem ((c.tc : Thread Cert.FfnBack.nD Cert.FfnBack.τ).loc Cert.FfnBack.main_arg1) = m ((c.tc : Thread Cert.FfnBack.nD Cert.FfnBack.τ).loc Cert.FfnBack.main_arg1)
      ∧ r.2.mem ((c.tc : Thread Cert.FfnBack.nD Cert.FfnBack.τ).loc Cert.FfnBack.main_arg2) = m ((c.tc : Thread Cert.FfnBack.nD Cert.FfnBack.τ).loc Cert.FfnBack.main_arg2)
      ∧ r.2.mem ((c.tc : Thread Cert.FfnBack.nD Cert.FfnBack.τ).loc Cert.FfnBack.main_arg3) = m ((c.tc : Thread Cert.FfnBack.nD Cert.FfnBack.τ).loc Cert.FfnBack.main_arg3))
      ∧ r.2.sem = fun _ => 0)

def quiescent_FfnBackIdeal [hFfnBackIdeal : Cert.FfnBackIdeal.Facts] : Prop :=
  ∀ (m : (ℓ : Loc Cert.FfnBackIdeal.nD Cert.FfnBackIdeal.τ Cert.FfnBackIdeal.sig) → Buf (Elt Ideal) ℓ) (g : Dev Cert.FfnBackIdeal.nD → PrngReg), Pre_FfnBackIdeal m →
    θ_run (Cert.FfnBackIdeal.defs (F := Ideal)) (onTc (τ := Cert.FfnBackIdeal.τ) (Cert.FfnBackIdeal.main (F := Ideal))) ⟨m, fun _ => 0, g⟩ (fun r => (∀ c : Dev Cert.FfnBackIdeal.nD,
      r.2.mem ((c.tc : Thread Cert.FfnBackIdeal.nD Cert.FfnBackIdeal.τ).loc Cert.FfnBackIdeal.main_arg0) = m ((c.tc : Thread Cert.FfnBackIdeal.nD Cert.FfnBackIdeal.τ).loc Cert.FfnBackIdeal.main_arg0)
      ∧ r.2.mem ((c.tc : Thread Cert.FfnBackIdeal.nD Cert.FfnBackIdeal.τ).loc Cert.FfnBackIdeal.main_arg1) = m ((c.tc : Thread Cert.FfnBackIdeal.nD Cert.FfnBackIdeal.τ).loc Cert.FfnBackIdeal.main_arg1)
      ∧ r.2.mem ((c.tc : Thread Cert.FfnBackIdeal.nD Cert.FfnBackIdeal.τ).loc Cert.FfnBackIdeal.main_arg2) = m ((c.tc : Thread Cert.FfnBackIdeal.nD Cert.FfnBackIdeal.τ).loc Cert.FfnBackIdeal.main_arg2)
      ∧ r.2.mem ((c.tc : Thread Cert.FfnBackIdeal.nD Cert.FfnBackIdeal.τ).loc Cert.FfnBackIdeal.main_arg3) = m ((c.tc : Thread Cert.FfnBackIdeal.nD Cert.FfnBackIdeal.τ).loc Cert.FfnBackIdeal.main_arg3))
      ∧ r.2.sem = fun _ => 0)

def quiescent_FfnBackIdeal_pre_finite_rows [hFfnBackIdeal : Cert.FfnBackIdeal.Facts] [hPre_finite_rows : Cert.Pre_finite_rows.Facts] : Prop :=
  ∀ (m : (ℓ : Loc Cert.FfnBackIdeal.nD Cert.FfnBackIdeal.τ Cert.FfnBackIdeal.sig) → Buf (Elt Ideal) ℓ) (g : Dev Cert.FfnBackIdeal.nD → PrngReg), Pre_FfnBackIdeal_finite_rows m →
    θ_run (Cert.FfnBackIdeal.defs (F := Ideal)) (onTc (τ := Cert.FfnBackIdeal.τ) (Cert.FfnBackIdeal.main (F := Ideal))) ⟨m, fun _ => 0, g⟩ (fun r => (∀ c : Dev Cert.FfnBackIdeal.nD,
      r.2.mem ((c.tc : Thread Cert.FfnBackIdeal.nD Cert.FfnBackIdeal.τ).loc Cert.FfnBackIdeal.main_arg0) = m ((c.tc : Thread Cert.FfnBackIdeal.nD Cert.FfnBackIdeal.τ).loc Cert.FfnBackIdeal.main_arg0)
      ∧ r.2.mem ((c.tc : Thread Cert.FfnBackIdeal.nD Cert.FfnBackIdeal.τ).loc Cert.FfnBackIdeal.main_arg1) = m ((c.tc : Thread Cert.FfnBackIdeal.nD Cert.FfnBackIdeal.τ).loc Cert.FfnBackIdeal.main_arg1)
      ∧ r.2.mem ((c.tc : Thread Cert.FfnBackIdeal.nD Cert.FfnBackIdeal.τ).loc Cert.FfnBackIdeal.main_arg2) = m ((c.tc : Thread Cert.FfnBackIdeal.nD Cert.FfnBackIdeal.τ).loc Cert.FfnBackIdeal.main_arg2)
      ∧ r.2.mem ((c.tc : Thread Cert.FfnBackIdeal.nD Cert.FfnBackIdeal.τ).loc Cert.FfnBackIdeal.main_arg3) = m ((c.tc : Thread Cert.FfnBackIdeal.nD Cert.FfnBackIdeal.τ).loc Cert.FfnBackIdeal.main_arg3))
      ∧ r.2.sem = fun _ => 0)

def quiescent_FfnBackRefIdeal [hFfnBackRefIdeal : Cert.FfnBackRefIdeal.Facts] : Prop :=
  ∀ (m : (ℓ : Loc Cert.FfnBackRefIdeal.nD Cert.FfnBackRefIdeal.τ Cert.FfnBackRefIdeal.sig) → Buf (Elt Ideal) ℓ) (g : Dev Cert.FfnBackRefIdeal.nD → PrngReg), Pre_FfnBackRefIdeal m →
    θ_run (Cert.FfnBackRefIdeal.defs (F := Ideal)) (onTc (τ := Cert.FfnBackRefIdeal.τ) (Cert.FfnBackRefIdeal.main (F := Ideal))) ⟨m, fun _ => 0, g⟩ (fun r => (∀ c : Dev Cert.FfnBackRefIdeal.nD,
      r.2.mem ((c.tc : Thread Cert.FfnBackRefIdeal.nD Cert.FfnBackRefIdeal.τ).loc Cert.FfnBackRefIdeal.main_arg0) = m ((c.tc : Thread Cert.FfnBackRefIdeal.nD Cert.FfnBackRefIdeal.τ).loc Cert.FfnBackRefIdeal.main_arg0)
      ∧ r.2.mem ((c.tc : Thread Cert.FfnBackRefIdeal.nD Cert.FfnBackRefIdeal.τ).loc Cert.FfnBackRefIdeal.main_arg1) = m ((c.tc : Thread Cert.FfnBackRefIdeal.nD Cert.FfnBackRefIdeal.τ).loc Cert.FfnBackRefIdeal.main_arg1)
      ∧ r.2.mem ((c.tc : Thread Cert.FfnBackRefIdeal.nD Cert.FfnBackRefIdeal.τ).loc Cert.FfnBackRefIdeal.main_arg2) = m ((c.tc : Thread Cert.FfnBackRefIdeal.nD Cert.FfnBackRefIdeal.τ).loc Cert.FfnBackRefIdeal.main_arg2)
      ∧ r.2.mem ((c.tc : Thread Cert.FfnBackRefIdeal.nD Cert.FfnBackRefIdeal.τ).loc Cert.FfnBackRefIdeal.main_arg3) = m ((c.tc : Thread Cert.FfnBackRefIdeal.nD Cert.FfnBackRefIdeal.τ).loc Cert.FfnBackRefIdeal.main_arg3))
      ∧ r.2.sem = fun _ => 0)

def quiescent_FfnBackRefIdeal_pre_finite_rows [hFfnBackRefIdeal : Cert.FfnBackRefIdeal.Facts] [hPre_finite_rows : Cert.Pre_finite_rows.Facts] : Prop :=
  ∀ (m : (ℓ : Loc Cert.FfnBackRefIdeal.nD Cert.FfnBackRefIdeal.τ Cert.FfnBackRefIdeal.sig) → Buf (Elt Ideal) ℓ) (g : Dev Cert.FfnBackRefIdeal.nD → PrngReg), Pre_FfnBackRefIdeal_finite_rows m →
    θ_run (Cert.FfnBackRefIdeal.defs (F := Ideal)) (onTc (τ := Cert.FfnBackRefIdeal.τ) (Cert.FfnBackRefIdeal.main (F := Ideal))) ⟨m, fun _ => 0, g⟩ (fun r => (∀ c : Dev Cert.FfnBackRefIdeal.nD,
      r.2.mem ((c.tc : Thread Cert.FfnBackRefIdeal.nD Cert.FfnBackRefIdeal.τ).loc Cert.FfnBackRefIdeal.main_arg0) = m ((c.tc : Thread Cert.FfnBackRefIdeal.nD Cert.FfnBackRefIdeal.τ).loc Cert.FfnBackRefIdeal.main_arg0)
      ∧ r.2.mem ((c.tc : Thread Cert.FfnBackRefIdeal.nD Cert.FfnBackRefIdeal.τ).loc Cert.FfnBackRefIdeal.main_arg1) = m ((c.tc : Thread Cert.FfnBackRefIdeal.nD Cert.FfnBackRefIdeal.τ).loc Cert.FfnBackRefIdeal.main_arg1)
      ∧ r.2.mem ((c.tc : Thread Cert.FfnBackRefIdeal.nD Cert.FfnBackRefIdeal.τ).loc Cert.FfnBackRefIdeal.main_arg2) = m ((c.tc : Thread Cert.FfnBackRefIdeal.nD Cert.FfnBackRefIdeal.τ).loc Cert.FfnBackRefIdeal.main_arg2)
      ∧ r.2.mem ((c.tc : Thread Cert.FfnBackRefIdeal.nD Cert.FfnBackRefIdeal.τ).loc Cert.FfnBackRefIdeal.main_arg3) = m ((c.tc : Thread Cert.FfnBackRefIdeal.nD Cert.FfnBackRefIdeal.τ).loc Cert.FfnBackRefIdeal.main_arg3))
      ∧ r.2.sem = fun _ => 0)

def quiescent_LruBack [hLruBack : Cert.LruBack.Facts] : Prop :=
  ∀ (m : (ℓ : Loc Cert.LruBack.nD Cert.LruBack.τ Cert.LruBack.sig) → Buf (Elt Bits) ℓ) (g : Dev Cert.LruBack.nD → PrngReg), Pre_LruBack m →
    θ_run (Cert.LruBack.defs (F := Bits)) (onTc (τ := Cert.LruBack.τ) (Cert.LruBack.main (F := Bits))) ⟨m, fun _ => 0, g⟩ (fun r => (∀ c : Dev Cert.LruBack.nD,
      r.2.mem ((c.tc : Thread Cert.LruBack.nD Cert.LruBack.τ).loc Cert.LruBack.main_arg0) = m ((c.tc : Thread Cert.LruBack.nD Cert.LruBack.τ).loc Cert.LruBack.main_arg0)
      ∧ r.2.mem ((c.tc : Thread Cert.LruBack.nD Cert.LruBack.τ).loc Cert.LruBack.main_arg1) = m ((c.tc : Thread Cert.LruBack.nD Cert.LruBack.τ).loc Cert.LruBack.main_arg1)
      ∧ r.2.mem ((c.tc : Thread Cert.LruBack.nD Cert.LruBack.τ).loc Cert.LruBack.main_arg2) = m ((c.tc : Thread Cert.LruBack.nD Cert.LruBack.τ).loc Cert.LruBack.main_arg2)
      ∧ r.2.mem ((c.tc : Thread Cert.LruBack.nD Cert.LruBack.τ).loc Cert.LruBack.main_arg3) = m ((c.tc : Thread Cert.LruBack.nD Cert.LruBack.τ).loc Cert.LruBack.main_arg3)
      ∧ r.2.mem ((c.tc : Thread Cert.LruBack.nD Cert.LruBack.τ).loc Cert.LruBack.main_arg4) = m ((c.tc : Thread Cert.LruBack.nD Cert.LruBack.τ).loc Cert.LruBack.main_arg4))
      ∧ r.2.sem = fun _ => 0)

def quiescent_LruBackIdeal [hLruBackIdeal : Cert.LruBackIdeal.Facts] : Prop :=
  ∀ (m : (ℓ : Loc Cert.LruBackIdeal.nD Cert.LruBackIdeal.τ Cert.LruBackIdeal.sig) → Buf (Elt Ideal) ℓ) (g : Dev Cert.LruBackIdeal.nD → PrngReg), Pre_LruBackIdeal m →
    θ_run (Cert.LruBackIdeal.defs (F := Ideal)) (onTc (τ := Cert.LruBackIdeal.τ) (Cert.LruBackIdeal.main (F := Ideal))) ⟨m, fun _ => 0, g⟩ (fun r => (∀ c : Dev Cert.LruBackIdeal.nD,
      r.2.mem ((c.tc : Thread Cert.LruBackIdeal.nD Cert.LruBackIdeal.τ).loc Cert.LruBackIdeal.main_arg0) = m ((c.tc : Thread Cert.LruBackIdeal.nD Cert.LruBackIdeal.τ).loc Cert.LruBackIdeal.main_arg0)
      ∧ r.2.mem ((c.tc : Thread Cert.LruBackIdeal.nD Cert.LruBackIdeal.τ).loc Cert.LruBackIdeal.main_arg1) = m ((c.tc : Thread Cert.LruBackIdeal.nD Cert.LruBackIdeal.τ).loc Cert.LruBackIdeal.main_arg1)
      ∧ r.2.mem ((c.tc : Thread Cert.LruBackIdeal.nD Cert.LruBackIdeal.τ).loc Cert.LruBackIdeal.main_arg2) = m ((c.tc : Thread Cert.LruBackIdeal.nD Cert.LruBackIdeal.τ).loc Cert.LruBackIdeal.main_arg2)
      ∧ r.2.mem ((c.tc : Thread Cert.LruBackIdeal.nD Cert.LruBackIdeal.τ).loc Cert.LruBackIdeal.main_arg3) = m ((c.tc : Thread Cert.LruBackIdeal.nD Cert.LruBackIdeal.τ).loc Cert.LruBackIdeal.main_arg3)
      ∧ r.2.mem ((c.tc : Thread Cert.LruBackIdeal.nD Cert.LruBackIdeal.τ).loc Cert.LruBackIdeal.main_arg4) = m ((c.tc : Thread Cert.LruBackIdeal.nD Cert.LruBackIdeal.τ).loc Cert.LruBackIdeal.main_arg4))
      ∧ r.2.sem = fun _ => 0)

def quiescent_LruBackIdeal_pre_finite_lru_rows [hLruBackIdeal : Cert.LruBackIdeal.Facts] [hPre_finite_lru_rows : Cert.Pre_finite_lru_rows.Facts] : Prop :=
  ∀ (m : (ℓ : Loc Cert.LruBackIdeal.nD Cert.LruBackIdeal.τ Cert.LruBackIdeal.sig) → Buf (Elt Ideal) ℓ) (g : Dev Cert.LruBackIdeal.nD → PrngReg), Pre_LruBackIdeal_finite_lru_rows m →
    θ_run (Cert.LruBackIdeal.defs (F := Ideal)) (onTc (τ := Cert.LruBackIdeal.τ) (Cert.LruBackIdeal.main (F := Ideal))) ⟨m, fun _ => 0, g⟩ (fun r => (∀ c : Dev Cert.LruBackIdeal.nD,
      r.2.mem ((c.tc : Thread Cert.LruBackIdeal.nD Cert.LruBackIdeal.τ).loc Cert.LruBackIdeal.main_arg0) = m ((c.tc : Thread Cert.LruBackIdeal.nD Cert.LruBackIdeal.τ).loc Cert.LruBackIdeal.main_arg0)
      ∧ r.2.mem ((c.tc : Thread Cert.LruBackIdeal.nD Cert.LruBackIdeal.τ).loc Cert.LruBackIdeal.main_arg1) = m ((c.tc : Thread Cert.LruBackIdeal.nD Cert.LruBackIdeal.τ).loc Cert.LruBackIdeal.main_arg1)
      ∧ r.2.mem ((c.tc : Thread Cert.LruBackIdeal.nD Cert.LruBackIdeal.τ).loc Cert.LruBackIdeal.main_arg2) = m ((c.tc : Thread Cert.LruBackIdeal.nD Cert.LruBackIdeal.τ).loc Cert.LruBackIdeal.main_arg2)
      ∧ r.2.mem ((c.tc : Thread Cert.LruBackIdeal.nD Cert.LruBackIdeal.τ).loc Cert.LruBackIdeal.main_arg3) = m ((c.tc : Thread Cert.LruBackIdeal.nD Cert.LruBackIdeal.τ).loc Cert.LruBackIdeal.main_arg3)
      ∧ r.2.mem ((c.tc : Thread Cert.LruBackIdeal.nD Cert.LruBackIdeal.τ).loc Cert.LruBackIdeal.main_arg4) = m ((c.tc : Thread Cert.LruBackIdeal.nD Cert.LruBackIdeal.τ).loc Cert.LruBackIdeal.main_arg4))
      ∧ r.2.sem = fun _ => 0)

def quiescent_LruBackRefIdeal [hLruBackRefIdeal : Cert.LruBackRefIdeal.Facts] : Prop :=
  ∀ (m : (ℓ : Loc Cert.LruBackRefIdeal.nD Cert.LruBackRefIdeal.τ Cert.LruBackRefIdeal.sig) → Buf (Elt Ideal) ℓ) (g : Dev Cert.LruBackRefIdeal.nD → PrngReg), Pre_LruBackRefIdeal m →
    θ_run (Cert.LruBackRefIdeal.defs (F := Ideal)) (onTc (τ := Cert.LruBackRefIdeal.τ) (Cert.LruBackRefIdeal.main (F := Ideal))) ⟨m, fun _ => 0, g⟩ (fun r => (∀ c : Dev Cert.LruBackRefIdeal.nD,
      r.2.mem ((c.tc : Thread Cert.LruBackRefIdeal.nD Cert.LruBackRefIdeal.τ).loc Cert.LruBackRefIdeal.main_arg0) = m ((c.tc : Thread Cert.LruBackRefIdeal.nD Cert.LruBackRefIdeal.τ).loc Cert.LruBackRefIdeal.main_arg0)
      ∧ r.2.mem ((c.tc : Thread Cert.LruBackRefIdeal.nD Cert.LruBackRefIdeal.τ).loc Cert.LruBackRefIdeal.main_arg1) = m ((c.tc : Thread Cert.LruBackRefIdeal.nD Cert.LruBackRefIdeal.τ).loc Cert.LruBackRefIdeal.main_arg1)
      ∧ r.2.mem ((c.tc : Thread Cert.LruBackRefIdeal.nD Cert.LruBackRefIdeal.τ).loc Cert.LruBackRefIdeal.main_arg2) = m ((c.tc : Thread Cert.LruBackRefIdeal.nD Cert.LruBackRefIdeal.τ).loc Cert.LruBackRefIdeal.main_arg2)
      ∧ r.2.mem ((c.tc : Thread Cert.LruBackRefIdeal.nD Cert.LruBackRefIdeal.τ).loc Cert.LruBackRefIdeal.main_arg3) = m ((c.tc : Thread Cert.LruBackRefIdeal.nD Cert.LruBackRefIdeal.τ).loc Cert.LruBackRefIdeal.main_arg3)
      ∧ r.2.mem ((c.tc : Thread Cert.LruBackRefIdeal.nD Cert.LruBackRefIdeal.τ).loc Cert.LruBackRefIdeal.main_arg4) = m ((c.tc : Thread Cert.LruBackRefIdeal.nD Cert.LruBackRefIdeal.τ).loc Cert.LruBackRefIdeal.main_arg4))
      ∧ r.2.sem = fun _ => 0)

def quiescent_LruBackRefIdeal_pre_finite_lru_rows [hLruBackRefIdeal : Cert.LruBackRefIdeal.Facts] [hPre_finite_lru_rows : Cert.Pre_finite_lru_rows.Facts] : Prop :=
  ∀ (m : (ℓ : Loc Cert.LruBackRefIdeal.nD Cert.LruBackRefIdeal.τ Cert.LruBackRefIdeal.sig) → Buf (Elt Ideal) ℓ) (g : Dev Cert.LruBackRefIdeal.nD → PrngReg), Pre_LruBackRefIdeal_finite_lru_rows m →
    θ_run (Cert.LruBackRefIdeal.defs (F := Ideal)) (onTc (τ := Cert.LruBackRefIdeal.τ) (Cert.LruBackRefIdeal.main (F := Ideal))) ⟨m, fun _ => 0, g⟩ (fun r => (∀ c : Dev Cert.LruBackRefIdeal.nD,
      r.2.mem ((c.tc : Thread Cert.LruBackRefIdeal.nD Cert.LruBackRefIdeal.τ).loc Cert.LruBackRefIdeal.main_arg0) = m ((c.tc : Thread Cert.LruBackRefIdeal.nD Cert.LruBackRefIdeal.τ).loc Cert.LruBackRefIdeal.main_arg0)
      ∧ r.2.mem ((c.tc : Thread Cert.LruBackRefIdeal.nD Cert.LruBackRefIdeal.τ).loc Cert.LruBackRefIdeal.main_arg1) = m ((c.tc : Thread Cert.LruBackRefIdeal.nD Cert.LruBackRefIdeal.τ).loc Cert.LruBackRefIdeal.main_arg1)
      ∧ r.2.mem ((c.tc : Thread Cert.LruBackRefIdeal.nD Cert.LruBackRefIdeal.τ).loc Cert.LruBackRefIdeal.main_arg2) = m ((c.tc : Thread Cert.LruBackRefIdeal.nD Cert.LruBackRefIdeal.τ).loc Cert.LruBackRefIdeal.main_arg2)
      ∧ r.2.mem ((c.tc : Thread Cert.LruBackRefIdeal.nD Cert.LruBackRefIdeal.τ).loc Cert.LruBackRefIdeal.main_arg3) = m ((c.tc : Thread Cert.LruBackRefIdeal.nD Cert.LruBackRefIdeal.τ).loc Cert.LruBackRefIdeal.main_arg3)
      ∧ r.2.mem ((c.tc : Thread Cert.LruBackRefIdeal.nD Cert.LruBackRefIdeal.τ).loc Cert.LruBackRefIdeal.main_arg4) = m ((c.tc : Thread Cert.LruBackRefIdeal.nD Cert.LruBackRefIdeal.τ).loc Cert.LruBackRefIdeal.main_arg4))
      ∧ r.2.sem = fun _ => 0)

def quiescent_AttnBack [hAttnBack : Cert.AttnBack.Facts] : Prop :=
  ∀ (m : (ℓ : Loc Cert.AttnBack.nD Cert.AttnBack.τ Cert.AttnBack.sig) → Buf (Elt Bits) ℓ) (g : Dev Cert.AttnBack.nD → PrngReg), Pre_AttnBack m →
    θ_run (Cert.AttnBack.defs (F := Bits)) (onTc (τ := Cert.AttnBack.τ) (Cert.AttnBack.main (F := Bits))) ⟨m, fun _ => 0, g⟩ (fun r => (∀ c : Dev Cert.AttnBack.nD,
      r.2.mem ((c.tc : Thread Cert.AttnBack.nD Cert.AttnBack.τ).loc Cert.AttnBack.main_arg0) = m ((c.tc : Thread Cert.AttnBack.nD Cert.AttnBack.τ).loc Cert.AttnBack.main_arg0)
      ∧ r.2.mem ((c.tc : Thread Cert.AttnBack.nD Cert.AttnBack.τ).loc Cert.AttnBack.main_arg1) = m ((c.tc : Thread Cert.AttnBack.nD Cert.AttnBack.τ).loc Cert.AttnBack.main_arg1)
      ∧ r.2.mem ((c.tc : Thread Cert.AttnBack.nD Cert.AttnBack.τ).loc Cert.AttnBack.main_arg2) = m ((c.tc : Thread Cert.AttnBack.nD Cert.AttnBack.τ).loc Cert.AttnBack.main_arg2)
      ∧ r.2.mem ((c.tc : Thread Cert.AttnBack.nD Cert.AttnBack.τ).loc Cert.AttnBack.main_arg3) = m ((c.tc : Thread Cert.AttnBack.nD Cert.AttnBack.τ).loc Cert.AttnBack.main_arg3)
      ∧ r.2.mem ((c.tc : Thread Cert.AttnBack.nD Cert.AttnBack.τ).loc Cert.AttnBack.main_arg4) = m ((c.tc : Thread Cert.AttnBack.nD Cert.AttnBack.τ).loc Cert.AttnBack.main_arg4))
      ∧ r.2.sem = fun _ => 0)

def quiescent_AttnBackIdeal [hAttnBackIdeal : Cert.AttnBackIdeal.Facts] : Prop :=
  ∀ (m : (ℓ : Loc Cert.AttnBackIdeal.nD Cert.AttnBackIdeal.τ Cert.AttnBackIdeal.sig) → Buf (Elt Ideal) ℓ) (g : Dev Cert.AttnBackIdeal.nD → PrngReg), Pre_AttnBackIdeal m →
    θ_run (Cert.AttnBackIdeal.defs (F := Ideal)) (onTc (τ := Cert.AttnBackIdeal.τ) (Cert.AttnBackIdeal.main (F := Ideal))) ⟨m, fun _ => 0, g⟩ (fun r => (∀ c : Dev Cert.AttnBackIdeal.nD,
      r.2.mem ((c.tc : Thread Cert.AttnBackIdeal.nD Cert.AttnBackIdeal.τ).loc Cert.AttnBackIdeal.main_arg0) = m ((c.tc : Thread Cert.AttnBackIdeal.nD Cert.AttnBackIdeal.τ).loc Cert.AttnBackIdeal.main_arg0)
      ∧ r.2.mem ((c.tc : Thread Cert.AttnBackIdeal.nD Cert.AttnBackIdeal.τ).loc Cert.AttnBackIdeal.main_arg1) = m ((c.tc : Thread Cert.AttnBackIdeal.nD Cert.AttnBackIdeal.τ).loc Cert.AttnBackIdeal.main_arg1)
      ∧ r.2.mem ((c.tc : Thread Cert.AttnBackIdeal.nD Cert.AttnBackIdeal.τ).loc Cert.AttnBackIdeal.main_arg2) = m ((c.tc : Thread Cert.AttnBackIdeal.nD Cert.AttnBackIdeal.τ).loc Cert.AttnBackIdeal.main_arg2)
      ∧ r.2.mem ((c.tc : Thread Cert.AttnBackIdeal.nD Cert.AttnBackIdeal.τ).loc Cert.AttnBackIdeal.main_arg3) = m ((c.tc : Thread Cert.AttnBackIdeal.nD Cert.AttnBackIdeal.τ).loc Cert.AttnBackIdeal.main_arg3)
      ∧ r.2.mem ((c.tc : Thread Cert.AttnBackIdeal.nD Cert.AttnBackIdeal.τ).loc Cert.AttnBackIdeal.main_arg4) = m ((c.tc : Thread Cert.AttnBackIdeal.nD Cert.AttnBackIdeal.τ).loc Cert.AttnBackIdeal.main_arg4))
      ∧ r.2.sem = fun _ => 0)

def quiescent_AttnBackIdeal_pre_finite_attn_rows [hAttnBackIdeal : Cert.AttnBackIdeal.Facts] [hPre_finite_attn_rows : Cert.Pre_finite_attn_rows.Facts] : Prop :=
  ∀ (m : (ℓ : Loc Cert.AttnBackIdeal.nD Cert.AttnBackIdeal.τ Cert.AttnBackIdeal.sig) → Buf (Elt Ideal) ℓ) (g : Dev Cert.AttnBackIdeal.nD → PrngReg), Pre_AttnBackIdeal_finite_attn_rows m →
    θ_run (Cert.AttnBackIdeal.defs (F := Ideal)) (onTc (τ := Cert.AttnBackIdeal.τ) (Cert.AttnBackIdeal.main (F := Ideal))) ⟨m, fun _ => 0, g⟩ (fun r => (∀ c : Dev Cert.AttnBackIdeal.nD,
      r.2.mem ((c.tc : Thread Cert.AttnBackIdeal.nD Cert.AttnBackIdeal.τ).loc Cert.AttnBackIdeal.main_arg0) = m ((c.tc : Thread Cert.AttnBackIdeal.nD Cert.AttnBackIdeal.τ).loc Cert.AttnBackIdeal.main_arg0)
      ∧ r.2.mem ((c.tc : Thread Cert.AttnBackIdeal.nD Cert.AttnBackIdeal.τ).loc Cert.AttnBackIdeal.main_arg1) = m ((c.tc : Thread Cert.AttnBackIdeal.nD Cert.AttnBackIdeal.τ).loc Cert.AttnBackIdeal.main_arg1)
      ∧ r.2.mem ((c.tc : Thread Cert.AttnBackIdeal.nD Cert.AttnBackIdeal.τ).loc Cert.AttnBackIdeal.main_arg2) = m ((c.tc : Thread Cert.AttnBackIdeal.nD Cert.AttnBackIdeal.τ).loc Cert.AttnBackIdeal.main_arg2)
      ∧ r.2.mem ((c.tc : Thread Cert.AttnBackIdeal.nD Cert.AttnBackIdeal.τ).loc Cert.AttnBackIdeal.main_arg3) = m ((c.tc : Thread Cert.AttnBackIdeal.nD Cert.AttnBackIdeal.τ).loc Cert.AttnBackIdeal.main_arg3)
      ∧ r.2.mem ((c.tc : Thread Cert.AttnBackIdeal.nD Cert.AttnBackIdeal.τ).loc Cert.AttnBackIdeal.main_arg4) = m ((c.tc : Thread Cert.AttnBackIdeal.nD Cert.AttnBackIdeal.τ).loc Cert.AttnBackIdeal.main_arg4))
      ∧ r.2.sem = fun _ => 0)

def quiescent_AttnBackRefIdeal [hAttnBackRefIdeal : Cert.AttnBackRefIdeal.Facts] : Prop :=
  ∀ (m : (ℓ : Loc Cert.AttnBackRefIdeal.nD Cert.AttnBackRefIdeal.τ Cert.AttnBackRefIdeal.sig) → Buf (Elt Ideal) ℓ) (g : Dev Cert.AttnBackRefIdeal.nD → PrngReg), Pre_AttnBackRefIdeal m →
    θ_run (Cert.AttnBackRefIdeal.defs (F := Ideal)) (onTc (τ := Cert.AttnBackRefIdeal.τ) (Cert.AttnBackRefIdeal.main (F := Ideal))) ⟨m, fun _ => 0, g⟩ (fun r => (∀ c : Dev Cert.AttnBackRefIdeal.nD,
      r.2.mem ((c.tc : Thread Cert.AttnBackRefIdeal.nD Cert.AttnBackRefIdeal.τ).loc Cert.AttnBackRefIdeal.main_arg0) = m ((c.tc : Thread Cert.AttnBackRefIdeal.nD Cert.AttnBackRefIdeal.τ).loc Cert.AttnBackRefIdeal.main_arg0)
      ∧ r.2.mem ((c.tc : Thread Cert.AttnBackRefIdeal.nD Cert.AttnBackRefIdeal.τ).loc Cert.AttnBackRefIdeal.main_arg1) = m ((c.tc : Thread Cert.AttnBackRefIdeal.nD Cert.AttnBackRefIdeal.τ).loc Cert.AttnBackRefIdeal.main_arg1)
      ∧ r.2.mem ((c.tc : Thread Cert.AttnBackRefIdeal.nD Cert.AttnBackRefIdeal.τ).loc Cert.AttnBackRefIdeal.main_arg2) = m ((c.tc : Thread Cert.AttnBackRefIdeal.nD Cert.AttnBackRefIdeal.τ).loc Cert.AttnBackRefIdeal.main_arg2)
      ∧ r.2.mem ((c.tc : Thread Cert.AttnBackRefIdeal.nD Cert.AttnBackRefIdeal.τ).loc Cert.AttnBackRefIdeal.main_arg3) = m ((c.tc : Thread Cert.AttnBackRefIdeal.nD Cert.AttnBackRefIdeal.τ).loc Cert.AttnBackRefIdeal.main_arg3)
      ∧ r.2.mem ((c.tc : Thread Cert.AttnBackRefIdeal.nD Cert.AttnBackRefIdeal.τ).loc Cert.AttnBackRefIdeal.main_arg4) = m ((c.tc : Thread Cert.AttnBackRefIdeal.nD Cert.AttnBackRefIdeal.τ).loc Cert.AttnBackRefIdeal.main_arg4))
      ∧ r.2.sem = fun _ => 0)

def quiescent_AttnBackRefIdeal_pre_finite_attn_rows [hAttnBackRefIdeal : Cert.AttnBackRefIdeal.Facts] [hPre_finite_attn_rows : Cert.Pre_finite_attn_rows.Facts] : Prop :=
  ∀ (m : (ℓ : Loc Cert.AttnBackRefIdeal.nD Cert.AttnBackRefIdeal.τ Cert.AttnBackRefIdeal.sig) → Buf (Elt Ideal) ℓ) (g : Dev Cert.AttnBackRefIdeal.nD → PrngReg), Pre_AttnBackRefIdeal_finite_attn_rows m →
    θ_run (Cert.AttnBackRefIdeal.defs (F := Ideal)) (onTc (τ := Cert.AttnBackRefIdeal.τ) (Cert.AttnBackRefIdeal.main (F := Ideal))) ⟨m, fun _ => 0, g⟩ (fun r => (∀ c : Dev Cert.AttnBackRefIdeal.nD,
      r.2.mem ((c.tc : Thread Cert.AttnBackRefIdeal.nD Cert.AttnBackRefIdeal.τ).loc Cert.AttnBackRefIdeal.main_arg0) = m ((c.tc : Thread Cert.AttnBackRefIdeal.nD Cert.AttnBackRefIdeal.τ).loc Cert.AttnBackRefIdeal.main_arg0)
      ∧ r.2.mem ((c.tc : Thread Cert.AttnBackRefIdeal.nD Cert.AttnBackRefIdeal.τ).loc Cert.AttnBackRefIdeal.main_arg1) = m ((c.tc : Thread Cert.AttnBackRefIdeal.nD Cert.AttnBackRefIdeal.τ).loc Cert.AttnBackRefIdeal.main_arg1)
      ∧ r.2.mem ((c.tc : Thread Cert.AttnBackRefIdeal.nD Cert.AttnBackRefIdeal.τ).loc Cert.AttnBackRefIdeal.main_arg2) = m ((c.tc : Thread Cert.AttnBackRefIdeal.nD Cert.AttnBackRefIdeal.τ).loc Cert.AttnBackRefIdeal.main_arg2)
      ∧ r.2.mem ((c.tc : Thread Cert.AttnBackRefIdeal.nD Cert.AttnBackRefIdeal.τ).loc Cert.AttnBackRefIdeal.main_arg3) = m ((c.tc : Thread Cert.AttnBackRefIdeal.nD Cert.AttnBackRefIdeal.τ).loc Cert.AttnBackRefIdeal.main_arg3)
      ∧ r.2.mem ((c.tc : Thread Cert.AttnBackRefIdeal.nD Cert.AttnBackRefIdeal.τ).loc Cert.AttnBackRefIdeal.main_arg4) = m ((c.tc : Thread Cert.AttnBackRefIdeal.nD Cert.AttnBackRefIdeal.τ).loc Cert.AttnBackRefIdeal.main_arg4))
      ∧ r.2.sem = fun _ => 0)

def preserves_AttnGrad_AttnGradIdeal : Prop :=
  IdealRules.named_const.Statement Cert.AttnGradIdeal.κ "mask" .f32 0xF149F2CA#32 ⊥

def algebraic_AttnGradIdeal_AttnGradRefIdeal_pre_finite_operands [hAttnGradIdeal : Cert.AttnGradIdeal.Facts] [hAttnGradRefIdeal : Cert.AttnGradRefIdeal.Facts] [hPre_finite_operands : Cert.Pre_finite_operands.Facts] : Prop :=
  ∀ (m : (ℓ : Loc Cert.AttnGradIdeal.nD Cert.AttnGradIdeal.τ Cert.AttnGradIdeal.sig) → Buf (Elt Ideal) ℓ) (g : Dev Cert.AttnGradIdeal.nD → PrngReg)
    (m' : (ℓ : Loc Cert.AttnGradRefIdeal.nD Cert.AttnGradRefIdeal.τ Cert.AttnGradRefIdeal.sig) → Buf (Elt Ideal) ℓ) (g' : Dev Cert.AttnGradRefIdeal.nD → PrngReg), Pre_AttnGradIdeal_finite_operands m →
    (∀ c : Dev Cert.AttnGradIdeal.nD,
      m' ((c.tc : Thread Cert.AttnGradRefIdeal.nD Cert.AttnGradRefIdeal.τ).loc Cert.AttnGradRefIdeal.main_arg0) = m ((c.tc : Thread Cert.AttnGradIdeal.nD Cert.AttnGradIdeal.τ).loc Cert.AttnGradIdeal.main_arg0)
      ∧ m' ((c.tc : Thread Cert.AttnGradRefIdeal.nD Cert.AttnGradRefIdeal.τ).loc Cert.AttnGradRefIdeal.main_arg1) = m ((c.tc : Thread Cert.AttnGradIdeal.nD Cert.AttnGradIdeal.τ).loc Cert.AttnGradIdeal.main_arg1)
      ∧ m' ((c.tc : Thread Cert.AttnGradRefIdeal.nD Cert.AttnGradRefIdeal.τ).loc Cert.AttnGradRefIdeal.main_arg2) = m ((c.tc : Thread Cert.AttnGradIdeal.nD Cert.AttnGradIdeal.τ).loc Cert.AttnGradIdeal.main_arg2)
      ∧ m' ((c.tc : Thread Cert.AttnGradRefIdeal.nD Cert.AttnGradRefIdeal.τ).loc Cert.AttnGradRefIdeal.main_arg3) = m ((c.tc : Thread Cert.AttnGradIdeal.nD Cert.AttnGradIdeal.τ).loc Cert.AttnGradIdeal.main_arg3)
      ∧ m' ((c.tc : Thread Cert.AttnGradRefIdeal.nD Cert.AttnGradRefIdeal.τ).loc Cert.AttnGradRefIdeal.main_arg4) = m ((c.tc : Thread Cert.AttnGradIdeal.nD Cert.AttnGradIdeal.τ).loc Cert.AttnGradIdeal.main_arg4)) →
    ∃ (v0 : (c : Dev Cert.AttnGradIdeal.nD) → Buf (Elt Ideal) ((c.tc : Thread Cert.AttnGradIdeal.nD Cert.AttnGradIdeal.τ).loc Cert.AttnGradIdeal.main_v3_0)) (v1 : (c : Dev Cert.AttnGradIdeal.nD) → Buf (Elt Ideal) ((c.tc : Thread Cert.AttnGradIdeal.nD Cert.AttnGradIdeal.τ).loc Cert.AttnGradIdeal.main_v3_1)) (v2 : (c : Dev Cert.AttnGradIdeal.nD) → Buf (Elt Ideal) ((c.tc : Thread Cert.AttnGradIdeal.nD Cert.AttnGradIdeal.τ).loc Cert.AttnGradIdeal.main_v3_2)) (v3 : (c : Dev Cert.AttnGradIdeal.nD) → Buf (Elt Ideal) ((c.tc : Thread Cert.AttnGradIdeal.nD Cert.AttnGradIdeal.τ).loc Cert.AttnGradIdeal.main_v3_3)) (v4 : (c : Dev Cert.AttnGradIdeal.nD) → Buf (Elt Ideal) ((c.tc : Thread Cert.AttnGradIdeal.nD Cert.AttnGradIdeal.τ).loc Cert.AttnGradIdeal.main_v3_4)),
      θ_run (Cert.AttnGradIdeal.defs (F := Ideal)) (onTc (τ := Cert.AttnGradIdeal.τ) (Cert.AttnGradIdeal.main (F := Ideal))) ⟨m, fun _ => 0, g⟩ (fun r => ∀ c : Dev Cert.AttnGradIdeal.nD,
          r.2.mem ((c.tc : Thread Cert.AttnGradIdeal.nD Cert.AttnGradIdeal.τ).loc Cert.AttnGradIdeal.main_v3_0) = v0 c
          ∧ r.2.mem ((c.tc : Thread Cert.AttnGradIdeal.nD Cert.AttnGradIdeal.τ).loc Cert.AttnGradIdeal.main_v3_1) = v1 c
          ∧ r.2.mem ((c.tc : Thread Cert.AttnGradIdeal.nD Cert.AttnGradIdeal.τ).loc Cert.AttnGradIdeal.main_v3_2) = v2 c
          ∧ r.2.mem ((c.tc : Thread Cert.AttnGradIdeal.nD Cert.AttnGradIdeal.τ).loc Cert.AttnGradIdeal.main_v3_3) = v3 c
          ∧ r.2.mem ((c.tc : Thread Cert.AttnGradIdeal.nD Cert.AttnGradIdeal.τ).loc Cert.AttnGradIdeal.main_v3_4) = v4 c
          ∧ r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
          ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1)
          ∧ r.2.mem ((c.tc : Thread Cert.AttnGradIdeal.nD Cert.AttnGradIdeal.τ).loc Cert.AttnGradIdeal.main_arg2) = m ((c.tc : Thread Cert.AttnGradIdeal.nD Cert.AttnGradIdeal.τ).loc Cert.AttnGradIdeal.main_arg2)
          ∧ r.2.mem ((c.tc : Thread Cert.AttnGradIdeal.nD Cert.AttnGradIdeal.τ).loc Cert.AttnGradIdeal.main_arg3) = m ((c.tc : Thread Cert.AttnGradIdeal.nD Cert.AttnGradIdeal.τ).loc Cert.AttnGradIdeal.main_arg3)
          ∧ r.2.mem ((c.tc : Thread Cert.AttnGradIdeal.nD Cert.AttnGradIdeal.τ).loc Cert.AttnGradIdeal.main_arg4) = m ((c.tc : Thread Cert.AttnGradIdeal.nD Cert.AttnGradIdeal.τ).loc Cert.AttnGradIdeal.main_arg4))
      ∧ θ_run (Cert.AttnGradRefIdeal.defs (F := Ideal)) (onTc (τ := Cert.AttnGradRefIdeal.τ) (Cert.AttnGradRefIdeal.main (F := Ideal))) ⟨m', fun _ => 0, g'⟩ (fun r => ∀ c : Dev Cert.AttnGradRefIdeal.nD,
          r.2.mem ((c.tc : Thread Cert.AttnGradRefIdeal.nD Cert.AttnGradRefIdeal.τ).loc Cert.AttnGradRefIdeal.main_v110) = v0 c
          ∧ r.2.mem ((c.tc : Thread Cert.AttnGradRefIdeal.nD Cert.AttnGradRefIdeal.τ).loc Cert.AttnGradRefIdeal.main_v111) = v1 c
          ∧ r.2.mem ((c.tc : Thread Cert.AttnGradRefIdeal.nD Cert.AttnGradRefIdeal.τ).loc Cert.AttnGradRefIdeal.main_v105) = v2 c
          ∧ r.2.mem ((c.tc : Thread Cert.AttnGradRefIdeal.nD Cert.AttnGradRefIdeal.τ).loc Cert.AttnGradRefIdeal.main_v104) = v3 c
          ∧ r.2.mem ((c.tc : Thread Cert.AttnGradRefIdeal.nD Cert.AttnGradRefIdeal.τ).loc Cert.AttnGradRefIdeal.main_v109) = v4 c
          ∧ r.2.mem ((c.tc : Thread Cert.AttnGradRefIdeal.nD Cert.AttnGradRefIdeal.τ).loc Cert.AttnGradRefIdeal.main_arg0) = m' ((c.tc : Thread Cert.AttnGradRefIdeal.nD Cert.AttnGradRefIdeal.τ).loc Cert.AttnGradRefIdeal.main_arg0)
          ∧ r.2.mem ((c.tc : Thread Cert.AttnGradRefIdeal.nD Cert.AttnGradRefIdeal.τ).loc Cert.AttnGradRefIdeal.main_arg1) = m' ((c.tc : Thread Cert.AttnGradRefIdeal.nD Cert.AttnGradRefIdeal.τ).loc Cert.AttnGradRefIdeal.main_arg1)
          ∧ r.2.mem ((c.tc : Thread Cert.AttnGradRefIdeal.nD Cert.AttnGradRefIdeal.τ).loc Cert.AttnGradRefIdeal.main_arg2) = m' ((c.tc : Thread Cert.AttnGradRefIdeal.nD Cert.AttnGradRefIdeal.τ).loc Cert.AttnGradRefIdeal.main_arg2)
          ∧ r.2.mem ((c.tc : Thread Cert.AttnGradRefIdeal.nD Cert.AttnGradRefIdeal.τ).loc Cert.AttnGradRefIdeal.main_arg3) = m' ((c.tc : Thread Cert.AttnGradRefIdeal.nD Cert.AttnGradRefIdeal.τ).loc Cert.AttnGradRefIdeal.main_arg3)
          ∧ r.2.mem ((c.tc : Thread Cert.AttnGradRefIdeal.nD Cert.AttnGradRefIdeal.τ).loc Cert.AttnGradRefIdeal.main_arg4) = m' ((c.tc : Thread Cert.AttnGradRefIdeal.nD Cert.AttnGradRefIdeal.τ).loc Cert.AttnGradRefIdeal.main_arg4))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v4) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_FfnInDx_FfnInDxIdeal : Prop :=
  True

def algebraic_FfnInDxIdeal_FfnInDxRefIdeal [hFfnInDxIdeal : Cert.FfnInDxIdeal.Facts] [hFfnInDxRefIdeal : Cert.FfnInDxRefIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg)
    (m' : (ℓ : Loc Cert.FfnInDxRefIdeal.nD Cert.FfnInDxRefIdeal.τ Cert.FfnInDxRefIdeal.sig) → Buf (Elt Ideal) ℓ) (g' : Dev Cert.FfnInDxRefIdeal.nD → PrngReg), Pre_FfnInDxIdeal m →
    (∀ c : Dev Cert.FfnInDxIdeal.nD,
      m' ((c.tc : Thread Cert.FfnInDxRefIdeal.nD Cert.FfnInDxRefIdeal.τ).loc Cert.FfnInDxRefIdeal.main_arg0) = m ((c.tc : Thread Cert.FfnInDxIdeal.nD Cert.FfnInDxIdeal.τ).loc Cert.FfnInDxIdeal.main_arg0)
      ∧ m' ((c.tc : Thread Cert.FfnInDxRefIdeal.nD Cert.FfnInDxRefIdeal.τ).loc Cert.FfnInDxRefIdeal.main_arg1) = m ((c.tc : Thread Cert.FfnInDxIdeal.nD Cert.FfnInDxIdeal.τ).loc Cert.FfnInDxIdeal.main_arg1)
      ∧ m' ((c.tc : Thread Cert.FfnInDxRefIdeal.nD Cert.FfnInDxRefIdeal.τ).loc Cert.FfnInDxRefIdeal.main_arg2) = m ((c.tc : Thread Cert.FfnInDxIdeal.nD Cert.FfnInDxIdeal.τ).loc Cert.FfnInDxIdeal.main_arg2)) →
    ∃ (v0 : (c : Dev Cert.FfnInDxIdeal.nD) → Buf (Elt Ideal) ((c.tc : Thread Cert.FfnInDxIdeal.nD Cert.FfnInDxIdeal.τ).loc Cert.FfnInDxIdeal.main_v0)),
      θ_run (Cert.FfnInDxIdeal.defs (F := Ideal)) (onTc (τ := Cert.FfnInDxIdeal.τ) (Cert.FfnInDxIdeal.main (F := Ideal))) ⟨m, fun _ => 0, g⟩ (fun r => ∀ c : Dev Cert.FfnInDxIdeal.nD,
          r.2.mem ((c.tc : Thread Cert.FfnInDxIdeal.nD Cert.FfnInDxIdeal.τ).loc Cert.FfnInDxIdeal.main_v0) = v0 c
          ∧ r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
          ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1)
          ∧ r.2.mem ((c.tc : Thread Cert.FfnInDxIdeal.nD Cert.FfnInDxIdeal.τ).loc Cert.FfnInDxIdeal.main_arg2) = m ((c.tc : Thread Cert.FfnInDxIdeal.nD Cert.FfnInDxIdeal.τ).loc Cert.FfnInDxIdeal.main_arg2))
      ∧ θ_run (Cert.FfnInDxRefIdeal.defs (F := Ideal)) (onTc (τ := Cert.FfnInDxRefIdeal.τ) (Cert.FfnInDxRefIdeal.main (F := Ideal))) ⟨m', fun _ => 0, g'⟩ (fun r => ∀ c : Dev Cert.FfnInDxRefIdeal.nD,
          r.2.mem ((c.tc : Thread Cert.FfnInDxRefIdeal.nD Cert.FfnInDxRefIdeal.τ).loc Cert.FfnInDxRefIdeal.main_v8) = v0 c
          ∧ r.2.mem ((c.tc : Thread Cert.FfnInDxRefIdeal.nD Cert.FfnInDxRefIdeal.τ).loc Cert.FfnInDxRefIdeal.main_arg0) = m' ((c.tc : Thread Cert.FfnInDxRefIdeal.nD Cert.FfnInDxRefIdeal.τ).loc Cert.FfnInDxRefIdeal.main_arg0)
          ∧ r.2.mem ((c.tc : Thread Cert.FfnInDxRefIdeal.nD Cert.FfnInDxRefIdeal.τ).loc Cert.FfnInDxRefIdeal.main_arg1) = m' ((c.tc : Thread Cert.FfnInDxRefIdeal.nD Cert.FfnInDxRefIdeal.τ).loc Cert.FfnInDxRefIdeal.main_arg1)
          ∧ r.2.mem ((c.tc : Thread Cert.FfnInDxRefIdeal.nD Cert.FfnInDxRefIdeal.τ).loc Cert.FfnInDxRefIdeal.main_arg2) = m' ((c.tc : Thread Cert.FfnInDxRefIdeal.nD Cert.FfnInDxRefIdeal.τ).loc Cert.FfnInDxRefIdeal.main_arg2))

def preserves_FfnInDw_FfnInDwIdeal : Prop :=
  True

def algebraic_FfnInDwIdeal_FfnInDwRefIdeal [hFfnInDwIdeal : Cert.FfnInDwIdeal.Facts] [hFfnInDwRefIdeal : Cert.FfnInDwRefIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg)
    (m' : (ℓ : Loc Cert.FfnInDwRefIdeal.nD Cert.FfnInDwRefIdeal.τ Cert.FfnInDwRefIdeal.sig) → Buf (Elt Ideal) ℓ) (g' : Dev Cert.FfnInDwRefIdeal.nD → PrngReg), Pre_FfnInDwIdeal m →
    (∀ c : Dev Cert.FfnInDwIdeal.nD,
      m' ((c.tc : Thread Cert.FfnInDwRefIdeal.nD Cert.FfnInDwRefIdeal.τ).loc Cert.FfnInDwRefIdeal.main_arg0) = m ((c.tc : Thread Cert.FfnInDwIdeal.nD Cert.FfnInDwIdeal.τ).loc Cert.FfnInDwIdeal.main_arg0)
      ∧ m' ((c.tc : Thread Cert.FfnInDwRefIdeal.nD Cert.FfnInDwRefIdeal.τ).loc Cert.FfnInDwRefIdeal.main_arg1) = m ((c.tc : Thread Cert.FfnInDwIdeal.nD Cert.FfnInDwIdeal.τ).loc Cert.FfnInDwIdeal.main_arg1)
      ∧ m' ((c.tc : Thread Cert.FfnInDwRefIdeal.nD Cert.FfnInDwRefIdeal.τ).loc Cert.FfnInDwRefIdeal.main_arg2) = m ((c.tc : Thread Cert.FfnInDwIdeal.nD Cert.FfnInDwIdeal.τ).loc Cert.FfnInDwIdeal.main_arg2)) →
    ∃ (v0 : (c : Dev Cert.FfnInDwIdeal.nD) → Buf (Elt Ideal) ((c.tc : Thread Cert.FfnInDwIdeal.nD Cert.FfnInDwIdeal.τ).loc Cert.FfnInDwIdeal.main_v0)),
      θ_run (Cert.FfnInDwIdeal.defs (F := Ideal)) (onTc (τ := Cert.FfnInDwIdeal.τ) (Cert.FfnInDwIdeal.main (F := Ideal))) ⟨m, fun _ => 0, g⟩ (fun r => ∀ c : Dev Cert.FfnInDwIdeal.nD,
          r.2.mem ((c.tc : Thread Cert.FfnInDwIdeal.nD Cert.FfnInDwIdeal.τ).loc Cert.FfnInDwIdeal.main_v0) = v0 c
          ∧ r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
          ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1)
          ∧ r.2.mem ((c.tc : Thread Cert.FfnInDwIdeal.nD Cert.FfnInDwIdeal.τ).loc Cert.FfnInDwIdeal.main_arg2) = m ((c.tc : Thread Cert.FfnInDwIdeal.nD Cert.FfnInDwIdeal.τ).loc Cert.FfnInDwIdeal.main_arg2))
      ∧ θ_run (Cert.FfnInDwRefIdeal.defs (F := Ideal)) (onTc (τ := Cert.FfnInDwRefIdeal.τ) (Cert.FfnInDwRefIdeal.main (F := Ideal))) ⟨m', fun _ => 0, g'⟩ (fun r => ∀ c : Dev Cert.FfnInDwRefIdeal.nD,
          r.2.mem ((c.tc : Thread Cert.FfnInDwRefIdeal.nD Cert.FfnInDwRefIdeal.τ).loc Cert.FfnInDwRefIdeal.main_v12) = v0 c
          ∧ r.2.mem ((c.tc : Thread Cert.FfnInDwRefIdeal.nD Cert.FfnInDwRefIdeal.τ).loc Cert.FfnInDwRefIdeal.main_arg0) = m' ((c.tc : Thread Cert.FfnInDwRefIdeal.nD Cert.FfnInDwRefIdeal.τ).loc Cert.FfnInDwRefIdeal.main_arg0)
          ∧ r.2.mem ((c.tc : Thread Cert.FfnInDwRefIdeal.nD Cert.FfnInDwRefIdeal.τ).loc Cert.FfnInDwRefIdeal.main_arg1) = m' ((c.tc : Thread Cert.FfnInDwRefIdeal.nD Cert.FfnInDwRefIdeal.τ).loc Cert.FfnInDwRefIdeal.main_arg1)
          ∧ r.2.mem ((c.tc : Thread Cert.FfnInDwRefIdeal.nD Cert.FfnInDwRefIdeal.τ).loc Cert.FfnInDwRefIdeal.main_arg2) = m' ((c.tc : Thread Cert.FfnInDwRefIdeal.nD Cert.FfnInDwRefIdeal.τ).loc Cert.FfnInDwRefIdeal.main_arg2))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)
      ∧ m' ((c.tc : Thread Cert.FfnOutRefIdeal.nD Cert.FfnOutRefIdeal.τ).loc Cert.FfnOutRefIdeal.main_arg4) = m ((c.tc : Thread Cert.FfnOutIdeal.nD Cert.FfnOutIdeal.τ).loc Cert.FfnOutIdeal.main_arg4)) →
    ∃ (v0 : (c : Dev Cert.FfnOutIdeal.nD) → Buf (Elt Ideal) ((c.tc : Thread Cert.FfnOutIdeal.nD Cert.FfnOutIdeal.τ).loc Cert.FfnOutIdeal.main_v0_0)) (v1 : (c : Dev Cert.FfnOutIdeal.nD) → Buf (Elt Ideal) ((c.tc : Thread Cert.FfnOutIdeal.nD Cert.FfnOutIdeal.τ).loc Cert.FfnOutIdeal.main_v0_1)) (v2 : (c : Dev Cert.FfnOutIdeal.nD) → Buf (Elt Ideal) ((c.tc : Thread Cert.FfnOutIdeal.nD Cert.FfnOutIdeal.τ).loc Cert.FfnOutIdeal.main_v0_2)) (v3 : (c : Dev Cert.FfnOutIdeal.nD) → Buf (Elt Ideal) ((c.tc : Thread Cert.FfnOutIdeal.nD Cert.FfnOutIdeal.τ).loc Cert.FfnOutIdeal.main_v0_3)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0_0) = v0 c
          ∧ r.2.mem ((c.tc : Thread Cert.FfnOutIdeal.nD Cert.FfnOutIdeal.τ).loc Cert.FfnOutIdeal.main_v0_1) = v1 c
          ∧ r.2.mem ((c.tc : Thread Cert.FfnOutIdeal.nD Cert.FfnOutIdeal.τ).loc Cert.FfnOutIdeal.main_v0_2) = v2 c
          ∧ r.2.mem ((c.tc : Thread Cert.FfnOutIdeal.nD Cert.FfnOutIdeal.τ).loc Cert.FfnOutIdeal.main_v0_3) = v3 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
          ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v27) = v0 c
          ∧ r.2.mem ((c.tc : Thread Cert.FfnOutRefIdeal.nD Cert.FfnOutRefIdeal.τ).loc Cert.FfnOutRefIdeal.main_v28) = v1 c
          ∧ r.2.mem ((c.tc : Thread Cert.FfnOutRefIdeal.nD Cert.FfnOutRefIdeal.τ).loc Cert.FfnOutRefIdeal.main_v23) = v2 c
          ∧ r.2.mem ((c.tc : Thread Cert.FfnOutRefIdeal.nD Cert.FfnOutRefIdeal.τ).loc Cert.FfnOutRefIdeal.main_v19) = v3 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3)
          ∧ r.2.mem ((c.tc : Thread Cert.FfnOutRefIdeal.nD Cert.FfnOutRefIdeal.τ).loc Cert.FfnOutRefIdeal.main_arg4) = m' ((c.tc : Thread Cert.FfnOutRefIdeal.nD Cert.FfnOutRefIdeal.τ).loc Cert.FfnOutRefIdeal.main_arg4))

def preserves_FfnOutDx_FfnOutDxIdeal : Prop :=
  True

def algebraic_FfnOutDxIdeal_FfnOutDxRefIdeal [hFfnOutDxIdeal : Cert.FfnOutDxIdeal.Facts] [hFfnOutDxRefIdeal : Cert.FfnOutDxRefIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg)
    (m' : (ℓ : Loc Cert.FfnOutDxRefIdeal.nD Cert.FfnOutDxRefIdeal.τ Cert.FfnOutDxRefIdeal.sig) → Buf (Elt Ideal) ℓ) (g' : Dev Cert.FfnOutDxRefIdeal.nD → PrngReg), Pre_FfnOutDxIdeal m →
    (∀ c : Dev Cert.FfnOutDxIdeal.nD,
      m' ((c.tc : Thread Cert.FfnOutDxRefIdeal.nD Cert.FfnOutDxRefIdeal.τ).loc Cert.FfnOutDxRefIdeal.main_arg0) = m ((c.tc : Thread Cert.FfnOutDxIdeal.nD Cert.FfnOutDxIdeal.τ).loc Cert.FfnOutDxIdeal.main_arg0)
      ∧ m' ((c.tc : Thread Cert.FfnOutDxRefIdeal.nD Cert.FfnOutDxRefIdeal.τ).loc Cert.FfnOutDxRefIdeal.main_arg1) = m ((c.tc : Thread Cert.FfnOutDxIdeal.nD Cert.FfnOutDxIdeal.τ).loc Cert.FfnOutDxIdeal.main_arg1)) →
    ∃ (v0 : (c : Dev Cert.FfnOutDxIdeal.nD) → Buf (Elt Ideal) ((c.tc : Thread Cert.FfnOutDxIdeal.nD Cert.FfnOutDxIdeal.τ).loc Cert.FfnOutDxIdeal.main_v0)),
      θ_run (Cert.FfnOutDxIdeal.defs (F := Ideal)) (onTc (τ := Cert.FfnOutDxIdeal.τ) (Cert.FfnOutDxIdeal.main (F := Ideal))) ⟨m, fun _ => 0, g⟩ (fun r => ∀ c : Dev Cert.FfnOutDxIdeal.nD,
          r.2.mem ((c.tc : Thread Cert.FfnOutDxIdeal.nD Cert.FfnOutDxIdeal.τ).loc Cert.FfnOutDxIdeal.main_v0) = v0 c
          ∧ r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
          ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1))
      ∧ θ_run (Cert.FfnOutDxRefIdeal.defs (F := Ideal)) (onTc (τ := Cert.FfnOutDxRefIdeal.τ) (Cert.FfnOutDxRefIdeal.main (F := Ideal))) ⟨m', fun _ => 0, g'⟩ (fun r => ∀ c : Dev Cert.FfnOutDxRefIdeal.nD,
          r.2.mem ((c.tc : Thread Cert.FfnOutDxRefIdeal.nD Cert.FfnOutDxRefIdeal.τ).loc Cert.FfnOutDxRefIdeal.main_v4) = v0 c
          ∧ r.2.mem ((c.tc : Thread Cert.FfnOutDxRefIdeal.nD Cert.FfnOutDxRefIdeal.τ).loc Cert.FfnOutDxRefIdeal.main_arg0) = m' ((c.tc : Thread Cert.FfnOutDxRefIdeal.nD Cert.FfnOutDxRefIdeal.τ).loc Cert.FfnOutDxRefIdeal.main_arg0)
          ∧ r.2.mem ((c.tc : Thread Cert.FfnOutDxRefIdeal.nD Cert.FfnOutDxRefIdeal.τ).loc Cert.FfnOutDxRefIdeal.main_arg1) = m' ((c.tc : Thread Cert.FfnOutDxRefIdeal.nD Cert.FfnOutDxRefIdeal.τ).loc Cert.FfnOutDxRefIdeal.main_arg1))

def preserves_FfnOutDw_FfnOutDwIdeal : Prop :=
  True

def algebraic_FfnOutDwIdeal_FfnOutDwRefIdeal [hFfnOutDwIdeal : Cert.FfnOutDwIdeal.Facts] [hFfnOutDwRefIdeal : Cert.FfnOutDwRefIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg)
    (m' : (ℓ : Loc Cert.FfnOutDwRefIdeal.nD Cert.FfnOutDwRefIdeal.τ Cert.FfnOutDwRefIdeal.sig) → Buf (Elt Ideal) ℓ) (g' : Dev Cert.FfnOutDwRefIdeal.nD → PrngReg), Pre_FfnOutDwIdeal m →
    (∀ c : Dev Cert.FfnOutDwIdeal.nD,
      m' ((c.tc : Thread Cert.FfnOutDwRefIdeal.nD Cert.FfnOutDwRefIdeal.τ).loc Cert.FfnOutDwRefIdeal.main_arg0) = m ((c.tc : Thread Cert.FfnOutDwIdeal.nD Cert.FfnOutDwIdeal.τ).loc Cert.FfnOutDwIdeal.main_arg0)
      ∧ m' ((c.tc : Thread Cert.FfnOutDwRefIdeal.nD Cert.FfnOutDwRefIdeal.τ).loc Cert.FfnOutDwRefIdeal.main_arg1) = m ((c.tc : Thread Cert.FfnOutDwIdeal.nD Cert.FfnOutDwIdeal.τ).loc Cert.FfnOutDwIdeal.main_arg1)) →
    ∃ (v0 : (c : Dev Cert.FfnOutDwIdeal.nD) → Buf (Elt Ideal) ((c.tc : Thread Cert.FfnOutDwIdeal.nD Cert.FfnOutDwIdeal.τ).loc Cert.FfnOutDwIdeal.main_v0)),
      θ_run (Cert.FfnOutDwIdeal.defs (F := Ideal)) (onTc (τ := Cert.FfnOutDwIdeal.τ) (Cert.FfnOutDwIdeal.main (F := Ideal))) ⟨m, fun _ => 0, g⟩ (fun r => ∀ c : Dev Cert.FfnOutDwIdeal.nD,
          r.2.mem ((c.tc : Thread Cert.FfnOutDwIdeal.nD Cert.FfnOutDwIdeal.τ).loc Cert.FfnOutDwIdeal.main_v0) = v0 c
          ∧ r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
          ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ θ_run (Cert.FfnOutDwRefIdeal.defs (F := Ideal)) (onTc (τ := Cert.FfnOutDwRefIdeal.τ) (Cert.FfnOutDwRefIdeal.main (F := Ideal))) ⟨m', fun _ => 0, g'⟩ (fun r => ∀ c : Dev Cert.FfnOutDwRefIdeal.nD,
          r.2.mem ((c.tc : Thread Cert.FfnOutDwRefIdeal.nD Cert.FfnOutDwRefIdeal.τ).loc Cert.FfnOutDwRefIdeal.main_v7) = v0 c
          ∧ r.2.mem ((c.tc : Thread Cert.FfnOutDwRefIdeal.nD Cert.FfnOutDwRefIdeal.τ).loc Cert.FfnOutDwRefIdeal.main_arg0) = m' ((c.tc : Thread Cert.FfnOutDwRefIdeal.nD Cert.FfnOutDwRefIdeal.τ).loc Cert.FfnOutDwRefIdeal.main_arg0)
          ∧ r.2.mem ((c.tc : Thread Cert.FfnOutDwRefIdeal.nD Cert.FfnOutDwRefIdeal.τ).loc Cert.FfnOutDwRefIdeal.main_arg1) = m' ((c.tc : Thread Cert.FfnOutDwRefIdeal.nD Cert.FfnOutDwRefIdeal.τ).loc Cert.FfnOutDwRefIdeal.main_arg1))

def preserves_LruIn_LruInIdeal : Prop :=
  True

def algebraic_LruInIdeal_LruInRefIdeal [hLruInIdeal : Cert.LruInIdeal.Facts] [hLruInRefIdeal : Cert.LruInRefIdeal.Facts] : Prop :=
  ∀ (m : (ℓ : Loc Cert.LruInIdeal.nD Cert.LruInIdeal.τ Cert.LruInIdeal.sig) → Buf (Elt Ideal) ℓ) (g : Dev Cert.LruInIdeal.nD → PrngReg)
    (m' : (ℓ : Loc Cert.LruInRefIdeal.nD Cert.LruInRefIdeal.τ Cert.LruInRefIdeal.sig) → Buf (Elt Ideal) ℓ) (g' : Dev Cert.LruInRefIdeal.nD → PrngReg), Pre_LruInIdeal m →
    (∀ c : Dev Cert.LruInIdeal.nD,
      m' ((c.tc : Thread Cert.LruInRefIdeal.nD Cert.LruInRefIdeal.τ).loc Cert.LruInRefIdeal.main_arg0) = m ((c.tc : Thread Cert.LruInIdeal.nD Cert.LruInIdeal.τ).loc Cert.LruInIdeal.main_arg0)
      ∧ m' ((c.tc : Thread Cert.LruInRefIdeal.nD Cert.LruInRefIdeal.τ).loc Cert.LruInRefIdeal.main_arg1) = m ((c.tc : Thread Cert.LruInIdeal.nD Cert.LruInIdeal.τ).loc Cert.LruInIdeal.main_arg1)) →
    ∃ (v0 : (c : Dev Cert.LruInIdeal.nD) → Buf (Elt Ideal) ((c.tc : Thread Cert.LruInIdeal.nD Cert.LruInIdeal.τ).loc Cert.LruInIdeal.main_v0)),
      θ_run (Cert.LruInIdeal.defs (F := Ideal)) (onTc (τ := Cert.LruInIdeal.τ) (Cert.LruInIdeal.main (F := Ideal))) ⟨m, fun _ => 0, g⟩ (fun r => ∀ c : Dev Cert.LruInIdeal.nD,
          r.2.mem ((c.tc : Thread Cert.LruInIdeal.nD Cert.LruInIdeal.τ).loc Cert.LruInIdeal.main_v0) = v0 c
          ∧ r.2.mem ((c.tc : Thread Cert.LruInIdeal.nD Cert.LruInIdeal.τ).loc Cert.LruInIdeal.main_arg0) = m ((c.tc : Thread Cert.LruInIdeal.nD Cert.LruInIdeal.τ).loc Cert.LruInIdeal.main_arg0)
          ∧ r.2.mem ((c.tc : Thread Cert.LruInIdeal.nD Cert.LruInIdeal.τ).loc Cert.LruInIdeal.main_arg1) = m ((c.tc : Thread Cert.LruInIdeal.nD Cert.LruInIdeal.τ).loc Cert.LruInIdeal.main_arg1))
      ∧ θ_run (Cert.LruInRefIdeal.defs (F := Ideal)) (onTc (τ := Cert.LruInRefIdeal.τ) (Cert.LruInRefIdeal.main (F := Ideal))) ⟨m', fun _ => 0, g'⟩ (fun r => ∀ c : Dev Cert.LruInRefIdeal.nD,
          r.2.mem ((c.tc : Thread Cert.LruInRefIdeal.nD Cert.LruInRefIdeal.τ).loc Cert.LruInRefIdeal.main_v4) = v0 c
          ∧ r.2.mem ((c.tc : Thread Cert.LruInRefIdeal.nD Cert.LruInRefIdeal.τ).loc Cert.LruInRefIdeal.main_arg0) = m' ((c.tc : Thread Cert.LruInRefIdeal.nD Cert.LruInRefIdeal.τ).loc Cert.LruInRefIdeal.main_arg0)
          ∧ r.2.mem ((c.tc : Thread Cert.LruInRefIdeal.nD Cert.LruInRefIdeal.τ).loc Cert.LruInRefIdeal.main_arg1) = m' ((c.tc : Thread Cert.LruInRefIdeal.nD Cert.LruInRefIdeal.τ).loc Cert.LruInRefIdeal.main_arg1))

def preserves_LruInDx_LruInDxIdeal : Prop :=
  True

def algebraic_LruInDxIdeal_LruInDxRefIdeal [hLruInDxIdeal : Cert.LruInDxIdeal.Facts] [hLruInDxRefIdeal : Cert.LruInDxRefIdeal.Facts] : Prop :=
  ∀ (m : (ℓ : Loc Cert.LruInDxIdeal.nD Cert.LruInDxIdeal.τ Cert.LruInDxIdeal.sig) → Buf (Elt Ideal) ℓ) (g : Dev Cert.LruInDxIdeal.nD → PrngReg)
    (m' : (ℓ : Loc Cert.LruInDxRefIdeal.nD Cert.LruInDxRefIdeal.τ Cert.LruInDxRefIdeal.sig) → Buf (Elt Ideal) ℓ) (g' : Dev Cert.LruInDxRefIdeal.nD → PrngReg), Pre_LruInDxIdeal m →
    (∀ c : Dev Cert.LruInDxIdeal.nD,
      m' ((c.tc : Thread Cert.LruInDxRefIdeal.nD Cert.LruInDxRefIdeal.τ).loc Cert.LruInDxRefIdeal.main_arg0) = m ((c.tc : Thread Cert.LruInDxIdeal.nD Cert.LruInDxIdeal.τ).loc Cert.LruInDxIdeal.main_arg0)
      ∧ m' ((c.tc : Thread Cert.LruInDxRefIdeal.nD Cert.LruInDxRefIdeal.τ).loc Cert.LruInDxRefIdeal.main_arg1) = m ((c.tc : Thread Cert.LruInDxIdeal.nD Cert.LruInDxIdeal.τ).loc Cert.LruInDxIdeal.main_arg1)) →
    ∃ (v0 : (c : Dev Cert.LruInDxIdeal.nD) → Buf (Elt Ideal) ((c.tc : Thread Cert.LruInDxIdeal.nD Cert.LruInDxIdeal.τ).loc Cert.LruInDxIdeal.main_v0)),
      θ_run (Cert.LruInDxIdeal.defs (F := Ideal)) (onTc (τ := Cert.LruInDxIdeal.τ) (Cert.LruInDxIdeal.main (F := Ideal))) ⟨m, fun _ => 0, g⟩ (fun r => ∀ c : Dev Cert.LruInDxIdeal.nD,
          r.2.mem ((c.tc : Thread Cert.LruInDxIdeal.nD Cert.LruInDxIdeal.τ).loc Cert.LruInDxIdeal.main_v0) = v0 c
          ∧ r.2.mem ((c.tc : Thread Cert.LruInDxIdeal.nD Cert.LruInDxIdeal.τ).loc Cert.LruInDxIdeal.main_arg0) = m ((c.tc : Thread Cert.LruInDxIdeal.nD Cert.LruInDxIdeal.τ).loc Cert.LruInDxIdeal.main_arg0)
          ∧ r.2.mem ((c.tc : Thread Cert.LruInDxIdeal.nD Cert.LruInDxIdeal.τ).loc Cert.LruInDxIdeal.main_arg1) = m ((c.tc : Thread Cert.LruInDxIdeal.nD Cert.LruInDxIdeal.τ).loc Cert.LruInDxIdeal.main_arg1))
      ∧ θ_run (Cert.LruInDxRefIdeal.defs (F := Ideal)) (onTc (τ := Cert.LruInDxRefIdeal.τ) (Cert.LruInDxRefIdeal.main (F := Ideal))) ⟨m', fun _ => 0, g'⟩ (fun r => ∀ c : Dev Cert.LruInDxRefIdeal.nD,
          r.2.mem ((c.tc : Thread Cert.LruInDxRefIdeal.nD Cert.LruInDxRefIdeal.τ).loc Cert.LruInDxRefIdeal.main_v6) = v0 c
          ∧ r.2.mem ((c.tc : Thread Cert.LruInDxRefIdeal.nD Cert.LruInDxRefIdeal.τ).loc Cert.LruInDxRefIdeal.main_arg0) = m' ((c.tc : Thread Cert.LruInDxRefIdeal.nD Cert.LruInDxRefIdeal.τ).loc Cert.LruInDxRefIdeal.main_arg0)
          ∧ r.2.mem ((c.tc : Thread Cert.LruInDxRefIdeal.nD Cert.LruInDxRefIdeal.τ).loc Cert.LruInDxRefIdeal.main_arg1) = m' ((c.tc : Thread Cert.LruInDxRefIdeal.nD Cert.LruInDxRefIdeal.τ).loc Cert.LruInDxRefIdeal.main_arg1))

def preserves_LruInDw_LruInDwIdeal : Prop :=
  True

def algebraic_LruInDwIdeal_LruInDwRefIdeal [hLruInDwIdeal : Cert.LruInDwIdeal.Facts] [hLruInDwRefIdeal : Cert.LruInDwRefIdeal.Facts] : Prop :=
  ∀ (m : (ℓ : Loc Cert.LruInDwIdeal.nD Cert.LruInDwIdeal.τ Cert.LruInDwIdeal.sig) → Buf (Elt Ideal) ℓ) (g : Dev Cert.LruInDwIdeal.nD → PrngReg)
    (m' : (ℓ : Loc Cert.LruInDwRefIdeal.nD Cert.LruInDwRefIdeal.τ Cert.LruInDwRefIdeal.sig) → Buf (Elt Ideal) ℓ) (g' : Dev Cert.LruInDwRefIdeal.nD → PrngReg), Pre_LruInDwIdeal m →
    (∀ c : Dev Cert.LruInDwIdeal.nD,
      m' ((c.tc : Thread Cert.LruInDwRefIdeal.nD Cert.LruInDwRefIdeal.τ).loc Cert.LruInDwRefIdeal.main_arg0) = m ((c.tc : Thread Cert.LruInDwIdeal.nD Cert.LruInDwIdeal.τ).loc Cert.LruInDwIdeal.main_arg0)
      ∧ m' ((c.tc : Thread Cert.LruInDwRefIdeal.nD Cert.LruInDwRefIdeal.τ).loc Cert.LruInDwRefIdeal.main_arg1) = m ((c.tc : Thread Cert.LruInDwIdeal.nD Cert.LruInDwIdeal.τ).loc Cert.LruInDwIdeal.main_arg1)) →
    ∃ (v0 : (c : Dev Cert.LruInDwIdeal.nD) → Buf (Elt Ideal) ((c.tc : Thread Cert.LruInDwIdeal.nD Cert.LruInDwIdeal.τ).loc Cert.LruInDwIdeal.main_v0)),
      θ_run (Cert.LruInDwIdeal.defs (F := Ideal)) (onTc (τ := Cert.LruInDwIdeal.τ) (Cert.LruInDwIdeal.main (F := Ideal))) ⟨m, fun _ => 0, g⟩ (fun r => ∀ c : Dev Cert.LruInDwIdeal.nD,
          r.2.mem ((c.tc : Thread Cert.LruInDwIdeal.nD Cert.LruInDwIdeal.τ).loc Cert.LruInDwIdeal.main_v0) = v0 c
          ∧ r.2.mem ((c.tc : Thread Cert.LruInDwIdeal.nD Cert.LruInDwIdeal.τ).loc Cert.LruInDwIdeal.main_arg0) = m ((c.tc : Thread Cert.LruInDwIdeal.nD Cert.LruInDwIdeal.τ).loc Cert.LruInDwIdeal.main_arg0)
          ∧ r.2.mem ((c.tc : Thread Cert.LruInDwIdeal.nD Cert.LruInDwIdeal.τ).loc Cert.LruInDwIdeal.main_arg1) = m ((c.tc : Thread Cert.LruInDwIdeal.nD Cert.LruInDwIdeal.τ).loc Cert.LruInDwIdeal.main_arg1))
      ∧ θ_run (Cert.LruInDwRefIdeal.defs (F := Ideal)) (onTc (τ := Cert.LruInDwRefIdeal.τ) (Cert.LruInDwRefIdeal.main (F := Ideal))) ⟨m', fun _ => 0, g'⟩ (fun r => ∀ c : Dev Cert.LruInDwRefIdeal.nD,
          r.2.mem ((c.tc : Thread Cert.LruInDwRefIdeal.nD Cert.LruInDwRefIdeal.τ).loc Cert.LruInDwRefIdeal.main_v10) = v0 c
          ∧ r.2.mem ((c.tc : Thread Cert.LruInDwRefIdeal.nD Cert.LruInDwRefIdeal.τ).loc Cert.LruInDwRefIdeal.main_arg0) = m' ((c.tc : Thread Cert.LruInDwRefIdeal.nD Cert.LruInDwRefIdeal.τ).loc Cert.LruInDwRefIdeal.main_arg0)
          ∧ r.2.mem ((c.tc : Thread Cert.LruInDwRefIdeal.nD Cert.LruInDwRefIdeal.τ).loc Cert.LruInDwRefIdeal.main_arg1) = m' ((c.tc : Thread Cert.LruInDwRefIdeal.nD Cert.LruInDwRefIdeal.τ).loc Cert.LruInDwRefIdeal.main_arg1))

def preserves_LruOut_LruOutIdeal : Prop :=
  True

def algebraic_LruOutIdeal_LruOutRefIdeal [hLruOutIdeal : Cert.LruOutIdeal.Facts] [hLruOutRefIdeal : Cert.LruOutRefIdeal.Facts] : Prop :=
  ∀ (m : (ℓ : Loc Cert.LruOutIdeal.nD Cert.LruOutIdeal.τ Cert.LruOutIdeal.sig) → Buf (Elt Ideal) ℓ) (g : Dev Cert.LruOutIdeal.nD → PrngReg)
    (m' : (ℓ : Loc Cert.LruOutRefIdeal.nD Cert.LruOutRefIdeal.τ Cert.LruOutRefIdeal.sig) → Buf (Elt Ideal) ℓ) (g' : Dev Cert.LruOutRefIdeal.nD → PrngReg), Pre_LruOutIdeal m →
    (∀ c : Dev Cert.LruOutIdeal.nD,
      m' ((c.tc : Thread Cert.LruOutRefIdeal.nD Cert.LruOutRefIdeal.τ).loc Cert.LruOutRefIdeal.main_arg0) = m ((c.tc : Thread Cert.LruOutIdeal.nD Cert.LruOutIdeal.τ).loc Cert.LruOutIdeal.main_arg0)
      ∧ m' ((c.tc : Thread Cert.LruOutRefIdeal.nD Cert.LruOutRefIdeal.τ).loc Cert.LruOutRefIdeal.main_arg1) = m ((c.tc : Thread Cert.LruOutIdeal.nD Cert.LruOutIdeal.τ).loc Cert.LruOutIdeal.main_arg1)
      ∧ m' ((c.tc : Thread Cert.LruOutRefIdeal.nD Cert.LruOutRefIdeal.τ).loc Cert.LruOutRefIdeal.main_arg2) = m ((c.tc : Thread Cert.LruOutIdeal.nD Cert.LruOutIdeal.τ).loc Cert.LruOutIdeal.main_arg2)
      ∧ m' ((c.tc : Thread Cert.LruOutRefIdeal.nD Cert.LruOutRefIdeal.τ).loc Cert.LruOutRefIdeal.main_arg3) = m ((c.tc : Thread Cert.LruOutIdeal.nD Cert.LruOutIdeal.τ).loc Cert.LruOutIdeal.main_arg3)
      ∧ m' ((c.tc : Thread Cert.LruOutRefIdeal.nD Cert.LruOutRefIdeal.τ).loc Cert.LruOutRefIdeal.main_arg4) = m ((c.tc : Thread Cert.LruOutIdeal.nD Cert.LruOutIdeal.τ).loc Cert.LruOutIdeal.main_arg4)) →
    ∃ (v0 : (c : Dev Cert.LruOutIdeal.nD) → Buf (Elt Ideal) ((c.tc : Thread Cert.LruOutIdeal.nD Cert.LruOutIdeal.τ).loc Cert.LruOutIdeal.main_v0_0)) (v1 : (c : Dev Cert.LruOutIdeal.nD) → Buf (Elt Ideal) ((c.tc : Thread Cert.LruOutIdeal.nD Cert.LruOutIdeal.τ).loc Cert.LruOutIdeal.main_v0_1)) (v2 : (c : Dev Cert.LruOutIdeal.nD) → Buf (Elt Ideal) ((c.tc : Thread Cert.LruOutIdeal.nD Cert.LruOutIdeal.τ).loc Cert.LruOutIdeal.main_v0_2)) (v3 : (c : Dev Cert.LruOutIdeal.nD) → Buf (Elt Ideal) ((c.tc : Thread Cert.LruOutIdeal.nD Cert.LruOutIdeal.τ).loc Cert.LruOutIdeal.main_v0_3)),
      θ_run (Cert.LruOutIdeal.defs (F := Ideal)) (onTc (τ := Cert.LruOutIdeal.τ) (Cert.LruOutIdeal.main (F := Ideal))) ⟨m, fun _ => 0, g⟩ (fun r => ∀ c : Dev Cert.LruOutIdeal.nD,
          r.2.mem ((c.tc : Thread Cert.LruOutIdeal.nD Cert.LruOutIdeal.τ).loc Cert.LruOutIdeal.main_v0_0) = v0 c
          ∧ r.2.mem ((c.tc : Thread Cert.LruOutIdeal.nD Cert.LruOutIdeal.τ).loc Cert.LruOutIdeal.main_v0_1) = v1 c
          ∧ r.2.mem ((c.tc : Thread Cert.LruOutIdeal.nD Cert.LruOutIdeal.τ).loc Cert.LruOutIdeal.main_v0_2) = v2 c
          ∧ r.2.mem ((c.tc : Thread Cert.LruOutIdeal.nD Cert.LruOutIdeal.τ).loc Cert.LruOutIdeal.main_v0_3) = v3 c
          ∧ r.2.mem ((c.tc : Thread Cert.LruOutIdeal.nD Cert.LruOutIdeal.τ).loc Cert.LruOutIdeal.main_arg0) = m ((c.tc : Thread Cert.LruOutIdeal.nD Cert.LruOutIdeal.τ).loc Cert.LruOutIdeal.main_arg0)
          ∧ r.2.mem ((c.tc : Thread Cert.LruOutIdeal.nD Cert.LruOutIdeal.τ).loc Cert.LruOutIdeal.main_arg1) = m ((c.tc : Thread Cert.LruOutIdeal.nD Cert.LruOutIdeal.τ).loc Cert.LruOutIdeal.main_arg1)
          ∧ r.2.mem ((c.tc : Thread Cert.LruOutIdeal.nD Cert.LruOutIdeal.τ).loc Cert.LruOutIdeal.main_arg2) = m ((c.tc : Thread Cert.LruOutIdeal.nD Cert.LruOutIdeal.τ).loc Cert.LruOutIdeal.main_arg2)
          ∧ r.2.mem ((c.tc : Thread Cert.LruOutIdeal.nD Cert.LruOutIdeal.τ).loc Cert.LruOutIdeal.main_arg3) = m ((c.tc : Thread Cert.LruOutIdeal.nD Cert.LruOutIdeal.τ).loc Cert.LruOutIdeal.main_arg3)
          ∧ r.2.mem ((c.tc : Thread Cert.LruOutIdeal.nD Cert.LruOutIdeal.τ).loc Cert.LruOutIdeal.main_arg4) = m ((c.tc : Thread Cert.LruOutIdeal.nD Cert.LruOutIdeal.τ).loc Cert.LruOutIdeal.main_arg4))
      ∧ θ_run (Cert.LruOutRefIdeal.defs (F := Ideal)) (onTc (τ := Cert.LruOutRefIdeal.τ) (Cert.LruOutRefIdeal.main (F := Ideal))) ⟨m', fun _ => 0, g'⟩ (fun r => ∀ c : Dev Cert.LruOutRefIdeal.nD,
          r.2.mem ((c.tc : Thread Cert.LruOutRefIdeal.nD Cert.LruOutRefIdeal.τ).loc Cert.LruOutRefIdeal.main_v27) = v0 c
          ∧ r.2.mem ((c.tc : Thread Cert.LruOutRefIdeal.nD Cert.LruOutRefIdeal.τ).loc Cert.LruOutRefIdeal.main_v28) = v1 c
          ∧ r.2.mem ((c.tc : Thread Cert.LruOutRefIdeal.nD Cert.LruOutRefIdeal.τ).loc Cert.LruOutRefIdeal.main_v23) = v2 c
          ∧ r.2.mem ((c.tc : Thread Cert.LruOutRefIdeal.nD Cert.LruOutRefIdeal.τ).loc Cert.LruOutRefIdeal.main_v19) = v3 c
          ∧ r.2.mem ((c.tc : Thread Cert.LruOutRefIdeal.nD Cert.LruOutRefIdeal.τ).loc Cert.LruOutRefIdeal.main_arg0) = m' ((c.tc : Thread Cert.LruOutRefIdeal.nD Cert.LruOutRefIdeal.τ).loc Cert.LruOutRefIdeal.main_arg0)
          ∧ r.2.mem ((c.tc : Thread Cert.LruOutRefIdeal.nD Cert.LruOutRefIdeal.τ).loc Cert.LruOutRefIdeal.main_arg1) = m' ((c.tc : Thread Cert.LruOutRefIdeal.nD Cert.LruOutRefIdeal.τ).loc Cert.LruOutRefIdeal.main_arg1)
          ∧ r.2.mem ((c.tc : Thread Cert.LruOutRefIdeal.nD Cert.LruOutRefIdeal.τ).loc Cert.LruOutRefIdeal.main_arg2) = m' ((c.tc : Thread Cert.LruOutRefIdeal.nD Cert.LruOutRefIdeal.τ).loc Cert.LruOutRefIdeal.main_arg2)
          ∧ r.2.mem ((c.tc : Thread Cert.LruOutRefIdeal.nD Cert.LruOutRefIdeal.τ).loc Cert.LruOutRefIdeal.main_arg3) = m' ((c.tc : Thread Cert.LruOutRefIdeal.nD Cert.LruOutRefIdeal.τ).loc Cert.LruOutRefIdeal.main_arg3)
          ∧ r.2.mem ((c.tc : Thread Cert.LruOutRefIdeal.nD Cert.LruOutRefIdeal.τ).loc Cert.LruOutRefIdeal.main_arg4) = m' ((c.tc : Thread Cert.LruOutRefIdeal.nD Cert.LruOutRefIdeal.τ).loc Cert.LruOutRefIdeal.main_arg4))

def preserves_LruOutDw_LruOutDwIdeal : Prop :=
  True

def algebraic_LruOutDwIdeal_LruOutDwRefIdeal [hLruOutDwIdeal : Cert.LruOutDwIdeal.Facts] [hLruOutDwRefIdeal : Cert.LruOutDwRefIdeal.Facts] : Prop :=
  ∀ (m : (ℓ : Loc Cert.LruOutDwIdeal.nD Cert.LruOutDwIdeal.τ Cert.LruOutDwIdeal.sig) → Buf (Elt Ideal) ℓ) (g : Dev Cert.LruOutDwIdeal.nD → PrngReg)
    (m' : (ℓ : Loc Cert.LruOutDwRefIdeal.nD Cert.LruOutDwRefIdeal.τ Cert.LruOutDwRefIdeal.sig) → Buf (Elt Ideal) ℓ) (g' : Dev Cert.LruOutDwRefIdeal.nD → PrngReg), Pre_LruOutDwIdeal m →
    (∀ c : Dev Cert.LruOutDwIdeal.nD,
      m' ((c.tc : Thread Cert.LruOutDwRefIdeal.nD Cert.LruOutDwRefIdeal.τ).loc Cert.LruOutDwRefIdeal.main_arg0) = m ((c.tc : Thread Cert.LruOutDwIdeal.nD Cert.LruOutDwIdeal.τ).loc Cert.LruOutDwIdeal.main_arg0)
      ∧ m' ((c.tc : Thread Cert.LruOutDwRefIdeal.nD Cert.LruOutDwRefIdeal.τ).loc Cert.LruOutDwRefIdeal.main_arg1) = m ((c.tc : Thread Cert.LruOutDwIdeal.nD Cert.LruOutDwIdeal.τ).loc Cert.LruOutDwIdeal.main_arg1)) →
    ∃ (v0 : (c : Dev Cert.LruOutDwIdeal.nD) → Buf (Elt Ideal) ((c.tc : Thread Cert.LruOutDwIdeal.nD Cert.LruOutDwIdeal.τ).loc Cert.LruOutDwIdeal.main_v0)),
      θ_run (Cert.LruOutDwIdeal.defs (F := Ideal)) (onTc (τ := Cert.LruOutDwIdeal.τ) (Cert.LruOutDwIdeal.main (F := Ideal))) ⟨m, fun _ => 0, g⟩ (fun r => ∀ c : Dev Cert.LruOutDwIdeal.nD,
          r.2.mem ((c.tc : Thread Cert.LruOutDwIdeal.nD Cert.LruOutDwIdeal.τ).loc Cert.LruOutDwIdeal.main_v0) = v0 c
          ∧ r.2.mem ((c.tc : Thread Cert.LruOutDwIdeal.nD Cert.LruOutDwIdeal.τ).loc Cert.LruOutDwIdeal.main_arg0) = m ((c.tc : Thread Cert.LruOutDwIdeal.nD Cert.LruOutDwIdeal.τ).loc Cert.LruOutDwIdeal.main_arg0)
          ∧ r.2.mem ((c.tc : Thread Cert.LruOutDwIdeal.nD Cert.LruOutDwIdeal.τ).loc Cert.LruOutDwIdeal.main_arg1) = m ((c.tc : Thread Cert.LruOutDwIdeal.nD Cert.LruOutDwIdeal.τ).loc Cert.LruOutDwIdeal.main_arg1))
      ∧ θ_run (Cert.LruOutDwRefIdeal.defs (F := Ideal)) (onTc (τ := Cert.LruOutDwRefIdeal.τ) (Cert.LruOutDwRefIdeal.main (F := Ideal))) ⟨m', fun _ => 0, g'⟩ (fun r => ∀ c : Dev Cert.LruOutDwRefIdeal.nD,
          r.2.mem ((c.tc : Thread Cert.LruOutDwRefIdeal.nD Cert.LruOutDwRefIdeal.τ).loc Cert.LruOutDwRefIdeal.main_v7) = v0 c
          ∧ r.2.mem ((c.tc : Thread Cert.LruOutDwRefIdeal.nD Cert.LruOutDwRefIdeal.τ).loc Cert.LruOutDwRefIdeal.main_arg0) = m' ((c.tc : Thread Cert.LruOutDwRefIdeal.nD Cert.LruOutDwRefIdeal.τ).loc Cert.LruOutDwRefIdeal.main_arg0)
          ∧ r.2.mem ((c.tc : Thread Cert.LruOutDwRefIdeal.nD Cert.LruOutDwRefIdeal.τ).loc Cert.LruOutDwRefIdeal.main_arg1) = m' ((c.tc : Thread Cert.LruOutDwRefIdeal.nD Cert.LruOutDwRefIdeal.τ).loc Cert.LruOutDwRefIdeal.main_arg1))

def preserves_AttnIn_AttnInIdeal : Prop :=
  True

def algebraic_AttnInIdeal_AttnInRefIdeal [hAttnInIdeal : Cert.AttnInIdeal.Facts] [hAttnInRefIdeal : Cert.AttnInRefIdeal.Facts] : Prop :=
  ∀ (m : (ℓ : Loc Cert.AttnInIdeal.nD Cert.AttnInIdeal.τ Cert.AttnInIdeal.sig) → Buf (Elt Ideal) ℓ) (g : Dev Cert.AttnInIdeal.nD → PrngReg)
    (m' : (ℓ : Loc Cert.AttnInRefIdeal.nD Cert.AttnInRefIdeal.τ Cert.AttnInRefIdeal.sig) → Buf (Elt Ideal) ℓ) (g' : Dev Cert.AttnInRefIdeal.nD → PrngReg), Pre_AttnInIdeal m →
    (∀ c : Dev Cert.AttnInIdeal.nD,
      m' ((c.tc : Thread Cert.AttnInRefIdeal.nD Cert.AttnInRefIdeal.τ).loc Cert.AttnInRefIdeal.main_arg0) = m ((c.tc : Thread Cert.AttnInIdeal.nD Cert.AttnInIdeal.τ).loc Cert.AttnInIdeal.main_arg0)
      ∧ m' ((c.tc : Thread Cert.AttnInRefIdeal.nD Cert.AttnInRefIdeal.τ).loc Cert.AttnInRefIdeal.main_arg1) = m ((c.tc : Thread Cert.AttnInIdeal.nD Cert.AttnInIdeal.τ).loc Cert.AttnInIdeal.main_arg1)) →
    ∃ (v0 : (c : Dev Cert.AttnInIdeal.nD) → Buf (Elt Ideal) ((c.tc : Thread Cert.AttnInIdeal.nD Cert.AttnInIdeal.τ).loc Cert.AttnInIdeal.main_v0)),
      θ_run (Cert.AttnInIdeal.defs (F := Ideal)) (onTc (τ := Cert.AttnInIdeal.τ) (Cert.AttnInIdeal.main (F := Ideal))) ⟨m, fun _ => 0, g⟩ (fun r => ∀ c : Dev Cert.AttnInIdeal.nD,
          r.2.mem ((c.tc : Thread Cert.AttnInIdeal.nD Cert.AttnInIdeal.τ).loc Cert.AttnInIdeal.main_v0) = v0 c
          ∧ r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
          ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1))
      ∧ θ_run (Cert.AttnInRefIdeal.defs (F := Ideal)) (onTc (τ := Cert.AttnInRefIdeal.τ) (Cert.AttnInRefIdeal.main (F := Ideal))) ⟨m', fun _ => 0, g'⟩ (fun r => ∀ c : Dev Cert.AttnInRefIdeal.nD,
          r.2.mem ((c.tc : Thread Cert.AttnInRefIdeal.nD Cert.AttnInRefIdeal.τ).loc Cert.AttnInRefIdeal.main_v4) = v0 c
          ∧ r.2.mem ((c.tc : Thread Cert.AttnInRefIdeal.nD Cert.AttnInRefIdeal.τ).loc Cert.AttnInRefIdeal.main_arg0) = m' ((c.tc : Thread Cert.AttnInRefIdeal.nD Cert.AttnInRefIdeal.τ).loc Cert.AttnInRefIdeal.main_arg0)
          ∧ r.2.mem ((c.tc : Thread Cert.AttnInRefIdeal.nD Cert.AttnInRefIdeal.τ).loc Cert.AttnInRefIdeal.main_arg1) = m' ((c.tc : Thread Cert.AttnInRefIdeal.nD Cert.AttnInRefIdeal.τ).loc Cert.AttnInRefIdeal.main_arg1))

def preserves_AttnInDx_AttnInDxIdeal : Prop :=
  True

def algebraic_AttnInDxIdeal_AttnInDxRefIdeal [hAttnInDxIdeal : Cert.AttnInDxIdeal.Facts] [hAttnInDxRefIdeal : Cert.AttnInDxRefIdeal.Facts] : Prop :=
  ∀ (m : (ℓ : Loc Cert.AttnInDxIdeal.nD Cert.AttnInDxIdeal.τ Cert.AttnInDxIdeal.sig) → Buf (Elt Ideal) ℓ) (g : Dev Cert.AttnInDxIdeal.nD → PrngReg)
    (m' : (ℓ : Loc Cert.AttnInDxRefIdeal.nD Cert.AttnInDxRefIdeal.τ Cert.AttnInDxRefIdeal.sig) → Buf (Elt Ideal) ℓ) (g' : Dev Cert.AttnInDxRefIdeal.nD → PrngReg), Pre_AttnInDxIdeal m →
    (∀ c : Dev Cert.AttnInDxIdeal.nD,
      m' ((c.tc : Thread Cert.AttnInDxRefIdeal.nD Cert.AttnInDxRefIdeal.τ).loc Cert.AttnInDxRefIdeal.main_arg0) = m ((c.tc : Thread Cert.AttnInDxIdeal.nD Cert.AttnInDxIdeal.τ).loc Cert.AttnInDxIdeal.main_arg0)
      ∧ m' ((c.tc : Thread Cert.AttnInDxRefIdeal.nD Cert.AttnInDxRefIdeal.τ).loc Cert.AttnInDxRefIdeal.main_arg1) = m ((c.tc : Thread Cert.AttnInDxIdeal.nD Cert.AttnInDxIdeal.τ).loc Cert.AttnInDxIdeal.main_arg1)
      ∧ m' ((c.tc : Thread Cert.AttnInDxRefIdeal.nD Cert.AttnInDxRefIdeal.τ).loc Cert.AttnInDxRefIdeal.main_arg2) = m ((c.tc : Thread Cert.AttnInDxIdeal.nD Cert.AttnInDxIdeal.τ).loc Cert.AttnInDxIdeal.main_arg2)) →
    ∃ (v0 : (c : Dev Cert.AttnInDxIdeal.nD) → Buf (Elt Ideal) ((c.tc : Thread Cert.AttnInDxIdeal.nD Cert.AttnInDxIdeal.τ).loc Cert.AttnInDxIdeal.main_v0)),
      θ_run (Cert.AttnInDxIdeal.defs (F := Ideal)) (onTc (τ := Cert.AttnInDxIdeal.τ) (Cert.AttnInDxIdeal.main (F := Ideal))) ⟨m, fun _ => 0, g⟩ (fun r => ∀ c : Dev Cert.AttnInDxIdeal.nD,
          r.2.mem ((c.tc : Thread Cert.AttnInDxIdeal.nD Cert.AttnInDxIdeal.τ).loc Cert.AttnInDxIdeal.main_v0) = v0 c
          ∧ r.2.mem ((c.tc : Thread Cert.AttnInDxIdeal.nD Cert.AttnInDxIdeal.τ).loc Cert.AttnInDxIdeal.main_arg0) = m ((c.tc : Thread Cert.AttnInDxIdeal.nD Cert.AttnInDxIdeal.τ).loc Cert.AttnInDxIdeal.main_arg0)
          ∧ r.2.mem ((c.tc : Thread Cert.AttnInDxIdeal.nD Cert.AttnInDxIdeal.τ).loc Cert.AttnInDxIdeal.main_arg1) = m ((c.tc : Thread Cert.AttnInDxIdeal.nD Cert.AttnInDxIdeal.τ).loc Cert.AttnInDxIdeal.main_arg1)
          ∧ r.2.mem ((c.tc : Thread Cert.AttnInDxIdeal.nD Cert.AttnInDxIdeal.τ).loc Cert.AttnInDxIdeal.main_arg2) = m ((c.tc : Thread Cert.AttnInDxIdeal.nD Cert.AttnInDxIdeal.τ).loc Cert.AttnInDxIdeal.main_arg2))
      ∧ θ_run (Cert.AttnInDxRefIdeal.defs (F := Ideal)) (onTc (τ := Cert.AttnInDxRefIdeal.τ) (Cert.AttnInDxRefIdeal.main (F := Ideal))) ⟨m', fun _ => 0, g'⟩ (fun r => ∀ c : Dev Cert.AttnInDxRefIdeal.nD,
          r.2.mem ((c.tc : Thread Cert.AttnInDxRefIdeal.nD Cert.AttnInDxRefIdeal.τ).loc Cert.AttnInDxRefIdeal.main_v8) = v0 c
          ∧ r.2.mem ((c.tc : Thread Cert.AttnInDxRefIdeal.nD Cert.AttnInDxRefIdeal.τ).loc Cert.AttnInDxRefIdeal.main_arg0) = m' ((c.tc : Thread Cert.AttnInDxRefIdeal.nD Cert.AttnInDxRefIdeal.τ).loc Cert.AttnInDxRefIdeal.main_arg0)
          ∧ r.2.mem ((c.tc : Thread Cert.AttnInDxRefIdeal.nD Cert.AttnInDxRefIdeal.τ).loc Cert.AttnInDxRefIdeal.main_arg1) = m' ((c.tc : Thread Cert.AttnInDxRefIdeal.nD Cert.AttnInDxRefIdeal.τ).loc Cert.AttnInDxRefIdeal.main_arg1)
          ∧ r.2.mem ((c.tc : Thread Cert.AttnInDxRefIdeal.nD Cert.AttnInDxRefIdeal.τ).loc Cert.AttnInDxRefIdeal.main_arg2) = m' ((c.tc : Thread Cert.AttnInDxRefIdeal.nD Cert.AttnInDxRefIdeal.τ).loc Cert.AttnInDxRefIdeal.main_arg2))

def preserves_AttnInDw_AttnInDwIdeal : Prop :=
  True

def algebraic_AttnInDwIdeal_AttnInDwRefIdeal [hAttnInDwIdeal : Cert.AttnInDwIdeal.Facts] [hAttnInDwRefIdeal : Cert.AttnInDwRefIdeal.Facts] : Prop :=
  ∀ (m : (ℓ : Loc Cert.AttnInDwIdeal.nD Cert.AttnInDwIdeal.τ Cert.AttnInDwIdeal.sig) → Buf (Elt Ideal) ℓ) (g : Dev Cert.AttnInDwIdeal.nD → PrngReg)
    (m' : (ℓ : Loc Cert.AttnInDwRefIdeal.nD Cert.AttnInDwRefIdeal.τ Cert.AttnInDwRefIdeal.sig) → Buf (Elt Ideal) ℓ) (g' : Dev Cert.AttnInDwRefIdeal.nD → PrngReg), Pre_AttnInDwIdeal m →
    (∀ c : Dev Cert.AttnInDwIdeal.nD,
      m' ((c.tc : Thread Cert.AttnInDwRefIdeal.nD Cert.AttnInDwRefIdeal.τ).loc Cert.AttnInDwRefIdeal.main_arg0) = m ((c.tc : Thread Cert.AttnInDwIdeal.nD Cert.AttnInDwIdeal.τ).loc Cert.AttnInDwIdeal.main_arg0)
      ∧ m' ((c.tc : Thread Cert.AttnInDwRefIdeal.nD Cert.AttnInDwRefIdeal.τ).loc Cert.AttnInDwRefIdeal.main_arg1) = m ((c.tc : Thread Cert.AttnInDwIdeal.nD Cert.AttnInDwIdeal.τ).loc Cert.AttnInDwIdeal.main_arg1)
      ∧ m' ((c.tc : Thread Cert.AttnInDwRefIdeal.nD Cert.AttnInDwRefIdeal.τ).loc Cert.AttnInDwRefIdeal.main_arg2) = m ((c.tc : Thread Cert.AttnInDwIdeal.nD Cert.AttnInDwIdeal.τ).loc Cert.AttnInDwIdeal.main_arg2)) →
    ∃ (v0 : (c : Dev Cert.AttnInDwIdeal.nD) → Buf (Elt Ideal) ((c.tc : Thread Cert.AttnInDwIdeal.nD Cert.AttnInDwIdeal.τ).loc Cert.AttnInDwIdeal.main_v0)),
      θ_run (Cert.AttnInDwIdeal.defs (F := Ideal)) (onTc (τ := Cert.AttnInDwIdeal.τ) (Cert.AttnInDwIdeal.main (F := Ideal))) ⟨m, fun _ => 0, g⟩ (fun r => ∀ c : Dev Cert.AttnInDwIdeal.nD,
          r.2.mem ((c.tc : Thread Cert.AttnInDwIdeal.nD Cert.AttnInDwIdeal.τ).loc Cert.AttnInDwIdeal.main_v0) = v0 c
          ∧ r.2.mem ((c.tc : Thread Cert.AttnInDwIdeal.nD Cert.AttnInDwIdeal.τ).loc Cert.AttnInDwIdeal.main_arg0) = m ((c.tc : Thread Cert.AttnInDwIdeal.nD Cert.AttnInDwIdeal.τ).loc Cert.AttnInDwIdeal.main_arg0)
          ∧ r.2.mem ((c.tc : Thread Cert.AttnInDwIdeal.nD Cert.AttnInDwIdeal.τ).loc Cert.AttnInDwIdeal.main_arg1) = m ((c.tc : Thread Cert.AttnInDwIdeal.nD Cert.AttnInDwIdeal.τ).loc Cert.AttnInDwIdeal.main_arg1)
          ∧ r.2.mem ((c.tc : Thread Cert.AttnInDwIdeal.nD Cert.AttnInDwIdeal.τ).loc Cert.AttnInDwIdeal.main_arg2) = m ((c.tc : Thread Cert.AttnInDwIdeal.nD Cert.AttnInDwIdeal.τ).loc Cert.AttnInDwIdeal.main_arg2))
      ∧ θ_run (Cert.AttnInDwRefIdeal.defs (F := Ideal)) (onTc (τ := Cert.AttnInDwRefIdeal.τ) (Cert.AttnInDwRefIdeal.main (F := Ideal))) ⟨m', fun _ => 0, g'⟩ (fun r => ∀ c : Dev Cert.AttnInDwRefIdeal.nD,
          r.2.mem ((c.tc : Thread Cert.AttnInDwRefIdeal.nD Cert.AttnInDwRefIdeal.τ).loc Cert.AttnInDwRefIdeal.main_v12) = v0 c
          ∧ r.2.mem ((c.tc : Thread Cert.AttnInDwRefIdeal.nD Cert.AttnInDwRefIdeal.τ).loc Cert.AttnInDwRefIdeal.main_arg0) = m' ((c.tc : Thread Cert.AttnInDwRefIdeal.nD Cert.AttnInDwRefIdeal.τ).loc Cert.AttnInDwRefIdeal.main_arg0)
          ∧ r.2.mem ((c.tc : Thread Cert.AttnInDwRefIdeal.nD Cert.AttnInDwRefIdeal.τ).loc Cert.AttnInDwRefIdeal.main_arg1) = m' ((c.tc : Thread Cert.AttnInDwRefIdeal.nD Cert.AttnInDwRefIdeal.τ).loc Cert.AttnInDwRefIdeal.main_arg1)
          ∧ r.2.mem ((c.tc : Thread Cert.AttnInDwRefIdeal.nD Cert.AttnInDwRefIdeal.τ).loc Cert.AttnInDwRefIdeal.main_arg2) = m' ((c.tc : Thread Cert.AttnInDwRefIdeal.nD Cert.AttnInDwRefIdeal.τ).loc Cert.AttnInDwRefIdeal.main_arg2))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)
      ∧ m' ((c.tc : Thread Cert.AttnOutRefIdeal.nD Cert.AttnOutRefIdeal.τ).loc Cert.AttnOutRefIdeal.main_arg2) = m ((c.tc : Thread Cert.AttnOutIdeal.nD Cert.AttnOutIdeal.τ).loc Cert.AttnOutIdeal.main_arg2)
      ∧ m' ((c.tc : Thread Cert.AttnOutRefIdeal.nD Cert.AttnOutRefIdeal.τ).loc Cert.AttnOutRefIdeal.main_arg3) = m ((c.tc : Thread Cert.AttnOutIdeal.nD Cert.AttnOutIdeal.τ).loc Cert.AttnOutIdeal.main_arg3)
      ∧ m' ((c.tc : Thread Cert.AttnOutRefIdeal.nD Cert.AttnOutRefIdeal.τ).loc Cert.AttnOutRefIdeal.main_arg4) = m ((c.tc : Thread Cert.AttnOutIdeal.nD Cert.AttnOutIdeal.τ).loc Cert.AttnOutIdeal.main_arg4)) →
    ∃ (v0 : (c : Dev Cert.AttnOutIdeal.nD) → Buf (Elt Ideal) ((c.tc : Thread Cert.AttnOutIdeal.nD Cert.AttnOutIdeal.τ).loc Cert.AttnOutIdeal.main_v0_0)) (v1 : (c : Dev Cert.AttnOutIdeal.nD) → Buf (Elt Ideal) ((c.tc : Thread Cert.AttnOutIdeal.nD Cert.AttnOutIdeal.τ).loc Cert.AttnOutIdeal.main_v0_1)) (v2 : (c : Dev Cert.AttnOutIdeal.nD) → Buf (Elt Ideal) ((c.tc : Thread Cert.AttnOutIdeal.nD Cert.AttnOutIdeal.τ).loc Cert.AttnOutIdeal.main_v0_2)) (v3 : (c : Dev Cert.AttnOutIdeal.nD) → Buf (Elt Ideal) ((c.tc : Thread Cert.AttnOutIdeal.nD Cert.AttnOutIdeal.τ).loc Cert.AttnOutIdeal.main_v0_3)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v0_0) = v0 c
          ∧ r.2.mem ((c.tc : Thread Cert.AttnOutIdeal.nD Cert.AttnOutIdeal.τ).loc Cert.AttnOutIdeal.main_v0_1) = v1 c
          ∧ r.2.mem ((c.tc : Thread Cert.AttnOutIdeal.nD Cert.AttnOutIdeal.τ).loc Cert.AttnOutIdeal.main_v0_2) = v2 c
          ∧ r.2.mem ((c.tc : Thread Cert.AttnOutIdeal.nD Cert.AttnOutIdeal.τ).loc Cert.AttnOutIdeal.main_v0_3) = v3 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
          ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v27) = v0 c
          ∧ r.2.mem ((c.tc : Thread Cert.AttnOutRefIdeal.nD Cert.AttnOutRefIdeal.τ).loc Cert.AttnOutRefIdeal.main_v28) = v1 c
          ∧ r.2.mem ((c.tc : Thread Cert.AttnOutRefIdeal.nD Cert.AttnOutRefIdeal.τ).loc Cert.AttnOutRefIdeal.main_v23) = v2 c
          ∧ r.2.mem ((c.tc : Thread Cert.AttnOutRefIdeal.nD Cert.AttnOutRefIdeal.τ).loc Cert.AttnOutRefIdeal.main_v19) = v3 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2)
          ∧ r.2.mem ((c.tc : Thread Cert.AttnOutRefIdeal.nD Cert.AttnOutRefIdeal.τ).loc Cert.AttnOutRefIdeal.main_arg3) = m' ((c.tc : Thread Cert.AttnOutRefIdeal.nD Cert.AttnOutRefIdeal.τ).loc Cert.AttnOutRefIdeal.main_arg3)
          ∧ r.2.mem ((c.tc : Thread Cert.AttnOutRefIdeal.nD Cert.AttnOutRefIdeal.τ).loc Cert.AttnOutRefIdeal.main_arg4) = m' ((c.tc : Thread Cert.AttnOutRefIdeal.nD Cert.AttnOutRefIdeal.τ).loc Cert.AttnOutRefIdeal.main_arg4))

def preserves_AttnOutDw_AttnOutDwIdeal : Prop :=
  True

def algebraic_AttnOutDwIdeal_AttnOutDwRefIdeal [hAttnOutDwIdeal : Cert.AttnOutDwIdeal.Facts] [hAttnOutDwRefIdeal : Cert.AttnOutDwRefIdeal.Facts] : Prop :=
  ∀ (m : (ℓ : Loc Cert.AttnOutDwIdeal.nD Cert.AttnOutDwIdeal.τ Cert.AttnOutDwIdeal.sig) → Buf (Elt Ideal) ℓ) (g : Dev Cert.AttnOutDwIdeal.nD → PrngReg)
    (m' : (ℓ : Loc Cert.AttnOutDwRefIdeal.nD Cert.AttnOutDwRefIdeal.τ Cert.AttnOutDwRefIdeal.sig) → Buf (Elt Ideal) ℓ) (g' : Dev Cert.AttnOutDwRefIdeal.nD → PrngReg), Pre_AttnOutDwIdeal m →
    (∀ c : Dev Cert.AttnOutDwIdeal.nD,
      m' ((c.tc : Thread Cert.AttnOutDwRefIdeal.nD Cert.AttnOutDwRefIdeal.τ).loc Cert.AttnOutDwRefIdeal.main_arg0) = m ((c.tc : Thread Cert.AttnOutDwIdeal.nD Cert.AttnOutDwIdeal.τ).loc Cert.AttnOutDwIdeal.main_arg0)
      ∧ m' ((c.tc : Thread Cert.AttnOutDwRefIdeal.nD Cert.AttnOutDwRefIdeal.τ).loc Cert.AttnOutDwRefIdeal.main_arg1) = m ((c.tc : Thread Cert.AttnOutDwIdeal.nD Cert.AttnOutDwIdeal.τ).loc Cert.AttnOutDwIdeal.main_arg1)) →
    ∃ (v0 : (c : Dev Cert.AttnOutDwIdeal.nD) → Buf (Elt Ideal) ((c.tc : Thread Cert.AttnOutDwIdeal.nD Cert.AttnOutDwIdeal.τ).loc Cert.AttnOutDwIdeal.main_v0)),
      θ_run (Cert.AttnOutDwIdeal.defs (F := Ideal)) (onTc (τ := Cert.AttnOutDwIdeal.τ) (Cert.AttnOutDwIdeal.main (F := Ideal))) ⟨m, fun _ => 0, g⟩ (fun r => ∀ c : Dev Cert.AttnOutDwIdeal.nD,
          r.2.mem ((c.tc : Thread Cert.AttnOutDwIdeal.nD Cert.AttnOutDwIdeal.τ).loc Cert.AttnOutDwIdeal.main_v0) = v0 c
          ∧ r.2.mem ((c.tc : Thread Cert.AttnOutDwIdeal.nD Cert.AttnOutDwIdeal.τ).loc Cert.AttnOutDwIdeal.main_arg0) = m ((c.tc : Thread Cert.AttnOutDwIdeal.nD Cert.AttnOutDwIdeal.τ).loc Cert.AttnOutDwIdeal.main_arg0)
          ∧ r.2.mem ((c.tc : Thread Cert.AttnOutDwIdeal.nD Cert.AttnOutDwIdeal.τ).loc Cert.AttnOutDwIdeal.main_arg1) = m ((c.tc : Thread Cert.AttnOutDwIdeal.nD Cert.AttnOutDwIdeal.τ).loc Cert.AttnOutDwIdeal.main_arg1))
      ∧ θ_run (Cert.AttnOutDwRefIdeal.defs (F := Ideal)) (onTc (τ := Cert.AttnOutDwRefIdeal.τ) (Cert.AttnOutDwRefIdeal.main (F := Ideal))) ⟨m', fun _ => 0, g'⟩ (fun r => ∀ c : Dev Cert.AttnOutDwRefIdeal.nD,
          r.2.mem ((c.tc : Thread Cert.AttnOutDwRefIdeal.nD Cert.AttnOutDwRefIdeal.τ).loc Cert.AttnOutDwRefIdeal.main_v7) = v0 c
          ∧ r.2.mem ((c.tc : Thread Cert.AttnOutDwRefIdeal.nD Cert.AttnOutDwRefIdeal.τ).loc Cert.AttnOutDwRefIdeal.main_arg0) = m' ((c.tc : Thread Cert.AttnOutDwRefIdeal.nD Cert.AttnOutDwRefIdeal.τ).loc Cert.AttnOutDwRefIdeal.main_arg0)
          ∧ r.2.mem ((c.tc : Thread Cert.AttnOutDwRefIdeal.nD Cert.AttnOutDwRefIdeal.τ).loc Cert.AttnOutDwRefIdeal.main_arg1) = m' ((c.tc : Thread Cert.AttnOutDwRefIdeal.nD Cert.AttnOutDwRefIdeal.τ).loc Cert.AttnOutDwRefIdeal.main_arg1))

def preserves_KvIn_KvInIdeal : Prop :=
  True

def algebraic_KvInIdeal_KvInRefIdeal [hKvInIdeal : Cert.KvInIdeal.Facts] [hKvInRefIdeal : Cert.KvInRefIdeal.Facts] : Prop :=
  ∀ (m : (ℓ : Loc Cert.KvInIdeal.nD Cert.KvInIdeal.τ Cert.KvInIdeal.sig) → Buf (Elt Ideal) ℓ) (g : Dev Cert.KvInIdeal.nD → PrngReg)
    (m' : (ℓ : Loc Cert.KvInRefIdeal.nD Cert.KvInRefIdeal.τ Cert.KvInRefIdeal.sig) → Buf (Elt Ideal) ℓ) (g' : Dev Cert.KvInRefIdeal.nD → PrngReg), Pre_KvInIdeal m →
    (∀ c : Dev Cert.KvInIdeal.nD,
      m' ((c.tc : Thread Cert.KvInRefIdeal.nD Cert.KvInRefIdeal.τ).loc Cert.KvInRefIdeal.main_arg0) = m ((c.tc : Thread Cert.KvInIdeal.nD Cert.KvInIdeal.τ).loc Cert.KvInIdeal.main_arg0)
      ∧ m' ((c.tc : Thread Cert.KvInRefIdeal.nD Cert.KvInRefIdeal.τ).loc Cert.KvInRefIdeal.main_arg1) = m ((c.tc : Thread Cert.KvInIdeal.nD Cert.KvInIdeal.τ).loc Cert.KvInIdeal.main_arg1)) →
    ∃ (v0 : (c : Dev Cert.KvInIdeal.nD) → Buf (Elt Ideal) ((c.tc : Thread Cert.KvInIdeal.nD Cert.KvInIdeal.τ).loc Cert.KvInIdeal.main_v4)),
      θ_run (Cert.KvInIdeal.defs (F := Ideal)) (onTc (τ := Cert.KvInIdeal.τ) (Cert.KvInIdeal.main (F := Ideal))) ⟨m, fun _ => 0, g⟩ (fun r => ∀ c : Dev Cert.KvInIdeal.nD,
          r.2.mem ((c.tc : Thread Cert.KvInIdeal.nD Cert.KvInIdeal.τ).loc Cert.KvInIdeal.main_v4) = v0 c
          ∧ r.2.mem ((c.tc : Thread Cert.KvInIdeal.nD Cert.KvInIdeal.τ).loc Cert.KvInIdeal.main_arg0) = m ((c.tc : Thread Cert.KvInIdeal.nD Cert.KvInIdeal.τ).loc Cert.KvInIdeal.main_arg0)
          ∧ r.2.mem ((c.tc : Thread Cert.KvInIdeal.nD Cert.KvInIdeal.τ).loc Cert.KvInIdeal.main_arg1) = m ((c.tc : Thread Cert.KvInIdeal.nD Cert.KvInIdeal.τ).loc Cert.KvInIdeal.main_arg1))
      ∧ θ_run (Cert.KvInRefIdeal.defs (F := Ideal)) (onTc (τ := Cert.KvInRefIdeal.τ) (Cert.KvInRefIdeal.main (F := Ideal))) ⟨m', fun _ => 0, g'⟩ (fun r => ∀ c : Dev Cert.KvInRefIdeal.nD,
          r.2.mem ((c.tc : Thread Cert.KvInRefIdeal.nD Cert.KvInRefIdeal.τ).loc Cert.KvInRefIdeal.main_v5) = v0 c
          ∧ r.2.mem ((c.tc : Thread Cert.KvInRefIdeal.nD Cert.KvInRefIdeal.τ).loc Cert.KvInRefIdeal.main_arg0) = m' ((c.tc : Thread Cert.KvInRefIdeal.nD Cert.KvInRefIdeal.τ).loc Cert.KvInRefIdeal.main_arg0)
          ∧ r.2.mem ((c.tc : Thread Cert.KvInRefIdeal.nD Cert.KvInRefIdeal.τ).loc Cert.KvInRefIdeal.main_arg1) = m' ((c.tc : Thread Cert.KvInRefIdeal.nD Cert.KvInRefIdeal.τ).loc Cert.KvInRefIdeal.main_arg1))

def preserves_KvInDx_KvInDxIdeal : Prop :=
  True

def algebraic_KvInDxIdeal_KvInDxRefIdeal [hKvInDxIdeal : Cert.KvInDxIdeal.Facts] [hKvInDxRefIdeal : Cert.KvInDxRefIdeal.Facts] : Prop :=
  ∀ (m : (ℓ : Loc Cert.KvInDxIdeal.nD Cert.KvInDxIdeal.τ Cert.KvInDxIdeal.sig) → Buf (Elt Ideal) ℓ) (g : Dev Cert.KvInDxIdeal.nD → PrngReg)
    (m' : (ℓ : Loc Cert.KvInDxRefIdeal.nD Cert.KvInDxRefIdeal.τ Cert.KvInDxRefIdeal.sig) → Buf (Elt Ideal) ℓ) (g' : Dev Cert.KvInDxRefIdeal.nD → PrngReg), Pre_KvInDxIdeal m →
    (∀ c : Dev Cert.KvInDxIdeal.nD,
      m' ((c.tc : Thread Cert.KvInDxRefIdeal.nD Cert.KvInDxRefIdeal.τ).loc Cert.KvInDxRefIdeal.main_arg0) = m ((c.tc : Thread Cert.KvInDxIdeal.nD Cert.KvInDxIdeal.τ).loc Cert.KvInDxIdeal.main_arg0)
      ∧ m' ((c.tc : Thread Cert.KvInDxRefIdeal.nD Cert.KvInDxRefIdeal.τ).loc Cert.KvInDxRefIdeal.main_arg1) = m ((c.tc : Thread Cert.KvInDxIdeal.nD Cert.KvInDxIdeal.τ).loc Cert.KvInDxIdeal.main_arg1)) →
    ∃ (v0 : (c : Dev Cert.KvInDxIdeal.nD) → Buf (Elt Ideal) ((c.tc : Thread Cert.KvInDxIdeal.nD Cert.KvInDxIdeal.τ).loc Cert.KvInDxIdeal.main_v4)),
      θ_run (Cert.KvInDxIdeal.defs (F := Ideal)) (onTc (τ := Cert.KvInDxIdeal.τ) (Cert.KvInDxIdeal.main (F := Ideal))) ⟨m, fun _ => 0, g⟩ (fun r => ∀ c : Dev Cert.KvInDxIdeal.nD,
          r.2.mem ((c.tc : Thread Cert.KvInDxIdeal.nD Cert.KvInDxIdeal.τ).loc Cert.KvInDxIdeal.main_v4) = v0 c
          ∧ r.2.mem ((c.tc : Thread Cert.KvInDxIdeal.nD Cert.KvInDxIdeal.τ).loc Cert.KvInDxIdeal.main_arg0) = m ((c.tc : Thread Cert.KvInDxIdeal.nD Cert.KvInDxIdeal.τ).loc Cert.KvInDxIdeal.main_arg0)
          ∧ r.2.mem ((c.tc : Thread Cert.KvInDxIdeal.nD Cert.KvInDxIdeal.τ).loc Cert.KvInDxIdeal.main_arg1) = m ((c.tc : Thread Cert.KvInDxIdeal.nD Cert.KvInDxIdeal.τ).loc Cert.KvInDxIdeal.main_arg1))
      ∧ θ_run (Cert.KvInDxRefIdeal.defs (F := Ideal)) (onTc (τ := Cert.KvInDxRefIdeal.τ) (Cert.KvInDxRefIdeal.main (F := Ideal))) ⟨m', fun _ => 0, g'⟩ (fun r => ∀ c : Dev Cert.KvInDxRefIdeal.nD,
          r.2.mem ((c.tc : Thread Cert.KvInDxRefIdeal.nD Cert.KvInDxRefIdeal.τ).loc Cert.KvInDxRefIdeal.main_v7) = v0 c
          ∧ r.2.mem ((c.tc : Thread Cert.KvInDxRefIdeal.nD Cert.KvInDxRefIdeal.τ).loc Cert.KvInDxRefIdeal.main_arg0) = m' ((c.tc : Thread Cert.KvInDxRefIdeal.nD Cert.KvInDxRefIdeal.τ).loc Cert.KvInDxRefIdeal.main_arg0)
          ∧ r.2.mem ((c.tc : Thread Cert.KvInDxRefIdeal.nD Cert.KvInDxRefIdeal.τ).loc Cert.KvInDxRefIdeal.main_arg1) = m' ((c.tc : Thread Cert.KvInDxRefIdeal.nD Cert.KvInDxRefIdeal.τ).loc Cert.KvInDxRefIdeal.main_arg1))

def preserves_KvInDw_KvInDwIdeal : Prop :=
  True

def algebraic_KvInDwIdeal_KvInDwRefIdeal [hKvInDwIdeal : Cert.KvInDwIdeal.Facts] [hKvInDwRefIdeal : Cert.KvInDwRefIdeal.Facts] : Prop :=
  ∀ (m : (ℓ : Loc Cert.KvInDwIdeal.nD Cert.KvInDwIdeal.τ Cert.KvInDwIdeal.sig) → Buf (Elt Ideal) ℓ) (g : Dev Cert.KvInDwIdeal.nD → PrngReg)
    (m' : (ℓ : Loc Cert.KvInDwRefIdeal.nD Cert.KvInDwRefIdeal.τ Cert.KvInDwRefIdeal.sig) → Buf (Elt Ideal) ℓ) (g' : Dev Cert.KvInDwRefIdeal.nD → PrngReg), Pre_KvInDwIdeal m →
    (∀ c : Dev Cert.KvInDwIdeal.nD,
      m' ((c.tc : Thread Cert.KvInDwRefIdeal.nD Cert.KvInDwRefIdeal.τ).loc Cert.KvInDwRefIdeal.main_arg0) = m ((c.tc : Thread Cert.KvInDwIdeal.nD Cert.KvInDwIdeal.τ).loc Cert.KvInDwIdeal.main_arg0)
      ∧ m' ((c.tc : Thread Cert.KvInDwRefIdeal.nD Cert.KvInDwRefIdeal.τ).loc Cert.KvInDwRefIdeal.main_arg1) = m ((c.tc : Thread Cert.KvInDwIdeal.nD Cert.KvInDwIdeal.τ).loc Cert.KvInDwIdeal.main_arg1)) →
    ∃ (v0 : (c : Dev Cert.KvInDwIdeal.nD) → Buf (Elt Ideal) ((c.tc : Thread Cert.KvInDwIdeal.nD Cert.KvInDwIdeal.τ).loc Cert.KvInDwIdeal.main_v0)),
      θ_run (Cert.KvInDwIdeal.defs (F := Ideal)) (onTc (τ := Cert.KvInDwIdeal.τ) (Cert.KvInDwIdeal.main (F := Ideal))) ⟨m, fun _ => 0, g⟩ (fun r => ∀ c : Dev Cert.KvInDwIdeal.nD,
          r.2.mem ((c.tc : Thread Cert.KvInDwIdeal.nD Cert.KvInDwIdeal.τ).loc Cert.KvInDwIdeal.main_v0) = v0 c
          ∧ r.2.mem ((c.tc : Thread Cert.KvInDwIdeal.nD Cert.KvInDwIdeal.τ).loc Cert.KvInDwIdeal.main_arg0) = m ((c.tc : Thread Cert.KvInDwIdeal.nD Cert.KvInDwIdeal.τ).loc Cert.KvInDwIdeal.main_arg0)
          ∧ r.2.mem ((c.tc : Thread Cert.KvInDwIdeal.nD Cert.KvInDwIdeal.τ).loc Cert.KvInDwIdeal.main_arg1) = m ((c.tc : Thread Cert.KvInDwIdeal.nD Cert.KvInDwIdeal.τ).loc Cert.KvInDwIdeal.main_arg1))
      ∧ θ_run (Cert.KvInDwRefIdeal.defs (F := Ideal)) (onTc (τ := Cert.KvInDwRefIdeal.τ) (Cert.KvInDwRefIdeal.main (F := Ideal))) ⟨m', fun _ => 0, g'⟩ (fun r => ∀ c : Dev Cert.KvInDwRefIdeal.nD,
          r.2.mem ((c.tc : Thread Cert.KvInDwRefIdeal.nD Cert.KvInDwRefIdeal.τ).loc Cert.KvInDwRefIdeal.main_v7) = v0 c
          ∧ r.2.mem ((c.tc : Thread Cert.KvInDwRefIdeal.nD Cert.KvInDwRefIdeal.τ).loc Cert.KvInDwRefIdeal.main_arg0) = m' ((c.tc : Thread Cert.KvInDwRefIdeal.nD Cert.KvInDwRefIdeal.τ).loc Cert.KvInDwRefIdeal.main_arg0)
          ∧ r.2.mem ((c.tc : Thread Cert.KvInDwRefIdeal.nD Cert.KvInDwRefIdeal.τ).loc Cert.KvInDwRefIdeal.main_arg1) = m' ((c.tc : Thread Cert.KvInDwRefIdeal.nD Cert.KvInDwRefIdeal.τ).loc Cert.KvInDwRefIdeal.main_arg1))

def preserves_FfnBack_FfnBackIdeal : Prop :=
  True

def algebraic_FfnBackIdeal_FfnBackRefIdeal_pre_finite_rows [hFfnBackIdeal : Cert.FfnBackIdeal.Facts] [hFfnBackRefIdeal : Cert.FfnBackRefIdeal.Facts] [hPre_finite_rows : Cert.Pre_finite_rows.Facts] : Prop :=
  ∀ (m : (ℓ : Loc Cert.FfnBackIdeal.nD Cert.FfnBackIdeal.τ Cert.FfnBackIdeal.sig) → Buf (Elt Ideal) ℓ) (g : Dev Cert.FfnBackIdeal.nD → PrngReg)
    (m' : (ℓ : Loc Cert.FfnBackRefIdeal.nD Cert.FfnBackRefIdeal.τ Cert.FfnBackRefIdeal.sig) → Buf (Elt Ideal) ℓ) (g' : Dev Cert.FfnBackRefIdeal.nD → PrngReg), Pre_FfnBackIdeal_finite_rows m →
    (∀ c : Dev Cert.FfnBackIdeal.nD,
      m' ((c.tc : Thread Cert.FfnBackRefIdeal.nD Cert.FfnBackRefIdeal.τ).loc Cert.FfnBackRefIdeal.main_arg0) = m ((c.tc : Thread Cert.FfnBackIdeal.nD Cert.FfnBackIdeal.τ).loc Cert.FfnBackIdeal.main_arg0)
      ∧ m' ((c.tc : Thread Cert.FfnBackRefIdeal.nD Cert.FfnBackRefIdeal.τ).loc Cert.FfnBackRefIdeal.main_arg1) = m ((c.tc : Thread Cert.FfnBackIdeal.nD Cert.FfnBackIdeal.τ).loc Cert.FfnBackIdeal.main_arg1)
      ∧ m' ((c.tc : Thread Cert.FfnBackRefIdeal.nD Cert.FfnBackRefIdeal.τ).loc Cert.FfnBackRefIdeal.main_arg2) = m ((c.tc : Thread Cert.FfnBackIdeal.nD Cert.FfnBackIdeal.τ).loc Cert.FfnBackIdeal.main_arg2)
      ∧ m' ((c.tc : Thread Cert.FfnBackRefIdeal.nD Cert.FfnBackRefIdeal.τ).loc Cert.FfnBackRefIdeal.main_arg3) = m ((c.tc : Thread Cert.FfnBackIdeal.nD Cert.FfnBackIdeal.τ).loc Cert.FfnBackIdeal.main_arg3)) →
    ∃ (v0 : (c : Dev Cert.FfnBackIdeal.nD) → Buf (Elt Ideal) ((c.tc : Thread Cert.FfnBackIdeal.nD Cert.FfnBackIdeal.τ).loc Cert.FfnBackIdeal.main_v18_0)) (v1 : (c : Dev Cert.FfnBackIdeal.nD) → Buf (Elt Ideal) ((c.tc : Thread Cert.FfnBackIdeal.nD Cert.FfnBackIdeal.τ).loc Cert.FfnBackIdeal.main_v18_1)) (v2 : (c : Dev Cert.FfnBackIdeal.nD) → Buf (Elt Ideal) ((c.tc : Thread Cert.FfnBackIdeal.nD Cert.FfnBackIdeal.τ).loc Cert.FfnBackIdeal.main_v18_2)) (v3 : (c : Dev Cert.FfnBackIdeal.nD) → Buf (Elt Ideal) ((c.tc : Thread Cert.FfnBackIdeal.nD Cert.FfnBackIdeal.τ).loc Cert.FfnBackIdeal.main_v18_3)),
      θ_run (Cert.FfnBackIdeal.defs (F := Ideal)) (onTc (τ := Cert.FfnBackIdeal.τ) (Cert.FfnBackIdeal.main (F := Ideal))) ⟨m, fun _ => 0, g⟩ (fun r => ∀ c : Dev Cert.FfnBackIdeal.nD,
          r.2.mem ((c.tc : Thread Cert.FfnBackIdeal.nD Cert.FfnBackIdeal.τ).loc Cert.FfnBackIdeal.main_v18_0) = v0 c
          ∧ r.2.mem ((c.tc : Thread Cert.FfnBackIdeal.nD Cert.FfnBackIdeal.τ).loc Cert.FfnBackIdeal.main_v18_1) = v1 c
          ∧ r.2.mem ((c.tc : Thread Cert.FfnBackIdeal.nD Cert.FfnBackIdeal.τ).loc Cert.FfnBackIdeal.main_v18_2) = v2 c
          ∧ r.2.mem ((c.tc : Thread Cert.FfnBackIdeal.nD Cert.FfnBackIdeal.τ).loc Cert.FfnBackIdeal.main_v18_3) = v3 c
          ∧ r.2.mem ((c.tc : Thread Cert.FfnBackIdeal.nD Cert.FfnBackIdeal.τ).loc Cert.FfnBackIdeal.main_arg0) = m ((c.tc : Thread Cert.FfnBackIdeal.nD Cert.FfnBackIdeal.τ).loc Cert.FfnBackIdeal.main_arg0)
          ∧ r.2.mem ((c.tc : Thread Cert.FfnBackIdeal.nD Cert.FfnBackIdeal.τ).loc Cert.FfnBackIdeal.main_arg1) = m ((c.tc : Thread Cert.FfnBackIdeal.nD Cert.FfnBackIdeal.τ).loc Cert.FfnBackIdeal.main_arg1)
          ∧ r.2.mem ((c.tc : Thread Cert.FfnBackIdeal.nD Cert.FfnBackIdeal.τ).loc Cert.FfnBackIdeal.main_arg2) = m ((c.tc : Thread Cert.FfnBackIdeal.nD Cert.FfnBackIdeal.τ).loc Cert.FfnBackIdeal.main_arg2)
          ∧ r.2.mem ((c.tc : Thread Cert.FfnBackIdeal.nD Cert.FfnBackIdeal.τ).loc Cert.FfnBackIdeal.main_arg3) = m ((c.tc : Thread Cert.FfnBackIdeal.nD Cert.FfnBackIdeal.τ).loc Cert.FfnBackIdeal.main_arg3))
      ∧ θ_run (Cert.FfnBackRefIdeal.defs (F := Ideal)) (onTc (τ := Cert.FfnBackRefIdeal.τ) (Cert.FfnBackRefIdeal.main (F := Ideal))) ⟨m', fun _ => 0, g'⟩ (fun r => ∀ c : Dev Cert.FfnBackRefIdeal.nD,
          r.2.mem ((c.tc : Thread Cert.FfnBackRefIdeal.nD Cert.FfnBackRefIdeal.τ).loc Cert.FfnBackRefIdeal.main_v61) = v0 c
          ∧ r.2.mem ((c.tc : Thread Cert.FfnBackRefIdeal.nD Cert.FfnBackRefIdeal.τ).loc Cert.FfnBackRefIdeal.main_v62) = v1 c
          ∧ r.2.mem ((c.tc : Thread Cert.FfnBackRefIdeal.nD Cert.FfnBackRefIdeal.τ).loc Cert.FfnBackRefIdeal.main_v35) = v2 c
          ∧ r.2.mem ((c.tc : Thread Cert.FfnBackRefIdeal.nD Cert.FfnBackRefIdeal.τ).loc Cert.FfnBackRefIdeal.main_v32) = v3 c
          ∧ r.2.mem ((c.tc : Thread Cert.FfnBackRefIdeal.nD Cert.FfnBackRefIdeal.τ).loc Cert.FfnBackRefIdeal.main_arg0) = m' ((c.tc : Thread Cert.FfnBackRefIdeal.nD Cert.FfnBackRefIdeal.τ).loc Cert.FfnBackRefIdeal.main_arg0)
          ∧ r.2.mem ((c.tc : Thread Cert.FfnBackRefIdeal.nD Cert.FfnBackRefIdeal.τ).loc Cert.FfnBackRefIdeal.main_arg1) = m' ((c.tc : Thread Cert.FfnBackRefIdeal.nD Cert.FfnBackRefIdeal.τ).loc Cert.FfnBackRefIdeal.main_arg1)
          ∧ r.2.mem ((c.tc : Thread Cert.FfnBackRefIdeal.nD Cert.FfnBackRefIdeal.τ).loc Cert.FfnBackRefIdeal.main_arg2) = m' ((c.tc : Thread Cert.FfnBackRefIdeal.nD Cert.FfnBackRefIdeal.τ).loc Cert.FfnBackRefIdeal.main_arg2)
          ∧ r.2.mem ((c.tc : Thread Cert.FfnBackRefIdeal.nD Cert.FfnBackRefIdeal.τ).loc Cert.FfnBackRefIdeal.main_arg3) = m' ((c.tc : Thread Cert.FfnBackRefIdeal.nD Cert.FfnBackRefIdeal.τ).loc Cert.FfnBackRefIdeal.main_arg3))

def preserves_LruBack_LruBackIdeal : Prop :=
  True

def algebraic_LruBackIdeal_LruBackRefIdeal_pre_finite_lru_rows [hLruBackIdeal : Cert.LruBackIdeal.Facts] [hLruBackRefIdeal : Cert.LruBackRefIdeal.Facts] [hPre_finite_lru_rows : Cert.Pre_finite_lru_rows.Facts] : Prop :=
  ∀ (m : (ℓ : Loc Cert.LruBackIdeal.nD Cert.LruBackIdeal.τ Cert.LruBackIdeal.sig) → Buf (Elt Ideal) ℓ) (g : Dev Cert.LruBackIdeal.nD → PrngReg)
    (m' : (ℓ : Loc Cert.LruBackRefIdeal.nD Cert.LruBackRefIdeal.τ Cert.LruBackRefIdeal.sig) → Buf (Elt Ideal) ℓ) (g' : Dev Cert.LruBackRefIdeal.nD → PrngReg), Pre_LruBackIdeal_finite_lru_rows m →
    (∀ c : Dev Cert.LruBackIdeal.nD,
      m' ((c.tc : Thread Cert.LruBackRefIdeal.nD Cert.LruBackRefIdeal.τ).loc Cert.LruBackRefIdeal.main_arg0) = m ((c.tc : Thread Cert.LruBackIdeal.nD Cert.LruBackIdeal.τ).loc Cert.LruBackIdeal.main_arg0)
      ∧ m' ((c.tc : Thread Cert.LruBackRefIdeal.nD Cert.LruBackRefIdeal.τ).loc Cert.LruBackRefIdeal.main_arg1) = m ((c.tc : Thread Cert.LruBackIdeal.nD Cert.LruBackIdeal.τ).loc Cert.LruBackIdeal.main_arg1)
      ∧ m' ((c.tc : Thread Cert.LruBackRefIdeal.nD Cert.LruBackRefIdeal.τ).loc Cert.LruBackRefIdeal.main_arg2) = m ((c.tc : Thread Cert.LruBackIdeal.nD Cert.LruBackIdeal.τ).loc Cert.LruBackIdeal.main_arg2)
      ∧ m' ((c.tc : Thread Cert.LruBackRefIdeal.nD Cert.LruBackRefIdeal.τ).loc Cert.LruBackRefIdeal.main_arg3) = m ((c.tc : Thread Cert.LruBackIdeal.nD Cert.LruBackIdeal.τ).loc Cert.LruBackIdeal.main_arg3)
      ∧ m' ((c.tc : Thread Cert.LruBackRefIdeal.nD Cert.LruBackRefIdeal.τ).loc Cert.LruBackRefIdeal.main_arg4) = m ((c.tc : Thread Cert.LruBackIdeal.nD Cert.LruBackIdeal.τ).loc Cert.LruBackIdeal.main_arg4)) →
    ∃ (v0 : (c : Dev Cert.LruBackIdeal.nD) → Buf (Elt Ideal) ((c.tc : Thread Cert.LruBackIdeal.nD Cert.LruBackIdeal.τ).loc Cert.LruBackIdeal.main_v18_0)) (v1 : (c : Dev Cert.LruBackIdeal.nD) → Buf (Elt Ideal) ((c.tc : Thread Cert.LruBackIdeal.nD Cert.LruBackIdeal.τ).loc Cert.LruBackIdeal.main_v18_1)) (v2 : (c : Dev Cert.LruBackIdeal.nD) → Buf (Elt Ideal) ((c.tc : Thread Cert.LruBackIdeal.nD Cert.LruBackIdeal.τ).loc Cert.LruBackIdeal.main_v18_2)) (v3 : (c : Dev Cert.LruBackIdeal.nD) → Buf (Elt Ideal) ((c.tc : Thread Cert.LruBackIdeal.nD Cert.LruBackIdeal.τ).loc Cert.LruBackIdeal.main_v18_3)) (v4 : (c : Dev Cert.LruBackIdeal.nD) → Buf (Elt Ideal) ((c.tc : Thread Cert.LruBackIdeal.nD Cert.LruBackIdeal.τ).loc Cert.LruBackIdeal.main_v18_4)),
      θ_run (Cert.LruBackIdeal.defs (F := Ideal)) (onTc (τ := Cert.LruBackIdeal.τ) (Cert.LruBackIdeal.main (F := Ideal))) ⟨m, fun _ => 0, g⟩ (fun r => ∀ c : Dev Cert.LruBackIdeal.nD,
          r.2.mem ((c.tc : Thread Cert.LruBackIdeal.nD Cert.LruBackIdeal.τ).loc Cert.LruBackIdeal.main_v18_0) = v0 c
          ∧ r.2.mem ((c.tc : Thread Cert.LruBackIdeal.nD Cert.LruBackIdeal.τ).loc Cert.LruBackIdeal.main_v18_1) = v1 c
          ∧ r.2.mem ((c.tc : Thread Cert.LruBackIdeal.nD Cert.LruBackIdeal.τ).loc Cert.LruBackIdeal.main_v18_2) = v2 c
          ∧ r.2.mem ((c.tc : Thread Cert.LruBackIdeal.nD Cert.LruBackIdeal.τ).loc Cert.LruBackIdeal.main_v18_3) = v3 c
          ∧ r.2.mem ((c.tc : Thread Cert.LruBackIdeal.nD Cert.LruBackIdeal.τ).loc Cert.LruBackIdeal.main_v18_4) = v4 c
          ∧ r.2.mem ((c.tc : Thread Cert.LruBackIdeal.nD Cert.LruBackIdeal.τ).loc Cert.LruBackIdeal.main_arg0) = m ((c.tc : Thread Cert.LruBackIdeal.nD Cert.LruBackIdeal.τ).loc Cert.LruBackIdeal.main_arg0)
          ∧ r.2.mem ((c.tc : Thread Cert.LruBackIdeal.nD Cert.LruBackIdeal.τ).loc Cert.LruBackIdeal.main_arg1) = m ((c.tc : Thread Cert.LruBackIdeal.nD Cert.LruBackIdeal.τ).loc Cert.LruBackIdeal.main_arg1)
          ∧ r.2.mem ((c.tc : Thread Cert.LruBackIdeal.nD Cert.LruBackIdeal.τ).loc Cert.LruBackIdeal.main_arg2) = m ((c.tc : Thread Cert.LruBackIdeal.nD Cert.LruBackIdeal.τ).loc Cert.LruBackIdeal.main_arg2)
          ∧ r.2.mem ((c.tc : Thread Cert.LruBackIdeal.nD Cert.LruBackIdeal.τ).loc Cert.LruBackIdeal.main_arg3) = m ((c.tc : Thread Cert.LruBackIdeal.nD Cert.LruBackIdeal.τ).loc Cert.LruBackIdeal.main_arg3)
          ∧ r.2.mem ((c.tc : Thread Cert.LruBackIdeal.nD Cert.LruBackIdeal.τ).loc Cert.LruBackIdeal.main_arg4) = m ((c.tc : Thread Cert.LruBackIdeal.nD Cert.LruBackIdeal.τ).loc Cert.LruBackIdeal.main_arg4))
      ∧ θ_run (Cert.LruBackRefIdeal.defs (F := Ideal)) (onTc (τ := Cert.LruBackRefIdeal.τ) (Cert.LruBackRefIdeal.main (F := Ideal))) ⟨m', fun _ => 0, g'⟩ (fun r => ∀ c : Dev Cert.LruBackRefIdeal.nD,
          r.2.mem ((c.tc : Thread Cert.LruBackRefIdeal.nD Cert.LruBackRefIdeal.τ).loc Cert.LruBackRefIdeal.main_v61) = v0 c
          ∧ r.2.mem ((c.tc : Thread Cert.LruBackRefIdeal.nD Cert.LruBackRefIdeal.τ).loc Cert.LruBackRefIdeal.main_v62) = v1 c
          ∧ r.2.mem ((c.tc : Thread Cert.LruBackRefIdeal.nD Cert.LruBackRefIdeal.τ).loc Cert.LruBackRefIdeal.main_v35) = v2 c
          ∧ r.2.mem ((c.tc : Thread Cert.LruBackRefIdeal.nD Cert.LruBackRefIdeal.τ).loc Cert.LruBackRefIdeal.main_v32) = v3 c
          ∧ r.2.mem ((c.tc : Thread Cert.LruBackRefIdeal.nD Cert.LruBackRefIdeal.τ).loc Cert.LruBackRefIdeal.main_v67) = v4 c
          ∧ r.2.mem ((c.tc : Thread Cert.LruBackRefIdeal.nD Cert.LruBackRefIdeal.τ).loc Cert.LruBackRefIdeal.main_arg0) = m' ((c.tc : Thread Cert.LruBackRefIdeal.nD Cert.LruBackRefIdeal.τ).loc Cert.LruBackRefIdeal.main_arg0)
          ∧ r.2.mem ((c.tc : Thread Cert.LruBackRefIdeal.nD Cert.LruBackRefIdeal.τ).loc Cert.LruBackRefIdeal.main_arg1) = m' ((c.tc : Thread Cert.LruBackRefIdeal.nD Cert.LruBackRefIdeal.τ).loc Cert.LruBackRefIdeal.main_arg1)
          ∧ r.2.mem ((c.tc : Thread Cert.LruBackRefIdeal.nD Cert.LruBackRefIdeal.τ).loc Cert.LruBackRefIdeal.main_arg2) = m' ((c.tc : Thread Cert.LruBackRefIdeal.nD Cert.LruBackRefIdeal.τ).loc Cert.LruBackRefIdeal.main_arg2)
          ∧ r.2.mem ((c.tc : Thread Cert.LruBackRefIdeal.nD Cert.LruBackRefIdeal.τ).loc Cert.LruBackRefIdeal.main_arg3) = m' ((c.tc : Thread Cert.LruBackRefIdeal.nD Cert.LruBackRefIdeal.τ).loc Cert.LruBackRefIdeal.main_arg3)
          ∧ r.2.mem ((c.tc : Thread Cert.LruBackRefIdeal.nD Cert.LruBackRefIdeal.τ).loc Cert.LruBackRefIdeal.main_arg4) = m' ((c.tc : Thread Cert.LruBackRefIdeal.nD Cert.LruBackRefIdeal.τ).loc Cert.LruBackRefIdeal.main_arg4))

def preserves_AttnBack_AttnBackIdeal : Prop :=
  True

def algebraic_AttnBackIdeal_AttnBackRefIdeal_pre_finite_attn_rows [hAttnBackIdeal : Cert.AttnBackIdeal.Facts] [hAttnBackRefIdeal : Cert.AttnBackRefIdeal.Facts] [hPre_finite_attn_rows : Cert.Pre_finite_attn_rows.Facts] : Prop :=
  ∀ (m : (ℓ : Loc Cert.AttnBackIdeal.nD Cert.AttnBackIdeal.τ Cert.AttnBackIdeal.sig) → Buf (Elt Ideal) ℓ) (g : Dev Cert.AttnBackIdeal.nD → PrngReg)
    (m' : (ℓ : Loc Cert.AttnBackRefIdeal.nD Cert.AttnBackRefIdeal.τ Cert.AttnBackRefIdeal.sig) → Buf (Elt Ideal) ℓ) (g' : Dev Cert.AttnBackRefIdeal.nD → PrngReg), Pre_AttnBackIdeal_finite_attn_rows m →
    (∀ c : Dev Cert.AttnBackIdeal.nD,
      m' ((c.tc : Thread Cert.AttnBackRefIdeal.nD Cert.AttnBackRefIdeal.τ).loc Cert.AttnBackRefIdeal.main_arg0) = m ((c.tc : Thread Cert.AttnBackIdeal.nD Cert.AttnBackIdeal.τ).loc Cert.AttnBackIdeal.main_arg0)
      ∧ m' ((c.tc : Thread Cert.AttnBackRefIdeal.nD Cert.AttnBackRefIdeal.τ).loc Cert.AttnBackRefIdeal.main_arg1) = m ((c.tc : Thread Cert.AttnBackIdeal.nD Cert.AttnBackIdeal.τ).loc Cert.AttnBackIdeal.main_arg1)
      ∧ m' ((c.tc : Thread Cert.AttnBackRefIdeal.nD Cert.AttnBackRefIdeal.τ).loc Cert.AttnBackRefIdeal.main_arg2) = m ((c.tc : Thread Cert.AttnBackIdeal.nD Cert.AttnBackIdeal.τ).loc Cert.AttnBackIdeal.main_arg2)
      ∧ m' ((c.tc : Thread Cert.AttnBackRefIdeal.nD Cert.AttnBackRefIdeal.τ).loc Cert.AttnBackRefIdeal.main_arg3) = m ((c.tc : Thread Cert.AttnBackIdeal.nD Cert.AttnBackIdeal.τ).loc Cert.AttnBackIdeal.main_arg3)
      ∧ m' ((c.tc : Thread Cert.AttnBackRefIdeal.nD Cert.AttnBackRefIdeal.τ).loc Cert.AttnBackRefIdeal.main_arg4) = m ((c.tc : Thread Cert.AttnBackIdeal.nD Cert.AttnBackIdeal.τ).loc Cert.AttnBackIdeal.main_arg4)) →
    ∃ (v0 : (c : Dev Cert.AttnBackIdeal.nD) → Buf (Elt Ideal) ((c.tc : Thread Cert.AttnBackIdeal.nD Cert.AttnBackIdeal.τ).loc Cert.AttnBackIdeal.main_v18_0)) (v1 : (c : Dev Cert.AttnBackIdeal.nD) → Buf (Elt Ideal) ((c.tc : Thread Cert.AttnBackIdeal.nD Cert.AttnBackIdeal.τ).loc Cert.AttnBackIdeal.main_v18_1)) (v2 : (c : Dev Cert.AttnBackIdeal.nD) → Buf (Elt Ideal) ((c.tc : Thread Cert.AttnBackIdeal.nD Cert.AttnBackIdeal.τ).loc Cert.AttnBackIdeal.main_v18_2)) (v3 : (c : Dev Cert.AttnBackIdeal.nD) → Buf (Elt Ideal) ((c.tc : Thread Cert.AttnBackIdeal.nD Cert.AttnBackIdeal.τ).loc Cert.AttnBackIdeal.main_v18_3)) (v4 : (c : Dev Cert.AttnBackIdeal.nD) → Buf (Elt Ideal) ((c.tc : Thread Cert.AttnBackIdeal.nD Cert.AttnBackIdeal.τ).loc Cert.AttnBackIdeal.main_v18_4)),
      θ_run (Cert.AttnBackIdeal.defs (F := Ideal)) (onTc (τ := Cert.AttnBackIdeal.τ) (Cert.AttnBackIdeal.main (F := Ideal))) ⟨m, fun _ => 0, g⟩ (fun r => ∀ c : Dev Cert.AttnBackIdeal.nD,
          r.2.mem ((c.tc : Thread Cert.AttnBackIdeal.nD Cert.AttnBackIdeal.τ).loc Cert.AttnBackIdeal.main_v18_0) = v0 c
          ∧ r.2.mem ((c.tc : Thread Cert.AttnBackIdeal.nD Cert.AttnBackIdeal.τ).loc Cert.AttnBackIdeal.main_v18_1) = v1 c
          ∧ r.2.mem ((c.tc : Thread Cert.AttnBackIdeal.nD Cert.AttnBackIdeal.τ).loc Cert.AttnBackIdeal.main_v18_2) = v2 c
          ∧ r.2.mem ((c.tc : Thread Cert.AttnBackIdeal.nD Cert.AttnBackIdeal.τ).loc Cert.AttnBackIdeal.main_v18_3) = v3 c
          ∧ r.2.mem ((c.tc : Thread Cert.AttnBackIdeal.nD Cert.AttnBackIdeal.τ).loc Cert.AttnBackIdeal.main_v18_4) = v4 c
          ∧ r.2.mem ((c.tc : Thread Cert.AttnBackIdeal.nD Cert.AttnBackIdeal.τ).loc Cert.AttnBackIdeal.main_arg0) = m ((c.tc : Thread Cert.AttnBackIdeal.nD Cert.AttnBackIdeal.τ).loc Cert.AttnBackIdeal.main_arg0)
          ∧ r.2.mem ((c.tc : Thread Cert.AttnBackIdeal.nD Cert.AttnBackIdeal.τ).loc Cert.AttnBackIdeal.main_arg1) = m ((c.tc : Thread Cert.AttnBackIdeal.nD Cert.AttnBackIdeal.τ).loc Cert.AttnBackIdeal.main_arg1)
          ∧ r.2.mem ((c.tc : Thread Cert.AttnBackIdeal.nD Cert.AttnBackIdeal.τ).loc Cert.AttnBackIdeal.main_arg2) = m ((c.tc : Thread Cert.AttnBackIdeal.nD Cert.AttnBackIdeal.τ).loc Cert.AttnBackIdeal.main_arg2)
          ∧ r.2.mem ((c.tc : Thread Cert.AttnBackIdeal.nD Cert.AttnBackIdeal.τ).loc Cert.AttnBackIdeal.main_arg3) = m ((c.tc : Thread Cert.AttnBackIdeal.nD Cert.AttnBackIdeal.τ).loc Cert.AttnBackIdeal.main_arg3)
          ∧ r.2.mem ((c.tc : Thread Cert.AttnBackIdeal.nD Cert.AttnBackIdeal.τ).loc Cert.AttnBackIdeal.main_arg4) = m ((c.tc : Thread Cert.AttnBackIdeal.nD Cert.AttnBackIdeal.τ).loc Cert.AttnBackIdeal.main_arg4))
      ∧ θ_run (Cert.AttnBackRefIdeal.defs (F := Ideal)) (onTc (τ := Cert.AttnBackRefIdeal.τ) (Cert.AttnBackRefIdeal.main (F := Ideal))) ⟨m', fun _ => 0, g'⟩ (fun r => ∀ c : Dev Cert.AttnBackRefIdeal.nD,
          r.2.mem ((c.tc : Thread Cert.AttnBackRefIdeal.nD Cert.AttnBackRefIdeal.τ).loc Cert.AttnBackRefIdeal.main_v61) = v0 c
          ∧ r.2.mem ((c.tc : Thread Cert.AttnBackRefIdeal.nD Cert.AttnBackRefIdeal.τ).loc Cert.AttnBackRefIdeal.main_v62) = v1 c
          ∧ r.2.mem ((c.tc : Thread Cert.AttnBackRefIdeal.nD Cert.AttnBackRefIdeal.τ).loc Cert.AttnBackRefIdeal.main_v35) = v2 c
          ∧ r.2.mem ((c.tc : Thread Cert.AttnBackRefIdeal.nD Cert.AttnBackRefIdeal.τ).loc Cert.AttnBackRefIdeal.main_v32) = v3 c
          ∧ r.2.mem ((c.tc : Thread Cert.AttnBackRefIdeal.nD Cert.AttnBackRefIdeal.τ).loc Cert.AttnBackRefIdeal.main_v67) = v4 c
          ∧ r.2.mem ((c.tc : Thread Cert.AttnBackRefIdeal.nD Cert.AttnBackRefIdeal.τ).loc Cert.AttnBackRefIdeal.main_arg0) = m' ((c.tc : Thread Cert.AttnBackRefIdeal.nD Cert.AttnBackRefIdeal.τ).loc Cert.AttnBackRefIdeal.main_arg0)
          ∧ r.2.mem ((c.tc : Thread Cert.AttnBackRefIdeal.nD Cert.AttnBackRefIdeal.τ).loc Cert.AttnBackRefIdeal.main_arg1) = m' ((c.tc : Thread Cert.AttnBackRefIdeal.nD Cert.AttnBackRefIdeal.τ).loc Cert.AttnBackRefIdeal.main_arg1)
          ∧ r.2.mem ((c.tc : Thread Cert.AttnBackRefIdeal.nD Cert.AttnBackRefIdeal.τ).loc Cert.AttnBackRefIdeal.main_arg2) = m' ((c.tc : Thread Cert.AttnBackRefIdeal.nD Cert.AttnBackRefIdeal.τ).loc Cert.AttnBackRefIdeal.main_arg2)
          ∧ r.2.mem ((c.tc : Thread Cert.AttnBackRefIdeal.nD Cert.AttnBackRefIdeal.τ).loc Cert.AttnBackRefIdeal.main_arg3) = m' ((c.tc : Thread Cert.AttnBackRefIdeal.nD Cert.AttnBackRefIdeal.τ).loc Cert.AttnBackRefIdeal.main_arg3)
          ∧ r.2.mem ((c.tc : Thread Cert.AttnBackRefIdeal.nD Cert.AttnBackRefIdeal.τ).loc Cert.AttnBackRefIdeal.main_arg4) = m' ((c.tc : Thread Cert.AttnBackRefIdeal.nD Cert.AttnBackRefIdeal.τ).loc Cert.AttnBackRefIdeal.main_arg4))

def Claim : Prop :=
  ∃ (hAttnGrad : Cert.AttnGrad.Facts) (hAttnGradIdeal : Cert.AttnGradIdeal.Facts) (hAttnGradRefIdeal : Cert.AttnGradRefIdeal.Facts) (hFfnIn : Cert.FfnIn.Facts) (hFfnInIdeal : Cert.FfnInIdeal.Facts) (hFfnInRefIdeal : Cert.FfnInRefIdeal.Facts) (hFfnInDx : Cert.FfnInDx.Facts) (hFfnInDxIdeal : Cert.FfnInDxIdeal.Facts) (hFfnInDxRefIdeal : Cert.FfnInDxRefIdeal.Facts) (hFfnInDw : Cert.FfnInDw.Facts) (hFfnInDwIdeal : Cert.FfnInDwIdeal.Facts) (hFfnInDwRefIdeal : Cert.FfnInDwRefIdeal.Facts) (hFfnOut : Cert.FfnOut.Facts) (hFfnOutIdeal : Cert.FfnOutIdeal.Facts) (hFfnOutRefIdeal : Cert.FfnOutRefIdeal.Facts) (hFfnOutDx : Cert.FfnOutDx.Facts) (hFfnOutDxIdeal : Cert.FfnOutDxIdeal.Facts) (hFfnOutDxRefIdeal : Cert.FfnOutDxRefIdeal.Facts) (hFfnOutDw : Cert.FfnOutDw.Facts) (hFfnOutDwIdeal : Cert.FfnOutDwIdeal.Facts) (hFfnOutDwRefIdeal : Cert.FfnOutDwRefIdeal.Facts) (hLruIn : Cert.LruIn.Facts) (hLruInIdeal : Cert.LruInIdeal.Facts) (hLruInRefIdeal : Cert.LruInRefIdeal.Facts) (hLruInDx : Cert.LruInDx.Facts) (hLruInDxIdeal : Cert.LruInDxIdeal.Facts) (hLruInDxRefIdeal : Cert.LruInDxRefIdeal.Facts) (hLruInDw : Cert.LruInDw.Facts) (hLruInDwIdeal : Cert.LruInDwIdeal.Facts) (hLruInDwRefIdeal : Cert.LruInDwRefIdeal.Facts) (hLruOut : Cert.LruOut.Facts) (hLruOutIdeal : Cert.LruOutIdeal.Facts) (hLruOutRefIdeal : Cert.LruOutRefIdeal.Facts) (hLruOutDw : Cert.LruOutDw.Facts) (hLruOutDwIdeal : Cert.LruOutDwIdeal.Facts) (hLruOutDwRefIdeal : Cert.LruOutDwRefIdeal.Facts) (hAttnIn : Cert.AttnIn.Facts) (hAttnInIdeal : Cert.AttnInIdeal.Facts) (hAttnInRefIdeal : Cert.AttnInRefIdeal.Facts) (hAttnInDx : Cert.AttnInDx.Facts) (hAttnInDxIdeal : Cert.AttnInDxIdeal.Facts) (hAttnInDxRefIdeal : Cert.AttnInDxRefIdeal.Facts) (hAttnInDw : Cert.AttnInDw.Facts) (hAttnInDwIdeal : Cert.AttnInDwIdeal.Facts) (hAttnInDwRefIdeal : Cert.AttnInDwRefIdeal.Facts) (hAttnOut : Cert.AttnOut.Facts) (hAttnOutIdeal : Cert.AttnOutIdeal.Facts) (hAttnOutRefIdeal : Cert.AttnOutRefIdeal.Facts) (hAttnOutDw : Cert.AttnOutDw.Facts) (hAttnOutDwIdeal : Cert.AttnOutDwIdeal.Facts) (hAttnOutDwRefIdeal : Cert.AttnOutDwRefIdeal.Facts) (hKvIn : Cert.KvIn.Facts) (hKvInIdeal : Cert.KvInIdeal.Facts) (hKvInRefIdeal : Cert.KvInRefIdeal.Facts) (hKvInDx : Cert.KvInDx.Facts) (hKvInDxIdeal : Cert.KvInDxIdeal.Facts) (hKvInDxRefIdeal : Cert.KvInDxRefIdeal.Facts) (hKvInDw : Cert.KvInDw.Facts) (hKvInDwIdeal : Cert.KvInDwIdeal.Facts) (hKvInDwRefIdeal : Cert.KvInDwRefIdeal.Facts) (hFfnBack : Cert.FfnBack.Facts) (hFfnBackIdeal : Cert.FfnBackIdeal.Facts) (hFfnBackRefIdeal : Cert.FfnBackRefIdeal.Facts) (hLruBack : Cert.LruBack.Facts) (hLruBackIdeal : Cert.LruBackIdeal.Facts) (hLruBackRefIdeal : Cert.LruBackRefIdeal.Facts) (hAttnBack : Cert.AttnBack.Facts) (hAttnBackIdeal : Cert.AttnBackIdeal.Facts) (hAttnBackRefIdeal : Cert.AttnBackRefIdeal.Facts) (hPre_finite_operands : Cert.Pre_finite_operands.Facts) (hPre_finite_rows : Cert.Pre_finite_rows.Facts) (hPre_finite_lru_rows : Cert.Pre_finite_lru_rows.Facts) (hPre_finite_attn_rows : Cert.Pre_finite_attn_rows.Facts),
    quiescent_AttnGrad (hAttnGrad := hAttnGrad)
    ∧ quiescent_AttnGradIdeal (hAttnGradIdeal := hAttnGradIdeal)
    ∧ quiescent_AttnGradIdeal_pre_finite_operands (hAttnGradIdeal := hAttnGradIdeal) (hPre_finite_operands := hPre_finite_operands)
    ∧ quiescent_AttnGradRefIdeal (hAttnGradRefIdeal := hAttnGradRefIdeal)
    ∧ quiescent_AttnGradRefIdeal_pre_finite_operands (hAttnGradRefIdeal := hAttnGradRefIdeal) (hPre_finite_operands := hPre_finite_operands)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnInDx (hFfnInDx := hFfnInDx)
    ∧ quiescent_FfnInDxIdeal (hFfnInDxIdeal := hFfnInDxIdeal)
    ∧ quiescent_FfnInDxRefIdeal (hFfnInDxRefIdeal := hFfnInDxRefIdeal)
    ∧ quiescent_FfnInDw (hFfnInDw := hFfnInDw)
    ∧ quiescent_FfnInDwIdeal (hFfnInDwIdeal := hFfnInDwIdeal)
    ∧ quiescent_FfnInDwRefIdeal (hFfnInDwRefIdeal := hFfnInDwRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_FfnOutDx (hFfnOutDx := hFfnOutDx)
    ∧ quiescent_FfnOutDxIdeal (hFfnOutDxIdeal := hFfnOutDxIdeal)
    ∧ quiescent_FfnOutDxRefIdeal (hFfnOutDxRefIdeal := hFfnOutDxRefIdeal)
    ∧ quiescent_FfnOutDw (hFfnOutDw := hFfnOutDw)
    ∧ quiescent_FfnOutDwIdeal (hFfnOutDwIdeal := hFfnOutDwIdeal)
    ∧ quiescent_FfnOutDwRefIdeal (hFfnOutDwRefIdeal := hFfnOutDwRefIdeal)
    ∧ quiescent_LruIn (hLruIn := hLruIn)
    ∧ quiescent_LruInIdeal (hLruInIdeal := hLruInIdeal)
    ∧ quiescent_LruInRefIdeal (hLruInRefIdeal := hLruInRefIdeal)
    ∧ quiescent_LruInDx (hLruInDx := hLruInDx)
    ∧ quiescent_LruInDxIdeal (hLruInDxIdeal := hLruInDxIdeal)
    ∧ quiescent_LruInDxRefIdeal (hLruInDxRefIdeal := hLruInDxRefIdeal)
    ∧ quiescent_LruInDw (hLruInDw := hLruInDw)
    ∧ quiescent_LruInDwIdeal (hLruInDwIdeal := hLruInDwIdeal)
    ∧ quiescent_LruInDwRefIdeal (hLruInDwRefIdeal := hLruInDwRefIdeal)
    ∧ quiescent_LruOut (hLruOut := hLruOut)
    ∧ quiescent_LruOutIdeal (hLruOutIdeal := hLruOutIdeal)
    ∧ quiescent_LruOutRefIdeal (hLruOutRefIdeal := hLruOutRefIdeal)
    ∧ quiescent_LruOutDw (hLruOutDw := hLruOutDw)
    ∧ quiescent_LruOutDwIdeal (hLruOutDwIdeal := hLruOutDwIdeal)
    ∧ quiescent_LruOutDwRefIdeal (hLruOutDwRefIdeal := hLruOutDwRefIdeal)
    ∧ quiescent_AttnIn (hAttnIn := hAttnIn)
    ∧ quiescent_AttnInIdeal (hAttnInIdeal := hAttnInIdeal)
    ∧ quiescent_AttnInRefIdeal (hAttnInRefIdeal := hAttnInRefIdeal)
    ∧ quiescent_AttnInDx (hAttnInDx := hAttnInDx)
    ∧ quiescent_AttnInDxIdeal (hAttnInDxIdeal := hAttnInDxIdeal)
    ∧ quiescent_AttnInDxRefIdeal (hAttnInDxRefIdeal := hAttnInDxRefIdeal)
    ∧ quiescent_AttnInDw (hAttnInDw := hAttnInDw)
    ∧ quiescent_AttnInDwIdeal (hAttnInDwIdeal := hAttnInDwIdeal)
    ∧ quiescent_AttnInDwRefIdeal (hAttnInDwRefIdeal := hAttnInDwRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_AttnOutDw (hAttnOutDw := hAttnOutDw)
    ∧ quiescent_AttnOutDwIdeal (hAttnOutDwIdeal := hAttnOutDwIdeal)
    ∧ quiescent_AttnOutDwRefIdeal (hAttnOutDwRefIdeal := hAttnOutDwRefIdeal)
    ∧ quiescent_KvIn (hKvIn := hKvIn)
    ∧ quiescent_KvInIdeal (hKvInIdeal := hKvInIdeal)
    ∧ quiescent_KvInRefIdeal (hKvInRefIdeal := hKvInRefIdeal)
    ∧ quiescent_KvInDx (hKvInDx := hKvInDx)
    ∧ quiescent_KvInDxIdeal (hKvInDxIdeal := hKvInDxIdeal)
    ∧ quiescent_KvInDxRefIdeal (hKvInDxRefIdeal := hKvInDxRefIdeal)
    ∧ quiescent_KvInDw (hKvInDw := hKvInDw)
    ∧ quiescent_KvInDwIdeal (hKvInDwIdeal := hKvInDwIdeal)
    ∧ quiescent_KvInDwRefIdeal (hKvInDwRefIdeal := hKvInDwRefIdeal)
    ∧ quiescent_FfnBack (hFfnBack := hFfnBack)
    ∧ quiescent_FfnBackIdeal (hFfnBackIdeal := hFfnBackIdeal)
    ∧ quiescent_FfnBackIdeal_pre_finite_rows (hFfnBackIdeal := hFfnBackIdeal) (hPre_finite_rows := hPre_finite_rows)
    ∧ quiescent_FfnBackRefIdeal (hFfnBackRefIdeal := hFfnBackRefIdeal)
    ∧ quiescent_FfnBackRefIdeal_pre_finite_rows (hFfnBackRefIdeal := hFfnBackRefIdeal) (hPre_finite_rows := hPre_finite_rows)
    ∧ quiescent_LruBack (hLruBack := hLruBack)
    ∧ quiescent_LruBackIdeal (hLruBackIdeal := hLruBackIdeal)
    ∧ quiescent_LruBackIdeal_pre_finite_lru_rows (hLruBackIdeal := hLruBackIdeal) (hPre_finite_lru_rows := hPre_finite_lru_rows)
    ∧ quiescent_LruBackRefIdeal (hLruBackRefIdeal := hLruBackRefIdeal)
    ∧ quiescent_LruBackRefIdeal_pre_finite_lru_rows (hLruBackRefIdeal := hLruBackRefIdeal) (hPre_finite_lru_rows := hPre_finite_lru_rows)
    ∧ quiescent_AttnBack (hAttnBack := hAttnBack)
    ∧ quiescent_AttnBackIdeal (hAttnBackIdeal := hAttnBackIdeal)
    ∧ quiescent_AttnBackIdeal_pre_finite_attn_rows (hAttnBackIdeal := hAttnBackIdeal) (hPre_finite_attn_rows := hPre_finite_attn_rows)
    ∧ quiescent_AttnBackRefIdeal (hAttnBackRefIdeal := hAttnBackRefIdeal)
    ∧ quiescent_AttnBackRefIdeal_pre_finite_attn_rows (hAttnBackRefIdeal := hAttnBackRefIdeal) (hPre_finite_attn_rows := hPre_finite_attn_rows)
    ∧ preserves_AttnGrad_AttnGradIdeal
    ∧ algebraic_AttnGradIdeal_AttnGradRefIdeal_pre_finite_operands (hAttnGradIdeal := hAttnGradIdeal) (hAttnGradRefIdeal := hAttnGradRefIdeal) (hPre_finite_operands := hPre_finite_operands)
    ∧ preserves_FfnIn_FfnInIdeal
    ∧ algebraic_FfnInIdeal_FfnInRefIdeal (hFfnInIdeal := hFfnInIdeal) (hFfnInRefIdeal := hFfnInRefIdeal)
    ∧ preserves_FfnInDx_FfnInDxIdeal
    ∧ algebraic_FfnInDxIdeal_FfnInDxRefIdeal (hFfnInDxIdeal := hFfnInDxIdeal) (hFfnInDxRefIdeal := hFfnInDxRefIdeal)
    ∧ preserves_FfnInDw_FfnInDwIdeal
    ∧ algebraic_FfnInDwIdeal_FfnInDwRefIdeal (hFfnInDwIdeal := hFfnInDwIdeal) (hFfnInDwRefIdeal := hFfnInDwRefIdeal)
    ∧ preserves_FfnOut_FfnOutIdeal
    ∧ algebraic_FfnOutIdeal_FfnOutRefIdeal (hFfnOutIdeal := hFfnOutIdeal) (hFfnOutRefIdeal := hFfnOutRefIdeal)
    ∧ preserves_FfnOutDx_FfnOutDxIdeal
    ∧ algebraic_FfnOutDxIdeal_FfnOutDxRefIdeal (hFfnOutDxIdeal := hFfnOutDxIdeal) (hFfnOutDxRefIdeal := hFfnOutDxRefIdeal)
    ∧ preserves_FfnOutDw_FfnOutDwIdeal
    ∧ algebraic_FfnOutDwIdeal_FfnOutDwRefIdeal (hFfnOutDwIdeal := hFfnOutDwIdeal) (hFfnOutDwRefIdeal := hFfnOutDwRefIdeal)
    ∧ preserves_LruIn_LruInIdeal
    ∧ algebraic_LruInIdeal_LruInRefIdeal (hLruInIdeal := hLruInIdeal) (hLruInRefIdeal := hLruInRefIdeal)
    ∧ preserves_LruInDx_LruInDxIdeal
    ∧ algebraic_LruInDxIdeal_LruInDxRefIdeal (hLruInDxIdeal := hLruInDxIdeal) (hLruInDxRefIdeal := hLruInDxRefIdeal)
    ∧ preserves_LruInDw_LruInDwIdeal
    ∧ algebraic_LruInDwIdeal_LruInDwRefIdeal (hLruInDwIdeal := hLruInDwIdeal) (hLruInDwRefIdeal := hLruInDwRefIdeal)
    ∧ preserves_LruOut_LruOutIdeal
    ∧ algebraic_LruOutIdeal_LruOutRefIdeal (hLruOutIdeal := hLruOutIdeal) (hLruOutRefIdeal := hLruOutRefIdeal)
    ∧ preserves_LruOutDw_LruOutDwIdeal
    ∧ algebraic_LruOutDwIdeal_LruOutDwRefIdeal (hLruOutDwIdeal := hLruOutDwIdeal) (hLruOutDwRefIdeal := hLruOutDwRefIdeal)
    ∧ preserves_AttnIn_AttnInIdeal
    ∧ algebraic_AttnInIdeal_AttnInRefIdeal (hAttnInIdeal := hAttnInIdeal) (hAttnInRefIdeal := hAttnInRefIdeal)
    ∧ preserves_AttnInDx_AttnInDxIdeal
    ∧ algebraic_AttnInDxIdeal_AttnInDxRefIdeal (hAttnInDxIdeal := hAttnInDxIdeal) (hAttnInDxRefIdeal := hAttnInDxRefIdeal)
    ∧ preserves_AttnInDw_AttnInDwIdeal
    ∧ algebraic_AttnInDwIdeal_AttnInDwRefIdeal (hAttnInDwIdeal := hAttnInDwIdeal) (hAttnInDwRefIdeal := hAttnInDwRefIdeal)
    ∧ preserves_AttnOut_AttnOutIdeal
    ∧ algebraic_AttnOutIdeal_AttnOutRefIdeal (hAttnOutIdeal := hAttnOutIdeal) (hAttnOutRefIdeal := hAttnOutRefIdeal)
    ∧ preserves_AttnOutDw_AttnOutDwIdeal
    ∧ algebraic_AttnOutDwIdeal_AttnOutDwRefIdeal (hAttnOutDwIdeal := hAttnOutDwIdeal) (hAttnOutDwRefIdeal := hAttnOutDwRefIdeal)
    ∧ preserves_KvIn_KvInIdeal
    ∧ algebraic_KvInIdeal_KvInRefIdeal (hKvInIdeal := hKvInIdeal) (hKvInRefIdeal := hKvInRefIdeal)
    ∧ preserves_KvInDx_KvInDxIdeal
    ∧ algebraic_KvInDxIdeal_KvInDxRefIdeal (hKvInDxIdeal := hKvInDxIdeal) (hKvInDxRefIdeal := hKvInDxRefIdeal)
    ∧ preserves_KvInDw_KvInDwIdeal
    ∧ algebraic_KvInDwIdeal_KvInDwRefIdeal (hKvInDwIdeal := hKvInDwIdeal) (hKvInDwRefIdeal := hKvInDwRefIdeal)
    ∧ preserves_FfnBack_FfnBackIdeal
    ∧ algebraic_FfnBackIdeal_FfnBackRefIdeal_pre_finite_rows (hFfnBackIdeal := hFfnBackIdeal) (hFfnBackRefIdeal := hFfnBackRefIdeal) (hPre_finite_rows := hPre_finite_rows)
    ∧ preserves_LruBack_LruBackIdeal
    ∧ algebraic_LruBackIdeal_LruBackRefIdeal_pre_finite_lru_rows (hLruBackIdeal := hLruBackIdeal) (hLruBackRefIdeal := hLruBackRefIdeal) (hPre_finite_lru_rows := hPre_finite_lru_rows)
    ∧ preserves_AttnBack_AttnBackIdeal
    ∧ algebraic_AttnBackIdeal_AttnBackRefIdeal_pre_finite_attn_rows (hAttnBackIdeal := hAttnBackIdeal) (hAttnBackRefIdeal := hAttnBackRefIdeal) (hPre_finite_attn_rows := hPre_finite_attn_rows)
-- ==== Pre_finite_attn_rows.lean ====
abbrev S2064x1024 : Shape := ⟨2, ![2064, 1024]⟩
abbrev S1x1024 : Shape := ⟨2, ![1, 1024]⟩
abbrev S1024x1024 : Shape := ⟨2, ![1024, 1024]⟩
abbrev S_ : Shape := ⟨0, ![]⟩

class Facts : Prop where
  bcast_S_S2064x1024 : S_.BroadcastsInDim S2064x1024 (![] : Fin 0 → Fin S2064x1024.rank)
  bcast_S_S1x1024 : S_.BroadcastsInDim S1x1024 (![] : Fin 0 → Fin S1x1024.rank)

variable [Facts]

def fn {F : FTy → Type} [FloatOps F] (main_arg0 : FVec F S2064x1024 .f32) (main_arg1 : FVec F S2064x1024 .f32) (main_arg2 : FVec F S2064x1024 .f32) (main_arg3 : FVec F S1x1024 .f32) (main_arg4 : FVec F S1024x1024 .bf16) : IVec S2064x1024 1 × IVec S2064x1024 1 × IVec S1x1024 1 :=
  let main_v0 : FVec F S2064x1024 .f32 := Host.absf main_arg0
  let main_cst : FVec F S_ .f32 := constant S_ .f32 0x7F800000#32
  let main_v1 : FVec F S2064x1024 .f32 := broadcastInDim S2064x1024 ![] bcast_S_S2064x1024 main_cst
  let main_v2 : IVec S2064x1024 1 := cmpf .olt main_v0 main_v1
  let main_v3 : FVec F S2064x1024 .f32 := Host.absf main_arg1
  let main_cst_0 : FVec F S_ .f32 := constant S_ .f32 0x7F800000#32
  let main_v4 : FVec F S2064x1024 .f32 := broadcastInDim S2064x1024 ![] bcast_S_S2064x1024 main_cst_0
  let main_v5 : IVec S2064x1024 1 := cmpf .olt main_v3 main_v4
  let main_v6 : FVec F S1x1024 .f32 := Host.absf main_arg3
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  (main_v2, main_v5, main_v8)
-- ==== Pre_finite_lru_rows.lean ====
abbrev S2064x1024 : Shape := ⟨2, ![2064, 1024]⟩
abbrev S1x1024 : Shape := ⟨2, ![1, 1024]⟩
abbrev S1536x1024 : Shape := ⟨2, ![1536, 1024]⟩
abbrev S_ : Shape := ⟨0, ![]⟩

class Facts : Prop where
  bcast_S_S2064x1024 : S_.BroadcastsInDim S2064x1024 (![] : Fin 0 → Fin S2064x1024.rank)
  bcast_S_S1x1024 : S_.BroadcastsInDim S1x1024 (![] : Fin 0 → Fin S1x1024.rank)

variable [Facts]

def fn {F : FTy → Type} [FloatOps F] (main_arg0 : FVec F S2064x1024 .f32) (main_arg1 : FVec F S2064x1024 .f32) (main_arg2 : FVec F S2064x1024 .f32) (main_arg3 : FVec F S1x1024 .f32) (main_arg4 : FVec F S1536x1024 .bf16) : IVec S2064x1024 1 × IVec S2064x1024 1 × IVec S1x1024 1 :=
  let main_v0 : FVec F S2064x1024 .f32 := Host.absf main_arg0
  let main_cst : FVec F S_ .f32 := constant S_ .f32 0x7F800000#32
  let main_v1 : FVec F S2064x1024 .f32 := broadcastInDim S2064x1024 ![] bcast_S_S2064x1024 main_cst
  let main_v2 : IVec S2064x1024 1 := cmpf .olt main_v0 main_v1
  let main_v3 : FVec F S2064x1024 .f32 := Host.absf main_arg1
  let main_cst_0 : FVec F S_ .f32 := constant S_ .f32 0x7F800000#32
  let main_v4 : FVec F S2064x1024 .f32 := broadcastInDim S2064x1024 ![] bcast_S_S2064x1024 main_cst_0
  let main_v5 : IVec S2064x1024 1 := cmpf .olt main_v3 main_v4
  let main_v6 : FVec F S1x1024 .f32 := Host.absf main_arg3
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  (main_v2, main_v5, main_v8)
-- ==== Pre_finite_operands.lean ====
abbrev S2064x1024 : Shape := ⟨2, ![2064, 1024]⟩
abbrev S2064x2048 : Shape := ⟨2, ![2064, 2048]⟩
abbrev S2064x2304 : Shape := ⟨2, ![2064, 2304]⟩
abbrev S2064x16 : Shape := ⟨2, ![2064, 16]⟩
abbrev S_ : Shape := ⟨0, ![]⟩

class Facts : Prop where
  slices_S2064x2048_S2064x1024_0_0 : S2064x2048.Slices ![0, 0] S2064x1024
  slices_S2064x2304_S2064x2048_0_0 : S2064x2304.Slices ![0, 0] S2064x2048
  bcast_S_S2064x1024 : S_.BroadcastsInDim S2064x1024 (![] : Fin 0 → Fin S2064x1024.rank)
  bcast_S_S2064x2048 : S_.BroadcastsInDim S2064x2048 (![] : Fin 0 → Fin S2064x2048.rank)
  bcast_S_S2064x16 : S_.BroadcastsInDim S2064x16 (![] : Fin 0 → Fin S2064x16.rank)

variable [Facts]

def fn {F : FTy → Type} [FloatOps F] (main_arg0 : FVec F S2064x1024 .f32) (main_arg1 : FVec F S2064x2048 .f32) (main_arg2 : FVec F S2064x2304 .f32) (main_arg3 : FVec F S2064x1024 .f32) (main_arg4 : FVec F S2064x16 .f32) : IVec S2064x1024 1 × IVec S2064x1024 1 × IVec S2064x2048 1 × IVec S2064x16 1 :=
  let main_v0 : FVec F S2064x1024 .f32 := (extractStridedSlice S2064x1024 ![0, 0] · slices_S2064x2048_S2064x1024_0_0) main_arg1
  let main_v1 : FVec F S2064x2048 .f32 := (extractStridedSlice S2064x2048 ![0, 0] · slices_S2064x2304_S2064x2048_0_0) main_arg2
  let main_v2 : FVec F S2064x1024 .f32 := Host.absf main_arg0
  let main_cst : FVec F S_ .f32 := constant S_ .f32 0x7F800000#32
  let main_v3 : FVec F S2064x1024 .f32 := broadcastInDim S2064x1024 ![] bcast_S_S2064x1024 main_cst
  let main_v4 : IVec S2064x1024 1 := cmpf .olt main_v2 main_v3
  let main_v5 : FVec F S2064x1024 .f32 := Host.absf main_v0
  let main_cst_0 : FVec F S_ .f32 := constant S_ .f32 0x7F800000#32
  let main_v6 : FVec F S2064x1024 .f32 := broadcastInDim S2064x1024 ![] bcast_S_S2064x1024 main_cst_0
  let main_v7 : IVec S2064x1024 1 := cmpf .olt main_v5 main_v6
  let main_v8 : FVec F S2064x2048 .f32 := Host.absf main_v1
  let main_cst_1 : FVec F S_ .f32 := constant S_ .f32 0x7F800000#32
  let main_v9 : FVec F S2064x2048 .f32 := broadcastInDim S2064x2048 ![] bcast_S_S2064x2048 main_cst_1
  let main_v10 : IVec S2064x2048 1 := cmpf .olt main_v8 main_v9
  let main_v11 : FVec F S2064x16 .f32 := Host.absf main_arg4
  let main_cst_2 : FVec F S_ .f32 := constant S_ .f32 0x7F800000#32
  let main_v12 : FVec F S2064x16 .f32 := broadcastInDim S2064x16 ![] bcast_S_S2064x16 main_cst_2
  let main_v13 : IVec S2064x16 1 := cmpf .olt main_v11 main_v12
  (main_v4, main_v7, main_v10, main_v13)
-- ==== Pre_finite_rows.lean ====
abbrev S2064x1024 : Shape := ⟨2, ![2064, 1024]⟩
abbrev S1x1024 : Shape := ⟨2, ![1, 1024]⟩
abbrev S_ : Shape := ⟨0, ![]⟩

class Facts : Prop where
  bcast_S_S2064x1024 : S_.BroadcastsInDim S2064x1024 (![] : Fin 0 → Fin S2064x1024.rank)
  bcast_S_S1x1024 : S_.BroadcastsInDim S1x1024 (![] : Fin 0 → Fin S1x1024.rank)

variable [Facts]

def fn {F : FTy → Type} [FloatOps F] (main_arg0 : FVec F S2064x1024 .f32) (main_arg1 : FVec F S2064x1024 .f32) (main_arg2 : FVec F S2064x1024 .f32) (main_arg3 : FVec F S1x1024 .f32) : IVec S2064x1024 1 × IVec S2064x1024 1 × IVec S1x1024 1 :=
  let main_v0 : FVec F S2064x1024 .f32 := Host.absf main_arg0
  let main_cst : FVec F S_ .f32 := constant S_ .f32 0x7F800000#32
  let main_v1 : FVec F S2064x1024 .f32 := broadcastInDim S2064x1024 ![] bcast_S_S2064x1024 main_cst
  let main_v2 : IVec S2064x1024 1 := cmpf .olt main_v0 main_v1
  let main_v3 : FVec F S2064x1024 .f32 := Host.absf main_arg1
  let main_cst_0 : FVec F S_ .f32 := constant S_ .f32 0x7F800000#32
  let main_v4 : FVec F S2064x1024 .f32 := broadcastInDim S2064x1024 ![] bcast_S_S2064x1024 main_cst_0
  let main_v5 : IVec S2064x1024 1 := cmpf .olt main_v3 main_v4
  let main_v6 : FVec F S1x1024 .f32 := Host.absf main_arg3
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  (main_v2, main_v5, main_v8)
-- ==== AttnGrad.lean ====
abbrev S2064x1024 : Shape := ⟨2, ![2064, 1024]⟩
abbrev S2064x2048 : Shape := ⟨2, ![2064, 2048]⟩
abbrev S2064x2304 : Shape := ⟨2, ![2064, 2304]⟩
abbrev S2064x16 : Shape := ⟨2, ![2064, 16]⟩
abbrev S16x2064 : Shape := ⟨2, ![16, 2064]⟩
abbrev S_ : Shape := ⟨0, ![]⟩
abbrev S16x2304 : Shape := ⟨2, ![16, 2304]⟩
abbrev S16x1x2304 : Shape := ⟨3, ![16, 1, 2304]⟩
abbrev S2064x128 : Shape := ⟨2, ![2064, 128]⟩
abbrev S2x1x2304 : Shape := ⟨3, ![2, 1, 2304]⟩
abbrev S2304x128 : Shape := ⟨2, ![2304, 128]⟩
abbrev S240x128 : Shape := ⟨2, ![240, 128]⟩
abbrev S1x1x2304 : Shape := ⟨3, ![1, 1, 2304]⟩
abbrev S1x2304 : Shape := ⟨2, ![1, 2304]⟩
abbrev S384x64 : Shape := ⟨2, ![384, 64]⟩
abbrev S384x384 : Shape := ⟨2, ![384, 384]⟩
abbrev S1x384 : Shape := ⟨2, ![1, 384]⟩
abbrev S384 : Shape := ⟨1, ![384]⟩
abbrev S384x1 : Shape := ⟨2, ![384, 1]⟩
abbrev S1x1x384 : Shape := ⟨3, ![1, 1, 384]⟩
abbrev S768x64 : Shape := ⟨2, ![768, 64]⟩
abbrev S384x768 : Shape := ⟨2, ![384, 768]⟩
abbrev S1x768 : Shape := ⟨2, ![1, 768]⟩
abbrev S1x1x768 : Shape := ⟨3, ![1, 1, 768]⟩
abbrev S768 : Shape := ⟨1, ![768]⟩
abbrev S1152x64 : Shape := ⟨2, ![1152, 64]⟩
abbrev S384x1152 : Shape := ⟨2, ![384, 1152]⟩
abbrev S1x1152 : Shape := ⟨2, ![1, 1152]⟩
abbrev S1x1x1152 : Shape := ⟨3, ![1, 1, 1152]⟩
abbrev S1152 : Shape := ⟨1, ![1152]⟩
abbrev S1536x64 : Shape := ⟨2, ![1536, 64]⟩
abbrev S384x1536 : Shape := ⟨2, ![384, 1536]⟩
abbrev S1x1536 : Shape := ⟨2, ![1, 1536]⟩
abbrev S1x1x1536 : Shape := ⟨3, ![1, 1, 1536]⟩
abbrev S1536 : Shape := ⟨1, ![1536]⟩
abbrev S1920x64 : Shape := ⟨2, ![1920, 64]⟩
abbrev S384x1920 : Shape := ⟨2, ![384, 1920]⟩
abbrev S1x1920 : Shape := ⟨2, ![1, 1920]⟩
abbrev S1x1x1920 : Shape := ⟨3, ![1, 1, 1920]⟩
abbrev S1920 : Shape := ⟨1, ![1920]⟩

abbrev nBuf : Space → Nat
  | .hbm => 15
  | .vmem => 31
  | .smem => 0
  | _ => 0

abbrev bufTy : (tb : Table) → Fin (tcTables nBuf tb) → BufTy
  | .hbm, ⟨0, _⟩ => ⟨S2064x1024, .f32⟩
  | .hbm, ⟨1, _⟩ => ⟨S2064x2048, .f32⟩
  | .hbm, ⟨2, _⟩ => ⟨S2064x2304, .f32⟩
  | .hbm, ⟨3, _⟩ => ⟨S2064x1024, .f32⟩
  | .hbm, ⟨4, _⟩ => ⟨S2064x16, .f32⟩
  | .hbm, ⟨5, _⟩ => ⟨S16x2064, .f32⟩
  | .hbm, ⟨6, _⟩ => ⟨S_, .i32⟩
  | .hbm, ⟨7, _⟩ => ⟨S_, .f32⟩
  | .hbm, ⟨8, _⟩ => ⟨S16x2304, .f32⟩
  | .hbm, ⟨9, _⟩ => ⟨S16x1x2304, .f32⟩
  | .hbm, ⟨10, _⟩ => ⟨S2064x1024, .bf16⟩
  | .hbm, ⟨11, _⟩ => ⟨S2064x1024, .bf16⟩
  | .hbm, ⟨12, _⟩ => ⟨S2064x1024, .f32⟩
  | .hbm, ⟨13, _⟩ => ⟨S2064x1024, .f32⟩
  | .hbm, ⟨14, _⟩ => ⟨S16x1x2304, .f32⟩
  | .local _ .vmem, ⟨0, _⟩ => ⟨S2064x128, .f32⟩
  | .local _ .vmem, ⟨1, _⟩ => ⟨S2064x128, .f32⟩
  | .local _ .vmem, ⟨2, _⟩ => ⟨S2064x128, .f32⟩
  | .local _ .vmem, ⟨3, _⟩ => ⟨S2064x128, .f32⟩
  | .local _ .vmem, ⟨4, _⟩ => ⟨S2064x128, .f32⟩
  | .local _ .vmem, ⟨5, _⟩ => ⟨S2064x128, .f32⟩
  | .local _ .vmem, ⟨6, _⟩ => ⟨S2064x128, .f32⟩
  | .local _ .vmem, ⟨7, _⟩ => ⟨S2064x128, .f32⟩
  | .local _ .vmem, ⟨8, _⟩ => ⟨S2064x128, .f32⟩
  | .local _ .vmem, ⟨9, _⟩ => ⟨S2064x128, .f32⟩
  | .local _ .vmem, ⟨10, _⟩ => ⟨S2064x128, .f32⟩
  | .local _ .vmem, ⟨11, _⟩ => ⟨S2064x128, .f32⟩
  | .local _ .vmem, ⟨12, _⟩ => ⟨S2x1x2304, .f32⟩
  | .local _ .vmem, ⟨13, _⟩ => ⟨S2x1x2304, .f32⟩
  | .local _ .vmem, ⟨14, _⟩ => ⟨S2064x128, .bf16⟩
  | .local _ .vmem, ⟨15, _⟩ => ⟨S2064x128, .bf16⟩
  | .local _ .vmem, ⟨16, _⟩ => ⟨S2064x128, .bf16⟩
  | .local _ .vmem, ⟨17, _⟩ => ⟨S2064x128, .bf16⟩
  | .local _ .vmem, ⟨18, _⟩ => ⟨S2064x128, .f32⟩
  | .local _ .vmem, ⟨19, _⟩ => ⟨S2064x128, .f32⟩
  | .local _ .vmem, ⟨20, _⟩ => ⟨S2064x128, .f32⟩
  | .local _ .vmem, ⟨21, _⟩ => ⟨S2064x128, .f32⟩
  | .local _ .vmem, ⟨22, _⟩ => ⟨S2x1x2304, .f32⟩
  | .local _ .vmem, ⟨23, _⟩ => ⟨S2x1x2304, .f32⟩
  | .local _ .vmem, ⟨24, _⟩ => ⟨S2304x128, .bf16⟩
  | .local _ .vmem, ⟨25, _⟩ => ⟨S2304x128, .bf16⟩
  | .local _ .vmem, ⟨26, _⟩ => ⟨S2304x128, .bf16⟩
  | .local _ .vmem, ⟨27, _⟩ => ⟨S2304x128, .bf16⟩
  | .local _ .vmem, ⟨28, _⟩ => ⟨S2304x128, .f32⟩
  | .local _ .vmem, ⟨29, _⟩ => ⟨S2304x128, .f32⟩
  | .local _ .vmem, ⟨30, _⟩ => ⟨S2304x128, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2064x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2064x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2064x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2064x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2064x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2064x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2064x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2064x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2064x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2064x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x1x2304 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== AttnGradIdeal.lean ====
variable {F : FTy → Type} [FloatOps F] [Named F]
def κ : String → Option EReal := fun
  | "mask" => some ⊥
  | _ => none
-- ==== AttnGradRefIdeal.lean ====
abbrev S2064x1024 : Shape := ⟨2, ![2064, 1024]⟩
abbrev S2064x2048 : Shape := ⟨2, ![2064, 2048]⟩
abbrev S2064x2304 : Shape := ⟨2, ![2064, 2304]⟩
abbrev S2064x16 : Shape := ⟨2, ![2064, 16]⟩
abbrev S_ : Shape := ⟨0, ![]⟩
abbrev S2064x16x64 : Shape := ⟨3, ![2064, 16, 64]⟩
abbrev S16x2064x2064 : Shape := ⟨3, ![16, 2064, 2064]⟩
abbrev S16x2064 : Shape := ⟨2, ![16, 2064]⟩
abbrev S16x2064x1 : Shape := ⟨3, ![16, 2064, 1]⟩
abbrev S16x1x2064 : Shape := ⟨3, ![16, 1, 2064]⟩
abbrev S2064 : Shape := ⟨1, ![2064]⟩
abbrev S1x2064 : Shape := ⟨2, ![1, 2064]⟩
abbrev S2064x1 : Shape := ⟨2, ![2064, 1]⟩
abbrev S2064x2064 : Shape := ⟨2, ![2064, 2064]⟩
abbrev S16x64x2064 : Shape := ⟨3, ![16, 64, 2064]⟩
abbrev S16x2064x64 : Shape := ⟨3, ![16, 2064, 64]⟩
abbrev S16x2304 : Shape := ⟨2, ![16, 2304]⟩
abbrev S16x1x2304 : Shape := ⟨3, ![16, 1, 2304]⟩

abbrev nBuf : Space → Nat
  | .hbm => 148
  | .vmem => 0
  | .smem => 0
  | _ => 0

abbrev hbmTy0_0 (i : Nat) : BufTy := match i % 128 with
  | 0 => ⟨S2064x1024, .f32⟩
  | 1 => ⟨S2064x2048, .f32⟩
  | 2 => ⟨S2064x2304, .f32⟩
  | 3 => ⟨S2064x1024, .f32⟩
  | 4 => ⟨S2064x16, .f32⟩
  | 5 => ⟨S2064x1024, .f32⟩
  | 6 => ⟨S2064x1024, .f32⟩
  | 7 => ⟨S2064x1024, .f32⟩
  | 8 => ⟨S_, .f32⟩
  | 9 => ⟨S2064x1024, .f32⟩
  | 10 => ⟨S2064x1024, .f32⟩
  | 11 => ⟨S_, .f32⟩
  | 12 => ⟨S2064x1024, .f32⟩
  | 13 => ⟨S2064x1024, .f32⟩
  | 14 => ⟨S_, .f32⟩
  | 15 => ⟨S2064x1024, .f32⟩
  | 16 => ⟨S2064x1024, .f32⟩
  | 17 => ⟨S2064x1024, .f32⟩
  | 18 => ⟨S2064x1024, .f32⟩
  | 19 => ⟨S2064x1024, .f32⟩
  | 20 => ⟨S2064x1024, .f32⟩
  | 21 => ⟨S2064x1024, .f32⟩
  | 22 => ⟨S2064x1024, .f32⟩
  | 23 => ⟨S2064x1024, .f32⟩
  | 24 => ⟨S2064x1024, .f32⟩
  | 25 => ⟨S2064x16x64, .f32⟩
  | 26 => ⟨S2064x16x64, .f32⟩
  | 27 => ⟨S2064x16x64, .f32⟩
  | 28 => ⟨S16x2064x2064, .f32⟩
  | 29 => ⟨S_, .f32⟩
  | 30 => ⟨S16x2064x2064, .f32⟩
  | 31 => ⟨S16x2064x2064, .f32⟩
  | 32 => ⟨S16x2064, .f32⟩
  | 33 => ⟨S16x2064x1, .f32⟩
  | 34 => ⟨S16x2064x2064, .f32⟩
  | 35 => ⟨S16x2064x2064, .f32⟩
  | 36 => ⟨S16x2064, .f32⟩
  | 37 => ⟨S16x1x2064, .f32⟩
  | 38 => ⟨S16x2064x2064, .f32⟩
  | 39 => ⟨S16x2064x2064, .f32⟩
  | 40 => ⟨S2064, .i32⟩
  | 41 => ⟨S1x2064, .i32⟩
  | 42 => ⟨S2064, .i32⟩
  | 43 => ⟨S2064x1, .i32⟩
  | 44 => ⟨S2064x2064, .i32⟩
  | 45 => ⟨S2064x2064, .i32⟩
  | 46 => ⟨S2064x2064, .i1⟩
  | 47 => ⟨S_, .f32⟩
  | 48 => ⟨S_, .f32⟩
  | 49 => ⟨S16x2064x2064, .i1⟩
  | 50 => ⟨S16x2064x2064, .f32⟩
  | 51 => ⟨S16x2064x2064, .f32⟩
  | 52 => ⟨S_, .f32⟩
  | 53 => ⟨S16x2064x2064, .f32⟩
  | 54 => ⟨S_, .f32⟩
  | 55 => ⟨S16x2064, .f32⟩
  | 56 => ⟨S16x2064x1, .f32⟩
  | 57 => ⟨S16x2064x2064, .f32⟩
  | 58 => ⟨S16x2064x2064, .i1⟩
  | 59 => ⟨S16x2064x2064, .f32⟩
  | 60 => ⟨S_, .f32⟩
  | 61 => ⟨S16x2064, .f32⟩
  | 62 => ⟨S_, .f32⟩
  | 63 => ⟨S16x2064, .f32⟩
  | 64 => ⟨S16x2064, .f32⟩
  | 65 => ⟨S_, .f32⟩
  | 66 => ⟨S16x2064, .f32⟩
  | 67 => ⟨S16x2064, .i1⟩
  | 68 => ⟨S_, .f32⟩
  | 69 => ⟨S16x2064, .f32⟩
  | 70 => ⟨S16x2064, .i1⟩
  | 71 => ⟨S_, .f32⟩
  | 72 => ⟨S16x2064, .f32⟩
  | 73 => ⟨S_, .f32⟩
  | 74 => ⟨S16x2064, .f32⟩
  | 75 => ⟨S_, .f32⟩
  | 76 => ⟨S16x2064, .f32⟩
  | 77 => ⟨S16x2064, .f32⟩
  | 78 => ⟨S16x2064, .f32⟩
  | 79 => ⟨S16x2064x1, .f32⟩
  | 80 => ⟨S16x2064x2064, .f32⟩
  | 81 => ⟨S16x2064x2064, .f32⟩
  | 82 => ⟨S16x2064x2064, .f32⟩
  | 83 => ⟨S_, .f32⟩
  | 84 => ⟨S16x2064, .f32⟩
  | 85 => ⟨S16x2064x1, .f32⟩
  | 86 => ⟨S16x2064x2064, .f32⟩
  | 87 => ⟨S16x2064x2064, .f32⟩
  | 88 => ⟨S16x2064x1, .f32⟩
  | 89 => ⟨S_, .f32⟩
  | 90 => ⟨S16x2064x1, .f32⟩
  | 91 => ⟨S16x2064x1, .f32⟩
  | 92 => ⟨S16x64x2064, .f32⟩
  | 93 => ⟨S2064x16x64, .f32⟩
  | 94 => ⟨S2064x1024, .f32⟩
  | 95 => ⟨S2064x16x64, .f32⟩
  | 96 => ⟨S16x64x2064, .f32⟩
  | 97 => ⟨S16x2064x2064, .f32⟩
  | 98 => ⟨S16x64x2064, .f32⟩
  | 99 => ⟨S2064x16x64, .f32⟩
  | 100 => ⟨S16x2064x2064, .f32⟩
  | 101 => ⟨S16x2064x2064, .f32⟩
  | 102 => ⟨S16x2064x2064, .f32⟩
  | 103 => ⟨S_, .f32⟩
  | 104 => ⟨S16x2064, .f32⟩
  | 105 => ⟨S16x2064x1, .f32⟩
  | 106 => ⟨S16x2064x1, .f32⟩
  | 107 => ⟨S16x2064x2064, .f32⟩
  | 108 => ⟨S16x2064x2064, .f32⟩
  | 109 => ⟨S_, .f32⟩
  | 110 => ⟨S16x2064, .f32⟩
  | 111 => ⟨S16x2064x2064, .f32⟩
  | 112 => ⟨S16x2064x2064, .f32⟩
  | 113 => ⟨S16x2064x2064, .f32⟩
  | 114 => ⟨S_, .f32⟩
  | 115 => ⟨S16x2064x2064, .f32⟩
  | 116 => ⟨S16x2064x2064, .f32⟩
  | 117 => ⟨S16x2064x2064, .f32⟩
  | 118 => ⟨S_, .f32⟩
  | 119 => ⟨S16x2064, .f32⟩
  | 120 => ⟨S16x1x2064, .f32⟩
  | 121 => ⟨S_, .f32⟩
  | 122 => ⟨S16x2064, .f32⟩
  | 123 => ⟨S2064x16, .f32⟩
  | 124 => ⟨S_, .f32⟩
  | 125 => ⟨S16x2064, .f32⟩
  | 126 => ⟨S16x2064x1, .f32⟩
  | 127 => ⟨S_, .f32⟩
  | _ => ⟨S2064x1024, .f32⟩

abbrev hbmTy0_1 (i : Nat) : BufTy := match i % 128 with
  | 0 => ⟨S16x2064, .f32⟩
  | 1 => ⟨S2064x16, .f32⟩
  | 2 => ⟨S2064x16, .f32⟩
  | 3 => ⟨S_, .f32⟩
  | 4 => ⟨S16x2064x2064, .f32⟩
  | 5 => ⟨S16x2064x2064, .f32⟩
  | 6 => ⟨S16x2064x64, .f32⟩
  | 7 => ⟨S2064x16x64, .f32⟩
  | 8 => ⟨S16x2064x64, .f32⟩
  | 9 => ⟨S2064x16x64, .f32⟩
  | 10 => ⟨S2064x1024, .f32⟩
  | 11 => ⟨S2064x1024, .f32⟩
  | 12 => ⟨S2064x1024, .f32⟩
  | 13 => ⟨S16x2064, .f32⟩
  | 14 => ⟨S_, .i32⟩
  | 15 => ⟨S_, .f32⟩
  | 16 => ⟨S16x2304, .f32⟩
  | 17 => ⟨S16x1x2304, .f32⟩
  | 18 => ⟨S2064x1024, .bf16⟩
  | 19 => ⟨S2064x1024, .bf16⟩
  | _ => ⟨S2064x1024, .f32⟩

abbrev hbmTy (i : Nat) : BufTy := match i / 128 with
  | 0 => hbmTy0_0 i
  | 1 => hbmTy0_1 i
  | _ => ⟨S2064x1024, .f32⟩

abbrev bufTy : (tb : Table) → Fin (tcTables nBuf tb) → BufTy
  | .hbm, ⟨i, _⟩ => hbmTy i
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_call0_v0 : Ref sig .tc := ⟨.hbm, 48, rfl⟩
abbrev main_v38_1 : Ref sig .tc := ⟨.hbm, 49, rfl⟩
abbrev main_call0_v2 : Ref sig .tc := ⟨.hbm, 50, rfl⟩
abbrev main_v38_0 : Ref sig .tc := ⟨.hbm, 51, rfl⟩
abbrev main_call0_cst : Ref sig .tc := ⟨.hbm, 52, rfl⟩
abbrev main_v38_2 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_13 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_14 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_15 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_call1_cst : Ref sig .tc := ⟨.hbm, 114, rfl⟩
abbrev main_call1_v0 : Ref sig .tc := ⟨.hbm, 115, rfl⟩
abbrev main_v87 : Ref sig .tc := ⟨.hbm, 116, rfl⟩
abbrev main_v88 : Ref sig .tc := ⟨.hbm, 117, rfl⟩
abbrev main_cst_16 : Ref sig .tc := ⟨.hbm, 118, rfl⟩
abbrev main_v89 : Ref sig .tc := ⟨.hbm, 119, rfl⟩
abbrev main_v90 : Ref sig .tc := ⟨.hbm, 120, rfl⟩
abbrev main_cst_17 : Ref sig .tc := ⟨.hbm, 121, rfl⟩
abbrev main_v91 : Ref sig .tc := ⟨.hbm, 122, rfl⟩
abbrev main_v92 : Ref sig .tc := ⟨.hbm, 123, rfl⟩
abbrev main_cst_18 : Ref sig .tc := ⟨.hbm, 124, rfl⟩
abbrev main_v93 : Ref sig .tc := ⟨.hbm, 125, rfl⟩
abbrev main_v94 : Ref sig .tc := ⟨.hbm, 126, rfl⟩
abbrev main_cst_19 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_20 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_c : Ref sig .tc := ⟨.hbm, 142, rfl⟩
abbrev main_call2_v0 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩

abbrev nD : Nat := 1
abbrev τ : Topo := Topo.v7x

variable {F : FTy → Type} [FloatOps F]
-- ==== FfnIn.lean ====
abbrev S2064x1024 : Shape := ⟨2, ![2064, 1024]⟩
abbrev S4x1024x1408 : Shape := ⟨3, ![4, 1024, 1408]⟩
abbrev S2064x5632 : Shape := ⟨2, ![2064, 5632]⟩
abbrev S688x1024 : Shape := ⟨2, ![688, 1024]⟩
abbrev S1x1024x1408 : Shape := ⟨3, ![1, 1024, 1408]⟩
abbrev S688x1408 : Shape := ⟨2, ![688, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2064x1024, .bf16⟩
  | .hbm, ⟨1, _⟩ => ⟨S4x1024x1408, .bf16⟩
  | .hbm, ⟨2, _⟩ => ⟨S2064x5632, .f32⟩
  | .local _ .vmem, ⟨0, _⟩ => ⟨S688x1024, .bf16⟩
  | .local _ .vmem, ⟨1, _⟩ => ⟨S688x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S688x1408, .f32⟩
  | .local _ .vmem, ⟨5, _⟩ => ⟨S688x1408, .f32⟩
  | _, _ => ⟨S2064x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S688x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== FfnInRefIdeal.lean ====
abbrev S2064x1024 : Shape := ⟨2, ![2064, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S2064x5632 : Shape := ⟨2, ![2064, 5632]⟩

abbrev nBuf : Space → Nat
  | .hbm => 7
  | .vmem => 0
  | .smem => 0
  | _ => 0

abbrev bufTy : (tb : Table) → Fin (tcTables nBuf tb) → BufTy
  | .hbm, ⟨0, _⟩ => ⟨S2064x1024, .bf16⟩
  | .hbm, ⟨1, _⟩ => ⟨S4x1024x1408, .bf16⟩
  | .hbm, ⟨2, _⟩ => ⟨S2064x1024, .f32⟩
  | .hbm, ⟨3, _⟩ => ⟨S4x1024x1408, .f32⟩
  | .hbm, ⟨4, _⟩ => ⟨S1024x4x1408, .f32⟩
  | .hbm, ⟨5, _⟩ => ⟨S1024x5632, .f32⟩
  | .hbm, ⟨6, _⟩ => ⟨S2064x5632, .f32⟩
  | _, _ => ⟨S2064x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FfnInDx.lean ====
abbrev S2064x2816 : Shape := ⟨2, ![2064, 2816]⟩
abbrev S4x1024x1408 : Shape := ⟨3, ![4, 1024, 1408]⟩
abbrev S2064x1024 : Shape := ⟨2, ![2064, 1024]⟩
abbrev S688x1408 : Shape := ⟨2, ![688, 1408]⟩
abbrev S1x1024x1408 : Shape := ⟨3, ![1, 1024, 1408]⟩
abbrev S688x1024 : Shape := ⟨2, ![688, 1024]⟩
abbrev S1024x1408 : Shape := ⟨2, ![1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S2064x2816, .bf16⟩
  | .hbm, ⟨1, _⟩ => ⟨S2064x2816, .bf16⟩
  | .hbm, ⟨2, _⟩ => ⟨S4x1024x1408, .bf16⟩
  | .hbm, ⟨3, _⟩ => ⟨S2064x1024, .f32⟩
  | .local _ .vmem, ⟨0, _⟩ => ⟨S688x1408, .bf16⟩
  | .local _ .vmem, ⟨1, _⟩ => ⟨S688x1408, .bf16⟩
  | .local _ .vmem, ⟨2, _⟩ => ⟨S688x1408, .bf16⟩
  | .local _ .vmem, ⟨3, _⟩ => ⟨S688x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S688x1024, .f32⟩
  | .local _ .vmem, ⟨7, _⟩ => ⟨S688x1024, .f32⟩
  | _, _ => ⟨S2064x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 4, 1], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond2 (i : grid0.Coords) : BitVec 1 :=
  let arg1 : BitVec 32 := BitVec.ofNat 32 (i 1).val
  let c0_i32_2 : BitVec 32 := 0#32
  let v6 : BitVec 1 := Scalar.cmpi .sgt arg1 c0_i32_2
  let v7 : BitVec 32 := Scalar.extui v6
  let c0_i32_3 : BitVec 32 := 0#32
  let v8 : BitVec 1 := Scalar.cmpi .slt arg1 c0_i32_3
  let v9 : BitVec 32 := Scalar.extui v8
  let v10 : BitVec 32 := Scalar.subi v7 v9
  let c2_i32 : BitVec 32 := 2#32
  let c0_i32_4 : BitVec 32 := 0#32
  let v11 : BitVec 1 := Scalar.cmpi .sgt c2_i32 c0_i32_4
  let v12 : BitVec 32 := Scalar.extui v11
  let c0_i32_5 : BitVec 32 := 0#32
  let v13 : BitVec 1 := Scalar.cmpi .slt c2_i32 c0_i32_5
  let v14 : BitVec 32 := Scalar.extui v13
  let v15 : BitVec 32 := Scalar.subi v12 v14
  let v16 : BitVec 1 := Scalar.cmpi .ne v10 v15
  let v17 : BitVec 32 := Scalar.remsi arg1 c2_i32
  let c0_i32_6 : BitVec 32 := 0#32
  let v18 : BitVec 1 := Scalar.cmpi .ne v17 c0_i32_6
  let v19 : BitVec 1 := Scalar.andi v16 v18
  let v5 : BitVec 32 := Scalar.divsi arg1 c2_i32
  let c1_i32 : BitVec 32 := 1#32
  let v20 : BitVec 32 := Scalar.subi v5 c1_i32
  let v21 : BitVec 32 := Scalar.select v19 v20 v5
  let c0_i32_7 : BitVec 32 := 0#32
  let v22 : BitVec 1 := Scalar.cmpi .eq v21 c0_i32_7
  let v23 : BitVec 32 := Scalar.extui v22
  let c0_i32_8 : BitVec 32 := 0#32
  let v24 : BitVec 1 := Scalar.cmpi .ne v23 c0_i32_8
  v24

def k0_cond3 (i : grid0.Coords) : BitVec 1 :=
  let arg1 : BitVec 32 := BitVec.ofNat 32 (i 1).val
  let c0_i32_10 : BitVec 32 := 0#32
  let v26 : BitVec 1 := Scalar.cmpi .sgt arg1 c0_i32_10
  let v27 : BitVec 32 := Scalar.extui v26
  let c0_i32_11 : BitVec 32 := 0#32
  let v28 : BitVec 1 := Scalar.cmpi .slt arg1 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi arg1 c2_i32_9
  let c0_i32_14 : BitVec 32 := 0#32
  let v38 : BitVec 1 := Scalar.cmpi .ne v37 c0_i32_14
  let v39 : BitVec 1 := Scalar.andi v36 v38
  let v25 : BitVec 32 := Scalar.divsi arg1 c2_i32_9
  let c1_i32_15 : BitVec 32 := 1#32
  let v40 : BitVec 32 := Scalar.subi v25 c1_i32_15
  let v41 : BitVec 32 := Scalar.select v39 v40 v25
  let c1_i32_16 : BitVec 32 := 1#32
  let v42 : BitVec 1 := Scalar.cmpi .eq v41 c1_i32_16
  let v43 : BitVec 32 := Scalar.extui v42
  let c0_i32_17 : BitVec 32 := 0#32
  let v44 : BitVec 1 := Scalar.cmpi .ne v43 c0_i32_17
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let v18 : BitVec 32 := Scalar.subi arg1 c0_i32_5
  let c1_i32_6 : BitVec 32 := 1#32
  let v19 : BitVec 32 := Scalar.muli v18 c1_i32_6
  let v20 : BitVec 32 := Scalar.addi v19 arg2
  let c0_i32_7 : BitVec 32 := 0#32
  let v21 : BitVec 32 := Scalar.select v17 v20 c0_i32_7
  let c0_i32_8 : BitVec 32 := 0#32
  ![arg0.toNat, v21.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 1 := Scalar.cmpi .eq v16 c1_i32_4
  let c2_i32_5 : BitVec 32 := 2#32
  let v18 : BitVec 32 := Scalar.subi arg1 c2_i32_5
  let c1_i32_6 : BitVec 32 := 1#32
  let v19 : BitVec 32 := Scalar.muli v18 c1_i32_6
  let v20 : BitVec 32 := Scalar.addi v19 arg2
  let c0_i32_7 : BitVec 32 := 0#32
  let v21 : BitVec 32 := Scalar.select v17 v20 c0_i32_7
  let c0_i32_8 : BitVec 32 := 0#32
  ![arg0.toNat, v21.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S688x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S688x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S688x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== FfnInDxRefIdeal.lean ====
abbrev S2064x2816 : Shape := ⟨2, ![2064, 2816]⟩
abbrev S4x1024x1408 : Shape := ⟨3, ![4, 1024, 1408]⟩
abbrev S2064x5632 : Shape := ⟨2, ![2064, 5632]⟩
abbrev S_ : Shape := ⟨0, ![]⟩
abbrev S2064x1024 : Shape := ⟨2, ![2064, 1024]⟩
abbrev S1024x4x1408 : Shape := ⟨3, ![1024, 4, 1408]⟩
abbrev S1024x5632 : Shape := ⟨2, ![1024, 5632]⟩

abbrev nBuf : Space → Nat
  | .hbm => 13
  | .vmem => 0
  | .smem => 0
  | _ => 0

abbrev bufTy : (tb : Table) → Fin (tcTables nBuf tb) → BufTy
  | .hbm, ⟨0, _⟩ => ⟨S2064x2816, .bf16⟩
  | .hbm, ⟨1, _⟩ => ⟨S2064x2816, .bf16⟩
  | .hbm, ⟨2, _⟩ => ⟨S4x1024x1408, .bf16⟩
  | .hbm, ⟨3, _⟩ => ⟨S2064x2816, .f32⟩
  | .hbm, ⟨4, _⟩ => ⟨S2064x2816, .f32⟩
  | .hbm, ⟨5, _⟩ => ⟨S2064x5632, .f32⟩
  | .hbm, ⟨6, _⟩ => ⟨S_, .f32⟩
  | .hbm, ⟨7, _⟩ => ⟨S2064x1024, .f32⟩
  | .hbm, ⟨8, _⟩ => ⟨S4x1024x1408, .f32⟩
  | .hbm, ⟨9, _⟩ => ⟨S1024x4x1408, .f32⟩
  | .hbm, ⟨10, _⟩ => ⟨S1024x5632, .f32⟩
  | .hbm, ⟨11, _⟩ => ⟨S2064x5632, .f32⟩
  | .hbm, ⟨12, _⟩ => ⟨S2064x1024, .f32⟩
  | _, _ => ⟨S2064x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== FfnInDw.lean ====
abbrev S2064x1024 : Shape := ⟨2, ![2064, 1024]⟩
abbrev S2064x2816 : Shape := ⟨2, ![2064, 2816]⟩
abbrev S4x1024x1408 : Shape := ⟨3, ![4, 1024, 1408]⟩
abbrev S2064x1408 : Shape := ⟨2, ![2064, 1408]⟩
abbrev S1x1024x1408 : Shape := ⟨3, ![1, 1024, 1408]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S2064x1024, .bf16⟩
  | .hbm, ⟨1, _⟩ => ⟨S2064x2816, .bf16⟩
  | .hbm, ⟨2, _⟩ => ⟨S2064x2816, .bf16⟩
  | .hbm, ⟨3, _⟩ => ⟨S4x1024x1408, .bf16⟩
  | .local _ .vmem, ⟨0, _⟩ => ⟨S2064x1024, .bf16⟩
  | .local _ .vmem, ⟨1, _⟩ => ⟨S2064x1408, .bf16⟩
  | .local _ .vmem, ⟨2, _⟩ => ⟨S2064x1408, .bf16⟩
  | .local _ .vmem, ⟨3, _⟩ => ⟨S2064x1408, .bf16⟩
  | .local _ .vmem, ⟨4, _⟩ => ⟨S2064x1408, .bf16⟩
  | .local _ .vmem, ⟨5, _⟩ => ⟨S1x1024x1408, .bf16⟩
  | .local _ .vmem, ⟨6, _⟩ => ⟨S1x1024x1408, .bf16⟩
  | _, _ => ⟨S2064x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def k0_cond1 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg1 : BitVec 32 := BitVec.ofNat 32 (i 1).val
  let c0_i32_7 : BitVec 32 := 0#32
  let v21 : BitVec 1 := Scalar.cmpi .sgt arg1 c0_i32_7
  let v22 : BitVec 32 := Scalar.extui v21
  let c0_i32_8 : BitVec 32 := 0#32
  let v23 : BitVec 1 := Scalar.cmpi .slt arg1 c0_i32_8
  let v24 : BitVec 32 := Scalar.extui v23
  let v25 : BitVec 32 := Scalar.subi v22 v24
  let c2_i32_6 : BitVec 32 := 2#32
  let c0_i32_9 : BitVec 32 := 0#32
  let v26 : BitVec 1 := Scalar.cmpi .sgt c2_i32_6 c0_i32_9
  let v27 : BitVec 32 := Scalar.extui v26
  let c0_i32_10 : BitVec 32 := 0#32
  let v28 : BitVec 1 := Scalar.cmpi .slt c2_i32_6 c0_i32_10
  let v29 : BitVec 32 := Scalar.extui v28
  let v30 : BitVec 32 := Scalar.subi v27 v29
  let v31 : BitVec 1 := Scalar.cmpi .ne v25 v30
  let v32 : BitVec 32 := Scalar.remsi arg1 c2_i32_6
  let c0_i32_11 : BitVec 32 := 0#32
  let v33 : BitVec 1 := Scalar.cmpi .ne v32 c0_i32_11
  let v34 : BitVec 1 := Scalar.andi v31 v33
  let v20 : BitVec 32 := Scalar.divsi arg1 c2_i32_6
  let c1_i32_12 : BitVec 32 := 1#32
  let v35 : BitVec 32 := Scalar.subi v20 c1_i32_12
  let v36 : BitVec 32 := Scalar.select v34 v35 v20
  let c1_i32_13 : BitVec 32 := 1#32
  let v37 : BitVec 1 := Scalar.cmpi .eq v36 c1_i32_13
  let v38 : BitVec 32 := Scalar.extui v37
  let c0_i32_14 : BitVec 32 := 0#32
  let v39 : BitVec 1 := Scalar.cmpi .ne v38 c0_i32_14
  v39

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let v18 : BitVec 32 := Scalar.subi arg1 c0_i32_5
  let c1_i32_6 : BitVec 32 := 1#32
  let v19 : BitVec 32 := Scalar.muli v18 c1_i32_6
  let v20 : BitVec 32 := Scalar.addi v19 arg2
  let c0_i32_7 : BitVec 32 := 0#32
  let v21 : BitVec 32 := Scalar.select v17 v20 c0_i32_7
  let c0_i32_8 : BitVec 32 := 0#32
  let c0_i32_9 : BitVec 32 := 0#32
  ![c0_i32_8.toNat, v21.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 1 := Scalar.cmpi .eq v16 c1_i32_4
  let c2_i32_5 : BitVec 32 := 2#32
  let v18 : BitVec 32 := Scalar.subi arg1 c2_i32_5
  let c1_i32_6 : BitVec 32 := 1#32
  let v19 : BitVec 32 := Scalar.muli v18 c1_i32_6
  let v20 : BitVec 32 := Scalar.addi v19 arg2
  let c0_i32_7 : BitVec 32 := 0#32
  let v21 : BitVec 32 := Scalar.select v17 v20 c0_i32_7
  let c0_i32_8 : BitVec 32 := 0#32
  let c0_i32_9 : BitVec 32 := 0#32
  ![c0_i32_8.toNat, v21.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage0_0 : Fin 1 → Memref sig .tc .vmem S2064x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S2064x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2064x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== FfnInDwRefIdeal.lean ====
abbrev S2064x1024 : Shape := ⟨2, ![2064, 1024]⟩
abbrev S2064x2816 : Shape := ⟨2, ![2064, 2816]⟩
abbrev S2064x5632 : Shape := ⟨2, ![2064, 5632]⟩
abbrev S_ : Shape := ⟨0, ![]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S5632x1024 : Shape := ⟨2, ![5632, 1024]⟩

abbrev nBuf : Space → Nat
  | .hbm => 17
  | .vmem => 0
  | .smem => 0
  | _ => 0

abbrev bufTy : (tb : Table) → Fin (tcTables nBuf tb) → BufTy
  | .hbm, ⟨0, _⟩ => ⟨S2064x1024, .bf16⟩
  | .hbm, ⟨1, _⟩ => ⟨S2064x2816, .bf16⟩
  | .hbm, ⟨2, _⟩ => ⟨S2064x2816, .bf16⟩
  | .hbm, ⟨3, _⟩ => ⟨S2064x2816, .f32⟩
  | .hbm, ⟨4, _⟩ => ⟨S2064x2816, .f32⟩
  | .hbm, ⟨5, _⟩ => ⟨S2064x5632, .f32⟩
  | .hbm, ⟨6, _⟩ => ⟨S_, .f32⟩
  | .hbm, ⟨7, _⟩ => ⟨S4x1024x1408, .f32⟩
  | .hbm, ⟨8, _⟩ => ⟨S2064x1024, .f32⟩
  | .hbm, ⟨9, _⟩ => ⟨S1024x4x1408, .f32⟩
  | .hbm, ⟨10, _⟩ => ⟨S1024x5632, .f32⟩
  | .hbm, ⟨11, _⟩ => ⟨S2064x5632, .f32⟩
  | .hbm, ⟨12, _⟩ => ⟨S5632x1024, .f32⟩
  | .hbm, ⟨13, _⟩ => ⟨S1024x5632, .f32⟩
  | .hbm, ⟨14, _⟩ => ⟨S1024x4x1408, .f32⟩
  | .hbm, ⟨15, _⟩ => ⟨S4x1024x1408, .f32⟩
  | .hbm, ⟨16, _⟩ => ⟨S4x1024x1408, .bf16⟩
  | _, _ => ⟨S2064x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== FfnOut.lean ====
abbrev S2064x2816 : Shape := ⟨2, ![2064, 2816]⟩
abbrev S2816x1024 : Shape := ⟨2, ![2816, 1024]⟩
abbrev S2064x1024 : Shape := ⟨2, ![2064, 1024]⟩
abbrev S1x1024 : Shape := ⟨2, ![1, 1024]⟩
abbrev S2064x1 : Shape := ⟨2, ![2064, 1]⟩
abbrev S688x2816 : Shape := ⟨2, ![688, 2816]⟩
abbrev S688x1024 : Shape := ⟨2, ![688, 1024]⟩
abbrev S688x1 : Shape := ⟨2, ![688, 1]⟩
abbrev S688 : Shape := ⟨1, ![688]⟩

abbrev nBuf : Space → Nat
  | .hbm => 9
  | .vmem => 15
  | .smem => 0
  | _ => 0

abbrev bufTy : (tb : Table) → Fin (tcTables nBuf tb) → BufTy
  | .hbm, ⟨0, _⟩ => ⟨S2064x2816, .bf16⟩
  | .hbm, ⟨1, _⟩ => ⟨S2816x1024, .bf16⟩
  | .hbm, ⟨2, _⟩ => ⟨S2064x1024, .f32⟩
  | .hbm, ⟨3, _⟩ => ⟨S1x1024, .f32⟩
  | .hbm, ⟨4, _⟩ => ⟨S1x1024, .f32⟩
  | .hbm, ⟨5, _⟩ => ⟨S2064x1024, .f32⟩
  | .hbm, ⟨6, _⟩ => ⟨S2064x1024, .bf16⟩
  | .hbm, ⟨7, _⟩ => ⟨S2064x1024, .f32⟩
  | .hbm, ⟨8, _⟩ => ⟨S2064x1, .f32⟩
  | .local _ .vmem, ⟨0, _⟩ => ⟨S688x2816, .bf16⟩
  | .local _ .vmem, ⟨1, _⟩ => ⟨S688x2816, .bf16⟩
  | .local _ .vmem, ⟨2, _⟩ => ⟨S2816x1024, .bf16⟩
  | .local _ .vmem, ⟨3, _⟩ => ⟨S688x1024, .f32⟩
  | .local _ .vmem, ⟨4, _⟩ => ⟨S688x1024, .f32⟩
  | .local _ .vmem, ⟨5, _⟩ => ⟨S1x1024, .f32⟩
  | .local _ .vmem, ⟨6, _⟩ => ⟨S1x1024, .f32⟩
  | .local _ .vmem, ⟨7, _⟩ => ⟨S688x1024, .f32⟩
  | .local _ .vmem, ⟨8, _⟩ => ⟨S688x1024, .f32⟩
  | .local _ .vmem, ⟨9, _⟩ => ⟨S688x1024, .bf16⟩
  | .local _ .vmem, ⟨10, _⟩ => ⟨S688x1024, .bf16⟩
  | .local _ .vmem, ⟨11, _⟩ => ⟨S688x1024, .f32⟩
  | .local _ .vmem, ⟨12, _⟩ => ⟨S688x1024, .f32⟩
  | .local _ .vmem, ⟨13, _⟩ => ⟨S688x1, .f32⟩
  | .local _ .vmem, ⟨14, _⟩ => ⟨S688x1, .f32⟩
  | _, _ => ⟨S2064x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S688x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S688x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S688x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S688x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnOutRefIdeal.lean ====
abbrev S2064x2816 : Shape := ⟨2, ![2064, 2816]⟩
abbrev S2816x1024 : Shape := ⟨2, ![2816, 1024]⟩
abbrev S2064x1024 : Shape := ⟨2, ![2064, 1024]⟩
abbrev S1x1024 : Shape := ⟨2, ![1, 1024]⟩
abbrev S_ : Shape := ⟨0, ![]⟩
abbrev S2064 : Shape := ⟨1, ![2064]⟩
abbrev S2064x1 : Shape := ⟨2, ![2064, 1]⟩

abbrev nBuf : Space → Nat
  | .hbm => 40
  | .vmem => 0
  | .smem => 0
  | _ => 0

abbrev bufTy : (tb : Table) → Fin (tcTables nBuf tb) → BufTy
  | .hbm, ⟨0, _⟩ => ⟨S2064x2816, .bf16⟩
  | .hbm, ⟨1, _⟩ => ⟨S2816x1024, .bf16⟩
  | .hbm, ⟨2, _⟩ => ⟨S2064x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S2064x1024, .f32⟩
  | .hbm, ⟨7, _⟩ => ⟨S2064x1024, .f32⟩
  | .hbm, ⟨8, _⟩ => ⟨S2064x2816, .f32⟩
  | .hbm, ⟨9, _⟩ => ⟨S2816x1024, .f32⟩
  | .hbm, ⟨10, _⟩ => ⟨S2064x1024, .f32⟩
  | .hbm, ⟨11, _⟩ => ⟨S2064x1024, .f32⟩
  | .hbm, ⟨12, _⟩ => ⟨S_, .f32⟩
  | .hbm, ⟨13, _⟩ => ⟨S2064, .f32⟩
  | .hbm, ⟨14, _⟩ => ⟨S2064x1, .f32⟩
  | .hbm, ⟨15, _⟩ => ⟨S_, .f32⟩
  | .hbm, ⟨16, _⟩ => ⟨S2064x1, .f32⟩
  | .hbm, ⟨17, _⟩ => ⟨S2064x1, .f32⟩
  | .hbm, ⟨18, _⟩ => ⟨S2064x1024, .f32⟩
  | .hbm, ⟨19, _⟩ => ⟨S2064x1024, .f32⟩
  | .hbm, ⟨20, _⟩ => ⟨S2064x1024, .f32⟩
  | .hbm, ⟨21, _⟩ => ⟨S_, .f32⟩
  | .hbm, ⟨22, _⟩ => ⟨S2064, .f32⟩
  | .hbm, ⟨23, _⟩ => ⟨S2064x1, .f32⟩
  | .hbm, ⟨24, _⟩ => ⟨S_, .f32⟩
  | .hbm, ⟨25, _⟩ => ⟨S2064x1, .f32⟩
  | .hbm, ⟨26, _⟩ => ⟨S2064x1, .f32⟩
  | .hbm, ⟨27, _⟩ => ⟨S_, .f32⟩
  | .hbm, ⟨28, _⟩ => ⟨S2064x1, .f32⟩
  | .hbm, ⟨29, _⟩ => ⟨S2064x1, .f32⟩
  | .hbm, ⟨30, _⟩ => ⟨S2064x1, .f32⟩
  | .hbm, ⟨31, _⟩ => ⟨S2064x1024, .f32⟩
  | .hbm, ⟨32, _⟩ => ⟨S2064x1024, .f32⟩
  | .hbm, ⟨33, _⟩ => ⟨S2064x1024, .f32⟩
  | .hbm, ⟨34, _⟩ => ⟨S2064x1024, .f32⟩
  | .hbm, ⟨35, _⟩ => ⟨S2064x1024, .f32⟩
  | .hbm, ⟨36, _⟩ => ⟨S2064x1024, .f32⟩
  | .hbm, ⟨37, _⟩ => ⟨S2064x1024, .f32⟩
  | .hbm, ⟨38, _⟩ => ⟨S2064x1024, .f32⟩
  | .hbm, ⟨39, _⟩ => ⟨S2064x1024, .bf16⟩
  | _, _ => ⟨S2064x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== FfnOutDx.lean ====
abbrev S2064x1024 : Shape := ⟨2, ![2064, 1024]⟩
abbrev S2816x1024 : Shape := ⟨2, ![2816, 1024]⟩
abbrev S2064x2816 : Shape := ⟨2, ![2064, 2816]⟩
abbrev S688x1024 : Shape := ⟨2, ![688, 1024]⟩
abbrev S688x2816 : Shape := ⟨2, ![688, 2816]⟩

abbrev nBuf : Space → Nat
  | .hbm => 3
  | .vmem => 5
  | .smem => 0
  | _ => 0

abbrev bufTy : (tb : Table) → Fin (tcTables nBuf tb) → BufTy
  | .hbm, ⟨0, _⟩ => ⟨S2064x1024, .bf16⟩
  | .hbm, ⟨1, _⟩ => ⟨S2816x1024, .bf16⟩
  | .hbm, ⟨2, _⟩ => ⟨S2064x2816, .f32⟩
  | .local _ .vmem, ⟨0, _⟩ => ⟨S688x1024, .bf16⟩
  | .local _ .vmem, ⟨1, _⟩ => ⟨S688x1024, .bf16⟩
  | .local _ .vmem, ⟨2, _⟩ => ⟨S2816x1024, .bf16⟩
  | .local _ .vmem, ⟨3, _⟩ => ⟨S688x2816, .f32⟩
  | .local _ .vmem, ⟨4, _⟩ => ⟨S688x2816, .f32⟩
  | _, _ => ⟨S2064x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S688x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FfnOutDxRefIdeal.lean ====
abbrev S2064x1024 : Shape := ⟨2, ![2064, 1024]⟩
abbrev S2816x1024 : Shape := ⟨2, ![2816, 1024]⟩
abbrev S_ : Shape := ⟨0, ![]⟩
abbrev S2064x2816 : Shape := ⟨2, ![2064, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2064x1024, .bf16⟩
  | .hbm, ⟨1, _⟩ => ⟨S2816x1024, .bf16⟩
  | .hbm, ⟨2, _⟩ => ⟨S_, .f32⟩
  | .hbm, ⟨3, _⟩ => ⟨S2064x2816, .f32⟩
  | .hbm, ⟨4, _⟩ => ⟨S2816x1024, .f32⟩
  | .hbm, ⟨5, _⟩ => ⟨S2064x1024, .f32⟩
  | .hbm, ⟨6, _⟩ => ⟨S2064x1024, .f32⟩
  | .hbm, ⟨7, _⟩ => ⟨S2064x2816, .f32⟩
  | _, _ => ⟨S2064x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnOutDw.lean ====
abbrev S2064x2816 : Shape := ⟨2, ![2064, 2816]⟩
abbrev S2064x1024 : Shape := ⟨2, ![2064, 1024]⟩
abbrev S1x2816x1024 : Shape := ⟨3, ![1, 2816, 1024]⟩
abbrev S2064x1408 : Shape := ⟨2, ![2064, 1408]⟩
abbrev S1x1408x1024 : Shape := ⟨3, ![1, 1408, 1024]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2064x2816, .bf16⟩
  | .hbm, ⟨1, _⟩ => ⟨S2064x1024, .bf16⟩
  | .hbm, ⟨2, _⟩ => ⟨S1x2816x1024, .bf16⟩
  | .local _ .vmem, ⟨0, _⟩ => ⟨S2064x1408, .bf16⟩
  | .local _ .vmem, ⟨1, _⟩ => ⟨S2064x1408, .bf16⟩
  | .local _ .vmem, ⟨2, _⟩ => ⟨S2064x1024, .bf16⟩
  | .local _ .vmem, ⟨3, _⟩ => ⟨S1x1408x1024, .bf16⟩
  | .local _ .vmem, ⟨4, _⟩ => ⟨S1x1408x1024, .bf16⟩
  | _, _ => ⟨S2064x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond1 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let v18 : BitVec 32 := Scalar.extui v17
  let c0_i32_6 : BitVec 32 := 0#32
  let v19 : BitVec 1 := Scalar.cmpi .ne v18 c0_i32_6
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c0_i32_6 : BitVec 32 := 0#32
  let v18 : BitVec 32 := Scalar.subi arg1 c0_i32_6
  let c1_i32_7 : BitVec 32 := 1#32
  let v19 : BitVec 32 := Scalar.muli v18 c1_i32_7
  let v20 : BitVec 32 := Scalar.addi v19 arg2
  let c0_i32_8 : BitVec 32 := 0#32
  let v21 : BitVec 32 := Scalar.select v17 v20 c0_i32_8
  let c0_i32_9 : BitVec 32 := 0#32
  let c0_i32_10 : BitVec 32 := 0#32
  ![c0_i32_9.toNat, v21.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage0_0 : Fin 2 → Memref sig .tc .vmem S2064x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2064x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== FfnOutDwRefIdeal.lean ====
abbrev S2064x2816 : Shape := ⟨2, ![2064, 2816]⟩
abbrev S2064x1024 : Shape := ⟨2, ![2064, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2064x2816, .bf16⟩
  | .hbm, ⟨1, _⟩ => ⟨S2064x1024, .bf16⟩
  | .hbm, ⟨2, _⟩ => ⟨S_, .f32⟩
  | .hbm, ⟨3, _⟩ => ⟨S2816x1024, .f32⟩
  | .hbm, ⟨4, _⟩ => ⟨S2064x2816, .f32⟩
  | .hbm, ⟨5, _⟩ => ⟨S2064x1024, .f32⟩
  | .hbm, ⟨6, _⟩ => ⟨S2064x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S1x2816x1024, .bf16⟩
  | _, _ => ⟨S2064x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== LruIn.lean ====
abbrev S2064x1024 : Shape := ⟨2, ![2064, 1024]⟩
abbrev S4x1024x768 : Shape := ⟨3, ![4, 1024, 768]⟩
abbrev S2064x3072 : Shape := ⟨2, ![2064, 3072]⟩
abbrev S688x1024 : Shape := ⟨2, ![688, 1024]⟩
abbrev S1x1024x768 : Shape := ⟨3, ![1, 1024, 768]⟩
abbrev S688x768 : Shape := ⟨2, ![688, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S2064x1024, .bf16⟩
  | .hbm, ⟨1, _⟩ => ⟨S4x1024x768, .bf16⟩
  | .hbm, ⟨2, _⟩ => ⟨S2064x3072, .f32⟩
  | .local _ .vmem, ⟨0, _⟩ => ⟨S688x1024, .bf16⟩
  | .local _ .vmem, ⟨1, _⟩ => ⟨S688x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S688x768, .f32⟩
  | .local _ .vmem, ⟨5, _⟩ => ⟨S688x768, .f32⟩
  | _, _ => ⟨S2064x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S688x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== LruInRefIdeal.lean ====
abbrev S2064x1024 : Shape := ⟨2, ![2064, 1024]⟩
abbrev S4x1024x768 : Shape := ⟨3, ![4, 1024, 768]⟩
abbrev S1024x4x768 : Shape := ⟨3, ![1024, 4, 768]⟩
abbrev S1024x3072 : Shape := ⟨2, ![1024, 3072]⟩
abbrev S2064x3072 : Shape := ⟨2, ![2064, 3072]⟩

abbrev nBuf : Space → Nat
  | .hbm => 7
  | .vmem => 0
  | .smem => 0
  | _ => 0

abbrev bufTy : (tb : Table) → Fin (tcTables nBuf tb) → BufTy
  | .hbm, ⟨0, _⟩ => ⟨S2064x1024, .bf16⟩
  | .hbm, ⟨1, _⟩ => ⟨S4x1024x768, .bf16⟩
  | .hbm, ⟨2, _⟩ => ⟨S2064x1024, .f32⟩
  | .hbm, ⟨3, _⟩ => ⟨S4x1024x768, .f32⟩
  | .hbm, ⟨4, _⟩ => ⟨S1024x4x768, .f32⟩
  | .hbm, ⟨5, _⟩ => ⟨S1024x3072, .f32⟩
  | .hbm, ⟨6, _⟩ => ⟨S2064x3072, .f32⟩
  | _, _ => ⟨S2064x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== LruInDx.lean ====
abbrev S2064x3072 : Shape := ⟨2, ![2064, 3072]⟩
abbrev S4x1024x768 : Shape := ⟨3, ![4, 1024, 768]⟩
abbrev S2064x1024 : Shape := ⟨2, ![2064, 1024]⟩
abbrev S688x768 : Shape := ⟨2, ![688, 768]⟩
abbrev S1x1024x768 : Shape := ⟨3, ![1, 1024, 768]⟩
abbrev S688x1024 : Shape := ⟨2, ![688, 1024]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S2064x3072, .bf16⟩
  | .hbm, ⟨1, _⟩ => ⟨S4x1024x768, .bf16⟩
  | .hbm, ⟨2, _⟩ => ⟨S2064x1024, .f32⟩
  | .local _ .vmem, ⟨0, _⟩ => ⟨S688x768, .bf16⟩
  | .local _ .vmem, ⟨1, _⟩ => ⟨S688x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S688x1024, .f32⟩
  | .local _ .vmem, ⟨5, _⟩ => ⟨S688x1024, .f32⟩
  | _, _ => ⟨S2064x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond2 (i : grid0.Coords) : BitVec 1 :=
  let arg1 : BitVec 32 := BitVec.ofNat 32 (i 1).val
  let c0_i32_2 : BitVec 32 := 0#32
  let v6 : BitVec 1 := Scalar.cmpi .sgt arg1 c0_i32_2
  let v7 : BitVec 32 := Scalar.extui v6
  let c0_i32_3 : BitVec 32 := 0#32
  let v8 : BitVec 1 := Scalar.cmpi .slt arg1 c0_i32_3
  let v9 : BitVec 32 := Scalar.extui v8
  let v10 : BitVec 32 := Scalar.subi v7 v9
  let c4_i32 : BitVec 32 := 4#32
  let c0_i32_4 : BitVec 32 := 0#32
  let v11 : BitVec 1 := Scalar.cmpi .sgt c4_i32 c0_i32_4
  let v12 : BitVec 32 := Scalar.extui v11
  let c0_i32_5 : BitVec 32 := 0#32
  let v13 : BitVec 1 := Scalar.cmpi .slt c4_i32 c0_i32_5
  let v14 : BitVec 32 := Scalar.extui v13
  let v15 : BitVec 32 := Scalar.subi v12 v14
  let v16 : BitVec 1 := Scalar.cmpi .ne v10 v15
  let v17 : BitVec 32 := Scalar.remsi arg1 c4_i32
  let c0_i32_6 : BitVec 32 := 0#32
  let v18 : BitVec 1 := Scalar.cmpi .ne v17 c0_i32_6
  let v19 : BitVec 1 := Scalar.andi v16 v18
  let v5 : BitVec 32 := Scalar.divsi arg1 c4_i32
  let c1_i32 : BitVec 32 := 1#32
  let v20 : BitVec 32 := Scalar.subi v5 c1_i32
  let v21 : BitVec 32 := Scalar.select v19 v20 v5
  let c0_i32_7 : BitVec 32 := 0#32
  let v22 : BitVec 1 := Scalar.cmpi .eq v21 c0_i32_7
  let v23 : BitVec 32 := Scalar.extui v22
  let c0_i32_8 : BitVec 32 := 0#32
  let v24 : BitVec 1 := Scalar.cmpi .ne v23 c0_i32_8
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let v18 : BitVec 32 := Scalar.subi arg1 c0_i32_5
  let c1_i32_6 : BitVec 32 := 1#32
  let v19 : BitVec 32 := Scalar.muli v18 c1_i32_6
  let v20 : BitVec 32 := Scalar.addi v19 arg2
  let c0_i32_7 : BitVec 32 := 0#32
  let v21 : BitVec 32 := Scalar.select v17 v20 c0_i32_7
  let c0_i32_8 : BitVec 32 := 0#32
  ![arg0.toNat, v21.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S688x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== LruInDxRefIdeal.lean ====
abbrev S2064x3072 : Shape := ⟨2, ![2064, 3072]⟩
abbrev S4x1024x768 : Shape := ⟨3, ![4, 1024, 768]⟩
abbrev S_ : Shape := ⟨0, ![]⟩
abbrev S2064x1024 : Shape := ⟨2, ![2064, 1024]⟩
abbrev S1024x4x768 : Shape := ⟨3, ![1024, 4, 768]⟩
abbrev S1024x3072 : Shape := ⟨2, ![1024, 3072]⟩

abbrev nBuf : Space → Nat
  | .hbm => 10
  | .vmem => 0
  | .smem => 0
  | _ => 0

abbrev bufTy : (tb : Table) → Fin (tcTables nBuf tb) → BufTy
  | .hbm, ⟨0, _⟩ => ⟨S2064x3072, .bf16⟩
  | .hbm, ⟨1, _⟩ => ⟨S4x1024x768, .bf16⟩
  | .hbm, ⟨2, _⟩ => ⟨S_, .f32⟩
  | .hbm, ⟨3, _⟩ => ⟨S2064x1024, .f32⟩
  | .hbm, ⟨4, _⟩ => ⟨S4x1024x768, .f32⟩
  | .hbm, ⟨5, _⟩ => ⟨S1024x4x768, .f32⟩
  | .hbm, ⟨6, _⟩ => ⟨S1024x3072, .f32⟩
  | .hbm, ⟨7, _⟩ => ⟨S2064x3072, .f32⟩
  | .hbm, ⟨8, _⟩ => ⟨S2064x3072, .f32⟩
  | .hbm, ⟨9, _⟩ => ⟨S2064x1024, .f32⟩
  | _, _ => ⟨S2064x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== LruInDw.lean ====
abbrev S2064x1024 : Shape := ⟨2, ![2064, 1024]⟩
abbrev S2064x3072 : Shape := ⟨2, ![2064, 3072]⟩
abbrev S4x1024x768 : Shape := ⟨3, ![4, 1024, 768]⟩
abbrev S2064x768 : Shape := ⟨2, ![2064, 768]⟩
abbrev S1x1024x768 : Shape := ⟨3, ![1, 1024, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S2064x1024, .bf16⟩
  | .hbm, ⟨1, _⟩ => ⟨S2064x3072, .bf16⟩
  | .hbm, ⟨2, _⟩ => ⟨S4x1024x768, .bf16⟩
  | .local _ .vmem, ⟨0, _⟩ => ⟨S2064x1024, .bf16⟩
  | .local _ .vmem, ⟨1, _⟩ => ⟨S2064x768, .bf16⟩
  | .local _ .vmem, ⟨2, _⟩ => ⟨S2064x768, .bf16⟩
  | .local _ .vmem, ⟨3, _⟩ => ⟨S1x1024x768, .bf16⟩
  | .local _ .vmem, ⟨4, _⟩ => ⟨S1x1024x768, .bf16⟩
  | _, _ => ⟨S2064x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond1 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let v18 : BitVec 32 := Scalar.subi arg1 c0_i32_5
  let c1_i32_6 : BitVec 32 := 1#32
  let v19 : BitVec 32 := Scalar.muli v18 c1_i32_6
  let v20 : BitVec 32 := Scalar.addi v19 arg2
  let c0_i32_7 : BitVec 32 := 0#32
  let v21 : BitVec 32 := Scalar.select v17 v20 c0_i32_7
  let c0_i32_8 : BitVec 32 := 0#32
  let c0_i32_9 : BitVec 32 := 0#32
  ![c0_i32_8.toNat, v21.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage0_0 : Fin 1 → Memref sig .tc .vmem S2064x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S2064x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== LruInDwRefIdeal.lean ====
abbrev S2064x1024 : Shape := ⟨2, ![2064, 1024]⟩
abbrev S2064x3072 : Shape := ⟨2, ![2064, 3072]⟩
abbrev S_ : Shape := ⟨0, ![]⟩
abbrev S4x1024x768 : Shape := ⟨3, ![4, 1024, 768]⟩
abbrev S1024x4x768 : Shape := ⟨3, ![1024, 4, 768]⟩
abbrev S1024x3072 : Shape := ⟨2, ![1024, 3072]⟩
abbrev S3072x1024 : Shape := ⟨2, ![3072, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2064x1024, .bf16⟩
  | .hbm, ⟨1, _⟩ => ⟨S2064x3072, .bf16⟩
  | .hbm, ⟨2, _⟩ => ⟨S_, .f32⟩
  | .hbm, ⟨3, _⟩ => ⟨S4x1024x768, .f32⟩
  | .hbm, ⟨4, _⟩ => ⟨S2064x1024, .f32⟩
  | .hbm, ⟨5, _⟩ => ⟨S1024x4x768, .f32⟩
  | .hbm, ⟨6, _⟩ => ⟨S1024x3072, .f32⟩
  | .hbm, ⟨7, _⟩ => ⟨S2064x3072, .f32⟩
  | .hbm, ⟨8, _⟩ => ⟨S2064x3072, .f32⟩
  | .hbm, ⟨9, _⟩ => ⟨S3072x1024, .f32⟩
  | .hbm, ⟨10, _⟩ => ⟨S1024x3072, .f32⟩
  | .hbm, ⟨11, _⟩ => ⟨S1024x4x768, .f32⟩
  | .hbm, ⟨12, _⟩ => ⟨S4x1024x768, .f32⟩
  | .hbm, ⟨13, _⟩ => ⟨S4x1024x768, .bf16⟩
  | _, _ => ⟨S2064x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== LruOut.lean ====
abbrev S2064x1536 : Shape := ⟨2, ![2064, 1536]⟩
abbrev S1536x1024 : Shape := ⟨2, ![1536, 1024]⟩
abbrev S2064x1024 : Shape := ⟨2, ![2064, 1024]⟩
abbrev S1x1024 : Shape := ⟨2, ![1, 1024]⟩
abbrev S2064x1 : Shape := ⟨2, ![2064, 1]⟩
abbrev S688x1536 : Shape := ⟨2, ![688, 1536]⟩
abbrev S688x1024 : Shape := ⟨2, ![688, 1024]⟩
abbrev S688x1 : Shape := ⟨2, ![688, 1]⟩
abbrev S688 : Shape := ⟨1, ![688]⟩

abbrev nBuf : Space → Nat
  | .hbm => 9
  | .vmem => 15
  | .smem => 0
  | _ => 0

abbrev bufTy : (tb : Table) → Fin (tcTables nBuf tb) → BufTy
  | .hbm, ⟨0, _⟩ => ⟨S2064x1536, .bf16⟩
  | .hbm, ⟨1, _⟩ => ⟨S1536x1024, .bf16⟩
  | .hbm, ⟨2, _⟩ => ⟨S2064x1024, .f32⟩
  | .hbm, ⟨3, _⟩ => ⟨S1x1024, .f32⟩
  | .hbm, ⟨4, _⟩ => ⟨S1x1024, .f32⟩
  | .hbm, ⟨5, _⟩ => ⟨S2064x1024, .f32⟩
  | .hbm, ⟨6, _⟩ => ⟨S2064x1024, .bf16⟩
  | .hbm, ⟨7, _⟩ => ⟨S2064x1024, .f32⟩
  | .hbm, ⟨8, _⟩ => ⟨S2064x1, .f32⟩
  | .local _ .vmem, ⟨0, _⟩ => ⟨S688x1536, .bf16⟩
  | .local _ .vmem, ⟨1, _⟩ => ⟨S688x1536, .bf16⟩
  | .local _ .vmem, ⟨2, _⟩ => ⟨S1536x1024, .bf16⟩
  | .local _ .vmem, ⟨3, _⟩ => ⟨S688x1024, .f32⟩
  | .local _ .vmem, ⟨4, _⟩ => ⟨S688x1024, .f32⟩
  | .local _ .vmem, ⟨5, _⟩ => ⟨S1x1024, .f32⟩
  | .local _ .vmem, ⟨6, _⟩ => ⟨S1x1024, .f32⟩
  | .local _ .vmem, ⟨7, _⟩ => ⟨S688x1024, .f32⟩
  | .local _ .vmem, ⟨8, _⟩ => ⟨S688x1024, .f32⟩
  | .local _ .vmem, ⟨9, _⟩ => ⟨S688x1024, .bf16⟩
  | .local _ .vmem, ⟨10, _⟩ => ⟨S688x1024, .bf16⟩
  | .local _ .vmem, ⟨11, _⟩ => ⟨S688x1024, .f32⟩
  | .local _ .vmem, ⟨12, _⟩ => ⟨S688x1024, .f32⟩
  | .local _ .vmem, ⟨13, _⟩ => ⟨S688x1, .f32⟩
  | .local _ .vmem, ⟨14, _⟩ => ⟨S688x1, .f32⟩
  | _, _ => ⟨S2064x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S688x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S688x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S688x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S688x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== LruOutRefIdeal.lean ====
abbrev S2064x1536 : Shape := ⟨2, ![2064, 1536]⟩
abbrev S1536x1024 : Shape := ⟨2, ![1536, 1024]⟩
abbrev S2064x1024 : Shape := ⟨2, ![2064, 1024]⟩
abbrev S1x1024 : Shape := ⟨2, ![1, 1024]⟩
abbrev S_ : Shape := ⟨0, ![]⟩
abbrev S2064 : Shape := ⟨1, ![2064]⟩
abbrev S2064x1 : Shape := ⟨2, ![2064, 1]⟩

abbrev nBuf : Space → Nat
  | .hbm => 40
  | .vmem => 0
  | .smem => 0
  | _ => 0

abbrev bufTy : (tb : Table) → Fin (tcTables nBuf tb) → BufTy
  | .hbm, ⟨0, _⟩ => ⟨S2064x1536, .bf16⟩
  | .hbm, ⟨1, _⟩ => ⟨S1536x1024, .bf16⟩
  | .hbm, ⟨2, _⟩ => ⟨S2064x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S2064x1024, .f32⟩
  | .hbm, ⟨7, _⟩ => ⟨S2064x1024, .f32⟩
  | .hbm, ⟨8, _⟩ => ⟨S2064x1536, .f32⟩
  | .hbm, ⟨9, _⟩ => ⟨S1536x1024, .f32⟩
  | .hbm, ⟨10, _⟩ => ⟨S2064x1024, .f32⟩
  | .hbm, ⟨11, _⟩ => ⟨S2064x1024, .f32⟩
  | .hbm, ⟨12, _⟩ => ⟨S_, .f32⟩
  | .hbm, ⟨13, _⟩ => ⟨S2064, .f32⟩
  | .hbm, ⟨14, _⟩ => ⟨S2064x1, .f32⟩
  | .hbm, ⟨15, _⟩ => ⟨S_, .f32⟩
  | .hbm, ⟨16, _⟩ => ⟨S2064x1, .f32⟩
  | .hbm, ⟨17, _⟩ => ⟨S2064x1, .f32⟩
  | .hbm, ⟨18, _⟩ => ⟨S2064x1024, .f32⟩
  | .hbm, ⟨19, _⟩ => ⟨S2064x1024, .f32⟩
  | .hbm, ⟨20, _⟩ => ⟨S2064x1024, .f32⟩
  | .hbm, ⟨21, _⟩ => ⟨S_, .f32⟩
  | .hbm, ⟨22, _⟩ => ⟨S2064, .f32⟩
  | .hbm, ⟨23, _⟩ => ⟨S2064x1, .f32⟩
  | .hbm, ⟨24, _⟩ => ⟨S_, .f32⟩
  | .hbm, ⟨25, _⟩ => ⟨S2064x1, .f32⟩
  | .hbm, ⟨26, _⟩ => ⟨S2064x1, .f32⟩
  | .hbm, ⟨27, _⟩ => ⟨S_, .f32⟩
  | .hbm, ⟨28, _⟩ => ⟨S2064x1, .f32⟩
  | .hbm, ⟨29, _⟩ => ⟨S2064x1, .f32⟩
  | .hbm, ⟨30, _⟩ => ⟨S2064x1, .f32⟩
  | .hbm, ⟨31, _⟩ => ⟨S2064x1024, .f32⟩
  | .hbm, ⟨32, _⟩ => ⟨S2064x1024, .f32⟩
  | .hbm, ⟨33, _⟩ => ⟨S2064x1024, .f32⟩
  | .hbm, ⟨34, _⟩ => ⟨S2064x1024, .f32⟩
  | .hbm, ⟨35, _⟩ => ⟨S2064x1024, .f32⟩
  | .hbm, ⟨36, _⟩ => ⟨S2064x1024, .f32⟩
  | .hbm, ⟨37, _⟩ => ⟨S2064x1024, .f32⟩
  | .hbm, ⟨38, _⟩ => ⟨S2064x1024, .f32⟩
  | .hbm, ⟨39, _⟩ => ⟨S2064x1024, .bf16⟩
  | _, _ => ⟨S2064x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== LruOutDw.lean ====
abbrev S2064x1536 : Shape := ⟨2, ![2064, 1536]⟩
abbrev S2064x1024 : Shape := ⟨2, ![2064, 1024]⟩
abbrev S1x1536x1024 : Shape := ⟨3, ![1, 1536, 1024]⟩
abbrev S2064x768 : Shape := ⟨2, ![2064, 768]⟩
abbrev S1x768x1024 : Shape := ⟨3, ![1, 768, 1024]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2064x1536, .bf16⟩
  | .hbm, ⟨1, _⟩ => ⟨S2064x1024, .bf16⟩
  | .hbm, ⟨2, _⟩ => ⟨S1x1536x1024, .bf16⟩
  | .local _ .vmem, ⟨0, _⟩ => ⟨S2064x768, .bf16⟩
  | .local _ .vmem, ⟨1, _⟩ => ⟨S2064x768, .bf16⟩
  | .local _ .vmem, ⟨2, _⟩ => ⟨S2064x1024, .bf16⟩
  | .local _ .vmem, ⟨3, _⟩ => ⟨S1x768x1024, .bf16⟩
  | .local _ .vmem, ⟨4, _⟩ => ⟨S1x768x1024, .bf16⟩
  | _, _ => ⟨S2064x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond1 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let v18 : BitVec 32 := Scalar.extui v17
  let c0_i32_6 : BitVec 32 := 0#32
  let v19 : BitVec 1 := Scalar.cmpi .ne v18 c0_i32_6
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c0_i32_6 : BitVec 32 := 0#32
  let v18 : BitVec 32 := Scalar.subi arg1 c0_i32_6
  let c1_i32_7 : BitVec 32 := 1#32
  let v19 : BitVec 32 := Scalar.muli v18 c1_i32_7
  let v20 : BitVec 32 := Scalar.addi v19 arg2
  let c0_i32_8 : BitVec 32 := 0#32
  let v21 : BitVec 32 := Scalar.select v17 v20 c0_i32_8
  let c0_i32_9 : BitVec 32 := 0#32
  let c0_i32_10 : BitVec 32 := 0#32
  ![c0_i32_9.toNat, v21.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage0_0 : Fin 2 → Memref sig .tc .vmem S2064x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2064x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== LruOutDwRefIdeal.lean ====
abbrev S2064x1536 : Shape := ⟨2, ![2064, 1536]⟩
abbrev S2064x1024 : Shape := ⟨2, ![2064, 1024]⟩
abbrev S_ : Shape := ⟨0, ![]⟩
abbrev S1536x1024 : Shape := ⟨2, ![1536, 1024]⟩
abbrev S1024x1536 : Shape := ⟨2, ![1024, 1536]⟩
abbrev S1x1536x1024 : Shape := ⟨3, ![1, 1536, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2064x1536, .bf16⟩
  | .hbm, ⟨1, _⟩ => ⟨S2064x1024, .bf16⟩
  | .hbm, ⟨2, _⟩ => ⟨S_, .f32⟩
  | .hbm, ⟨3, _⟩ => ⟨S1536x1024, .f32⟩
  | .hbm, ⟨4, _⟩ => ⟨S2064x1536, .f32⟩
  | .hbm, ⟨5, _⟩ => ⟨S2064x1024, .f32⟩
  | .hbm, ⟨6, _⟩ => ⟨S2064x1024, .f32⟩
  | .hbm, ⟨7, _⟩ => ⟨S1024x1536, .f32⟩
  | .hbm, ⟨8, _⟩ => ⟨S1536x1024, .f32⟩
  | .hbm, ⟨9, _⟩ => ⟨S1536x1024, .bf16⟩
  | .hbm, ⟨10, _⟩ => ⟨S1x1536x1024, .bf16⟩
  | _, _ => ⟨S2064x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== AttnIn.lean ====
abbrev S2064x1024 : Shape := ⟨2, ![2064, 1024]⟩
abbrev S4x1024x512 : Shape := ⟨3, ![4, 1024, 512]⟩
abbrev S2064x2048 : Shape := ⟨2, ![2064, 2048]⟩
abbrev S688x1024 : Shape := ⟨2, ![688, 1024]⟩
abbrev S1x1024x512 : Shape := ⟨3, ![1, 1024, 512]⟩
abbrev S688x512 : Shape := ⟨2, ![688, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2064x1024, .bf16⟩
  | .hbm, ⟨1, _⟩ => ⟨S4x1024x512, .bf16⟩
  | .hbm, ⟨2, _⟩ => ⟨S2064x2048, .f32⟩
  | .local _ .vmem, ⟨0, _⟩ => ⟨S688x1024, .bf16⟩
  | .local _ .vmem, ⟨1, _⟩ => ⟨S688x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S688x512, .f32⟩
  | .local _ .vmem, ⟨5, _⟩ => ⟨S688x512, .f32⟩
  | _, _ => ⟨S2064x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S688x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== AttnInRefIdeal.lean ====
abbrev S2064x1024 : Shape := ⟨2, ![2064, 1024]⟩
abbrev S4x1024x512 : Shape := ⟨3, ![4, 1024, 512]⟩
abbrev S1024x4x512 : Shape := ⟨3, ![1024, 4, 512]⟩
abbrev S1024x2048 : Shape := ⟨2, ![1024, 2048]⟩
abbrev S2064x2048 : Shape := ⟨2, ![2064, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2064x1024, .bf16⟩
  | .hbm, ⟨1, _⟩ => ⟨S4x1024x512, .bf16⟩
  | .hbm, ⟨2, _⟩ => ⟨S2064x1024, .f32⟩
  | .hbm, ⟨3, _⟩ => ⟨S4x1024x512, .f32⟩
  | .hbm, ⟨4, _⟩ => ⟨S1024x4x512, .f32⟩
  | .hbm, ⟨5, _⟩ => ⟨S1024x2048, .f32⟩
  | .hbm, ⟨6, _⟩ => ⟨S2064x2048, .f32⟩
  | _, _ => ⟨S2064x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== AttnInDx.lean ====
abbrev S2064x1024 : Shape := ⟨2, ![2064, 1024]⟩
abbrev S4x1024x512 : Shape := ⟨3, ![4, 1024, 512]⟩
abbrev S688x512 : Shape := ⟨2, ![688, 512]⟩
abbrev S1x1024x512 : Shape := ⟨3, ![1, 1024, 512]⟩
abbrev S688x1024 : Shape := ⟨2, ![688, 1024]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S2064x1024, .bf16⟩
  | .hbm, ⟨1, _⟩ => ⟨S2064x1024, .bf16⟩
  | .hbm, ⟨2, _⟩ => ⟨S4x1024x512, .bf16⟩
  | .hbm, ⟨3, _⟩ => ⟨S2064x1024, .f32⟩
  | .local _ .vmem, ⟨0, _⟩ => ⟨S688x512, .bf16⟩
  | .local _ .vmem, ⟨1, _⟩ => ⟨S688x512, .bf16⟩
  | .local _ .vmem, ⟨2, _⟩ => ⟨S688x512, .bf16⟩
  | .local _ .vmem, ⟨3, _⟩ => ⟨S688x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S688x1024, .f32⟩
  | .local _ .vmem, ⟨7, _⟩ => ⟨S688x1024, .f32⟩
  | _, _ => ⟨S2064x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 4, 1], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond2 (i : grid0.Coords) : BitVec 1 :=
  let arg1 : BitVec 32 := BitVec.ofNat 32 (i 1).val
  let c0_i32_2 : BitVec 32 := 0#32
  let v6 : BitVec 1 := Scalar.cmpi .sgt arg1 c0_i32_2
  let v7 : BitVec 32 := Scalar.extui v6
  let c0_i32_3 : BitVec 32 := 0#32
  let v8 : BitVec 1 := Scalar.cmpi .slt arg1 c0_i32_3
  let v9 : BitVec 32 := Scalar.extui v8
  let v10 : BitVec 32 := Scalar.subi v7 v9
  let c2_i32 : BitVec 32 := 2#32
  let c0_i32_4 : BitVec 32 := 0#32
  let v11 : BitVec 1 := Scalar.cmpi .sgt c2_i32 c0_i32_4
  let v12 : BitVec 32 := Scalar.extui v11
  let c0_i32_5 : BitVec 32 := 0#32
  let v13 : BitVec 1 := Scalar.cmpi .slt c2_i32 c0_i32_5
  let v14 : BitVec 32 := Scalar.extui v13
  let v15 : BitVec 32 := Scalar.subi v12 v14
  let v16 : BitVec 1 := Scalar.cmpi .ne v10 v15
  let v17 : BitVec 32 := Scalar.remsi arg1 c2_i32
  let c0_i32_6 : BitVec 32 := 0#32
  let v18 : BitVec 1 := Scalar.cmpi .ne v17 c0_i32_6
  let v19 : BitVec 1 := Scalar.andi v16 v18
  let v5 : BitVec 32 := Scalar.divsi arg1 c2_i32
  let c1_i32 : BitVec 32 := 1#32
  let v20 : BitVec 32 := Scalar.subi v5 c1_i32
  let v21 : BitVec 32 := Scalar.select v19 v20 v5
  let c0_i32_7 : BitVec 32 := 0#32
  let v22 : BitVec 1 := Scalar.cmpi .eq v21 c0_i32_7
  let v23 : BitVec 32 := Scalar.extui v22
  let c0_i32_8 : BitVec 32 := 0#32
  let v24 : BitVec 1 := Scalar.cmpi .ne v23 c0_i32_8
  v24

def k0_cond3 (i : grid0.Coords) : BitVec 1 :=
  let arg1 : BitVec 32 := BitVec.ofNat 32 (i 1).val
  let c0_i32_10 : BitVec 32 := 0#32
  let v26 : BitVec 1 := Scalar.cmpi .sgt arg1 c0_i32_10
  let v27 : BitVec 32 := Scalar.extui v26
  let c0_i32_11 : BitVec 32 := 0#32
  let v28 : BitVec 1 := Scalar.cmpi .slt arg1 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi arg1 c2_i32_9
  let c0_i32_14 : BitVec 32 := 0#32
  let v38 : BitVec 1 := Scalar.cmpi .ne v37 c0_i32_14
  let v39 : BitVec 1 := Scalar.andi v36 v38
  let v25 : BitVec 32 := Scalar.divsi arg1 c2_i32_9
  let c1_i32_15 : BitVec 32 := 1#32
  let v40 : BitVec 32 := Scalar.subi v25 c1_i32_15
  let v41 : BitVec 32 := Scalar.select v39 v40 v25
  let c1_i32_16 : BitVec 32 := 1#32
  let v42 : BitVec 1 := Scalar.cmpi .eq v41 c1_i32_16
  let v43 : BitVec 32 := Scalar.extui v42
  let c0_i32_17 : BitVec 32 := 0#32
  let v44 : BitVec 1 := Scalar.cmpi .ne v43 c0_i32_17
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let v18 : BitVec 32 := Scalar.subi arg1 c0_i32_5
  let c1_i32_6 : BitVec 32 := 1#32
  let v19 : BitVec 32 := Scalar.muli v18 c1_i32_6
  let v20 : BitVec 32 := Scalar.addi v19 arg2
  let c0_i32_7 : BitVec 32 := 0#32
  let v21 : BitVec 32 := Scalar.select v17 v20 c0_i32_7
  let c0_i32_8 : BitVec 32 := 0#32
  ![arg0.toNat, v21.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 1 := Scalar.cmpi .eq v16 c1_i32_4
  let c2_i32_5 : BitVec 32 := 2#32
  let v18 : BitVec 32 := Scalar.subi arg1 c2_i32_5
  let c1_i32_6 : BitVec 32 := 1#32
  let v19 : BitVec 32 := Scalar.muli v18 c1_i32_6
  let v20 : BitVec 32 := Scalar.addi v19 arg2
  let c0_i32_7 : BitVec 32 := 0#32
  let v21 : BitVec 32 := Scalar.select v17 v20 c0_i32_7
  let c0_i32_8 : BitVec 32 := 0#32
  ![arg0.toNat, v21.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S688x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S688x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S688x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== AttnInDxRefIdeal.lean ====
abbrev S2064x1024 : Shape := ⟨2, ![2064, 1024]⟩
abbrev S4x1024x512 : Shape := ⟨3, ![4, 1024, 512]⟩
abbrev S2064x2048 : Shape := ⟨2, ![2064, 2048]⟩
abbrev S_ : Shape := ⟨0, ![]⟩
abbrev S1024x4x512 : Shape := ⟨3, ![1024, 4, 512]⟩
abbrev S1024x2048 : Shape := ⟨2, ![1024, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2064x1024, .bf16⟩
  | .hbm, ⟨1, _⟩ => ⟨S2064x1024, .bf16⟩
  | .hbm, ⟨2, _⟩ => ⟨S4x1024x512, .bf16⟩
  | .hbm, ⟨3, _⟩ => ⟨S2064x1024, .f32⟩
  | .hbm, ⟨4, _⟩ => ⟨S2064x1024, .f32⟩
  | .hbm, ⟨5, _⟩ => ⟨S2064x2048, .f32⟩
  | .hbm, ⟨6, _⟩ => ⟨S_, .f32⟩
  | .hbm, ⟨7, _⟩ => ⟨S2064x1024, .f32⟩
  | .hbm, ⟨8, _⟩ => ⟨S4x1024x512, .f32⟩
  | .hbm, ⟨9, _⟩ => ⟨S1024x4x512, .f32⟩
  | .hbm, ⟨10, _⟩ => ⟨S1024x2048, .f32⟩
  | .hbm, ⟨11, _⟩ => ⟨S2064x2048, .f32⟩
  | .hbm, ⟨12, _⟩ => ⟨S2064x1024, .f32⟩
  | _, _ => ⟨S2064x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== AttnInDw.lean ====
abbrev S2064x1024 : Shape := ⟨2, ![2064, 1024]⟩
abbrev S4x1024x512 : Shape := ⟨3, ![4, 1024, 512]⟩
abbrev S2064x512 : Shape := ⟨2, ![2064, 512]⟩
abbrev S1x1024x512 : Shape := ⟨3, ![1, 1024, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S2064x1024, .bf16⟩
  | .hbm, ⟨1, _⟩ => ⟨S2064x1024, .bf16⟩
  | .hbm, ⟨2, _⟩ => ⟨S2064x1024, .bf16⟩
  | .hbm, ⟨3, _⟩ => ⟨S4x1024x512, .bf16⟩
  | .local _ .vmem, ⟨0, _⟩ => ⟨S2064x1024, .bf16⟩
  | .local _ .vmem, ⟨1, _⟩ => ⟨S2064x512, .bf16⟩
  | .local _ .vmem, ⟨2, _⟩ => ⟨S2064x512, .bf16⟩
  | .local _ .vmem, ⟨3, _⟩ => ⟨S2064x512, .bf16⟩
  | .local _ .vmem, ⟨4, _⟩ => ⟨S2064x512, .bf16⟩
  | .local _ .vmem, ⟨5, _⟩ => ⟨S1x1024x512, .bf16⟩
  | .local _ .vmem, ⟨6, _⟩ => ⟨S1x1024x512, .bf16⟩
  | _, _ => ⟨S2064x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def k0_cond1 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg1 : BitVec 32 := BitVec.ofNat 32 (i 1).val
  let c0_i32_7 : BitVec 32 := 0#32
  let v21 : BitVec 1 := Scalar.cmpi .sgt arg1 c0_i32_7
  let v22 : BitVec 32 := Scalar.extui v21
  let c0_i32_8 : BitVec 32 := 0#32
  let v23 : BitVec 1 := Scalar.cmpi .slt arg1 c0_i32_8
  let v24 : BitVec 32 := Scalar.extui v23
  let v25 : BitVec 32 := Scalar.subi v22 v24
  let c2_i32_6 : BitVec 32 := 2#32
  let c0_i32_9 : BitVec 32 := 0#32
  let v26 : BitVec 1 := Scalar.cmpi .sgt c2_i32_6 c0_i32_9
  let v27 : BitVec 32 := Scalar.extui v26
  let c0_i32_10 : BitVec 32 := 0#32
  let v28 : BitVec 1 := Scalar.cmpi .slt c2_i32_6 c0_i32_10
  let v29 : BitVec 32 := Scalar.extui v28
  let v30 : BitVec 32 := Scalar.subi v27 v29
  let v31 : BitVec 1 := Scalar.cmpi .ne v25 v30
  let v32 : BitVec 32 := Scalar.remsi arg1 c2_i32_6
  let c0_i32_11 : BitVec 32 := 0#32
  let v33 : BitVec 1 := Scalar.cmpi .ne v32 c0_i32_11
  let v34 : BitVec 1 := Scalar.andi v31 v33
  let v20 : BitVec 32 := Scalar.divsi arg1 c2_i32_6
  let c1_i32_12 : BitVec 32 := 1#32
  let v35 : BitVec 32 := Scalar.subi v20 c1_i32_12
  let v36 : BitVec 32 := Scalar.select v34 v35 v20
  let c1_i32_13 : BitVec 32 := 1#32
  let v37 : BitVec 1 := Scalar.cmpi .eq v36 c1_i32_13
  let v38 : BitVec 32 := Scalar.extui v37
  let c0_i32_14 : BitVec 32 := 0#32
  let v39 : BitVec 1 := Scalar.cmpi .ne v38 c0_i32_14
  v39

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let v18 : BitVec 32 := Scalar.subi arg1 c0_i32_5
  let c1_i32_6 : BitVec 32 := 1#32
  let v19 : BitVec 32 := Scalar.muli v18 c1_i32_6
  let v20 : BitVec 32 := Scalar.addi v19 arg2
  let c0_i32_7 : BitVec 32 := 0#32
  let v21 : BitVec 32 := Scalar.select v17 v20 c0_i32_7
  let c0_i32_8 : BitVec 32 := 0#32
  let c0_i32_9 : BitVec 32 := 0#32
  ![c0_i32_8.toNat, v21.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 1 := Scalar.cmpi .eq v16 c1_i32_4
  let c2_i32_5 : BitVec 32 := 2#32
  let v18 : BitVec 32 := Scalar.subi arg1 c2_i32_5
  let c1_i32_6 : BitVec 32 := 1#32
  let v19 : BitVec 32 := Scalar.muli v18 c1_i32_6
  let v20 : BitVec 32 := Scalar.addi v19 arg2
  let c0_i32_7 : BitVec 32 := 0#32
  let v21 : BitVec 32 := Scalar.select v17 v20 c0_i32_7
  let c0_i32_8 : BitVec 32 := 0#32
  let c0_i32_9 : BitVec 32 := 0#32
  ![c0_i32_8.toNat, v21.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage0_0 : Fin 1 → Memref sig .tc .vmem S2064x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S2064x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2064x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnInDwRefIdeal.lean ====
abbrev S2064x1024 : Shape := ⟨2, ![2064, 1024]⟩
abbrev S2064x2048 : Shape := ⟨2, ![2064, 2048]⟩
abbrev S_ : Shape := ⟨0, ![]⟩
abbrev S4x1024x512 : Shape := ⟨3, ![4, 1024, 512]⟩
abbrev S1024x4x512 : Shape := ⟨3, ![1024, 4, 512]⟩
abbrev S1024x2048 : Shape := ⟨2, ![1024, 2048]⟩
abbrev S2048x1024 : Shape := ⟨2, ![2048, 1024]⟩

abbrev nBuf : Space → Nat
  | .hbm => 17
  | .vmem => 0
  | .smem => 0
  | _ => 0

abbrev bufTy : (tb : Table) → Fin (tcTables nBuf tb) → BufTy
  | .hbm, ⟨0, _⟩ => ⟨S2064x1024, .bf16⟩
  | .hbm, ⟨1, _⟩ => ⟨S2064x1024, .bf16⟩
  | .hbm, ⟨2, _⟩ => ⟨S2064x1024, .bf16⟩
  | .hbm, ⟨3, _⟩ => ⟨S2064x1024, .f32⟩
  | .hbm, ⟨4, _⟩ => ⟨S2064x1024, .f32⟩
  | .hbm, ⟨5, _⟩ => ⟨S2064x2048, .f32⟩
  | .hbm, ⟨6, _⟩ => ⟨S_, .f32⟩
  | .hbm, ⟨7, _⟩ => ⟨S4x1024x512, .f32⟩
  | .hbm, ⟨8, _⟩ => ⟨S2064x1024, .f32⟩
  | .hbm, ⟨9, _⟩ => ⟨S1024x4x512, .f32⟩
  | .hbm, ⟨10, _⟩ => ⟨S1024x2048, .f32⟩
  | .hbm, ⟨11, _⟩ => ⟨S2064x2048, .f32⟩
  | .hbm, ⟨12, _⟩ => ⟨S2048x1024, .f32⟩
  | .hbm, ⟨13, _⟩ => ⟨S1024x2048, .f32⟩
  | .hbm, ⟨14, _⟩ => ⟨S1024x4x512, .f32⟩
  | .hbm, ⟨15, _⟩ => ⟨S4x1024x512, .f32⟩
  | .hbm, ⟨16, _⟩ => ⟨S4x1024x512, .bf16⟩
  | _, _ => ⟨S2064x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== AttnOut.lean ====
abbrev S2064x1024 : Shape := ⟨2, ![2064, 1024]⟩
abbrev S1024x1024 : Shape := ⟨2, ![1024, 1024]⟩
abbrev S1x1024 : Shape := ⟨2, ![1, 1024]⟩
abbrev S2064x1 : Shape := ⟨2, ![2064, 1]⟩
abbrev S688x1024 : Shape := ⟨2, ![688, 1024]⟩
abbrev S688x1 : Shape := ⟨2, ![688, 1]⟩
abbrev S688 : Shape := ⟨1, ![688]⟩

abbrev nBuf : Space → Nat
  | .hbm => 9
  | .vmem => 15
  | .smem => 0
  | _ => 0

abbrev bufTy : (tb : Table) → Fin (tcTables nBuf tb) → BufTy
  | .hbm, ⟨0, _⟩ => ⟨S2064x1024, .bf16⟩
  | .hbm, ⟨1, _⟩ => ⟨S1024x1024, .bf16⟩
  | .hbm, ⟨2, _⟩ => ⟨S2064x1024, .f32⟩
  | .hbm, ⟨3, _⟩ => ⟨S1x1024, .f32⟩
  | .hbm, ⟨4, _⟩ => ⟨S1x1024, .f32⟩
  | .hbm, ⟨5, _⟩ => ⟨S2064x1024, .f32⟩
  | .hbm, ⟨6, _⟩ => ⟨S2064x1024, .bf16⟩
  | .hbm, ⟨7, _⟩ => ⟨S2064x1024, .f32⟩
  | .hbm, ⟨8, _⟩ => ⟨S2064x1, .f32⟩
  | .local _ .vmem, ⟨0, _⟩ => ⟨S688x1024, .bf16⟩
  | .local _ .vmem, ⟨1, _⟩ => ⟨S688x1024, .bf16⟩
  | .local _ .vmem, ⟨2, _⟩ => ⟨S1024x1024, .bf16⟩
  | .local _ .vmem, ⟨3, _⟩ => ⟨S688x1024, .f32⟩
  | .local _ .vmem, ⟨4, _⟩ => ⟨S688x1024, .f32⟩
  | .local _ .vmem, ⟨5, _⟩ => ⟨S1x1024, .f32⟩
  | .local _ .vmem, ⟨6, _⟩ => ⟨S1x1024, .f32⟩
  | .local _ .vmem, ⟨7, _⟩ => ⟨S688x1024, .f32⟩
  | .local _ .vmem, ⟨8, _⟩ => ⟨S688x1024, .f32⟩
  | .local _ .vmem, ⟨9, _⟩ => ⟨S688x1024, .bf16⟩
  | .local _ .vmem, ⟨10, _⟩ => ⟨S688x1024, .bf16⟩
  | .local _ .vmem, ⟨11, _⟩ => ⟨S688x1024, .f32⟩
  | .local _ .vmem, ⟨12, _⟩ => ⟨S688x1024, .f32⟩
  | .local _ .vmem, ⟨13, _⟩ => ⟨S688x1, .f32⟩
  | .local _ .vmem, ⟨14, _⟩ => ⟨S688x1, .f32⟩
  | _, _ => ⟨S2064x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S688x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S688x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S688x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S688x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnOutRefIdeal.lean ====
abbrev S2064x1024 : Shape := ⟨2, ![2064, 1024]⟩
abbrev S1024x1024 : Shape := ⟨2, ![1024, 1024]⟩
abbrev S1x1024 : Shape := ⟨2, ![1, 1024]⟩
abbrev S_ : Shape := ⟨0, ![]⟩
abbrev S2064 : Shape := ⟨1, ![2064]⟩
abbrev S2064x1 : Shape := ⟨2, ![2064, 1]⟩

abbrev nBuf : Space → Nat
  | .hbm => 40
  | .vmem => 0
  | .smem => 0
  | _ => 0

abbrev bufTy : (tb : Table) → Fin (tcTables nBuf tb) → BufTy
  | .hbm, ⟨0, _⟩ => ⟨S2064x1024, .bf16⟩
  | .hbm, ⟨1, _⟩ => ⟨S1024x1024, .bf16⟩
  | .hbm, ⟨2, _⟩ => ⟨S2064x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S2064x1024, .f32⟩
  | .hbm, ⟨7, _⟩ => ⟨S2064x1024, .f32⟩
  | .hbm, ⟨8, _⟩ => ⟨S2064x1024, .f32⟩
  | .hbm, ⟨9, _⟩ => ⟨S1024x1024, .f32⟩
  | .hbm, ⟨10, _⟩ => ⟨S2064x1024, .f32⟩
  | .hbm, ⟨11, _⟩ => ⟨S2064x1024, .f32⟩
  | .hbm, ⟨12, _⟩ => ⟨S_, .f32⟩
  | .hbm, ⟨13, _⟩ => ⟨S2064, .f32⟩
  | .hbm, ⟨14, _⟩ => ⟨S2064x1, .f32⟩
  | .hbm, ⟨15, _⟩ => ⟨S_, .f32⟩
  | .hbm, ⟨16, _⟩ => ⟨S2064x1, .f32⟩
  | .hbm, ⟨17, _⟩ => ⟨S2064x1, .f32⟩
  | .hbm, ⟨18, _⟩ => ⟨S2064x1024, .f32⟩
  | .hbm, ⟨19, _⟩ => ⟨S2064x1024, .f32⟩
  | .hbm, ⟨20, _⟩ => ⟨S2064x1024, .f32⟩
  | .hbm, ⟨21, _⟩ => ⟨S_, .f32⟩
  | .hbm, ⟨22, _⟩ => ⟨S2064, .f32⟩
  | .hbm, ⟨23, _⟩ => ⟨S2064x1, .f32⟩
  | .hbm, ⟨24, _⟩ => ⟨S_, .f32⟩
  | .hbm, ⟨25, _⟩ => ⟨S2064x1, .f32⟩
  | .hbm, ⟨26, _⟩ => ⟨S2064x1, .f32⟩
  | .hbm, ⟨27, _⟩ => ⟨S_, .f32⟩
  | .hbm, ⟨28, _⟩ => ⟨S2064x1, .f32⟩
  | .hbm, ⟨29, _⟩ => ⟨S2064x1, .f32⟩
  | .hbm, ⟨30, _⟩ => ⟨S2064x1, .f32⟩
  | .hbm, ⟨31, _⟩ => ⟨S2064x1024, .f32⟩
  | .hbm, ⟨32, _⟩ => ⟨S2064x1024, .f32⟩
  | .hbm, ⟨33, _⟩ => ⟨S2064x1024, .f32⟩
  | .hbm, ⟨34, _⟩ => ⟨S2064x1024, .f32⟩
  | .hbm, ⟨35, _⟩ => ⟨S2064x1024, .f32⟩
  | .hbm, ⟨36, _⟩ => ⟨S2064x1024, .f32⟩
  | .hbm, ⟨37, _⟩ => ⟨S2064x1024, .f32⟩
  | .hbm, ⟨38, _⟩ => ⟨S2064x1024, .f32⟩
  | .hbm, ⟨39, _⟩ => ⟨S2064x1024, .bf16⟩
  | _, _ => ⟨S2064x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== AttnOutDw.lean ====
abbrev S2064x1024 : Shape := ⟨2, ![2064, 1024]⟩
abbrev S1x1024x1024 : Shape := ⟨3, ![1, 1024, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2064x1024, .bf16⟩
  | .hbm, ⟨1, _⟩ => ⟨S2064x1024, .bf16⟩
  | .hbm, ⟨2, _⟩ => ⟨S1x1024x1024, .bf16⟩
  | .local _ .vmem, ⟨0, _⟩ => ⟨S2064x1024, .bf16⟩
  | .local _ .vmem, ⟨1, _⟩ => ⟨S2064x1024, .bf16⟩
  | .local _ .vmem, ⟨2, _⟩ => ⟨S1x1024x1024, .bf16⟩
  | _, _ => ⟨S2064x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond1 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let v18 : BitVec 32 := Scalar.extui v17
  let c0_i32_6 : BitVec 32 := 0#32
  let v19 : BitVec 1 := Scalar.cmpi .ne v18 c0_i32_6
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c0_i32_6 : BitVec 32 := 0#32
  let v18 : BitVec 32 := Scalar.subi arg1 c0_i32_6
  let c1_i32_7 : BitVec 32 := 1#32
  let v19 : BitVec 32 := Scalar.muli v18 c1_i32_7
  let v20 : BitVec 32 := Scalar.addi v19 arg2
  let c0_i32_8 : BitVec 32 := 0#32
  let v21 : BitVec 32 := Scalar.select v17 v20 c0_i32_8
  let c0_i32_9 : BitVec 32 := 0#32
  let c0_i32_10 : BitVec 32 := 0#32
  ![c0_i32_9.toNat, v21.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage0_0 : Fin 1 → Memref sig .tc .vmem S2064x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 1 → Memref sig .tc .vmem S2064x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true]
-- ==== AttnOutDwRefIdeal.lean ====
abbrev S2064x1024 : Shape := ⟨2, ![2064, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2064x1024, .bf16⟩
  | .hbm, ⟨1, _⟩ => ⟨S2064x1024, .bf16⟩
  | .hbm, ⟨2, _⟩ => ⟨S_, .f32⟩
  | .hbm, ⟨3, _⟩ => ⟨S1024x1024, .f32⟩
  | .hbm, ⟨4, _⟩ => ⟨S2064x1024, .f32⟩
  | .hbm, ⟨5, _⟩ => ⟨S2064x1024, .f32⟩
  | .hbm, ⟨6, _⟩ => ⟨S2064x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1x1024x1024, .bf16⟩
  | _, _ => ⟨S2064x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KvIn.lean ====
abbrev S2064x1024 : Shape := ⟨2, ![2064, 1024]⟩
abbrev S4x1024x516 : Shape := ⟨3, ![4, 1024, 516]⟩
abbrev S1024x4x516 : Shape := ⟨3, ![1024, 4, 516]⟩
abbrev S1024x2064 : Shape := ⟨2, ![1024, 2064]⟩
abbrev S_ : Shape := ⟨0, ![]⟩
abbrev S1024x2304 : Shape := ⟨2, ![1024, 2304]⟩
abbrev S1x1024x2304 : Shape := ⟨3, ![1, 1024, 2304]⟩
abbrev S2064x2304 : Shape := ⟨2, ![2064, 2304]⟩
abbrev S688x1024 : Shape := ⟨2, ![688, 1024]⟩
abbrev S1x1024x1152 : Shape := ⟨3, ![1, 1024, 1152]⟩
abbrev S688x1152 : Shape := ⟨2, ![688, 1152]⟩
abbrev S1024x1152 : Shape := ⟨2, ![1024, 1152]⟩

abbrev nBuf : Space → Nat
  | .hbm => 9
  | .vmem => 6
  | .smem => 0
  | _ => 0

abbrev bufTy : (tb : Table) → Fin (tcTables nBuf tb) → BufTy
  | .hbm, ⟨0, _⟩ => ⟨S2064x1024, .bf16⟩
  | .hbm, ⟨1, _⟩ => ⟨S4x1024x516, .bf16⟩
  | .hbm, ⟨2, _⟩ => ⟨S1024x4x516, .bf16⟩
  | .hbm, ⟨3, _⟩ => ⟨S1024x2064, .bf16⟩
  | .hbm, ⟨4, _⟩ => ⟨S_, .i32⟩
  | .hbm, ⟨5, _⟩ => ⟨S_, .bf16⟩
  | .hbm, ⟨6, _⟩ => ⟨S1024x2304, .bf16⟩
  | .hbm, ⟨7, _⟩ => ⟨S1x1024x2304, .bf16⟩
  | .hbm, ⟨8, _⟩ => ⟨S2064x2304, .f32⟩
  | .local _ .vmem, ⟨0, _⟩ => ⟨S688x1024, .bf16⟩
  | .local _ .vmem, ⟨1, _⟩ => ⟨S688x1024, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S688x1152, .f32⟩
  | .local _ .vmem, ⟨5, _⟩ => ⟨S688x1152, .f32⟩
  | _, _ => ⟨S2064x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 3], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![arg2.toNat, v1.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S688x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== KvInRefIdeal.lean ====
abbrev S2064x1024 : Shape := ⟨2, ![2064, 1024]⟩
abbrev S4x1024x516 : Shape := ⟨3, ![4, 1024, 516]⟩
abbrev S1024x4x516 : Shape := ⟨3, ![1024, 4, 516]⟩
abbrev S1024x2064 : Shape := ⟨2, ![1024, 2064]⟩
abbrev S2064x2064 : Shape := ⟨2, ![2064, 2064]⟩
abbrev S_ : Shape := ⟨0, ![]⟩
abbrev S2064x2304 : Shape := ⟨2, ![2064, 2304]⟩

abbrev nBuf : Space → Nat
  | .hbm => 10
  | .vmem => 0
  | .smem => 0
  | _ => 0

abbrev bufTy : (tb : Table) → Fin (tcTables nBuf tb) → BufTy
  | .hbm, ⟨0, _⟩ => ⟨S2064x1024, .bf16⟩
  | .hbm, ⟨1, _⟩ => ⟨S4x1024x516, .bf16⟩
  | .hbm, ⟨2, _⟩ => ⟨S2064x1024, .f32⟩
  | .hbm, ⟨3, _⟩ => ⟨S4x1024x516, .f32⟩
  | .hbm, ⟨4, _⟩ => ⟨S1024x4x516, .f32⟩
  | .hbm, ⟨5, _⟩ => ⟨S1024x2064, .f32⟩
  | .hbm, ⟨6, _⟩ => ⟨S2064x2064, .f32⟩
  | .hbm, ⟨7, _⟩ => ⟨S_, .i32⟩
  | .hbm, ⟨8, _⟩ => ⟨S_, .f32⟩
  | .hbm, ⟨9, _⟩ => ⟨S2064x2304, .f32⟩
  | _, _ => ⟨S2064x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KvInDx.lean ====
abbrev S2064x2304 : Shape := ⟨2, ![2064, 2304]⟩
abbrev S4x1024x516 : Shape := ⟨3, ![4, 1024, 516]⟩
abbrev S1024x4x516 : Shape := ⟨3, ![1024, 4, 516]⟩
abbrev S1024x2064 : Shape := ⟨2, ![1024, 2064]⟩
abbrev S_ : Shape := ⟨0, ![]⟩
abbrev S1024x2304 : Shape := ⟨2, ![1024, 2304]⟩
abbrev S1x1024x2304 : Shape := ⟨3, ![1, 1024, 2304]⟩
abbrev S2064x1024 : Shape := ⟨2, ![2064, 1024]⟩
abbrev S688x1152 : Shape := ⟨2, ![688, 1152]⟩
abbrev S1x1024x1152 : Shape := ⟨3, ![1, 1024, 1152]⟩
abbrev S688x1024 : Shape := ⟨2, ![688, 1024]⟩
abbrev S1024x1152 : Shape := ⟨2, ![1024, 1152]⟩

abbrev nBuf : Space → Nat
  | .hbm => 9
  | .vmem => 6
  | .smem => 0
  | _ => 0

abbrev bufTy : (tb : Table) → Fin (tcTables nBuf tb) → BufTy
  | .hbm, ⟨0, _⟩ => ⟨S2064x2304, .bf16⟩
  | .hbm, ⟨1, _⟩ => ⟨S4x1024x516, .bf16⟩
  | .hbm, ⟨2, _⟩ => ⟨S1024x4x516, .bf16⟩
  | .hbm, ⟨3, _⟩ => ⟨S1024x2064, .bf16⟩
  | .hbm, ⟨4, _⟩ => ⟨S_, .i32⟩
  | .hbm, ⟨5, _⟩ => ⟨S_, .bf16⟩
  | .hbm, ⟨6, _⟩ => ⟨S1024x2304, .bf16⟩
  | .hbm, ⟨7, _⟩ => ⟨S1x1024x2304, .bf16⟩
  | .hbm, ⟨8, _⟩ => ⟨S2064x1024, .f32⟩
  | .local _ .vmem, ⟨0, _⟩ => ⟨S688x1152, .bf16⟩
  | .local _ .vmem, ⟨1, _⟩ => ⟨S688x1152, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S688x1024, .f32⟩
  | .local _ .vmem, ⟨5, _⟩ => ⟨S688x1024, .f32⟩
  | _, _ => ⟨S2064x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond2 (i : grid0.Coords) : BitVec 1 :=
  let arg1 : BitVec 32 := BitVec.ofNat 32 (i 1).val
  let c0_i32_2 : BitVec 32 := 0#32
  let v6 : BitVec 1 := Scalar.cmpi .sgt arg1 c0_i32_2
  let v7 : BitVec 32 := Scalar.extui v6
  let c0_i32_3 : BitVec 32 := 0#32
  let v8 : BitVec 1 := Scalar.cmpi .slt arg1 c0_i32_3
  let v9 : BitVec 32 := Scalar.extui v8
  let v10 : BitVec 32 := Scalar.subi v7 v9
  let c1_i32 : BitVec 32 := 1#32
  let c0_i32_4 : BitVec 32 := 0#32
  let v11 : BitVec 1 := Scalar.cmpi .sgt c1_i32 c0_i32_4
  let v12 : BitVec 32 := Scalar.extui v11
  let c0_i32_5 : BitVec 32 := 0#32
  let v13 : BitVec 1 := Scalar.cmpi .slt c1_i32 c0_i32_5
  let v14 : BitVec 32 := Scalar.extui v13
  let v15 : BitVec 32 := Scalar.subi v12 v14
  let v16 : BitVec 1 := Scalar.cmpi .ne v10 v15
  let v17 : BitVec 32 := Scalar.remsi arg1 c1_i32
  let c0_i32_6 : BitVec 32 := 0#32
  let v18 : BitVec 1 := Scalar.cmpi .ne v17 c0_i32_6
  let v19 : BitVec 1 := Scalar.andi v16 v18
  let v5 : BitVec 32 := Scalar.divsi arg1 c1_i32
  let c1_i32_7 : BitVec 32 := 1#32
  let v20 : BitVec 32 := Scalar.subi v5 c1_i32_7
  let v21 : BitVec 32 := Scalar.select v19 v20 v5
  let c0_i32_8 : BitVec 32 := 0#32
  let v22 : BitVec 1 := Scalar.cmpi .eq v21 c0_i32_8
  let v23 : BitVec 32 := Scalar.extui v22
  let c0_i32_9 : BitVec 32 := 0#32
  let v24 : BitVec 1 := Scalar.cmpi .ne v23 c0_i32_9
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c0_i32_6 : BitVec 32 := 0#32
  let v18 : BitVec 32 := Scalar.subi arg1 c0_i32_6
  let c2_i32 : BitVec 32 := 2#32
  let v19 : BitVec 32 := Scalar.muli v18 c2_i32
  let v20 : BitVec 32 := Scalar.addi v19 arg2
  let c0_i32_7 : BitVec 32 := 0#32
  let v21 : BitVec 32 := Scalar.select v17 v20 c0_i32_7
  let c0_i32_8 : BitVec 32 := 0#32
  ![arg0.toNat, v21.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S688x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== KvInDxRefIdeal.lean ====
abbrev S2064x2304 : Shape := ⟨2, ![2064, 2304]⟩
abbrev S4x1024x516 : Shape := ⟨3, ![4, 1024, 516]⟩
abbrev S2064x2064 : Shape := ⟨2, ![2064, 2064]⟩
abbrev S_ : Shape := ⟨0, ![]⟩
abbrev S2064x1024 : Shape := ⟨2, ![2064, 1024]⟩
abbrev S1024x4x516 : Shape := ⟨3, ![1024, 4, 516]⟩
abbrev S1024x2064 : Shape := ⟨2, ![1024, 2064]⟩

abbrev nBuf : Space → Nat
  | .hbm => 11
  | .vmem => 0
  | .smem => 0
  | _ => 0

abbrev bufTy : (tb : Table) → Fin (tcTables nBuf tb) → BufTy
  | .hbm, ⟨0, _⟩ => ⟨S2064x2304, .bf16⟩
  | .hbm, ⟨1, _⟩ => ⟨S4x1024x516, .bf16⟩
  | .hbm, ⟨2, _⟩ => ⟨S2064x2064, .bf16⟩
  | .hbm, ⟨3, _⟩ => ⟨S_, .f32⟩
  | .hbm, ⟨4, _⟩ => ⟨S2064x1024, .f32⟩
  | .hbm, ⟨5, _⟩ => ⟨S4x1024x516, .f32⟩
  | .hbm, ⟨6, _⟩ => ⟨S1024x4x516, .f32⟩
  | .hbm, ⟨7, _⟩ => ⟨S1024x2064, .f32⟩
  | .hbm, ⟨8, _⟩ => ⟨S2064x2064, .f32⟩
  | .hbm, ⟨9, _⟩ => ⟨S2064x2064, .f32⟩
  | .hbm, ⟨10, _⟩ => ⟨S2064x1024, .f32⟩
  | _, _ => ⟨S2064x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KvInDw.lean ====
abbrev S2064x1024 : Shape := ⟨2, ![2064, 1024]⟩
abbrev S2064x2304 : Shape := ⟨2, ![2064, 2304]⟩
abbrev S1x1024x2304 : Shape := ⟨3, ![1, 1024, 2304]⟩
abbrev S2064x1152 : Shape := ⟨2, ![2064, 1152]⟩
abbrev S1x1024x1152 : Shape := ⟨3, ![1, 1024, 1152]⟩
abbrev S1024x1152 : Shape := ⟨2, ![1024, 1152]⟩

abbrev nBuf : Space → Nat
  | .hbm => 3
  | .vmem => 5
  | .smem => 0
  | _ => 0

abbrev bufTy : (tb : Table) → Fin (tcTables nBuf tb) → BufTy
  | .hbm, ⟨0, _⟩ => ⟨S2064x1024, .bf16⟩
  | .hbm, ⟨1, _⟩ => ⟨S2064x2304, .bf16⟩
  | .hbm, ⟨2, _⟩ => ⟨S1x1024x2304, .bf16⟩
  | .local _ .vmem, ⟨0, _⟩ => ⟨S2064x1024, .bf16⟩
  | .local _ .vmem, ⟨1, _⟩ => ⟨S2064x1152, .bf16⟩
  | .local _ .vmem, ⟨2, _⟩ => ⟨S2064x1152, .bf16⟩
  | .local _ .vmem, ⟨3, _⟩ => ⟨S1x1024x1152, .bf16⟩
  | .local _ .vmem, ⟨4, _⟩ => ⟨S1x1024x1152, .bf16⟩
  | _, _ => ⟨S2064x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 1, 2], ![false, false, false]⟩

def k0_cond1 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let v18 : BitVec 32 := Scalar.extui v17
  let c0_i32_6 : BitVec 32 := 0#32
  let v19 : BitVec 1 := Scalar.cmpi .ne v18 c0_i32_6
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c0_i32_6 : BitVec 32 := 0#32
  let v18 : BitVec 32 := Scalar.subi arg1 c0_i32_6
  let c2_i32 : BitVec 32 := 2#32
  let v19 : BitVec 32 := Scalar.muli v18 c2_i32
  let v20 : BitVec 32 := Scalar.addi v19 arg2
  let c0_i32_7 : BitVec 32 := 0#32
  let v21 : BitVec 32 := Scalar.select v17 v20 c0_i32_7
  let c0_i32_8 : BitVec 32 := 0#32
  let c0_i32_9 : BitVec 32 := 0#32
  ![c0_i32_8.toNat, v21.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage0_0 : Fin 1 → Memref sig .tc .vmem S2064x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S2064x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== KvInDwRefIdeal.lean ====
abbrev S2064x1024 : Shape := ⟨2, ![2064, 1024]⟩
abbrev S2064x2304 : Shape := ⟨2, ![2064, 2304]⟩
abbrev S_ : Shape := ⟨0, ![]⟩
abbrev S1024x2304 : Shape := ⟨2, ![1024, 2304]⟩
abbrev S2304x1024 : Shape := ⟨2, ![2304, 1024]⟩
abbrev S1x1024x2304 : Shape := ⟨3, ![1, 1024, 2304]⟩

abbrev nBuf : Space → Nat
  | .hbm => 11
  | .vmem => 0
  | .smem => 0
  | _ => 0

abbrev bufTy : (tb : Table) → Fin (tcTables nBuf tb) → BufTy
  | .hbm, ⟨0, _⟩ => ⟨S2064x1024, .bf16⟩
  | .hbm, ⟨1, _⟩ => ⟨S2064x2304, .bf16⟩
  | .hbm, ⟨2, _⟩ => ⟨S_, .f32⟩
  | .hbm, ⟨3, _⟩ => ⟨S1024x2304, .f32⟩
  | .hbm, ⟨4, _⟩ => ⟨S2064x1024, .f32⟩
  | .hbm, ⟨5, _⟩ => ⟨S2064x2304, .f32⟩
  | .hbm, ⟨6, _⟩ => ⟨S2064x2304, .f32⟩
  | .hbm, ⟨7, _⟩ => ⟨S2304x1024, .f32⟩
  | .hbm, ⟨8, _⟩ => ⟨S1024x2304, .f32⟩
  | .hbm, ⟨9, _⟩ => ⟨S1024x2304, .bf16⟩
  | .hbm, ⟨10, _⟩ => ⟨S1x1024x2304, .bf16⟩
  | _, _ => ⟨S2064x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FfnBack.lean ====
abbrev S2064x1024 : Shape := ⟨2, ![2064, 1024]⟩
abbrev S1x1024 : Shape := ⟨2, ![1, 1024]⟩
abbrev S_ : Shape := ⟨0, ![]⟩
abbrev S2064 : Shape := ⟨1, ![2064]⟩
abbrev S2064x1 : Shape := ⟨2, ![2064, 1]⟩
abbrev S688x1024 : Shape := ⟨2, ![688, 1024]⟩
abbrev S688x1 : Shape := ⟨2, ![688, 1]⟩
abbrev S688 : Shape := ⟨1, ![688]⟩
abbrev S1024 : Shape := ⟨1, ![1024]⟩

abbrev nBuf : Space → Nat
  | .hbm => 31
  | .vmem => 15
  | .smem => 0
  | _ => 0

abbrev bufTy : (tb : Table) → Fin (tcTables nBuf tb) → BufTy
  | .hbm, ⟨0, _⟩ => ⟨S2064x1024, .f32⟩
  | .hbm, ⟨1, _⟩ => ⟨S2064x1024, .f32⟩
  | .hbm, ⟨2, _⟩ => ⟨S2064x1024, .f32⟩
  | .hbm, ⟨3, _⟩ => ⟨S1x1024, .f32⟩
  | .hbm, ⟨4, _⟩ => ⟨S_, .f32⟩
  | .hbm, ⟨5, _⟩ => ⟨S2064, .f32⟩
  | .hbm, ⟨6, _⟩ => ⟨S2064x1, .f32⟩
  | .hbm, ⟨7, _⟩ => ⟨S_, .f32⟩
  | .hbm, ⟨8, _⟩ => ⟨S2064x1, .f32⟩
  | .hbm, ⟨9, _⟩ => ⟨S2064x1, .f32⟩
  | .hbm, ⟨10, _⟩ => ⟨S2064x1024, .f32⟩
  | .hbm, ⟨11, _⟩ => ⟨S2064x1024, .f32⟩
  | .hbm, ⟨12, _⟩ => ⟨S2064x1024, .f32⟩
  | .hbm, ⟨13, _⟩ => ⟨S_, .f32⟩
  | .hbm, ⟨14, _⟩ => ⟨S2064, .f32⟩
  | .hbm, ⟨15, _⟩ => ⟨S2064x1, .f32⟩
  | .hbm, ⟨16, _⟩ => ⟨S_, .f32⟩
  | .hbm, ⟨17, _⟩ => ⟨S2064x1, .f32⟩
  | .hbm, ⟨18, _⟩ => ⟨S2064x1, .f32⟩
  | .hbm, ⟨19, _⟩ => ⟨S_, .f32⟩
  | .hbm, ⟨20, _⟩ => ⟨S2064x1, .f32⟩
  | .hbm, ⟨21, _⟩ => ⟨S2064x1, .f32⟩
  | .hbm, ⟨22, _⟩ => ⟨S2064x1, .f32⟩
  | .hbm, ⟨23, _⟩ => ⟨S2064x1024, .f32⟩
  | .hbm, ⟨24, _⟩ => ⟨S2064x1024, .f32⟩
  | .hbm, ⟨25, _⟩ => ⟨S2064x1024, .f32⟩
  | .hbm, ⟨26, _⟩ => ⟨S2064x1024, .f32⟩
  | .hbm, ⟨27, _⟩ => ⟨S2064x1024, .f32⟩
  | .hbm, ⟨28, _⟩ => ⟨S2064x1024, .bf16⟩
  | .hbm, ⟨29, _⟩ => ⟨S1x1024, .f32⟩
  | .hbm, ⟨30, _⟩ => ⟨S1x1024, .f32⟩
  | .local _ .vmem, ⟨0, _⟩ => ⟨S688x1024, .f32⟩
  | .local _ .vmem, ⟨1, _⟩ => ⟨S688x1024, .f32⟩
  | .local _ .vmem, ⟨2, _⟩ => ⟨S688x1024, .f32⟩
  | .local _ .vmem, ⟨3, _⟩ => ⟨S688x1024, .f32⟩
  | .local _ .vmem, ⟨4, _⟩ => ⟨S688x1024, .f32⟩
  | .local _ .vmem, ⟨5, _⟩ => ⟨S688x1024, .f32⟩
  | .local _ .vmem, ⟨6, _⟩ => ⟨S688x1, .f32⟩
  | .local _ .vmem, ⟨7, _⟩ => ⟨S688x1, .f32⟩
  | .local _ .vmem, ⟨8, _⟩ => ⟨S1x1024, .f32⟩
  | .local _ .vmem, ⟨9, _⟩ => ⟨S688x1024, .f32⟩
  | .local _ .vmem, ⟨10, _⟩ => ⟨S688x1024, .f32⟩
  | .local _ .vmem, ⟨11, _⟩ => ⟨S688x1024, .bf16⟩
  | .local _ .vmem, ⟨12, _⟩ => ⟨S688x1024, .bf16⟩
  | .local _ .vmem, ⟨13, _⟩ => ⟨S1x1024, .f32⟩
  | .local _ .vmem, ⟨14, _⟩ => ⟨S1x1024, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S688x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S688x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S688x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnBackRefIdeal.lean ====
abbrev S2064x1024 : Shape := ⟨2, ![2064, 1024]⟩
abbrev S1x1024 : Shape := ⟨2, ![1, 1024]⟩
abbrev S_ : Shape := ⟨0, ![]⟩
abbrev S2064 : Shape := ⟨1, ![2064]⟩
abbrev S2064x1 : Shape := ⟨2, ![2064, 1]⟩
abbrev S1024 : Shape := ⟨1, ![1024]⟩

abbrev nBuf : Space → Nat
  | .hbm => 85
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S2064x1024, .f32⟩
  | .hbm, ⟨2, _⟩ => ⟨S2064x1024, .f32⟩
  | .hbm, ⟨3, _⟩ => ⟨S1x1024, .f32⟩
  | .hbm, ⟨4, _⟩ => ⟨S_, .f32⟩
  | .hbm, ⟨5, _⟩ => ⟨S2064x1024, .f32⟩
  | .hbm, ⟨6, _⟩ => ⟨S2064x1024, .f32⟩
  | .hbm, ⟨7, _⟩ => ⟨S2064x1024, .f32⟩
  | .hbm, ⟨8, _⟩ => ⟨S_, .f32⟩
  | .hbm, ⟨9, _⟩ => ⟨S1x1024, .f32⟩
  | .hbm, ⟨10, _⟩ => ⟨S_, .f32⟩
  | .hbm, ⟨11, _⟩ => ⟨S2064, .f32⟩
  | .hbm, ⟨12, _⟩ => ⟨S2064x1, .f32⟩
  | .hbm, ⟨13, _⟩ => ⟨S_, .f32⟩
  | .hbm, ⟨14, _⟩ => ⟨S2064x1, .f32⟩
  | .hbm, ⟨15, _⟩ => ⟨S2064x1, .f32⟩
  | .hbm, ⟨16, _⟩ => ⟨S2064x1024, .f32⟩
  | .hbm, ⟨17, _⟩ => ⟨S2064x1024, .f32⟩
  | .hbm, ⟨18, _⟩ => ⟨S2064x1024, .f32⟩
  | .hbm, ⟨19, _⟩ => ⟨S_, .f32⟩
  | .hbm, ⟨20, _⟩ => ⟨S2064x1024, .f32⟩
  | .hbm, ⟨21, _⟩ => ⟨S2064x1024, .f32⟩
  | .hbm, ⟨22, _⟩ => ⟨S_, .f32⟩
  | .hbm, ⟨23, _⟩ => ⟨S2064, .f32⟩
  | .hbm, ⟨24, _⟩ => ⟨S2064x1, .f32⟩
  | .hbm, ⟨25, _⟩ => ⟨S_, .f32⟩
  | .hbm, ⟨26, _⟩ => ⟨S2064x1, .f32⟩
  | .hbm, ⟨27, _⟩ => ⟨S2064x1, .f32⟩
  | .hbm, ⟨28, _⟩ => ⟨S_, .f32⟩
  | .hbm, ⟨29, _⟩ => ⟨S2064x1, .f32⟩
  | .hbm, ⟨30, _⟩ => ⟨S2064x1, .f32⟩
  | .hbm, ⟨31, _⟩ => ⟨S2064x1, .f32⟩
  | .hbm, ⟨32, _⟩ => ⟨S2064x1, .f32⟩
  | .hbm, ⟨33, _⟩ => ⟨S_, .f32⟩
  | .hbm, ⟨34, _⟩ => ⟨S2064x1, .f32⟩
  | .hbm, ⟨35, _⟩ => ⟨S2064x1, .f32⟩
  | .hbm, ⟨36, _⟩ => ⟨S2064x1024, .f32⟩
  | .hbm, ⟨37, _⟩ => ⟨S2064x1024, .f32⟩
  | .hbm, ⟨38, _⟩ => ⟨S2064x1024, .f32⟩
  | .hbm, ⟨39, _⟩ => ⟨S2064x1024, .f32⟩
  | .hbm, ⟨40, _⟩ => ⟨S2064x1024, .f32⟩
  | .hbm, ⟨41, _⟩ => ⟨S2064x1024, .f32⟩
  | .hbm, ⟨42, _⟩ => ⟨S2064x1024, .f32⟩
  | .hbm, ⟨43, _⟩ => ⟨S2064x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S2064x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S2064x1024, .f32⟩
  | .hbm, ⟨52, _⟩ => ⟨S2064x1024, .f32⟩
  | .hbm, ⟨53, _⟩ => ⟨S2064x1024, .f32⟩
  | .hbm, ⟨54, _⟩ => ⟨S_, .f32⟩
  | .hbm, ⟨55, _⟩ => ⟨S2064, .f32⟩
  | .hbm, ⟨56, _⟩ => ⟨S2064x1, .f32⟩
  | .hbm, ⟨57, _⟩ => ⟨S2064x1024, .f32⟩
  | .hbm, ⟨58, _⟩ => ⟨S2064x1024, .f32⟩
  | .hbm, ⟨59, _⟩ => ⟨S2064x1024, .f32⟩
  | .hbm, ⟨60, _⟩ => ⟨S_, .f32⟩
  | .hbm, ⟨61, _⟩ => ⟨S2064, .f32⟩
  | .hbm, ⟨62, _⟩ => ⟨S2064x1, .f32⟩
  | .hbm, ⟨63, _⟩ => ⟨S2064x1, .f32⟩
  | .hbm, ⟨64, _⟩ => ⟨S_, .f32⟩
  | .hbm, ⟨65, _⟩ => ⟨S2064x1, .f32⟩
  | .hbm, ⟨66, _⟩ => ⟨S2064x1, .f32⟩
  | .hbm, ⟨67, _⟩ => ⟨S_, .f32⟩
  | .hbm, ⟨68, _⟩ => ⟨S2064, .f32⟩
  | .hbm, ⟨69, _⟩ => ⟨S2064x1024, .f32⟩
  | .hbm, ⟨70, _⟩ => ⟨S2064x1024, .f32⟩
  | .hbm, ⟨71, _⟩ => ⟨S2064x1024, .f32⟩
  | .hbm, ⟨72, _⟩ => ⟨S_, .f32⟩
  | .hbm, ⟨73, _⟩ => ⟨S2064, .f32⟩
  | .hbm, ⟨74, _⟩ => ⟨S2064x1, .f32⟩
  | .hbm, ⟨75, _⟩ => ⟨S2064x1024, .f32⟩
  | .hbm, ⟨76, _⟩ => ⟨S2064x1, .f32⟩
  | .hbm, ⟨77, _⟩ => ⟨S_, .f32⟩
  | .hbm, ⟨78, _⟩ => ⟨S2064x1, .f32⟩
  | .hbm, ⟨79, _⟩ => ⟨S2064x1, .f32⟩
  | .hbm, ⟨80, _⟩ => ⟨S_, .f32⟩
  | .hbm, ⟨81, _⟩ => ⟨S2064, .f32⟩
  | .hbm, ⟨82, _⟩ => ⟨S2064x1024, .f32⟩
  | .hbm, ⟨83, _⟩ => ⟨S2064x1024, .f32⟩
  | .hbm, ⟨84, _⟩ => ⟨S2064x1024, .bf16⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_10 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_11 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_12 : Ref sig .tc := ⟨.hbm, 64, rfl⟩
abbrev main_v47 : Ref sig .tc := ⟨.hbm, 65, rfl⟩
abbrev main_v48 : Ref sig .tc := ⟨.hbm, 66, rfl⟩
abbrev main_cst_13 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_14 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_15 : Ref sig .tc := ⟨.hbm, 77, rfl⟩
abbrev main_v57 : Ref sig .tc := ⟨.hbm, 78, rfl⟩
abbrev main_v58 : Ref sig .tc := ⟨.hbm, 79, rfl⟩
abbrev main_cst_16 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== LruBack.lean ====
abbrev S2064x1024 : Shape := ⟨2, ![2064, 1024]⟩
abbrev S1x1024 : Shape := ⟨2, ![1, 1024]⟩
abbrev S1536x1024 : Shape := ⟨2, ![1536, 1024]⟩
abbrev S_ : Shape := ⟨0, ![]⟩
abbrev S2064 : Shape := ⟨1, ![2064]⟩
abbrev S2064x1 : Shape := ⟨2, ![2064, 1]⟩
abbrev S2064x1536 : Shape := ⟨2, ![2064, 1536]⟩
abbrev S688x1024 : Shape := ⟨2, ![688, 1024]⟩
abbrev S688x1 : Shape := ⟨2, ![688, 1]⟩
abbrev S688x1536 : Shape := ⟨2, ![688, 1536]⟩
abbrev S688 : Shape := ⟨1, ![688]⟩
abbrev S1024 : Shape := ⟨1, ![1024]⟩

abbrev nBuf : Space → Nat
  | .hbm => 33
  | .vmem => 18
  | .smem => 0
  | _ => 0

abbrev bufTy : (tb : Table) → Fin (tcTables nBuf tb) → BufTy
  | .hbm, ⟨0, _⟩ => ⟨S2064x1024, .f32⟩
  | .hbm, ⟨1, _⟩ => ⟨S2064x1024, .f32⟩
  | .hbm, ⟨2, _⟩ => ⟨S2064x1024, .f32⟩
  | .hbm, ⟨3, _⟩ => ⟨S1x1024, .f32⟩
  | .hbm, ⟨4, _⟩ => ⟨S1536x1024, .bf16⟩
  | .hbm, ⟨5, _⟩ => ⟨S_, .f32⟩
  | .hbm, ⟨6, _⟩ => ⟨S2064, .f32⟩
  | .hbm, ⟨7, _⟩ => ⟨S2064x1, .f32⟩
  | .hbm, ⟨8, _⟩ => ⟨S_, .f32⟩
  | .hbm, ⟨9, _⟩ => ⟨S2064x1, .f32⟩
  | .hbm, ⟨10, _⟩ => ⟨S2064x1, .f32⟩
  | .hbm, ⟨11, _⟩ => ⟨S2064x1024, .f32⟩
  | .hbm, ⟨12, _⟩ => ⟨S2064x1024, .f32⟩
  | .hbm, ⟨13, _⟩ => ⟨S2064x1024, .f32⟩
  | .hbm, ⟨14, _⟩ => ⟨S_, .f32⟩
  | .hbm, ⟨15, _⟩ => ⟨S2064, .f32⟩
  | .hbm, ⟨16, _⟩ => ⟨S2064x1, .f32⟩
  | .hbm, ⟨17, _⟩ => ⟨S_, .f32⟩
  | .hbm, ⟨18, _⟩ => ⟨S2064x1, .f32⟩
  | .hbm, ⟨19, _⟩ => ⟨S2064x1, .f32⟩
  | .hbm, ⟨20, _⟩ => ⟨S_, .f32⟩
  | .hbm, ⟨21, _⟩ => ⟨S2064x1, .f32⟩
  | .hbm, ⟨22, _⟩ => ⟨S2064x1, .f32⟩
  | .hbm, ⟨23, _⟩ => ⟨S2064x1, .f32⟩
  | .hbm, ⟨24, _⟩ => ⟨S2064x1024, .f32⟩
  | .hbm, ⟨25, _⟩ => ⟨S2064x1024, .f32⟩
  | .hbm, ⟨26, _⟩ => ⟨S2064x1024, .f32⟩
  | .hbm, ⟨27, _⟩ => ⟨S2064x1024, .f32⟩
  | .hbm, ⟨28, _⟩ => ⟨S2064x1024, .f32⟩
  | .hbm, ⟨29, _⟩ => ⟨S2064x1024, .bf16⟩
  | .hbm, ⟨30, _⟩ => ⟨S1x1024, .f32⟩
  | .hbm, ⟨31, _⟩ => ⟨S1x1024, .f32⟩
  | .hbm, ⟨32, _⟩ => ⟨S2064x1536, .f32⟩
  | .local _ .vmem, ⟨0, _⟩ => ⟨S688x1024, .f32⟩
  | .local _ .vmem, ⟨1, _⟩ => ⟨S688x1024, .f32⟩
  | .local _ .vmem, ⟨2, _⟩ => ⟨S688x1024, .f32⟩
  | .local _ .vmem, ⟨3, _⟩ => ⟨S688x1024, .f32⟩
  | .local _ .vmem, ⟨4, _⟩ => ⟨S688x1024, .f32⟩
  | .local _ .vmem, ⟨5, _⟩ => ⟨S688x1024, .f32⟩
  | .local _ .vmem, ⟨6, _⟩ => ⟨S688x1, .f32⟩
  | .local _ .vmem, ⟨7, _⟩ => ⟨S688x1, .f32⟩
  | .local _ .vmem, ⟨8, _⟩ => ⟨S1x1024, .f32⟩
  | .local _ .vmem, ⟨9, _⟩ => ⟨S1536x1024, .bf16⟩
  | .local _ .vmem, ⟨10, _⟩ => ⟨S688x1024, .f32⟩
  | .local _ .vmem, ⟨11, _⟩ => ⟨S688x1024, .f32⟩
  | .local _ .vmem, ⟨12, _⟩ => ⟨S688x1024, .bf16⟩
  | .local _ .vmem, ⟨13, _⟩ => ⟨S688x1024, .bf16⟩
  | .local _ .vmem, ⟨14, _⟩ => ⟨S1x1024, .f32⟩
  | .local _ .vmem, ⟨15, _⟩ => ⟨S1x1024, .f32⟩
  | .local _ .vmem, ⟨16, _⟩ => ⟨S688x1536, .f32⟩
  | .local _ .vmem, ⟨17, _⟩ => ⟨S688x1536, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev main_v18_3 : Ref sig .tc := ⟨.hbm, 31, rfl⟩
abbrev main_v18_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S688x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S688x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S688x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S688x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== LruBackIdeal.lean ====
abbrev S2064x1024 : Shape := ⟨2, ![2064, 1024]⟩
abbrev S1x1024 : Shape := ⟨2, ![1, 1024]⟩
abbrev S1536x1024 : Shape := ⟨2, ![1536, 1024]⟩
abbrev S_ : Shape := ⟨0, ![]⟩
abbrev S2064 : Shape := ⟨1, ![2064]⟩
abbrev S2064x1 : Shape := ⟨2, ![2064, 1]⟩
abbrev S2064x1536 : Shape := ⟨2, ![2064, 1536]⟩
abbrev S688x1024 : Shape := ⟨2, ![688, 1024]⟩
abbrev S688x1 : Shape := ⟨2, ![688, 1]⟩
abbrev S688x1536 : Shape := ⟨2, ![688, 1536]⟩
abbrev S688 : Shape := ⟨1, ![688]⟩
abbrev S1024 : Shape := ⟨1, ![1024]⟩

abbrev nBuf : Space → Nat
  | .hbm => 33
  | .vmem => 18
  | .smem => 0
  | _ => 0

abbrev bufTy : (tb : Table) → Fin (tcTables nBuf tb) → BufTy
  | .hbm, ⟨0, _⟩ => ⟨S2064x1024, .f32⟩
  | .hbm, ⟨1, _⟩ => ⟨S2064x1024, .f32⟩
  | .hbm, ⟨2, _⟩ => ⟨S2064x1024, .f32⟩
  | .hbm, ⟨3, _⟩ => ⟨S1x1024, .f32⟩
  | .hbm, ⟨4, _⟩ => ⟨S1536x1024, .bf16⟩
  | .hbm, ⟨5, _⟩ => ⟨S_, .f32⟩
  | .hbm, ⟨6, _⟩ => ⟨S2064, .f32⟩
  | .hbm, ⟨7, _⟩ => ⟨S2064x1, .f32⟩
  | .hbm, ⟨8, _⟩ => ⟨S_, .f32⟩
  | .hbm, ⟨9, _⟩ => ⟨S2064x1, .f32⟩
  | .hbm, ⟨10, _⟩ => ⟨S2064x1, .f32⟩
  | .hbm, ⟨11, _⟩ => ⟨S2064x1024, .f32⟩
  | .hbm, ⟨12, _⟩ => ⟨S2064x1024, .f32⟩
  | .hbm, ⟨13, _⟩ => ⟨S2064x1024, .f32⟩
  | .hbm, ⟨14, _⟩ => ⟨S_, .f32⟩
  | .hbm, ⟨15, _⟩ => ⟨S2064, .f32⟩
  | .hbm, ⟨16, _⟩ => ⟨S2064x1, .f32⟩
  | .hbm, ⟨17, _⟩ => ⟨S_, .f32⟩
  | .hbm, ⟨18, _⟩ => ⟨S2064x1, .f32⟩
  | .hbm, ⟨19, _⟩ => ⟨S2064x1, .f32⟩
  | .hbm, ⟨20, _⟩ => ⟨S_, .f32⟩
  | .hbm, ⟨21, _⟩ => ⟨S2064x1, .f32⟩
  | .hbm, ⟨22, _⟩ => ⟨S2064x1, .f32⟩
  | .hbm, ⟨23, _⟩ => ⟨S2064x1, .f32⟩
  | .hbm, ⟨24, _⟩ => ⟨S2064x1024, .f32⟩
  | .hbm, ⟨25, _⟩ => ⟨S2064x1024, .f32⟩
  | .hbm, ⟨26, _⟩ => ⟨S2064x1024, .f32⟩
  | .hbm, ⟨27, _⟩ => ⟨S2064x1024, .f32⟩
  | .hbm, ⟨28, _⟩ => ⟨S2064x1024, .f32⟩
  | .hbm, ⟨29, _⟩ => ⟨S2064x1024, .bf16⟩
  | .hbm, ⟨30, _⟩ => ⟨S1x1024, .f32⟩
  | .hbm, ⟨31, _⟩ => ⟨S1x1024, .f32⟩
  | .hbm, ⟨32, _⟩ => ⟨S2064x1536, .f32⟩
  | .local _ .vmem, ⟨0, _⟩ => ⟨S688x1024, .f32⟩
  | .local _ .vmem, ⟨1, _⟩ => ⟨S688x1024, .f32⟩
  | .local _ .vmem, ⟨2, _⟩ => ⟨S688x1024, .f32⟩
  | .local _ .vmem, ⟨3, _⟩ => ⟨S688x1024, .f32⟩
  | .local _ .vmem, ⟨4, _⟩ => ⟨S688x1024, .f32⟩
  | .local _ .vmem, ⟨5, _⟩ => ⟨S688x1024, .f32⟩
  | .local _ .vmem, ⟨6, _⟩ => ⟨S688x1, .f32⟩
  | .local _ .vmem, ⟨7, _⟩ => ⟨S688x1, .f32⟩
  | .local _ .vmem, ⟨8, _⟩ => ⟨S1x1024, .f32⟩
  | .local _ .vmem, ⟨9, _⟩ => ⟨S1536x1024, .bf16⟩
  | .local _ .vmem, ⟨10, _⟩ => ⟨S688x1024, .f32⟩
  | .local _ .vmem, ⟨11, _⟩ => ⟨S688x1024, .f32⟩
  | .local _ .vmem, ⟨12, _⟩ => ⟨S688x1024, .bf16⟩
  | .local _ .vmem, ⟨13, _⟩ => ⟨S688x1024, .bf16⟩
  | .local _ .vmem, ⟨14, _⟩ => ⟨S1x1024, .f32⟩
  | .local _ .vmem, ⟨15, _⟩ => ⟨S1x1024, .f32⟩
  | .local _ .vmem, ⟨16, _⟩ => ⟨S688x1536, .f32⟩
  | .local _ .vmem, ⟨17, _⟩ => ⟨S688x1536, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev main_v18_3 : Ref sig .tc := ⟨.hbm, 31, rfl⟩
abbrev main_v18_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S688x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S688x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S688x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S688x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== LruBackRefIdeal.lean ====
abbrev S2064x1024 : Shape := ⟨2, ![2064, 1024]⟩
abbrev S1x1024 : Shape := ⟨2, ![1, 1024]⟩
abbrev S1536x1024 : Shape := ⟨2, ![1536, 1024]⟩
abbrev S_ : Shape := ⟨0, ![]⟩
abbrev S2064 : Shape := ⟨1, ![2064]⟩
abbrev S2064x1 : Shape := ⟨2, ![2064, 1]⟩
abbrev S1024 : Shape := ⟨1, ![1024]⟩
abbrev S2064x1536 : Shape := ⟨2, ![2064, 1536]⟩

abbrev nBuf : Space → Nat
  | .hbm => 92
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S2064x1024, .f32⟩
  | .hbm, ⟨2, _⟩ => ⟨S2064x1024, .f32⟩
  | .hbm, ⟨3, _⟩ => ⟨S1x1024, .f32⟩
  | .hbm, ⟨4, _⟩ => ⟨S1536x1024, .bf16⟩
  | .hbm, ⟨5, _⟩ => ⟨S_, .f32⟩
  | .hbm, ⟨6, _⟩ => ⟨S2064x1024, .f32⟩
  | .hbm, ⟨7, _⟩ => ⟨S2064x1024, .f32⟩
  | .hbm, ⟨8, _⟩ => ⟨S2064x1024, .f32⟩
  | .hbm, ⟨9, _⟩ => ⟨S_, .f32⟩
  | .hbm, ⟨10, _⟩ => ⟨S1x1024, .f32⟩
  | .hbm, ⟨11, _⟩ => ⟨S_, .f32⟩
  | .hbm, ⟨12, _⟩ => ⟨S2064, .f32⟩
  | .hbm, ⟨13, _⟩ => ⟨S2064x1, .f32⟩
  | .hbm, ⟨14, _⟩ => ⟨S_, .f32⟩
  | .hbm, ⟨15, _⟩ => ⟨S2064x1, .f32⟩
  | .hbm, ⟨16, _⟩ => ⟨S2064x1, .f32⟩
  | .hbm, ⟨17, _⟩ => ⟨S2064x1024, .f32⟩
  | .hbm, ⟨18, _⟩ => ⟨S2064x1024, .f32⟩
  | .hbm, ⟨19, _⟩ => ⟨S2064x1024, .f32⟩
  | .hbm, ⟨20, _⟩ => ⟨S_, .f32⟩
  | .hbm, ⟨21, _⟩ => ⟨S2064x1024, .f32⟩
  | .hbm, ⟨22, _⟩ => ⟨S2064x1024, .f32⟩
  | .hbm, ⟨23, _⟩ => ⟨S_, .f32⟩
  | .hbm, ⟨24, _⟩ => ⟨S2064, .f32⟩
  | .hbm, ⟨25, _⟩ => ⟨S2064x1, .f32⟩
  | .hbm, ⟨26, _⟩ => ⟨S_, .f32⟩
  | .hbm, ⟨27, _⟩ => ⟨S2064x1, .f32⟩
  | .hbm, ⟨28, _⟩ => ⟨S2064x1, .f32⟩
  | .hbm, ⟨29, _⟩ => ⟨S_, .f32⟩
  | .hbm, ⟨30, _⟩ => ⟨S2064x1, .f32⟩
  | .hbm, ⟨31, _⟩ => ⟨S2064x1, .f32⟩
  | .hbm, ⟨32, _⟩ => ⟨S2064x1, .f32⟩
  | .hbm, ⟨33, _⟩ => ⟨S2064x1, .f32⟩
  | .hbm, ⟨34, _⟩ => ⟨S_, .f32⟩
  | .hbm, ⟨35, _⟩ => ⟨S2064x1, .f32⟩
  | .hbm, ⟨36, _⟩ => ⟨S2064x1, .f32⟩
  | .hbm, ⟨37, _⟩ => ⟨S2064x1024, .f32⟩
  | .hbm, ⟨38, _⟩ => ⟨S2064x1024, .f32⟩
  | .hbm, ⟨39, _⟩ => ⟨S2064x1024, .f32⟩
  | .hbm, ⟨40, _⟩ => ⟨S2064x1024, .f32⟩
  | .hbm, ⟨41, _⟩ => ⟨S2064x1024, .f32⟩
  | .hbm, ⟨42, _⟩ => ⟨S2064x1024, .f32⟩
  | .hbm, ⟨43, _⟩ => ⟨S2064x1024, .f32⟩
  | .hbm, ⟨44, _⟩ => ⟨S2064x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S2064x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S2064x1024, .f32⟩
  | .hbm, ⟨53, _⟩ => ⟨S2064x1024, .f32⟩
  | .hbm, ⟨54, _⟩ => ⟨S2064x1024, .f32⟩
  | .hbm, ⟨55, _⟩ => ⟨S_, .f32⟩
  | .hbm, ⟨56, _⟩ => ⟨S2064, .f32⟩
  | .hbm, ⟨57, _⟩ => ⟨S2064x1, .f32⟩
  | .hbm, ⟨58, _⟩ => ⟨S2064x1024, .f32⟩
  | .hbm, ⟨59, _⟩ => ⟨S2064x1024, .f32⟩
  | .hbm, ⟨60, _⟩ => ⟨S2064x1024, .f32⟩
  | .hbm, ⟨61, _⟩ => ⟨S_, .f32⟩
  | .hbm, ⟨62, _⟩ => ⟨S2064, .f32⟩
  | .hbm, ⟨63, _⟩ => ⟨S2064x1, .f32⟩
  | .hbm, ⟨64, _⟩ => ⟨S2064x1, .f32⟩
  | .hbm, ⟨65, _⟩ => ⟨S_, .f32⟩
  | .hbm, ⟨66, _⟩ => ⟨S2064x1, .f32⟩
  | .hbm, ⟨67, _⟩ => ⟨S2064x1, .f32⟩
  | .hbm, ⟨68, _⟩ => ⟨S_, .f32⟩
  | .hbm, ⟨69, _⟩ => ⟨S2064, .f32⟩
  | .hbm, ⟨70, _⟩ => ⟨S2064x1024, .f32⟩
  | .hbm, ⟨71, _⟩ => ⟨S2064x1024, .f32⟩
  | .hbm, ⟨72, _⟩ => ⟨S2064x1024, .f32⟩
  | .hbm, ⟨73, _⟩ => ⟨S_, .f32⟩
  | .hbm, ⟨74, _⟩ => ⟨S2064, .f32⟩
  | .hbm, ⟨75, _⟩ => ⟨S2064x1, .f32⟩
  | .hbm, ⟨76, _⟩ => ⟨S2064x1024, .f32⟩
  | .hbm, ⟨77, _⟩ => ⟨S2064x1, .f32⟩
  | .hbm, ⟨78, _⟩ => ⟨S_, .f32⟩
  | .hbm, ⟨79, _⟩ => ⟨S2064x1, .f32⟩
  | .hbm, ⟨80, _⟩ => ⟨S2064x1, .f32⟩
  | .hbm, ⟨81, _⟩ => ⟨S_, .f32⟩
  | .hbm, ⟨82, _⟩ => ⟨S2064, .f32⟩
  | .hbm, ⟨83, _⟩ => ⟨S2064x1024, .f32⟩
  | .hbm, ⟨84, _⟩ => ⟨S2064x1024, .f32⟩
  | .hbm, ⟨85, _⟩ => ⟨S2064x1024, .bf16⟩
  | .hbm, ⟨86, _⟩ => ⟨S_, .f32⟩
  | .hbm, ⟨87, _⟩ => ⟨S2064x1536, .f32⟩
  | .hbm, ⟨88, _⟩ => ⟨S1536x1024, .f32⟩
  | .hbm, ⟨89, _⟩ => ⟨S2064x1024, .f32⟩
  | .hbm, ⟨90, _⟩ => ⟨S2064x1024, .f32⟩
  | .hbm, ⟨91, _⟩ => ⟨S2064x1536, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_12 : Ref sig .tc := ⟨.hbm, 65, rfl⟩
abbrev main_v47 : Ref sig .tc := ⟨.hbm, 66, rfl⟩
abbrev main_v48 : Ref sig .tc := ⟨.hbm, 67, rfl⟩
abbrev main_cst_13 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_cst_16 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]
-- ==== AttnBack.lean ====
abbrev S2064x1024 : Shape := ⟨2, ![2064, 1024]⟩
abbrev S1x1024 : Shape := ⟨2, ![1, 1024]⟩
abbrev S1024x1024 : Shape := ⟨2, ![1024, 1024]⟩
abbrev S_ : Shape := ⟨0, ![]⟩
abbrev S2064 : Shape := ⟨1, ![2064]⟩
abbrev S2064x1 : Shape := ⟨2, ![2064, 1]⟩
abbrev S688x1024 : Shape := ⟨2, ![688, 1024]⟩
abbrev S688x1 : Shape := ⟨2, ![688, 1]⟩
abbrev S688 : Shape := ⟨1, ![688]⟩
abbrev S1024 : Shape := ⟨1, ![1024]⟩

abbrev nBuf : Space → Nat
  | .hbm => 33
  | .vmem => 18
  | .smem => 0
  | _ => 0

abbrev bufTy : (tb : Table) → Fin (tcTables nBuf tb) → BufTy
  | .hbm, ⟨0, _⟩ => ⟨S2064x1024, .f32⟩
  | .hbm, ⟨1, _⟩ => ⟨S2064x1024, .f32⟩
  | .hbm, ⟨2, _⟩ => ⟨S2064x1024, .f32⟩
  | .hbm, ⟨3, _⟩ => ⟨S1x1024, .f32⟩
  | .hbm, ⟨4, _⟩ => ⟨S1024x1024, .bf16⟩
  | .hbm, ⟨5, _⟩ => ⟨S_, .f32⟩
  | .hbm, ⟨6, _⟩ => ⟨S2064, .f32⟩
  | .hbm, ⟨7, _⟩ => ⟨S2064x1, .f32⟩
  | .hbm, ⟨8, _⟩ => ⟨S_, .f32⟩
  | .hbm, ⟨9, _⟩ => ⟨S2064x1, .f32⟩
  | .hbm, ⟨10, _⟩ => ⟨S2064x1, .f32⟩
  | .hbm, ⟨11, _⟩ => ⟨S2064x1024, .f32⟩
  | .hbm, ⟨12, _⟩ => ⟨S2064x1024, .f32⟩
  | .hbm, ⟨13, _⟩ => ⟨S2064x1024, .f32⟩
  | .hbm, ⟨14, _⟩ => ⟨S_, .f32⟩
  | .hbm, ⟨15, _⟩ => ⟨S2064, .f32⟩
  | .hbm, ⟨16, _⟩ => ⟨S2064x1, .f32⟩
  | .hbm, ⟨17, _⟩ => ⟨S_, .f32⟩
  | .hbm, ⟨18, _⟩ => ⟨S2064x1, .f32⟩
  | .hbm, ⟨19, _⟩ => ⟨S2064x1, .f32⟩
  | .hbm, ⟨20, _⟩ => ⟨S_, .f32⟩
  | .hbm, ⟨21, _⟩ => ⟨S2064x1, .f32⟩
  | .hbm, ⟨22, _⟩ => ⟨S2064x1, .f32⟩
  | .hbm, ⟨23, _⟩ => ⟨S2064x1, .f32⟩
  | .hbm, ⟨24, _⟩ => ⟨S2064x1024, .f32⟩
  | .hbm, ⟨25, _⟩ => ⟨S2064x1024, .f32⟩
  | .hbm, ⟨26, _⟩ => ⟨S2064x1024, .f32⟩
  | .hbm, ⟨27, _⟩ => ⟨S2064x1024, .f32⟩
  | .hbm, ⟨28, _⟩ => ⟨S2064x1024, .f32⟩
  | .hbm, ⟨29, _⟩ => ⟨S2064x1024, .bf16⟩
  | .hbm, ⟨30, _⟩ => ⟨S1x1024, .f32⟩
  | .hbm, ⟨31, _⟩ => ⟨S1x1024, .f32⟩
  | .hbm, ⟨32, _⟩ => ⟨S2064x1024, .f32⟩
  | .local _ .vmem, ⟨0, _⟩ => ⟨S688x1024, .f32⟩
  | .local _ .vmem, ⟨1, _⟩ => ⟨S688x1024, .f32⟩
  | .local _ .vmem, ⟨2, _⟩ => ⟨S688x1024, .f32⟩
  | .local _ .vmem, ⟨3, _⟩ => ⟨S688x1024, .f32⟩
  | .local _ .vmem, ⟨4, _⟩ => ⟨S688x1024, .f32⟩
  | .local _ .vmem, ⟨5, _⟩ => ⟨S688x1024, .f32⟩
  | .local _ .vmem, ⟨6, _⟩ => ⟨S688x1, .f32⟩
  | .local _ .vmem, ⟨7, _⟩ => ⟨S688x1, .f32⟩
  | .local _ .vmem, ⟨8, _⟩ => ⟨S1x1024, .f32⟩
  | .local _ .vmem, ⟨9, _⟩ => ⟨S1024x1024, .bf16⟩
  | .local _ .vmem, ⟨10, _⟩ => ⟨S688x1024, .f32⟩
  | .local _ .vmem, ⟨11, _⟩ => ⟨S688x1024, .f32⟩
  | .local _ .vmem, ⟨12, _⟩ => ⟨S688x1024, .bf16⟩
  | .local _ .vmem, ⟨13, _⟩ => ⟨S688x1024, .bf16⟩
  | .local _ .vmem, ⟨14, _⟩ => ⟨S1x1024, .f32⟩
  | .local _ .vmem, ⟨15, _⟩ => ⟨S1x1024, .f32⟩
  | .local _ .vmem, ⟨16, _⟩ => ⟨S688x1024, .f32⟩
  | .local _ .vmem, ⟨17, _⟩ => ⟨S688x1024, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev main_v18_3 : Ref sig .tc := ⟨.hbm, 31, rfl⟩
abbrev main_v18_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S688x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S688x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S688x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S688x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AttnBackRefIdeal.lean ====
abbrev S2064x1024 : Shape := ⟨2, ![2064, 1024]⟩
abbrev S1x1024 : Shape := ⟨2, ![1, 1024]⟩
abbrev S1024x1024 : Shape := ⟨2, ![1024, 1024]⟩
abbrev S_ : Shape := ⟨0, ![]⟩
abbrev S2064 : Shape := ⟨1, ![2064]⟩
abbrev S2064x1 : Shape := ⟨2, ![2064, 1]⟩
abbrev S1024 : Shape := ⟨1, ![1024]⟩

abbrev nBuf : Space → Nat
  | .hbm => 92
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S2064x1024, .f32⟩
  | .hbm, ⟨2, _⟩ => ⟨S2064x1024, .f32⟩
  | .hbm, ⟨3, _⟩ => ⟨S1x1024, .f32⟩
  | .hbm, ⟨4, _⟩ => ⟨S1024x1024, .bf16⟩
  | .hbm, ⟨5, _⟩ => ⟨S_, .f32⟩
  | .hbm, ⟨6, _⟩ => ⟨S2064x1024, .f32⟩
  | .hbm, ⟨7, _⟩ => ⟨S2064x1024, .f32⟩
  | .hbm, ⟨8, _⟩ => ⟨S2064x1024, .f32⟩
  | .hbm, ⟨9, _⟩ => ⟨S_, .f32⟩
  | .hbm, ⟨10, _⟩ => ⟨S1x1024, .f32⟩
  | .hbm, ⟨11, _⟩ => ⟨S_, .f32⟩
  | .hbm, ⟨12, _⟩ => ⟨S2064, .f32⟩
  | .hbm, ⟨13, _⟩ => ⟨S2064x1, .f32⟩
  | .hbm, ⟨14, _⟩ => ⟨S_, .f32⟩
  | .hbm, ⟨15, _⟩ => ⟨S2064x1, .f32⟩
  | .hbm, ⟨16, _⟩ => ⟨S2064x1, .f32⟩
  | .hbm, ⟨17, _⟩ => ⟨S2064x1024, .f32⟩
  | .hbm, ⟨18, _⟩ => ⟨S2064x1024, .f32⟩
  | .hbm, ⟨19, _⟩ => ⟨S2064x1024, .f32⟩
  | .hbm, ⟨20, _⟩ => ⟨S_, .f32⟩
  | .hbm, ⟨21, _⟩ => ⟨S2064x1024, .f32⟩
  | .hbm, ⟨22, _⟩ => ⟨S2064x1024, .f32⟩
  | .hbm, ⟨23, _⟩ => ⟨S_, .f32⟩
  | .hbm, ⟨24, _⟩ => ⟨S2064, .f32⟩
  | .hbm, ⟨25, _⟩ => ⟨S2064x1, .f32⟩
  | .hbm, ⟨26, _⟩ => ⟨S_, .f32⟩
  | .hbm, ⟨27, _⟩ => ⟨S2064x1, .f32⟩
  | .hbm, ⟨28, _⟩ => ⟨S2064x1, .f32⟩
  | .hbm, ⟨29, _⟩ => ⟨S_, .f32⟩
  | .hbm, ⟨30, _⟩ => ⟨S2064x1, .f32⟩
  | .hbm, ⟨31, _⟩ => ⟨S2064x1, .f32⟩
  | .hbm, ⟨32, _⟩ => ⟨S2064x1, .f32⟩
  | .hbm, ⟨33, _⟩ => ⟨S2064x1, .f32⟩
  | .hbm, ⟨34, _⟩ => ⟨S_, .f32⟩
  | .hbm, ⟨35, _⟩ => ⟨S2064x1, .f32⟩
  | .hbm, ⟨36, _⟩ => ⟨S2064x1, .f32⟩
  | .hbm, ⟨37, _⟩ => ⟨S2064x1024, .f32⟩
  | .hbm, ⟨38, _⟩ => ⟨S2064x1024, .f32⟩
  | .hbm, ⟨39, _⟩ => ⟨S2064x1024, .f32⟩
  | .hbm, ⟨40, _⟩ => ⟨S2064x1024, .f32⟩
  | .hbm, ⟨41, _⟩ => ⟨S2064x1024, .f32⟩
  | .hbm, ⟨42, _⟩ => ⟨S2064x1024, .f32⟩
  | .hbm, ⟨43, _⟩ => ⟨S2064x1024, .f32⟩
  | .hbm, ⟨44, _⟩ => ⟨S2064x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S2064x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S2064x1024, .f32⟩
  | .hbm, ⟨53, _⟩ => ⟨S2064x1024, .f32⟩
  | .hbm, ⟨54, _⟩ => ⟨S2064x1024, .f32⟩
  | .hbm, ⟨55, _⟩ => ⟨S_, .f32⟩
  | .hbm, ⟨56, _⟩ => ⟨S2064, .f32⟩
  | .hbm, ⟨57, _⟩ => ⟨S2064x1, .f32⟩
  | .hbm, ⟨58, _⟩ => ⟨S2064x1024, .f32⟩
  | .hbm, ⟨59, _⟩ => ⟨S2064x1024, .f32⟩
  | .hbm, ⟨60, _⟩ => ⟨S2064x1024, .f32⟩
  | .hbm, ⟨61, _⟩ => ⟨S_, .f32⟩
  | .hbm, ⟨62, _⟩ => ⟨S2064, .f32⟩
  | .hbm, ⟨63, _⟩ => ⟨S2064x1, .f32⟩
  | .hbm, ⟨64, _⟩ => ⟨S2064x1, .f32⟩
  | .hbm, ⟨65, _⟩ => ⟨S_, .f32⟩
  | .hbm, ⟨66, _⟩ => ⟨S2064x1, .f32⟩
  | .hbm, ⟨67, _⟩ => ⟨S2064x1, .f32⟩
  | .hbm, ⟨68, _⟩ => ⟨S_, .f32⟩
  | .hbm, ⟨69, _⟩ => ⟨S2064, .f32⟩
  | .hbm, ⟨70, _⟩ => ⟨S2064x1024, .f32⟩
  | .hbm, ⟨71, _⟩ => ⟨S2064x1024, .f32⟩
  | .hbm, ⟨72, _⟩ => ⟨S2064x1024, .f32⟩
  | .hbm, ⟨73, _⟩ => ⟨S_, .f32⟩
  | .hbm, ⟨74, _⟩ => ⟨S2064, .f32⟩
  | .hbm, ⟨75, _⟩ => ⟨S2064x1, .f32⟩
  | .hbm, ⟨76, _⟩ => ⟨S2064x1024, .f32⟩
  | .hbm, ⟨77, _⟩ => ⟨S2064x1, .f32⟩
  | .hbm, ⟨78, _⟩ => ⟨S_, .f32⟩
  | .hbm, ⟨79, _⟩ => ⟨S2064x1, .f32⟩
  | .hbm, ⟨80, _⟩ => ⟨S2064x1, .f32⟩
  | .hbm, ⟨81, _⟩ => ⟨S_, .f32⟩
  | .hbm, ⟨82, _⟩ => ⟨S2064, .f32⟩
  | .hbm, ⟨83, _⟩ => ⟨S2064x1024, .f32⟩
  | .hbm, ⟨84, _⟩ => ⟨S2064x1024, .f32⟩
  | .hbm, ⟨85, _⟩ => ⟨S2064x1024, .bf16⟩
  | .hbm, ⟨86, _⟩ => ⟨S_, .f32⟩
  | .hbm, ⟨87, _⟩ => ⟨S2064x1024, .f32⟩
  | .hbm, ⟨88, _⟩ => ⟨S1024x1024, .f32⟩
  | .hbm, ⟨89, _⟩ => ⟨S2064x1024, .f32⟩
  | .hbm, ⟨90, _⟩ => ⟨S2064x1024, .f32⟩
  | .hbm, ⟨91, _⟩ => ⟨S2064x1024, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_12 : Ref sig .tc := ⟨.hbm, 65, rfl⟩
abbrev main_v47 : Ref sig .tc := ⟨.hbm, 66, rfl⟩
abbrev main_v48 : Ref sig .tc := ⟨.hbm, 67, rfl⟩
abbrev main_cst_13 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_cst_16 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]
-- ==== Proof.Block.lean ====
/- The arithmetic of one block of rows of the attention's gradient, as functions of the blocks it reads: `n` earlier keys
   and then the 384 keys on the diagonal. Every block of the kernel's body but the first is an instance of these at its
   own `n`; the first has no earlier keys and is `…₀` below. -/
module

public import proofs.«01_k».proof.Proof.Gen.AttnGradIdeal
public import Idealize.ShloMosaic.Lib.MatmulPlain

@[expose] public section

set_option maxRecDepth 16384

noncomputable section

namespace Cert.Attn

open Idealize.ShloMosaic Idealize.ShloMosaic.TcCoe

/-- The contraction of both operands' first axes. -/
def dimsTN (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp,
    (by decide : (([] ++ [1] ++ [0] : List (Fin 2))).Perm (List.finRange 2)),
    (by decide : (([] ++ [1] ++ [0] : List (Fin 2))).Perm (List.finRange 2)),
    rfl, by show 0 < 2; decide, fun a => by fin_cases a <;> rfl⟩

theorem bcRow (n : ℕ) : Shape.Broadcasts ⟨2, ![1, n]⟩ ⟨2, ![384, n]⟩ :=
  ⟨le_rfl, fun a => by fin_cases a; exacts [Or.inl rfl, Or.inr fun _ => rfl]⟩
theorem bcCol (n : ℕ) : Shape.Broadcasts ⟨2, ![384, 1]⟩ ⟨2, ![384, n]⟩ :=
  ⟨le_rfl, fun a => by fin_cases a; exacts [Or.inr fun _ => rfl, Or.inl rfl]⟩
theorem redRow (n : ℕ) : Shape.Reduces ⟨2, ![384, n]⟩ [1] ⟨1, ![384]⟩ :=
  ⟨rfl, Nat.one_pos, fun b => by fin_cases b; rfl⟩
theorem redCol (n : ℕ) : Shape.Reduces ⟨2, ![384, n]⟩ [0] ⟨1, ![n]⟩ :=
  ⟨rfl, Nat.one_pos, fun b => by fin_cases b; rfl⟩
theorem slRow {o n : ℕ} (h : o + n ≤ 2304) : Shape.Slices ⟨2, ![1, 2304]⟩ ![0, o] ⟨2, ![1, n]⟩ :=
  ⟨rfl, fun a => by fin_cases a; exacts [le_rfl, h]⟩
theorem scCol : Shape.ShapeCasts ⟨1, ![384]⟩ ⟨2, ![384, 1]⟩ := by decide
theorem sc12 (n : ℕ) : Shape.ShapeCasts ⟨1, ![n]⟩ ⟨2, ![1, n]⟩ := by
  simp [Shape.ShapeCasts, Shape.numel, Fin.prod_univ_succ]
theorem sc23 (n : ℕ) : Shape.ShapeCasts ⟨2, ![1, n]⟩ ⟨3, ![1, 1, n]⟩ := by
  simp [Shape.ShapeCasts, Shape.numel, Fin.prod_univ_succ]
theorem sc32 (n : ℕ) : Shape.ShapeCasts ⟨3, ![1, 1, n]⟩ ⟨2, ![1, n]⟩ := by
  simp [Shape.ShapeCasts, Shape.numel, Fin.prod_univ_succ]
theorem scSame (s : Shape) : Shape.ShapeCasts s s := rfl
theorem iota0 : Shape.Iotas ⟨2, ![384, 384]⟩ .tc 32 [0] := by decide
theorem iota1 : Shape.Iotas ⟨2, ![384, 384]⟩ .tc 32 [1] := by decide

/-- An `m × n` array. -/
abbrev Mat (φ : FTy) (m n : ℕ) := FVec Ideal ⟨2, ![m, n]⟩ φ

/-- `a bᵀ`. -/
def mulNT {n : ℕ} (a : Mat .bf16 384 64) (b : Mat .bf16 n 64) : Mat .f32 384 n :=
  matmul (DotDims.transposedRhs 384 64 n) none a b (constant _ .f32 0x00000000#32)
/-- `a b`. -/
def mulNN {n : ℕ} (a : Mat .f32 384 n) (b : Mat .bf16 n 64) : Mat .f32 384 64 :=
  matmul (DotDims.plain 384 n 64) none (truncf .bf16 a Cert.AttnGradIdeal.Facts₀.bitsLt_bf16_f32) b (constant _ .f32 0x00000000#32)
/-- `aᵀ b`. -/
def mulTN {n : ℕ} (a : Mat .f32 384 n) (b : Mat .bf16 384 64) : Mat .f32 n 64 :=
  matmul (dimsTN 384 n 64) none (truncf .bf16 a Cert.AttnGradIdeal.Facts₀.bitsLt_bf16_f32) b (constant _ .f32 0x00000000#32)
/-- The sums of the rows, as a column. -/
def rowSum {n : ℕ} (a : Mat .f32 384 n) : Mat .f32 384 1 :=
  shapeCast ⟨2, ![384, 1]⟩ (multiReduction .add [1] ⟨1, ![384]⟩ a 0x00000000#32 (redRow n) (.inl rfl) rfl) scCol
/-- The maxima of the rows, as a column. -/
def rowMax {n : ℕ} (a : Mat .f32 384 n) : Mat .f32 384 1 :=
  shapeCast ⟨2, ![384, 1]⟩ (multiReduction .maximumf [1] ⟨1, ![384]⟩ a 0xFF800000#32 (redRow n) (.inl rfl) rfl) scCol
/-- The sums of the columns, as a row. -/
def colSum {n : ℕ} (a : Mat .f32 384 n) : Mat .f32 1 n :=
  shapeCast ⟨2, ![1, n]⟩ (multiReduction .add [0] ⟨1, ![n]⟩ a 0x00000000#32 (redCol n) (.inl rfl) rfl) (sc12 n)
/-- A column along every row. -/
def cols {n : ℕ} (a : Mat .f32 384 1) : Mat .f32 384 n := broadcastTo ⟨2, ![384, n]⟩ a (bcCol n)

/-- The products of the rows with `n` keys less the keys' shifts, taken from position `o` on. -/
def logits {n : ℕ} (o : ℕ) (ho : o + n ≤ 2304) (q : Mat .bf16 384 64) (k : Mat .bf16 n 64) (c : Mat .f32 1 2304) : Mat .f32 384 n :=
  subf (mulNT q k) (broadcastTo ⟨2, ![384, n]⟩ (extractStridedSlice ⟨2, ![1, n]⟩ ![0, o] c (slRow ho)) (bcRow n))
/-- The diagonal block's, the later keys masked. -/
def masked (a : Mat .f32 384 384) : Mat .f32 384 384 :=
  select (cmpi .sle (iota .tc ⟨2, ![384, 384]⟩ 32 [1] iota1) (iota .tc ⟨2, ![384, 384]⟩ 32 [0] iota0)) a
    (broadcast ⟨2, ![384, 384]⟩ (Named.named Cert.AttnGradIdeal.κ "mask" 0xF149F2CA#32))
/-- The exponentials less a column of shifts. -/
def expShift {n : ℕ} (a : Mat .f32 384 n) (mx : Mat .f32 384 1) : Mat .f32 384 n := exp (subf a (cols mx))
/-- The weights divided by their sums. -/
def normed {n : ℕ} (e : Mat .f32 384 n) (tot : Mat .f32 384 1) : Mat .f32 384 n :=
  mulf e (cols (divf (broadcast ⟨2, ![384, 1]⟩ (Scalar.ofBits .f32 0x3F800000#32)) tot))
/-- The gradient of the scores. -/
def scoreGrad {n : ℕ} (p dp : Mat .f32 384 n) (row : Mat .f32 384 1) : Mat .f32 384 n := mulf p (subf dp (cols row))

/-- What is added to the keys' gradient. -/
def addK {n : ℕ} (acc : Mat .f32 n 64) (ds : Mat .f32 384 n) (q : Mat .bf16 384 64) : Mat .f32 n 64 :=
  shapeCast ⟨2, ![n, 64]⟩ (addf acc (mulf (mulTN ds q) (broadcast ⟨2, ![n, 64]⟩ (Scalar.ofBits .f32 0x3F800000#32)))) (scSame _)
/-- What is added to the values' gradient. -/
def addV {n : ℕ} (acc : Mat .f32 n 64) (p : Mat .f32 384 n) (g : Mat .bf16 384 64) : Mat .f32 n 64 :=
  shapeCast ⟨2, ![n, 64]⟩ (addf acc (mulTN p g)) (scSame _)
/-- What is taken from the shifts' gradient. -/
def subC {n : ℕ} (acc : FVec Ideal ⟨3, ![1, 1, n]⟩ .f32) (ds : Mat .f32 384 n) : FVec Ideal ⟨3, ![1, 1, n]⟩ .f32 :=
  shapeCast ⟨3, ![1, 1, n]⟩ (subf (shapeCast ⟨2, ![1, n]⟩ acc (sc32 n)) (colSum ds)) (sc23 n)
/-- The queries' gradient, scaled. -/
def scaled (a : Mat .f32 384 64) : Mat .f32 384 64 :=
  shapeCast ⟨2, ![384, 64]⟩ (mulf a (broadcast ⟨2, ![384, 64]⟩ (Scalar.ofBits .f32 0x3E000000#32))) (scSame _)

section Later

variable {n : ℕ} (hn : n + 384 ≤ 2304) (q g : Mat .bf16 384 64) (kP vP : Mat .bf16 n 64) (kD vD : Mat .bf16 384 64) (c : Mat .f32 1 2304)

def sP : Mat .f32 384 n := logits 0 (by omega) q kP c
def sD : Mat .f32 384 384 := masked (logits n hn q kD c)
def mx : Mat .f32 384 1 := maximumf (rowMax (sP hn q kP c)) (rowMax (sD hn q kD c))
def eP : Mat .f32 384 n := expShift (sP hn q kP c) (mx hn q kP kD c)
def eD : Mat .f32 384 384 := expShift (sD hn q kD c) (mx hn q kP kD c)
def tot : Mat .f32 384 1 := addf (rowSum (eP hn q kP kD c)) (rowSum (eD hn q kP kD c))
/-- The probabilities of the earlier keys, -/
def pP : Mat .f32 384 n := normed (eP hn q kP kD c) (tot hn q kP kD c)
/-- and of the diagonal's. -/
def pD : Mat .f32 384 384 := normed (eD hn q kP kD c) (tot hn q kP kD c)
def row : Mat .f32 384 1 :=
  addf (rowSum (mulf (pP hn q kP kD c) (mulNT g vP))) (rowSum (mulf (pD hn q kP kD c) (mulNT g vD)))
/-- The gradient of the scores of the earlier keys, -/
def dsP : Mat .f32 384 n := scoreGrad (pP hn q kP kD c) (mulNT g vP) (row hn q g kP vP kD vD c)
/-- and of the diagonal's. -/
def dsD : Mat .f32 384 384 := scoreGrad (pD hn q kP kD c) (mulNT g vD) (row hn q g kP vP kD vD c)
/-- The queries' gradient. -/
def dQ : Mat .f32 384 64 :=
  scaled (addf (mulNN (dsP hn q g kP vP kD vD c) kP) (mulNN (dsD hn q g kP vP kD vD c) kD))

end Later

section First

variable (q g k v : Mat .bf16 384 64) (c : Mat .f32 1 2304)

def s₀ : Mat .f32 384 384 := masked (logits 0 (by omega) q k c)
def e₀ : Mat .f32 384 384 := expShift (s₀ q k c) (rowMax (s₀ q k c))
/-- The first block's probabilities. -/
def p₀ : Mat .f32 384 384 := normed (e₀ q k c) (rowSum (e₀ q k c))
/-- The first block's gradient of the scores. -/
def ds₀ : Mat .f32 384 384 := scoreGrad (p₀ q k c) (mulNT g v) (rowSum (mulf (p₀ q k c) (mulNT g v)))
/-- The first block's queries' gradient. -/
def dQ₀ : Mat .f32 384 64 := scaled (mulNN (ds₀ q g k v c) k)

end First

end Cert.Attn

end
-- ==== Proof.Consts.lean ====
/- The constants the programs spell, as the numbers they denote. -/
module

public import Idealize.ShloMosaic.PureOps.Ideal

@[expose] public section

noncomputable section

namespace Cert.Attn

open Idealize.ShloMosaic

theorem bits_zero : Ideal.ofBits .f32 0x00000000#32 = 0 := by simp [Ideal.ofBits, Ideal.ieee]
theorem bits_zero16 : Ideal.ofBits .bf16 0x0000#16 = 0 := by simp [Ideal.ofBits, Ideal.ieee]
theorem bits_one : Ideal.ofBits .f32 0x3F800000#32 = ((1 : ℝ) : EReal) := by
  simp [Ideal.ofBits, Ideal.ieee, -EReal.coe_mul]; norm_num
theorem bits_eighth : Ideal.ofBits .f32 0x3E000000#32 = ((1 / 8 : ℝ) : EReal) := by
  simp [Ideal.ofBits, Ideal.ieee, -EReal.coe_mul]; norm_num
theorem bits_negInf : Ideal.ofBits .f32 0xFF800000#32 = ⊥ := by simp [Ideal.ofBits, Ideal.ieee]

end Cert.Attn

end
-- ==== Proof.Reading.lean ====
/- The block's operations read at an index, at any width `n`. -/
module

public import proofs.«01_k».proof.Proof.Block
public import proofs.«01_k».proof.Proof.Consts
public import Idealize.ShloMosaic.Lib.Pointwise
public import Idealize.ShloMosaic.Lib.WordCmp
public import Idealize.ShloMosaic.Lib.Pointwise.IndexVar
public import Idealize.ShloMosaic.Lib.Pointwise.IndexBridge

@[expose] public section

set_option maxRecDepth 16384

noncomputable section

namespace Cert.Attn

open Idealize.ShloMosaic Idealize.ShloMosaic.TcCoe

theorem mulNT_apply {n : ℕ} (a : Mat .bf16 384 64) (b : Mat .bf16 n 64) (r : Fin 384) (s : Fin n) :
    mulNT a b (ix2 r s) = ∑ d : Fin 64, a (ix2 r d) * b (ix2 s d) := by
  unfold mulNT; pointwise

theorem mulNN_apply {n : ℕ} (a : Mat .f32 384 n) (b : Mat .bf16 n 64) (r : Fin 384) (d : Fin 64) :
    mulNN a b (ix2 r d) = ∑ s : Fin n, a (ix2 r s) * b (ix2 s d) := by
  unfold mulNN
  rw [ix2_eq_valueIdx, matmul, Ideal.matmul_plain_apply]
  simp only [← ix2_eq_valueIdx]
  pointwise

theorem mulTN_apply {n : ℕ} (a : Mat .f32 384 n) (b : Mat .bf16 384 64) (s : Fin n) (d : Fin 64) :
    mulTN a b (ix2 s d) = ∑ r : Fin 384, a (ix2 r s) * b (ix2 r d) := by
  unfold mulTN; pointwise

theorem rowSum_apply {n : ℕ} (a : Mat .f32 384 n) (r : Fin 384) :
    rowSum a (ix2 r 0) = ∑ s : Fin n, a (ix2 r s) := by
  unfold rowSum; pointwise

theorem rowMax_apply {n : ℕ} (a : Mat .f32 384 n) (r : Fin 384) :
    rowMax a (ix2 r 0) = Finset.univ.sup fun s : Fin n => a (ix2 r s) := by
  unfold rowMax; pointwise
  rw [bits_negInf]; rfl

theorem colSum_apply {n : ℕ} (a : Mat .f32 384 n) (s : Fin n) :
    colSum a (ix2 0 s) = ∑ r : Fin 384, a (ix2 r s) := by
  unfold colSum; pointwise
  refine Finset.sum_congr rfl fun x _ => congrArg a (congrArg (ix2 x) ?_)
  rw [Shape.reshapeEquiv_eq_of_rowMajor (y := ix1 s) _ (by
    rw [rowMajor_val1, rowMajor_val2 _ n rfl]; simp)]
  rfl

theorem cols_apply {n : ℕ} (a : Mat .f32 384 1) (r : Fin 384) (s : Fin n) :
    cols a (ix2 r s) = a (ix2 r 0) := by
  unfold cols; pointwise

theorem logits_apply {n : ℕ} (o : ℕ) (ho : o + n ≤ 2304) (q : Mat .bf16 384 64) (k : Mat .bf16 n 64) (c : Mat .f32 1 2304)
    (r : Fin 384) (s : Fin n) :
    logits o ho q k c (ix2 r s) = mulNT q k (ix2 r s) - c (ix2 0 ⟨o + s, by omega⟩) := by
  unfold logits; pointwise
  refine congrArg _ (congrArg c (congrArg (ix2 0) (Fin.ext ?_)))
  show o + _ = o + _
  by_cases h : n = 1
  · subst h; simp
  · simp [h]

theorem masked_apply (a : Mat .f32 384 384) (r s : Fin 384) :
    masked a (ix2 r s) = if s.val ≤ r.val then a (ix2 r s) else ⊥ := by
  unfold masked; pointwise
  rw [WordCmp.cmpi_sle_ofNat (by omega) (by omega),
    show Named.named (F := Ideal) Cert.AttnGradIdeal.κ "mask" (φ := .f32) 0xF149F2CA#32 = ⊥ from
      IdealRules.named_const.ideal_named_scalar _ _ _ _ rfl]
  by_cases h : s.val ≤ r.val <;> simp [h, Scalar.select]

end Cert.Attn

end
-- ==== Proof.Head.lean ====
/- One head's attention over the reals: the quantities of its gradient, and the block's operations as operations on real
   arrays. A program's array is a real array when `Is` holds; every operation of Block.lean keeps that. -/
module

public import proofs.«01_k».proof.Proof.Reading

@[expose] public section

set_option maxRecDepth 16384

noncomputable section

namespace Cert.Attn

open Idealize.ShloMosaic Idealize.ShloMosaic.TcCoe Finset

/-- A head's operands: queries (scaled), keys, the output's cotangent, values, and the keys' shifts. -/
structure Head where
  Q : ℕ → ℕ → ℝ
  K : ℕ → ℕ → ℝ
  G : ℕ → ℕ → ℝ
  V : ℕ → ℕ → ℝ
  C : ℕ → ℝ

namespace Head

variable (H : Head)

/-- The logit of query `t` and key `s`, but for a shift of the query's own. -/
def lg (t s : ℕ) : ℝ := (∑ d ∈ range 64, H.Q t d * H.K s d) - H.C s
/-- Its weight. -/
def wt (t s : ℕ) : ℝ := if s ≤ t then Real.exp (H.lg t s) else 0
/-- The weights' sum. -/
def tot (t : ℕ) : ℝ := ∑ s ∈ range 2304, H.wt t s
/-- The probability. -/
def pr (t s : ℕ) : ℝ := H.wt t s / H.tot t
/-- The probability's cotangent. -/
def dp (t s : ℕ) : ℝ := ∑ d ∈ range 64, H.G t d * H.V s d
/-- The row's mean of it. -/
def mean (t : ℕ) : ℝ := ∑ s ∈ range 2304, H.pr t s * H.dp t s
/-- The score's gradient. -/
def ds (t s : ℕ) : ℝ := H.pr t s * (H.dp t s - H.mean t)

theorem wt_of_lt {t s : ℕ} (h : t < s) : H.wt t s = 0 := if_neg (by omega)
theorem pr_of_lt {t s : ℕ} (h : t < s) : H.pr t s = 0 := by simp [pr, H.wt_of_lt h]
theorem ds_of_lt {t s : ℕ} (h : t < s) : H.ds t s = 0 := by simp [ds, H.pr_of_lt h]

theorem wt_nonneg (t s : ℕ) : 0 ≤ H.wt t s := by
  unfold wt; split <;> positivity

theorem tot_pos {t : ℕ} (ht : t < 2304) : 0 < H.tot t :=
  sum_pos' (fun s _ => H.wt_nonneg t s) ⟨t, mem_range.2 ht, by simp [wt, Real.exp_pos]⟩

end Head

/-- A sum over a row that vanishes past a block is the block's two parts. -/
theorem sum_split {n : ℕ} (hn : n + 384 ≤ 2304) (f : ℕ → ℝ) (h : ∀ s, n + 384 ≤ s → f s = 0) :
    (∑ s ∈ range n, f s) + ∑ s ∈ range 384, f (n + s) = ∑ s ∈ range 2304, f s := by
  rw [← sum_range_add]
  exact sum_subset (range_subset_range.2 hn) fun s _ hs => h s (by simpa using hs)

/-- The array holds the reals `f`. -/
def Is {φ : FTy} {m n : ℕ} (a : Mat φ m n) (f : ℕ → ℕ → ℝ) : Prop :=
  ∀ (r : Fin m) (s : Fin n), a (ix2 r s) = ((f r s : ℝ) : EReal)

theorem coe_sum_fin {n : ℕ} (f : ℕ → ℝ) : ∑ s : Fin n, ((f s : ℝ) : EReal) = ((∑ s ∈ range n, f s : ℝ) : EReal) := by
  rw [sum_range]; exact (map_sum (⟨⟨fun x : ℝ => (x : EReal), rfl⟩, EReal.coe_add⟩ : ℝ →+ EReal) _ _).symm

section Ops

variable {n : ℕ} {f g : ℕ → ℕ → ℝ}

theorem mulNT_is {a : Mat .bf16 384 64} {b : Mat .bf16 n 64} (ha : Is a f) (hb : Is b g) :
    Is (mulNT a b) fun r s => ∑ d ∈ range 64, f r d * g s d := by
  intro r s
  simp only [mulNT_apply, ha r _, hb s _, ← EReal.coe_mul, coe_sum_fin fun d => f r d * g s d]

theorem mulNN_is {a : Mat .f32 384 n} {b : Mat .bf16 n 64} (ha : Is a f) (hb : Is b g) :
    Is (mulNN a b) fun r d => ∑ s ∈ range n, f r s * g s d := by
  intro r d
  simp only [mulNN_apply, ha r _, hb _ d, ← EReal.coe_mul, coe_sum_fin fun s => f r s * g s d]

theorem mulTN_is {a : Mat .f32 384 n} {b : Mat .bf16 384 64} (ha : Is a f) (hb : Is b g) :
    Is (mulTN a b) fun s d => ∑ r ∈ range 384, f r s * g r d := by
  intro s d
  simp only [mulTN_apply, ha _ s, hb _ d, ← EReal.coe_mul, coe_sum_fin fun r => f r s * g r d]

theorem rowSum_is {a : Mat .f32 384 n} (ha : Is a f) : Is (rowSum a) fun r _ => ∑ s ∈ range n, f r s := by
  intro r s
  obtain rfl : s = 0 := Subsingleton.elim _ _
  simp only [rowSum_apply, ha r _, coe_sum_fin fun s => f r s]

theorem colSum_is {a : Mat .f32 384 n} (ha : Is a f) : Is (colSum a) fun _ s => ∑ r ∈ range 384, f r s := by
  intro z s
  obtain rfl : z = 0 := Subsingleton.elim _ _
  simp only [colSum_apply, ha _ s, coe_sum_fin fun r => f r s]

theorem logits_is {o : ℕ} (ho : o + n ≤ 2304) {q : Mat .bf16 384 64} {k : Mat .bf16 n 64} {c : Mat .f32 1 2304} {C : ℕ → ℝ}
    (hq : Is q f) (hk : Is k g) (hc : Is c fun _ s => C s) :
    Is (logits o ho q k c) fun r s => (∑ d ∈ range 64, f r d * g s d) - C (o + s) := by
  intro r s
  rw [logits_apply, mulNT_is hq hk r s, hc 0 _, ← EReal.coe_sub]

theorem addf_is {φ : FTy} {m : ℕ} {a b : Mat φ m n} (ha : Is a f) (hb : Is b g) : Is (addf a b) fun r s => f r s + g r s := by
  intro r s
  rw [show addf a b (ix2 r s) = a (ix2 r s) + b (ix2 r s) from rfl, ha, hb, ← EReal.coe_add]

theorem mulf_is {φ : FTy} {m : ℕ} {a b : Mat φ m n} (ha : Is a f) (hb : Is b g) : Is (mulf a b) fun r s => f r s * g r s := by
  intro r s
  rw [show mulf a b (ix2 r s) = a (ix2 r s) * b (ix2 r s) from rfl, ha, hb, ← EReal.coe_mul]

theorem expShift_is {a : Mat .f32 384 n} {mx : Mat .f32 384 1} {M : ℕ → ℝ} (ha : Is a f) (hm : Is mx fun r _ => M r) :
    Is (expShift a mx) fun r s => Real.exp (f r s - M r) := by
  intro r s
  rw [show expShift a mx (ix2 r s) = Ideal.exp (a (ix2 r s) - cols mx (ix2 r s)) from rfl, cols_apply, ha, hm, ← EReal.coe_sub,
    Ideal.exp_coe]

theorem expShift_masked_is {a : Mat .f32 384 384} {mx : Mat .f32 384 1} {M : ℕ → ℝ} (ha : Is a f) (hm : Is mx fun r _ => M r) :
    Is (expShift (masked a) mx) fun r s => if s ≤ r then Real.exp (f r s - M r) else 0 := by
  intro r s
  rw [show expShift (masked a) mx (ix2 r s) = Ideal.exp (masked a (ix2 r s) - cols mx (ix2 r s)) from rfl, cols_apply,
    masked_apply, hm]
  by_cases h : s.val ≤ r.val
  · rw [if_pos h, ha, ← EReal.coe_sub, Ideal.exp_coe]
    simp only [h, if_true]
  · rw [if_neg h, EReal.bot_sub, Ideal.exp_bot]
    simp only [h, if_false, EReal.coe_zero]

theorem normed_is {e : Mat .f32 384 n} {tot : Mat .f32 384 1} {T : ℕ → ℝ} (he : Is e f) (ht : Is tot fun r _ => T r)
    (hT : ∀ r : Fin 384, 0 < T r) : Is (normed e tot) fun r s => f r s / T r := by
  intro r s
  rw [show normed e tot (ix2 r s) = e (ix2 r s) *
      cols (divf (broadcast ⟨2, ![384, 1]⟩ (Scalar.ofBits .f32 0x3F800000#32)) tot) (ix2 r s) from rfl, cols_apply,
    show divf (broadcast ⟨2, ![384, 1]⟩ (Scalar.ofBits .f32 0x3F800000#32)) tot (ix2 r 0)
      = Ideal.div (Ideal.ofBits .f32 0x3F800000#32) (tot (ix2 r 0)) from rfl, he, ht, bits_one,
    Ideal.div_coe (hT r).ne', ← EReal.coe_mul, ← EReal.coe_mul, one_div, one_mul]
  rfl

theorem scoreGrad_is {p dp : Mat .f32 384 n} {row : Mat .f32 384 1} {R : ℕ → ℝ} (hp : Is p f) (hd : Is dp g)
    (hr : Is row fun r _ => R r) : Is (scoreGrad p dp row) fun r s => f r s * (g r s - R r) := by
  intro r s
  rw [show scoreGrad p dp row (ix2 r s) = p (ix2 r s) * (dp (ix2 r s) - cols row (ix2 r s)) from rfl, cols_apply, hp, hd, hr,
    ← EReal.coe_sub, ← EReal.coe_mul]

theorem addK_is {acc : Mat .f32 n 64} {ds : Mat .f32 384 n} {q : Mat .bf16 384 64} {A : ℕ → ℕ → ℝ} (hA : Is acc A)
    (hd : Is ds f) (hq : Is q g) : Is (addK acc ds q) fun s d => A s d + ∑ r ∈ range 384, f r s * g r d := by
  intro s d
  rw [addK, shapeCast_self, show ∀ u v : Mat .f32 n 64, addf u v (ix2 s d) = u (ix2 s d) + v (ix2 s d) from fun _ _ => rfl,
    show ∀ u v : Mat .f32 n 64, mulf u v (ix2 s d) = u (ix2 s d) * v (ix2 s d) from fun _ _ => rfl, mulTN_is hd hq, hA,
    show broadcast ⟨2, ![n, 64]⟩ (Scalar.ofBits .f32 0x3F800000#32) (ix2 s d) = Ideal.ofBits .f32 0x3F800000#32 from rfl,
    bits_one, ← EReal.coe_mul, mul_one, ← EReal.coe_add]

theorem addV_is {acc : Mat .f32 n 64} {p : Mat .f32 384 n} {q : Mat .bf16 384 64} {A : ℕ → ℕ → ℝ} (hA : Is acc A)
    (hd : Is p f) (hq : Is q g) : Is (addV acc p q) fun s d => A s d + ∑ r ∈ range 384, f r s * g r d := by
  intro s d
  rw [addV, shapeCast_self]
  exact addf_is hA (mulTN_is hd hq) s d

theorem scaled_is {a : Mat .f32 384 64} (ha : Is a f) : Is (scaled a) fun r d => f r d * (1 / 8) := by
  intro r d
  rw [scaled, shapeCast_self, show ∀ u v : Mat .f32 384 64, mulf u v (ix2 r d) = u (ix2 r d) * v (ix2 r d) from fun _ _ => rfl, ha,
    show broadcast ⟨2, ![384, 64]⟩ (Scalar.ofBits .f32 0x3E000000#32) (ix2 r d) = Ideal.ofBits .f32 0x3E000000#32 from rfl,
    bits_eighth, ← EReal.coe_mul]

end Ops

end Cert.Attn

end
-- ==== Proof.Grad.lean ====
/- A block's results over the reals: from blocks that hold a head's operands come the head's probabilities, score gradients
   and query gradients. -/
module

public import proofs.«01_k».proof.Proof.Head

@[expose] public section

set_option maxRecDepth 16384

noncomputable section

namespace Cert.Attn

open Idealize.ShloMosaic Idealize.ShloMosaic.TcCoe Finset

/-- A column whose every entry is some real. -/
theorem exists_col {a : Mat .f32 384 1} (h : ∀ r : Fin 384, a (ix2 r 0) ≠ ⊥ ∧ a (ix2 r 0) ≠ ⊤) :
    ∃ M : ℕ → ℝ, Is a fun r _ => M r := by
  refine ⟨fun r => if hr : r < 384 then (a (ix2 ⟨r, hr⟩ 0)).toReal else 0, fun r s => ?_⟩
  obtain rfl : s = 0 := Subsingleton.elim _ _
  simp only [r.2, dif_pos]
  exact (EReal.coe_toReal (h r).2 (h r).1).symm

theorem rowMax_ne_top {n : ℕ} {a : Mat .f32 384 n} (r : Fin 384) (h : ∀ s, a (ix2 r s) ≠ ⊤) : rowMax a (ix2 r 0) ≠ ⊤ := by
  rw [rowMax_apply]
  exact ((Finset.sup_lt_iff bot_lt_top).2 fun s _ => lt_top_iff_ne_top.2 (h s)).ne

theorem rowMax_masked {a : Mat .f32 384 384} {f : ℕ → ℕ → ℝ} (ha : Is a f) (r : Fin 384) :
    rowMax (masked a) (ix2 r 0) ≠ ⊥ ∧ rowMax (masked a) (ix2 r 0) ≠ ⊤ := by
  constructor
  · rw [rowMax_apply]
    refine (lt_of_lt_of_le (b := ((f r r : ℝ) : EReal)) (EReal.bot_lt_coe _) ?_).ne'
    refine le_trans (le_of_eq ?_) (Finset.le_sup (f := fun s => masked a (ix2 r s)) (mem_univ r))
    rw [masked_apply, if_pos le_rfl, ha]
  · refine rowMax_ne_top r fun s => ?_
    rw [masked_apply]
    split
    · rw [ha]; exact EReal.coe_ne_top _
    · exact bot_ne_top

theorem is_congr {φ : FTy} {m n : ℕ} {a : Mat φ m n} {f g : ℕ → ℕ → ℝ} (ha : Is a f)
    (h : ∀ (r : Fin m) (s : Fin n), f r s = g r s) : Is a g := fun r s => by rw [ha, h]

/-- The quotient of a weight and the weights' sum is the same at any shift of the logits. -/
theorem shifted_div (L M T : ℝ) (b : Prop) [Decidable b] :
    (if b then Real.exp (L - M) else 0) / (Real.exp (-M) * T) = (if b then Real.exp L else 0) / T := by
  split
  · rw [sub_eq_neg_add, Real.exp_add, mul_div_mul_left _ _ (Real.exp_ne_zero _)]
  · simp

section Later

variable (H : Head) {n : ℕ} (hn : n + 384 ≤ 2304) {q g : Mat .bf16 384 64} {kP vP : Mat .bf16 n 64} {kD vD : Mat .bf16 384 64}
  {c : Mat .f32 1 2304}

include hn in
theorem probs (hq : Is q fun r d => H.Q (n + r) d) (hkP : Is kP fun s d => H.K s d) (hkD : Is kD fun s d => H.K (n + s) d)
    (hc : Is c fun _ s => H.C s) :
    Is (pP hn q kP kD c) (fun r s => H.pr (n + r) s) ∧ Is (pD hn q kP kD c) fun r s => H.pr (n + r) (n + s) := by
  have hP : Is (sP hn q kP c) fun r s => H.lg (n + r) s :=
    is_congr (logits_is (o := 0) (by omega : 0 + n ≤ 2304) hq hkP hc) fun r s => by rw [Nat.zero_add, Head.lg]
  have hD : Is (logits n hn q kD c) fun r s => H.lg (n + r) (n + s) := logits_is hn hq hkD hc
  obtain ⟨M, hM⟩ : ∃ M : ℕ → ℝ, Is (mx hn q kP kD c) fun r _ => M r := by
    refine exists_col fun r => ?_
    rw [show mx hn q kP kD c (ix2 r 0) = max (rowMax (sP hn q kP c) (ix2 r 0)) (rowMax (sD hn q kD c) (ix2 r 0)) from rfl]
    have h1 : rowMax (sP hn q kP c) (ix2 r 0) ≠ ⊤ := rowMax_ne_top r fun s => by rw [hP r s]; exact EReal.coe_ne_top _
    obtain ⟨h2, h3⟩ := rowMax_masked hD r
    exact ⟨(lt_of_lt_of_le (bot_lt_iff_ne_bot.2 h2) (le_max_right _ _)).ne',
      (max_lt (lt_top_iff_ne_top.2 h1) (lt_top_iff_ne_top.2 h3)).ne⟩
  have eP' := expShift_is hP hM
  have eD' := expShift_masked_is hD hM
  have hT : Is (tot hn q kP kD c) fun r _ => Real.exp (-M r) * H.tot (n + r) := by
    refine is_congr (addf_is (rowSum_is eP') (rowSum_is eD')) fun r _ => ?_
    rw [Head.tot, ← sum_split hn _ (fun s hs => H.wt_of_lt (by have := r.2; omega)), mul_add, mul_sum, mul_sum]
    refine congrArg₂ _ (sum_congr rfl fun s hs => ?_) (sum_congr rfl fun s hs => ?_)
    · rw [Head.wt, if_pos (by have := mem_range.1 hs; omega), sub_eq_neg_add, Real.exp_add]
    · rw [Head.wt, mul_ite, mul_zero, ← Real.exp_add, ← sub_eq_neg_add]
      simp only [Nat.add_le_add_iff_left]
  have hpos : ∀ r : Fin 384, 0 < Real.exp (-M r) * H.tot (n + r) := fun r =>
    mul_pos (Real.exp_pos _) (H.tot_pos (by have := r.2; omega))
  refine ⟨is_congr (normed_is eP' hT hpos) fun r s => ?_, is_congr (normed_is eD' hT hpos) fun r s => ?_⟩
  · have := shifted_div (H.lg (n + r) s) (M r) (H.tot (n + r)) (s.val ≤ n + r.val)
    rw [if_pos (by have := s.2; omega), if_pos (by have := s.2; omega)] at this
    rw [this, Head.pr, Head.wt, if_pos (by have := s.2; omega)]
  · rw [shifted_div, Head.pr, Head.wt]
    simp only [Nat.add_le_add_iff_left]

include hn in
theorem grads (hq : Is q fun r d => H.Q (n + r) d) (hg : Is g fun r d => H.G (n + r) d) (hkP : Is kP fun s d => H.K s d)
    (hvP : Is vP fun s d => H.V s d) (hkD : Is kD fun s d => H.K (n + s) d) (hvD : Is vD fun s d => H.V (n + s) d)
    (hc : Is c fun _ s => H.C s) :
    Is (dsP hn q g kP vP kD vD c) (fun r s => H.ds (n + r) s) ∧
      Is (dsD hn q g kP vP kD vD c) fun r s => H.ds (n + r) (n + s) := by
  obtain ⟨h1, h2⟩ := probs H hn hq hkP hkD hc
  have d1 : Is (mulNT g vP) fun r s => H.dp (n + r) s := mulNT_is hg hvP
  have d2 : Is (mulNT g vD) fun r s => H.dp (n + r) (n + s) := mulNT_is hg hvD
  have hr : Is (row hn q g kP vP kD vD c) fun r _ => H.mean (n + r) := by
    refine is_congr (addf_is (rowSum_is (mulf_is h1 d1)) (rowSum_is (mulf_is h2 d2))) fun r _ => ?_
    rw [Head.mean, ← sum_split hn _ (fun s hs => by rw [H.pr_of_lt (by have := r.2; omega), zero_mul])]
  exact ⟨scoreGrad_is h1 d1 hr, scoreGrad_is h2 d2 hr⟩

include hn in
theorem dQ_is (hq : Is q fun r d => H.Q (n + r) d) (hg : Is g fun r d => H.G (n + r) d) (hkP : Is kP fun s d => H.K s d)
    (hvP : Is vP fun s d => H.V s d) (hkD : Is kD fun s d => H.K (n + s) d) (hvD : Is vD fun s d => H.V (n + s) d)
    (hc : Is c fun _ s => H.C s) :
    Is (dQ hn q g kP vP kD vD c) fun r d => (∑ s ∈ range 2304, H.ds (n + r) s * H.K s d) * (1 / 8) := by
  obtain ⟨h1, h2⟩ := grads H hn hq hg hkP hvP hkD hvD hc
  refine is_congr (scaled_is (addf_is (mulNN_is h1 hkP) (mulNN_is h2 hkD))) fun r d => ?_
  rw [← sum_split hn (fun s => H.ds (n + r) s * H.K s d)
    (fun s hs => by rw [H.ds_of_lt (by have := r.2; omega), zero_mul])]

end Later

section First

variable (H : Head) {q g k v : Mat .bf16 384 64} {c : Mat .f32 1 2304}

theorem probs₀ (hq : Is q fun r d => H.Q (0 + r) d) (hk : Is k fun s d => H.K (0 + s) d) (hc : Is c fun _ s => H.C s) :
    Is (p₀ q k c) fun r s => H.pr (0 + r) (0 + s) := by
  have hD : Is (logits 0 (by omega) q k c) fun r s => H.lg (0 + r) (0 + s) := logits_is _ hq hk hc
  obtain ⟨M, hM⟩ := exists_col (rowMax_masked hD)
  have eD' := expShift_masked_is hD hM
  have hT : Is (rowSum (e₀ q k c)) fun r _ => Real.exp (-M r) * H.tot (0 + r) := by
    refine is_congr (rowSum_is eD') fun r _ => ?_
    rw [Head.tot, ← sum_split (n := 0) (by omega) _ (fun s hs => H.wt_of_lt (by have := r.2; omega))]
    simp only [sum_range_zero, zero_add]
    rw [mul_sum]
    refine sum_congr rfl fun s hs => ?_
    rw [Head.wt, mul_ite, mul_zero, ← Real.exp_add, ← sub_eq_neg_add]
  have hpos : ∀ r : Fin 384, 0 < Real.exp (-M r) * H.tot (0 + r) := fun r =>
    mul_pos (Real.exp_pos _) (H.tot_pos (by have := r.2; omega))
  refine is_congr (normed_is eD' hT hpos) fun r s => ?_
  rw [shifted_div, Head.pr, Head.wt]
  simp only [Nat.add_le_add_iff_left]

theorem grads₀ (hq : Is q fun r d => H.Q (0 + r) d) (hg : Is g fun r d => H.G (0 + r) d) (hk : Is k fun s d => H.K (0 + s) d)
    (hv : Is v fun s d => H.V (0 + s) d) (hc : Is c fun _ s => H.C s) :
    Is (ds₀ q g k v c) fun r s => H.ds (0 + r) (0 + s) := by
  have h2 := probs₀ H hq hk hc
  have d2 : Is (mulNT g v) fun r s => H.dp (0 + r) (0 + s) := mulNT_is hg hv
  have hr : Is (rowSum (mulf (p₀ q k c) (mulNT g v))) fun r _ => H.mean (0 + r) := by
    refine is_congr (rowSum_is (mulf_is h2 d2)) fun r _ => ?_
    rw [Head.mean, ← sum_split (n := 0) (by omega) _ (fun s hs => by rw [H.pr_of_lt (by have := r.2; omega), zero_mul])]
    simp only [sum_range_zero, zero_add]
  exact scoreGrad_is h2 d2 hr

theorem dQ₀_is (hq : Is q fun r d => H.Q (0 + r) d) (hg : Is g fun r d => H.G (0 + r) d) (hk : Is k fun s d => H.K (0 + s) d)
    (hv : Is v fun s d => H.V (0 + s) d) (hc : Is c fun _ s => H.C s) :
    Is (dQ₀ q g k v c) fun r d => (∑ s ∈ range 2304, H.ds (0 + r) s * H.K s d) * (1 / 8) := by
  refine is_congr (scaled_is (mulNN_is (grads₀ H hq hg hk hv hc) hk)) fun r d => ?_
  rw [← sum_split (n := 0) (by omega) (fun s => H.ds (0 + r) s * H.K s d)
    (fun s hs => by rw [H.ds_of_lt (by have := r.2; omega), zero_mul])]
  simp only [sum_range_zero, zero_add]

end First

end Cert.Attn

end
-- ==== Proof.Pieces.lean ====
/- What a list of writes leaves, entry by entry, and what a load of a box of it reads. -/
module

public import proofs.«01_k».proof.Proof.Grad
public import Idealize.ShloMosaic.Lib.Pipeline.FrameBody

@[expose] public section

set_option maxRecDepth 16384

noncomputable section

namespace Cert.Attn

open Idealize.ShloMosaic Idealize.ShloMosaic.TcCoe Finset

/-- A box inside an array of two axes, -/
abbrev In2 (R W o l h k : ℕ) : Prop := ∀ a, (![o, l] : Fin 2 → ℕ) a + (![h, k] : Fin 2 → ℕ) a ≤ (⟨2, ![R, W]⟩ : Shape).size a
/-- and a stretch of one row of an array of rows. -/
abbrev In3 (R W j o h : ℕ) : Prop :=
  ∀ a, (![j, 0, o] : Fin 3 → ℕ) a + (![1, 1, h] : Fin 3 → ℕ) a ≤ (⟨3, ![R, 1, W]⟩ : Shape).size a
abbrev box2 {R W o l h k : ℕ} (inb : In2 R W o l h k) : Rect ⟨2, ![R, W]⟩ := Rect.unit (s := ⟨2, ![R, W]⟩) ![o, l] ![h, k] inb
abbrev box3 {R W j o h : ℕ} (inb : In3 R W j o h) : Rect ⟨3, ![R, 1, W]⟩ := Rect.unit (s := ⟨3, ![R, 1, W]⟩) ![j, 0, o] ![1, 1, h] inb

section Entry

variable {sig : RefSig} {κ : Kind} {sp : Space} {e : EltTy} {Val : EltTy → Type} [∀ e, Nonempty (Val e)]

theorem canon_cons2 {R W o l h k : ℕ} (inb : In2 R W o l h k)
    (w : (⟨2, ![h, k]⟩ : Shape).Idx → Val e) (L : List (View.Piece Val ⟨2, ![R, W]⟩ e)) (r : Fin R) (x : Fin W) :
    View.canon ((⟨box2 inb, w⟩ : View.Piece Val ⟨2, ![R, W]⟩ e) :: L) (ix2 r x)
      = if hm : (o ≤ r.val ∧ r.val < o + h) ∧ l ≤ x.val ∧ x.val < l + k then
          w (ix2 ⟨r.val - o, by omega⟩ ⟨x.val - l, by omega⟩) else View.canon L (ix2 r x) := by
  split
  · rename_i hm
    have he : (box2 inb).emb
        (ix2 (n0 := h) (n1 := k) ⟨r.val - o, by omega⟩ ⟨x.val - l, by omega⟩) = ix2 r x := by
      funext a
      refine Fin.ext ?_
      fin_cases a
      · show o + 1 * (r.val - o) = r.val; omega
      · show l + 1 * (x.val - l) = x.val; omega
    rw [← he]
    exact View.canon_cons_emb (box2 inb) w L _
  · rename_i hm
    refine View.canon_cons_of_not_mem _ L fun hy => hm ?_
    have := (Rect.mem_set_unit (inb := inb)).1 hy
    exact ⟨this 0, this 1⟩

theorem canon_cons3 {R W j o h : ℕ} (inb : In3 R W j o h)
    (w : (⟨3, ![1, 1, h]⟩ : Shape).Idx → Val e) (L : List (View.Piece Val ⟨3, ![R, 1, W]⟩ e)) (i : Fin R) (x : Fin W) :
    View.canon ((⟨box3 inb, w⟩ : View.Piece Val ⟨3, ![R, 1, W]⟩ e) :: L) (ix3 i 0 x)
      = if hm : i.val = j ∧ o ≤ x.val ∧ x.val < o + h then
          w (ix3 0 0 ⟨x.val - o, by omega⟩) else View.canon L (ix3 i 0 x) := by
  split
  · rename_i hm
    have he : (box3 inb).emb
        (ix3 (n0 := 1) (n1 := 1) (n2 := h) 0 0 ⟨x.val - o, by omega⟩) = ix3 i 0 x := by
      funext a
      refine Fin.ext ?_
      fin_cases a
      · show j + 1 * 0 = i.val; omega
      · rfl
      · show o + 1 * (x.val - o) = x.val; omega
    rw [← he]
    exact View.canon_cons_emb (box3 inb) w L _
  · rename_i hm
    refine View.canon_cons_of_not_mem _ L fun hy => hm ?_
    have := (Rect.mem_set_unit (inb := inb)).1 hy
    have h0 : j ≤ i.val ∧ i.val < j + 1 := this 0
    exact ⟨by omega, this 2⟩

/-- A load of a box, -/
abbrev load2 {R W o l h k : ℕ} (v : View sig κ sp ⟨2, ![R, W]⟩ e) (L : List (View.Piece Val ⟨2, ![R, W]⟩ e))
    (inb : In2 R W o l h k) : (⟨2, ![h, k]⟩ : Shape).Idx → Val e := v.readCov L (box2 inb).toLoadRect
/-- and of a stretch of a row. -/
abbrev load3 {R W j o h : ℕ} (v : View sig κ sp ⟨3, ![R, 1, W]⟩ e) (L : List (View.Piece Val ⟨3, ![R, 1, W]⟩ e))
    (inb : In3 R W j o h) : (⟨3, ![1, 1, h]⟩ : Shape).Idx → Val e := v.readCov L (box3 inb).toLoadRect

theorem readCov2 {R W o l h k : ℕ} (v : View sig κ sp ⟨2, ![R, W]⟩ e)
    (inb : In2 R W o l h k)
    (L : List (View.Piece Val ⟨2, ![R, W]⟩ e)) (r : Fin h) (x : Fin k) :
    load2 v L inb (ix2 r x)
      = View.canon L (ix2 ⟨o + r, lt_of_lt_of_le (Nat.add_lt_add_left r.2 o) (inb 0 : o + h ≤ R)⟩
          ⟨l + x, lt_of_lt_of_le (Nat.add_lt_add_left x.2 l) (inb 1 : l + k ≤ W)⟩) := by
  refine (congrFun (View.readCov_eq_canon' v L (box2 inb).toLoadRect) (ix2 r x)).trans ?_
  refine congrArg (View.canon L) (funext fun a => Fin.ext ?_)
  fin_cases a
  · show o + 1 * r.val = o + r.val; omega
  · show l + 1 * x.val = l + x.val; omega

theorem readCov3 {R W j o h : ℕ} (v : View sig κ sp ⟨3, ![R, 1, W]⟩ e)
    (inb : In3 R W j o h)
    (L : List (View.Piece Val ⟨3, ![R, 1, W]⟩ e)) (x : Fin h) :
    load3 v L inb (ix3 0 0 x)
      = View.canon L (ix3 ⟨j, (inb 0 : j + 1 ≤ R)⟩ 0 ⟨o + x, lt_of_lt_of_le (Nat.add_lt_add_left x.2 o) (inb 2 : o + h ≤ W)⟩) := by
  refine (congrFun (View.readCov_eq_canon' v L (box3 inb).toLoadRect) (ix3 0 0 x)).trans ?_
  refine congrArg (View.canon L) (funext fun a => Fin.ext ?_)
  fin_cases a
  · show j + 1 * 0 = j; omega
  · rfl
  · show o + 1 * x.val = o + x.val; omega

end Entry

section Real

variable {sig : RefSig} {κ : Kind} {sp : Space} {f g : ℕ → ℕ → ℝ}

/-- A load of a box reads the reals at the box. -/
theorem read_is {R W o l h k : ℕ} (v : View sig κ sp ⟨2, ![R, W]⟩ .f32)
    (inb : In2 R W o l h k)
    {L : List (View.Piece (Elt Ideal) ⟨2, ![R, W]⟩ .f32)} (hL : Is (φ := .f32) (View.canon L) f) :
    Is (φ := .f32) (m := h) (n := k) (load2 v L inb) fun r x => f (o + r) (l + x) :=
  fun r x => (readCov2 v inb L r x).trans (hL _ _)

theorem read_is16 {R W o l h k : ℕ} (v : View sig κ sp ⟨2, ![R, W]⟩ .bf16)
    (inb : In2 R W o l h k)
    {L : List (View.Piece (Elt Ideal) ⟨2, ![R, W]⟩ .bf16)} (hL : Is (φ := .bf16) (View.canon L) f) :
    Is (φ := .bf16) (m := h) (n := k) (load2 v L inb) fun r x => f (o + r) (l + x) :=
  fun r x => (readCov2 v inb L r x).trans (hL _ _)

/-- A write of a box of reals. -/
theorem cons_is {R W o l h k : ℕ}
    (inb : In2 R W o l h k)
    {w : Mat .f32 h k} {L : List (View.Piece (Elt Ideal) ⟨2, ![R, W]⟩ .f32)} (hL : Is (φ := .f32) (View.canon L) f) (hw : Is w g) :
    Is (φ := .f32) (View.canon ((⟨box2 inb, w⟩ : View.Piece (Elt Ideal) ⟨2, ![R, W]⟩ .f32) :: L))
      fun r x => if (o ≤ r ∧ r < o + h) ∧ l ≤ x ∧ x < l + k then g (r - o) (x - l) else f r x := by
  intro r x
  rw [canon_cons2]
  by_cases hm : (o ≤ r.val ∧ r.val < o + h) ∧ l ≤ x.val ∧ x.val < l + k
  · rw [dif_pos hm, hw]; simp only [hm, and_self, if_true]
  · rw [dif_neg hm, hL]; simp only [hm, if_false]

/-- The rows of a two-row array hold the reals. -/
def Is3 {m n : ℕ} (a : FVec Ideal ⟨3, ![m, 1, n]⟩ .f32) (f : ℕ → ℕ → ℝ) : Prop :=
  ∀ (i : Fin m) (s : Fin n), a (ix3 i 0 s) = ((f i s : ℝ) : EReal)

theorem read_is3 {R W j o h : ℕ} (v : View sig κ sp ⟨3, ![R, 1, W]⟩ .f32)
    (inb : In3 R W j o h)
    {L : List (View.Piece (Elt Ideal) ⟨3, ![R, 1, W]⟩ .f32)} (hL : Is3 (View.canon L) f) :
    Is3 (m := 1) (n := h) (load3 v L inb) fun _ x => f j (o + x) := by
  intro i x
  obtain rfl : i = 0 := Subsingleton.elim _ _
  exact (readCov3 v inb L x).trans (hL _ _)

theorem cons_is3 {R W j o h : ℕ}
    (inb : In3 R W j o h)
    {w : FVec Ideal ⟨3, ![1, 1, h]⟩ .f32} {L : List (View.Piece (Elt Ideal) ⟨3, ![R, 1, W]⟩ .f32)} (hL : Is3 (View.canon L) f)
    (hw : Is3 w g) :
    Is3 (View.canon ((⟨box3 inb, w⟩ : View.Piece (Elt Ideal) ⟨3, ![R, 1, W]⟩ .f32) :: L))
      fun i x => if i = j ∧ o ≤ x ∧ x < o + h then g 0 (x - o) else f i x := by
  intro i x
  rw [canon_cons3]
  by_cases hm : i.val = j ∧ o ≤ x.val ∧ x.val < o + h
  · rw [dif_pos hm, hw]; simp only [hm, and_self, if_true]; rfl
  · rw [dif_neg hm, hL]; simp only [hm, if_false]

theorem subC_is {n : ℕ} {acc : FVec Ideal ⟨3, ![1, 1, n]⟩ .f32} {ds : Mat .f32 384 n} {A : ℕ → ℕ → ℝ} (hA : Is3 acc A)
    (hd : Is ds f) : Is3 (subC acc ds) fun _ s => A 0 s - ∑ r ∈ range 384, f r s := by
  intro i s
  obtain rfl : i = 0 := Subsingleton.elim _ _
  have e : ∀ (h : Shape.ShapeCasts ⟨2, ![1, n]⟩ ⟨3, ![1, 1, n]⟩) (u : Mat .f32 1 n),
      shapeCast ⟨3, ![1, 1, n]⟩ u h (ix3 0 0 s) = u (ix2 0 s) := fun h u =>
    congrArg u (Shape.reshapeEquiv_eq_of_rowMajor _ (by
      rw [rowMajor_val2 _ n rfl, rowMajor_val3 _ n n (by simp) rfl]; simp))
  have e' : shapeCast ⟨2, ![1, n]⟩ acc (sc32 n) (ix2 0 s) = acc (ix3 0 0 s) :=
    congrArg acc (Shape.reshapeEquiv_eq_of_rowMajor _ (by
      rw [rowMajor_val2 _ n rfl, rowMajor_val3 _ n n (by simp) rfl]; simp))
  rw [subC, e, show ∀ u v : Mat .f32 1 n, subf u v (ix2 0 s) = u (ix2 0 s) - v (ix2 0 s) from fun _ _ => rfl, e', hA,
    colSum_is hd, ← EReal.coe_sub]
  rfl

end Real

end Cert.Attn

end
-- ==== Proof.Step.lean ====
/- What one block of rows adds to the arrays the body sums in: from sums over the rows before the block to sums over the
   rows to its end. -/
module

public import proofs.«01_k».proof.Proof.Pieces

@[expose] public section

set_option maxRecDepth 16384

noncomputable section

namespace Cert.Attn

open Idealize.ShloMosaic Idealize.ShloMosaic.TcCoe Finset

/-- Two heads side by side in the lanes: head `x / 64` has summed `D t r X t (x % 64)` over its first rows `t`. -/
def acc (D X : ℕ → ℕ → ℕ → ℝ) (lim : ℕ → ℕ) (r x : ℕ) : ℝ := ∑ t ∈ range (lim (x / 64)), D (x / 64) t r * X (x / 64) t (x % 64)

/-- The first head's rows and the second's. -/
def lims (a b : ℕ) (j : ℕ) : ℕ := if j = 0 then a else if j = 1 then b else 0

/-- Head `j` goes from its rows before `n` to those before `n + 384`. -/
structure Next (lim lim' : ℕ → ℕ) (j n : ℕ) : Prop where
  now : lim j = n
  next : lim' j = n + 384
  other : ∀ i, i ≠ j → lim' i = lim i

theorem next0 (n b : ℕ) : Next (lims n b) (lims (n + 384) b) 0 n := ⟨rfl, rfl, fun i hi => by simp [lims, hi]⟩
theorem next1 (a n : ℕ) : Next (lims a n) (lims a (n + 384)) 1 n :=
  ⟨rfl, rfl, fun i hi => by simp [lims, hi]⟩

section Sum

variable {sig : RefSig} {κ : Kind} {sp : Space} (v : View sig κ sp ⟨2, ![2304, 128]⟩ .f32)
  {D X : ℕ → ℕ → ℕ → ℝ} (hD : ∀ j t s, t < s → D j t s = 0) {lim lim' : ℕ → ℕ} {j n l : ℕ} (hn : Next lim lim' j n)
  (hl : l = 64 * j) {L : List (View.Piece (Elt Ideal) ⟨2, ![2304, 128]⟩ .f32)} (hL : Is (φ := .f32) (View.canon L) (acc D X lim))

include hD hn hl in
theorem acc_next (r x : ℕ) : acc D X lim' r x =
    if (r < n + 384) ∧ l ≤ x ∧ x < l + 64 then acc D X lim r x + ∑ a ∈ range 384, D j (n + a) r * X j (n + a) (x - l)
    else acc D X lim r x := by
  by_cases hj : x / 64 = j
  · have e : acc D X lim' r x = acc D X lim r x + ∑ a ∈ range 384, D j (n + a) r * X j (n + a) (x - l) := by
      rw [acc, acc, hj, hn.next, hn.now, sum_range_add, show x % 64 = x - l by omega]
    rw [e]
    split
    · rfl
    · rw [sum_eq_zero fun a ha => by rw [hD _ _ _ (by have := mem_range.1 ha; omega), zero_mul], add_zero]
  · rw [if_neg (by omega), acc, acc, hn.other _ hj]

include hD hn hl hL in
theorem acc_later (i0 : In2 2304 128 0 l n 64) (i1 : In2 2304 128 n l 384 64) {w0 : Mat .f32 n 64} {w1 : Mat .f32 384 64}
    (h0 : ∀ A, Is (φ := .f32) (load2 v L i0) A → Is w0 fun s d => A s d + ∑ a ∈ range 384, D j (n + a) s * X j (n + a) d)
    (h1 : ∀ A, Is (φ := .f32) (load2 v (⟨box2 i0, w0⟩ :: L) i1) A →
      Is w1 fun s d => A s d + ∑ a ∈ range 384, D j (n + a) (n + s) * X j (n + a) d) :
    Is (φ := .f32) (View.canon (⟨box2 i1, w1⟩ :: ⟨box2 i0, w0⟩ :: L)) (acc D X lim') := by
  have c0 := cons_is i0 hL (h0 _ (read_is v i0 hL))
  have c1 := cons_is i1 c0 (h1 _ (read_is v i1 c0))
  refine is_congr c1 fun r x => ?_
  rw [acc_next hD hn hl]
  generalize r.val = r, x.val = x
  by_cases hx : l ≤ x ∧ x < l + 64
  · rcases lt_trichotomy r n with h | h | h
    · simp only [show ¬ n ≤ r by omega, show 0 ≤ r by omega, h, hx, show r < n + 384 by omega, false_and,
        and_self, if_true, if_false, Nat.zero_add, show l + (x - l) = x by omega, show r - 0 = r by omega]
    · subst h
      simp only [hx, and_self, if_true, if_false, show r < r + 384 by omega, le_refl, show l + (x - l) = x by omega,
        show r + (r - r) = r by omega, show ¬ r < 0 + r by omega, and_false, false_and]
    · by_cases h' : r < n + 384
      · simp only [hx, and_self, if_true, if_false, h', h.le, show l + (x - l) = x by omega,
          show n + (r - n) = r by omega, show ¬ r < 0 + n by omega, and_false, false_and]
      · simp only [h', show ¬ r < 0 + n by omega, and_false, false_and, if_false]
  · simp only [hx, and_false, if_false]

include hD hn hl hL in
theorem acc_first (h : n = 0) (i0 : In2 2304 128 0 l 384 64) {w0 : Mat .f32 384 64}
    (h0 : ∀ A, Is (φ := .f32) (load2 v L i0) A → Is w0 fun s d => A s d + ∑ a ∈ range 384, D j (0 + a) (0 + s) * X j (0 + a) d) :
    Is (φ := .f32) (View.canon (⟨box2 i0, w0⟩ :: L)) (acc D X lim') := by
  subst h
  have c0 := cons_is i0 hL (h0 _ (read_is v i0 hL))
  refine is_congr c0 fun r x => ?_
  rw [acc_next hD hn hl]
  generalize r.val = r, x.val = x
  by_cases hx : l ≤ x ∧ x < l + 64
  · simp only [hx, and_self, and_true, Nat.zero_le, true_and, show 0 + (r - 0) = r by omega, show l + (x - l) = x by omega]
  · simp only [hx, and_false, if_false]

end Sum

section Shift

/-- The shifts' gradients of the two heads, each less its sums over its first rows. -/
def accC (D : ℕ → ℕ → ℕ → ℝ) (lim : ℕ → ℕ) (j s : ℕ) : ℝ := -∑ t ∈ range (lim j), D j t s

variable {sig : RefSig} {κ : Kind} {sp : Space} (v : View sig κ sp ⟨3, ![2, 1, 2304]⟩ .f32)
  {D : ℕ → ℕ → ℕ → ℝ} (hD : ∀ j t s, t < s → D j t s = 0) {lim lim' : ℕ → ℕ} {j n : ℕ} (hn : Next lim lim' j n)
  {L : List (View.Piece (Elt Ideal) ⟨3, ![2, 1, 2304]⟩ .f32)} (hL : Is3 (View.canon L) (accC D lim))

theorem is3_congr {m n : ℕ} {a : FVec Ideal ⟨3, ![m, 1, n]⟩ .f32} {f g : ℕ → ℕ → ℝ} (ha : Is3 a f)
    (h : ∀ (r : Fin m) (s : Fin n), f r s = g r s) : Is3 a g := fun r s => by rw [ha, h]

include hD hn in
theorem accC_next (i s : ℕ) : accC D lim' i s =
    if i = j ∧ s < n + 384 then accC D lim i s - ∑ a ∈ range 384, D j (n + a) s else accC D lim i s := by
  by_cases hj : i = j
  · have e : accC D lim' i s = accC D lim i s - ∑ a ∈ range 384, D j (n + a) s := by
      rw [accC, accC, hj, hn.next, hn.now, sum_range_add]; ring
    rw [e]
    split
    · rfl
    · rw [sum_eq_zero fun a ha => by rw [hD _ _ _ (by have := mem_range.1 ha; omega)], sub_zero]
  · rw [if_neg (by omega), accC, accC, hn.other _ hj]

include hD hn hL in
theorem accC_later (i0 : In3 2 2304 j 0 n) (i1 : In3 2 2304 j n 384) {p0 : Mat .f32 384 n} {p1 : Mat .f32 384 384}
    (h0 : Is p0 fun a s => D j (n + a) s) (h1 : Is p1 fun a s => D j (n + a) (n + s)) :
    Is3 (View.canon (⟨box3 i1, subC (load3 v (⟨box3 i0, subC (load3 v L i0) p0⟩ :: L) i1) p1⟩ ::
      ⟨box3 i0, subC (load3 v L i0) p0⟩ :: L)) (accC D lim') := by
  have c0 := cons_is3 i0 hL (subC_is (read_is3 v i0 hL) h0)
  have c1 := cons_is3 i1 c0 (subC_is (read_is3 v i1 c0) h1)
  refine is3_congr c1 fun i s => ?_
  rw [accC_next hD hn]
  generalize i.val = i, s.val = s
  by_cases hi : i = j
  · subst hi
    rcases lt_trichotomy s n with h | h | h
    · simp only [show ¬ n ≤ s by omega, show 0 ≤ s by omega, h, show s < n + 384 by omega, false_and,
        and_false, and_self, if_true, if_false, Nat.zero_add, show s - 0 = s by omega]
    · subst h
      simp only [and_self, if_true, if_false, show s < s + 384 by omega, le_refl,
        show s + (s - s) = s by omega, show ¬ s < 0 + s by omega, and_false, false_and]
    · by_cases h' : s < n + 384
      · simp only [and_self, if_true, if_false, h', h.le,
          show n + (s - n) = s by omega, show ¬ s < 0 + n by omega, and_false, false_and]
      · simp only [h', show ¬ s < 0 + n by omega, and_false, false_and, if_false]
  · simp only [hi, false_and, if_false]

include hD hn hL in
theorem accC_first (h : n = 0) (i0 : In3 2 2304 j 0 384) {p0 : Mat .f32 384 384} (h0 : Is p0 fun a s => D j (0 + a) (0 + s)) :
    Is3 (View.canon (⟨box3 i0, subC (load3 v L i0) p0⟩ :: L)) (accC D lim') := by
  subst h
  have c0 := cons_is3 i0 hL (subC_is (read_is3 v i0 hL) h0)
  refine is3_congr c0 fun i s => ?_
  rw [accC_next hD hn]
  generalize i.val = i, s.val = s
  by_cases hi : i = j
  · subst hi
    simp only [true_and, Nat.zero_le, show 0 + (s - 0) = s by omega]
  · simp only [hi, false_and, if_false]

end Shift

section Query

/-- The array holds the reals wherever a head's rows are done. -/
def IsTo {m : ℕ} (a : Mat .f32 m 128) (lim : ℕ → ℕ) (f : ℕ → ℕ → ℝ) : Prop :=
  ∀ (r : Fin m) (x : Fin 128), r.val < lim (x / 64) → a (ix2 r x) = ((f r x : ℝ) : EReal)

theorem to_next {lim lim' : ℕ → ℕ} {j n l : ℕ} (hn : Next lim lim' j n) (hl : l = 64 * j)
    {L : List (View.Piece (Elt Ideal) ⟨2, ![2304, 128]⟩ .f32)} {f : ℕ → ℕ → ℝ} (hL : IsTo (View.canon L) lim f)
    (i1 : In2 2304 128 n l 384 64) {w : Mat .f32 384 64} (hw : Is w fun r d => f (n + r) (l + d)) :
    IsTo (View.canon (⟨box2 i1, w⟩ :: L)) lim' f := by
  intro r x hr
  refine (canon_cons2 i1 w L r x).trans ?_
  split
  · rename_i hm
    rw [hw]
    dsimp only
    rw [show n + (r.val - n) = r by omega, show l + (x.val - l) = x by omega]
  · rename_i hm
    refine hL r x ?_
    by_cases hj : x.val / 64 = j
    · rw [hj, hn.next] at hr
      rw [hj, hn.now]
      omega
    · rwa [hn.other _ hj] at hr

end Query

end Cert.Attn

end
-- ==== Proof.Rows.lean ====
/- One block of rows on the body's scratch arrays: what it adds to the keys', the values' and the shifts' gradients, and the
   queries' gradient it leaves. -/
module

public import proofs.«01_k».proof.Proof.Step

@[expose] public section

set_option maxRecDepth 16384

noncomputable section

namespace Cert.Attn

open Idealize.ShloMosaic Idealize.ShloMosaic.TcCoe Finset

theorem rowsIn {R W o l h k : ℕ} (i : In2 R W o l h k) : o + h ≤ R := i 0

/-- A view of a scratch array of `φ`s. -/
abbrev SView (e : EltTy) := View Cert.AttnGradIdeal.sig .tc .vmem ⟨2, ![2304, 128]⟩ e
/-- The writes made to one. -/
abbrev SList (e : EltTy) := List (View.Piece (Elt Ideal) ⟨2, ![2304, 128]⟩ e)

/-- The four scratch arrays the blocks read, with the writes made to each. -/
structure Operands where
  vq : SView .bf16
  vk : SView .bf16
  vv : SView .bf16
  vg : SView .bf16
  Lq : SList .bf16
  Lk : SList .bf16
  Lv : SList .bf16
  Lg : SList .bf16

namespace Operands

variable (B : Operands) {o l h : ℕ} (i : In2 2304 128 o l h 64)

abbrev q : Mat .bf16 h 64 := load2 B.vq B.Lq i
abbrev k : Mat .bf16 h 64 := load2 B.vk B.Lk i
abbrev v : Mat .bf16 h 64 := load2 B.vv B.Lv i
abbrev g : Mat .bf16 h 64 := load2 B.vg B.Lg i

/-- They hold the operands of the heads, two heads side by side in the lanes. -/
structure Holds (B : Operands) (Hd : ℕ → Head) : Prop where
  hq : Is (φ := .bf16) (View.canon B.Lq) fun r x => (Hd (x / 64)).Q r (x % 64)
  hk : Is (φ := .bf16) (View.canon B.Lk) fun r x => (Hd (x / 64)).K r (x % 64)
  hv : Is (φ := .bf16) (View.canon B.Lv) fun r x => (Hd (x / 64)).V r (x % 64)
  hg : Is (φ := .bf16) (View.canon B.Lg) fun r x => (Hd (x / 64)).G r (x % 64)

variable {B} {Hd : ℕ → Head} (hB : B.Holds Hd) {j : ℕ} (hl : l = 64 * j)

include hl in
theorem load_is {v : SView .bf16} {L : SList .bf16} {f : ℕ → ℕ → ℕ → ℝ}
    (hL : Is (φ := .bf16) (View.canon L) fun r x => f (x / 64) r (x % 64)) :
    Is (φ := .bf16) (load2 v L i) fun r d => f j (o + r) d :=
  is_congr (read_is16 v i hL) fun r d => by
    have := d.2
    rw [show (l + d.val) / 64 = j by omega, show (l + d.val) % 64 = d.val by omega]

include hB hl

theorem Holds.q_is : Is (B.q i) fun r d => (Hd j).Q (o + r) d := load_is i hl (f := fun j => (Hd j).Q) hB.hq
theorem Holds.k_is : Is (B.k i) fun r d => (Hd j).K (o + r) d := load_is i hl (f := fun j => (Hd j).K) hB.hk
theorem Holds.v_is : Is (B.v i) fun r d => (Hd j).V (o + r) d := load_is i hl (f := fun j => (Hd j).V) hB.hv
theorem Holds.g_is : Is (B.g i) fun r d => (Hd j).G (o + r) d := load_is i hl (f := fun j => (Hd j).G) hB.hg

end Operands

theorem ds_late (Hd : ℕ → Head) (j t s : ℕ) (h : t < s) : (Hd j).ds t s = 0 := (Hd j).ds_of_lt h
theorem pr_late (Hd : ℕ → Head) (j t s : ℕ) (h : t < s) : (Hd j).pr t s = 0 := (Hd j).pr_of_lt h

section Later

variable (B : Operands) {l n : ℕ} (i0 : In2 2304 128 0 l n 64) (i1 : In2 2304 128 n l 384 64) (c : Mat .f32 1 2304)

abbrev probP : Mat .f32 384 n := pP (rowsIn i1) (B.q i1) (B.k i0) (B.k i1) c
abbrev probD : Mat .f32 384 384 := pD (rowsIn i1) (B.q i1) (B.k i0) (B.k i1) c
abbrev gradP : Mat .f32 384 n := dsP (rowsIn i1) (B.q i1) (B.g i1) (B.k i0) (B.v i0) (B.k i1) (B.v i1) c
abbrev gradD : Mat .f32 384 384 := dsD (rowsIn i1) (B.q i1) (B.g i1) (B.k i0) (B.v i0) (B.k i1) (B.v i1) c

variable {B} {c} {Hd : ℕ → Head} (hB : B.Holds Hd) {j : ℕ} (hc : Is c fun _ s => (Hd j).C s) (hl : l = 64 * j)
  {lim lim' : ℕ → ℕ} (hn : Next lim lim' j n)

include hB hc hl

theorem prob_is : Is (probP B i0 i1 c) (fun a s => (Hd j).pr (n + a) s) ∧ Is (probD B i0 i1 c) fun a s => (Hd j).pr (n + a) (n + s) :=
  probs (Hd j) _ (hB.q_is i1 hl) (is_congr (hB.k_is i0 hl) fun r s => by rw [Nat.zero_add]) (hB.k_is i1 hl) hc

theorem grad_is : Is (gradP B i0 i1 c) (fun a s => (Hd j).ds (n + a) s) ∧ Is (gradD B i0 i1 c) fun a s => (Hd j).ds (n + a) (n + s) :=
  grads (Hd j) _ (hB.q_is i1 hl) (hB.g_is i1 hl) (is_congr (hB.k_is i0 hl) fun r s => by rw [Nat.zero_add])
    (is_congr (hB.v_is i0 hl) fun r s => by rw [Nat.zero_add]) (hB.k_is i1 hl) (hB.v_is i1 hl) hc

include hn

theorem keys_later {v : SView .f32} {L : SList .f32}
    (hL : Is (φ := .f32) (View.canon L) (acc (fun j => (Hd j).ds) (fun j => (Hd j).Q) lim)) :
    Is (φ := .f32) (View.canon
      (⟨box2 i1, addK (load2 v (⟨box2 i0, addK (load2 v L i0) (gradP B i0 i1 c) (B.q i1)⟩ :: L) i1) (gradD B i0 i1 c) (B.q i1)⟩ ::
        ⟨box2 i0, addK (load2 v L i0) (gradP B i0 i1 c) (B.q i1)⟩ :: L)) (acc (fun j => (Hd j).ds) (fun j => (Hd j).Q) lim') :=
  acc_later v (ds_late Hd) hn hl hL i0 i1 (fun _ hA => addK_is hA (grad_is i0 i1 hB hc hl).1 (hB.q_is i1 hl))
    (fun _ hA => addK_is hA (grad_is i0 i1 hB hc hl).2 (hB.q_is i1 hl))

theorem values_later {v : SView .f32} {L : SList .f32}
    (hL : Is (φ := .f32) (View.canon L) (acc (fun j => (Hd j).pr) (fun j => (Hd j).G) lim)) :
    Is (φ := .f32) (View.canon
      (⟨box2 i1, addV (load2 v (⟨box2 i0, addV (load2 v L i0) (probP B i0 i1 c) (B.g i1)⟩ :: L) i1) (probD B i0 i1 c) (B.g i1)⟩ ::
        ⟨box2 i0, addV (load2 v L i0) (probP B i0 i1 c) (B.g i1)⟩ :: L)) (acc (fun j => (Hd j).pr) (fun j => (Hd j).G) lim') :=
  acc_later v (pr_late Hd) hn hl hL i0 i1 (fun _ hA => addV_is hA (prob_is i0 i1 hB hc hl).1 (hB.g_is i1 hl))
    (fun _ hA => addV_is hA (prob_is i0 i1 hB hc hl).2 (hB.g_is i1 hl))

theorem shifts_later {v : View Cert.AttnGradIdeal.sig .tc .vmem ⟨3, ![2, 1, 2304]⟩ .f32}
    {L : List (View.Piece (Elt Ideal) ⟨3, ![2, 1, 2304]⟩ .f32)} (k0 : In3 2 2304 j 0 n) (k1 : In3 2 2304 j n 384)
    (hL : Is3 (View.canon L) (accC (fun j => (Hd j).ds) lim)) :
    Is3 (View.canon (⟨box3 k1, subC (load3 v (⟨box3 k0, subC (load3 v L k0) (gradP B i0 i1 c)⟩ :: L) k1) (gradD B i0 i1 c)⟩ ::
      ⟨box3 k0, subC (load3 v L k0) (gradP B i0 i1 c)⟩ :: L)) (accC (fun j => (Hd j).ds) lim') :=
  accC_later v (ds_late Hd) hn hL k0 k1 (grad_is i0 i1 hB hc hl).1 (grad_is i0 i1 hB hc hl).2

/-- The gradient of the queries of the two heads. -/
abbrev qGrad (Hd : ℕ → Head) (r x : ℕ) : ℝ := (∑ s ∈ range 2304, (Hd (x / 64)).ds r s * (Hd (x / 64)).K s (x % 64)) * (1 / 8)

theorem queries_later {L : SList .f32} (hL : IsTo (View.canon L) lim (qGrad Hd)) :
    IsTo (View.canon (⟨box2 i1,
      dQ (rowsIn i1) (B.q i1) (B.g i1) (B.k i0) (B.v i0) (B.k i1) (B.v i1) c⟩ :: L)) lim' (qGrad Hd) :=
  to_next hn hl hL i1 (is_congr
    (dQ_is (Hd j) _ (hB.q_is i1 hl) (hB.g_is i1 hl) (is_congr (hB.k_is i0 hl) fun r s => by rw [Nat.zero_add])
      (is_congr (hB.v_is i0 hl) fun r s => by rw [Nat.zero_add]) (hB.k_is i1 hl) (hB.v_is i1 hl) hc)
    fun r d => by
      have := d.2
      rw [qGrad, show (l + d.val) / 64 = j by omega, show (l + d.val) % 64 = d.val by omega])

end Later

section First

variable (B : Operands) {l : ℕ} (i0 : In2 2304 128 0 l 384 64) (c : Mat .f32 1 2304)

abbrev prob₀ : Mat .f32 384 384 := p₀ (B.q i0) (B.k i0) c
abbrev grad₀ : Mat .f32 384 384 := ds₀ (B.q i0) (B.g i0) (B.k i0) (B.v i0) c

variable {B} {c} {Hd : ℕ → Head} (hB : B.Holds Hd) {j : ℕ} (hc : Is c fun _ s => (Hd j).C s) (hl : l = 64 * j)
  {lim lim' : ℕ → ℕ} (hn : Next lim lim' j 0)

include hB hc hl

theorem prob₀_is : Is (prob₀ B i0 c) fun a s => (Hd j).pr (0 + a) (0 + s) :=
  probs₀ (Hd j) (hB.q_is i0 hl) (hB.k_is i0 hl) hc

theorem grad₀_is : Is (grad₀ B i0 c) fun a s => (Hd j).ds (0 + a) (0 + s) :=
  grads₀ (Hd j) (hB.q_is i0 hl) (hB.g_is i0 hl) (hB.k_is i0 hl) (hB.v_is i0 hl) hc

include hn

theorem keys_first {v : SView .f32} {L : SList .f32}
    (hL : Is (φ := .f32) (View.canon L) (acc (fun j => (Hd j).ds) (fun j => (Hd j).Q) lim)) :
    Is (φ := .f32) (View.canon (⟨box2 i0, addK (load2 v L i0) (grad₀ B i0 c) (B.q i0)⟩ :: L))
      (acc (fun j => (Hd j).ds) (fun j => (Hd j).Q) lim') :=
  acc_first v (ds_late Hd) hn hl hL rfl i0 fun _ hA => addK_is hA (grad₀_is i0 hB hc hl) (hB.q_is i0 hl)

theorem values_first {v : SView .f32} {L : SList .f32}
    (hL : Is (φ := .f32) (View.canon L) (acc (fun j => (Hd j).pr) (fun j => (Hd j).G) lim)) :
    Is (φ := .f32) (View.canon (⟨box2 i0, addV (load2 v L i0) (prob₀ B i0 c) (B.g i0)⟩ :: L))
      (acc (fun j => (Hd j).pr) (fun j => (Hd j).G) lim') :=
  acc_first v (pr_late Hd) hn hl hL rfl i0 fun _ hA => addV_is hA (prob₀_is i0 hB hc hl) (hB.g_is i0 hl)

theorem shifts_first {v : View Cert.AttnGradIdeal.sig .tc .vmem ⟨3, ![2, 1, 2304]⟩ .f32}
    {L : List (View.Piece (Elt Ideal) ⟨3, ![2, 1, 2304]⟩ .f32)} (k0 : In3 2 2304 j 0 384)
    (hL : Is3 (View.canon L) (accC (fun j => (Hd j).ds) lim)) :
    Is3 (View.canon (⟨box3 k0, subC (load3 v L k0) (grad₀ B i0 c)⟩ :: L)) (accC (fun j => (Hd j).ds) lim') :=
  accC_first v (ds_late Hd) hn hL rfl k0 (grad₀_is i0 hB hc hl)

theorem queries_first {L : SList .f32} (hL : IsTo (View.canon L) lim (qGrad Hd)) :
    IsTo (View.canon (⟨box2 i0, dQ₀ (B.q i0) (B.g i0) (B.k i0) (B.v i0) c⟩ :: L)) lim' (qGrad Hd) :=
  to_next hn hl hL i0 (is_congr (dQ₀_is (Hd j) (hB.q_is i0 hl) (hB.g_is i0 hl) (hB.k_is i0 hl) (hB.v_is i0 hl) hc)
    fun r d => by
      have := d.2
      rw [qGrad, show (l + d.val) / 64 = j by omega, show (l + d.val) % 64 = d.val by omega])

end First

end Cert.Attn

end
-- ==== Proof.Run.lean ====
/- The body's run: the arrays it sums in, after its twelve blocks of rows. -/
module

public import proofs.«01_k».proof.Proof.Rows
public import proofs.«01_k».proof.Proof.Gen.AttnGradIdeal.Frame

@[expose] public section

set_option maxRecDepth 16384

noncomputable section

namespace Cert.Attn

open Idealize.ShloMosaic Idealize.ShloMosaic.TcCoe Idealize.SL.Sem Finset
open Cert.AttnGradIdeal Cert.AttnGradIdeal.Gen

/-- A box of 64 lanes inside a scratch array. -/
theorem box_in {o l h : ℕ} (h0 : o + h ≤ 2304) (h1 : l + 64 ≤ 128) : In2 2304 128 o l h 64 := by
  intro a
  fin_cases a
  · exact h0
  · exact h1

section

variable (c : Dev nD) (arg1 : Memref sig .tc .vmem S2064x128 .f32) (harg1 : arg1.IsWhole)
  (arg2 : Memref sig .tc .vmem S2064x128 .f32) (harg2 : arg2.IsWhole) (arg3 : Memref sig .tc .vmem S2064x128 .f32) (harg3 : arg3.IsWhole)
  (arg4 : Memref sig .tc .vmem S2064x128 .f32) (harg4 : arg4.IsWhole) (arg5 : Memref sig .tc .vmem S2064x128 .f32) (harg5 : arg5.IsWhole)
  (arg7 : Memref sig .tc .vmem S2x1x2304 .f32) (harg7 : arg7.IsWhole)
  (arg12 : Memref sig .tc .vmem S2x1x2304 .f32)
  (arg13 arg14 arg15 arg16 : Memref sig .tc .vmem S2304x128 .bf16) (arg18 arg19 : Memref sig .tc .vmem S2304x128 .f32)
  (x0 x1 x2 x3 x4 : Vec Ideal S2064x128 .f32) (x6 : Vec Ideal S2x1x2304 .f32)

/-- The scratch arrays with the writes the run makes to them. -/
abbrev operands : Operands where
  vq := arg13.view
  vk := arg14.view
  vv := arg15.view
  vg := arg16.view
  Lq := kernelRun0_A.sl.HS0_2 c arg2 harg2 x1
  Lk := kernelRun0_A.sl.HS1_2 c arg4 harg4 x3
  Lv := kernelRun0_A.sl.HS2_2 c arg5 harg5 x4
  Lg := kernelRun0_A.sl.HS3_2 c arg1 harg1 arg3 harg3 x0 x2

variable {Hd : ℕ → Head}
  (hB : (operands c arg1 harg1 arg2 harg2 arg3 harg3 arg4 harg4 arg5 harg5 arg13 arg14 arg15 arg16 x0 x1 x2 x3 x4).Holds Hd)
  (h0 : Is (φ := .f32) (kernelRun0_A.sl.r c arg7 harg7 x6) fun _ s => (Hd 0).C s)
  (h1 : Is (φ := .f32) (kernelRun0_A.sl.v697 c arg7 harg7 x6) fun _ s => (Hd 1).C s)

/-- The two summing arrays start as zeros, -/
theorem zeros_is {D X : ℕ → ℕ → ℕ → ℝ} :
    Is (φ := .f32) (m := 2304) (n := 128) (View.canon (kernelRun0_A.sl.HS5_1 (F := Ideal))) (acc D X (lims 0 0)) := by
  intro r x
  refine (canon_cons2 (o := 0) (l := 0) (h := 2304) (k := 128) _ _ _ r x).trans ?_
  rw [dif_pos (by omega)]
  refine bits_zero.trans ?_
  have : lims 0 0 (x.val / 64) = 0 := by simp [lims]
  rw [acc, this]; simp

/-- and so do the shifts' gradients. -/
theorem zeros_is3 {D : ℕ → ℕ → ℕ → ℝ} :
    Is3 (m := 2) (n := 2304) (View.canon (kernelRun0_A.sl.H11_1 (F := Ideal))) (accC D (lims 0 0)) := by
  intro i s
  have e : (View.canon (kernelRun0_A.sl.H11_1 (F := Ideal))) (ix3 i 0 s) = Ideal.ofBits .f32 0#32 := by
    have he : (Rect.unit (s := ⟨3, ![2, 1, 2304]⟩) ![0, 0, 0] ![2, 1, 2304] (by intro a; fin_cases a <;> decide)).emb (ix3 i 0 s)
        = ix3 i 0 s := by
      funext a
      refine Fin.ext ?_
      fin_cases a
      · show 0 + 1 * i.val = i.val; omega
      · rfl
      · show 0 + 1 * s.val = s.val; omega
    rw [← he]
    exact View.canon_cons_emb _ _ _ _
  have : lims 0 0 i.val = 0 := by simp [lims]
  rw [e, bits_zero, accC, this]; simp

theorem nothing_isTo {f : ℕ → ℕ → ℝ} {a : Mat .f32 2304 128} : IsTo a (lims 0 0) f := by
  intro r x h
  have : lims 0 0 (x.val / 64) = 0 := by simp [lims]
  omega

include hB h0 h1

/-- The keys' gradient, before its last scaling by one. -/
theorem keys_run : Is (φ := .f32) (m := 2304) (n := 128) (View.canon (kernelRun0_A.sl.HS5_23 c arg1 harg1 arg2 harg2 arg3 harg3
      arg4 harg4 arg5 harg5 arg7 harg7 arg13 arg14 arg15 arg16 arg18 x0 x1 x2 x3 x4 x6))
    (acc (fun j => (Hd j).ds) (fun j => (Hd j).Q) (lims 2304 2304)) :=
  keys_later (l := 64) (n := 1920) _ _ hB h1 rfl (next1 2304 1920) (v := arg18.view) <|
    keys_later (l := 64) (n := 1536) _ _ hB h1 rfl (next1 2304 1536) (v := arg18.view) <|
    keys_later (l := 64) (n := 1152) _ _ hB h1 rfl (next1 2304 1152) (v := arg18.view) <|
    keys_later (l := 64) (n := 768) _ _ hB h1 rfl (next1 2304 768) (v := arg18.view) <|
    keys_later (l := 64) (n := 384) _ _ hB h1 rfl (next1 2304 384) (v := arg18.view) <|
    keys_first (l := 64) _ hB h1 rfl (next1 2304 0) (v := arg18.view) <|
    keys_later (l := 0) (n := 1920) _ _ hB h0 rfl (next0 1920 0) (v := arg18.view) <|
    keys_later (l := 0) (n := 1536) _ _ hB h0 rfl (next0 1536 0) (v := arg18.view) <|
    keys_later (l := 0) (n := 1152) _ _ hB h0 rfl (next0 1152 0) (v := arg18.view) <|
    keys_later (l := 0) (n := 768) _ _ hB h0 rfl (next0 768 0) (v := arg18.view) <|
    keys_later (l := 0) (n := 384) _ _ hB h0 rfl (next0 384 0) (v := arg18.view) <|
    keys_first (l := 0) _ hB h0 rfl (next0 0 0) (v := arg18.view) <|
    zeros_is

/-- The values' gradient. -/
theorem values_run : Is (φ := .f32) (m := 2304) (n := 128) (View.canon (kernelRun0_A.sl.HS6_23 c arg1 harg1 arg2 harg2 arg3 harg3
      arg4 harg4 arg7 harg7 arg13 arg14 arg16 arg19 x0 x1 x2 x3 x6))
    (acc (fun j => (Hd j).pr) (fun j => (Hd j).G) (lims 2304 2304)) :=
  values_later (l := 64) (n := 1920) _ _ hB h1 rfl (next1 2304 1920) (v := arg19.view) <|
    values_later (l := 64) (n := 1536) _ _ hB h1 rfl (next1 2304 1536) (v := arg19.view) <|
    values_later (l := 64) (n := 1152) _ _ hB h1 rfl (next1 2304 1152) (v := arg19.view) <|
    values_later (l := 64) (n := 768) _ _ hB h1 rfl (next1 2304 768) (v := arg19.view) <|
    values_later (l := 64) (n := 384) _ _ hB h1 rfl (next1 2304 384) (v := arg19.view) <|
    values_first (l := 64) _ hB h1 rfl (next1 2304 0) (v := arg19.view) <|
    values_later (l := 0) (n := 1920) _ _ hB h0 rfl (next0 1920 0) (v := arg19.view) <|
    values_later (l := 0) (n := 1536) _ _ hB h0 rfl (next0 1536 0) (v := arg19.view) <|
    values_later (l := 0) (n := 1152) _ _ hB h0 rfl (next0 1152 0) (v := arg19.view) <|
    values_later (l := 0) (n := 768) _ _ hB h0 rfl (next0 768 0) (v := arg19.view) <|
    values_later (l := 0) (n := 384) _ _ hB h0 rfl (next0 384 0) (v := arg19.view) <|
    values_first (l := 0) _ hB h0 rfl (next0 0 0) (v := arg19.view) <|
    zeros_is

/-- The queries' gradient. -/
theorem queries_run : IsTo (View.canon (kernelRun0_A.sl.HS4_12 c arg1 harg1 arg2 harg2 arg3 harg3
      arg4 harg4 arg5 harg5 arg7 harg7 arg13 arg14 arg15 arg16 x0 x1 x2 x3 x4 x6)) (lims 2304 2304) (qGrad Hd) :=
  queries_later (l := 64) (n := 1920) _ _ hB h1 rfl (next1 2304 1920) <|
    queries_later (l := 64) (n := 1536) _ _ hB h1 rfl (next1 2304 1536) <|
    queries_later (l := 64) (n := 1152) _ _ hB h1 rfl (next1 2304 1152) <|
    queries_later (l := 64) (n := 768) _ _ hB h1 rfl (next1 2304 768) <|
    queries_later (l := 64) (n := 384) _ _ hB h1 rfl (next1 2304 384) <|
    queries_first (l := 64) _ hB h1 rfl (next1 2304 0) <|
    queries_later (l := 0) (n := 1920) _ _ hB h0 rfl (next0 1920 0) <|
    queries_later (l := 0) (n := 1536) _ _ hB h0 rfl (next0 1536 0) <|
    queries_later (l := 0) (n := 1152) _ _ hB h0 rfl (next0 1152 0) <|
    queries_later (l := 0) (n := 768) _ _ hB h0 rfl (next0 768 0) <|
    queries_later (l := 0) (n := 384) _ _ hB h0 rfl (next0 384 0) <|
    queries_first (l := 0) _ hB h0 rfl (next0 0 0) <|
    nothing_isTo

/-- The shifts' gradient. -/
theorem shifts_run (i : grid0.Coords) (arg6 : Memref sig .tc .vmem S2064x128 .f32) (harg6 : arg6.IsWhole)
    (arg8 : Memref sig .tc .vmem S2064x128 .bf16) (harg8 : arg8.IsWhole) (arg9 : Memref sig .tc .vmem S2064x128 .bf16) (harg9 : arg9.IsWhole)
    (arg10 : Memref sig .tc .vmem S2064x128 .f32) (harg10 : arg10.IsWhole) (arg11 : Memref sig .tc .vmem S2064x128 .f32) (harg11 : arg11.IsWhole)
    (harg12 : arg12.IsWhole) (harg13 : arg13.IsWhole) (harg14 : arg14.IsWhole) (harg15 : arg15.IsWhole) (harg16 : arg16.IsWhole)
    (arg17 : Memref sig .tc .vmem S2304x128 .f32) (harg17 : arg17.IsWhole) (harg18 : arg18.IsWhole) (harg19 : arg19.IsWhole)
    (x5 : Vec Ideal S2064x128 .f32) :
    Is3 (m := 2) (n := 2304) (View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6).2.2.2.2.1)
      (accC (fun j => (Hd j).ds) (lims 2304 2304)) :=
  shifts_later (l := 64) (n := 1920) (box_in (by omega) (by omega)) (box_in (by omega) (by omega)) hB h1 rfl (next1 2304 1920) (v := arg12.view) _ _ <|
    shifts_later (l := 64) (n := 1536) (box_in (by omega) (by omega)) (box_in (by omega) (by omega)) hB h1 rfl (next1 2304 1536) (v := arg12.view) _ _ <|
    shifts_later (l := 64) (n := 1152) (box_in (by omega) (by omega)) (box_in (by omega) (by omega)) hB h1 rfl (next1 2304 1152) (v := arg12.view) _ _ <|
    shifts_later (l := 64) (n := 768) (box_in (by omega) (by omega)) (box_in (by omega) (by omega)) hB h1 rfl (next1 2304 768) (v := arg12.view) _ _ <|
    shifts_later (l := 64) (n := 384) (box_in (by omega) (by omega)) (box_in (by omega) (by omega)) hB h1 rfl (next1 2304 384) (v := arg12.view) _ _ <|
    shifts_first (l := 64) (box_in (by omega) (by omega)) hB h1 rfl (next1 2304 0) (v := arg12.view) _ <|
    shifts_later (l := 0) (n := 1920) (box_in (by omega) (by omega)) (box_in (by omega) (by omega)) hB h0 rfl (next0 1920 0) (v := arg12.view) _ _ <|
    shifts_later (l := 0) (n := 1536) (box_in (by omega) (by omega)) (box_in (by omega) (by omega)) hB h0 rfl (next0 1536 0) (v := arg12.view) _ _ <|
    shifts_later (l := 0) (n := 1152) (box_in (by omega) (by omega)) (box_in (by omega) (by omega)) hB h0 rfl (next0 1152 0) (v := arg12.view) _ _ <|
    shifts_later (l := 0) (n := 768) (box_in (by omega) (by omega)) (box_in (by omega) (by omega)) hB h0 rfl (next0 768 0) (v := arg12.view) _ _ <|
    shifts_later (l := 0) (n := 384) (box_in (by omega) (by omega)) (box_in (by omega) (by omega)) hB h0 rfl (next0 384 0) (v := arg12.view) _ _ <|
    shifts_first (l := 0) (box_in (by omega) (by omega)) hB h0 rfl (next0 0 0) (v := arg12.view) _ <|
    zeros_is3

end

end Cert.Attn

end
-- ==== Proof.Load.lean ====
/- What the body puts in the arrays its blocks read: the operands of the two heads of a pair, filled up with zeros. -/
module

public import proofs.«01_k».proof.Proof.Run
public import Idealize.ShloMosaic.Lib.WholeRead

@[expose] public section

set_option maxRecDepth 16384

noncomputable section

namespace Cert.Attn

open Idealize.ShloMosaic Idealize.ShloMosaic.TcCoe Idealize.SL.Sem Finset
open Cert.AttnGradIdeal Cert.AttnGradIdeal.Gen

/-- The real operands of all heads: queries, keys, the output's cotangent and values, 64 columns a head, and a shift for
    every key and head. -/
structure Data where
  q : ℕ → ℕ → ℝ
  k : ℕ → ℕ → ℝ
  g : ℕ → ℕ → ℝ
  v : ℕ → ℕ → ℝ
  c : ℕ → ℕ → ℝ

/-- Zero past the 2064 rows. -/
def pad (f : ℕ → ℕ → ℝ) (r x : ℕ) : ℝ := if r < 2064 then f r x else 0

/-- Head `h`'s operands. -/
def Data.head (D : Data) (h : ℕ) : Head where
  Q r d := pad D.q r (64 * h + d) * (1 / 8)
  K r d := pad D.k r (64 * h + d)
  G r d := pad D.g r (64 * h + d)
  V r d := pad D.v r (64 * h + d)
  C s := pad D.c s h

/-- A whole block's load reads the block. -/
theorem whole_read {e : EltTy} {Val : EltTy → Type} {m : Memref sig .tc .vmem ⟨2, ![2064, 128]⟩ e} (hm : m.IsWhole)
    (X : (⟨2, ![2064, 128]⟩ : Shape).Idx → Val e) (inb : In2 2064 128 0 0 2064 128) :
    m.view.readAt Val (box2 inb).toLoadRect (hm.unread X) = X := by
  funext y
  refine (hm.readAt_unread X _ y).trans (congrArg X (funext fun a => Fin.ext ?_))
  fin_cases a
  · show 0 + 1 * (y 0).val = (y 0).val; omega
  · show 0 + 1 * (y 1).val = (y 1).val; omega

/-- A block over zeros. -/
theorem padded_is {a : Mat .bf16 2064 128} {z : Mat .bf16 240 128} {f : ℕ → ℕ → ℝ} (ha : Is a f) (hz : ∀ y, z y = 0)
    (i : In2 2304 128 2064 0 240 128) (i' : In2 2304 128 0 0 2064 128) :
    Is (φ := .bf16) (View.canon [(⟨box2 i, z⟩ : View.Piece (Elt Ideal) ⟨2, ![2304, 128]⟩ .bf16), ⟨box2 i', a⟩]) (pad f) := by
  intro r x
  refine (canon_cons2 (Val := Elt Ideal) (e := .bf16) i z _ r x).trans ?_
  by_cases h : r.val < 2064
  · rw [dif_neg (by omega)]
    refine (canon_cons2 (Val := Elt Ideal) (e := .bf16) i' a _ r x).trans ?_
    rw [dif_pos (by omega), pad, if_pos h]
    exact ha _ _
  · rw [dif_pos (by omega), pad, if_neg h, hz]; rfl

theorem zero_fill (y : (⟨2, ![240, 128]⟩ : Shape).Idx) : k0_pay6 (F := Ideal) y = 0 := by
  unfold k0_pay6 k0_pay2
  exact bits_zero16

theorem col_of {i x : ℕ} : 64 * (2 * i + x / 64) + x % 64 = 128 * i + x := by omega

section

variable (c : Dev nD) {arg1 : Memref sig .tc .vmem S2064x128 .f32} (harg1 : arg1.IsWhole)
  {arg2 : Memref sig .tc .vmem S2064x128 .f32} (harg2 : arg2.IsWhole) {arg3 : Memref sig .tc .vmem S2064x128 .f32} (harg3 : arg3.IsWhole)
  {arg4 : Memref sig .tc .vmem S2064x128 .f32} (harg4 : arg4.IsWhole) {arg5 : Memref sig .tc .vmem S2064x128 .f32} (harg5 : arg5.IsWhole)
  {arg7 : Memref sig .tc .vmem S2x1x2304 .f32} (harg7 : arg7.IsWhole)
  (arg13 arg14 arg15 arg16 : Memref sig .tc .vmem S2304x128 .bf16)
  {x0 x1 x2 x3 x4 : Vec Ideal S2064x128 .f32} {x6 : Vec Ideal S2x1x2304 .f32}

/-- The scaled queries. -/
theorem scaledQ_is {f : ℕ → ℕ → ℝ} (h : Is (φ := .f32) (m := 2064) (n := 128) x1 f) :
    Is (φ := .bf16) (m := 2064) (n := 128) (k0_pay7 (F := Ideal) x1) fun r x => f r x * (1 / 8) := by
  intro r x
  unfold k0_pay7
  rw [shapeCast_self]
  show x1 (ix2 r x) * Ideal.ofBits .f32 0x3E000000#32 = _
  rw [h, bits_eighth, ← EReal.coe_mul]

theorem narrowed_is {f : ℕ → ℕ → ℝ} (h : Is (φ := .f32) (m := 2064) (n := 128) x3 f) :
    Is (φ := .bf16) (m := 2064) (n := 128) (k0_pay9 (F := Ideal) x3) f := by
  intro r x
  unfold k0_pay9
  rw [shapeCast_self]
  exact h r x

/-- The cotangent times the gate. -/
theorem gated_is {f : ℕ → ℕ → ℝ} (h : Is (φ := .f32) (m := 2064) (n := 128) (mulf (F := Ideal) (s := S2064x128) (φ := .f32) x0 (k0_pay3 (F := Ideal) x2)) f) :
    Is (φ := .bf16) (m := 2064) (n := 128) (k0_pay5 (F := Ideal) x2 x0) f := by
  intro r x
  unfold k0_pay5
  rw [shapeCast_self]
  exact h r x

theorem queries_held {f : ℕ → ℕ → ℝ} (h : Is (φ := .f32) (m := 2064) (n := 128) x1 f) :
    Is (φ := .bf16) (m := 2304) (n := 128) (View.canon (kernelRun0_A.sl.HS0_2 c arg2 harg2 x1)) (pad fun r x => f r x * (1 / 8)) := by
  have e := whole_read harg2 x1 (by intro a; fin_cases a <;> decide)
  have := scaledQ_is h
  rw [← e] at this
  exact padded_is this zero_fill (by intro a; fin_cases a <;> decide) (by intro a; fin_cases a <;> decide)

theorem keys_held {f : ℕ → ℕ → ℝ} (h : Is (φ := .f32) (m := 2064) (n := 128) x3 f) :
    Is (φ := .bf16) (m := 2304) (n := 128) (View.canon (kernelRun0_A.sl.HS1_2 c arg4 harg4 x3)) (pad f) := by
  have e := whole_read harg4 x3 (by intro a; fin_cases a <;> decide)
  have := narrowed_is h
  rw [← e] at this
  exact padded_is this zero_fill (by intro a; fin_cases a <;> decide) (by intro a; fin_cases a <;> decide)

theorem values_held {f : ℕ → ℕ → ℝ} (h : Is (φ := .f32) (m := 2064) (n := 128) x4 f) :
    Is (φ := .bf16) (m := 2304) (n := 128) (View.canon (kernelRun0_A.sl.HS2_2 c arg5 harg5 x4)) (pad f) := by
  have e := whole_read harg5 x4 (by intro a; fin_cases a <;> decide)
  have := narrowed_is h
  rw [← e] at this
  exact padded_is this zero_fill (by intro a; fin_cases a <;> decide) (by intro a; fin_cases a <;> decide)

theorem gated_held {f : ℕ → ℕ → ℝ} (h : Is (φ := .f32) (m := 2064) (n := 128) (mulf (F := Ideal) (s := S2064x128) (φ := .f32) x0 (k0_pay3 (F := Ideal) x2)) f) :
    Is (φ := .bf16) (m := 2304) (n := 128) (View.canon (kernelRun0_A.sl.HS3_2 c arg1 harg1 arg3 harg3 x0 x2)) (pad f) := by
  have e := whole_read harg1 x0 (by intro a; fin_cases a <;> decide)
  have e' := whole_read harg3 x2 (by intro a; fin_cases a <;> decide)
  have := gated_is h
  rw [← e, ← e'] at this
  exact padded_is this zero_fill (by intro a; fin_cases a <;> decide) (by intro a; fin_cases a <;> decide)

/-- A pair of heads' blocks in the scratch arrays. -/
theorem loads_hold (D : Data) (i : ℕ)
    (hq : Is (φ := .f32) (m := 2064) (n := 128) x1 fun r x => D.q r (128 * i + x))
    (hk : Is (φ := .f32) (m := 2064) (n := 128) x3 fun r x => D.k r (128 * i + x))
    (hv : Is (φ := .f32) (m := 2064) (n := 128) x4 fun r x => D.v r (128 * i + x))
    (hg : Is (φ := .f32) (m := 2064) (n := 128) (mulf (F := Ideal) (s := S2064x128) (φ := .f32) x0 (k0_pay3 (F := Ideal) x2)) fun r x => D.g r (128 * i + x)) :
    (operands c arg1 harg1 arg2 harg2 arg3 harg3 arg4 harg4 arg5 harg5 arg13 arg14 arg15 arg16 x0 x1 x2 x3 x4).Holds
      fun j => D.head (2 * i + j) where
  hq := is_congr (queries_held c harg2 hq) fun r x => by simp only [Data.head, pad, col_of]; split <;> simp
  hk := is_congr (keys_held c harg4 hk) fun r x => by simp only [Data.head, pad, col_of]
  hv := is_congr (values_held c harg5 hv) fun r x => by simp only [Data.head, pad, col_of]
  hg := is_congr (gated_held c harg1 harg3 hg) fun r x => by simp only [Data.head, pad, col_of]

/-- A row of shifts. -/
theorem shift_row (j : Fin 2) (inb : In3 2 2304 j 0 2304) {f : ℕ → ℕ → ℝ} (h : Is3 (m := 2) (n := 2304) x6 f) :
    Is (φ := .f32) (shapeCast ⟨2, ![1, 2304]⟩ (arg7.view.readAt (Elt Ideal) (box3 inb).toLoadRect (harg7.unread x6)) (sc32 2304))
      fun _ s => f j s := by
  intro z s
  obtain rfl : z = 0 := Subsingleton.elim _ _
  have e : ∀ u : FVec Ideal ⟨3, ![1, 1, 2304]⟩ .f32, shapeCast ⟨2, ![1, 2304]⟩ u (sc32 2304) (ix2 0 s) = u (ix3 0 0 s) := fun u =>
    congrArg u (Shape.reshapeEquiv_eq_of_rowMajor _ (by
      rw [rowMajor_val2 _ 2304 rfl, rowMajor_val3 _ 2304 2304 (by simp) rfl]; simp))
  refine (e _).trans ((harg7.readAt_unread x6 _ _).trans ?_)
  rw [← h j s]
  refine congrArg x6 (funext fun a => Fin.ext ?_)
  fin_cases a
  · show j.val + 1 * 0 = j.val; omega
  · rfl
  · show 0 + 1 * s.val = s.val; omega

end

end Cert.Attn

end
-- ==== Proof.Outs.lean ====
/- The blocks the body leaves, over the reals: the gradients of a pair of heads. -/
module

public import proofs.«01_k».proof.Proof.Load

@[expose] public section

set_option maxRecDepth 16384

noncomputable section

namespace Cert.Attn

open Idealize.ShloMosaic Idealize.ShloMosaic.TcCoe Idealize.SL.Sem Finset
open Cert.AttnGradIdeal Cert.AttnGradIdeal.Gen

namespace Data

variable (D : Data)

/-- The gradients of head `h`, its sums over all padded rows. -/
def dq (h r d : ℕ) : ℝ := (∑ s ∈ range 2304, (D.head h).ds r s * (D.head h).K s d) * (1 / 8)
def dk (h r d : ℕ) : ℝ := ∑ t ∈ range 2304, (D.head h).ds t r * (D.head h).Q t d
def dv (h r d : ℕ) : ℝ := ∑ t ∈ range 2304, (D.head h).pr t r * (D.head h).G t d
def dc (h s : ℕ) : ℝ := -∑ t ∈ range 2304, (D.head h).ds t s

end Data

theorem lims_all {j : ℕ} (h : j < 2) : lims 2304 2304 j = 2304 := by
  obtain rfl | rfl : j = 0 ∨ j = 1 := by omega
  all_goals rfl

/-- A whole block written once is what was written. -/
theorem one_write {e : EltTy} {Val : EltTy → Type} [∀ e, Nonempty (Val e)] (i : In2 2064 128 0 0 2064 128)
    (w : (⟨2, ![2064, 128]⟩ : Shape).Idx → Val e) (r : Fin 2064) (x : Fin 128) :
    View.canon [(⟨box2 i, w⟩ : View.Piece Val ⟨2, ![2064, 128]⟩ e)] (ix2 r x) = w (ix2 r x) := by
  refine (canon_cons2 i w [] r x).trans ?_
  rw [dif_pos (by omega)]
  rfl

section

variable (c : Dev nD) (i : grid0.Coords)
  (arg1 : Memref sig .tc .vmem S2064x128 .f32) (harg1 : arg1.IsWhole)
  (arg2 : Memref sig .tc .vmem S2064x128 .f32) (harg2 : arg2.IsWhole)
  (arg3 : Memref sig .tc .vmem S2064x128 .f32) (harg3 : arg3.IsWhole)
  (arg4 : Memref sig .tc .vmem S2064x128 .f32) (harg4 : arg4.IsWhole)
  (arg5 : Memref sig .tc .vmem S2064x128 .f32) (harg5 : arg5.IsWhole)
  (arg6 : Memref sig .tc .vmem S2064x128 .f32) (harg6 : arg6.IsWhole)
  (arg7 : Memref sig .tc .vmem S2x1x2304 .f32) (harg7 : arg7.IsWhole)
  (arg8 : Memref sig .tc .vmem S2064x128 .bf16) (harg8 : arg8.IsWhole)
  (arg9 : Memref sig .tc .vmem S2064x128 .bf16) (harg9 : arg9.IsWhole)
  (arg10 : Memref sig .tc .vmem S2064x128 .f32) (harg10 : arg10.IsWhole)
  (arg11 : Memref sig .tc .vmem S2064x128 .f32) (harg11 : arg11.IsWhole)
  (arg12 : Memref sig .tc .vmem S2x1x2304 .f32) (harg12 : arg12.IsWhole)
  (arg13 : Memref sig .tc .vmem S2304x128 .bf16) (harg13 : arg13.IsWhole)
  (arg14 : Memref sig .tc .vmem S2304x128 .bf16) (harg14 : arg14.IsWhole)
  (arg15 : Memref sig .tc .vmem S2304x128 .bf16) (harg15 : arg15.IsWhole)
  (arg16 : Memref sig .tc .vmem S2304x128 .bf16) (harg16 : arg16.IsWhole)
  (arg17 : Memref sig .tc .vmem S2304x128 .f32) (harg17 : arg17.IsWhole)
  (arg18 : Memref sig .tc .vmem S2304x128 .f32) (harg18 : arg18.IsWhole)
  (arg19 : Memref sig .tc .vmem S2304x128 .f32) (harg19 : arg19.IsWhole)
  (x0 x1 x2 x3 x4 x5 : Vec Ideal S2064x128 .f32) (x6 : Vec Ideal S2x1x2304 .f32)

/-- The blocks a point reads are those of heads `2 * p` and `2 * p + 1`. -/
structure Blocks (D : Data) (p : ℕ) (x0 x1 x2 x3 x4 : Vec Ideal S2064x128 .f32) (x6 : Vec Ideal S2x1x2304 .f32) : Prop where
  hq : Is (φ := .f32) (m := 2064) (n := 128) x1 fun r x => D.q r (128 * p + x)
  hk : Is (φ := .f32) (m := 2064) (n := 128) x3 fun r x => D.k r (128 * p + x)
  hv : Is (φ := .f32) (m := 2064) (n := 128) x4 fun r x => D.v r (128 * p + x)
  hg : Is (φ := .f32) (m := 2064) (n := 128) (mulf (F := Ideal) (s := S2064x128) (φ := .f32) x0 (k0_pay3 (F := Ideal) x2)) fun r x => D.g r (128 * p + x)
  hc : Is3 (m := 2) (n := 2304) x6 fun j s => pad D.c s (2 * p + j)

variable {D : Data} {p : ℕ} (hB : Blocks D p x0 x1 x2 x3 x4 x6)

theorem Blocks.shift0 {x0 x1 x2 x3 x4 : Vec Ideal S2064x128 .f32} {x6 : Vec Ideal S2x1x2304 .f32} (hB : Blocks D p x0 x1 x2 x3 x4 x6) :
    Is (φ := .f32) (kernelRun0_A.sl.r c arg7 harg7 x6) fun _ s => (D.head (2 * p + 0)).C s :=
  shift_row harg7 0 (by intro a; fin_cases a <;> decide) hB.hc

theorem Blocks.shift1 {x0 x1 x2 x3 x4 : Vec Ideal S2064x128 .f32} {x6 : Vec Ideal S2x1x2304 .f32} (hB : Blocks D p x0 x1 x2 x3 x4 x6) :
    Is (φ := .f32) (kernelRun0_A.sl.v697 c arg7 harg7 x6) fun _ s => (D.head (2 * p + 1)).C s :=
  shift_row harg7 1 (by intro a; fin_cases a <;> decide) hB.hc

include hB

/-- The keys' gradient's block. -/
theorem dk_block (r : Fin 2064) (x : Fin 128) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 (ix2 r x)
      = ((D.dk (2 * p + x / 64) r (x % 64) : ℝ) : EReal) := by
  have hx : x.val / 64 < 2 := by omega
  refine (congrFun (View.read_writes_junk_eq_canon VO0_9 _) _).trans ((one_write (by intro a; fin_cases a <;> decide) _ r x).trans ?_)
  have hH := loads_hold c harg1 harg2 harg3 harg4 harg5 arg13 arg14 arg15 arg16 D p hB.hq hB.hk hB.hv hB.hg
  have := keys_run c arg1 harg1 arg2 harg2 arg3 harg3 arg4 harg4 arg5 harg5 arg7 harg7 arg13 arg14 arg15 arg16 arg18 x0 x1 x2 x3 x4 x6 hH
    (hB.shift0 c arg7 harg7) (hB.shift1 c arg7 harg7)
  refine (read_is arg18.view (by intro a; fin_cases a <;> decide) this r x).trans ?_
  simp only [acc, Nat.zero_add, lims_all hx]
  rfl

/-- The values' gradient's block. -/
theorem dv_block (r : Fin 2064) (x : Fin 128) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 (ix2 r x)
      = ((D.dv (2 * p + x / 64) r (x % 64) : ℝ) : EReal) := by
  have hx : x.val / 64 < 2 := by omega
  refine (congrFun (View.read_writes_junk_eq_canon VO0_10 _) _).trans ((one_write (by intro a; fin_cases a <;> decide) _ r x).trans ?_)
  have hH := loads_hold c harg1 harg2 harg3 harg4 harg5 arg13 arg14 arg15 arg16 D p hB.hq hB.hk hB.hv hB.hg
  have := values_run c arg1 harg1 arg2 harg2 arg3 harg3 arg4 harg4 arg5 harg5 arg7 harg7 arg13 arg14 arg15 arg16 arg19 x0 x1 x2 x3 x4 x6 hH
    (hB.shift0 c arg7 harg7) (hB.shift1 c arg7 harg7)
  refine (read_is arg19.view (by intro a; fin_cases a <;> decide) this r x).trans ?_
  simp only [acc, Nat.zero_add, lims_all hx]
  rfl

/-- The queries' gradient's block. -/
theorem dq_block (r : Fin 2064) (x : Fin 128) :
    out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 (ix2 r x)
      = ((D.dq (2 * p + x / 64) r (x % 64) : ℝ) : EReal) := by
  have hx : x.val / 64 < 2 := by omega
  refine (congrFun (View.read_writes_junk_eq_canon VO0_7 _) _).trans ((one_write (by intro a; fin_cases a <;> decide) _ r x).trans ?_)
  have hH := loads_hold c harg1 harg2 harg3 harg4 harg5 arg13 arg14 arg15 arg16 D p hB.hq hB.hk hB.hv hB.hg
  have := queries_run c arg1 harg1 arg2 harg2 arg3 harg3 arg4 harg4 arg5 harg5 arg7 harg7 arg13 arg14 arg15 arg16 x0 x1 x2 x3 x4 x6 hH
    (hB.shift0 c arg7 harg7) (hB.shift1 c arg7 harg7)
  refine (readCov2 (Val := Elt Ideal) (e := .f32) arg17.view (R := 2304) (W := 128) (o := 0) (l := 0) (h := 2064) (k := 128)
    (by intro a; fin_cases a <;> decide) _ r x).trans ((this _ _ ?_).trans ?_)
  · rw [show ((⟨0 + x.val, by omega⟩ : Fin 128) : ℕ) / 64 = x.val / 64 by simp, lims_all hx]
    show 0 + r.val < 2304
    omega
  · simp only [Nat.zero_add]
    rfl

/-- The shifts' gradient's block. -/
theorem dc_block (j : Fin 2) (s : Fin 2304) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 (ix3 j 0 s)
      = ((D.dc (2 * p + j) s : ℝ) : EReal) := by
  refine (congrFun (View.read_writes_junk_eq_canon VO0_11 _) _).trans ?_
  have hH := loads_hold c harg1 harg2 harg3 harg4 harg5 arg13 arg14 arg15 arg16 D p hB.hq hB.hk hB.hv hB.hg
  refine (shifts_run c arg1 harg1 arg2 harg2 arg3 harg3 arg4 harg4 arg5 harg5 arg7 harg7 arg12 arg13 arg14 arg15 arg16 arg18 arg19 x0 x1 x2 x3 x4 x6 hH
    (hB.shift0 c arg7 harg7) (hB.shift1 c arg7 harg7) i arg6 harg6 arg8 harg8 arg9 harg9 arg10 harg10 arg11 harg11
    harg12 harg13 harg14 harg15 harg16 arg17 harg17 harg18 harg19 x5 j s).trans ?_
  rw [accC, lims_all j.2]
  rfl

omit hB

/-- The gate's gradient's block, on any values. -/
theorem dgate_block (r : Fin 2064) (x : Fin 128) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 (ix2 r x)
      = k0_pay4 (F := Ideal) x2 x0 x5 (ix2 r x) := by
  refine (congrFun (View.read_writes_junk_eq_canon VO0_8 _) _).trans ((one_write (by intro a; fin_cases a <;> decide) _ r x).trans ?_)
  have e0 := whole_read harg1 x0 (by intro a; fin_cases a <;> decide)
  have e2 := whole_read harg3 x2 (by intro a; fin_cases a <;> decide)
  have e5 := whole_read harg6 x5 (by intro a; fin_cases a <;> decide)
  exact congrFun (congr (congr (congrArg (k0_pay4 (F := Ideal)) e2) e0) e5) (ix2 r x)

end

end Cert.Attn

end
-- ==== Proof.Padded.lean ====
/- The shifts as the kernel finds them: transposed and filled up with zeros before the launch. -/
module

public import proofs.«01_k».proof.Proof.Load
public import Idealize.ShloMosaic.Lib.Claim
public import Idealize.ShloMosaic.Lib.KernelVsHost
public import Idealize.ShloMosaic.Lib.ValueLayout
public import Idealize.ShloMosaic.Lib.Pipeline.ValueKit

@[expose] public section

set_option maxRecDepth 16384

noncomputable section

namespace Cert.Attn

open Idealize.ShloMosaic Idealize.ShloMosaic.TcCoe Idealize.SL.Sem Finset
open Cert.AttnGradIdeal Cert.AttnGradIdeal.Gen

/-- Transposing a matrix of shifts and padding its rows with `z` to 2304. -/
theorem padT_apply {x : Mat .f32 2064 16} {z : (⟨0, ![]⟩ : Shape).Idx → EReal}
    (hT : (⟨2, ![2064, 16]⟩ : Shape).Transposes [1, 0] ⟨2, ![16, 2064]⟩) (hp) (h1) (h : Fin 16) (s : Fin 2304) :
    Idealize.ShloMosaic.pad (s := ⟨2, ![16, 2064]⟩) ⟨2, ![16, 2304]⟩ ![0, 0] ![0, 240] ![0, 0] (transpose ⟨2, ![16, 2064]⟩ [1, 0] x hT) z hp h1 (ix2 h s)
      = if hs : s.val < 2064 then x (ix2 ⟨s, hs⟩ h) else z ix0 := by
  by_cases hs : s.val < 2064
  · rw [dif_pos hs, pad_apply_of_inside _ _ _ _ _ _ _ _ (ix2 h ⟨s.val, hs⟩) (fun a => by
      fin_cases a
      · show h.val = 0 + h.val * (0 + 1); omega
      · show s.val = 0 + s.val * (0 + 1); omega)]
    exact transpose_apply _ x hT _ _ fun a => by fin_cases a <;> rfl
  · rw [dif_neg hs, pad_apply_of_not_inside _ _ _ _ _ _ _ _ 1 (fun ⟨_, _, h3⟩ => hs (by
      have : (s.val - 0) / (0 + 1) < 2064 := h3
      omega))]
    exact congrArg z (Subsingleton.elim _ _)

variable (m : (ℓ : Loc nD τ sig) → Buf (Elt Ideal) ℓ) (c : Dev nD)

theorem shifts_entry (h : Fin 16) (s : Fin 2304) :
    V m c main_v2 (ix3 h 0 s) = if hs : s.val < 2064 then m ((c : Thread nD τ).loc main_arg4) (ix2 ⟨s, hs⟩ h) else (0 : EReal) := by
  show StableHlo.after [_, _, _, _, _] _ _ _ = _
  after_results
  have e := shapeCast_apply (s := S16x2304) (t := S16x1x2304)
    (Idealize.ShloMosaic.pad S16x2304 ![0, 0] ![0, 240] ![0, 0]
      (transpose S16x2064 [1, 0] (m ((c : Thread nD τ).loc main_arg4) : Mat .f32 2064 16) transposes_S2064x16_S16x2064_1_0)
      (sitofp (F := Ideal) .f32 (constantI S_ 32 0#32)) pads_S16x2064_S16x2304_000_02400 h_S_)
    shapeCasts_S16x2304_S16x1x2304 (ix3 h 0 s) (ix2 h s) (by
      rw [rowMajor_val2 _ 2304 rfl, rowMajor_val3 _ 2304 2304 (by simp) rfl]; simp)
  refine Eq.trans e ((padT_apply _ _ _ h s).trans ?_)
  have z : sitofp (F := Ideal) .f32 (constantI S_ 32 0#32) ix0 = 0 := by
    show ((((0#32).toInt : ℝ)) : EReal) = 0
    simp
  rw [z]

end Cert.Attn

end
-- ==== Proof.Arrays.lean ====
/- The kernel's five result arrays, each one function of the arguments. -/
module

public import proofs.«01_k».proof.Proof.Outs
public import proofs.«01_k».proof.Proof.Padded
public import proofs.«01_k».proof.Proof.Gen.AttnGradIdeal.Value

@[expose] public section

set_option maxRecDepth 16384

noncomputable section

namespace Cert.Attn

open Idealize.ShloMosaic Idealize.ShloMosaic.TcCoe Idealize.SL.Sem Finset

/-- The logistic function, as both programs spell it. -/
def gate (g : EReal) : EReal := Ideal.div ((1 : ℝ) : EReal) (((1 : ℝ) : EReal) + Ideal.exp (-g))

theorem gate_real (g : EReal) : ∃ y : ℝ, gate g = y := by
  induction g using EReal.rec with
  | bot => exact ⟨0, by
      rw [gate, EReal.neg_bot, Ideal.exp_top, EReal.coe_add_top, Ideal.div, if_neg EReal.top_ne_zero, EReal.inv_top, mul_zero]
      rfl⟩
  | coe g =>
    refine ⟨1 * (1 / (1 + Real.exp (-g))), ?_⟩
    rw [gate, ← EReal.coe_neg, Ideal.exp_coe, ← EReal.coe_add, Ideal.div_coe (by positivity), EReal.coe_mul]
  | top => exact ⟨1 * (1 / 1), by
      rw [gate, EReal.neg_top, Ideal.exp_bot, add_zero, Ideal.div_coe one_ne_zero, EReal.coe_mul]⟩

/-- The arguments. -/
structure Args where
  dmo : Mat .f32 2064 1024
  qg : Mat .f32 2064 2048
  z : Mat .f32 2064 2304
  o : Mat .f32 2064 1024
  c : Mat .f32 2064 16

/-- An array's entries as reals, zero outside the array. -/
def entry {φ : FTy} {m n : ℕ} (a : Mat φ m n) (r x : ℕ) : ℝ := if h : r < m ∧ x < n then (a (ix2 ⟨r, h.1⟩ ⟨x, h.2⟩)).toReal else 0

theorem entry_eq {φ : FTy} {m n : ℕ} {a : Mat φ m n} {r : Fin m} {x : Fin n} (h : ∃ y : ℝ, a (ix2 r x) = y) :
    ((entry a r x : ℝ) : EReal) = a (ix2 r x) := by
  obtain ⟨y, hy⟩ := h
  rw [entry, dif_pos ⟨r.2, x.2⟩]
  show ((a (ix2 r x)).toReal : EReal) = _
  rw [hy, EReal.toReal_coe]

namespace Args

variable (A : Args)

/-- The gate of row `r` and lane `x`. -/
def gateAt (r : Fin 2064) (x : Fin 1024) : EReal := gate (A.qg (ix2 r ⟨1024 + x, by omega⟩))

/-- The cotangent of the output before its gate. -/
def gated : Mat .f32 2064 1024 := fun y => A.dmo y * A.gateAt (y 0) (y 1)

/-- The operands as reals. -/
def data : Data where
  q := entry A.qg
  k := entry A.z
  g := entry A.gated
  v r x := entry A.z r (1024 + x)
  c := entry A.c

/-- The arguments that the precondition bounds are reals. -/
structure Finite : Prop where
  dmo : ∀ r x, ∃ y : ℝ, A.dmo (ix2 r x) = y
  q : ∀ r (x : Fin 1024), ∃ y : ℝ, A.qg (ix2 r ⟨x, by omega⟩) = y
  z : ∀ r (x : Fin 2048), ∃ y : ℝ, A.z (ix2 r ⟨x, by omega⟩) = y
  c : ∀ r x, ∃ y : ℝ, A.c (ix2 r x) = y

variable {A} (hA : A.Finite)
include hA

theorem Finite.data_q (r : Fin 2064) (x : Fin 1024) : ((A.data.q r x : ℝ) : EReal) = A.qg (ix2 r ⟨x, by omega⟩) :=
  entry_eq (r := r) (x := ⟨x, by omega⟩) (hA.q r x)
theorem Finite.data_k (r : Fin 2064) (x : Fin 1024) : ((A.data.k r x : ℝ) : EReal) = A.z (ix2 r ⟨x, by omega⟩) :=
  entry_eq (r := r) (x := ⟨x, by omega⟩) (hA.z r ⟨x, by omega⟩)
theorem Finite.data_v (r : Fin 2064) (x : Fin 1024) : ((A.data.v r x : ℝ) : EReal) = A.z (ix2 r ⟨1024 + x, by omega⟩) :=
  entry_eq (r := r) (x := ⟨1024 + x, by omega⟩) (hA.z r ⟨1024 + x, by omega⟩)
theorem Finite.data_g (r : Fin 2064) (x : Fin 1024) : ((A.data.g r x : ℝ) : EReal) = A.dmo (ix2 r x) * A.gateAt r x :=
  entry_eq (a := A.gated) (by
    obtain ⟨y, hy⟩ := hA.dmo r x
    obtain ⟨s, hs⟩ := gate_real (A.qg (ix2 r ⟨1024 + x, by omega⟩))
    exact ⟨y * s, by
      show A.dmo (ix2 r x) * gate (A.qg (ix2 r ⟨1024 + x, by omega⟩)) = _
      rw [hy, hs, EReal.coe_mul]⟩)
theorem Finite.data_c (r : Fin 2064) (x : Fin 16) : ((A.data.c r x : ℝ) : EReal) = A.c (ix2 r x) :=
  entry_eq (hA.c r x)

end Args

section Kernel

open Cert.AttnGradIdeal Cert.AttnGradIdeal.Gen Cert.AttnGradIdeal.Value

variable (m : (ℓ : Loc nD τ sig) → Buf (Elt Ideal) ℓ) (c : Dev nD)

theorem logistic_apply (b : Mat .f32 2064 128) (y) : k0_pay3 (F := Ideal) b y = gate (b y) := by
  show Ideal.div (Ideal.ofBits .f32 0x3F800000#32) (Ideal.ofBits .f32 0x3F800000#32 +
    Ideal.exp (Ideal.ofBits .f32 0x00000000#32 - b y)) = _
  rw [bits_one, bits_zero, zero_sub]
  rfl

theorem gated_apply (a b : Mat .f32 2064 128) (y) : mulf (F := Ideal) (s := S2064x128) (φ := .f32) a (k0_pay3 (F := Ideal) b) y = a y * gate (b y) := by
  rw [← logistic_apply]; rfl

theorem gateGrad_apply (b a o : Mat .f32 2064 128) (y) :
    k0_pay4 (F := Ideal) b a o y = a y * o y * gate (b y) * (((1 : ℝ) : EReal) - gate (b y)) := by
  rw [← logistic_apply, ← bits_one]; rfl

/-- The arguments as launched. -/
abbrev args : Args where
  dmo := m ((c : Thread nD τ).loc main_arg0)
  qg := m ((c : Thread nD τ).loc main_arg1)
  z := m ((c : Thread nD τ).loc main_arg2)
  o := m ((c : Thread nD τ).loc main_arg3)
  c := m ((c : Thread nD τ).loc main_arg4)

theorem index_in : ∀ t : Fin cfg0.N, (win0_0.index t 0 = 0 ∧ win0_0.index t 1 = t.val) ∧ (win0_1.index t 0 = 0 ∧ win0_1.index t 1 = t.val)
    ∧ (win0_2.index t 0 = 0 ∧ win0_2.index t 1 = 8 + t.val) ∧ (win0_3.index t 0 = 0 ∧ win0_3.index t 1 = t.val)
    ∧ (win0_4.index t 0 = 0 ∧ win0_4.index t 1 = 8 + t.val) ∧ (win0_5.index t 0 = 0 ∧ win0_5.index t 1 = t.val)
    ∧ (win0_6.index t 0 = t.val ∧ win0_6.index t 1 = 0 ∧ win0_6.index t 2 = 0) :=
  (by decide +kernel : ∀ t : Fin grid0.N, _)

theorem index_out : ∀ t : Fin cfg0.N, (win0_7.index t 0 = 0 ∧ win0_7.index t 1 = t.val) ∧ (win0_8.index t 0 = 0 ∧ win0_8.index t 1 = t.val)
    ∧ (win0_9.index t 0 = 0 ∧ win0_9.index t 1 = t.val) ∧ (win0_10.index t 0 = 0 ∧ win0_10.index t 1 = t.val)
    ∧ (win0_11.index t 0 = t.val ∧ win0_11.index t 1 = 0 ∧ win0_11.index t 2 = 0) :=
  (by decide +kernel : ∀ t : Fin grid0.N, _)

theorem block_lt (t : Fin cfg0.N) : t.val < 8 := t.isLt

theorem iblk0_apply (t : Fin cfg0.N) (r : Fin 2064) (x : Fin 128) :
    iblk m c 0 t (ix2 r x) = (args m c).dmo (ix2 r ⟨(128 * t + x), by have := block_lt t; omega⟩) := by
  have e := (index_in t).1
  have := block_lt t
  blk_ext [iblk, V, e.1, e.2]

theorem iblk1_apply (t : Fin cfg0.N) (r : Fin 2064) (x : Fin 128) :
    iblk m c 1 t (ix2 r x) = (args m c).qg (ix2 r ⟨(128 * t + x), by have := block_lt t; omega⟩) := by
  have e := (index_in t).2.1
  have := block_lt t
  blk_ext [iblk, V, e.1, e.2]

theorem iblk2_apply (t : Fin cfg0.N) (r : Fin 2064) (x : Fin 128) :
    iblk m c 2 t (ix2 r x) = (args m c).qg (ix2 r ⟨1024 + (128 * t + x), by have := block_lt t; omega⟩) := by
  have e := (index_in t).2.2.1
  have := block_lt t
  blk_ext [iblk, V, e.1, e.2]

theorem iblk3_apply (t : Fin cfg0.N) (r : Fin 2064) (x : Fin 128) :
    iblk m c 3 t (ix2 r x) = (args m c).z (ix2 r ⟨(128 * t + x), by have := block_lt t; omega⟩) := by
  have e := (index_in t).2.2.2.1
  have := block_lt t
  blk_ext [iblk, V, e.1, e.2]

theorem iblk4_apply (t : Fin cfg0.N) (r : Fin 2064) (x : Fin 128) :
    iblk m c 4 t (ix2 r x) = (args m c).z (ix2 r ⟨1024 + (128 * t + x), by have := block_lt t; omega⟩) := by
  have e := (index_in t).2.2.2.2.1
  have := block_lt t
  blk_ext [iblk, V, e.1, e.2]

theorem iblk5_apply (t : Fin cfg0.N) (r : Fin 2064) (x : Fin 128) :
    iblk m c 5 t (ix2 r x) = (args m c).o (ix2 r ⟨(128 * t + x), by have := block_lt t; omega⟩) := by
  have e := (index_in t).2.2.2.2.2.1
  have := block_lt t
  blk_ext [iblk, V, e.1, e.2]

theorem iblk6_apply (t : Fin cfg0.N) (j : Fin 2) (s : Fin 2304) :
    iblk m c 6 t (ix3 j 0 s) = V m c main_v2 (ix3 ⟨2 * t + j, by have := block_lt t; omega⟩ 0 s) := by
  have e := (index_in t).2.2.2.2.2.2
  have := block_lt t
  unfold iblk
  refine congrArg (V m c main_v2) (funext fun a => Fin.ext ?_)
  fin_cases a
  · show win0_6.index t 0 * 2 + 1 * j.val = 2 * t.val + j.val; omega
  · show win0_6.index t 1 * 1 + 1 * 0 = 0; omega
  · show win0_6.index t 2 * 2304 + 1 * s.val = s.val; omega

variable {m} {c} (hA : (args m c).Finite)
include hA

/-- Point `t` reads the operands of heads `2 * t` and `2 * t + 1`. -/
theorem point_blocks (t : Fin cfg0.N) :
    Blocks (args m c).data t.val (iblk m c 0 t) (iblk m c 1 t) (iblk m c 2 t) (iblk m c 3 t) (iblk m c 4 t) (iblk m c 6 t) where
  hq r x := (iblk1_apply m c t r x).trans (hA.data_q r ⟨128 * t + x, by have := block_lt t; omega⟩).symm
  hk r x := (iblk3_apply m c t r x).trans (hA.data_k r ⟨128 * t + x, by have := block_lt t; omega⟩).symm
  hv r x := (iblk4_apply m c t r x).trans (hA.data_v r ⟨128 * t + x, by have := block_lt t; omega⟩).symm
  hg r x := by
    refine Eq.trans ?_ (hA.data_g r ⟨128 * t + x, by have := block_lt t; omega⟩).symm
    refine (gated_apply _ _ _).trans ?_
    rw [iblk0_apply, iblk2_apply]
    rfl
  hc j s := by
    show _ = ((pad (args m c).data.c s (2 * t.val + j) : ℝ) : EReal)
    rw [iblk6_apply, shifts_entry]
    split
    · rename_i hs
      rw [pad, if_pos hs]
      exact (hA.data_c ⟨s, hs⟩ ⟨2 * t + j, by have := block_lt t; omega⟩).symm
    · rename_i hs
      rw [pad, if_neg hs]; rfl

/-- The queries' gradient. -/
theorem dq_array : (dats m 0 c).arrAt 7 cfg0.N
    = fun y : S2064x1024.Idx => (((args m c).data.dq ((y 1).val / 64) (y 0).val ((y 1).val % 64) : ℝ) : EReal) := by
  refine (dats m 0 c).arrAt_eq_of_covers 7 _ (by decide +kernel) fun t hf y => ?_
  have e := (index_out t).1
  have := block_lt t
  blk_simp
  rw [after0_7]
  simp only [outsAt0, e.1, e.2]
  obtain ⟨r, x, rfl⟩ : ∃ (r : Fin 2064) (x : Fin 128), y = ix2 r x := ⟨y 0, y 1, funext fun a => by fin_cases a <;> rfl⟩
  refine (dq_block c _ _ _ _ _ _ _ _ _ _ _ _ _ _ _ _ _ _ _ _ _ _ _ _ _ _ _ _ _ _ _ _ _ _ _ _ _ _ _ _ _ _ _ _ _ _ (point_blocks hA t) r x).trans ?_
  show ((_ : ℝ) : EReal) = (((args m c).data.dq ((t.val * 128 + x.val) / 64) (0 * 2064 + r.val) ((t.val * 128 + x.val) % 64) : ℝ) : EReal)
  rw [show (t.val * 128 + x.val) / 64 = 2 * t.val + x.val / 64 by omega, show (t.val * 128 + x.val) % 64 = x.val % 64 by omega,
    Nat.zero_mul, Nat.zero_add]

/-- The keys' gradient. -/
theorem dk_array : (dats m 0 c).arrAt 9 cfg0.N
    = fun y : S2064x1024.Idx => (((args m c).data.dk ((y 1).val / 64) (y 0).val ((y 1).val % 64) : ℝ) : EReal) := by
  refine (dats m 0 c).arrAt_eq_of_covers 9 _ (by decide +kernel) fun t hf y => ?_
  have e := (index_out t).2.2.1
  have := block_lt t
  blk_simp
  rw [after0_9]
  simp only [outsAt0, e.1, e.2]
  obtain ⟨r, x, rfl⟩ : ∃ (r : Fin 2064) (x : Fin 128), y = ix2 r x := ⟨y 0, y 1, funext fun a => by fin_cases a <;> rfl⟩
  refine (dk_block c _ _ _ _ _ _ _ _ _ _ _ _ _ _ _ _ _ _ _ _ _ _ _ _ _ _ _ _ _ _ _ _ _ _ _ _ _ _ _ _ _ _ _ _ _ _ (point_blocks hA t) r x).trans ?_
  show ((_ : ℝ) : EReal) = (((args m c).data.dk ((t.val * 128 + x.val) / 64) (0 * 2064 + r.val) ((t.val * 128 + x.val) % 64) : ℝ) : EReal)
  rw [show (t.val * 128 + x.val) / 64 = 2 * t.val + x.val / 64 by omega, show (t.val * 128 + x.val) % 64 = x.val % 64 by omega,
    Nat.zero_mul, Nat.zero_add]

/-- The values' gradient. -/
theorem dv_array : (dats m 0 c).arrAt 10 cfg0.N
    = fun y : S2064x1024.Idx => (((args m c).data.dv ((y 1).val / 64) (y 0).val ((y 1).val % 64) : ℝ) : EReal) := by
  refine (dats m 0 c).arrAt_eq_of_covers 10 _ (by decide +kernel) fun t hf y => ?_
  have e := (index_out t).2.2.2.1
  have := block_lt t
  blk_simp
  rw [after0_10]
  simp only [outsAt0, e.1, e.2]
  obtain ⟨r, x, rfl⟩ : ∃ (r : Fin 2064) (x : Fin 128), y = ix2 r x := ⟨y 0, y 1, funext fun a => by fin_cases a <;> rfl⟩
  refine (dv_block c _ _ _ _ _ _ _ _ _ _ _ _ _ _ _ _ _ _ _ _ _ _ _ _ _ _ _ _ _ _ _ _ _ _ _ _ _ _ _ _ _ _ _ _ _ _ (point_blocks hA t) r x).trans ?_
  show ((_ : ℝ) : EReal) = (((args m c).data.dv ((t.val * 128 + x.val) / 64) (0 * 2064 + r.val) ((t.val * 128 + x.val) % 64) : ℝ) : EReal)
  rw [show (t.val * 128 + x.val) / 64 = 2 * t.val + x.val / 64 by omega, show (t.val * 128 + x.val) % 64 = x.val % 64 by omega,
    Nat.zero_mul, Nat.zero_add]

/-- The shifts' gradient. -/
theorem dc_array : (dats m 0 c).arrAt 11 cfg0.N
    = fun y : S16x1x2304.Idx => (((args m c).data.dc (y 0).val (y 2).val : ℝ) : EReal) := by
  refine (dats m 0 c).arrAt_eq_of_covers 11 _ (by decide +kernel) fun t hf y => ?_
  have e := (index_out t).2.2.2.2
  have := block_lt t
  blk_simp
  rw [after0_11]
  simp only [outsAt0, e.1, e.2.1, e.2.2]
  obtain ⟨j, s, rfl⟩ : ∃ (j : Fin 2) (s : Fin 2304), y = ix3 j 0 s := ⟨y 0, y 2, funext fun a => by
    fin_cases a
    · rfl
    · exact Subsingleton.elim (α := Fin 1) _ _
    · rfl⟩
  refine (dc_block c _ _ _ _ _ _ _ _ _ _ _ _ _ _ _ _ _ _ _ _ _ _ _ _ _ _ _ _ _ _ _ _ _ _ _ _ _ _ _ _ _ _ _ _ _ _ (point_blocks hA t) j s).trans ?_
  show ((_ : ℝ) : EReal) = (((args m c).data.dc (t.val * 2 + j.val) (0 * 2304 + s.val) : ℝ) : EReal)
  rw [Nat.zero_mul, Nat.zero_add, Nat.mul_comm]

omit hA in
/-- The gate's gradient, of any arguments. -/
theorem dgate_array : (dats m 0 c).arrAt 8 cfg0.N
    = fun y : S2064x1024.Idx => (args m c).dmo y * (args m c).o y * (args m c).gateAt (y 0) (y 1)
        * (((1 : ℝ) : EReal) - (args m c).gateAt (y 0) (y 1)) := by
  refine (dats m 0 c).arrAt_eq_of_covers 8 _ (by decide +kernel) fun t hf y => ?_
  have e := (index_out t).2.1
  have := block_lt t
  obtain ⟨r, x, rfl⟩ : ∃ (r : Fin 2064) (x : Fin 128), y = ix2 r x := ⟨y 0, y 1, funext fun a => by fin_cases a <;> rfl⟩
  have ey : (((cfg0.win 8).blk t).view.emb (ix2 r x) : S2064x1024.Idx) = ix2 r ⟨128 * t + x, by omega⟩ := by
    blk_ext [e.1, e.2]
  rw [ey]
  blk_simp
  rw [after0_8]
  simp only [outsAt0]
  refine (dgate_block c _ _ _ _ _ _ _ _ _ _ _ _ _ _ _ _ _ _ _ _ _ _ _ _ _ _ _ _ _ _ _ _ _ _ _ _ _ _ _ _ _ _ _ _ _ _ r x).trans ?_
  refine (gateGrad_apply _ _ _ _).trans ?_
  rw [iblk0_apply, iblk2_apply, iblk5_apply]
  rfl

end Kernel

end Cert.Attn

end
-- ==== Proof.Operands.lean ====
/- The precondition: an array whose absolute values stay below the infinity holds reals. -/
module

public import proofs.«01_k».proof.Defs
public import proofs.«01_k».proof.Proof.Arrays
public import proofs.«01_k».proof.Proof.Gen.Pre_finite_operands

@[expose] public section

noncomputable section

namespace Cert.Attn

open Idealize.ShloMosaic Idealize.ShloMosaic.TcCoe Idealize.SL.Sem

theorem bits_inf : Ideal.ofBits .f32 0x7F800000#32 = ⊤ := by simp [Ideal.ofBits, Ideal.ieee]

/-- An extended real below the infinity in absolute value is a real. -/
theorem real_of_abs {a : EReal}
    (h : FloatOps.cmpf (F := Ideal) (φ := .f32) .olt (FloatOps.hostAbsf (F := Ideal) (φ := .f32) a) (Ideal.ofBits .f32 0x7F800000#32) = 1#1) :
    ∃ y : ℝ, a = y := by
  have e : max a (-a) < ⊤ := by
    have : BitVec.ofBool (decide (max a (-a) < Ideal.ofBits .f32 0x7F800000#32)) = 1#1 := h
    rw [bits_inf] at this
    by_contra hc
    rw [decide_eq_false hc] at this
    exact absurd this (by decide)
  induction a using EReal.rec with
  | coe a => exact ⟨a, rfl⟩
  | bot => exact absurd e (by simp)
  | top => exact absurd e (by simp)

open Cert.AttnGradIdeal Cert.AttnGradIdeal.Gen

/-- The precondition gives the reals. -/
theorem finite_of_pre [Cert.Pre_finite_operands.Facts] (m : (ℓ : Loc nD τ sig) → Buf (Elt Ideal) ℓ)
    (h : Cert.Pre_AttnGradIdeal_finite_operands m) (c : Dev nD) : (args m c).Finite where
  dmo r x := real_of_abs (congrFun (h c).1 (ix2 r x))
  q r x := by
    obtain ⟨y, hy⟩ := real_of_abs (congrFun (h c).2.1 (ix2 r x))
    refine ⟨y, Eq.trans ?_ hy⟩
    exact (extractStridedSlice_apply ![0, 0] (args m c).qg Cert.Pre_finite_operands.Facts.slices_S2064x2048_S2064x1024_0_0 (ix2 r x) (ix2 r ⟨x, by omega⟩)
      (fun a => by match a with | ⟨0, _⟩ => exact (Nat.zero_add _).symm | ⟨1, _⟩ => exact (Nat.zero_add _).symm)).symm
  z r x := by
    obtain ⟨y, hy⟩ := real_of_abs (congrFun (h c).2.2.1 (ix2 r x))
    refine ⟨y, Eq.trans ?_ hy⟩
    exact (extractStridedSlice_apply ![0, 0] (args m c).z Cert.Pre_finite_operands.Facts.slices_S2064x2304_S2064x2048_0_0 (ix2 r x) (ix2 r ⟨x, by omega⟩)
      (fun a => by match a with | ⟨0, _⟩ => exact (Nat.zero_add _).symm | ⟨1, _⟩ => exact (Nat.zero_add _).symm)).symm
  c r x := real_of_abs (congrFun (h c).2.2.2 (ix2 r x))

end Cert.Attn

end
-- ==== Proof.Plain.lean ====
/- The reference's arrays as real arrays, up to the attention's probabilities: its operands head by head, its logits, its
   mask, and the weights, which are those of Head.lean scaled by a positive number of the row's own. -/
module

public import proofs.«01_k».proof.Proof.Arrays
public import proofs.«01_k».proof.Proof.Gen.AttnGradRefIdeal.Read

@[expose] public section

set_option maxRecDepth 16384

noncomputable section

namespace Cert.Attn

open Idealize.ShloMosaic Idealize.ShloMosaic.TcCoe Idealize.SL.Sem Finset

/-! The operations on elements that are reals. -/

section Elements

variable {a b : EReal} {x y : ℝ}

theorem add_co (ha : a = x) (hb : b = y) : FloatOps.addf (F := Ideal) (φ := .f32) a b = ((x + y : ℝ) : EReal) := by
  subst ha hb; exact (EReal.coe_add x y).symm
theorem sub_co (ha : a = x) (hb : b = y) : FloatOps.subf (F := Ideal) (φ := .f32) a b = ((x - y : ℝ) : EReal) := by
  subst ha hb; exact (EReal.coe_sub x y).symm
theorem mul_co (ha : a = x) (hb : b = y) : FloatOps.mulf (F := Ideal) (φ := .f32) a b = ((x * y : ℝ) : EReal) := by
  subst ha hb; exact (EReal.coe_mul x y).symm
theorem neg_co (ha : a = x) : FloatOps.hostNegf (F := Ideal) (φ := .f32) a = ((-x : ℝ) : EReal) := by
  subst ha; exact (EReal.coe_neg x).symm
theorem div_co (ha : a = x) (hb : b = y) (hy : y ≠ 0) : FloatOps.hostDivf (F := Ideal) (φ := .f32) a b = ((x / y : ℝ) : EReal) := by
  subst ha hb
  refine (Ideal.div_coe hy _).trans ?_
  rw [← EReal.coe_mul, mul_one_div]

theorem sum_co {n : ℕ} {f : Fin n → EReal} {g : ℕ → ℝ} (h : ∀ k, f k = g k) : ∑ k, f k = ((∑ k ∈ range n, g k : ℝ) : EReal) :=
  (sum_congr rfl fun k _ => h k).trans (coe_sum_fin g)

theorem dot_co {n : ℕ} {f f' : Fin n → EReal} {g g' : ℕ → ℝ} (h : ∀ k, f k = g k) (h' : ∀ k, f' k = g' k) :
    ∑ k, f k * f' k = ((∑ k ∈ range n, g k * g' k : ℝ) : EReal) :=
  sum_co fun k => by rw [h, h', EReal.coe_mul]

theorem total_co {n : ℕ} {f : Fin n → EReal} {g : ℕ → ℝ} (h : ∀ k, f k = g k) :
    Ideal.ofBits .f32 0x00000000#32 + ∑ k, f k = ((∑ k ∈ range n, g k : ℝ) : EReal) := by
  rw [bits_zero, zero_add, sum_co h]

/-- A maximum of a set that has a real and no `⊤` is a real. -/
theorem max_real {s t u : Shape} {axes : List (Fin s.rank)} (x : s.Idx → EReal) (init : u.Idx → EReal) (h : s.ReducesTo axes t)
    (hu : 0 < u.numel) (j : t.Idx) (hi : init (Shape.Idx.first hu) = ⊥) (ht : ∀ i, x i ≠ ⊤) (i : s.Idx) (hj : h.drop i = j)
    (hx : x i ≠ ⊥) : ∃ M : ℝ, Host.reduce (FloatOps.maximumf (F := Ideal) (φ := .f32)) x init h hu j = (M : EReal) := by
  have e : Host.reduce (FloatOps.maximumf (F := Ideal) (φ := .f32)) x init h hu j
      = (univ.filter fun i => h.drop i = j).sup x := by
    rw [Host.reduce_eq_fold, hi]; rfl
  refine ⟨((univ.filter fun i => h.drop i = j).sup x).toReal, e.trans (EReal.coe_toReal ?_ ?_).symm⟩
  · exact ((Finset.sup_lt_iff bot_lt_top).2 fun i _ => lt_top_iff_ne_top.2 (ht i)).ne
  · exact ((bot_lt_iff_ne_bot.2 hx).trans_le (Finset.le_sup (f := x) (by simp [hj]))).ne'

end Elements

/-- A sum over a row's keys leaves out what the mask leaves out. -/
theorem sum_keys {t : ℕ} (ht : t < 2064) (f : ℕ → ℝ) (h : ∀ s, t < s → f s = 0) : ∑ s ∈ range 2064, f s = ∑ s ∈ range 2304, f s :=
  sum_subset (range_subset_range.2 (by omega)) fun s _ hs => h s (by simp at hs; omega)

section Rows

variable (D : Data) (h d : ℕ) {r : ℕ} (hr : r < 2064)
include hr

theorem Data.head_Q : (D.head h).Q r d = D.q r (64 * h + d) * (1 / 8) := by simp [Data.head, pad, hr]
theorem Data.head_K : (D.head h).K r d = D.k r (64 * h + d) := by simp [Data.head, pad, hr]
theorem Data.head_G : (D.head h).G r d = D.g r (64 * h + d) := by simp [Data.head, pad, hr]
theorem Data.head_V : (D.head h).V r d = D.v r (64 * h + d) := by simp [Data.head, pad, hr]
theorem Data.head_C : (D.head h).C r = D.c r h := by simp [Data.head, pad, hr]

end Rows

open Cert.AttnGradRefIdeal Cert.AttnGradRefIdeal.Gen Cert.AttnGradRefIdeal.Read

/-- The gate, as the reference spells it. -/
theorem gate_at (A : Args) (i : S2064x1024.Idx) : val_main_v6 (F := Ideal) A.qg i = A.gateAt (i 0) (i 1) := by
  rw [val_main_v6_apply, val_main_v5_apply, val_main_cst_0_apply, val_main_v4_apply, val_main_v3_apply, val_main_cst_apply,
    val_main_v2_apply, val_main_v1_apply, val_main_v0_apply]
  show Ideal.div (Ideal.ofBits .f32 0x3F800000#32) (Ideal.ofBits .f32 0x3F800000#32 + Ideal.exp (-A.qg (idx_main_v0 i))) = _
  rw [bits_one]
  exact congrArg (fun j => gate (A.qg j)) (funext fun a => Fin.ext (by match a with | ⟨0, _⟩ => rfl | ⟨1, _⟩ => rfl))

/-- A masked element. -/
theorem mask_at (i : S16x2064x2064.Idx) (a b : EReal) :
    Scalar.select (val_main_v38_1 (F := Ideal) i) a b = if (i 2).val ≤ (i 1).val then a else b := by
  have h1 : (i 1).val < 2064 := (i 1).isLt
  have h2 : (i 2).val < 2064 := (i 2).isLt
  rw [val_main_v38_1_apply, val_main_v37_apply, val_main_v35_apply, val_main_v36_apply, val_main_v32_apply, val_main_v34_apply,
    val_main_v31_apply, val_main_v33_apply]
  show Scalar.select (IntOp.cmpi .sle (BitVec.ofNat 32 (i 2).val) (BitVec.ofNat 32 (i 1).val)) a b = _
  rw [WordCmp.cmpi_sle_ofNat (by omega) (by omega)]
  by_cases h : (i 2).val ≤ (i 1).val <;> simp [h, Scalar.select]

section Finite

variable {A : Args} (hA : A.Finite)
include hA

theorem q_at (i : S2064x16x64.Idx) :
    val_main_v17 (F := Ideal) A.qg i = ((A.data.q (i 0).val (64 * (i 1).val + (i 2).val) : ℝ) : EReal) := by
  have h0 : (i 0).val < 2064 := (i 0).isLt
  have h1 : (i 1).val < 16 := (i 1).isLt
  have h2 : (i 2).val < 64 := (i 2).isLt
  rw [val_main_v17_apply, val_main_v14_apply]
  refine Eq.trans ?_ (hA.data_q ⟨(i 0).val, h0⟩ ⟨64 * (i 1).val + (i 2).val, by omega⟩).symm
  exact congrArg A.qg (funext fun a => Fin.ext (by
    match a with
    | ⟨0, _⟩ => show (((i 0).val * 16 + (i 1).val) * 64 + (i 2).val) / 1024 = (i 0).val; omega
    | ⟨1, _⟩ => show (((i 0).val * 16 + (i 1).val) * 64 + (i 2).val) % 1024 = 64 * (i 1).val + (i 2).val; omega))

theorem k_at (i : S2064x16x64.Idx) :
    val_main_v18 (F := Ideal) A.z i = ((A.data.k (i 0).val (64 * (i 1).val + (i 2).val) : ℝ) : EReal) := by
  have h0 : (i 0).val < 2064 := (i 0).isLt
  have h1 : (i 1).val < 16 := (i 1).isLt
  have h2 : (i 2).val < 64 := (i 2).isLt
  rw [val_main_v18_apply, val_main_v15_apply]
  refine Eq.trans ?_ (hA.data_k ⟨(i 0).val, h0⟩ ⟨64 * (i 1).val + (i 2).val, by omega⟩).symm
  exact congrArg A.z (funext fun a => Fin.ext (by
    match a with
    | ⟨0, _⟩ => show (((i 0).val * 16 + (i 1).val) * 64 + (i 2).val) / 1024 = (i 0).val; omega
    | ⟨1, _⟩ => show (((i 0).val * 16 + (i 1).val) * 64 + (i 2).val) % 1024 = 64 * (i 1).val + (i 2).val; omega))

theorem v_at (i : S2064x16x64.Idx) :
    val_main_v19 (F := Ideal) A.z i = ((A.data.v (i 0).val (64 * (i 1).val + (i 2).val) : ℝ) : EReal) := by
  have h0 : (i 0).val < 2064 := (i 0).isLt
  have h1 : (i 1).val < 16 := (i 1).isLt
  have h2 : (i 2).val < 64 := (i 2).isLt
  rw [val_main_v19_apply, val_main_v16_apply]
  refine Eq.trans ?_ (hA.data_v ⟨(i 0).val, h0⟩ ⟨64 * (i 1).val + (i 2).val, by omega⟩).symm
  exact congrArg A.z (funext fun a => Fin.ext (by
    match a with
    | ⟨0, _⟩ => show (((i 0).val * 16 + (i 1).val) * 64 + (i 2).val) / 1024 = (i 0).val; omega
    | ⟨1, _⟩ =>
      show 1024 + (((i 0).val * 16 + (i 1).val) * 64 + (i 2).val) % 1024 = 1024 + (64 * (i 1).val + (i 2).val); omega))

/-- The gated cotangent, transposed. -/
theorem g_at (i : S16x64x2064.Idx) :
    val_main_v71 (F := Ideal) A.dmo A.qg i = ((A.data.g (i 2).val (64 * (i 0).val + (i 1).val) : ℝ) : EReal) := by
  have h0 : (i 0).val < 16 := (i 0).isLt
  have h1 : (i 1).val < 64 := (i 1).isLt
  have h2 : (i 2).val < 2064 := (i 2).isLt
  rw [val_main_v71_apply, val_main_v70_apply, val_main_v12_apply, gate_at]
  refine Eq.trans ?_ (hA.data_g ⟨(i 2).val, h2⟩ ⟨64 * (i 0).val + (i 1).val, by omega⟩).symm
  have e0 : (((i 2).val * 16 + (i 0).val) * 64 + (i 1).val) / 1024 = (i 2).val := by omega
  have e1 : (((i 2).val * 16 + (i 0).val) * 64 + (i 1).val) % 1024 = 64 * (i 0).val + (i 1).val := by omega
  have e : idx_main_v70 (idx_main_v71 i) = ix2 (⟨(i 2).val, h2⟩ : Fin 2064) (⟨64 * (i 0).val + (i 1).val, by omega⟩ : Fin 1024) :=
    funext fun a => Fin.ext (by match a with | ⟨0, _⟩ => exact e0 | ⟨1, _⟩ => exact e1)
  rw [e]
  rfl

/-- The logit: the head's, and a shift of the query's own. -/
theorem logit_at (i : S16x2064x2064.Idx) : val_main_v30 (F := Ideal) A.qg A.z A.c i
    = (((A.data.head (i 0).val).lg (i 1).val (i 2).val + A.data.c (i 1).val (i 0).val : ℝ) : EReal) := by
  have h1 : (i 1).val < 2064 := (i 1).isLt
  have h2 : (i 2).val < 2064 := (i 2).isLt
  rw [val_main_v30_apply, val_main_v26_apply, val_main_v22_apply, val_main_v20_apply, val_main_v21_apply, val_main_cst_2_apply,
    val_main_v25_apply, val_main_v24_apply, val_main_v23_apply, val_main_v29_apply, val_main_v28_apply, val_main_v27_apply]
  refine (sub_co (add_co (mul_co (dot_co
    (g := fun d => A.data.q (i 1).val (64 * (i 0).val + d)) (g' := fun d => A.data.k (i 2).val (64 * (i 0).val + d))
    (fun k => q_at hA _) fun k => k_at hA _) bits_eighth)
    (Eq.trans ?_ (hA.data_c ⟨(i 1).val, h1⟩ ⟨(i 0).val, (i 0).isLt⟩).symm))
    (Eq.trans ?_ (hA.data_c ⟨(i 2).val, h2⟩ ⟨(i 0).val, (i 0).isLt⟩).symm)).trans ?_
  · exact congrArg A.c (funext fun a => Fin.ext (by match a with | ⟨0, _⟩ => rfl | ⟨1, _⟩ => rfl))
  · exact congrArg A.c (funext fun a => Fin.ext (by match a with | ⟨0, _⟩ => rfl | ⟨1, _⟩ => rfl))
  · refine congrArg _ ?_
    simp only [Head.lg, Data.head_Q _ _ _ h1, Data.head_K _ _ _ h2, Data.head_C _ _ h2]
    rw [sum_mul, add_sub_right_comm]
    refine congrArg (· - _ + _) (sum_congr rfl fun d _ => ?_)
    show A.data.q (i 1).val (64 * (i 0).val + d) * A.data.k (i 2).val (64 * (i 0).val + d) * (1 / 8) = _
    ring

/-- The masked logit. -/
theorem masked_at (i : S16x2064x2064.Idx) : val_main_v38_0 (F := Ideal) A.qg A.z A.c i = if (i 2).val ≤ (i 1).val then
    (((A.data.head (i 0).val).lg (i 1).val (i 2).val + A.data.c (i 1).val (i 0).val : ℝ) : EReal) else ⊥ := by
  rw [val_main_v38_0_apply, mask_at, logit_at hA, val_main_call0_v2_apply, val_main_call0_v0_apply, val_main_cst_3_apply]
  exact congrArg (ite _ _) bits_negInf

/-- The row's maximum is a real. -/
theorem max_at (j : S16x2064.Idx) : ∃ M : ℝ, val_main_v46 (F := Ideal) A.qg A.z A.c j = (M : EReal) := by
  obtain ⟨M, hM⟩ := max_real (val_main_v38_0 (F := Ideal) A.qg A.z A.c) (val_main_cst_4 (F := Ideal))
    reducesTo_S16x2064x2064_S16x2064_d2 h_S_ j bits_negInf (fun i => by
      rw [masked_at hA]; split
      · exact EReal.coe_ne_top _
      · exact bot_ne_top)
    (ix3 (⟨(j 0).val, (j 0).isLt⟩ : Fin 16) (⟨(j 1).val, (j 1).isLt⟩ : Fin 2064) (⟨(j 1).val, (j 1).isLt⟩ : Fin 2064))
    (funext fun b => Fin.ext (by match b with | ⟨0, _⟩ => rfl | ⟨1, _⟩ => rfl)) (by
      rw [masked_at hA]
      exact (if_pos le_rfl).trans_ne (EReal.coe_ne_bot _))
  refine ⟨M, ?_⟩
  rw [val_main_v46_apply, val_main_v45_apply, val_main_cst_6_apply]
  show max (Ideal.ofBits .f32 0xFF800000#32) (val_main_v39 (F := Ideal) A.qg A.z A.c j) = _
  rw [bits_negInf, max_eq_right bot_le]
  exact hM

/-- The maxima, row by row. -/
theorem maxima : ∃ M : ℕ → ℕ → ℝ, ∀ j : S16x2064.Idx, val_main_v46 (F := Ideal) A.qg A.z A.c j = (M (j 0).val (j 1).val : EReal) := by
  choose f hf using max_at hA
  refine ⟨fun h t => if e : h < 16 ∧ t < 2064 then f (ix2 (⟨h, e.1⟩ : Fin 16) (⟨t, e.2⟩ : Fin 2064)) else 0, fun j => ?_⟩
  have e : (j 0).val < 16 ∧ (j 1).val < 2064 := ⟨(j 0).isLt, (j 1).isLt⟩
  rw [hf j]
  simp only [e, and_self, dif_pos]
  exact congrArg (fun j => ((f j : ℝ) : EReal)) (funext fun a => Fin.ext (by match a with | ⟨0, _⟩ => rfl | ⟨1, _⟩ => rfl))

end Finite

/-- The reference's weights are the head's, each row scaled. -/
structure Scale (A : Args) (z : ℕ → ℕ → ℝ) : Prop where
  pos : ∀ h t, 0 < z h t
  weight : ∀ i : S16x2064x2064.Idx, val_main_v59 (F := Ideal) A.qg A.z A.c i
    = (((A.data.head (i 0).val).wt (i 1).val (i 2).val * z (i 0).val (i 1).val : ℝ) : EReal)

theorem exists_scale {A : Args} (hA : A.Finite) : ∃ z, Scale A z := by
  obtain ⟨M, hM⟩ := maxima hA
  refine ⟨fun h t => Real.exp (A.data.c t h - M h t), fun _ _ => Real.exp_pos _, fun i => ?_⟩
  rw [val_main_v59_apply, val_main_v58_apply, masked_at hA, val_main_v57_apply, val_main_v56_apply, hM]
  show Ideal.exp (_ - ((M (i 0).val (i 1).val : ℝ) : EReal)) = _
  unfold Head.wt
  by_cases h : (i 2).val ≤ (i 1).val
  · rw [if_pos h, if_pos h, ← EReal.coe_sub, Ideal.exp_coe, ← Real.exp_add, add_sub_assoc]
  · rw [if_neg h, if_neg h, EReal.bot_sub, Ideal.exp_bot, zero_mul, EReal.coe_zero]

namespace Scale

variable {A : Args} {z : ℕ → ℕ → ℝ} (hz : Scale A z)
include hz

/-- The weights' sum. -/
theorem total (i : S16x2064.Idx) : val_main_v60 (F := Ideal) A.qg A.z A.c i
    = (((A.data.head (i 0).val).tot (i 1).val * z (i 0).val (i 1).val : ℝ) : EReal) := by
  rw [val_main_v60_apply, val_main_cst_12_apply]
  refine (total_co (g := fun s => (A.data.head (i 0).val).wt (i 1).val s * z (i 0).val (i 1).val)
    fun k => hz.weight _).trans (congrArg _ ?_)
  rw [Head.tot, ← sum_keys (t := (i 1).val) (i 1).isLt _ fun s hs => Head.wt_of_lt _ hs, sum_mul]

theorem ne (i : S16x2064.Idx) : (A.data.head (i 0).val).tot (i 1).val * z (i 0).val (i 1).val ≠ 0 :=
  (mul_pos ((A.data.head (i 0).val).tot_pos (lt_trans (i 1).isLt (by decide))) (hz.pos _ _)).ne'

/-- The probabilities. -/
theorem prob (i : S16x2064x2064.Idx) : val_main_v63 (F := Ideal) A.qg A.z A.c i
    = (((A.data.head (i 0).val).pr (i 1).val (i 2).val : ℝ) : EReal) := by
  rw [val_main_v63_apply, val_main_v62_apply, val_main_v61_apply]
  refine (div_co (hz.weight i) (hz.total _) (hz.ne _)).trans (congrArg _ ?_)
  exact mul_div_mul_right _ _ (hz.pos _ _).ne'

end Scale

end Cert.Attn

end
-- ==== Proof.PlainGrad.lean ====
/- The reference's gradients as real arrays: the scores' gradient, and the gradients of the queries, keys, values and shifts
   that it sums to. -/
module

public import proofs.«01_k».proof.Proof.Plain

@[expose] public section

set_option maxRecDepth 16384

noncomputable section

namespace Cert.Attn

open Idealize.ShloMosaic Idealize.ShloMosaic.TcCoe Idealize.SL.Sem Finset
open Cert.AttnGradRefIdeal Cert.AttnGradRefIdeal.Gen Cert.AttnGradRefIdeal.Read

/-! The padded rows add nothing. -/

namespace Head

theorem pr_row (H : Head) {t : ℕ} (ht : t < 2304) : ∑ s ∈ range 2304, H.pr t s = 1 := by
  simp only [pr, div_eq_mul_inv]
  rw [← sum_mul]
  exact mul_inv_cancel₀ (H.tot_pos ht).ne'

/-- A row of the scores' gradient sums to zero. -/
theorem ds_row (H : Head) {t : ℕ} (ht : t < 2304) : ∑ s ∈ range 2304, H.ds t s = 0 := by
  simp only [ds, mul_sub]
  rw [sum_sub_distrib, ← sum_mul, H.pr_row ht, one_mul, mean, sub_self]

/-- A row without a cotangent has no gradient. -/
theorem ds_of_row (H : Head) {t : ℕ} (h : ∀ d, H.G t d = 0) (s : ℕ) : H.ds t s = 0 := by
  simp [ds, mean, dp, h]

end Head

theorem sum_rows (f : ℕ → ℝ) (h : ∀ t, 2064 ≤ t → f t = 0) : ∑ t ∈ range 2064, f t = ∑ t ∈ range 2304, f t :=
  sum_subset (range_subset_range.2 (by omega)) fun t _ ht => h t (by simpa using ht)

theorem Data.head_G_pad (D : Data) (h d : ℕ) {r : ℕ} (hr : 2064 ≤ r) : (D.head h).G r d = 0 := by
  simp [Data.head, pad, not_lt.2 hr]

theorem Data.ds_pad (D : Data) (h s : ℕ) {r : ℕ} (hr : 2064 ≤ r) : (D.head h).ds r s = 0 :=
  (D.head h).ds_of_row (fun d => D.head_G_pad h d hr) s

/-- A shift past the rows has no gradient. -/
theorem Data.dc_pad (D : Data) (h : ℕ) {s : ℕ} (hs : 2064 ≤ s) : D.dc h s = 0 := by
  unfold Data.dc
  rw [neg_eq_zero]
  refine sum_eq_zero fun t _ => ?_
  by_cases ht : 2064 ≤ t
  · exact D.ds_pad h s ht
  · exact (D.head h).ds_of_lt (by omega)

section

variable {A : Args} (hA : A.Finite)
include hA

/-- The probabilities' cotangent. -/
theorem dp_at (i : S16x2064x2064.Idx) : val_main_v72 (F := Ideal) A.dmo A.qg A.z i
    = (((A.data.head (i 0).val).dp (i 1).val (i 2).val : ℝ) : EReal) := by
  rw [val_main_v72_apply]
  refine (dot_co (g := fun d => A.data.g (i 1).val (64 * (i 0).val + d)) (g' := fun d => A.data.v (i 2).val (64 * (i 0).val + d))
    (fun k => g_at hA _) fun k => v_at hA _).trans (congrArg _ ?_)
  simp only [Head.dp, Data.head_G _ _ _ (i 1).isLt, Data.head_V _ _ _ (i 2).isLt]

/-- The scores' gradient. -/
theorem ds_at (i : S16x2064x2064.Idx) : val_main_v87 (F := Ideal) A.dmo A.qg A.z A.c i
    = (((A.data.head (i 0).val).ds (i 1).val (i 2).val : ℝ) : EReal) := by
  have h1 : (i 1).val < 2064 := (i 1).isLt
  obtain ⟨z, hz⟩ := exists_scale hA
  generalize hH : A.data.head (i 0).val = H
  generalize hZ : z (i 0).val (i 1).val = Z
  have hZ0 : Z ≠ 0 := hZ ▸ (hz.pos _ _).ne'
  have hT : H.tot (i 1).val ≠ 0 := (H.tot_pos (lt_trans (i 1).isLt (by decide))).ne'
  have w := hz.weight i
  have d := dp_at hA i
  rw [hH, hZ] at w
  rw [hH] at d
  have tot : ∀ j : S16x2064.Idx, (j 0).val = (i 0).val → (j 1).val = (i 1).val →
      val_main_v60 (F := Ideal) A.qg A.z A.c j = ((H.tot (i 1).val * Z : ℝ) : EReal) := fun j h0 h1 => by
    rw [hz.total, h0, h1, hH, hZ]
  have row : ∀ j : S16x2064.Idx, (j 0).val = (i 0).val → (j 1).val = (i 1).val → val_main_v78 (F := Ideal) A.dmo A.qg A.z A.c j
      = ((H.mean (i 1).val / (H.tot (i 1).val * Z) : ℝ) : EReal) := fun j h0 h1 => by
    rw [val_main_v78_apply, val_main_cst_14_apply]
    refine (total_co (g := fun s => H.dp (i 1).val s * (1 / (H.tot (i 1).val * Z * (H.tot (i 1).val * Z))) * (H.wt (i 1).val s * Z))
      fun k => ?_).trans (congrArg _ ?_)
    · rw [val_main_v77_apply, val_main_v76_apply, val_main_v75_apply, val_main_v66_apply, val_main_v65_apply, val_main_cst_13_apply,
        val_main_v64_apply, val_main_v61_apply]
      refine mul_co (mul_co ((dp_at hA _).trans ?_) (div_co bits_one (mul_co (tot _ h0 h1) (tot _ h0 h1))
        (mul_ne_zero (mul_ne_zero hT hZ0) (mul_ne_zero hT hZ0)))) ((hz.weight _).trans ?_)
      · show (((A.data.head (j 0).val).dp (j 1).val k.val : ℝ) : EReal) = _
        rw [h0, h1, hH]
      · show (((A.data.head (j 0).val).wt (j 1).val k.val * z (j 0).val (j 1).val : ℝ) : EReal) = _
        rw [h0, h1, hH, hZ]
    · rw [sum_keys (t := (i 1).val) (i 1).isLt _ fun s hs => by rw [H.wt_of_lt hs]; ring, Head.mean, sum_div]
      refine sum_congr rfl fun s _ => ?_
      unfold Head.pr
      field_simp
  rw [val_main_v87_apply, mask_at, val_main_v86_apply, val_main_v85_apply, val_main_v82_apply, val_main_v81_apply,
    val_main_v61_apply, val_main_v84_apply, val_main_v83_apply, val_main_cst_15_apply, val_main_call1_v0_apply,
    val_main_call1_cst_apply]
  by_cases h : (i 2).val ≤ (i 1).val
  · rw [if_pos h]
    refine (mul_co (add_co (div_co d (tot _ rfl rfl) (mul_ne_zero hT hZ0))
      (total_co (g := fun _ => -(H.mean (i 1).val / (H.tot (i 1).val * Z))) fun k => ?_)) w).trans (congrArg _ ?_)
    · rw [val_main_v80_apply, val_main_v79_apply]
      refine neg_co (row _ ?_ ?_)
      · show (((i 0).val * 2064 + (i 1).val) * 1 + k.val) / 2064 = (i 0).val
        have := h1; have := k.isLt; omega
      · show (((i 0).val * 2064 + (i 1).val) * 1 + k.val) % 2064 = (i 1).val
        have := h1; have := k.isLt; omega
    · rw [sum_range_one, Head.ds, Head.pr]
      field_simp
      ring
  · rw [if_neg h, H.ds_of_lt (by omega)]
    exact bits_zero

/-- The scores' gradient, scaled. -/
theorem scaled_ds_at (i : S16x2064x2064.Idx) : val_main_v99 (F := Ideal) A.dmo A.qg A.z A.c i
    = (((A.data.head (i 0).val).ds (i 1).val (i 2).val * (1 / 8) : ℝ) : EReal) := by
  rw [val_main_v99_apply, val_main_v98_apply, val_main_cst_20_apply]
  exact mul_co (ds_at hA i) bits_eighth

/-- The values' gradient, head by head. -/
theorem dv_head (i : S16x64x2064.Idx) : val_main_v73 (F := Ideal) A.dmo A.qg A.z A.c i
    = ((A.data.dv (i 0).val (i 2).val (i 1).val : ℝ) : EReal) := by
  obtain ⟨z, hz⟩ := exists_scale hA
  rw [val_main_v73_apply]
  refine (dot_co (g := fun t => A.data.g t (64 * (i 0).val + (i 1).val)) (g' := fun t => (A.data.head (i 0).val).pr t (i 2).val)
    (fun k => g_at hA (lidx_main_v73 i k)) fun k => hz.prob (ridx_main_v73 i k)).trans (congrArg _ ?_)
  rw [Data.dv, ← sum_rows _ fun t ht => by rw [A.data.head_G_pad _ _ ht, mul_zero]]
  refine sum_congr rfl fun t ht => ?_
  rw [Data.head_G _ _ _ (mem_range.1 ht), mul_comm]

/-- The keys' gradient, head by head. -/
theorem dk_head (i : S16x2064x64.Idx) : val_main_v100 (F := Ideal) A.dmo A.qg A.z A.c i
    = ((A.data.dk (i 0).val (i 1).val (i 2).val : ℝ) : EReal) := by
  rw [val_main_v100_apply]
  refine (dot_co (g := fun t => (A.data.head (i 0).val).ds t (i 1).val * (1 / 8)) (g' := fun t => A.data.q t (64 * (i 0).val + (i 2).val))
    (fun k => scaled_ds_at hA (lidx_main_v100 i k)) fun k => q_at hA (ridx_main_v100 i k)).trans (congrArg _ ?_)
  rw [Data.dk, ← sum_rows _ fun t ht => by rw [A.data.ds_pad _ _ ht, zero_mul]]
  refine sum_congr rfl fun t ht => ?_
  rw [Data.head_Q _ _ _ (mem_range.1 ht)]
  ring

/-- The queries' gradient, head by head. -/
theorem dq_head (i : S16x2064x64.Idx) : val_main_v102 (F := Ideal) A.dmo A.qg A.z A.c i
    = ((A.data.dq (i 0).val (i 1).val (i 2).val : ℝ) : EReal) := by
  rw [val_main_v102_apply]
  refine (dot_co (g := fun s => (A.data.head (i 0).val).ds (i 1).val s * (1 / 8)) (g' := fun s => A.data.k s (64 * (i 0).val + (i 2).val))
    (fun k => scaled_ds_at hA (lidx_main_v102 i k)) fun k => k_at hA (ridx_main_v102 i k)).trans (congrArg _ ?_)
  rw [Data.dq, ← sum_keys (t := (i 1).val) (i 1).isLt _ fun s hs => by rw [Head.ds_of_lt _ hs, zero_mul], sum_mul]
  refine sum_congr rfl fun s hs => ?_
  rw [Data.head_K _ _ _ (mem_range.1 hs)]
  ring

/-! The results. -/

theorem dq_result (i : S2064x1024.Idx) : val_main_v110 (F := Ideal) A.dmo A.qg A.z A.c i
    = ((A.data.dq ((i 1).val / 64) (i 0).val ((i 1).val % 64) : ℝ) : EReal) := by
  have h1 : (i 1).val < 1024 := (i 1).isLt
  rw [val_main_v110_apply, val_main_v106_apply, val_main_v103_apply]
  refine (dq_head hA _).trans ?_
  have e0 : ((i 0).val * 1024 + (i 1).val) / 64 % 16 = (i 1).val / 64 := by omega
  have e1 : ((i 0).val * 1024 + (i 1).val) / 1024 = (i 0).val := by omega
  have e2 : ((i 0).val * 1024 + (i 1).val) % 64 = (i 1).val % 64 := by omega
  show ((A.data.dq (((i 0).val * 1024 + (i 1).val) / 64 % 16) (((i 0).val * 1024 + (i 1).val) / 1024)
    (((i 0).val * 1024 + (i 1).val) % 64) : ℝ) : EReal) = _
  rw [e0, e1, e2]

theorem dk_result (i : S2064x1024.Idx) : val_main_v105 (F := Ideal) A.dmo A.qg A.z A.c i
    = ((A.data.dk ((i 1).val / 64) (i 0).val ((i 1).val % 64) : ℝ) : EReal) := by
  have h1 : (i 1).val < 1024 := (i 1).isLt
  rw [val_main_v105_apply, val_main_v101_apply]
  refine (dk_head hA _).trans ?_
  have e0 : ((i 0).val * 1024 + (i 1).val) / 64 % 16 = (i 1).val / 64 := by omega
  have e1 : ((i 0).val * 1024 + (i 1).val) / 1024 = (i 0).val := by omega
  have e2 : ((i 0).val * 1024 + (i 1).val) % 64 = (i 1).val % 64 := by omega
  show ((A.data.dk (((i 0).val * 1024 + (i 1).val) / 64 % 16) (((i 0).val * 1024 + (i 1).val) / 1024)
    (((i 0).val * 1024 + (i 1).val) % 64) : ℝ) : EReal) = _
  rw [e0, e1, e2]

theorem dv_result (i : S2064x1024.Idx) : val_main_v104 (F := Ideal) A.dmo A.qg A.z A.c i
    = ((A.data.dv ((i 1).val / 64) (i 0).val ((i 1).val % 64) : ℝ) : EReal) := by
  have h1 : (i 1).val < 1024 := (i 1).isLt
  rw [val_main_v104_apply, val_main_v74_apply]
  refine (dv_head hA _).trans ?_
  have e0 : ((i 0).val * 1024 + (i 1).val) / 64 % 16 = (i 1).val / 64 := by omega
  have e1 : ((i 0).val * 1024 + (i 1).val) / 1024 = (i 0).val := by omega
  have e2 : ((i 0).val * 1024 + (i 1).val) % 64 = (i 1).val % 64 := by omega
  show ((A.data.dv (((i 0).val * 1024 + (i 1).val) / 64 % 16) (((i 0).val * 1024 + (i 1).val) / 1024)
    (((i 0).val * 1024 + (i 1).val) % 64) : ℝ) : EReal) = _
  rw [e0, e1, e2]

/-- The shifts' gradient: what a shift does as a key's, since what it does as a query's sums to zero. -/
theorem dc_rows (i : S16x2064.Idx) : val_main_v107 (F := Ideal) A.dmo A.qg A.z A.c i
    = ((A.data.dc (i 0).val (i 1).val : ℝ) : EReal) := by
  have h0 : (i 0).val < 16 := (i 0).isLt
  have h1 : (i 1).val < 2064 := (i 1).isLt
  have key : ∀ j : S16x2064.Idx, (j 0).val = (i 0).val → (j 1).val = (i 1).val → val_main_v89 (F := Ideal) A.dmo A.qg A.z A.c j
      = ((A.data.dc (i 0).val (i 1).val : ℝ) : EReal) := fun j e0 e1 => by
    rw [val_main_v89_apply, val_main_cst_16_apply]
    refine (total_co (g := fun t => -(A.data.head (j 0).val).ds t (j 1).val) fun k => ?_).trans (congrArg _ ?_)
    · rw [val_main_v88_apply]
      exact neg_co (ds_at hA (idx_main_v89 j k))
    · rw [sum_neg_distrib, Data.dc, ← sum_rows _ fun t ht => A.data.ds_pad _ _ ht, e0, e1]
  have query : ∀ j : S16x2064.Idx, val_main_v93 (F := Ideal) A.dmo A.qg A.z A.c j = ((0 : ℝ) : EReal) := fun j => by
    rw [val_main_v93_apply, val_main_cst_18_apply]
    refine (total_co (g := fun s => (A.data.head (j 0).val).ds (j 1).val s) fun k => ds_at hA (idx_main_v93 j k)).trans (congrArg _ ?_)
    rw [sum_keys (t := (j 1).val) (j 1).isLt _ fun s hs => Head.ds_of_lt _ hs]
    exact Head.ds_row _ (lt_trans (j 1).isLt (by decide))
  rw [val_main_v107_apply, val_main_v97_apply, val_main_v92_apply, val_main_v91_apply, val_main_cst_17_apply, val_main_v96_apply,
    val_main_v95_apply, val_main_cst_19_apply]
  refine (add_co (total_co (g := fun _ => A.data.dc (i 0).val (i 1).val) fun k => ?_)
    (total_co (g := fun _ => 0) fun k => ?_)).trans (congrArg _ ?_)
  · rw [val_main_v90_apply]
    have := k.isLt
    refine key _ ?_ ?_
    · show (((i 0).val * 1 + k.val) * 2064 + (i 1).val) / 2064 = (i 0).val; omega
    · show (((i 0).val * 1 + k.val) * 2064 + (i 1).val) % 2064 = (i 1).val; omega
  · rw [val_main_v94_apply]
    exact query _
  · rw [sum_range_one, sum_range_one, add_zero]

theorem dc_result (i : S16x1x2304.Idx) : val_main_v109 (F := Ideal) A.dmo A.qg A.z A.c i
    = ((A.data.dc (i 0).val (i 2).val : ℝ) : EReal) := by
  have h0 : (i 0).val < 16 := (i 0).isLt
  have h1 : (i 1).val < 1 := (i 1).isLt
  have h2 : (i 2).val < 2304 := (i 2).isLt
  have e0 : (((i 0).val * 1 + (i 1).val) * 2304 + (i 2).val) / 2304 = (i 0).val := by omega
  have e1 : (((i 0).val * 1 + (i 1).val) * 2304 + (i 2).val) % 2304 = (i 2).val := by omega
  have e : idx_main_v109 i = ix2 (⟨(i 0).val, h0⟩ : Fin 16) (⟨(i 2).val, h2⟩ : Fin 2304) :=
    funext fun a => Fin.ext (by match a with | ⟨0, _⟩ => exact e0 | ⟨1, _⟩ => exact e1)
  rw [val_main_v109_apply, e]
  unfold val_main_v108 val_main_v107
  refine (padT_apply (x := val_main_v97 (F := Ideal) A.dmo A.qg A.z A.c) transposes_S2064x16_S16x2064_1_0 _ _
    (⟨(i 0).val, h0⟩ : Fin 16) (⟨(i 2).val, h2⟩ : Fin 2304)).trans ?_
  by_cases hs : (i 2).val < 2064
  · rw [dif_pos hs]
    have r := dc_rows hA (ix2 (⟨(i 0).val, h0⟩ : Fin 16) (⟨(i 2).val, hs⟩ : Fin 2064))
    rw [val_main_v107_apply] at r
    refine Eq.trans ?_ r
    exact congrArg (val_main_v97 (F := Ideal) A.dmo A.qg A.z A.c)
      (funext fun a => Fin.ext (by match a with | ⟨0, _⟩ => rfl | ⟨1, _⟩ => rfl))
  · rw [dif_neg hs, A.data.dc_pad _ (not_lt.1 hs)]
    show ((((0#32).toInt : ℝ)) : EReal) = ((0 : ℝ) : EReal)
    simp

end

/-- The gate's gradient: the two spellings are one product. -/
theorem dgate_result (A : Args) (i : S2064x1024.Idx) : val_main_v111 (F := Ideal) A.dmo A.qg A.o i
    = A.dmo i * A.o i * A.gateAt (i 0) (i 1) * (((1 : ℝ) : EReal) - A.gateAt (i 0) (i 1)) := by
  rw [val_main_v111_apply, val_main_v13_apply, val_main_v11_apply, val_main_v9_apply, val_main_v8_apply, gate_at,
    val_main_v7_apply, val_main_cst_1_apply]
  show A.o i * A.dmo i * (A.gateAt (i 0) (i 1) * (Ideal.ofBits .f32 0x3F800000#32 - A.gateAt (i 0) (i 1))) = _
  rw [bits_one, mul_comm (A.o i), mul_assoc (_ * _)]

end Cert.Attn

end
-- ==== Proof.Equation.lean ====
/- The gradient of the attention: the program and the reference end with the same arrays. -/
module

public import proofs.«01_k».proof.Defs
public import proofs.«01_k».proof.Proof.Operands
public import proofs.«01_k».proof.Proof.PlainGrad
public import proofs.«01_k».proof.Proof.Gen.AttnGrad.Frame
public import proofs.«01_k».proof.Proof.Gen.AttnGradIdeal.Frame
public import proofs.«01_k».proof.Proof.Gen.AttnGradIdeal.Value
public import proofs.«01_k».proof.Proof.Gen.AttnGradRefIdeal.Run
public import Idealize.ShloMosaic.Lib.Quiescent

@[expose] public section

noncomputable section

namespace Cert.Attn

open Idealize.ShloMosaic Idealize.ShloMosaic.TcCoe Idealize.SL.Sem

theorem frame_program : Cert.quiescent_AttnGrad := fun m ρ _ => Cert.AttnGrad.Gen.frame m ρ
theorem frame_ideal : Cert.quiescent_AttnGradIdeal := fun m ρ _ => Cert.AttnGradIdeal.Gen.frame m ρ
theorem frame_ideal_finite : Cert.quiescent_AttnGradIdeal_pre_finite_operands := fun m ρ _ => Cert.AttnGradIdeal.Gen.frame m ρ
theorem frame_reference : Cert.quiescent_AttnGradRefIdeal := fun m ρ _ =>
  (θ_run Cert.AttnGradRefIdeal.defs _ _).mono (fun r h => ⟨fun c => (h c).2.2.2.2.2,
      Idealize.ShloMosaic.sem_eq_zero_of_no_sems (by decide) r.2⟩)
    (Cert.AttnGradRefIdeal.Value.run (F := Ideal) m ρ)
theorem frame_reference_finite : Cert.quiescent_AttnGradRefIdeal_pre_finite_operands := fun m ρ _ => frame_reference m ρ trivial

/-- The mask's constant stands for `⊥`. -/
theorem mask_preserved : Cert.preserves_AttnGrad_AttnGradIdeal :=
  IdealRules.named_const.statement Cert.AttnGradIdeal.κ "mask" .f32 0xF149F2CA#32 ⊥ rfl

/-- The reference's results are the arrays the program ends with. -/
theorem same_results : Cert.algebraic_AttnGradIdeal_AttnGradRefIdeal_pre_finite_operands := by
  intro m ρ m' ρ' hpre hagree
  refine ⟨_, _, _, _, _, Cert.AttnGradIdeal.Value.run_blocks (F := Ideal) m ρ, ?_⟩
  refine (θ_run Cert.AttnGradRefIdeal.defs _ _).mono (fun _ h c => ?_) (Cert.AttnGradRefIdeal.Value.run (F := Ideal) m' ρ')
  obtain ⟨h0, h1, h2, h3, h4, hk⟩ := h c
  obtain ⟨a0, a1, a2, a3, a4⟩ := hagree c
  have hA := finite_of_pre m hpre c
  refine ⟨h0.trans ?_, h1.trans ?_, h2.trans ?_, h3.trans ?_, h4.trans ?_, hk⟩
  · rw [Cert.AttnGradRefIdeal.Read.val_main_v110_eq, a0, a1, a2, a4, dq_array hA]
    exact funext fun y => dq_result hA y
  · rw [Cert.AttnGradRefIdeal.Read.val_main_v111_eq, a0, a1, a3, dgate_array]
    exact funext fun y => dgate_result (args m c) y
  · rw [Cert.AttnGradRefIdeal.Read.val_main_v105_eq, a0, a1, a2, a4, dk_array hA]
    exact funext fun y => dk_result hA y
  · rw [Cert.AttnGradRefIdeal.Read.val_main_v104_eq, a0, a1, a2, a4, dv_array hA]
    exact funext fun y => dv_result hA y
  · rw [Cert.AttnGradRefIdeal.Read.val_main_v109_eq, a0, a1, a2, a4, dc_array hA]
    exact funext fun y => dc_result hA y

end Cert.Attn

end
-- ==== Proof.Products.lean ====
/- What the products' certificates share: matrices, stacks of matrices, and their indices. -/
module

public import Idealize.ShloMosaic.Lib.Pointwise
public import Idealize.ShloMosaic.Lib.Pointwise.IndexVar
public import Idealize.ShloMosaic.Lib.Pointwise.IndexBridge
public import Idealize.ShloMosaic.Lib.Pipeline.ValueKit

@[expose] public section

noncomputable section

namespace Cert.Products

open Idealize.ShloMosaic

/-- An `m × n` matrix. -/
abbrev Mat (φ : FTy) (m n : ℕ) := FVec Ideal ⟨2, ![m, n]⟩ φ

/-- `s` matrices, each `m × n`. -/
abbrev Stack (φ : FTy) (s m n : ℕ) := FVec Ideal ⟨3, ![s, m, n]⟩ φ

theorem ix2_of {m n : ℕ} {i : (⟨2, ![m, n]⟩ : Shape).Idx} {r : Fin m} {x : Fin n} (hr : (i 0).val = r) (hx : (i 1).val = x) : i = ix2 r x :=
  funext fun a => Fin.ext (by fin_cases a; exacts [hr, hx])

theorem ix3_of {s m n : ℕ} {i : (⟨3, ![s, m, n]⟩ : Shape).Idx} {j : Fin s} {r : Fin m} {x : Fin n} (hj : (i 0).val = j) (hr : (i 1).val = r)
    (hx : (i 2).val = x) : i = ix3 j r x :=
  funext fun a => Fin.ext (by fin_cases a; exacts [hj, hr, hx])

/-- Every index of a matrix is a row and a column. -/
theorem exists_ix2 {m n : ℕ} (i : (⟨2, ![m, n]⟩ : Shape).Idx) : ∃ (r : Fin m) (x : Fin n), i = ix2 r x := ⟨i 0, i 1, ix2_of rfl rfl⟩

/-- Every index of a single matrix in a stack is a row and a column. -/
theorem exists_ix3 {m n : ℕ} (i : (⟨3, ![1, m, n]⟩ : Shape).Idx) : ∃ (r : Fin m) (x : Fin n), i = ix3 0 r x :=
  ⟨i 1, i 2, ix3_of (congrArg Fin.val (Subsingleton.elim (α := Fin 1) (i 0) 0)) rfl rfl⟩

/-- The shards of a weight side by side: column `y` of the whole is column `y % n` of shard `y / n`. -/
def shards {φ : FTy} {s m n : ℕ} (w : Stack φ s m n) (k : Fin m) (y : Fin (s * n)) : EReal :=
  w (ix3 ⟨y / n, Nat.div_lt_of_lt_mul (Nat.mul_comm s n ▸ y.isLt)⟩ k ⟨y % n, Nat.mod_lt _ (Nat.pos_of_lt_mul_left y.isLt)⟩)

theorem shards_apply {φ : FTy} {s m n : ℕ} (w : Stack φ s m n) (k : Fin m) (j : Fin s) (y : Fin n) (h : n * j.val + y.val < s * n) :
    shards w k ⟨n * j + y, h⟩ = w (ix3 j k y) :=
  congrArg w (ix3_of (by show (n * j.val + y.val) / n = j.val; rw [Nat.mul_add_div (y.pos), Nat.div_eq_of_lt y.isLt, Nat.add_zero]) rfl
    (by show (n * j.val + y.val) % n = y.val; rw [Nat.mul_add_mod, Nat.mod_eq_of_lt y.isLt]))

/-- The entry that the reference reads of a weight whose shards it has transposed and joined. -/
theorem shards_of {φ : FTy} {s m n : ℕ} (w : Stack φ s m n) {i : (⟨3, ![s, m, n]⟩ : Shape).Idx} {k : Fin m} {y : Fin (s * n)}
    (h0 : (i 0).val = (k.val * (s * n) + y.val) / n % s) (h1 : (i 1).val = (k.val * (s * n) + y.val) / (s * n))
    (h2 : (i 2).val = (k.val * (s * n) + y.val) % n) : w i = shards w k y := by
  have hn : 0 < n := Nat.pos_of_lt_mul_left y.isLt
  have e : k.val * (s * n) + y.val = n * (s * k.val) + y.val := by rw [← Nat.mul_assoc, Nat.mul_comm (k.val * s), Nat.mul_comm k.val]
  refine congrArg w (ix3_of (h0.trans ?_) (h1.trans ?_) (h2.trans ?_))
  · rw [e, Nat.mul_add_div hn, Nat.mul_add_mod]
    exact Nat.mod_eq_of_lt (Nat.div_lt_of_lt_mul (Nat.mul_comm s n ▸ y.isLt))
  · rw [Nat.mul_comm k.val, Nat.mul_add_div (y.pos), Nat.div_eq_of_lt y.isLt, Nat.add_zero]
  · rw [e, Nat.mul_add_mod]

/-- Splitting a matrix' columns into shards: the column and the row that an entry of shard `j` comes from. -/
theorem split_column {s n : ℕ} (k : ℕ) (j : Fin s) (y : Fin n) : ((k * s + j.val) * n + y.val) % (s * n) = n * j.val + y.val := by
  have h : n * j.val + y.val < s * n := by
    have := Nat.mul_le_mul_left n (show j.val + 1 ≤ s from j.isLt)
    rw [Nat.mul_add, Nat.mul_one, Nat.mul_comm n s] at this
    omega
  rw [show (k * s + j.val) * n + y.val = s * n * k + (n * j.val + y.val) by ring, Nat.mul_add_mod, Nat.mod_eq_of_lt h]

theorem split_row {s n : ℕ} (k : ℕ) (j : Fin s) (y : Fin n) : ((k * s + j.val) * n + y.val) / (s * n) = k := by
  have h : n * j.val + y.val < s * n := by
    have := Nat.mul_le_mul_left n (show j.val + 1 ≤ s from j.isLt)
    rw [Nat.mul_add, Nat.mul_one, Nat.mul_comm n s] at this
    omega
  rw [show (k * s + j.val) * n + y.val = s * n * k + (n * j.val + y.val) by ring, Nat.mul_add_div (by omega), Nat.div_eq_of_lt h, Nat.add_zero]

/-- Two halves side by side. -/
def joined {φ : FTy} {m n : ℕ} (a b : Mat φ m n) (r : Fin m) (y : Fin (n + n)) : EReal :=
  if h : y.val < n then a (ix2 r ⟨y, h⟩) else b (ix2 r ⟨y - n, by omega⟩)

theorem joined_left {φ : FTy} {m n : ℕ} (a b : Mat φ m n) {r : Fin m} {y : Fin (n + n)} (x : Fin n) (h : y.val = x) :
    joined a b r y = a (ix2 r x) := by
  rw [joined, dif_pos (by omega)]
  exact congrArg a (ix2_of rfl h)

theorem joined_right {φ : FTy} {m n : ℕ} (a b : Mat φ m n) {r : Fin m} {y : Fin (n + n)} (x : Fin n) (h : y.val = n + x) :
    joined a b r y = b (ix2 r x) := by
  rw [joined, dif_neg (by omega)]
  exact congrArg b (ix2_of rfl (by show y.val - n = x; omega))

theorem concatenate_joined {φ : FTy} {m n : ℕ} (a b : Mat φ m n)
    (h : Shape.Concatenates [⟨2, ![m, n]⟩, ⟨2, ![m, n]⟩] ⟨2, ![m, n + n]⟩ 1) (i : (⟨2, ![m, n + n]⟩ : Shape).Idx) :
    concatenate (α := EReal) ⟨2, ![m, n + n]⟩ 1 [⟨⟨2, ![m, n]⟩, a⟩, ⟨⟨2, ![m, n]⟩, b⟩] h i = joined a b (i 0) (i 1) := by
  have hi : (i 1).val < n + n := (i 1).isLt
  by_cases hx : (i 1).val < n
  · exact (concatenate_pair_apply_left 1 a b h i rfl (ix2 (i 0) ⟨(i 1).val, hx⟩) fun d => by fin_cases d <;> rfl).trans
      (joined_left a b ⟨(i 1).val, hx⟩ rfl).symm
  · refine (concatenate_pair_apply_right 1 a b h i rfl rfl (ix2 (i 0) ⟨(i 1).val - n, by omega⟩) (fun d hd => ?_)
      (by show (i 1).val - n + n = (i 1).val; omega)).trans
      (joined_right a b ⟨(i 1).val - n, by omega⟩ (by show (i 1).val = n + ((i 1).val - n); omega)).symm
    fin_cases d
    · rfl
    · exact absurd rfl hd

end Cert.Products

end
-- ==== Proof.FfnIn.lean ====
/- The feed-forward's input product: a row block and a shard of the weights per grid point. -/
module

public import proofs.«01_k».proof.Defs
public import proofs.«01_k».proof.Proof.Products
public import proofs.«01_k».proof.Proof.Gen.FfnIn.Frame
public import proofs.«01_k».proof.Proof.Gen.FfnInIdeal.Frame
public import proofs.«01_k».proof.Proof.Gen.FfnInIdeal.Value
public import proofs.«01_k».proof.Proof.Gen.FfnInRefIdeal.Run
public import proofs.«01_k».proof.Proof.Gen.FfnInRefIdeal.Read
public import Idealize.ShloMosaic.Lib.Quiescent

@[expose] public section

set_option maxRecDepth 16384

noncomputable section

namespace Cert.Products.FfnIn

open Idealize.ShloMosaic Idealize.ShloMosaic.TcCoe Idealize.SL.Sem

section Kernel

open Cert.FfnInIdeal Cert.FfnInIdeal.Gen Cert.FfnInIdeal.Value

variable (m : (ℓ : Loc nD τ sig) → Buf (Elt Ideal) ℓ) (c : Dev nD)

theorem index : ∀ t : Fin cfg0.N, (win0_0.index t 0 = t.val % 3 ∧ win0_0.index t 1 = 0)
    ∧ (win0_1.index t 0 = t.val / 3 ∧ win0_1.index t 1 = 0 ∧ win0_1.index t 2 = 0)
    ∧ (win0_2.index t 0 = t.val % 3 ∧ win0_2.index t 1 = t.val / 3) :=
  (by decide +kernel : ∀ t : Fin grid0.N, _)

theorem block_lt (t : Fin cfg0.N) : t.val < 12 := t.isLt

/-- The rows and the shards of the weights, as launched. -/
abbrev x : Mat .bf16 2064 1024 := m ((c : Thread nD τ).loc main_arg0)
abbrev w : Stack .bf16 4 1024 1408 := m ((c : Thread nD τ).loc main_arg1)

theorem row_block (t : Fin cfg0.N) (r : Fin 688) (k : Fin 1024) :
    iblk m c 0 t (ix2 r k) = x m c (ix2 ⟨688 * (t % 3) + r, by omega⟩ k) := by
  have e := (index t).1
  blk_ext [iblk, V, e.1, e.2]

theorem weight_block (t : Fin cfg0.N) (k : Fin 1024) (y : Fin 1408) :
    iblk m c 1 t (ix3 0 k y) = w m c (ix3 ⟨t / 3, by have := block_lt t; omega⟩ k y) := by
  have e := (index t).2.1
  have := block_lt t
  blk_ext [iblk, V, e.1, e.2.1, e.2.2]

theorem product_apply (a : Mat .bf16 688 1024) (b : Stack .bf16 1 1024 1408) (r : Fin 688) (y : Fin 1408) :
    out0_2 (F := Ideal) a b (ix2 r y) = ∑ k : Fin 1024, a (ix2 r k) * b (ix3 0 k y) := by
  unfold out0_2
  frame_out
  unfold k0_pay1
  pointwise

/-- The result array. -/
theorem array : (dats m 0 c).arrAt 2 cfg0.N
    = fun y : S2064x5632.Idx => ∑ k : Fin 1024, x m c (ix2 (y 0) k) * shards (w m c) k (y 1) := by
  refine (dats m 0 c).arrAt_eq_of_covers 2 _ (by decide +kernel) fun t hf y => ?_
  have e := (index t).2.2
  have := block_lt t
  obtain ⟨r, y, rfl⟩ := exists_ix2 y
  have ey : (((cfg0.win 2).blk t).view.emb (ix2 r y) : S2064x5632.Idx) = ix2 ⟨688 * (t % 3) + r, by omega⟩ ⟨1408 * (t / 3) + y, by omega⟩ := by
    blk_ext [e.1, e.2]
  rw [ey]
  blk_simp
  rw [after0_2]
  refine (product_apply _ _ r y).trans (Finset.sum_congr rfl fun k _ => ?_)
  rw [row_block, weight_block]
  exact congrArg (_ * ·) (shards_apply (w m c) k ⟨t / 3, by omega⟩ y (by show 1408 * (t.val / 3) + y.val < 5632; omega)).symm

end Kernel

theorem frame_program : Cert.quiescent_FfnIn := fun m ρ _ => Cert.FfnIn.Gen.frame m ρ
theorem frame_ideal : Cert.quiescent_FfnInIdeal := fun m ρ _ => Cert.FfnInIdeal.Gen.frame m ρ
theorem frame_reference : Cert.quiescent_FfnInRefIdeal := fun m ρ _ =>
  (θ_run Cert.FfnInRefIdeal.defs _ _).mono (fun r h => ⟨fun c => (h c).2,
      Idealize.ShloMosaic.sem_eq_zero_of_no_sems (by decide) r.2⟩)
    (Cert.FfnInRefIdeal.Value.run (F := Ideal) m ρ)

/-- The reference's result is the array the program ends with. -/
theorem same_results : Cert.algebraic_FfnInIdeal_FfnInRefIdeal := by
  intro m ρ m' ρ' _ hagree
  refine ⟨_, Cert.FfnInIdeal.Value.run_blocks (F := Ideal) m ρ, ?_⟩
  refine (θ_run Cert.FfnInRefIdeal.defs _ _).mono (fun _ h c => ?_) (Cert.FfnInRefIdeal.Value.run (F := Ideal) m' ρ')
  obtain ⟨h0, hk⟩ := h c
  obtain ⟨a0, a1⟩ := hagree c
  refine ⟨h0.trans ?_, hk⟩
  rw [Cert.FfnInRefIdeal.Read.val_main_v4_eq, a0, a1, array]
  refine funext fun y => (Cert.FfnInRefIdeal.Read.val_main_v4_apply _ _ y).trans (Finset.sum_congr rfl fun k _ => ?_)
  rw [Cert.FfnInRefIdeal.Read.val_main_v3_apply, Cert.FfnInRefIdeal.Read.val_main_v2_apply]
  exact congrArg₂ (· * ·) (congrArg (x m c) (ix2_of rfl rfl)) (shards_of (w m c) rfl rfl rfl)

end Cert.Products.FfnIn

end
-- ==== Proof.ShardSums.lean ====
/- A product with a weight's shards, accumulated over the shards: `s` grid points for each of the three row blocks, a shard each. -/
module

public import proofs.«01_k».proof.Proof.Products

@[expose] public section

noncomputable section

namespace Cert.Products

open Idealize.ShloMosaic

/-- A row of a block against a row of a shard's block. -/
def dot {n : ℕ} (a : Mat .bf16 688 n) (b : Stack .bf16 1 1024 n) (r : Fin 688) (y : Fin 1024) : EReal := ∑ k : Fin n, a (ix2 r k) * b (ix3 0 y k)

/-- The row that row `r` of point `t`'s block is. -/
def rowAt {s : ℕ} (t : Fin (3 * s)) (r : Fin 688) : Fin 2064 := ⟨688 * (t.val / s) + r.val, by
  have : t.val / s < 3 := Nat.div_lt_of_lt_mul (Nat.mul_comm 3 s ▸ t.isLt)
  omega⟩

/-- The column that column `k` of point `t`'s shard is. -/
def colAt {s n : ℕ} (t : Fin (3 * s)) (k : Fin n) : Fin (s * n) := ⟨n * (t.val % s) + k.val, by
  have h := Nat.mul_le_mul_left n (show t.val % s + 1 ≤ s from Nat.mod_lt _ (Nat.pos_of_lt_mul_left t.isLt))
  rw [Nat.mul_add, Nat.mul_one, Nat.mul_comm n s] at h
  omega⟩

variable {s n : ℕ} (d : Fin 2064 → Fin (s * n) → EReal) (W : Fin 1024 → Fin (s * n) → EReal)

/-- The part of the result that a grid point adds. -/
def piece (t : Fin (3 * s)) (y : (⟨2, ![688, 1024]⟩ : Shape).Idx) : EReal := ∑ k : Fin n, d (rowAt t (y 0)) (colAt t k) * W (y 1) (colAt t k)

theorem dot_eq {t : Fin (3 * s)} {a : Mat .bf16 688 n} {b : Stack .bf16 1 1024 n} (ha : ∀ r k, a (ix2 r k) = d (rowAt t r) (colAt t k))
    (hb : ∀ y k, b (ix3 0 y k) = W y (colAt t k)) (r : Fin 688) (y : Fin 1024) : dot a b r y = piece d W t (ix2 r y) :=
  Finset.sum_congr rfl fun k _ => congrArg₂ (· * ·) (ha r k) (hb y k)

/-- The first point of a row block starts from zero, the others add to what the point before left. -/
structure Sums (o : ∀ i, i < 3 * s → Mat .f32 688 1024) : Prop where
  first : ∀ t : Fin (3 * s), t.val % s = 0 → ∀ r y, o t.val t.isLt (ix2 r y) = 0 + piece d W t (ix2 r y)
  next : ∀ t : Fin (3 * s), ¬t.val % s = 0 → ∀ r y,
    o t.val t.isLt (ix2 r y) = o (t.val - 1) (Nat.lt_of_le_of_lt (Nat.sub_le _ _) t.isLt) (ix2 r y) + piece d W t (ix2 r y)

/-- The last point of a row block leaves the sum over all columns. -/
theorem Sums.point {d W} {o : ∀ i, i < 3 * s → Mat .f32 688 1024} (S : Sums d W o) (t : Fin (3 * s)) (h : t.val % s = s - 1) (r : Fin 688) (y : Fin 1024) :
    o t.val t.isLt (ix2 r y) = ∑ k : Fin (s * n), d (rowAt t r) k * W y k := by
  have hs : 0 < s := Nat.pos_of_lt_mul_left t.isLt
  haveI : NeZero s := ⟨hs.ne'⟩
  rw [Pipeline.eq_sum_fin_of_reset_step_apply_of_flush o s (fun _ => 0) (piece d W)
    (fun t h i => by obtain ⟨r, y, rfl⟩ := exists_ix2 i; exact S.first t h r y)
    (fun t h i => by obtain ⟨r, y, rfl⟩ := exists_ix2 i; exact S.next t h r y) t h (ix2 r y), zero_add]
  refine Fin.sum_mul_add_congr (fun j k hl => ?_) rfl
  have hd : (s * (t.val / s) + j.val) / s = t.val / s := by rw [Nat.mul_add_div hs, Nat.div_eq_of_lt j.isLt, Nat.add_zero]
  have hm : (s * (t.val / s) + j.val) % s = j.val := by rw [Nat.mul_add_mod, Nat.mod_eq_of_lt j.isLt]
  have hc : ∀ h, colAt (n := n) ⟨s * (t.val / s) + j.val, h⟩ k = ⟨j.val * n + k.val, hl⟩ := fun h => Fin.ext (by
    show n * ((s * (t.val / s) + j.val) % s) + k.val = j.val * n + k.val
    rw [hm, Nat.mul_comm])
  refine congrArg₂ (· * ·) (congrArg₂ d (Fin.ext ?_) (hc _)) (congrArg (W y) (hc _))
  show 688 * ((s * (t.val / s) + j.val) / s) + r.val = 688 * (t.val / s) + r.val
  rw [hd]

end Cert.Products

end
-- ==== Proof.FfnInDx.lean ====
/- The gradient that the feed-forward's input product hands to its rows: four grid points add up a row block, a shard of the
   weights each. -/
module

public import proofs.«01_k».proof.Defs
public import proofs.«01_k».proof.Proof.Products
public import proofs.«01_k».proof.Proof.ShardSums
public import proofs.«01_k».proof.Proof.Gen.FfnInDx.Frame
public import proofs.«01_k».proof.Proof.Gen.FfnInDxIdeal.Frame
public import proofs.«01_k».proof.Proof.Gen.FfnInDxIdeal.Value
public import proofs.«01_k».proof.Proof.Gen.FfnInDxRefIdeal.Run
public import proofs.«01_k».proof.Proof.Gen.FfnInDxRefIdeal.Read
public import Idealize.ShloMosaic.Lib.Quiescent

@[expose] public section

set_option maxRecDepth 16384

noncomputable section

namespace Cert.Products.FfnInDx

open Idealize.ShloMosaic Idealize.ShloMosaic.TcCoe Idealize.SL.Sem

section Kernel

open Cert.FfnInDxIdeal Cert.FfnInDxIdeal.Gen Cert.FfnInDxIdeal.Value

variable (m : (ℓ : Loc nD τ sig) → Buf (Elt Ideal) ℓ) (c : Dev nD)

theorem index : ∀ t : Fin cfg0.N, (t.val % 4 < 2 → win0_0.index t 0 = t.val / 4 ∧ win0_0.index t 1 = t.val % 4)
    ∧ (2 ≤ t.val % 4 → win0_1.index t 0 = t.val / 4 ∧ win0_1.index t 1 = t.val % 4 - 2)
    ∧ (win0_2.index t 0 = t.val % 4 ∧ win0_2.index t 1 = 0 ∧ win0_2.index t 2 = 0)
    ∧ (win0_3.index t 0 = t.val / 4 ∧ win0_3.index t 1 = 0) :=
  (by decide +kernel : ∀ t : Fin grid0.N, _)

theorem block_lt (t : Fin cfg0.N) : t.val < 12 := t.isLt

/-- The two cotangents and the shards of the weights, as launched. -/
abbrev dgate : Mat .bf16 2064 2816 := m ((c : Thread nD τ).loc main_arg0)
abbrev dval : Mat .bf16 2064 2816 := m ((c : Thread nD τ).loc main_arg1)
abbrev w : Stack .bf16 4 1024 1408 := m ((c : Thread nD τ).loc main_arg2)

theorem gate_block (t : Fin cfg0.N) (h : t.val % 4 < 2) (r : Fin 688) (k : Fin 1408) :
    iblk m c 0 t (ix2 r k) = joined (dgate m c) (dval m c) (rowAt (s := 4) t r) (colAt (s := 4) t k) := by
  have e := (index t).1 h
  have := block_lt t
  refine Eq.trans ?_ (joined_left _ _ ⟨1408 * (t % 4) + k, by omega⟩ rfl).symm
  blk_ext [iblk, V, rowAt, e.1, e.2]

theorem value_block (t : Fin cfg0.N) (h : 2 ≤ t.val % 4) (r : Fin 688) (k : Fin 1408) :
    iblk m c 1 t (ix2 r k) = joined (dgate m c) (dval m c) (rowAt (s := 4) t r) (colAt (s := 4) t k) := by
  have e := (index t).2.1 h
  have := block_lt t
  refine Eq.trans ?_ (joined_right _ _ ⟨1408 * (t % 4 - 2) + k, by omega⟩ (by
    show 1408 * (t.val % 4) + k.val = 2816 + (1408 * (t.val % 4 - 2) + k.val); omega)).symm
  blk_ext [iblk, V, rowAt, e.1, e.2]

theorem weight_block (t : Fin cfg0.N) (y : Fin 1024) (k : Fin 1408) : iblk m c 2 t (ix3 0 y k) = shards (w m c) y (colAt (s := 4) t k) := by
  have e := (index t).2.2.1
  refine Eq.trans ?_ (shards_apply (w m c) y ⟨t % 4, by omega⟩ k (colAt (s := 4) t k).isLt).symm
  blk_ext [iblk, V, e.1, e.2.1, e.2.2]

theorem step_apply (acc : Mat .f32 688 1024) (a : Mat .bf16 688 1408) (b : Stack .bf16 1 1024 1408) (r : Fin 688) (y : Fin 1024) :
    k0_pay1 (F := Ideal) acc a b (ix2 r y) = acc (ix2 r y) + dot a b r y := by
  unfold k0_pay1 dot
  pointwise

theorem start_apply (y : S688x1024.Idx) : k0_pay2 (F := Ideal) y = 0 := by
  unfold k0_pay2
  pointwise

/-- Four points add up a row block. -/
theorem sums : Sums (s := 4) (n := 1408) (joined (dgate m c) (dval m c)) (shards (w m c)) (outsAt0 m c) where
  first t h r y := by
    rw [outsAt0_A m c t h (by omega) (by omega)]
    frame_out
    refine (step_apply _ _ _ r y).trans ?_
    rw [start_apply]
    exact congrArg (0 + ·) (dot_eq (s := 4) _ _ (gate_block m c t (by omega)) (weight_block m c t) r y)
  next t h r y := by
    by_cases h1 : t.val % 4 ≤ 1
    · rw [outsAt0_B m c t h h1 (by omega)]
      frame_out
      exact (step_apply _ _ _ r y).trans (congrArg (_ + ·) (dot_eq (s := 4) _ _ (gate_block m c t (by omega)) (weight_block m c t) r y))
    · rw [outsAt0_C m c t h h1 (by omega)]
      frame_out
      exact (step_apply _ _ _ r y).trans (congrArg (_ + ·) (dot_eq (s := 4) _ _ (value_block m c t (by omega)) (weight_block m c t) r y))

/-- The result array. -/
theorem array : (dats m 0 c).arrAt 3 cfg0.N
    = fun y : S2064x1024.Idx => ∑ k : Fin 5632, joined (dgate m c) (dval m c) (y 0) k * shards (w m c) (y 1) k := by
  refine (dats m 0 c).arrAt_eq_of_covers 3 _ (by decide +kernel) fun t hf y => ?_
  have e := (index t).2.2.2
  have := block_lt t
  obtain ⟨r, y, rfl⟩ := exists_ix2 y
  rw [show (((cfg0.win 3).blk t).view.emb (ix2 r y) : S2064x1024.Idx) = ix2 (rowAt (s := 4) t r) y by blk_ext [rowAt, e.1, e.2]]
  blk_simp
  rw [after0_3]
  exact (sums m c).point t ((flush0_3 t).mp hf) r y

end Kernel

theorem frame_program : Cert.quiescent_FfnInDx := fun m ρ _ => Cert.FfnInDx.Gen.frame m ρ
theorem frame_ideal : Cert.quiescent_FfnInDxIdeal := fun m ρ _ => Cert.FfnInDxIdeal.Gen.frame m ρ
theorem frame_reference : Cert.quiescent_FfnInDxRefIdeal := fun m ρ _ =>
  (θ_run Cert.FfnInDxRefIdeal.defs _ _).mono (fun r h => ⟨fun c => (h c).2,
      Idealize.ShloMosaic.sem_eq_zero_of_no_sems (by decide) r.2⟩)
    (Cert.FfnInDxRefIdeal.Value.run (F := Ideal) m ρ)

/-- The reference's result is the array the program ends with. -/
theorem same_results : Cert.algebraic_FfnInDxIdeal_FfnInDxRefIdeal := by
  intro m ρ m' ρ' _ hagree
  refine ⟨_, Cert.FfnInDxIdeal.Value.run_blocks (F := Ideal) m ρ, ?_⟩
  refine (θ_run Cert.FfnInDxRefIdeal.defs _ _).mono (fun _ h c => ?_) (Cert.FfnInDxRefIdeal.Value.run (F := Ideal) m' ρ')
  obtain ⟨h0, hk⟩ := h c
  obtain ⟨a0, a1, a2⟩ := hagree c
  refine ⟨h0.trans ?_, hk⟩
  rw [Cert.FfnInDxRefIdeal.Read.val_main_v8_eq, a0, a1, a2, array]
  funext y
  rw [Cert.FfnInDxRefIdeal.Read.val_main_v8_apply]
  refine Finset.sum_congr rfl fun k _ => ?_
  rw [Cert.FfnInDxRefIdeal.Read.val_main_v6_apply, Cert.FfnInDxRefIdeal.Read.val_main_v5_apply]
  exact congrArg₂ (· * ·) (concatenate_joined (φ := .f32) _ _ _ _) (shards_of (w m c) rfl rfl rfl)

end Cert.Products.FfnInDx

end
-- ==== Proof.FfnInDw.lean ====
/- The gradient of the feed-forward's input weights: a shard per grid point, the first two of the gate's cotangent and the last
   two of the value's. -/
module

public import proofs.«01_k».proof.Defs
public import proofs.«01_k».proof.Proof.Products
public import proofs.«01_k».proof.Proof.Gen.FfnInDw.Frame
public import proofs.«01_k».proof.Proof.Gen.FfnInDwIdeal.Frame
public import proofs.«01_k».proof.Proof.Gen.FfnInDwIdeal.Value
public import proofs.«01_k».proof.Proof.Gen.FfnInDwRefIdeal.Run
public import proofs.«01_k».proof.Proof.Gen.FfnInDwRefIdeal.Read
public import Idealize.ShloMosaic.Lib.Quiescent

@[expose] public section

set_option maxRecDepth 16384

noncomputable section

namespace Cert.Products.FfnInDw

open Idealize.ShloMosaic Idealize.ShloMosaic.TcCoe Idealize.SL.Sem

section Kernel

open Cert.FfnInDwIdeal Cert.FfnInDwIdeal.Gen Cert.FfnInDwIdeal.Value

variable (m : (ℓ : Loc nD τ sig) → Buf (Elt Ideal) ℓ) (c : Dev nD)

theorem index : ∀ t : Fin cfg0.N, (win0_0.index t 0 = 0 ∧ win0_0.index t 1 = 0)
    ∧ (t.val < 2 → win0_1.index t 0 = 0 ∧ win0_1.index t 1 = t.val) ∧ (2 ≤ t.val → win0_2.index t 0 = 0 ∧ win0_2.index t 1 = t.val - 2)
    ∧ (win0_3.index t 0 = t.val ∧ win0_3.index t 1 = 0 ∧ win0_3.index t 2 = 0) :=
  (by decide +kernel : ∀ t : Fin grid0.N, _)

theorem block_lt (t : Fin cfg0.N) : t.val < 4 := t.isLt

/-- The input and the two cotangents, as launched. -/
abbrev x : Mat .bf16 2064 1024 := m ((c : Thread nD τ).loc main_arg0)
abbrev dgate : Mat .bf16 2064 2816 := m ((c : Thread nD τ).loc main_arg1)
abbrev dval : Mat .bf16 2064 2816 := m ((c : Thread nD τ).loc main_arg2)

theorem input_block (t : Fin cfg0.N) (k : Fin 2064) (r : Fin 1024) : iblk m c 0 t (ix2 k r) = x m c (ix2 k r) := by
  have e := (index t).1
  blk_ext [iblk, V, e.1, e.2]

theorem gate_block (t : Fin cfg0.N) (h : t.val < 2) (k : Fin 2064) (y : Fin 1408) :
    iblk m c 1 t (ix2 k y) = dgate m c (ix2 k ⟨1408 * t + y, by omega⟩) := by
  have e := (index t).2.1 h
  blk_ext [iblk, V, e.1, e.2]

theorem value_block (t : Fin cfg0.N) (h : 2 ≤ t.val) (k : Fin 2064) (y : Fin 1408) :
    iblk m c 2 t (ix2 k y) = dval m c (ix2 k ⟨1408 * (t - 2) + y, by have := block_lt t; omega⟩) := by
  have e := (index t).2.2.1 h
  have := block_lt t
  blk_ext [iblk, V, e.1, e.2]

theorem product_apply (a : Mat .bf16 2064 1024) (b : Mat .bf16 2064 1408) (r : Fin 1024) (y : Fin 1408) :
    k0_pay1 (F := Ideal) a b (ix3 0 r y) = ∑ k : Fin 2064, a (ix2 k r) * b (ix2 k y) := by
  unfold k0_pay1
  pointwise

/-- What a grid point leaves in its block. -/
theorem block (t : Fin cfg0.N) (r : Fin 1024) (y : Fin 1408) : outsAt0 m c t.val t.isLt (ix3 0 r y)
    = ∑ k : Fin 2064, x m c (ix2 k r) * joined (dgate m c) (dval m c) k ⟨1408 * t + y, by have := block_lt t; omega⟩ := by
  have := block_lt t
  by_cases h : t.val < 2
  · rw [outsAt0_A m c t h (by omega)]
    frame_out
    refine (product_apply _ _ r y).trans (Finset.sum_congr rfl fun k _ => ?_)
    rw [input_block, gate_block m c t h]
    exact congrArg (_ * ·) (joined_left _ _ _ rfl).symm
  · rw [outsAt0_B m c t h (by omega)]
    frame_out
    refine (product_apply _ _ r y).trans (Finset.sum_congr rfl fun k _ => ?_)
    rw [input_block, value_block m c t (by omega)]
    exact congrArg (_ * ·) (joined_right _ _ _ (by show 1408 * t.val + y.val = 2816 + (1408 * (t.val - 2) + y.val); omega)).symm

/-- The result array. -/
theorem array : (dats m 0 c).arrAt 3 cfg0.N = fun y : S4x1024x1408.Idx => ∑ k : Fin 2064, x m c (ix2 k (y 1))
    * joined (dgate m c) (dval m c) k ⟨1408 * (y 0).val + (y 2).val, by
      have h0 : (y 0).val < 4 := (y 0).isLt
      have h2 : (y 2).val < 1408 := (y 2).isLt
      omega⟩ := by
  refine (dats m 0 c).arrAt_eq_of_covers 3 _ (by decide +kernel) fun t hf y => ?_
  have e := (index t).2.2.2
  have := block_lt t
  obtain ⟨r, y, rfl⟩ := exists_ix3 y
  have ey : (((cfg0.win 3).blk t).view.emb (ix3 0 r y) : S4x1024x1408.Idx) = ix3 ⟨t, this⟩ r y := by
    blk_ext [e.1, e.2.1, e.2.2]
  rw [ey]
  blk_simp
  rw [after0_3]
  exact block m c t r y

end Kernel

theorem frame_program : Cert.quiescent_FfnInDw := fun m ρ _ => Cert.FfnInDw.Gen.frame m ρ
theorem frame_ideal : Cert.quiescent_FfnInDwIdeal := fun m ρ _ => Cert.FfnInDwIdeal.Gen.frame m ρ
theorem frame_reference : Cert.quiescent_FfnInDwRefIdeal := fun m ρ _ =>
  (θ_run Cert.FfnInDwRefIdeal.defs _ _).mono (fun r h => ⟨fun c => (h c).2,
      Idealize.ShloMosaic.sem_eq_zero_of_no_sems (by decide) r.2⟩)
    (Cert.FfnInDwRefIdeal.Value.run (F := Ideal) m ρ)

/-- The reference's result is the array the program ends with. -/
theorem same_results : Cert.algebraic_FfnInDwIdeal_FfnInDwRefIdeal := by
  intro m ρ m' ρ' _ hagree
  refine ⟨_, Cert.FfnInDwIdeal.Value.run_blocks (F := Ideal) m ρ, ?_⟩
  refine (θ_run Cert.FfnInDwRefIdeal.defs _ _).mono (fun _ h c => ?_) (Cert.FfnInDwRefIdeal.Value.run (F := Ideal) m' ρ')
  obtain ⟨h0, hk⟩ := h c
  obtain ⟨a0, a1, a2⟩ := hagree c
  refine ⟨h0.trans ?_, hk⟩
  rw [Cert.FfnInDwRefIdeal.Read.val_main_v12_eq, a0, a1, a2, array]
  funext y
  rw [Cert.FfnInDwRefIdeal.Read.val_main_v12_apply, Cert.FfnInDwRefIdeal.Read.val_main_v11_apply,
    Cert.FfnInDwRefIdeal.Read.val_main_v10_apply, Cert.FfnInDwRefIdeal.Read.val_main_v9_apply, Cert.FfnInDwRefIdeal.Read.val_main_v8_apply]
  refine Finset.sum_congr rfl fun k _ => ?_
  rw [mul_comm (x m c _)]
  exact congrArg₂ (· * ·) ((concatenate_joined (φ := .f32) _ _ _ _).trans
    (congrArg (joined (dgate m c) (dval m c) k) (Fin.ext (split_column (s := 4) (n := 1408) (y 1).val (y 0) (y 2)))))
    (congrArg (x m c) (ix2_of rfl (split_row (s := 4) (n := 1408) (y 1).val (y 0) (y 2))))

end Cert.Products.FfnInDw

end
-- ==== Proof.LayerNorm.lean ====
/- Layer normalisation of one row of 1024 entries. -/
module

public import proofs.«01_k».proof.Proof.Products

@[expose] public section

noncomputable section

namespace Cert.Products.Norm

open Idealize.ShloMosaic

theorem bits_zero : Ideal.ofBits .f32 0x00000000#32 = 0 := by simp [Ideal.ofBits, Ideal.ieee]

/-- The mean of a row. -/
def mean (v : Fin 1024 → EReal) : EReal := Ideal.div (∑ k, v k) (Ideal.ofBits .f32 0x44800000#32)

/-- A row less its mean. -/
def centred (v : Fin 1024 → EReal) (y : Fin 1024) : EReal := v y - mean v

/-- The reciprocal root of a row's variance, which the programs add 1e-5 to. -/
def rstd (v : Fin 1024 → EReal) : EReal :=
  Ideal.rsqrt (mean (fun k => centred v k * centred v k) + Ideal.ofBits .f32 0x3727C5AC#32)

/-- The normalised row. -/
def xhat (v : Fin 1024 → EReal) (y : Fin 1024) : EReal := centred v y * rstd v

end Cert.Products.Norm

namespace Cert.Products

open Idealize.ShloMosaic

/-- A row in front of the norm: the residual stream, scaled by the fourth root of eight, and the product. -/
def outRow {T K : ℕ} (x : Mat .bf16 T K) (w : Mat .bf16 K 1024) (h : Mat .f32 T 1024) (r : Fin T) (y : Fin 1024) : EReal :=
  Ideal.ofBits .f32 0x3FD744FD#32 * h (ix2 r y) + ∑ k : Fin K, x (ix2 r k) * w (ix2 k y)

end Cert.Products

end
-- ==== Proof.NormGrad.lean ====
/- The gradient of layer normalisation over one row: the chain rule step by step, and its closed form. -/
module

public import proofs.«01_k».proof.Proof.LayerNorm

@[expose] public section

noncomputable section

namespace Cert.Products.Norm

open Idealize.ShloMosaic

/-- The variance of a row and 1e-5. -/
def variance (v : Fin 1024 → EReal) : EReal := mean (fun k => centred v k * centred v k) + Ideal.ofBits .f32 0x3727C5AC#32

/-- The closed form over a normalised row `x` with the reciprocal deviation `ρ`: `d` is the incoming gradient times the scale. -/
def backOf (x : Fin 1024 → EReal) (ρ : EReal) (d : Fin 1024 → EReal) (y : Fin 1024) : EReal :=
  ρ * (d y - mean d - x y * mean (fun k => d k * x k))

/-- The closed form from the row itself. -/
def back (v d : Fin 1024 → EReal) (y : Fin 1024) : EReal := backOf (xhat v) (rstd v) d y

/-- What reaches a row through the numerator alone. -/
def slope (v d : Fin 1024 → EReal) (y : Fin 1024) : EReal := d y * rstd v

/-- What reaches each square through the reciprocal root. -/
def spread (v d : Fin 1024 → EReal) : EReal :=
  Ideal.div ((∑ k, centred v k * d k) * (Ideal.ofBits .f32 0xBF000000#32 * Ideal.div (rstd v) (variance v))) (Ideal.ofBits .f32 0x44800000#32)

/-- What reaches a row through the squares. -/
def bend (v d : Fin 1024 → EReal) (y : Fin 1024) : EReal := spread v d * (Ideal.ofBits .f32 0x40000000#32 * centred v y)

/-- The chain rule: both ways to the row, and from both ways what goes through the mean. -/
def chain (v d : Fin 1024 → EReal) (y : Fin 1024) : EReal :=
  slope v d y + bend v d y + Ideal.div ((∑ k, -slope v d k) + ∑ k, -bend v d k) (Ideal.ofBits .f32 0x44800000#32)

theorem bits_1024 : Ideal.ofBits .f32 0x44800000#32 = ((1024 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_neg_half : Ideal.ofBits .f32 0xBF000000#32 = ((-(1 / 2) : ℝ) : EReal) := by
  simp [Ideal.ofBits, Ideal.ieee, -EReal.coe_mul, -EReal.coe_neg]; norm_num
theorem bits_eps : Ideal.ofBits .f32 0x3727C5AC#32 = ((10995116 / 2 ^ 40 : ℝ) : EReal) := by
  simp [Ideal.ofBits, Ideal.ieee, -EReal.coe_mul]; norm_num
theorem bits_alpha : ∃ a : ℝ, Ideal.ofBits .f32 0x3FD744FD#32 = (a : EReal) := by
  simp [Ideal.ofBits, Ideal.ieee, -EReal.coe_mul]

theorem coe_sum {ι : Type} (s : Finset ι) (f : ι → ℝ) : ∑ k ∈ s, ((f k : ℝ) : EReal) = ((∑ k ∈ s, f k : ℝ) : EReal) := by
  classical
  induction s using Finset.induction_on with
  | empty => simp
  | insert a s h ih => rw [Finset.sum_insert h, Finset.sum_insert h, ih, EReal.coe_add]

/-- The same over the reals. -/
def meanR (v : Fin 1024 → ℝ) : ℝ := (∑ k, v k) * (1 / 1024)
def centredR (v : Fin 1024 → ℝ) (y : Fin 1024) : ℝ := v y - meanR v
def varianceR (v : Fin 1024 → ℝ) : ℝ := meanR (fun k => centredR v k * centredR v k) + 10995116 / 2 ^ 40
def rstdR (v : Fin 1024 → ℝ) : ℝ := (Real.sqrt (varianceR v))⁻¹

theorem varianceR_pos (v : Fin 1024 → ℝ) : 0 < varianceR v := by
  have : 0 ≤ ∑ k, centredR v k * centredR v k := Finset.sum_nonneg fun k _ => mul_self_nonneg _
  unfold varianceR meanR
  positivity

theorem sum_centredR (v : Fin 1024 → ℝ) : ∑ k, centredR v k = 0 := by
  simp only [centredR, Finset.sum_sub_distrib, meanR, Finset.sum_const, Finset.card_univ, Fintype.card_fin, nsmul_eq_mul]
  push_cast
  ring

theorem rstdR_mul (v : Fin 1024 → ℝ) : rstdR v * rstdR v = 1 / varianceR v := by
  rw [rstdR, ← mul_inv, Real.mul_self_sqrt (varianceR_pos v).le, one_div]

theorem mean_coe (v : Fin 1024 → ℝ) : mean (fun k => (v k : EReal)) = (meanR v : EReal) := by
  rw [mean, bits_1024, Ideal.div_coe (by norm_num), coe_sum, ← EReal.coe_mul]
  rfl

theorem centred_coe (v : Fin 1024 → ℝ) (y : Fin 1024) : centred (fun k => (v k : EReal)) y = (centredR v y : EReal) := by
  rw [centred, mean_coe, ← EReal.coe_sub]
  rfl

theorem variance_coe (v : Fin 1024 → ℝ) : variance (fun k => (v k : EReal)) = (varianceR v : EReal) := by
  rw [variance, bits_eps]
  simp only [centred_coe, ← EReal.coe_mul]
  rw [mean_coe, ← EReal.coe_add]
  rfl

theorem rstd_coe (v : Fin 1024 → ℝ) : rstd (fun k => (v k : EReal)) = (rstdR v : EReal) := by
  show Ideal.rsqrt (variance _) = _
  rw [variance_coe, Ideal.rsqrt_coe, if_neg (varianceR_pos v).not_gt, if_neg (varianceR_pos v).ne']
  rfl

theorem xhat_coe (v : Fin 1024 → ℝ) (y : Fin 1024) : xhat (fun k => (v k : EReal)) y = ((centredR v y * rstdR v : ℝ) : EReal) := by
  rw [xhat, centred_coe, rstd_coe, EReal.coe_mul]

theorem spread_coe (v d : Fin 1024 → ℝ) : spread (fun k => (v k : EReal)) (fun k => (d k : EReal))
    = (((∑ k, centredR v k * d k) * (-(1 / 2) * (rstdR v * (1 / varianceR v))) * (1 / 1024) : ℝ) : EReal) := by
  rw [spread, bits_1024, bits_neg_half, variance_coe, rstd_coe, Ideal.div_coe (by norm_num), Ideal.div_coe (varianceR_pos v).ne']
  simp only [centred_coe, ← EReal.coe_mul]
  rw [coe_sum, ← EReal.coe_mul, ← EReal.coe_mul]

/-- Over the reals the closed form is the chain rule: the centred row sums to zero. -/
theorem chain_eq_back (v d : Fin 1024 → ℝ) (y : Fin 1024) :
    chain (fun k => (v k : EReal)) (fun k => (d k : EReal)) y = back (fun k => (v k : EReal)) (fun k => (d k : EReal)) y := by
  simp only [chain, back, backOf, slope, bend, spread_coe, rstd_coe, centred_coe, xhat_coe, bits_1024, bits_two]
  rw [Ideal.div_coe (by norm_num)]
  simp only [← EReal.coe_mul, ← EReal.coe_neg, mean_coe, coe_sum, ← EReal.coe_add, ← EReal.coe_sub]
  refine congrArg _ ?_
  have e1 : ∑ k, -(d k * rstdR v) = -((∑ k, d k) * rstdR v) := by rw [Finset.sum_neg_distrib, Finset.sum_mul]
  have e2 : ∀ s : ℝ, ∑ k, -(s * (2 * centredR v k)) = 0 := fun s => by
    rw [Finset.sum_neg_distrib, ← Finset.mul_sum, ← Finset.mul_sum, sum_centredR]; ring
  have e3 : ∑ k, d k * (centredR v k * rstdR v) = (∑ k, centredR v k * d k) * rstdR v := by
    rw [Finset.sum_mul]
    exact Finset.sum_congr rfl fun k _ => by ring
  rw [e1, e2, meanR, meanR, e3, ← rstdR_mul]
  ring

/-- The gradient in front of a norm: the scaled gradient of the residual stream, and the gradient of the branch. -/
def outer {T : ℕ} (a b : Mat .f32 T 1024) (r : Fin T) (y : Fin 1024) : EReal := Ideal.ofBits .f32 0x3FD744FD#32 * a (ix2 r y) + b (ix2 r y)

/-- It times the scale. -/
def scaled {T : ℕ} (a b : Mat .f32 T 1024) (g : Mat .f32 1 1024) (r : Fin T) (y : Fin 1024) : EReal := outer a b r y * g (ix2 0 y)

/-- A row of a matrix. -/
def row {T : ℕ} (a : Mat .f32 T 1024) (r : Fin T) (y : Fin 1024) : EReal := a (ix2 r y)

/-- An infinite entry. -/
def Infinite (x : EReal) : Prop := x = ⊤ ∨ x = ⊥

theorem infinite_or_real (x : EReal) : Infinite x ∨ ∃ y : ℝ, x = y := by
  induction x using EReal.rec with
  | bot => exact .inl (.inr rfl)
  | coe y => exact .inr ⟨y, rfl⟩
  | top => exact .inl (.inl rfl)

/-- One infinite entry makes the sum infinite, and so the mean. -/
theorem sum_infinite (v : Fin 1024 → EReal) (k : Fin 1024) (h : Infinite (v k)) : Infinite (∑ k, v k) := by
  rw [← Finset.add_sum_erase _ _ (Finset.mem_univ k)]
  generalize ∑ x ∈ Finset.univ.erase k, v x = b
  rcases h with h | h <;> rw [h]
  · induction b using EReal.rec with
    | bot => exact .inr (EReal.add_bot _)
    | coe y => exact .inl (EReal.top_add_coe y)
    | top => exact .inl EReal.top_add_top
  · exact .inr (EReal.bot_add _)

theorem mean_infinite (v : Fin 1024 → EReal) (k : Fin 1024) (h : Infinite (v k)) : Infinite (mean v) := by
  rw [mean, bits_1024, Ideal.div_coe (by norm_num)]
  rcases sum_infinite v k h with h | h <;> rw [h]
  · exact .inl (EReal.top_mul_coe_of_pos (by norm_num))
  · exact .inr (EReal.bot_mul_coe_of_pos (by norm_num))

theorem centred_infinite (v : Fin 1024 → EReal) (h : Infinite (mean v)) (y : Fin 1024) : Infinite (centred v y) := by
  rw [centred, sub_eq_add_neg]
  rcases h with h | h <;> rw [h]
  · exact .inr (by rw [EReal.neg_top, EReal.add_bot])
  · rw [EReal.neg_bot]
    generalize v y = a
    induction a using EReal.rec with
    | bot => exact .inr (EReal.bot_add _)
    | coe x => exact .inl (EReal.coe_add_top x)
    | top => exact .inl EReal.top_add_top

theorem square_infinite (x : EReal) (h : Infinite x) : x * x = ⊤ := by
  rcases h with rfl | rfl
  · exact EReal.top_mul_top
  · exact EReal.bot_mul_bot

/-- A row with an infinite entry has an infinite variance. -/
theorem variance_infinite (v : Fin 1024 → EReal) (k : Fin 1024) (h : Infinite (v k)) : variance v = ⊤ := by
  have e : (fun k => centred v k * centred v k) = fun _ => (⊤ : EReal) :=
    funext fun y => square_infinite _ (centred_infinite v (mean_infinite v k h) y)
  have hs : (∑ _k : Fin 1024, (⊤ : EReal)) = ⊤ := by
    rcases sum_infinite (fun _ => ⊤) 0 (.inl rfl) with hs | hs
    · exact hs
    · have : (0 : EReal) ≤ ∑ _k : Fin 1024, (⊤ : EReal) := Finset.sum_nonneg fun _ _ => le_top
      rw [hs] at this
      exact absurd this (by simp)
  rw [variance, e, mean, hs, bits_1024, Ideal.div_coe (by norm_num), EReal.top_mul_coe_of_pos (by norm_num), bits_eps,
    EReal.top_add_coe]

theorem div_zero_1024 : Ideal.div 0 (Ideal.ofBits .f32 0x44800000#32) = 0 := by
  rw [bits_1024, Ideal.div_coe (by norm_num), zero_mul]

/-- So nothing reaches such a row: its reciprocal deviation is zero, in the chain rule and in the closed form. -/
theorem chain_eq_back_of_infinite (v d : Fin 1024 → EReal) (k : Fin 1024) (h : Infinite (v k)) (y : Fin 1024) :
    chain v d y = back v d y := by
  have hv := variance_infinite v k h
  have hr : rstd v = 0 := by
    show Ideal.rsqrt (variance v) = 0
    rw [hv]
    rfl
  have hd : Ideal.div (rstd v) (variance v) = 0 := by rw [hr, hv, Ideal.div, if_neg EReal.top_ne_zero, zero_mul]
  have hs : spread v d = 0 := by rw [spread, hd, mul_zero, mul_zero, div_zero_1024]
  simp only [chain, back, backOf, slope, bend, hs, hr, mul_zero, zero_mul, neg_zero, Finset.sum_const_zero, add_zero, div_zero_1024]

/-- With finite gradients and a finite scale the chain rule over a row is the closed form, whatever the row is. -/
theorem chain_eq {a b s : Mat .f32 2064 1024} {g : Mat .f32 1 1024} (ha : ∀ i, ∃ x : ℝ, a i = x) (hb : ∀ i, ∃ x : ℝ, b i = x)
    (hg : ∀ i, ∃ x : ℝ, g i = x) (r : Fin 2064) (y : Fin 1024) :
    chain (row s r) (scaled a b g r) y = back (row s r) (scaled a b g r) y := by
  by_cases hs : ∃ k, Infinite (row s r k)
  · obtain ⟨k, hk⟩ := hs
    exact chain_eq_back_of_infinite _ _ k hk y
  have hs : ∀ k, ∃ x : ℝ, row s r k = x := fun k => (infinite_or_real _).resolve_left fun h => hs ⟨k, h⟩
  obtain ⟨α, hα⟩ := bits_alpha
  choose a' ha using ha
  choose b' hb using hb
  choose s' hs using hs
  choose g' hg using hg
  have e : scaled a b g r = fun k => (((α * a' (ix2 r k) + b' (ix2 r k)) * g' (ix2 0 k) : ℝ) : EReal) := funext fun k => by
    rw [scaled, outer, ha, hb, hg, hα, EReal.coe_mul, EReal.coe_add, EReal.coe_mul]
  rw [e, funext hs]
  exact chain_eq_back _ _ y

end Cert.Products.Norm

end
-- ==== Proof.NormBlocks.lean ====
/- The gradient of a layer normalisation by row blocks: three blocks of 688 rows each, and the gradients of the scale and the shift
   added up over them.  Stated of any arrays, for every program that works this way. -/
module

public import proofs.«01_k».proof.Proof.NormGrad
public import proofs.«01_k».proof.Proof.Gen.FfnBackIdeal.Frame

@[expose] public section

set_option maxRecDepth 16384

noncomputable section

namespace Cert.Products.Norm

open Idealize.ShloMosaic Cert.FfnBackIdeal Cert.FfnBackIdeal.Gen

/-- The row that row `r` of block `t` is. -/
abbrev at_ (t : Fin 3) (r : Fin 688) : Fin 2064 := ⟨688 * t + r, by omega⟩

theorem line (y : S1x1024.Idx) : ∃ x : Fin 1024, y = ix2 0 x :=
  ⟨y 1, funext fun a => by fin_cases a; exacts [Subsingleton.elim (α := Fin 1) _ _, rfl]⟩

/-- A sum over the rows, block after block from zero. -/
theorem sum_blocks (f : Fin 2064 → EReal) :
    0 + ∑ k : Fin 688, f (at_ 0 k) + ∑ k : Fin 688, f (at_ 1 k) + ∑ k : Fin 688, f (at_ 2 k) = ∑ r : Fin 2064, f r := by
  rw [zero_add, ← Fin.sum_univ_three (fun t => ∑ k : Fin 688, f (at_ t k))]
  refine Fin.sum_mul_add_congr fun t k hl => congrArg f (Fin.ext ?_)
  show 688 * t.val + k.val = t.val * 688 + k.val
  omega

section Arithmetic

theorem outer_apply (a b : Mat .f32 688 1024) (r : Fin 688) (y : Fin 1024) : k0_pay3 (F := Ideal) a b (ix2 r y) = outer a b r y := by
  unfold k0_pay3
  pointwise
  rfl

theorem same_apply (x : Mat .f32 688 1024) (r : Fin 688) (y : Fin 1024) : k0_pay6 (F := Ideal) x (ix2 r y) = x (ix2 r y) := by
  unfold k0_pay6
  pointwise

theorem back_apply (a b x : Mat .f32 688 1024) (g : Mat .f32 1 1024) (ρ : Mat .f32 688 1) (r : Fin 688) (y : Fin 1024) :
    k0_pay7 (F := Ideal) a b x g ρ (ix2 r y) = backOf (row x r) (ρ (ix2 r 0)) (scaled a b g r) y := by
  unfold k0_pay7
  pointwise
  simp only [outer_apply, same_apply]
  rfl

theorem scale_step (a b x : Mat .f32 688 1024) (acc : Mat .f32 1 1024) (y : Fin 1024) :
    k0_pay1 (F := Ideal) (k0_pay3 a b) (k0_pay6 x) acc (ix2 0 y) = acc (ix2 0 y) + ∑ r : Fin 688, outer a b r y * x (ix2 r y) := by
  unfold k0_pay1
  pointwise
  simp only [outer_apply, same_apply]

theorem shift_step (a b : Mat .f32 688 1024) (acc : Mat .f32 1 1024) (y : Fin 1024) :
    k0_pay2 (F := Ideal) (k0_pay3 a b) acc (ix2 0 y) = acc (ix2 0 y) + ∑ r : Fin 688, outer a b r y := by
  unfold k0_pay2
  pointwise
  simp only [outer_apply]

theorem scale_start (y : S1x1024.Idx) : k0_pay4 (F := Ideal) y = 0 := by
  unfold k0_pay4
  pointwise

theorem shift_start (y : S1x1024.Idx) : k0_pay5 (F := Ideal) y = 0 := by
  unfold k0_pay5
  pointwise

end Arithmetic

/-- What a block leaves: the rows' gradient, that in the narrower format, and the two sums so far. -/
abbrev Left := Mat .f32 688 1024 × Mat .bf16 688 1024 × Mat .f32 1 1024 × Mat .f32 1 1024

/-- A block's arithmetic, from the sums before it. -/
def step (a b x : Mat .f32 688 1024) (γ : Mat .f32 1 1024) (ρ : Mat .f32 688 1) (scale shift : Mat .f32 1 1024) : Left :=
  (k0_pay7 (F := Ideal) a b x γ ρ, k0_pay8 (F := Ideal) a b x γ ρ, k0_pay1 (F := Ideal) (k0_pay3 a b) (k0_pay6 x) scale,
    k0_pay2 (F := Ideal) (k0_pay3 a b) shift)

variable (ds dh s : Mat .f32 2064 1024) (g : Mat .f32 1 1024)

/-- The rows' gradient. -/
def whole (r : Fin 2064) (y : Fin 1024) : EReal := back (row s r) (scaled ds dh g r) y

/-- The gradient in front of a product: each row's gradient against each row of the weights. -/
def mixed {K : ℕ} (w : Mat .bf16 K 1024) (r : Fin 2064) (z : Fin K) : EReal := ∑ k : Fin 1024, whole ds dh s g r k * w (ix2 z k)

/-- The blocks of a point are block `t` of the two gradients, of the normalised rows, of the scale and of the reciprocal deviations. -/
structure Blocks (t : Fin 3) (a b x : Mat .f32 688 1024) (γ : Mat .f32 1 1024) (ρ : Mat .f32 688 1) : Prop where
  stream : ∀ r y, a (ix2 r y) = ds (ix2 (at_ t r) y)
  branch : ∀ r y, b (ix2 r y) = dh (ix2 (at_ t r) y)
  xhat : ∀ r y, x (ix2 r y) = xhat (row s (at_ t r)) y
  scale : ∀ y, γ (ix2 0 y) = g (ix2 0 y)
  rstd : ∀ r, ρ (ix2 r 0) = rstd (row s (at_ t r))

namespace Blocks

variable {ds dh s g} {t : Fin 3} {a b x : Mat .f32 688 1024} {γ : Mat .f32 1 1024} {ρ : Mat .f32 688 1}

theorem outer_eq (B : Blocks ds dh s g t a b x γ ρ) (r : Fin 688) (y : Fin 1024) : outer a b r y = outer ds dh (at_ t r) y := by
  unfold outer
  rw [B.stream, B.branch]

theorem back_eq (B : Blocks ds dh s g t a b x γ ρ) (r : Fin 688) (y : Fin 1024) : k0_pay7 (F := Ideal) a b x γ ρ (ix2 r y) = whole ds dh s g (at_ t r) y := by
  rw [back_apply, show row x r = Norm.xhat (row s (at_ t r)) from funext fun k => B.xhat r k, B.rstd,
    show scaled a b γ r = scaled ds dh g (at_ t r) from funext fun k => by unfold scaled; rw [B.outer_eq, B.scale]]
  rfl

theorem rounded_eq (B : Blocks ds dh s g t a b x γ ρ) (r : Fin 688) (y : Fin 1024) : k0_pay8 (F := Ideal) a b x γ ρ (ix2 r y) = whole ds dh s g (at_ t r) y := by
  rw [← B.back_eq]; rfl

theorem scale_eq (B : Blocks ds dh s g t a b x γ ρ) (y : Fin 1024) :
    ∑ r : Fin 688, outer a b r y * x (ix2 r y) = ∑ r : Fin 688, outer ds dh (at_ t r) y * Norm.xhat (row s (at_ t r)) y :=
  Finset.sum_congr rfl fun r _ => congrArg₂ (· * ·) (B.outer_eq r y) (B.xhat r y)

theorem shift_eq (B : Blocks ds dh s g t a b x γ ρ) (y : Fin 1024) : ∑ r : Fin 688, outer a b r y = ∑ r : Fin 688, outer ds dh (at_ t r) y :=
  Finset.sum_congr rfl fun r _ => B.outer_eq r y

theorem mixed_eq (B : Blocks ds dh s g t a b x γ ρ) {K : ℕ} {w v : Mat .bf16 K 1024} (hv : ∀ z k, v (ix2 z k) = w (ix2 z k)) (r : Fin 688) (z : Fin K) :
    ∑ k : Fin 1024, k0_pay8 (F := Ideal) a b x γ ρ (ix2 r k) * v (ix2 z k) = mixed ds dh s g w (at_ t r) z :=
  Finset.sum_congr rfl fun k _ => congrArg₂ (· * ·) (B.rounded_eq r k) (hv z k)

end Blocks

/-- A run over the blocks: the first starts the two sums from zero, the others add to what the block before left. -/
structure Run (o : ∀ n, n < 3 → Left) (a b x : Fin 3 → Mat .f32 688 1024) (γ : Fin 3 → Mat .f32 1 1024) (ρ : Fin 3 → Mat .f32 688 1) : Prop where
  blocks : ∀ t, Blocks ds dh s g t (a t) (b t) (x t) (γ t) (ρ t)
  first : ∀ t : Fin 3, t.val % 3 = 0 → o t.val t.isLt = step (a t) (b t) (x t) (γ t) (ρ t) (k0_pay4 (F := Ideal)) (k0_pay5 (F := Ideal))
  next : ∀ t : Fin 3, ¬t.val % 3 = 0 → o t.val t.isLt = step (a t) (b t) (x t) (γ t) (ρ t)
    (o (t.val - 1) (Nat.lt_of_le_of_lt (Nat.sub_le _ _) t.isLt)).2.2.1 (o (t.val - 1) (Nat.lt_of_le_of_lt (Nat.sub_le _ _) t.isLt)).2.2.2

namespace Run

variable {ds dh s g} {o : ∀ n, n < 3 → Left} {a b x : Fin 3 → Mat .f32 688 1024} {γ : Fin 3 → Mat .f32 1 1024} {ρ : Fin 3 → Mat .f32 688 1}

theorem back_point (R : Run ds dh s g o a b x γ ρ) (t : Fin 3) (r : Fin 688) (y : Fin 1024) : (o t.val t.isLt).1 (ix2 r y) = whole ds dh s g (at_ t r) y := by
  by_cases h : t.val % 3 = 0
  · rw [R.first t h]; exact (R.blocks t).back_eq r y
  · rw [R.next t h]; exact (R.blocks t).back_eq r y

theorem rounded_point (R : Run ds dh s g o a b x γ ρ) (t : Fin 3) (r : Fin 688) (y : Fin 1024) :
    (o t.val t.isLt).2.1 (ix2 r y) = whole ds dh s g (at_ t r) y := by
  by_cases h : t.val % 3 = 0
  · rw [R.first t h]; exact (R.blocks t).rounded_eq r y
  · rw [R.next t h]; exact (R.blocks t).rounded_eq r y

/-- The last block leaves the whole sums. -/
theorem scale_point (R : Run ds dh s g o a b x γ ρ) (t : Fin 3) (h : t.val % 3 = 2) (y : Fin 1024) :
    (o t.val t.isLt).2.2.1 (ix2 0 y) = ∑ r : Fin 2064, outer ds dh r y * Norm.xhat (row s r) y := by
  obtain rfl : t = 2 := Fin.ext (by have := t.isLt; show t.val = 2; omega)
  rw [← sum_blocks]
  refine (congrArg (fun l : Left => l.2.2.1 (ix2 0 y)) (R.next 2 (by decide))).trans ((scale_step _ _ _ _ y).trans (congrArg₂ (· + ·) ?_ ((R.blocks 2).scale_eq y)))
  refine (congrArg (fun l : Left => l.2.2.1 (ix2 0 y)) (R.next 1 (by decide))).trans ((scale_step _ _ _ _ y).trans (congrArg₂ (· + ·) ?_ ((R.blocks 1).scale_eq y)))
  exact (congrArg (fun l : Left => l.2.2.1 (ix2 0 y)) (R.first 0 (by decide))).trans
    ((scale_step _ _ _ _ y).trans (congrArg₂ (· + ·) (scale_start _) ((R.blocks 0).scale_eq y)))

theorem shift_point (R : Run ds dh s g o a b x γ ρ) (t : Fin 3) (h : t.val % 3 = 2) (y : Fin 1024) :
    (o t.val t.isLt).2.2.2 (ix2 0 y) = ∑ r : Fin 2064, outer ds dh r y := by
  obtain rfl : t = 2 := Fin.ext (by have := t.isLt; show t.val = 2; omega)
  rw [← sum_blocks]
  refine (congrArg (fun l : Left => l.2.2.2 (ix2 0 y)) (R.next 2 (by decide))).trans ((shift_step _ _ _ y).trans (congrArg₂ (· + ·) ?_ ((R.blocks 2).shift_eq y)))
  refine (congrArg (fun l : Left => l.2.2.2 (ix2 0 y)) (R.next 1 (by decide))).trans ((shift_step _ _ _ y).trans (congrArg₂ (· + ·) ?_ ((R.blocks 1).shift_eq y)))
  exact (congrArg (fun l : Left => l.2.2.2 (ix2 0 y)) (R.first 0 (by decide))).trans
    ((shift_step _ _ _ y).trans (congrArg₂ (· + ·) (shift_start _) ((R.blocks 0).shift_eq y)))

end Run

end Cert.Products.Norm

end
-- ==== Proof.NormOut.lean ====
/- The layer normalisation behind an output product, by row blocks: stated of any block of rows, for every program that works this way. -/
module

public import proofs.«01_k».proof.Proof.NormBlocks
public import proofs.«01_k».proof.Proof.Gen.FfnOutIdeal.Frame

@[expose] public section

set_option maxRecDepth 16384

noncomputable section

namespace Cert.Products.Norm

open Idealize.ShloMosaic Cert.FfnOutIdeal Cert.FfnOutIdeal.Gen

/-- The programs' normalisation of a block of rows, operation by operation. -/
def centredOps (v : Mat .f32 688 1024) : Mat .f32 688 1024 :=
  subf v (broadcastTo S688x1024 (divf (shapeCast S688x1 (multiReduction .add [1] S688 v 0x00000000#32 reduces_S688x1024_S688 (.inl rfl) rfl)
    shapeCasts_S688_S688x1) (broadcast S688x1 (Scalar.ofBits .f32 0x44800000#32))) broadcasts_S688x1_S688x1024)

def rstdOps (v : Mat .f32 688 1024) : Mat .f32 688 1 :=
  rsqrt (addf (divf (shapeCast S688x1 (multiReduction .add [1] S688 (mulf (centredOps v) (centredOps v)) 0x00000000#32 reduces_S688x1024_S688 (.inl rfl) rfl)
    shapeCasts_S688_S688x1) (broadcast S688x1 (Scalar.ofBits .f32 0x44800000#32))) (broadcast S688x1 (Scalar.ofBits .f32 0x3727C5AC#32)))

def xhatOps (v : Mat .f32 688 1024) : Mat .f32 688 1024 := mulf (centredOps v) (broadcastTo S688x1024 (rstdOps v) broadcasts_S688x1_S688x1024)

def resultOps (v : Mat .f32 688 1024) (g b : Mat .f32 1 1024) : Mat .f32 688 1024 :=
  addf (mulf (xhatOps v) (broadcastTo S688x1024 g broadcasts_S1x1024_S688x1024)) (broadcastTo S688x1024 b broadcasts_S1x1024_S688x1024)

def roundedOps (v : Mat .f32 688 1024) (g b : Mat .f32 1 1024) : Mat .bf16 688 1024 := truncf .bf16 (resultOps v g b) bitsLt_bf16_f32

theorem centred_apply (v : Mat .f32 688 1024) (r : Fin 688) (y : Fin 1024) : centredOps v (ix2 r y) = centred (row v r) y := by
  unfold centredOps
  pointwise
  rfl

theorem rstd_apply (v : Mat .f32 688 1024) (r : Fin 688) : rstdOps v (ix2 r 0) = rstd (row v r) := by
  unfold rstdOps
  pointwise
  simp only [centred_apply]
  rfl

theorem xhat_apply (v : Mat .f32 688 1024) (r : Fin 688) (y : Fin 1024) : xhatOps v (ix2 r y) = xhat (row v r) y := by
  unfold xhatOps
  pointwise
  rw [centred_apply, rstd_apply]
  rfl

theorem result_apply (v : Mat .f32 688 1024) (g b : Mat .f32 1 1024) (r : Fin 688) (y : Fin 1024) :
    resultOps v g b (ix2 r y) = xhat (row v r) y * g (ix2 0 y) + b (ix2 0 y) := by
  unfold resultOps
  pointwise
  rw [xhat_apply]

/-- The result of a row: normalised, scaled and shifted. -/
def normed (v : Fin 1024 → EReal) (g b : Mat .f32 1 1024) (y : Fin 1024) : EReal := xhat v y * g (ix2 0 y) + b (ix2 0 y)

/-- The blocks of a point: the rows of block `t` in front of the norm, the scale and the shift. -/
structure OutBlocks {K : ℕ} (x : Mat .bf16 2064 K) (w : Mat .bf16 K 1024) (h : Mat .f32 2064 1024) (g b : Mat .f32 1 1024) (t : Fin 3)
    (v : Mat .f32 688 1024) (γ β : Mat .f32 1 1024) : Prop where
  rows : ∀ r y, v (ix2 r y) = outRow x w h (at_ t r) y
  scale : ∀ y, γ (ix2 0 y) = g (ix2 0 y)
  shift : ∀ y, β (ix2 0 y) = b (ix2 0 y)

namespace OutBlocks

variable {K : ℕ} {x : Mat .bf16 2064 K} {w : Mat .bf16 K 1024} {h : Mat .f32 2064 1024} {g b : Mat .f32 1 1024} {t : Fin 3} {v : Mat .f32 688 1024} {γ β : Mat .f32 1 1024}

theorem row_eq (B : OutBlocks x w h g b t v γ β) (r : Fin 688) : row v r = outRow x w h (at_ t r) := funext fun y => B.rows r y

theorem xhat_eq (B : OutBlocks x w h g b t v γ β) (r : Fin 688) (y : Fin 1024) : xhatOps v (ix2 r y) = xhat (outRow x w h (at_ t r)) y :=
  (xhat_apply v r y).trans (congrFun (congrArg xhat (B.row_eq r)) y)

theorem rstd_eq (B : OutBlocks x w h g b t v γ β) (r : Fin 688) (y : Fin 1) : rstdOps v (ix2 r y) = rstd (outRow x w h (at_ t r)) := by
  obtain rfl : y = 0 := Subsingleton.elim _ _
  exact (rstd_apply v r).trans (congrArg rstd (B.row_eq r))

theorem result_eq (B : OutBlocks x w h g b t v γ β) (r : Fin 688) (y : Fin 1024) : resultOps v γ β (ix2 r y) = normed (outRow x w h (at_ t r)) g b y := by
  rw [result_apply, B.row_eq, B.scale, B.shift]
  rfl

theorem rounded_eq (B : OutBlocks x w h g b t v γ β) (r : Fin 688) (y : Fin 1024) : roundedOps v γ β (ix2 r y) = normed (outRow x w h (at_ t r)) g b y :=
  B.result_eq r y

end OutBlocks

end Cert.Products.Norm

end
-- ==== Proof.NormRef.lean ====
/- The reference's gradient of layer normalisation, read an element at a time: it is the chain rule over the rows. -/
module

public import proofs.«01_k».proof.Defs
public import proofs.«01_k».proof.Proof.NormBlocks
public import proofs.«01_k».proof.Proof.Gen.FfnBackRefIdeal.Run
public import proofs.«01_k».proof.Proof.Gen.FfnBackRefIdeal.Read

@[expose] public section

set_option maxRecDepth 16384

noncomputable section

namespace Cert.Products.NormRef

open Idealize.ShloMosaic Cert.FfnBackRefIdeal Cert.FfnBackRefIdeal.Read Cert.Products.Norm

variable (a b s : Mat .f32 2064 1024) (g : Mat .f32 1 1024)

theorem outer_at (i : S2064x1024.Idx) : val_main_v2 (F := Ideal) a b i = outer a b (i 0) (i 1) := by
  rw [val_main_v2_apply, val_main_v1_apply, val_main_v0_apply, val_main_cst_apply]
  exact congrArg₂ (· + ·) (congrArg (_ * ·) (congrArg a (ix2_of rfl rfl))) (congrArg b (ix2_of rfl rfl))

theorem scaled_at (i : S2064x1024.Idx) : val_main_v37 (F := Ideal) a b g i = scaled a b g (i 0) (i 1) := by
  rw [val_main_v37_apply, outer_at, val_main_v36_apply]
  exact congrArg (_ * ·) (congrArg g (ix2_of rfl rfl))

theorem mean_at (i : S2064x1.Idx) : val_main_v7 (F := Ideal) s i = mean (row s (i 0)) := by
  rw [val_main_v7_apply, val_main_v5_apply, val_main_v4_apply, val_main_cst_1_apply, val_main_v6_apply, val_main_cst_2_apply]
  refine congrArg₂ Ideal.div ?_ rfl
  exact (congrArg₂ (· + ·) bits_zero (Finset.sum_congr rfl fun k _ => congrArg s (ix2_of rfl rfl))).trans (zero_add _)

theorem centred_at (i : S2064x1024.Idx) : val_main_v9 (F := Ideal) s i = centred (row s (i 0)) (i 1) := by
  rw [val_main_v9_apply, val_main_v8_apply, mean_at]
  exact congrArg (· - _) (congrArg s (ix2_of rfl rfl))

theorem variance_at (i : S2064x1.Idx) : val_main_v18 (F := Ideal) s i = variance (row s (i 0)) := by
  rw [val_main_v18_apply, val_main_v16_apply, val_main_v14_apply, val_main_v13_apply, val_main_cst_4_apply, val_main_v15_apply,
    val_main_cst_5_apply, val_main_v17_apply, val_main_cst_6_apply]
  refine congrArg₂ (· + ·) (congrArg₂ Ideal.div ?_ rfl) rfl
  refine (congrArg₂ (· + ·) bits_zero (Finset.sum_congr rfl fun k _ => ?_)).trans (zero_add _)
  rw [val_main_v10_apply, centred_at]
  rfl

theorem rstd_at (i : S2064x1.Idx) : val_main_v19 (F := Ideal) s i = rstd (row s (i 0)) := by
  rw [val_main_v19_apply, variance_at]
  rfl

theorem xhat_at (i : S2064x1024.Idx) : val_main_v26 (F := Ideal) s i = xhat (row s (i 0)) (i 1) := by
  rw [val_main_v26_apply, val_main_v25_apply, rstd_at, val_main_v24_apply, val_main_v23_apply, mean_at]
  exact congrArg (· * _) (congrArg (· - _) (congrArg s (ix2_of rfl rfl)))

theorem slope_at (i : S2064x1024.Idx) : val_main_v42 (F := Ideal) a b s g i = slope (row s (i 0)) (scaled a b g (i 0)) (i 1) := by
  rw [val_main_v42_apply, scaled_at, val_main_v41_apply, rstd_at]
  rfl

/-- A column's flat position is its row. -/
theorem flat (i : S2064x1.Idx) (h : (i 0).val * 1 + (i 1).val < 2064) : (⟨(i 0).val * 1 + (i 1).val, h⟩ : Fin 2064) = i 0 :=
  Fin.ext (by
    show (i 0).val * 1 + (i 1).val = (i 0).val
    have : (i 1).val < 1 := (i 1).isLt
    omega)

theorem spread_at (i : S2064x1.Idx) : val_main_v48 (F := Ideal) a b s g i = spread (row s (i 0)) (scaled a b g (i 0)) := by
  rw [val_main_v48_apply, val_main_v46_apply, val_main_v40_apply, val_main_v39_apply, val_main_cst_10_apply, val_main_v22_apply,
    val_main_v21_apply, val_main_cst_7_apply, val_main_v20_apply, rstd_at, variance_at, val_main_v47_apply, val_main_cst_12_apply]
  refine congrArg₂ Ideal.div (congrArg (· * _) ?_) rfl
  refine (congrArg₂ (· + ·) bits_zero (Finset.sum_congr rfl fun k _ => ?_)).trans (zero_add _)
  rw [val_main_v38_apply, scaled_at]
  refine (congrArg₂ (· * ·) (centred_at s _) rfl).trans ?_
  exact congrArg (fun r => centred (row s r) k * scaled a b g r k) (flat i _)

theorem bend_at (i : S2064x1024.Idx) : val_main_v51 (F := Ideal) a b s g i = bend (row s (i 0)) (scaled a b g (i 0)) (i 1) := by
  rw [val_main_v51_apply, val_main_v50_apply, val_main_v49_apply, val_main_cst_13_apply, val_main_v12_apply, val_main_v11_apply,
    val_main_cst_3_apply, centred_at, Fin.sum_univ_one, spread_at]
  exact congrArg (· * _) ((congrArg (· + _) bits_zero).trans (zero_add _))

/-- The gradient with respect to the rows. -/
theorem chain_at (i : S2064x1024.Idx) : val_main_v61 (F := Ideal) a b s g i = chain (row s (i 0)) (scaled a b g (i 0)) (i 1) := by
  rw [val_main_v61_apply, val_main_v55_apply, slope_at, bend_at, val_main_v60_apply, val_main_v59_apply, val_main_cst_16_apply,
    Fin.sum_univ_one, val_main_v58_apply, val_main_v56_apply, val_main_v45_apply, val_main_v44_apply, val_main_cst_11_apply,
    val_main_v54_apply, val_main_v53_apply, val_main_cst_14_apply, val_main_v57_apply, val_main_cst_15_apply]
  refine congrArg₂ (· + ·) rfl ((congrArg₂ (· + ·) bits_zero rfl).trans ((zero_add _).trans (congrArg₂ Ideal.div (congrArg₂ (· + ·) ?_ ?_) rfl)))
  · refine (congrArg₂ (· + ·) bits_zero (Finset.sum_congr rfl fun k _ => ?_)).trans (zero_add _)
    rw [val_main_v43_apply, slope_at]
    exact congrArg (fun r => -slope (row s r) (scaled a b g r) k) (flat (ix2 (i 0) 0) _)
  · refine (congrArg₂ (· + ·) bits_zero (Finset.sum_congr rfl fun k _ => ?_)).trans (zero_add _)
    rw [val_main_v52_apply, bend_at]
    exact congrArg (fun r => -bend (row s r) (scaled a b g r) k) (flat (ix2 (i 0) 0) _)

/-- The gradient with respect to the shift. -/
theorem shift_at (i : S1x1024.Idx) : val_main_v32 (F := Ideal) a b i = ∑ r : Fin 2064, outer a b r (i 1) := by
  rw [val_main_v32_apply, val_main_v31_apply, val_main_cst_8_apply]
  refine (congrArg₂ (· + ·) bits_zero (Finset.sum_congr rfl fun r _ => ?_)).trans (zero_add _)
  rw [outer_at]
  refine congrArg (outer a b r) (Fin.ext ?_)
  show (i 0).val * 1024 + (i 1).val = (i 1).val
  have : (i 0).val < 1 := (i 0).isLt
  omega

/-- The gradient with respect to the scale. -/
theorem scale_at (i : S1x1024.Idx) : val_main_v35 (F := Ideal) a b s i = ∑ r : Fin 2064, outer a b r (i 1) * xhat (row s r) (i 1) := by
  rw [val_main_v35_apply, val_main_v34_apply, val_main_cst_9_apply]
  refine (congrArg₂ (· + ·) bits_zero (Finset.sum_congr rfl fun r _ => ?_)).trans (zero_add _)
  rw [val_main_v33_apply, outer_at, xhat_at]
  refine (mul_comm _ _).trans (congrArg (fun y => outer a b r y * xhat (row s r) y) (Fin.ext ?_))
  show (i 0).val * 1024 + (i 1).val = (i 1).val
  have : (i 0).val < 1 := (i 0).isLt
  omega

/-- With finite gradients and a finite scale the chain rule is the closed form. -/
theorem chain_whole {a b s : Mat .f32 2064 1024} {g : Mat .f32 1 1024} (ha : ∀ i, ∃ z : ℝ, a i = z) (hb : ∀ i, ∃ z : ℝ, b i = z)
    (hg : ∀ i, ∃ z : ℝ, g i = z) : val_main_v61 (F := Ideal) a b s g = fun y : S2064x1024.Idx => whole a b s g (y 0) (y 1) :=
  funext fun y => (chain_at _ _ _ _ y).trans (chain_eq ha hb hg _ _)

end Cert.Products.NormRef

end
-- ==== Proof.FfnOut.lean ====
/- The feed-forward's output product, the residual sum and its layer normalisation: a row block per grid point. -/
module

public import proofs.«01_k».proof.Defs
public import proofs.«01_k».proof.Proof.NormOut
public import proofs.«01_k».proof.Proof.NormRef
public import proofs.«01_k».proof.Proof.Gen.FfnOut.Frame
public import proofs.«01_k».proof.Proof.Gen.FfnOutIdeal.Frame
public import proofs.«01_k».proof.Proof.Gen.FfnOutIdeal.Value
public import proofs.«01_k».proof.Proof.Gen.FfnOutRefIdeal.Run
public import proofs.«01_k».proof.Proof.Gen.FfnOutRefIdeal.Read
public import Idealize.ShloMosaic.Lib.Quiescent

@[expose] public section

set_option maxRecDepth 16384

noncomputable section

namespace Cert.Products.FfnOut

open Idealize.ShloMosaic Idealize.ShloMosaic.TcCoe Idealize.SL.Sem Cert.Products.Norm

section Kernel

open Cert.FfnOutIdeal Cert.FfnOutIdeal.Gen Cert.FfnOutIdeal.Value

variable (m : (ℓ : Loc nD τ sig) → Buf (Elt Ideal) ℓ) (c : Dev nD)

/-- The windows that walk down the rows, and those that stay. -/
theorem walks : ∀ t : Fin cfg0.N, (win0_0.index t 0 = t.val ∧ win0_0.index t 1 = 0) ∧ (win0_2.index t 0 = t.val ∧ win0_2.index t 1 = 0)
    ∧ (win0_5.index t 0 = t.val ∧ win0_5.index t 1 = 0) ∧ (win0_6.index t 0 = t.val ∧ win0_6.index t 1 = 0)
    ∧ (win0_7.index t 0 = t.val ∧ win0_7.index t 1 = 0) ∧ (win0_8.index t 0 = t.val ∧ win0_8.index t 1 = 0) :=
  (by decide +kernel : ∀ t : Fin grid0.N, _)
theorem stays : ∀ t : Fin cfg0.N, (win0_1.index t 0 = 0 ∧ win0_1.index t 1 = 0) ∧ (win0_3.index t 0 = 0 ∧ win0_3.index t 1 = 0)
    ∧ (win0_4.index t 0 = 0 ∧ win0_4.index t 1 = 0) :=
  (by decide +kernel : ∀ t : Fin grid0.N, _)

/-- The input, the weights, the residual stream, the scale and the shift, as launched. -/
abbrev x : Mat .bf16 2064 2816 := m ((c : Thread nD τ).loc main_arg0)
abbrev w : Mat .bf16 2816 1024 := m ((c : Thread nD τ).loc main_arg1)
abbrev h : Mat .f32 2064 1024 := m ((c : Thread nD τ).loc main_arg2)
abbrev g : Mat .f32 1 1024 := m ((c : Thread nD τ).loc main_arg3)
abbrev b : Mat .f32 1 1024 := m ((c : Thread nD τ).loc main_arg4)

/-- A block's rows in front of the norm, operation by operation. -/
def sumOps (h : Mat .f32 688 1024) (x : Mat .bf16 688 2816) (w : Mat .bf16 2816 1024) : Mat .f32 688 1024 :=
  addf (mulf (broadcast S688x1024 (Scalar.ofBits .f32 0x3FD744FD#32)) h)
    (matmul dot_S688x2816_S2816x1024_S688x1024_1_0_0_1_n_n none x w (constant S688x1024 .f32 0x00000000#32))

theorem blocks (t : Fin cfg0.N) : OutBlocks (x m c) (w m c) (h m c) (g m c) (b m c) t (sumOps (iblk m c 2 t) (iblk m c 0 t) (iblk m c 1 t))
    (iblk m c 3 t) (iblk m c 4 t) where
  rows r y := by
    unfold sumOps
    pointwise
    refine congrArg₂ (· + ·) (congrArg (_ * ·) ?_) (Finset.sum_congr rfl fun k _ => congrArg₂ (· * ·) ?_ ?_)
    · show iblk m c 2 t (ix2 r y) = h m c (ix2 (at_ t r) y)
      blk_ext [iblk, V, (walks t).2.1.1, (walks t).2.1.2]
    · show iblk m c 0 t (ix2 r k) = x m c (ix2 (at_ t r) k)
      blk_ext [iblk, V, (walks t).1.1, (walks t).1.2]
    · show iblk m c 1 t (ix2 k y) = w m c (ix2 k y)
      blk_ext [iblk, V, (stays t).1.1, (stays t).1.2]
  scale y := by blk_ext [iblk, V, (stays t).2.1.1, (stays t).2.1.2]
  shift y := by blk_ext [iblk, V, (stays t).2.2.1, (stays t).2.2.2]

/-- The result, and that in the narrower format. -/
theorem result_array : (dats m 0 c).arrAt 5 cfg0.N = fun y : S2064x1024.Idx => normed (outRow (x m c) (w m c) (h m c) (y 0)) (g m c) (b m c) (y 1) := by
  refine (dats m 0 c).arrAt_eq_of_covers 5 _ (by decide +kernel) fun t hf y => ?_
  obtain ⟨r, y, rfl⟩ := exists_ix2 y
  rw [show (((cfg0.win 5).blk t).view.emb (ix2 r y) : S2064x1024.Idx) = ix2 (at_ t r) y by blk_ext [(walks t).2.2.1.1, (walks t).2.2.1.2]]
  blk_simp
  rw [after0_5]
  unfold out0_5
  frame_out
  exact (blocks m c t).result_eq r y

theorem rounded_array : (dats m 0 c).arrAt 6 cfg0.N = fun y : S2064x1024.Idx => normed (outRow (x m c) (w m c) (h m c) (y 0)) (g m c) (b m c) (y 1) := by
  refine (dats m 0 c).arrAt_eq_of_covers 6 _ (by decide +kernel) fun t hf y => ?_
  obtain ⟨r, y, rfl⟩ := exists_ix2 y
  rw [show (((cfg0.win 6).blk t).view.emb (ix2 r y) : S2064x1024.Idx) = ix2 (at_ t r) y by blk_ext [(walks t).2.2.2.1.1, (walks t).2.2.2.1.2]]
  blk_simp
  rw [after0_6]
  unfold out0_6
  frame_out
  exact (blocks m c t).rounded_eq r y

/-- The normalised rows, and their reciprocal deviations. -/
theorem xhat_array : (dats m 0 c).arrAt 7 cfg0.N = fun y : S2064x1024.Idx => xhat (outRow (x m c) (w m c) (h m c) (y 0)) (y 1) := by
  refine (dats m 0 c).arrAt_eq_of_covers 7 _ (by decide +kernel) fun t hf y => ?_
  obtain ⟨r, y, rfl⟩ := exists_ix2 y
  rw [show (((cfg0.win 7).blk t).view.emb (ix2 r y) : S2064x1024.Idx) = ix2 (at_ t r) y by blk_ext [(walks t).2.2.2.2.1.1, (walks t).2.2.2.2.1.2]]
  blk_simp
  rw [after0_7]
  unfold out0_7
  frame_out
  exact (blocks m c t).xhat_eq r y

theorem rstd_array : (dats m 0 c).arrAt 8 cfg0.N = fun y : S2064x1.Idx => rstd (outRow (x m c) (w m c) (h m c) (y 0)) := by
  refine (dats m 0 c).arrAt_eq_of_covers 8 _ (by decide +kernel) fun t hf y => ?_
  obtain ⟨r, y, rfl⟩ := exists_ix2 y
  rw [show (((cfg0.win 8).blk t).view.emb (ix2 r y) : S2064x1.Idx) = ix2 (at_ t r) y by blk_ext [(walks t).2.2.2.2.2.1, (walks t).2.2.2.2.2.2]]
  blk_simp
  rw [after0_8]
  unfold out0_8
  frame_out
  exact (blocks m c t).rstd_eq r y

end Kernel

section Reference

open Cert.FfnOutRefIdeal Cert.FfnOutRefIdeal.Read

variable (x : Mat .bf16 2064 2816) (w : Mat .bf16 2816 1024) (h : Mat .f32 2064 1024) (g b : Mat .f32 1 1024)

theorem ref_row (r : Fin 2064) : row (val_main_v5 (F := Ideal) x w h) r = outRow x w h r := by
  funext y
  show val_main_v5 (F := Ideal) x w h (ix2 r y) = _
  rw [val_main_v5_apply, val_main_v1_apply, val_main_v0_apply, val_main_v4_apply]
  refine congrArg₂ (· + ·) (congrArg (_ * ·) (congrArg h (ix2_of rfl rfl))) (Finset.sum_congr rfl fun k _ => ?_)
  exact congrArg₂ (· * ·) (congrArg x (ix2_of rfl rfl)) (congrArg w (ix2_of rfl rfl))

theorem ref_rstd (i : S2064x1.Idx) : val_main_v19 (F := Ideal) x w h i = rstd (outRow x w h (i 0)) :=
  (NormRef.rstd_at (val_main_v5 (F := Ideal) x w h) i).trans (congrArg rstd (ref_row x w h (i 0)))

theorem ref_xhat (i : S2064x1024.Idx) : val_main_v23 (F := Ideal) x w h i = xhat (outRow x w h (i 0)) (i 1) :=
  (NormRef.xhat_at (val_main_v5 (F := Ideal) x w h) i).trans (congrFun (congrArg xhat (ref_row x w h (i 0))) (i 1))

theorem ref_result (i : S2064x1024.Idx) : val_main_v27 (F := Ideal) x w h g b i = normed (outRow x w h (i 0)) g b (i 1) := by
  rw [val_main_v27_apply, val_main_v25_apply, ref_xhat, val_main_v24_apply, val_main_v26_apply]
  exact congrArg₂ (· + ·) (congrArg (_ * ·) (congrArg g (ix2_of rfl rfl))) (congrArg b (ix2_of rfl rfl))

end Reference

theorem frame_program : Cert.quiescent_FfnOut := fun m ρ _ => Cert.FfnOut.Gen.frame m ρ
theorem frame_ideal : Cert.quiescent_FfnOutIdeal := fun m ρ _ => Cert.FfnOutIdeal.Gen.frame m ρ
theorem frame_reference : Cert.quiescent_FfnOutRefIdeal := fun m ρ _ =>
  (θ_run Cert.FfnOutRefIdeal.defs _ _).mono (fun r h => ⟨fun c => (h c).2.2.2.2,
      Idealize.ShloMosaic.sem_eq_zero_of_no_sems (by decide) r.2⟩)
    (Cert.FfnOutRefIdeal.Value.run (F := Ideal) m ρ)

/-- The reference's results are the arrays the program ends with. -/
theorem same_results : Cert.algebraic_FfnOutIdeal_FfnOutRefIdeal := by
  intro m ρ m' ρ' _ hagree
  refine ⟨_, _, _, _, Cert.FfnOutIdeal.Value.run_blocks (F := Ideal) m ρ, ?_⟩
  refine (θ_run Cert.FfnOutRefIdeal.defs _ _).mono (fun _ h c => ?_) (Cert.FfnOutRefIdeal.Value.run (F := Ideal) m' ρ')
  obtain ⟨h0, h1, h2, h3, hk⟩ := h c
  obtain ⟨a0, a1, a2, a3, a4⟩ := hagree c
  refine ⟨h0.trans ?_, h1.trans ?_, h2.trans ?_, h3.trans ?_, hk⟩
  · rw [Cert.FfnOutRefIdeal.Read.val_main_v27_eq, a0, a1, a2, a3, a4, result_array]
    exact funext fun y => ref_result _ _ _ _ _ y
  · rw [Cert.FfnOutRefIdeal.Read.val_main_v28_eq, a0, a1, a2, a3, a4, rounded_array]
    exact funext fun y => ref_result _ _ _ _ _ y
  · rw [Cert.FfnOutRefIdeal.Read.val_main_v23_eq, a0, a1, a2, xhat_array]
    exact funext fun y => ref_xhat _ _ _ y
  · rw [Cert.FfnOutRefIdeal.Read.val_main_v19_eq, a0, a1, a2, rstd_array]
    exact funext fun y => ref_rstd _ _ _ y

end Cert.Products.FfnOut

end
-- ==== Proof.FfnOutDx.lean ====
/- The gradient that the feed-forward's output product hands to its input: a row block per grid point. -/
module

public import proofs.«01_k».proof.Defs
public import proofs.«01_k».proof.Proof.Products
public import proofs.«01_k».proof.Proof.Gen.FfnOutDx.Frame
public import proofs.«01_k».proof.Proof.Gen.FfnOutDxIdeal.Frame
public import proofs.«01_k».proof.Proof.Gen.FfnOutDxIdeal.Value
public import proofs.«01_k».proof.Proof.Gen.FfnOutDxRefIdeal.Run
public import proofs.«01_k».proof.Proof.Gen.FfnOutDxRefIdeal.Read
public import Idealize.ShloMosaic.Lib.Quiescent

@[expose] public section

set_option maxRecDepth 16384

noncomputable section

namespace Cert.Products.FfnOutDx

open Idealize.ShloMosaic Idealize.ShloMosaic.TcCoe Idealize.SL.Sem

section Kernel

open Cert.FfnOutDxIdeal Cert.FfnOutDxIdeal.Gen Cert.FfnOutDxIdeal.Value

variable (m : (ℓ : Loc nD τ sig) → Buf (Elt Ideal) ℓ) (c : Dev nD)

theorem index : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N, _)

theorem block_lt (t : Fin cfg0.N) : t.val < 3 := t.isLt

/-- The cotangent and the weights, as launched. -/
abbrev ds : Mat .bf16 2064 1024 := m ((c : Thread nD τ).loc main_arg0)
abbrev w : Mat .bf16 2816 1024 := m ((c : Thread nD τ).loc main_arg1)

theorem cotangent_block (t : Fin cfg0.N) (r : Fin 688) (k : Fin 1024) :
    iblk m c 0 t (ix2 r k) = ds m c (ix2 ⟨688 * t + r, by have := block_lt t; omega⟩ k) := by
  have e := (index t).1
  have := block_lt t
  blk_ext [iblk, V, e.1, e.2]

theorem weight_block (t : Fin cfg0.N) (x : Fin 2816) (k : Fin 1024) : iblk m c 1 t (ix2 x k) = w m c (ix2 x k) := by
  have e := (index t).2.1
  blk_ext [iblk, V, e.1, e.2]

theorem product_apply (a : Mat .bf16 688 1024) (b : Mat .bf16 2816 1024) (r : Fin 688) (x : Fin 2816) :
    out0_2 (F := Ideal) a b (ix2 r x) = ∑ k : Fin 1024, a (ix2 r k) * b (ix2 x k) := by
  unfold out0_2
  frame_out
  unfold k0_pay1
  pointwise

/-- The result array. -/
theorem array : (dats m 0 c).arrAt 2 cfg0.N
    = fun y : S2064x2816.Idx => ∑ k : Fin 1024, ds m c (ix2 (y 0) k) * w m c (ix2 (y 1) k) := by
  refine (dats m 0 c).arrAt_eq_of_covers 2 _ (by decide +kernel) fun t hf y => ?_
  have e := (index t).2.2
  have := block_lt t
  obtain ⟨r, x, rfl⟩ : ∃ (r : Fin 688) (x : Fin 2816), y = ix2 r x := ⟨y 0, y 1, funext fun a => by fin_cases a <;> rfl⟩
  have ey : (((cfg0.win 2).blk t).view.emb (ix2 r x) : S2064x2816.Idx) = ix2 ⟨688 * t + r, by omega⟩ x := by
    blk_ext [e.1, e.2]
  rw [ey]
  blk_simp
  rw [after0_2]
  refine (product_apply _ _ r x).trans (Finset.sum_congr rfl fun k _ => ?_)
  rw [cotangent_block, weight_block]
  rfl

end Kernel

theorem frame_program : Cert.quiescent_FfnOutDx := fun m ρ _ => Cert.FfnOutDx.Gen.frame m ρ
theorem frame_ideal : Cert.quiescent_FfnOutDxIdeal := fun m ρ _ => Cert.FfnOutDxIdeal.Gen.frame m ρ
theorem frame_reference : Cert.quiescent_FfnOutDxRefIdeal := fun m ρ _ =>
  (θ_run Cert.FfnOutDxRefIdeal.defs _ _).mono (fun r h => ⟨fun c => (h c).2,
      Idealize.ShloMosaic.sem_eq_zero_of_no_sems (by decide) r.2⟩)
    (Cert.FfnOutDxRefIdeal.Value.run (F := Ideal) m ρ)

/-- The reference's result is the array the program ends with. -/
theorem same_results : Cert.algebraic_FfnOutDxIdeal_FfnOutDxRefIdeal := by
  intro m ρ m' ρ' _ hagree
  refine ⟨_, Cert.FfnOutDxIdeal.Value.run_blocks (F := Ideal) m ρ, ?_⟩
  refine (θ_run Cert.FfnOutDxRefIdeal.defs _ _).mono (fun _ h c => ?_) (Cert.FfnOutDxRefIdeal.Value.run (F := Ideal) m' ρ')
  obtain ⟨h0, hk⟩ := h c
  obtain ⟨a0, a1⟩ := hagree c
  refine ⟨h0.trans ?_, hk⟩
  rw [Cert.FfnOutDxRefIdeal.Read.val_main_v4_eq, a0, a1, array]
  refine funext fun y => (Cert.FfnOutDxRefIdeal.Read.val_main_v4_apply _ _ y).trans (Finset.sum_congr rfl fun k _ => ?_)
  exact congrArg₂ (· * ·) (congrArg (ds m c) (ix2_of rfl rfl)) (congrArg (w m c) (ix2_of rfl rfl))

end Cert.Products.FfnOutDx

end
-- ==== Proof.FfnOutDw.lean ====
/- The gradient of the feed-forward's output weights: half of its rows per grid point. -/
module

public import proofs.«01_k».proof.Defs
public import proofs.«01_k».proof.Proof.Products
public import proofs.«01_k».proof.Proof.Gen.FfnOutDw.Frame
public import proofs.«01_k».proof.Proof.Gen.FfnOutDwIdeal.Frame
public import proofs.«01_k».proof.Proof.Gen.FfnOutDwIdeal.Value
public import proofs.«01_k».proof.Proof.Gen.FfnOutDwRefIdeal.Run
public import proofs.«01_k».proof.Proof.Gen.FfnOutDwRefIdeal.Read
public import Idealize.ShloMosaic.Lib.Quiescent

@[expose] public section

set_option maxRecDepth 16384

noncomputable section

namespace Cert.Products.FfnOutDw

open Idealize.ShloMosaic Idealize.ShloMosaic.TcCoe Idealize.SL.Sem

section Kernel

open Cert.FfnOutDwIdeal Cert.FfnOutDwIdeal.Gen Cert.FfnOutDwIdeal.Value

variable (m : (ℓ : Loc nD τ sig) → Buf (Elt Ideal) ℓ) (c : Dev nD)

theorem index : ∀ t : Fin cfg0.N, (win0_0.index t 0 = 0 ∧ win0_0.index t 1 = t.val) ∧ (win0_1.index t 0 = 0 ∧ win0_1.index t 1 = 0)
    ∧ (win0_2.index t 0 = 0 ∧ win0_2.index t 1 = t.val ∧ win0_2.index t 2 = 0) :=
  (by decide +kernel : ∀ t : Fin grid0.N, _)

theorem block_lt (t : Fin cfg0.N) : t.val < 2 := t.isLt

/-- The input and the cotangent, as launched. -/
abbrev x : Mat .bf16 2064 2816 := m ((c : Thread nD τ).loc main_arg0)
abbrev ds : Mat .bf16 2064 1024 := m ((c : Thread nD τ).loc main_arg1)

theorem input_block (t : Fin cfg0.N) (k : Fin 2064) (r : Fin 1408) :
    iblk m c 0 t (ix2 k r) = x m c (ix2 k ⟨1408 * t + r, by have := block_lt t; omega⟩) := by
  have e := (index t).1
  have := block_lt t
  blk_ext [iblk, V, e.1, e.2]

theorem cotangent_block (t : Fin cfg0.N) (k : Fin 2064) (y : Fin 1024) : iblk m c 1 t (ix2 k y) = ds m c (ix2 k y) := by
  have e := (index t).2.1
  blk_ext [iblk, V, e.1, e.2]

theorem product_apply (a : Mat .bf16 2064 1408) (b : Mat .bf16 2064 1024) (r : Fin 1408) (y : Fin 1024) :
    k0_pay1 (F := Ideal) a b (ix3 0 r y) = ∑ k : Fin 2064, a (ix2 k r) * b (ix2 k y) := by
  unfold k0_pay1
  pointwise

/-- The result array. -/
theorem array : (dats m 0 c).arrAt 2 cfg0.N
    = fun y : S1x2816x1024.Idx => ∑ k : Fin 2064, x m c (ix2 k (y 1)) * ds m c (ix2 k (y 2)) := by
  refine (dats m 0 c).arrAt_eq_of_covers 2 _ (by decide +kernel) fun t hf y => ?_
  have e := (index t).2.2
  have := block_lt t
  obtain ⟨r, y, rfl⟩ := exists_ix3 y
  have ey : (((cfg0.win 2).blk t).view.emb (ix3 0 r y) : S1x2816x1024.Idx) = ix3 0 ⟨1408 * t + r, by omega⟩ y := by
    blk_ext [e.1, e.2.1, e.2.2]
  rw [ey]
  blk_simp
  rw [after0_2, outsAt0]
  frame_out
  refine (product_apply _ _ r y).trans (Finset.sum_congr rfl fun k _ => ?_)
  rw [input_block, cotangent_block]
  rfl

end Kernel

theorem frame_program : Cert.quiescent_FfnOutDw := fun m ρ _ => Cert.FfnOutDw.Gen.frame m ρ
theorem frame_ideal : Cert.quiescent_FfnOutDwIdeal := fun m ρ _ => Cert.FfnOutDwIdeal.Gen.frame m ρ
theorem frame_reference : Cert.quiescent_FfnOutDwRefIdeal := fun m ρ _ =>
  (θ_run Cert.FfnOutDwRefIdeal.defs _ _).mono (fun r h => ⟨fun c => (h c).2,
      Idealize.ShloMosaic.sem_eq_zero_of_no_sems (by decide) r.2⟩)
    (Cert.FfnOutDwRefIdeal.Value.run (F := Ideal) m ρ)

/-- The reference's result is the array the program ends with. -/
theorem same_results : Cert.algebraic_FfnOutDwIdeal_FfnOutDwRefIdeal := by
  intro m ρ m' ρ' _ hagree
  refine ⟨_, Cert.FfnOutDwIdeal.Value.run_blocks (F := Ideal) m ρ, ?_⟩
  refine (θ_run Cert.FfnOutDwRefIdeal.defs _ _).mono (fun _ h c => ?_) (Cert.FfnOutDwRefIdeal.Value.run (F := Ideal) m' ρ')
  obtain ⟨h0, hk⟩ := h c
  obtain ⟨a0, a1⟩ := hagree c
  refine ⟨h0.trans ?_, hk⟩
  rw [Cert.FfnOutDwRefIdeal.Read.val_main_v7_eq, a0, a1, array]
  funext y
  rw [Cert.FfnOutDwRefIdeal.Read.val_main_v7_apply, Cert.FfnOutDwRefIdeal.Read.val_main_v6_apply,
    Cert.FfnOutDwRefIdeal.Read.val_main_v5_apply, Cert.FfnOutDwRefIdeal.Read.val_main_v4_apply]
  refine Finset.sum_congr rfl fun k _ => ?_
  rw [mul_comm (x m c _)]
  exact congrArg₂ (· * ·) (congrArg (ds m c) (ix2_of rfl rfl)) (congrArg (x m c) (ix2_of rfl rfl))

end Cert.Products.FfnOutDw

end
-- ==== Proof.LruIn.lean ====
/- The recurrence's input product: a row block and a shard of the weights per grid point. -/
module

public import proofs.«01_k».proof.Defs
public import proofs.«01_k».proof.Proof.Products
public import proofs.«01_k».proof.Proof.Gen.LruIn.Frame
public import proofs.«01_k».proof.Proof.Gen.LruInIdeal.Frame
public import proofs.«01_k».proof.Proof.Gen.LruInIdeal.Value
public import proofs.«01_k».proof.Proof.Gen.LruInRefIdeal.Run
public import proofs.«01_k».proof.Proof.Gen.LruInRefIdeal.Read
public import Idealize.ShloMosaic.Lib.Quiescent

@[expose] public section

set_option maxRecDepth 16384

noncomputable section

namespace Cert.Products.LruIn

open Idealize.ShloMosaic Idealize.ShloMosaic.TcCoe Idealize.SL.Sem

section Kernel

open Cert.LruInIdeal Cert.LruInIdeal.Gen Cert.LruInIdeal.Value

variable (m : (ℓ : Loc nD τ sig) → Buf (Elt Ideal) ℓ) (c : Dev nD)

theorem index : ∀ t : Fin cfg0.N, (win0_0.index t 0 = t.val % 3 ∧ win0_0.index t 1 = 0)
    ∧ (win0_1.index t 0 = t.val / 3 ∧ win0_1.index t 1 = 0 ∧ win0_1.index t 2 = 0)
    ∧ (win0_2.index t 0 = t.val % 3 ∧ win0_2.index t 1 = t.val / 3) :=
  (by decide +kernel : ∀ t : Fin grid0.N, _)

theorem block_lt (t : Fin cfg0.N) : t.val < 12 := t.isLt

/-- The rows and the shards of the weights, as launched. -/
abbrev x : Mat .bf16 2064 1024 := m ((c : Thread nD τ).loc main_arg0)
abbrev w : Stack .bf16 4 1024 768 := m ((c : Thread nD τ).loc main_arg1)

theorem row_block (t : Fin cfg0.N) (r : Fin 688) (k : Fin 1024) :
    iblk m c 0 t (ix2 r k) = x m c (ix2 ⟨688 * (t % 3) + r, by omega⟩ k) := by
  have e := (index t).1
  blk_ext [iblk, V, e.1, e.2]

theorem weight_block (t : Fin cfg0.N) (k : Fin 1024) (y : Fin 768) :
    iblk m c 1 t (ix3 0 k y) = w m c (ix3 ⟨t / 3, by have := block_lt t; omega⟩ k y) := by
  have e := (index t).2.1
  have := block_lt t
  blk_ext [iblk, V, e.1, e.2.1, e.2.2]

theorem product_apply (a : Mat .bf16 688 1024) (b : Stack .bf16 1 1024 768) (r : Fin 688) (y : Fin 768) :
    out0_2 (F := Ideal) a b (ix2 r y) = ∑ k : Fin 1024, a (ix2 r k) * b (ix3 0 k y) := by
  unfold out0_2
  frame_out
  unfold k0_pay1
  pointwise

/-- The result array. -/
theorem array : (dats m 0 c).arrAt 2 cfg0.N
    = fun y : S2064x3072.Idx => ∑ k : Fin 1024, x m c (ix2 (y 0) k) * shards (w m c) k (y 1) := by
  refine (dats m 0 c).arrAt_eq_of_covers 2 _ (by decide +kernel) fun t hf y => ?_
  have e := (index t).2.2
  have := block_lt t
  obtain ⟨r, y, rfl⟩ := exists_ix2 y
  have ey : (((cfg0.win 2).blk t).view.emb (ix2 r y) : S2064x3072.Idx) = ix2 ⟨688 * (t % 3) + r, by omega⟩ ⟨768 * (t / 3) + y, by omega⟩ := by
    blk_ext [e.1, e.2]
  rw [ey]
  blk_simp
  rw [after0_2]
  refine (product_apply _ _ r y).trans (Finset.sum_congr rfl fun k _ => ?_)
  rw [row_block, weight_block]
  exact congrArg (_ * ·) (shards_apply (w m c) k ⟨t / 3, by omega⟩ y (by show 768 * (t.val / 3) + y.val < 3072; omega)).symm

end Kernel

theorem frame_program : Cert.quiescent_LruIn := fun m ρ _ => Cert.LruIn.Gen.frame m ρ
theorem frame_ideal : Cert.quiescent_LruInIdeal := fun m ρ _ => Cert.LruInIdeal.Gen.frame m ρ
theorem frame_reference : Cert.quiescent_LruInRefIdeal := fun m ρ _ =>
  (θ_run Cert.LruInRefIdeal.defs _ _).mono (fun r h => ⟨fun c => (h c).2,
      Idealize.ShloMosaic.sem_eq_zero_of_no_sems (by decide) r.2⟩)
    (Cert.LruInRefIdeal.Value.run (F := Ideal) m ρ)

/-- The reference's result is the array the program ends with. -/
theorem same_results : Cert.algebraic_LruInIdeal_LruInRefIdeal := by
  intro m ρ m' ρ' _ hagree
  refine ⟨_, Cert.LruInIdeal.Value.run_blocks (F := Ideal) m ρ, ?_⟩
  refine (θ_run Cert.LruInRefIdeal.defs _ _).mono (fun _ h c => ?_) (Cert.LruInRefIdeal.Value.run (F := Ideal) m' ρ')
  obtain ⟨h0, hk⟩ := h c
  obtain ⟨a0, a1⟩ := hagree c
  refine ⟨h0.trans ?_, hk⟩
  rw [Cert.LruInRefIdeal.Read.val_main_v4_eq, a0, a1, array]
  refine funext fun y => (Cert.LruInRefIdeal.Read.val_main_v4_apply _ _ y).trans (Finset.sum_congr rfl fun k _ => ?_)
  rw [Cert.LruInRefIdeal.Read.val_main_v3_apply, Cert.LruInRefIdeal.Read.val_main_v2_apply]
  exact congrArg₂ (· * ·) (congrArg (x m c) (ix2_of rfl rfl)) (shards_of (w m c) rfl rfl rfl)

end Cert.Products.LruIn

end
-- ==== Proof.LruInDx.lean ====
/- The gradient that the recurrence's input product hands to its rows: four grid points add up a row block, a shard of the
   weights each. -/
module

public import proofs.«01_k».proof.Defs
public import proofs.«01_k».proof.Proof.Products
public import proofs.«01_k».proof.Proof.ShardSums
public import proofs.«01_k».proof.Proof.Gen.LruInDx.Frame
public import proofs.«01_k».proof.Proof.Gen.LruInDxIdeal.Frame
public import proofs.«01_k».proof.Proof.Gen.LruInDxIdeal.Value
public import proofs.«01_k».proof.Proof.Gen.LruInDxRefIdeal.Run
public import proofs.«01_k».proof.Proof.Gen.LruInDxRefIdeal.Read
public import Idealize.ShloMosaic.Lib.Quiescent

@[expose] public section

set_option maxRecDepth 16384

noncomputable section

namespace Cert.Products.LruInDx

open Idealize.ShloMosaic Idealize.ShloMosaic.TcCoe Idealize.SL.Sem

section Kernel

open Cert.LruInDxIdeal Cert.LruInDxIdeal.Gen Cert.LruInDxIdeal.Value

variable (m : (ℓ : Loc nD τ sig) → Buf (Elt Ideal) ℓ) (c : Dev nD)

theorem index : ∀ t : Fin cfg0.N, (win0_0.index t 0 = t.val / 4 ∧ win0_0.index t 1 = t.val % 4)
    ∧ (win0_1.index t 0 = t.val % 4 ∧ win0_1.index t 1 = 0 ∧ win0_1.index t 2 = 0)
    ∧ (win0_2.index t 0 = t.val / 4 ∧ win0_2.index t 1 = 0) :=
  (by decide +kernel : ∀ t : Fin grid0.N, _)

theorem block_lt (t : Fin cfg0.N) : t.val < 12 := t.isLt

/-- The cotangent and the shards of the weights, as launched. -/
abbrev dz : Mat .bf16 2064 3072 := m ((c : Thread nD τ).loc main_arg0)
abbrev w : Stack .bf16 4 1024 768 := m ((c : Thread nD τ).loc main_arg1)

theorem cotangent_block (t : Fin cfg0.N) (r : Fin 688) (k : Fin 768) :
    iblk m c 0 t (ix2 r k) = dz m c (ix2 (rowAt (s := 4) t r) (colAt (s := 4) t k)) := by
  have e := (index t).1
  have := block_lt t
  blk_ext [iblk, V, rowAt, colAt, e.1, e.2]

theorem weight_block (t : Fin cfg0.N) (y : Fin 1024) (k : Fin 768) : iblk m c 1 t (ix3 0 y k) = shards (w m c) y (colAt (s := 4) t k) := by
  have e := (index t).2.1
  refine Eq.trans ?_ (shards_apply (w m c) y ⟨t % 4, by omega⟩ k (colAt (s := 4) t k).isLt).symm
  blk_ext [iblk, V, e.1, e.2.1, e.2.2]

theorem step_apply (acc : Mat .f32 688 1024) (a : Mat .bf16 688 768) (b : Stack .bf16 1 1024 768) (r : Fin 688) (y : Fin 1024) :
    k0_pay2 (F := Ideal) acc a b (ix2 r y) = acc (ix2 r y) + dot a b r y := by
  unfold k0_pay2 dot
  pointwise

theorem start_apply (y : S688x1024.Idx) : k0_pay1 (F := Ideal) y = 0 := by
  unfold k0_pay1
  pointwise

/-- Four points add up a row block. -/
theorem sums : Sums (s := 4) (n := 768) (fun r k => dz m c (ix2 r k)) (shards (w m c)) (outsAt0 m c) where
  first t h r y := by
    rw [outsAt0_A m c t h]
    frame_out
    refine (step_apply _ _ _ r y).trans ?_
    rw [start_apply]
    exact congrArg (0 + ·) (dot_eq (s := 4) _ _ (cotangent_block m c t) (weight_block m c t) r y)
  next t h r y := by
    rw [outsAt0_B m c t h]
    frame_out
    exact (step_apply _ _ _ r y).trans (congrArg (_ + ·) (dot_eq (s := 4) _ _ (cotangent_block m c t) (weight_block m c t) r y))

/-- The result array. -/
theorem array : (dats m 0 c).arrAt 2 cfg0.N
    = fun y : S2064x1024.Idx => ∑ k : Fin 3072, dz m c (ix2 (y 0) k) * shards (w m c) (y 1) k := by
  refine (dats m 0 c).arrAt_eq_of_covers 2 _ (by decide +kernel) fun t hf y => ?_
  have e := (index t).2.2
  have := block_lt t
  obtain ⟨r, y, rfl⟩ := exists_ix2 y
  rw [show (((cfg0.win 2).blk t).view.emb (ix2 r y) : S2064x1024.Idx) = ix2 (rowAt (s := 4) t r) y by blk_ext [rowAt, e.1, e.2]]
  blk_simp
  rw [after0_2]
  exact (sums m c).point t ((flush0_2 t).mp hf) r y

end Kernel

theorem frame_program : Cert.quiescent_LruInDx := fun m ρ _ => Cert.LruInDx.Gen.frame m ρ
theorem frame_ideal : Cert.quiescent_LruInDxIdeal := fun m ρ _ => Cert.LruInDxIdeal.Gen.frame m ρ
theorem frame_reference : Cert.quiescent_LruInDxRefIdeal := fun m ρ _ =>
  (θ_run Cert.LruInDxRefIdeal.defs _ _).mono (fun r h => ⟨fun c => (h c).2,
      Idealize.ShloMosaic.sem_eq_zero_of_no_sems (by decide) r.2⟩)
    (Cert.LruInDxRefIdeal.Value.run (F := Ideal) m ρ)

/-- The reference's result is the array the program ends with. -/
theorem same_results : Cert.algebraic_LruInDxIdeal_LruInDxRefIdeal := by
  intro m ρ m' ρ' _ hagree
  refine ⟨_, Cert.LruInDxIdeal.Value.run_blocks (F := Ideal) m ρ, ?_⟩
  refine (θ_run Cert.LruInDxRefIdeal.defs _ _).mono (fun _ h c => ?_) (Cert.LruInDxRefIdeal.Value.run (F := Ideal) m' ρ')
  obtain ⟨h0, hk⟩ := h c
  obtain ⟨a0, a1⟩ := hagree c
  refine ⟨h0.trans ?_, hk⟩
  rw [Cert.LruInDxRefIdeal.Read.val_main_v6_eq, a0, a1, array]
  funext y
  rw [Cert.LruInDxRefIdeal.Read.val_main_v6_apply]
  refine Finset.sum_congr rfl fun k _ => ?_
  rw [Cert.LruInDxRefIdeal.Read.val_main_v3_apply, Cert.LruInDxRefIdeal.Read.val_main_v2_apply]
  exact congrArg₂ (· * ·) (congrArg (dz m c) (ix2_of rfl rfl)) (shards_of (w m c) rfl rfl rfl)

end Cert.Products.LruInDx

end
-- ==== Proof.LruInDw.lean ====
/- The gradient of the recurrence's input weights: a shard per grid point. -/
module

public import proofs.«01_k».proof.Defs
public import proofs.«01_k».proof.Proof.Products
public import proofs.«01_k».proof.Proof.Gen.LruInDw.Frame
public import proofs.«01_k».proof.Proof.Gen.LruInDwIdeal.Frame
public import proofs.«01_k».proof.Proof.Gen.LruInDwIdeal.Value
public import proofs.«01_k».proof.Proof.Gen.LruInDwRefIdeal.Run
public import proofs.«01_k».proof.Proof.Gen.LruInDwRefIdeal.Read
public import Idealize.ShloMosaic.Lib.Quiescent

@[expose] public section

set_option maxRecDepth 16384

noncomputable section

namespace Cert.Products.LruInDw

open Idealize.ShloMosaic Idealize.ShloMosaic.TcCoe Idealize.SL.Sem

section Kernel

open Cert.LruInDwIdeal Cert.LruInDwIdeal.Gen Cert.LruInDwIdeal.Value

variable (m : (ℓ : Loc nD τ sig) → Buf (Elt Ideal) ℓ) (c : Dev nD)

theorem index : ∀ t : Fin cfg0.N, (win0_0.index t 0 = 0 ∧ win0_0.index t 1 = 0) ∧ (win0_1.index t 0 = 0 ∧ win0_1.index t 1 = t.val)
    ∧ (win0_2.index t 0 = t.val ∧ win0_2.index t 1 = 0 ∧ win0_2.index t 2 = 0) :=
  (by decide +kernel : ∀ t : Fin grid0.N, _)

theorem block_lt (t : Fin cfg0.N) : t.val < 4 := t.isLt

/-- The input and the cotangent, as launched. -/
abbrev x : Mat .bf16 2064 1024 := m ((c : Thread nD τ).loc main_arg0)
abbrev dz : Mat .bf16 2064 3072 := m ((c : Thread nD τ).loc main_arg1)

theorem input_block (t : Fin cfg0.N) (k : Fin 2064) (r : Fin 1024) : iblk m c 0 t (ix2 k r) = x m c (ix2 k r) := by
  have e := (index t).1
  blk_ext [iblk, V, e.1, e.2]

theorem cotangent_block (t : Fin cfg0.N) (k : Fin 2064) (y : Fin 768) :
    iblk m c 1 t (ix2 k y) = dz m c (ix2 k ⟨768 * t + y, by have := block_lt t; omega⟩) := by
  have e := (index t).2.1
  have := block_lt t
  blk_ext [iblk, V, e.1, e.2]

theorem product_apply (a : Mat .bf16 2064 1024) (b : Mat .bf16 2064 768) (r : Fin 1024) (y : Fin 768) :
    k0_pay1 (F := Ideal) a b (ix3 0 r y) = ∑ k : Fin 2064, a (ix2 k r) * b (ix2 k y) := by
  unfold k0_pay1
  pointwise

/-- The result array. -/
theorem array : (dats m 0 c).arrAt 2 cfg0.N = fun y : S4x1024x768.Idx => ∑ k : Fin 2064, x m c (ix2 k (y 1))
    * dz m c (ix2 k ⟨768 * (y 0).val + (y 2).val, by
      have h0 : (y 0).val < 4 := (y 0).isLt
      have h2 : (y 2).val < 768 := (y 2).isLt
      omega⟩) := by
  refine (dats m 0 c).arrAt_eq_of_covers 2 _ (by decide +kernel) fun t hf y => ?_
  have e := (index t).2.2
  have := block_lt t
  obtain ⟨r, y, rfl⟩ := exists_ix3 y
  have ey : (((cfg0.win 2).blk t).view.emb (ix3 0 r y) : S4x1024x768.Idx) = ix3 ⟨t, this⟩ r y := by
    blk_ext [e.1, e.2.1, e.2.2]
  rw [ey]
  blk_simp
  rw [after0_2, outsAt0]
  frame_out
  refine (product_apply _ _ r y).trans (Finset.sum_congr rfl fun k _ => ?_)
  rw [input_block, cotangent_block]
  rfl

end Kernel

theorem frame_program : Cert.quiescent_LruInDw := fun m ρ _ => Cert.LruInDw.Gen.frame m ρ
theorem frame_ideal : Cert.quiescent_LruInDwIdeal := fun m ρ _ => Cert.LruInDwIdeal.Gen.frame m ρ
theorem frame_reference : Cert.quiescent_LruInDwRefIdeal := fun m ρ _ =>
  (θ_run Cert.LruInDwRefIdeal.defs _ _).mono (fun r h => ⟨fun c => (h c).2,
      Idealize.ShloMosaic.sem_eq_zero_of_no_sems (by decide) r.2⟩)
    (Cert.LruInDwRefIdeal.Value.run (F := Ideal) m ρ)

/-- The reference's result is the array the program ends with. -/
theorem same_results : Cert.algebraic_LruInDwIdeal_LruInDwRefIdeal := by
  intro m ρ m' ρ' _ hagree
  refine ⟨_, Cert.LruInDwIdeal.Value.run_blocks (F := Ideal) m ρ, ?_⟩
  refine (θ_run Cert.LruInDwRefIdeal.defs _ _).mono (fun _ h c => ?_) (Cert.LruInDwRefIdeal.Value.run (F := Ideal) m' ρ')
  obtain ⟨h0, hk⟩ := h c
  obtain ⟨a0, a1⟩ := hagree c
  refine ⟨h0.trans ?_, hk⟩
  rw [Cert.LruInDwRefIdeal.Read.val_main_v10_eq, a0, a1, array]
  funext y
  rw [Cert.LruInDwRefIdeal.Read.val_main_v10_apply, Cert.LruInDwRefIdeal.Read.val_main_v9_apply,
    Cert.LruInDwRefIdeal.Read.val_main_v8_apply, Cert.LruInDwRefIdeal.Read.val_main_v7_apply, Cert.LruInDwRefIdeal.Read.val_main_v6_apply]
  refine Finset.sum_congr rfl fun k _ => ?_
  rw [mul_comm (x m c _)]
  exact congrArg₂ (· * ·) (congrArg (dz m c) (ix2_of rfl (split_column (s := 4) (n := 768) (y 1).val (y 0) (y 2))))
    (congrArg (x m c) (ix2_of rfl (split_row (s := 4) (n := 768) (y 1).val (y 0) (y 2))))

end Cert.Products.LruInDw

end
-- ==== Proof.LruOut.lean ====
/- The recurrence's output product, the residual sum and its layer normalisation: a row block per grid point. -/
module

public import proofs.«01_k».proof.Defs
public import proofs.«01_k».proof.Proof.NormOut
public import proofs.«01_k».proof.Proof.NormRef
public import proofs.«01_k».proof.Proof.Gen.LruOut.Frame
public import proofs.«01_k».proof.Proof.Gen.LruOutIdeal.Frame
public import proofs.«01_k».proof.Proof.Gen.LruOutIdeal.Value
public import proofs.«01_k».proof.Proof.Gen.LruOutRefIdeal.Run
public import proofs.«01_k».proof.Proof.Gen.LruOutRefIdeal.Read
public import Idealize.ShloMosaic.Lib.Quiescent

@[expose] public section

set_option maxRecDepth 16384

noncomputable section

namespace Cert.Products.LruOut

open Idealize.ShloMosaic Idealize.ShloMosaic.TcCoe Idealize.SL.Sem Cert.Products.Norm

section Kernel

open Cert.LruOutIdeal Cert.LruOutIdeal.Gen Cert.LruOutIdeal.Value

variable (m : (ℓ : Loc nD τ sig) → Buf (Elt Ideal) ℓ) (c : Dev nD)

/-- The windows that walk down the rows, and those that stay. -/
theorem walks : ∀ t : Fin cfg0.N, (win0_0.index t 0 = t.val ∧ win0_0.index t 1 = 0) ∧ (win0_2.index t 0 = t.val ∧ win0_2.index t 1 = 0)
    ∧ (win0_5.index t 0 = t.val ∧ win0_5.index t 1 = 0) ∧ (win0_6.index t 0 = t.val ∧ win0_6.index t 1 = 0)
    ∧ (win0_7.index t 0 = t.val ∧ win0_7.index t 1 = 0) ∧ (win0_8.index t 0 = t.val ∧ win0_8.index t 1 = 0) :=
  (by decide +kernel : ∀ t : Fin grid0.N, _)
theorem stays : ∀ t : Fin cfg0.N, (win0_1.index t 0 = 0 ∧ win0_1.index t 1 = 0) ∧ (win0_3.index t 0 = 0 ∧ win0_3.index t 1 = 0)
    ∧ (win0_4.index t 0 = 0 ∧ win0_4.index t 1 = 0) :=
  (by decide +kernel : ∀ t : Fin grid0.N, _)

/-- The input, the weights, the residual stream, the scale and the shift, as launched. -/
abbrev x : Mat .bf16 2064 1536 := m ((c : Thread nD τ).loc main_arg0)
abbrev w : Mat .bf16 1536 1024 := m ((c : Thread nD τ).loc main_arg1)
abbrev h : Mat .f32 2064 1024 := m ((c : Thread nD τ).loc main_arg2)
abbrev g : Mat .f32 1 1024 := m ((c : Thread nD τ).loc main_arg3)
abbrev b : Mat .f32 1 1024 := m ((c : Thread nD τ).loc main_arg4)

/-- A block's rows in front of the norm, operation by operation. -/
def sumOps (h : Mat .f32 688 1024) (x : Mat .bf16 688 1536) (w : Mat .bf16 1536 1024) : Mat .f32 688 1024 :=
  addf (mulf (broadcast S688x1024 (Scalar.ofBits .f32 0x3FD744FD#32)) h)
    (matmul dot_S688x1536_S1536x1024_S688x1024_1_0_0_1_n_n none x w (constant S688x1024 .f32 0x00000000#32))

theorem blocks (t : Fin cfg0.N) : OutBlocks (x m c) (w m c) (h m c) (g m c) (b m c) t (sumOps (iblk m c 2 t) (iblk m c 0 t) (iblk m c 1 t))
    (iblk m c 3 t) (iblk m c 4 t) where
  rows r y := by
    unfold sumOps
    pointwise
    refine congrArg₂ (· + ·) (congrArg (_ * ·) ?_) (Finset.sum_congr rfl fun k _ => congrArg₂ (· * ·) ?_ ?_)
    · show iblk m c 2 t (ix2 r y) = h m c (ix2 (at_ t r) y)
      blk_ext [iblk, V, (walks t).2.1.1, (walks t).2.1.2]
    · show iblk m c 0 t (ix2 r k) = x m c (ix2 (at_ t r) k)
      blk_ext [iblk, V, (walks t).1.1, (walks t).1.2]
    · show iblk m c 1 t (ix2 k y) = w m c (ix2 k y)
      blk_ext [iblk, V, (stays t).1.1, (stays t).1.2]
  scale y := by blk_ext [iblk, V, (stays t).2.1.1, (stays t).2.1.2]
  shift y := by blk_ext [iblk, V, (stays t).2.2.1, (stays t).2.2.2]

/-- The result, and that in the narrower format. -/
theorem result_array : (dats m 0 c).arrAt 5 cfg0.N = fun y : S2064x1024.Idx => normed (outRow (x m c) (w m c) (h m c) (y 0)) (g m c) (b m c) (y 1) := by
  refine (dats m 0 c).arrAt_eq_of_covers 5 _ (by decide +kernel) fun t hf y => ?_
  obtain ⟨r, y, rfl⟩ := exists_ix2 y
  rw [show (((cfg0.win 5).blk t).view.emb (ix2 r y) : S2064x1024.Idx) = ix2 (at_ t r) y by blk_ext [(walks t).2.2.1.1, (walks t).2.2.1.2]]
  blk_simp
  rw [after0_5]
  unfold out0_5
  frame_out
  exact (blocks m c t).result_eq r y

theorem rounded_array : (dats m 0 c).arrAt 6 cfg0.N = fun y : S2064x1024.Idx => normed (outRow (x m c) (w m c) (h m c) (y 0)) (g m c) (b m c) (y 1) := by
  refine (dats m 0 c).arrAt_eq_of_covers 6 _ (by decide +kernel) fun t hf y => ?_
  obtain ⟨r, y, rfl⟩ := exists_ix2 y
  rw [show (((cfg0.win 6).blk t).view.emb (ix2 r y) : S2064x1024.Idx) = ix2 (at_ t r) y by blk_ext [(walks t).2.2.2.1.1, (walks t).2.2.2.1.2]]
  blk_simp
  rw [after0_6]
  unfold out0_6
  frame_out
  exact (blocks m c t).rounded_eq r y

/-- The normalised rows, and their reciprocal deviations. -/
theorem xhat_array : (dats m 0 c).arrAt 7 cfg0.N = fun y : S2064x1024.Idx => xhat (outRow (x m c) (w m c) (h m c) (y 0)) (y 1) := by
  refine (dats m 0 c).arrAt_eq_of_covers 7 _ (by decide +kernel) fun t hf y => ?_
  obtain ⟨r, y, rfl⟩ := exists_ix2 y
  rw [show (((cfg0.win 7).blk t).view.emb (ix2 r y) : S2064x1024.Idx) = ix2 (at_ t r) y by blk_ext [(walks t).2.2.2.2.1.1, (walks t).2.2.2.2.1.2]]
  blk_simp
  rw [after0_7]
  unfold out0_7
  frame_out
  exact (blocks m c t).xhat_eq r y

theorem rstd_array : (dats m 0 c).arrAt 8 cfg0.N = fun y : S2064x1.Idx => rstd (outRow (x m c) (w m c) (h m c) (y 0)) := by
  refine (dats m 0 c).arrAt_eq_of_covers 8 _ (by decide +kernel) fun t hf y => ?_
  obtain ⟨r, y, rfl⟩ := exists_ix2 y
  rw [show (((cfg0.win 8).blk t).view.emb (ix2 r y) : S2064x1.Idx) = ix2 (at_ t r) y by blk_ext [(walks t).2.2.2.2.2.1, (walks t).2.2.2.2.2.2]]
  blk_simp
  rw [after0_8]
  unfold out0_8
  frame_out
  exact (blocks m c t).rstd_eq r y

end Kernel

section Reference

open Cert.LruOutRefIdeal Cert.LruOutRefIdeal.Read

variable (x : Mat .bf16 2064 1536) (w : Mat .bf16 1536 1024) (h : Mat .f32 2064 1024) (g b : Mat .f32 1 1024)

theorem ref_row (r : Fin 2064) : row (val_main_v5 (F := Ideal) x w h) r = outRow x w h r := by
  funext y
  show val_main_v5 (F := Ideal) x w h (ix2 r y) = _
  rw [val_main_v5_apply, val_main_v1_apply, val_main_v0_apply, val_main_v4_apply]
  refine congrArg₂ (· + ·) (congrArg (_ * ·) (congrArg h (ix2_of rfl rfl))) (Finset.sum_congr rfl fun k _ => ?_)
  exact congrArg₂ (· * ·) (congrArg x (ix2_of rfl rfl)) (congrArg w (ix2_of rfl rfl))

theorem ref_rstd (i : S2064x1.Idx) : val_main_v19 (F := Ideal) x w h i = rstd (outRow x w h (i 0)) :=
  (NormRef.rstd_at (val_main_v5 (F := Ideal) x w h) i).trans (congrArg rstd (ref_row x w h (i 0)))

theorem ref_xhat (i : S2064x1024.Idx) : val_main_v23 (F := Ideal) x w h i = xhat (outRow x w h (i 0)) (i 1) :=
  (NormRef.xhat_at (val_main_v5 (F := Ideal) x w h) i).trans (congrFun (congrArg xhat (ref_row x w h (i 0))) (i 1))

theorem ref_result (i : S2064x1024.Idx) : val_main_v27 (F := Ideal) x w h g b i = normed (outRow x w h (i 0)) g b (i 1) := by
  rw [val_main_v27_apply, val_main_v25_apply, ref_xhat, val_main_v24_apply, val_main_v26_apply]
  exact congrArg₂ (· + ·) (congrArg (_ * ·) (congrArg g (ix2_of rfl rfl))) (congrArg b (ix2_of rfl rfl))

end Reference

theorem frame_program : Cert.quiescent_LruOut := fun m ρ _ => Cert.LruOut.Gen.frame m ρ
theorem frame_ideal : Cert.quiescent_LruOutIdeal := fun m ρ _ => Cert.LruOutIdeal.Gen.frame m ρ
theorem frame_reference : Cert.quiescent_LruOutRefIdeal := fun m ρ _ =>
  (θ_run Cert.LruOutRefIdeal.defs _ _).mono (fun r h => ⟨fun c => (h c).2.2.2.2,
      Idealize.ShloMosaic.sem_eq_zero_of_no_sems (by decide) r.2⟩)
    (Cert.LruOutRefIdeal.Value.run (F := Ideal) m ρ)

/-- The reference's results are the arrays the program ends with. -/
theorem same_results : Cert.algebraic_LruOutIdeal_LruOutRefIdeal := by
  intro m ρ m' ρ' _ hagree
  refine ⟨_, _, _, _, Cert.LruOutIdeal.Value.run_blocks (F := Ideal) m ρ, ?_⟩
  refine (θ_run Cert.LruOutRefIdeal.defs _ _).mono (fun _ h c => ?_) (Cert.LruOutRefIdeal.Value.run (F := Ideal) m' ρ')
  obtain ⟨h0, h1, h2, h3, hk⟩ := h c
  obtain ⟨a0, a1, a2, a3, a4⟩ := hagree c
  refine ⟨h0.trans ?_, h1.trans ?_, h2.trans ?_, h3.trans ?_, hk⟩
  · rw [Cert.LruOutRefIdeal.Read.val_main_v27_eq, a0, a1, a2, a3, a4, result_array]
    exact funext fun y => ref_result _ _ _ _ _ y
  · rw [Cert.LruOutRefIdeal.Read.val_main_v28_eq, a0, a1, a2, a3, a4, rounded_array]
    exact funext fun y => ref_result _ _ _ _ _ y
  · rw [Cert.LruOutRefIdeal.Read.val_main_v23_eq, a0, a1, a2, xhat_array]
    exact funext fun y => ref_xhat _ _ _ y
  · rw [Cert.LruOutRefIdeal.Read.val_main_v19_eq, a0, a1, a2, rstd_array]
    exact funext fun y => ref_rstd _ _ _ y

end Cert.Products.LruOut

end
-- ==== Proof.LruOutDw.lean ====
/- The gradient of the recurrence's output weights: half of its rows per grid point. -/
module

public import proofs.«01_k».proof.Defs
public import proofs.«01_k».proof.Proof.Products
public import proofs.«01_k».proof.Proof.Gen.LruOutDw.Frame
public import proofs.«01_k».proof.Proof.Gen.LruOutDwIdeal.Frame
public import proofs.«01_k».proof.Proof.Gen.LruOutDwIdeal.Value
public import proofs.«01_k».proof.Proof.Gen.LruOutDwRefIdeal.Run
public import proofs.«01_k».proof.Proof.Gen.LruOutDwRefIdeal.Read
public import Idealize.ShloMosaic.Lib.Quiescent

@[expose] public section

set_option maxRecDepth 16384

noncomputable section

namespace Cert.Products.LruOutDw

open Idealize.ShloMosaic Idealize.ShloMosaic.TcCoe Idealize.SL.Sem

section Kernel

open Cert.LruOutDwIdeal Cert.LruOutDwIdeal.Gen Cert.LruOutDwIdeal.Value

variable (m : (ℓ : Loc nD τ sig) → Buf (Elt Ideal) ℓ) (c : Dev nD)

theorem index : ∀ t : Fin cfg0.N, (win0_0.index t 0 = 0 ∧ win0_0.index t 1 = t.val) ∧ (win0_1.index t 0 = 0 ∧ win0_1.index t 1 = 0)
    ∧ (win0_2.index t 0 = 0 ∧ win0_2.index t 1 = t.val ∧ win0_2.index t 2 = 0) :=
  (by decide +kernel : ∀ t : Fin grid0.N, _)

theorem block_lt (t : Fin cfg0.N) : t.val < 2 := t.isLt

/-- The input and the cotangent, as launched. -/
abbrev x : Mat .bf16 2064 1536 := m ((c : Thread nD τ).loc main_arg0)
abbrev ds : Mat .bf16 2064 1024 := m ((c : Thread nD τ).loc main_arg1)

theorem input_block (t : Fin cfg0.N) (k : Fin 2064) (r : Fin 768) :
    iblk m c 0 t (ix2 k r) = x m c (ix2 k ⟨768 * t + r, by have := block_lt t; omega⟩) := by
  have e := (index t).1
  have := block_lt t
  blk_ext [iblk, V, e.1, e.2]

theorem cotangent_block (t : Fin cfg0.N) (k : Fin 2064) (y : Fin 1024) : iblk m c 1 t (ix2 k y) = ds m c (ix2 k y) := by
  have e := (index t).2.1
  blk_ext [iblk, V, e.1, e.2]

theorem product_apply (a : Mat .bf16 2064 768) (b : Mat .bf16 2064 1024) (r : Fin 768) (y : Fin 1024) :
    k0_pay1 (F := Ideal) a b (ix3 0 r y) = ∑ k : Fin 2064, a (ix2 k r) * b (ix2 k y) := by
  unfold k0_pay1
  pointwise

/-- The result array. -/
theorem array : (dats m 0 c).arrAt 2 cfg0.N
    = fun y : S1x1536x1024.Idx => ∑ k : Fin 2064, x m c (ix2 k (y 1)) * ds m c (ix2 k (y 2)) := by
  refine (dats m 0 c).arrAt_eq_of_covers 2 _ (by decide +kernel) fun t hf y => ?_
  have e := (index t).2.2
  have := block_lt t
  obtain ⟨r, y, rfl⟩ := exists_ix3 y
  have ey : (((cfg0.win 2).blk t).view.emb (ix3 0 r y) : S1x1536x1024.Idx) = ix3 0 ⟨768 * t + r, by omega⟩ y := by
    blk_ext [e.1, e.2.1, e.2.2]
  rw [ey]
  blk_simp
  rw [after0_2, outsAt0]
  frame_out
  refine (product_apply _ _ r y).trans (Finset.sum_congr rfl fun k _ => ?_)
  rw [input_block, cotangent_block]
  rfl

end Kernel

theorem frame_program : Cert.quiescent_LruOutDw := fun m ρ _ => Cert.LruOutDw.Gen.frame m ρ
theorem frame_ideal : Cert.quiescent_LruOutDwIdeal := fun m ρ _ => Cert.LruOutDwIdeal.Gen.frame m ρ
theorem frame_reference : Cert.quiescent_LruOutDwRefIdeal := fun m ρ _ =>
  (θ_run Cert.LruOutDwRefIdeal.defs _ _).mono (fun r h => ⟨fun c => (h c).2,
      Idealize.ShloMosaic.sem_eq_zero_of_no_sems (by decide) r.2⟩)
    (Cert.LruOutDwRefIdeal.Value.run (F := Ideal) m ρ)

/-- The reference's result is the array the program ends with. -/
theorem same_results : Cert.algebraic_LruOutDwIdeal_LruOutDwRefIdeal := by
  intro m ρ m' ρ' _ hagree
  refine ⟨_, Cert.LruOutDwIdeal.Value.run_blocks (F := Ideal) m ρ, ?_⟩
  refine (θ_run Cert.LruOutDwRefIdeal.defs _ _).mono (fun _ h c => ?_) (Cert.LruOutDwRefIdeal.Value.run (F := Ideal) m' ρ')
  obtain ⟨h0, hk⟩ := h c
  obtain ⟨a0, a1⟩ := hagree c
  refine ⟨h0.trans ?_, hk⟩
  rw [Cert.LruOutDwRefIdeal.Read.val_main_v7_eq, a0, a1, array]
  funext y
  rw [Cert.LruOutDwRefIdeal.Read.val_main_v7_apply, Cert.LruOutDwRefIdeal.Read.val_main_v6_apply,
    Cert.LruOutDwRefIdeal.Read.val_main_v5_apply, Cert.LruOutDwRefIdeal.Read.val_main_v4_apply]
  refine Finset.sum_congr rfl fun k _ => ?_
  rw [mul_comm (x m c _)]
  exact congrArg₂ (· * ·) (congrArg (ds m c) (ix2_of rfl rfl)) (congrArg (x m c) (ix2_of rfl rfl))

end Cert.Products.LruOutDw

end
-- ==== Proof.AttnIn.lean ====
/- The attention's input product: a row block and a shard of the weights per grid point. -/
module

public import proofs.«01_k».proof.Defs
public import proofs.«01_k».proof.Proof.Products
public import proofs.«01_k».proof.Proof.Gen.AttnIn.Frame
public import proofs.«01_k».proof.Proof.Gen.AttnInIdeal.Frame
public import proofs.«01_k».proof.Proof.Gen.AttnInIdeal.Value
public import proofs.«01_k».proof.Proof.Gen.AttnInRefIdeal.Run
public import proofs.«01_k».proof.Proof.Gen.AttnInRefIdeal.Read
public import Idealize.ShloMosaic.Lib.Quiescent

@[expose] public section

set_option maxRecDepth 16384

noncomputable section

namespace Cert.Products.AttnIn

open Idealize.ShloMosaic Idealize.ShloMosaic.TcCoe Idealize.SL.Sem

section Kernel

open Cert.AttnInIdeal Cert.AttnInIdeal.Gen Cert.AttnInIdeal.Value

variable (m : (ℓ : Loc nD τ sig) → Buf (Elt Ideal) ℓ) (c : Dev nD)

theorem index : ∀ t : Fin cfg0.N, (win0_0.index t 0 = t.val % 3 ∧ win0_0.index t 1 = 0)
    ∧ (win0_1.index t 0 = t.val / 3 ∧ win0_1.index t 1 = 0 ∧ win0_1.index t 2 = 0)
    ∧ (win0_2.index t 0 = t.val % 3 ∧ win0_2.index t 1 = t.val / 3) :=
  (by decide +kernel : ∀ t : Fin grid0.N, _)

theorem block_lt (t : Fin cfg0.N) : t.val < 12 := t.isLt

/-- The rows and the shards of the weights, as launched. -/
abbrev x : Mat .bf16 2064 1024 := m ((c : Thread nD τ).loc main_arg0)
abbrev w : Stack .bf16 4 1024 512 := m ((c : Thread nD τ).loc main_arg1)

theorem row_block (t : Fin cfg0.N) (r : Fin 688) (k : Fin 1024) :
    iblk m c 0 t (ix2 r k) = x m c (ix2 ⟨688 * (t % 3) + r, by omega⟩ k) := by
  have e := (index t).1
  blk_ext [iblk, V, e.1, e.2]

theorem weight_block (t : Fin cfg0.N) (k : Fin 1024) (y : Fin 512) :
    iblk m c 1 t (ix3 0 k y) = w m c (ix3 ⟨t / 3, by have := block_lt t; omega⟩ k y) := by
  have e := (index t).2.1
  have := block_lt t
  blk_ext [iblk, V, e.1, e.2.1, e.2.2]

theorem product_apply (a : Mat .bf16 688 1024) (b : Stack .bf16 1 1024 512) (r : Fin 688) (y : Fin 512) :
    out0_2 (F := Ideal) a b (ix2 r y) = ∑ k : Fin 1024, a (ix2 r k) * b (ix3 0 k y) := by
  unfold out0_2
  frame_out
  unfold k0_pay1
  pointwise

/-- The result array. -/
theorem array : (dats m 0 c).arrAt 2 cfg0.N
    = fun y : S2064x2048.Idx => ∑ k : Fin 1024, x m c (ix2 (y 0) k) * shards (w m c) k (y 1) := by
  refine (dats m 0 c).arrAt_eq_of_covers 2 _ (by decide +kernel) fun t hf y => ?_
  have e := (index t).2.2
  have := block_lt t
  obtain ⟨r, y, rfl⟩ := exists_ix2 y
  have ey : (((cfg0.win 2).blk t).view.emb (ix2 r y) : S2064x2048.Idx) = ix2 ⟨688 * (t % 3) + r, by omega⟩ ⟨512 * (t / 3) + y, by omega⟩ := by
    blk_ext [e.1, e.2]
  rw [ey]
  blk_simp
  rw [after0_2]
  refine (product_apply _ _ r y).trans (Finset.sum_congr rfl fun k _ => ?_)
  rw [row_block, weight_block]
  exact congrArg (_ * ·) (shards_apply (w m c) k ⟨t / 3, by omega⟩ y (by show 512 * (t.val / 3) + y.val < 2048; omega)).symm

end Kernel

theorem frame_program : Cert.quiescent_AttnIn := fun m ρ _ => Cert.AttnIn.Gen.frame m ρ
theorem frame_ideal : Cert.quiescent_AttnInIdeal := fun m ρ _ => Cert.AttnInIdeal.Gen.frame m ρ
theorem frame_reference : Cert.quiescent_AttnInRefIdeal := fun m ρ _ =>
  (θ_run Cert.AttnInRefIdeal.defs _ _).mono (fun r h => ⟨fun c => (h c).2,
      Idealize.ShloMosaic.sem_eq_zero_of_no_sems (by decide) r.2⟩)
    (Cert.AttnInRefIdeal.Value.run (F := Ideal) m ρ)

/-- The reference's result is the array the program ends with. -/
theorem same_results : Cert.algebraic_AttnInIdeal_AttnInRefIdeal := by
  intro m ρ m' ρ' _ hagree
  refine ⟨_, Cert.AttnInIdeal.Value.run_blocks (F := Ideal) m ρ, ?_⟩
  refine (θ_run Cert.AttnInRefIdeal.defs _ _).mono (fun _ h c => ?_) (Cert.AttnInRefIdeal.Value.run (F := Ideal) m' ρ')
  obtain ⟨h0, hk⟩ := h c
  obtain ⟨a0, a1⟩ := hagree c
  refine ⟨h0.trans ?_, hk⟩
  rw [Cert.AttnInRefIdeal.Read.val_main_v4_eq, a0, a1, array]
  refine funext fun y => (Cert.AttnInRefIdeal.Read.val_main_v4_apply _ _ y).trans (Finset.sum_congr rfl fun k _ => ?_)
  rw [Cert.AttnInRefIdeal.Read.val_main_v3_apply, Cert.AttnInRefIdeal.Read.val_main_v2_apply]
  exact congrArg₂ (· * ·) (congrArg (x m c) (ix2_of rfl rfl)) (shards_of (w m c) rfl rfl rfl)

end Cert.Products.AttnIn

end
-- ==== Proof.AttnInDx.lean ====
/- The gradient that the attention's input product hands to its rows: four grid points add up a row block, a shard of the
   weights each. -/
module

public import proofs.«01_k».proof.Defs
public import proofs.«01_k».proof.Proof.Products
public import proofs.«01_k».proof.Proof.ShardSums
public import proofs.«01_k».proof.Proof.Gen.AttnInDx.Frame
public import proofs.«01_k».proof.Proof.Gen.AttnInDxIdeal.Frame
public import proofs.«01_k».proof.Proof.Gen.AttnInDxIdeal.Value
public import proofs.«01_k».proof.Proof.Gen.AttnInDxRefIdeal.Run
public import proofs.«01_k».proof.Proof.Gen.AttnInDxRefIdeal.Read
public import Idealize.ShloMosaic.Lib.Quiescent

@[expose] public section

set_option maxRecDepth 16384

noncomputable section

namespace Cert.Products.AttnInDx

open Idealize.ShloMosaic Idealize.ShloMosaic.TcCoe Idealize.SL.Sem

section Kernel

open Cert.AttnInDxIdeal Cert.AttnInDxIdeal.Gen Cert.AttnInDxIdeal.Value

variable (m : (ℓ : Loc nD τ sig) → Buf (Elt Ideal) ℓ) (c : Dev nD)

theorem index : ∀ t : Fin cfg0.N, (t.val % 4 < 2 → win0_0.index t 0 = t.val / 4 ∧ win0_0.index t 1 = t.val % 4)
    ∧ (2 ≤ t.val % 4 → win0_1.index t 0 = t.val / 4 ∧ win0_1.index t 1 = t.val % 4 - 2)
    ∧ (win0_2.index t 0 = t.val % 4 ∧ win0_2.index t 1 = 0 ∧ win0_2.index t 2 = 0)
    ∧ (win0_3.index t 0 = t.val / 4 ∧ win0_3.index t 1 = 0) :=
  (by decide +kernel : ∀ t : Fin grid0.N, _)

theorem block_lt (t : Fin cfg0.N) : t.val < 12 := t.isLt

/-- The two cotangents and the shards of the weights, as launched. -/
abbrev dq : Mat .bf16 2064 1024 := m ((c : Thread nD τ).loc main_arg0)
abbrev dgate : Mat .bf16 2064 1024 := m ((c : Thread nD τ).loc main_arg1)
abbrev w : Stack .bf16 4 1024 512 := m ((c : Thread nD τ).loc main_arg2)

theorem query_block (t : Fin cfg0.N) (h : t.val % 4 < 2) (r : Fin 688) (k : Fin 512) :
    iblk m c 0 t (ix2 r k) = joined (dq m c) (dgate m c) (rowAt (s := 4) t r) (colAt (s := 4) t k) := by
  have e := (index t).1 h
  have := block_lt t
  refine Eq.trans ?_ (joined_left _ _ ⟨512 * (t % 4) + k, by omega⟩ rfl).symm
  blk_ext [iblk, V, rowAt, e.1, e.2]

theorem gate_block (t : Fin cfg0.N) (h : 2 ≤ t.val % 4) (r : Fin 688) (k : Fin 512) :
    iblk m c 1 t (ix2 r k) = joined (dq m c) (dgate m c) (rowAt (s := 4) t r) (colAt (s := 4) t k) := by
  have e := (index t).2.1 h
  have := block_lt t
  refine Eq.trans ?_ (joined_right _ _ ⟨512 * (t % 4 - 2) + k, by omega⟩ (by
    show 512 * (t.val % 4) + k.val = 1024 + (512 * (t.val % 4 - 2) + k.val); omega)).symm
  blk_ext [iblk, V, rowAt, e.1, e.2]

theorem weight_block (t : Fin cfg0.N) (y : Fin 1024) (k : Fin 512) : iblk m c 2 t (ix3 0 y k) = shards (w m c) y (colAt (s := 4) t k) := by
  have e := (index t).2.2.1
  refine Eq.trans ?_ (shards_apply (w m c) y ⟨t % 4, by omega⟩ k (colAt (s := 4) t k).isLt).symm
  blk_ext [iblk, V, e.1, e.2.1, e.2.2]

theorem step_apply (acc : Mat .f32 688 1024) (a : Mat .bf16 688 512) (b : Stack .bf16 1 1024 512) (r : Fin 688) (y : Fin 1024) :
    k0_pay1 (F := Ideal) acc a b (ix2 r y) = acc (ix2 r y) + dot a b r y := by
  unfold k0_pay1 dot
  pointwise

theorem start_apply (y : S688x1024.Idx) : k0_pay2 (F := Ideal) y = 0 := by
  unfold k0_pay2
  pointwise

/-- Four points add up a row block. -/
theorem sums : Sums (s := 4) (n := 512) (joined (dq m c) (dgate m c)) (shards (w m c)) (outsAt0 m c) where
  first t h r y := by
    rw [outsAt0_A m c t h (by omega) (by omega)]
    frame_out
    refine (step_apply _ _ _ r y).trans ?_
    rw [start_apply]
    exact congrArg (0 + ·) (dot_eq (s := 4) _ _ (query_block m c t (by omega)) (weight_block m c t) r y)
  next t h r y := by
    by_cases h1 : t.val % 4 ≤ 1
    · rw [outsAt0_B m c t h h1 (by omega)]
      frame_out
      exact (step_apply _ _ _ r y).trans (congrArg (_ + ·) (dot_eq (s := 4) _ _ (query_block m c t (by omega)) (weight_block m c t) r y))
    · rw [outsAt0_C m c t h h1 (by omega)]
      frame_out
      exact (step_apply _ _ _ r y).trans (congrArg (_ + ·) (dot_eq (s := 4) _ _ (gate_block m c t (by omega)) (weight_block m c t) r y))

/-- The result array. -/
theorem array : (dats m 0 c).arrAt 3 cfg0.N
    = fun y : S2064x1024.Idx => ∑ k : Fin 2048, joined (dq m c) (dgate m c) (y 0) k * shards (w m c) (y 1) k := by
  refine (dats m 0 c).arrAt_eq_of_covers 3 _ (by decide +kernel) fun t hf y => ?_
  have e := (index t).2.2.2
  have := block_lt t
  obtain ⟨r, y, rfl⟩ := exists_ix2 y
  rw [show (((cfg0.win 3).blk t).view.emb (ix2 r y) : S2064x1024.Idx) = ix2 (rowAt (s := 4) t r) y by blk_ext [rowAt, e.1, e.2]]
  blk_simp
  rw [after0_3]
  exact (sums m c).point t ((flush0_3 t).mp hf) r y

end Kernel

theorem frame_program : Cert.quiescent_AttnInDx := fun m ρ _ => Cert.AttnInDx.Gen.frame m ρ
theorem frame_ideal : Cert.quiescent_AttnInDxIdeal := fun m ρ _ => Cert.AttnInDxIdeal.Gen.frame m ρ
theorem frame_reference : Cert.quiescent_AttnInDxRefIdeal := fun m ρ _ =>
  (θ_run Cert.AttnInDxRefIdeal.defs _ _).mono (fun r h => ⟨fun c => (h c).2,
      Idealize.ShloMosaic.sem_eq_zero_of_no_sems (by decide) r.2⟩)
    (Cert.AttnInDxRefIdeal.Value.run (F := Ideal) m ρ)

/-- The reference's result is the array the program ends with. -/
theorem same_results : Cert.algebraic_AttnInDxIdeal_AttnInDxRefIdeal := by
  intro m ρ m' ρ' _ hagree
  refine ⟨_, Cert.AttnInDxIdeal.Value.run_blocks (F := Ideal) m ρ, ?_⟩
  refine (θ_run Cert.AttnInDxRefIdeal.defs _ _).mono (fun _ h c => ?_) (Cert.AttnInDxRefIdeal.Value.run (F := Ideal) m' ρ')
  obtain ⟨h0, hk⟩ := h c
  obtain ⟨a0, a1, a2⟩ := hagree c
  refine ⟨h0.trans ?_, hk⟩
  rw [Cert.AttnInDxRefIdeal.Read.val_main_v8_eq, a0, a1, a2, array]
  funext y
  rw [Cert.AttnInDxRefIdeal.Read.val_main_v8_apply]
  refine Finset.sum_congr rfl fun k _ => ?_
  rw [Cert.AttnInDxRefIdeal.Read.val_main_v6_apply, Cert.AttnInDxRefIdeal.Read.val_main_v5_apply]
  exact congrArg₂ (· * ·) (concatenate_joined (φ := .f32) _ _ _ _) (shards_of (w m c) rfl rfl rfl)

end Cert.Products.AttnInDx

end
-- ==== Proof.AttnInDw.lean ====
/- The gradient of the attention's input weights: a shard per grid point, the first two of the queries' cotangent and the last
   two of the gate's. -/
module

public import proofs.«01_k».proof.Defs
public import proofs.«01_k».proof.Proof.Products
public import proofs.«01_k».proof.Proof.Gen.AttnInDw.Frame
public import proofs.«01_k».proof.Proof.Gen.AttnInDwIdeal.Frame
public import proofs.«01_k».proof.Proof.Gen.AttnInDwIdeal.Value
public import proofs.«01_k».proof.Proof.Gen.AttnInDwRefIdeal.Run
public import proofs.«01_k».proof.Proof.Gen.AttnInDwRefIdeal.Read
public import Idealize.ShloMosaic.Lib.Quiescent

@[expose] public section

set_option maxRecDepth 16384

noncomputable section

namespace Cert.Products.AttnInDw

open Idealize.ShloMosaic Idealize.ShloMosaic.TcCoe Idealize.SL.Sem

section Kernel

open Cert.AttnInDwIdeal Cert.AttnInDwIdeal.Gen Cert.AttnInDwIdeal.Value

variable (m : (ℓ : Loc nD τ sig) → Buf (Elt Ideal) ℓ) (c : Dev nD)

theorem index : ∀ t : Fin cfg0.N, (win0_0.index t 0 = 0 ∧ win0_0.index t 1 = 0)
    ∧ (t.val < 2 → win0_1.index t 0 = 0 ∧ win0_1.index t 1 = t.val) ∧ (2 ≤ t.val → win0_2.index t 0 = 0 ∧ win0_2.index t 1 = t.val - 2)
    ∧ (win0_3.index t 0 = t.val ∧ win0_3.index t 1 = 0 ∧ win0_3.index t 2 = 0) :=
  (by decide +kernel : ∀ t : Fin grid0.N, _)

theorem block_lt (t : Fin cfg0.N) : t.val < 4 := t.isLt

/-- The input and the two cotangents, as launched. -/
abbrev x : Mat .bf16 2064 1024 := m ((c : Thread nD τ).loc main_arg0)
abbrev dq : Mat .bf16 2064 1024 := m ((c : Thread nD τ).loc main_arg1)
abbrev dgate : Mat .bf16 2064 1024 := m ((c : Thread nD τ).loc main_arg2)

theorem input_block (t : Fin cfg0.N) (k : Fin 2064) (r : Fin 1024) : iblk m c 0 t (ix2 k r) = x m c (ix2 k r) := by
  have e := (index t).1
  blk_ext [iblk, V, e.1, e.2]

theorem query_block (t : Fin cfg0.N) (h : t.val < 2) (k : Fin 2064) (y : Fin 512) :
    iblk m c 1 t (ix2 k y) = dq m c (ix2 k ⟨512 * t + y, by omega⟩) := by
  have e := (index t).2.1 h
  blk_ext [iblk, V, e.1, e.2]

theorem gate_block (t : Fin cfg0.N) (h : 2 ≤ t.val) (k : Fin 2064) (y : Fin 512) :
    iblk m c 2 t (ix2 k y) = dgate m c (ix2 k ⟨512 * (t - 2) + y, by have := block_lt t; omega⟩) := by
  have e := (index t).2.2.1 h
  have := block_lt t
  blk_ext [iblk, V, e.1, e.2]

theorem product_apply (a : Mat .bf16 2064 1024) (b : Mat .bf16 2064 512) (r : Fin 1024) (y : Fin 512) :
    k0_pay1 (F := Ideal) a b (ix3 0 r y) = ∑ k : Fin 2064, a (ix2 k r) * b (ix2 k y) := by
  unfold k0_pay1
  pointwise

/-- What a grid point leaves in its block. -/
theorem block (t : Fin cfg0.N) (r : Fin 1024) (y : Fin 512) : outsAt0 m c t.val t.isLt (ix3 0 r y)
    = ∑ k : Fin 2064, x m c (ix2 k r) * joined (dq m c) (dgate m c) k ⟨512 * t + y, by have := block_lt t; omega⟩ := by
  have := block_lt t
  by_cases h : t.val < 2
  · rw [outsAt0_A m c t h (by omega)]
    frame_out
    refine (product_apply _ _ r y).trans (Finset.sum_congr rfl fun k _ => ?_)
    rw [input_block, query_block m c t h]
    exact congrArg (_ * ·) (joined_left _ _ _ rfl).symm
  · rw [outsAt0_B m c t h (by omega)]
    frame_out
    refine (product_apply _ _ r y).trans (Finset.sum_congr rfl fun k _ => ?_)
    rw [input_block, gate_block m c t (by omega)]
    exact congrArg (_ * ·) (joined_right _ _ _ (by show 512 * t.val + y.val = 1024 + (512 * (t.val - 2) + y.val); omega)).symm

/-- The result array. -/
theorem array : (dats m 0 c).arrAt 3 cfg0.N = fun y : S4x1024x512.Idx => ∑ k : Fin 2064, x m c (ix2 k (y 1))
    * joined (dq m c) (dgate m c) k ⟨512 * (y 0).val + (y 2).val, by
      have h0 : (y 0).val < 4 := (y 0).isLt
      have h2 : (y 2).val < 512 := (y 2).isLt
      omega⟩ := by
  refine (dats m 0 c).arrAt_eq_of_covers 3 _ (by decide +kernel) fun t hf y => ?_
  have e := (index t).2.2.2
  have := block_lt t
  obtain ⟨r, y, rfl⟩ := exists_ix3 y
  have ey : (((cfg0.win 3).blk t).view.emb (ix3 0 r y) : S4x1024x512.Idx) = ix3 ⟨t, this⟩ r y := by
    blk_ext [e.1, e.2.1, e.2.2]
  rw [ey]
  blk_simp
  rw [after0_3]
  exact block m c t r y

end Kernel

theorem frame_program : Cert.quiescent_AttnInDw := fun m ρ _ => Cert.AttnInDw.Gen.frame m ρ
theorem frame_ideal : Cert.quiescent_AttnInDwIdeal := fun m ρ _ => Cert.AttnInDwIdeal.Gen.frame m ρ
theorem frame_reference : Cert.quiescent_AttnInDwRefIdeal := fun m ρ _ =>
  (θ_run Cert.AttnInDwRefIdeal.defs _ _).mono (fun r h => ⟨fun c => (h c).2,
      Idealize.ShloMosaic.sem_eq_zero_of_no_sems (by decide) r.2⟩)
    (Cert.AttnInDwRefIdeal.Value.run (F := Ideal) m ρ)

/-- The reference's result is the array the program ends with. -/
theorem same_results : Cert.algebraic_AttnInDwIdeal_AttnInDwRefIdeal := by
  intro m ρ m' ρ' _ hagree
  refine ⟨_, Cert.AttnInDwIdeal.Value.run_blocks (F := Ideal) m ρ, ?_⟩
  refine (θ_run Cert.AttnInDwRefIdeal.defs _ _).mono (fun _ h c => ?_) (Cert.AttnInDwRefIdeal.Value.run (F := Ideal) m' ρ')
  obtain ⟨h0, hk⟩ := h c
  obtain ⟨a0, a1, a2⟩ := hagree c
  refine ⟨h0.trans ?_, hk⟩
  rw [Cert.AttnInDwRefIdeal.Read.val_main_v12_eq, a0, a1, a2, array]
  funext y
  rw [Cert.AttnInDwRefIdeal.Read.val_main_v12_apply, Cert.AttnInDwRefIdeal.Read.val_main_v11_apply,
    Cert.AttnInDwRefIdeal.Read.val_main_v10_apply, Cert.AttnInDwRefIdeal.Read.val_main_v9_apply, Cert.AttnInDwRefIdeal.Read.val_main_v8_apply]
  refine Finset.sum_congr rfl fun k _ => ?_
  rw [mul_comm (x m c _)]
  exact congrArg₂ (· * ·) ((concatenate_joined (φ := .f32) _ _ _ _).trans
    (congrArg (joined (dq m c) (dgate m c) k) (Fin.ext (split_column (s := 4) (n := 512) (y 1).val (y 0) (y 2)))))
    (congrArg (x m c) (ix2_of rfl (split_row (s := 4) (n := 512) (y 1).val (y 0) (y 2))))

end Cert.Products.AttnInDw

end
-- ==== Proof.AttnOut.lean ====
/- The attention's output product, the residual sum and its layer normalisation: a row block per grid point. -/
module

public import proofs.«01_k».proof.Defs
public import proofs.«01_k».proof.Proof.NormOut
public import proofs.«01_k».proof.Proof.NormRef
public import proofs.«01_k».proof.Proof.Gen.AttnOut.Frame
public import proofs.«01_k».proof.Proof.Gen.AttnOutIdeal.Frame
public import proofs.«01_k».proof.Proof.Gen.AttnOutIdeal.Value
public import proofs.«01_k».proof.Proof.Gen.AttnOutRefIdeal.Run
public import proofs.«01_k».proof.Proof.Gen.AttnOutRefIdeal.Read
public import Idealize.ShloMosaic.Lib.Quiescent

@[expose] public section

set_option maxRecDepth 16384

noncomputable section

namespace Cert.Products.AttnOut

open Idealize.ShloMosaic Idealize.ShloMosaic.TcCoe Idealize.SL.Sem Cert.Products.Norm

section Kernel

open Cert.AttnOutIdeal Cert.AttnOutIdeal.Gen Cert.AttnOutIdeal.Value

variable (m : (ℓ : Loc nD τ sig) → Buf (Elt Ideal) ℓ) (c : Dev nD)

/-- The windows that walk down the rows, and those that stay. -/
theorem walks : ∀ t : Fin cfg0.N, (win0_0.index t 0 = t.val ∧ win0_0.index t 1 = 0) ∧ (win0_2.index t 0 = t.val ∧ win0_2.index t 1 = 0)
    ∧ (win0_5.index t 0 = t.val ∧ win0_5.index t 1 = 0) ∧ (win0_6.index t 0 = t.val ∧ win0_6.index t 1 = 0)
    ∧ (win0_7.index t 0 = t.val ∧ win0_7.index t 1 = 0) ∧ (win0_8.index t 0 = t.val ∧ win0_8.index t 1 = 0) :=
  (by decide +kernel : ∀ t : Fin grid0.N, _)
theorem stays : ∀ t : Fin cfg0.N, (win0_1.index t 0 = 0 ∧ win0_1.index t 1 = 0) ∧ (win0_3.index t 0 = 0 ∧ win0_3.index t 1 = 0)
    ∧ (win0_4.index t 0 = 0 ∧ win0_4.index t 1 = 0) :=
  (by decide +kernel : ∀ t : Fin grid0.N, _)

/-- The input, the weights, the residual stream, the scale and the shift, as launched. -/
abbrev x : Mat .bf16 2064 1024 := m ((c : Thread nD τ).loc main_arg0)
abbrev w : Mat .bf16 1024 1024 := m ((c : Thread nD τ).loc main_arg1)
abbrev h : Mat .f32 2064 1024 := m ((c : Thread nD τ).loc main_arg2)
abbrev g : Mat .f32 1 1024 := m ((c : Thread nD τ).loc main_arg3)
abbrev b : Mat .f32 1 1024 := m ((c : Thread nD τ).loc main_arg4)

/-- A block's rows in front of the norm, operation by operation. -/
def sumOps (h : Mat .f32 688 1024) (x : Mat .bf16 688 1024) (w : Mat .bf16 1024 1024) : Mat .f32 688 1024 :=
  addf (mulf (broadcast S688x1024 (Scalar.ofBits .f32 0x3FD744FD#32)) h)
    (matmul dot_S688x1024_S1024x1024_S688x1024_1_0_0_1_n_n none x w (constant S688x1024 .f32 0x00000000#32))

theorem blocks (t : Fin cfg0.N) : OutBlocks (x m c) (w m c) (h m c) (g m c) (b m c) t (sumOps (iblk m c 2 t) (iblk m c 0 t) (iblk m c 1 t))
    (iblk m c 3 t) (iblk m c 4 t) where
  rows r y := by
    unfold sumOps
    pointwise
    refine congrArg₂ (· + ·) (congrArg (_ * ·) ?_) (Finset.sum_congr rfl fun k _ => congrArg₂ (· * ·) ?_ ?_)
    · show iblk m c 2 t (ix2 r y) = h m c (ix2 (at_ t r) y)
      blk_ext [iblk, V, (walks t).2.1.1, (walks t).2.1.2]
    · show iblk m c 0 t (ix2 r k) = x m c (ix2 (at_ t r) k)
      blk_ext [iblk, V, (walks t).1.1, (walks t).1.2]
    · show iblk m c 1 t (ix2 k y) = w m c (ix2 k y)
      blk_ext [iblk, V, (stays t).1.1, (stays t).1.2]
  scale y := by blk_ext [iblk, V, (stays t).2.1.1, (stays t).2.1.2]
  shift y := by blk_ext [iblk, V, (stays t).2.2.1, (stays t).2.2.2]

/-- The result, and that in the narrower format. -/
theorem result_array : (dats m 0 c).arrAt 5 cfg0.N = fun y : S2064x1024.Idx => normed (outRow (x m c) (w m c) (h m c) (y 0)) (g m c) (b m c) (y 1) := by
  refine (dats m 0 c).arrAt_eq_of_covers 5 _ (by decide +kernel) fun t hf y => ?_
  obtain ⟨r, y, rfl⟩ := exists_ix2 y
  rw [show (((cfg0.win 5).blk t).view.emb (ix2 r y) : S2064x1024.Idx) = ix2 (at_ t r) y by blk_ext [(walks t).2.2.1.1, (walks t).2.2.1.2]]
  blk_simp
  rw [after0_5]
  unfold out0_5
  frame_out
  exact (blocks m c t).result_eq r y

theorem rounded_array : (dats m 0 c).arrAt 6 cfg0.N = fun y : S2064x1024.Idx => normed (outRow (x m c) (w m c) (h m c) (y 0)) (g m c) (b m c) (y 1) := by
  refine (dats m 0 c).arrAt_eq_of_covers 6 _ (by decide +kernel) fun t hf y => ?_
  obtain ⟨r, y, rfl⟩ := exists_ix2 y
  rw [show (((cfg0.win 6).blk t).view.emb (ix2 r y) : S2064x1024.Idx) = ix2 (at_ t r) y by blk_ext [(walks t).2.2.2.1.1, (walks t).2.2.2.1.2]]
  blk_simp
  rw [after0_6]
  unfold out0_6
  frame_out
  exact (blocks m c t).rounded_eq r y

/-- The normalised rows, and their reciprocal deviations. -/
theorem xhat_array : (dats m 0 c).arrAt 7 cfg0.N = fun y : S2064x1024.Idx => xhat (outRow (x m c) (w m c) (h m c) (y 0)) (y 1) := by
  refine (dats m 0 c).arrAt_eq_of_covers 7 _ (by decide +kernel) fun t hf y => ?_
  obtain ⟨r, y, rfl⟩ := exists_ix2 y
  rw [show (((cfg0.win 7).blk t).view.emb (ix2 r y) : S2064x1024.Idx) = ix2 (at_ t r) y by blk_ext [(walks t).2.2.2.2.1.1, (walks t).2.2.2.2.1.2]]
  blk_simp
  rw [after0_7]
  unfold out0_7
  frame_out
  exact (blocks m c t).xhat_eq r y

theorem rstd_array : (dats m 0 c).arrAt 8 cfg0.N = fun y : S2064x1.Idx => rstd (outRow (x m c) (w m c) (h m c) (y 0)) := by
  refine (dats m 0 c).arrAt_eq_of_covers 8 _ (by decide +kernel) fun t hf y => ?_
  obtain ⟨r, y, rfl⟩ := exists_ix2 y
  rw [show (((cfg0.win 8).blk t).view.emb (ix2 r y) : S2064x1.Idx) = ix2 (at_ t r) y by blk_ext [(walks t).2.2.2.2.2.1, (walks t).2.2.2.2.2.2]]
  blk_simp
  rw [after0_8]
  unfold out0_8
  frame_out
  exact (blocks m c t).rstd_eq r y

end Kernel

section Reference

open Cert.AttnOutRefIdeal Cert.AttnOutRefIdeal.Read

variable (x : Mat .bf16 2064 1024) (w : Mat .bf16 1024 1024) (h : Mat .f32 2064 1024) (g b : Mat .f32 1 1024)

theorem ref_row (r : Fin 2064) : row (val_main_v5 (F := Ideal) x w h) r = outRow x w h r := by
  funext y
  show val_main_v5 (F := Ideal) x w h (ix2 r y) = _
  rw [val_main_v5_apply, val_main_v1_apply, val_main_v0_apply, val_main_v4_apply]
  refine congrArg₂ (· + ·) (congrArg (_ * ·) (congrArg h (ix2_of rfl rfl))) (Finset.sum_congr rfl fun k _ => ?_)
  exact congrArg₂ (· * ·) (congrArg x (ix2_of rfl rfl)) (congrArg w (ix2_of rfl rfl))

theorem ref_rstd (i : S2064x1.Idx) : val_main_v19 (F := Ideal) x w h i = rstd (outRow x w h (i 0)) :=
  (NormRef.rstd_at (val_main_v5 (F := Ideal) x w h) i).trans (congrArg rstd (ref_row x w h (i 0)))

theorem ref_xhat (i : S2064x1024.Idx) : val_main_v23 (F := Ideal) x w h i = xhat (outRow x w h (i 0)) (i 1) :=
  (NormRef.xhat_at (val_main_v5 (F := Ideal) x w h) i).trans (congrFun (congrArg xhat (ref_row x w h (i 0))) (i 1))

theorem ref_result (i : S2064x1024.Idx) : val_main_v27 (F := Ideal) x w h g b i = normed (outRow x w h (i 0)) g b (i 1) := by
  rw [val_main_v27_apply, val_main_v25_apply, ref_xhat, val_main_v24_apply, val_main_v26_apply]
  exact congrArg₂ (· + ·) (congrArg (_ * ·) (congrArg g (ix2_of rfl rfl))) (congrArg b (ix2_of rfl rfl))

end Reference

theorem frame_program : Cert.quiescent_AttnOut := fun m ρ _ => Cert.AttnOut.Gen.frame m ρ
theorem frame_ideal : Cert.quiescent_AttnOutIdeal := fun m ρ _ => Cert.AttnOutIdeal.Gen.frame m ρ
theorem frame_reference : Cert.quiescent_AttnOutRefIdeal := fun m ρ _ =>
  (θ_run Cert.AttnOutRefIdeal.defs _ _).mono (fun r h => ⟨fun c => (h c).2.2.2.2,
      Idealize.ShloMosaic.sem_eq_zero_of_no_sems (by decide) r.2⟩)
    (Cert.AttnOutRefIdeal.Value.run (F := Ideal) m ρ)

/-- The reference's results are the arrays the program ends with. -/
theorem same_results : Cert.algebraic_AttnOutIdeal_AttnOutRefIdeal := by
  intro m ρ m' ρ' _ hagree
  refine ⟨_, _, _, _, Cert.AttnOutIdeal.Value.run_blocks (F := Ideal) m ρ, ?_⟩
  refine (θ_run Cert.AttnOutRefIdeal.defs _ _).mono (fun _ h c => ?_) (Cert.AttnOutRefIdeal.Value.run (F := Ideal) m' ρ')
  obtain ⟨h0, h1, h2, h3, hk⟩ := h c
  obtain ⟨a0, a1, a2, a3, a4⟩ := hagree c
  refine ⟨h0.trans ?_, h1.trans ?_, h2.trans ?_, h3.trans ?_, hk⟩
  · rw [Cert.AttnOutRefIdeal.Read.val_main_v27_eq, a0, a1, a2, a3, a4, result_array]
    exact funext fun y => ref_result _ _ _ _ _ y
  · rw [Cert.AttnOutRefIdeal.Read.val_main_v28_eq, a0, a1, a2, a3, a4, rounded_array]
    exact funext fun y => ref_result _ _ _ _ _ y
  · rw [Cert.AttnOutRefIdeal.Read.val_main_v23_eq, a0, a1, a2, xhat_array]
    exact funext fun y => ref_xhat _ _ _ y
  · rw [Cert.AttnOutRefIdeal.Read.val_main_v19_eq, a0, a1, a2, rstd_array]
    exact funext fun y => ref_rstd _ _ _ y

end Cert.Products.AttnOut

end
-- ==== Proof.AttnOutDw.lean ====
/- The gradient of the attention's output weights: one grid point computes it. -/
module

public import proofs.«01_k».proof.Defs
public import proofs.«01_k».proof.Proof.Products
public import proofs.«01_k».proof.Proof.Gen.AttnOutDw.Frame
public import proofs.«01_k».proof.Proof.Gen.AttnOutDwIdeal.Frame
public import proofs.«01_k».proof.Proof.Gen.AttnOutDwIdeal.Value
public import proofs.«01_k».proof.Proof.Gen.AttnOutDwRefIdeal.Run
public import proofs.«01_k».proof.Proof.Gen.AttnOutDwRefIdeal.Read
public import Idealize.ShloMosaic.Lib.Quiescent

@[expose] public section

set_option maxRecDepth 16384

noncomputable section

namespace Cert.Products.AttnOutDw

open Idealize.ShloMosaic Idealize.ShloMosaic.TcCoe Idealize.SL.Sem

section Kernel

open Cert.AttnOutDwIdeal Cert.AttnOutDwIdeal.Gen Cert.AttnOutDwIdeal.Value

variable (m : (ℓ : Loc nD τ sig) → Buf (Elt Ideal) ℓ) (c : Dev nD)

theorem index : ∀ t : Fin cfg0.N, (win0_0.index t 0 = 0 ∧ win0_0.index t 1 = t.val) ∧ (win0_1.index t 0 = 0 ∧ win0_1.index t 1 = 0)
    ∧ (win0_2.index t 0 = 0 ∧ win0_2.index t 1 = t.val ∧ win0_2.index t 2 = 0) :=
  (by decide +kernel : ∀ t : Fin grid0.N, _)

theorem block_lt (t : Fin cfg0.N) : t.val < 1 := t.isLt

/-- The input and the cotangent, as launched. -/
abbrev x : Mat .bf16 2064 1024 := m ((c : Thread nD τ).loc main_arg0)
abbrev ds : Mat .bf16 2064 1024 := m ((c : Thread nD τ).loc main_arg1)

theorem input_block (t : Fin cfg0.N) (k : Fin 2064) (r : Fin 1024) :
    iblk m c 0 t (ix2 k r) = x m c (ix2 k r) := by
  have e := (index t).1
  have := block_lt t
  blk_ext [iblk, V, e.1, e.2]

theorem cotangent_block (t : Fin cfg0.N) (k : Fin 2064) (y : Fin 1024) : iblk m c 1 t (ix2 k y) = ds m c (ix2 k y) := by
  have e := (index t).2.1
  blk_ext [iblk, V, e.1, e.2]

theorem product_apply (a : Mat .bf16 2064 1024) (b : Mat .bf16 2064 1024) (r : Fin 1024) (y : Fin 1024) :
    k0_pay1 (F := Ideal) a b (ix3 0 r y) = ∑ k : Fin 2064, a (ix2 k r) * b (ix2 k y) := by
  unfold k0_pay1
  pointwise

/-- The result array. -/
theorem array : (dats m 0 c).arrAt 2 cfg0.N
    = fun y : S1x1024x1024.Idx => ∑ k : Fin 2064, x m c (ix2 k (y 1)) * ds m c (ix2 k (y 2)) := by
  refine (dats m 0 c).arrAt_eq_of_covers 2 _ (by decide +kernel) fun t hf y => ?_
  have e := (index t).2.2
  have := block_lt t
  obtain ⟨r, y, rfl⟩ := exists_ix3 y
  have ey : (((cfg0.win 2).blk t).view.emb (ix3 0 r y) : S1x1024x1024.Idx) = ix3 0 r y := by
    blk_ext [e.1, e.2.1, e.2.2]
  rw [ey]
  blk_simp
  rw [after0_2, outsAt0]
  frame_out
  refine (product_apply _ _ r y).trans (Finset.sum_congr rfl fun k _ => ?_)
  rw [input_block, cotangent_block]
  rfl

end Kernel

theorem frame_program : Cert.quiescent_AttnOutDw := fun m ρ _ => Cert.AttnOutDw.Gen.frame m ρ
theorem frame_ideal : Cert.quiescent_AttnOutDwIdeal := fun m ρ _ => Cert.AttnOutDwIdeal.Gen.frame m ρ
theorem frame_reference : Cert.quiescent_AttnOutDwRefIdeal := fun m ρ _ =>
  (θ_run Cert.AttnOutDwRefIdeal.defs _ _).mono (fun r h => ⟨fun c => (h c).2,
      Idealize.ShloMosaic.sem_eq_zero_of_no_sems (by decide) r.2⟩)
    (Cert.AttnOutDwRefIdeal.Value.run (F := Ideal) m ρ)

/-- The reference's result is the array the program ends with. -/
theorem same_results : Cert.algebraic_AttnOutDwIdeal_AttnOutDwRefIdeal := by
  intro m ρ m' ρ' _ hagree
  refine ⟨_, Cert.AttnOutDwIdeal.Value.run_blocks (F := Ideal) m ρ, ?_⟩
  refine (θ_run Cert.AttnOutDwRefIdeal.defs _ _).mono (fun _ h c => ?_) (Cert.AttnOutDwRefIdeal.Value.run (F := Ideal) m' ρ')
  obtain ⟨h0, hk⟩ := h c
  obtain ⟨a0, a1⟩ := hagree c
  refine ⟨h0.trans ?_, hk⟩
  rw [Cert.AttnOutDwRefIdeal.Read.val_main_v7_eq, a0, a1, array]
  funext y
  rw [Cert.AttnOutDwRefIdeal.Read.val_main_v7_apply, Cert.AttnOutDwRefIdeal.Read.val_main_v6_apply,
    Cert.AttnOutDwRefIdeal.Read.val_main_v5_apply, Cert.AttnOutDwRefIdeal.Read.val_main_v4_apply]
  refine Finset.sum_congr rfl fun k _ => ?_
  rw [mul_comm (x m c _)]
  exact congrArg₂ (· * ·) (congrArg (ds m c) (ix2_of rfl rfl)) (congrArg (x m c) (ix2_of rfl rfl))

end Cert.Products.AttnOutDw

end
-- ==== Proof.KvWeights.lean ====
/- The keys' and values' weights as their products find them: the shards side by side, filled up with zero columns. -/
module

public import proofs.«01_k».proof.Proof.Products
public import Idealize.ShloMosaic.Lib.Claim
public import Idealize.ShloMosaic.Lib.KernelVsHost
public import Idealize.ShloMosaic.Lib.ValueLayout

@[expose] public section

set_option maxRecDepth 16384

noncomputable section

namespace Cert.Products.Kv

open Idealize.ShloMosaic

/-- Column `y` of the weights: of the shards where there is one, zero past them. -/
def padded (w : Stack .bf16 4 1024 516) (k : Fin 1024) (y : Fin 2304) : EReal := if h : y.val < 2064 then shards w k ⟨y, h⟩ else 0

theorem padded_shard (w : Stack .bf16 4 1024 516) (k : Fin 1024) (y : Fin 2304) (h : y.val < 2064) : padded w k y = shards w k ⟨y, h⟩ := dif_pos h

theorem zero_bf16 (i : (⟨0, ![]⟩ : Shape).Idx) : sitofp (F := Ideal) .bf16 (constantI ⟨0, ![]⟩ 32 0#32) i = 0 := by
  show ((((0#32).toInt : ℝ)) : EReal) = 0
  simp

theorem zero_f32 (i : (⟨0, ![]⟩ : Shape).Idx) : sitofp (F := Ideal) .f32 (constantI ⟨0, ![]⟩ 32 0#32) i = 0 := by
  show ((((0#32).toInt : ℝ)) : EReal) = 0
  simp

/-- Filling the rows of a matrix up with `z`. -/
theorem pad_rows {φ : FTy} {m : ℕ} (a : Mat φ m 2064) (z : (⟨0, ![]⟩ : Shape).Idx → EReal) (hp) (h1) (r : Fin m) (y : Fin 2304) :
    Idealize.ShloMosaic.pad (s := ⟨2, ![m, 2064]⟩) ⟨2, ![m, 2304]⟩ ![0, 0] ![0, 240] ![0, 0] a z hp h1 (ix2 r y)
      = if h : y.val < 2064 then a (ix2 r ⟨y, h⟩) else z ix0 := by
  by_cases h : y.val < 2064
  · rw [dif_pos h, pad_apply_of_inside _ _ _ _ _ _ _ _ (ix2 r ⟨y.val, h⟩) (fun a => by
      fin_cases a
      · show r.val = 0 + r.val * (0 + 1); omega
      · show y.val = 0 + y.val * (0 + 1); omega)]
  · rw [dif_neg h, pad_apply_of_not_inside _ _ _ _ _ _ _ _ 1 (fun ⟨_, _, h3⟩ => h (by
      have : (y.val - 0) / (0 + 1) < 2064 := h3
      omega))]
    exact congrArg z (Subsingleton.elim _ _)

/-- The lines before the launch make the padded weights. -/
theorem padded_entry (w : Stack .bf16 4 1024 516) (hT : (⟨3, ![4, 1024, 516]⟩ : Shape).Transposes [1, 0, 2] ⟨3, ![1024, 4, 516]⟩)
    (hs : (⟨3, ![1024, 4, 516]⟩ : Shape).ShapeCasts ⟨2, ![1024, 2064]⟩) (hp) (h1)
    (hu : (⟨2, ![1024, 2304]⟩ : Shape).ShapeCasts ⟨3, ![1, 1024, 2304]⟩) (k : Fin 1024) (y : Fin 2304) :
    shapeCast ⟨3, ![1, 1024, 2304]⟩ (Idealize.ShloMosaic.pad (s := ⟨2, ![1024, 2064]⟩) ⟨2, ![1024, 2304]⟩ ![0, 0] ![0, 240] ![0, 0]
      (shapeCast ⟨2, ![1024, 2064]⟩ (transpose ⟨3, ![1024, 4, 516]⟩ [1, 0, 2] w hT) hs)
      (sitofp (F := Ideal) .bf16 (constantI ⟨0, ![]⟩ 32 0#32)) hp h1) hu (ix3 0 k y) = padded w k y := by
  refine (shapeCast_apply _ _ _ (ix2 k y) (by
    rw [rowMajor_val2 _ 2304 rfl, rowMajor_val3 _ (1024 * 2304) 2304 (by simp) rfl]; simp)).trans ?_
  refine (pad_rows _ _ _ _ k y).trans ?_
  unfold padded
  by_cases h : y.val < 2064
  · rw [dif_pos h, dif_pos h]
    refine (shapeCast_apply _ _ _ (ix3 k ⟨y.val / 516, by omega⟩ ⟨y.val % 516, by omega⟩) (by
      rw [rowMajor_val2 _ 2064 rfl, rowMajor_val3 _ (4 * 516) 516 (by simp) rfl]
      show k.val * (4 * 516) + (y.val / 516) * 516 + y.val % 516 = k.val * 2064 + y.val
      omega)).trans ?_
    exact transpose_apply _ w hT _ _ fun a => by fin_cases a <;> rfl
  · rw [dif_neg h, dif_neg h]
    exact zero_bf16 _

/-- The zero columns add nothing. -/
theorem sum_padded (a : Mat .bf16 2064 2304) (w : Stack .bf16 4 1024 516) (r : Fin 2064) (y : Fin 1024) :
    ∑ k : Fin 2304, a (ix2 r k) * padded w y k = ∑ k : Fin 2064, a (ix2 r ⟨k, by omega⟩) * shards w y k := by
  refine (Fin.sum_univ_add (a := 2064) (b := 240) fun k => a (ix2 r k) * padded w y k).trans ?_
  refine Eq.trans (congrArg₂ (· + ·) (Finset.sum_congr rfl fun k _ => ?_) (Finset.sum_eq_zero fun k _ => ?_)) (add_zero _)
  · exact congrArg (_ * ·) (dif_pos k.isLt)
  · exact (congrArg (_ * ·) (dif_neg (by show ¬ 2064 + k.val < 2064; omega))).trans (mul_zero _)

end Cert.Products.Kv

end
-- ==== Proof.KvIn.lean ====
/- The keys' and values' product: a row block and half of the padded weights per grid point. -/
module

public import proofs.«01_k».proof.Defs
public import proofs.«01_k».proof.Proof.KvWeights
public import proofs.«01_k».proof.Proof.Gen.KvIn.Frame
public import proofs.«01_k».proof.Proof.Gen.KvInIdeal.Frame
public import proofs.«01_k».proof.Proof.Gen.KvInIdeal.Value
public import proofs.«01_k».proof.Proof.Gen.KvInRefIdeal.Run
public import proofs.«01_k».proof.Proof.Gen.KvInRefIdeal.Read
public import Idealize.ShloMosaic.Lib.Quiescent

@[expose] public section

set_option maxRecDepth 16384

noncomputable section

namespace Cert.Products.KvIn

open Idealize.ShloMosaic Idealize.ShloMosaic.TcCoe Idealize.SL.Sem

section Kernel

open Cert.KvInIdeal Cert.KvInIdeal.Gen Cert.KvInIdeal.Value

variable (m : (ℓ : Loc nD τ sig) → Buf (Elt Ideal) ℓ) (c : Dev nD)

theorem index : ∀ t : Fin cfg0.N, (win0_0.index t 0 = t.val % 3 ∧ win0_0.index t 1 = 0)
    ∧ (win0_1.index t 0 = 0 ∧ win0_1.index t 1 = 0 ∧ win0_1.index t 2 = t.val / 3)
    ∧ (win0_2.index t 0 = t.val % 3 ∧ win0_2.index t 1 = t.val / 3) :=
  (by decide +kernel : ∀ t : Fin grid0.N, _)

theorem block_lt (t : Fin cfg0.N) : t.val < 6 := t.isLt

/-- The rows and the shards of the weights, as launched. -/
abbrev x : Mat .bf16 2064 1024 := m ((c : Thread nD τ).loc main_arg0)
abbrev w : Stack .bf16 4 1024 516 := m ((c : Thread nD τ).loc main_arg1)

theorem row_block (t : Fin cfg0.N) (r : Fin 688) (k : Fin 1024) :
    iblk m c 0 t (ix2 r k) = x m c (ix2 ⟨688 * (t % 3) + r, by omega⟩ k) := by
  have e := (index t).1
  blk_ext [iblk, V, e.1, e.2]

/-- The padded weights are what the launch finds. -/
theorem weights (k : Fin 1024) (y : Fin 2304) : V m c main_v3 (ix3 0 k y) = Kv.padded (w m c) k y := by
  show StableHlo.after [_, _, _, _, _, _] _ _ _ = _
  after_results
  exact Kv.padded_entry (w m c) transposes_S4x1024x516_S1024x4x516_1_0_2 shapeCasts_S1024x4x516_S1024x2064
    pads_S1024x2064_S1024x2304_000_02400 h_S_ shapeCasts_S1024x2304_S1x1024x2304 k y

theorem weight_block (t : Fin cfg0.N) (k : Fin 1024) (y : Fin 1152) :
    iblk m c 1 t (ix3 0 k y) = Kv.padded (w m c) k ⟨1152 * (t / 3) + y, by have := block_lt t; omega⟩ := by
  have e := (index t).2.1
  have := block_lt t
  refine Eq.trans ?_ (weights m c k ⟨1152 * (t / 3) + y, by omega⟩)
  blk_ext [iblk, e.1, e.2.1, e.2.2]

theorem product_apply (a : Mat .bf16 688 1024) (b : Stack .bf16 1 1024 1152) (r : Fin 688) (y : Fin 1152) :
    out0_2 (F := Ideal) a b (ix2 r y) = ∑ k : Fin 1024, a (ix2 r k) * b (ix3 0 k y) := by
  unfold out0_2
  frame_out
  unfold k0_pay1
  pointwise

/-- The result array. -/
theorem array : (dats m 0 c).arrAt 2 cfg0.N
    = fun y : S2064x2304.Idx => ∑ k : Fin 1024, x m c (ix2 (y 0) k) * Kv.padded (w m c) k (y 1) := by
  refine (dats m 0 c).arrAt_eq_of_covers 2 _ (by decide +kernel) fun t hf y => ?_
  have e := (index t).2.2
  have := block_lt t
  obtain ⟨r, y, rfl⟩ : ∃ (r : Fin 688) (x : Fin 1152), y = ix2 r x := ⟨y 0, y 1, funext fun a => by fin_cases a <;> rfl⟩
  have ey : (((cfg0.win 2).blk t).view.emb (ix2 r y) : S2064x2304.Idx) = ix2 ⟨688 * (t % 3) + r, by omega⟩ ⟨1152 * (t / 3) + y, by omega⟩ := by
    blk_ext [e.1, e.2]
  rw [ey]
  blk_simp
  rw [after0_2]
  refine (product_apply _ _ r y).trans (Finset.sum_congr rfl fun k _ => ?_)
  rw [row_block, weight_block]
  rfl

end Kernel

theorem frame_program : Cert.quiescent_KvIn := fun m ρ _ => Cert.KvIn.Gen.frame m ρ
theorem frame_ideal : Cert.quiescent_KvInIdeal := fun m ρ _ => Cert.KvInIdeal.Gen.frame m ρ
theorem frame_reference : Cert.quiescent_KvInRefIdeal := fun m ρ _ =>
  (θ_run Cert.KvInRefIdeal.defs _ _).mono (fun r h => ⟨fun c => (h c).2,
      Idealize.ShloMosaic.sem_eq_zero_of_no_sems (by decide) r.2⟩)
    (Cert.KvInRefIdeal.Value.run (F := Ideal) m ρ)

/-- The reference's result is the array the program ends with. -/
theorem same_results : Cert.algebraic_KvInIdeal_KvInRefIdeal := by
  intro m ρ m' ρ' _ hagree
  refine ⟨_, Cert.KvInIdeal.Value.run_blocks (F := Ideal) m ρ, ?_⟩
  refine (θ_run Cert.KvInRefIdeal.defs _ _).mono (fun _ h c => ?_) (Cert.KvInRefIdeal.Value.run (F := Ideal) m' ρ')
  obtain ⟨h0, hk⟩ := h c
  obtain ⟨a0, a1⟩ := hagree c
  refine ⟨h0.trans ?_, hk⟩
  rw [Cert.KvInRefIdeal.Read.val_main_v5_eq, a0, a1, array]
  funext y
  obtain ⟨r, y, rfl⟩ : ∃ (r : Fin 2064) (x : Fin 2304), y = ix2 r x := ⟨y 0, y 1, funext fun a => by fin_cases a <;> rfl⟩
  refine (Kv.pad_rows _ _ _ _ r y).trans ?_
  by_cases h : y.val < 2064
  · rw [dif_pos h]
    refine (Cert.KvInRefIdeal.Read.val_main_v4_apply _ _ _).trans (Finset.sum_congr rfl fun k _ => ?_)
    rw [Cert.KvInRefIdeal.Read.val_main_v3_apply, Cert.KvInRefIdeal.Read.val_main_v2_apply]
    refine congrArg₂ (· * ·) (congrArg (x m c) (ix2_of rfl rfl)) ((congrArg (w m c) (ix3_of ?_ ?_ ?_)).trans (Kv.padded_shard (w m c) k y h).symm)
    · show (k.val * 2064 + y.val) / 516 % 4 = y.val / 516
      omega
    · show (k.val * 2064 + y.val) / 2064 = k.val
      omega
    · show (k.val * 2064 + y.val) % 516 = y.val % 516
      omega
  · rw [dif_neg h]
    refine (Kv.zero_f32 _).trans (Finset.sum_eq_zero fun k _ => ?_).symm
    show _ * Kv.padded (w m c) k y = 0
    rw [Kv.padded, dif_neg h, mul_zero]

end Cert.Products.KvIn

end
-- ==== Proof.KvInDx.lean ====
/- The gradient that the keys' and values' product hands to its rows: two grid points add up a row block, half of the padded
   weights each. -/
module

public import proofs.«01_k».proof.Defs
public import proofs.«01_k».proof.Proof.KvWeights
public import proofs.«01_k».proof.Proof.ShardSums
public import proofs.«01_k».proof.Proof.Gen.KvInDx.Frame
public import proofs.«01_k».proof.Proof.Gen.KvInDxIdeal.Frame
public import proofs.«01_k».proof.Proof.Gen.KvInDxIdeal.Value
public import proofs.«01_k».proof.Proof.Gen.KvInDxRefIdeal.Run
public import proofs.«01_k».proof.Proof.Gen.KvInDxRefIdeal.Read
public import Idealize.ShloMosaic.Lib.Quiescent

@[expose] public section

set_option maxRecDepth 16384

noncomputable section

namespace Cert.Products.KvInDx

open Idealize.ShloMosaic Idealize.ShloMosaic.TcCoe Idealize.SL.Sem

section Kernel

open Cert.KvInDxIdeal Cert.KvInDxIdeal.Gen Cert.KvInDxIdeal.Value

variable (m : (ℓ : Loc nD τ sig) → Buf (Elt Ideal) ℓ) (c : Dev nD)

theorem index : ∀ t : Fin cfg0.N, (win0_0.index t 0 = t.val / 2 ∧ win0_0.index t 1 = t.val % 2)
    ∧ (win0_1.index t 0 = 0 ∧ win0_1.index t 1 = 0 ∧ win0_1.index t 2 = t.val % 2)
    ∧ (win0_2.index t 0 = t.val / 2 ∧ win0_2.index t 1 = 0) :=
  (by decide +kernel : ∀ t : Fin grid0.N, _)

theorem block_lt (t : Fin cfg0.N) : t.val < 6 := t.isLt

/-- The cotangent and the shards of the weights, as launched. -/
abbrev dz : Mat .bf16 2064 2304 := m ((c : Thread nD τ).loc main_arg0)
abbrev w : Stack .bf16 4 1024 516 := m ((c : Thread nD τ).loc main_arg1)

theorem cotangent_block (t : Fin cfg0.N) (r : Fin 688) (k : Fin 1152) :
    iblk m c 0 t (ix2 r k) = dz m c (ix2 (rowAt (s := 2) t r) (colAt (s := 2) t k)) := by
  have e := (index t).1
  have := block_lt t
  blk_ext [iblk, V, rowAt, colAt, e.1, e.2]

/-- The padded weights are what the launch finds. -/
theorem weights (y : Fin 1024) (k : Fin 2304) : V m c main_v3 (ix3 0 y k) = Kv.padded (w m c) y k := by
  show StableHlo.after [_, _, _, _, _, _] _ _ _ = _
  after_results
  exact Kv.padded_entry (w m c) transposes_S4x1024x516_S1024x4x516_1_0_2 shapeCasts_S1024x4x516_S1024x2064
    pads_S1024x2064_S1024x2304_000_02400 h_S_ shapeCasts_S1024x2304_S1x1024x2304 y k

theorem weight_block (t : Fin cfg0.N) (y : Fin 1024) (k : Fin 1152) : iblk m c 1 t (ix3 0 y k) = Kv.padded (w m c) y (colAt (s := 2) t k) := by
  have e := (index t).2.1
  refine Eq.trans ?_ (weights m c y (colAt (s := 2) t k))
  blk_ext [iblk, colAt, e.1, e.2.1, e.2.2]

theorem step_apply (acc : Mat .f32 688 1024) (a : Mat .bf16 688 1152) (b : Stack .bf16 1 1024 1152) (r : Fin 688) (y : Fin 1024) :
    k0_pay2 (F := Ideal) acc a b (ix2 r y) = acc (ix2 r y) + dot a b r y := by
  unfold k0_pay2 dot
  pointwise

theorem start_apply (y : S688x1024.Idx) : k0_pay1 (F := Ideal) y = 0 := by
  unfold k0_pay1
  pointwise

/-- Two points add up a row block. -/
theorem sums : Sums (s := 2) (n := 1152) (fun r k => dz m c (ix2 r k)) (Kv.padded (w m c)) (outsAt0 m c) where
  first t h r y := by
    rw [outsAt0_A m c t h]
    frame_out
    refine (step_apply _ _ _ r y).trans ?_
    rw [start_apply]
    exact congrArg (0 + ·) (dot_eq (s := 2) _ _ (cotangent_block m c t) (weight_block m c t) r y)
  next t h r y := by
    rw [outsAt0_B m c t h]
    frame_out
    exact (step_apply _ _ _ r y).trans (congrArg (_ + ·) (dot_eq (s := 2) _ _ (cotangent_block m c t) (weight_block m c t) r y))

/-- The result array. -/
theorem array : (dats m 0 c).arrAt 2 cfg0.N
    = fun y : S2064x1024.Idx => ∑ k : Fin 2304, dz m c (ix2 (y 0) k) * Kv.padded (w m c) (y 1) k := by
  refine (dats m 0 c).arrAt_eq_of_covers 2 _ (by decide +kernel) fun t hf y => ?_
  have e := (index t).2.2
  have := block_lt t
  obtain ⟨r, y, rfl⟩ := exists_ix2 y
  rw [show (((cfg0.win 2).blk t).view.emb (ix2 r y) : S2064x1024.Idx) = ix2 (rowAt (s := 2) t r) y by blk_ext [rowAt, e.1, e.2]]
  blk_simp
  rw [after0_2]
  exact (sums m c).point t ((flush0_2 t).mp hf) r y

end Kernel

theorem frame_program : Cert.quiescent_KvInDx := fun m ρ _ => Cert.KvInDx.Gen.frame m ρ
theorem frame_ideal : Cert.quiescent_KvInDxIdeal := fun m ρ _ => Cert.KvInDxIdeal.Gen.frame m ρ
theorem frame_reference : Cert.quiescent_KvInDxRefIdeal := fun m ρ _ =>
  (θ_run Cert.KvInDxRefIdeal.defs _ _).mono (fun r h => ⟨fun c => (h c).2,
      Idealize.ShloMosaic.sem_eq_zero_of_no_sems (by decide) r.2⟩)
    (Cert.KvInDxRefIdeal.Value.run (F := Ideal) m ρ)

/-- The reference's result is the array the program ends with. -/
theorem same_results : Cert.algebraic_KvInDxIdeal_KvInDxRefIdeal := by
  intro m ρ m' ρ' _ hagree
  refine ⟨_, Cert.KvInDxIdeal.Value.run_blocks (F := Ideal) m ρ, ?_⟩
  refine (θ_run Cert.KvInDxRefIdeal.defs _ _).mono (fun _ h c => ?_) (Cert.KvInDxRefIdeal.Value.run (F := Ideal) m' ρ')
  obtain ⟨h0, hk⟩ := h c
  obtain ⟨a0, a1⟩ := hagree c
  refine ⟨h0.trans ?_, hk⟩
  rw [Cert.KvInDxRefIdeal.Read.val_main_v7_eq, a0, a1, array]
  funext y
  rw [Cert.KvInDxRefIdeal.Read.val_main_v7_apply]
  refine Eq.trans (Finset.sum_congr rfl fun k _ => ?_) (Kv.sum_padded (dz m c) (w m c) (y 0) (y 1)).symm
  rw [Cert.KvInDxRefIdeal.Read.val_main_v6_apply, Cert.KvInDxRefIdeal.Read.val_main_v0_apply,
    Cert.KvInDxRefIdeal.Read.val_main_v4_apply, Cert.KvInDxRefIdeal.Read.val_main_v3_apply]
  exact congrArg₂ (· * ·) (congrArg (dz m c) (ix2_of rfl rfl)) (shards_of (w m c) rfl rfl rfl)

end Cert.Products.KvInDx

end
-- ==== Proof.KvInDw.lean ====
/- The gradient of the keys' and values' weights: half of its columns per grid point. -/
module

public import proofs.«01_k».proof.Defs
public import proofs.«01_k».proof.Proof.Products
public import proofs.«01_k».proof.Proof.Gen.KvInDw.Frame
public import proofs.«01_k».proof.Proof.Gen.KvInDwIdeal.Frame
public import proofs.«01_k».proof.Proof.Gen.KvInDwIdeal.Value
public import proofs.«01_k».proof.Proof.Gen.KvInDwRefIdeal.Run
public import proofs.«01_k».proof.Proof.Gen.KvInDwRefIdeal.Read
public import Idealize.ShloMosaic.Lib.Quiescent

@[expose] public section

set_option maxRecDepth 16384

noncomputable section

namespace Cert.Products.KvInDw

open Idealize.ShloMosaic Idealize.ShloMosaic.TcCoe Idealize.SL.Sem

section Kernel

open Cert.KvInDwIdeal Cert.KvInDwIdeal.Gen Cert.KvInDwIdeal.Value

variable (m : (ℓ : Loc nD τ sig) → Buf (Elt Ideal) ℓ) (c : Dev nD)

theorem index : ∀ t : Fin cfg0.N, (win0_0.index t 0 = 0 ∧ win0_0.index t 1 = 0) ∧ (win0_1.index t 0 = 0 ∧ win0_1.index t 1 = t.val)
    ∧ (win0_2.index t 0 = 0 ∧ win0_2.index t 1 = 0 ∧ win0_2.index t 2 = t.val) :=
  (by decide +kernel : ∀ t : Fin grid0.N, _)

theorem block_lt (t : Fin cfg0.N) : t.val < 2 := t.isLt

/-- The input and the cotangent, as launched. -/
abbrev x : Mat .bf16 2064 1024 := m ((c : Thread nD τ).loc main_arg0)
abbrev ds : Mat .bf16 2064 2304 := m ((c : Thread nD τ).loc main_arg1)

theorem input_block (t : Fin cfg0.N) (k : Fin 2064) (r : Fin 1024) :
    iblk m c 0 t (ix2 k r) = x m c (ix2 k r) := by
  have e := (index t).1
  have := block_lt t
  blk_ext [iblk, V, e.1, e.2]

theorem cotangent_block (t : Fin cfg0.N) (k : Fin 2064) (y : Fin 1152) : iblk m c 1 t (ix2 k y) = ds m c (ix2 k ⟨1152 * t + y, by have := block_lt t; omega⟩) := by
  have e := (index t).2.1
  blk_ext [iblk, V, e.1, e.2]

theorem product_apply (a : Mat .bf16 2064 1024) (b : Mat .bf16 2064 1152) (r : Fin 1024) (y : Fin 1152) :
    k0_pay1 (F := Ideal) a b (ix3 0 r y) = ∑ k : Fin 2064, a (ix2 k r) * b (ix2 k y) := by
  unfold k0_pay1
  pointwise

/-- The result array. -/
theorem array : (dats m 0 c).arrAt 2 cfg0.N
    = fun y : S1x1024x2304.Idx => ∑ k : Fin 2064, x m c (ix2 k (y 1)) * ds m c (ix2 k (y 2)) := by
  refine (dats m 0 c).arrAt_eq_of_covers 2 _ (by decide +kernel) fun t hf y => ?_
  have e := (index t).2.2
  have := block_lt t
  obtain ⟨r, y, rfl⟩ := exists_ix3 y
  have ey : (((cfg0.win 2).blk t).view.emb (ix3 0 r y) : S1x1024x2304.Idx) = ix3 0 r ⟨1152 * t + y, by omega⟩ := by
    blk_ext [e.1, e.2.1, e.2.2]
  rw [ey]
  blk_simp
  rw [after0_2, outsAt0]
  frame_out
  refine (product_apply _ _ r y).trans (Finset.sum_congr rfl fun k _ => ?_)
  rw [input_block, cotangent_block]
  rfl

end Kernel

theorem frame_program : Cert.quiescent_KvInDw := fun m ρ _ => Cert.KvInDw.Gen.frame m ρ
theorem frame_ideal : Cert.quiescent_KvInDwIdeal := fun m ρ _ => Cert.KvInDwIdeal.Gen.frame m ρ
theorem frame_reference : Cert.quiescent_KvInDwRefIdeal := fun m ρ _ =>
  (θ_run Cert.KvInDwRefIdeal.defs _ _).mono (fun r h => ⟨fun c => (h c).2,
      Idealize.ShloMosaic.sem_eq_zero_of_no_sems (by decide) r.2⟩)
    (Cert.KvInDwRefIdeal.Value.run (F := Ideal) m ρ)

/-- The reference's result is the array the program ends with. -/
theorem same_results : Cert.algebraic_KvInDwIdeal_KvInDwRefIdeal := by
  intro m ρ m' ρ' _ hagree
  refine ⟨_, Cert.KvInDwIdeal.Value.run_blocks (F := Ideal) m ρ, ?_⟩
  refine (θ_run Cert.KvInDwRefIdeal.defs _ _).mono (fun _ h c => ?_) (Cert.KvInDwRefIdeal.Value.run (F := Ideal) m' ρ')
  obtain ⟨h0, hk⟩ := h c
  obtain ⟨a0, a1⟩ := hagree c
  refine ⟨h0.trans ?_, hk⟩
  rw [Cert.KvInDwRefIdeal.Read.val_main_v7_eq, a0, a1, array]
  funext y
  rw [Cert.KvInDwRefIdeal.Read.val_main_v7_apply, Cert.KvInDwRefIdeal.Read.val_main_v6_apply,
    Cert.KvInDwRefIdeal.Read.val_main_v5_apply, Cert.KvInDwRefIdeal.Read.val_main_v4_apply]
  refine Finset.sum_congr rfl fun k _ => ?_
  rw [mul_comm (x m c _)]
  exact congrArg₂ (· * ·) (congrArg (ds m c) (ix2_of rfl rfl)) (congrArg (x m c) (ix2_of rfl rfl))

end Cert.Products.KvInDw

end
-- ==== Proof.FfnBack.lean ====
/- The gradient through the layer normalisation behind a feed-forward block: a row block per grid point, and the gradients of
   the scale and the shift added up over the points. -/
module

public import proofs.«01_k».proof.Defs
public import proofs.«01_k».proof.Proof.Operands
public import proofs.«01_k».proof.Proof.NormRef
public import proofs.«01_k».proof.Proof.Gen.Pre_finite_rows
public import proofs.«01_k».proof.Proof.Gen.FfnBack.Frame
public import proofs.«01_k».proof.Proof.Gen.FfnBackIdeal.Frame
public import proofs.«01_k».proof.Proof.Gen.FfnBackIdeal.Value
public import proofs.«01_k».proof.Proof.Gen.FfnBackRefIdeal.Run
public import proofs.«01_k».proof.Proof.Gen.FfnBackRefIdeal.Read
public import Idealize.ShloMosaic.Lib.Quiescent

@[expose] public section

set_option maxRecDepth 16384

noncomputable section

namespace Cert.Products.FfnBack

open Idealize.ShloMosaic Idealize.ShloMosaic.TcCoe Idealize.SL.Sem Cert.Products.Norm

section Kernel

open Cert.FfnBackIdeal Cert.FfnBackIdeal.Gen Cert.FfnBackIdeal.Value

variable (m : (ℓ : Loc nD τ sig) → Buf (Elt Ideal) ℓ) (c : Dev nD)

theorem index : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0)
    ∧ (win0_5.index t 0 = t.val ∧ win0_5.index t 1 = 0) ∧ (win0_6.index t 0 = t.val ∧ win0_6.index t 1 = 0)
    ∧ (win0_7.index t 0 = 0 ∧ win0_7.index t 1 = 0) ∧ (win0_8.index t 0 = 0 ∧ win0_8.index t 1 = 0) :=
  (by decide +kernel : ∀ t : Fin grid0.N, _)

theorem block_lt (t : Fin cfg0.N) : t.val < 3 := t.isLt

/-- The gradient of the residual stream, of the branch, the rows that were normalised, and the scale, as launched. -/
abbrev ds : Mat .f32 2064 1024 := m ((c : Thread nD τ).loc main_arg0)
abbrev dh : Mat .f32 2064 1024 := m ((c : Thread nD τ).loc main_arg1)
abbrev s : Mat .f32 2064 1024 := m ((c : Thread nD τ).loc main_arg2)
abbrev g : Mat .f32 1 1024 := m ((c : Thread nD τ).loc main_arg3)

/-- The host normalises the rows as the reference does. -/
theorem host_xhat (r : Fin 2064) (y : Fin 1024) : V m c main_v17 (ix2 r y) = xhat (row (s m c) r) y := by
  refine Eq.trans (congrFun ?_ (ix2 r y)) (NormRef.xhat_at (s m c) (ix2 r y))
  show StableHlo.after hostOps0 _ _ = _
  after_results
  rfl

theorem host_rstd (r : Fin 2064) : V m c main_v13 (ix2 r 0) = rstd (row (s m c) r) := by
  refine Eq.trans (congrFun ?_ (ix2 r 0)) (NormRef.rstd_at (s m c) (ix2 r 0))
  show StableHlo.after hostOps0 _ _ = _
  after_results
  rfl

theorem blocks (t : Fin cfg0.N) : Blocks (ds m c) (dh m c) (s m c) (g m c) t (iblk m c 0 t) (iblk m c 1 t) (iblk m c 2 t) (iblk m c 4 t) (iblk m c 3 t) where
  stream r y := by
    have e := (index t).1
    have := block_lt t
    blk_ext [iblk, V, e.1, e.2]
  branch r y := by
    have e := (index t).2.1
    have := block_lt t
    blk_ext [iblk, V, e.1, e.2]
  xhat r y := by
    have e := (index t).2.2.1
    have := block_lt t
    refine Eq.trans ?_ (host_xhat m c (at_ t r) y)
    blk_ext [iblk, e.1, e.2]
  rstd r := by
    have e := (index t).2.2.2.1
    have := block_lt t
    refine Eq.trans ?_ (host_rstd m c (at_ t r))
    blk_ext [iblk, e.1, e.2]
  scale y := by
    have e := (index t).2.2.2.2.1
    blk_ext [iblk, V, e.1, e.2]

/-- The grid's points run over the blocks. -/
theorem run : Run (ds m c) (dh m c) (s m c) (g m c) (outsAt0 m c) (iblk m c 0) (iblk m c 1) (iblk m c 2) (iblk m c 4) (iblk m c 3) where
  blocks := blocks m c
  first t h := by
    refine (outsAt0_A m c t h).trans ?_
    frame_out
    rfl
  next t h := by
    refine (outsAt0_B m c t h).trans ?_
    frame_out
    rfl

/-- The rows' gradient. -/
theorem back_array : (dats m 0 c).arrAt 5 cfg0.N = fun y : S2064x1024.Idx => whole (ds m c) (dh m c) (s m c) (g m c) (y 0) (y 1) := by
  refine (dats m 0 c).arrAt_eq_of_covers 5 _ (by decide +kernel) fun t hf y => ?_
  have e := (index t).2.2.2.2.2.1
  have := block_lt t
  obtain ⟨r, y, rfl⟩ := exists_ix2 y
  rw [show (((cfg0.win 5).blk t).view.emb (ix2 r y) : S2064x1024.Idx) = ix2 (at_ t r) y by blk_ext [e.1, e.2]]
  blk_simp
  rw [after0_5]
  exact (run m c).back_point t r y

/-- The rows' gradient in the narrower format. -/
theorem rounded_array : (dats m 0 c).arrAt 6 cfg0.N = fun y : S2064x1024.Idx => whole (ds m c) (dh m c) (s m c) (g m c) (y 0) (y 1) := by
  refine (dats m 0 c).arrAt_eq_of_covers 6 _ (by decide +kernel) fun t hf y => ?_
  have e := (index t).2.2.2.2.2.2.1
  have := block_lt t
  obtain ⟨r, y, rfl⟩ := exists_ix2 y
  rw [show (((cfg0.win 6).blk t).view.emb (ix2 r y) : S2064x1024.Idx) = ix2 (at_ t r) y by blk_ext [e.1, e.2]]
  blk_simp
  rw [after0_6]
  exact (run m c).rounded_point t r y

/-- The scale's gradient. -/
theorem scale_array : (dats m 0 c).arrAt 7 cfg0.N = fun y : S1x1024.Idx => ∑ r : Fin 2064, outer (ds m c) (dh m c) r (y 1) * xhat (row (s m c) r) (y 1) := by
  refine (dats m 0 c).arrAt_eq_of_covers 7 _ (by decide +kernel) fun t hf y => ?_
  have e := (index t).2.2.2.2.2.2.2.1
  obtain ⟨y, rfl⟩ := line y
  rw [show (((cfg0.win 7).blk t).view.emb (ix2 0 y) : S1x1024.Idx) = ix2 0 y by blk_ext [e.1, e.2]]
  blk_simp
  rw [after0_7]
  exact (run m c).scale_point t ((flush0_7 t).mp hf) y

/-- The shift's gradient. -/
theorem shift_array : (dats m 0 c).arrAt 8 cfg0.N = fun y : S1x1024.Idx => ∑ r : Fin 2064, outer (ds m c) (dh m c) r (y 1) := by
  refine (dats m 0 c).arrAt_eq_of_covers 8 _ (by decide +kernel) fun t hf y => ?_
  have e := (index t).2.2.2.2.2.2.2.2
  obtain ⟨y, rfl⟩ := line y
  rw [show (((cfg0.win 8).blk t).view.emb (ix2 0 y) : S1x1024.Idx) = ix2 0 y by blk_ext [e.1, e.2]]
  blk_simp
  rw [after0_8]
  exact (run m c).shift_point t ((flush0_8 t).mp hf) y

/-- With finite gradients and a finite scale the reference's chain rule is what the program leaves. -/
theorem chain_array (h : Cert.Pre_FfnBackIdeal_finite_rows m) : Cert.FfnBackRefIdeal.Read.val_main_v61 (F := Ideal) (ds m c) (dh m c) (s m c) (g m c)
    = fun y : S2064x1024.Idx => whole (ds m c) (dh m c) (s m c) (g m c) (y 0) (y 1) :=
  NormRef.chain_whole (fun i => Cert.Attn.real_of_abs (congrFun (h c).1 i)) (fun i => Cert.Attn.real_of_abs (congrFun (h c).2.1 i))
    (fun i => Cert.Attn.real_of_abs (congrFun (h c).2.2 i))

end Kernel

theorem frame_program : Cert.quiescent_FfnBack := fun m ρ _ => Cert.FfnBack.Gen.frame m ρ
theorem frame_ideal : Cert.quiescent_FfnBackIdeal := fun m ρ _ => Cert.FfnBackIdeal.Gen.frame m ρ
theorem frame_reference : Cert.quiescent_FfnBackRefIdeal := fun m ρ _ =>
  (θ_run Cert.FfnBackRefIdeal.defs _ _).mono (fun r h => ⟨fun c => (h c).2.2.2.2,
      Idealize.ShloMosaic.sem_eq_zero_of_no_sems (by decide) r.2⟩)
    (Cert.FfnBackRefIdeal.Value.run (F := Ideal) m ρ)
theorem frame_ideal_finite : Cert.quiescent_FfnBackIdeal_pre_finite_rows := fun m ρ _ => Cert.FfnBackIdeal.Gen.frame m ρ
theorem frame_reference_finite : Cert.quiescent_FfnBackRefIdeal_pre_finite_rows := fun m ρ _ => frame_reference m ρ trivial

/-- The reference's results are the arrays the program ends with. -/
theorem same_results : Cert.algebraic_FfnBackIdeal_FfnBackRefIdeal_pre_finite_rows := by
  intro m ρ m' ρ' hpre hagree
  refine ⟨_, _, _, _, Cert.FfnBackIdeal.Value.run_blocks (F := Ideal) m ρ, ?_⟩
  refine (θ_run Cert.FfnBackRefIdeal.defs _ _).mono (fun _ h c => ?_) (Cert.FfnBackRefIdeal.Value.run (F := Ideal) m' ρ')
  obtain ⟨h0, h1, h2, h3, hk⟩ := h c
  obtain ⟨a0, a1, a2, a3⟩ := hagree c
  refine ⟨h0.trans ?_, h1.trans ?_, h2.trans ?_, h3.trans ?_, hk⟩
  · rw [Cert.FfnBackRefIdeal.Read.val_main_v61_eq, a0, a1, a2, a3, back_array]
    exact chain_array m c hpre
  · rw [Cert.FfnBackRefIdeal.Read.val_main_v62_eq, a0, a1, a2, a3, rounded_array]
    exact chain_array m c hpre
  · rw [Cert.FfnBackRefIdeal.Read.val_main_v35_eq, a0, a1, a2, scale_array]
    exact funext fun y => NormRef.scale_at _ _ _ y
  · rw [Cert.FfnBackRefIdeal.Read.val_main_v32_eq, a0, a1, shift_array]
    exact funext fun y => NormRef.shift_at _ _ y

end Cert.Products.FfnBack

end
-- ==== Proof.LruBack.lean ====
/- The gradient through the layer normalisation behind a block's recurrence, and through the product in front of it:
   a row block per grid point, and the gradients of the scale and the shift added up over the points. -/
module

public import proofs.«01_k».proof.Defs
public import proofs.«01_k».proof.Proof.Operands
public import proofs.«01_k».proof.Proof.NormRef
public import proofs.«01_k».proof.Proof.Gen.Pre_finite_lru_rows
public import proofs.«01_k».proof.Proof.Gen.LruBack.Frame
public import proofs.«01_k».proof.Proof.Gen.LruBackIdeal.Frame
public import proofs.«01_k».proof.Proof.Gen.LruBackIdeal.Value
public import proofs.«01_k».proof.Proof.Gen.LruBackRefIdeal.Run
public import proofs.«01_k».proof.Proof.Gen.LruBackRefIdeal.Read
public import Idealize.ShloMosaic.Lib.Quiescent

@[expose] public section

set_option maxRecDepth 16384

noncomputable section

namespace Cert.Products.LruBack

open Idealize.ShloMosaic Idealize.ShloMosaic.TcCoe Idealize.SL.Sem Cert.Products.Norm

section Kernel

open Cert.LruBackIdeal Cert.LruBackIdeal.Gen Cert.LruBackIdeal.Value

variable (m : (ℓ : Loc nD τ sig) → Buf (Elt Ideal) ℓ) (c : Dev nD)

/-- The windows that walk down the rows, and those that stay. -/
theorem walks : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_6.index t 0 = t.val ∧ win0_6.index t 1 = 0) ∧ (win0_7.index t 0 = t.val ∧ win0_7.index t 1 = 0)
    ∧ (win0_10.index t 0 = t.val ∧ win0_10.index t 1 = 0) :=
  (by decide +kernel : ∀ t : Fin grid0.N, _)
theorem stays : ∀ t : Fin cfg0.N, (win0_4.index t 0 = 0 ∧ win0_4.index t 1 = 0) ∧ (win0_5.index t 0 = 0 ∧ win0_5.index t 1 = 0)
    ∧ (win0_8.index t 0 = 0 ∧ win0_8.index t 1 = 0) ∧ (win0_9.index t 0 = 0 ∧ win0_9.index t 1 = 0) :=
  (by decide +kernel : ∀ t : Fin grid0.N, _)

/-- The gradient of the residual stream, of the branch, the rows that were normalised, the scale, and the weights, as launched. -/
abbrev ds : Mat .f32 2064 1024 := m ((c : Thread nD τ).loc main_arg0)
abbrev dh : Mat .f32 2064 1024 := m ((c : Thread nD τ).loc main_arg1)
abbrev s : Mat .f32 2064 1024 := m ((c : Thread nD τ).loc main_arg2)
abbrev g : Mat .f32 1 1024 := m ((c : Thread nD τ).loc main_arg3)
abbrev w : Mat .bf16 1536 1024 := m ((c : Thread nD τ).loc main_arg4)

/-- The host normalises the rows as the reference does. -/
theorem host_xhat : V m c main_v17 = Cert.FfnBackRefIdeal.Read.val_main_v26 (F := Ideal) (s m c) := by
  show StableHlo.after hostOps0 _ _ = _
  after_results
  rfl

theorem host_rstd : V m c main_v13 = Cert.FfnBackRefIdeal.Read.val_main_v19 (F := Ideal) (s m c) := by
  show StableHlo.after hostOps0 _ _ = _
  after_results
  rfl

theorem blocks (t : Fin cfg0.N) : Blocks (ds m c) (dh m c) (s m c) (g m c) t (iblk m c 0 t) (iblk m c 1 t) (iblk m c 2 t) (iblk m c 4 t) (iblk m c 3 t) where
  stream r y := by blk_ext [iblk, V, (walks t).1.1, (walks t).1.2]
  branch r y := by blk_ext [iblk, V, (walks t).2.1.1, (walks t).2.1.2]
  xhat r y := by
    refine Eq.trans ?_ ((congrFun (host_xhat m c) (ix2 (at_ t r) y)).trans (NormRef.xhat_at _ _))
    blk_ext [iblk, (walks t).2.2.1.1, (walks t).2.2.1.2]
  rstd r := by
    refine Eq.trans ?_ ((congrFun (host_rstd m c) (ix2 (at_ t r) 0)).trans (NormRef.rstd_at _ _))
    blk_ext [iblk, (walks t).2.2.2.1.1, (walks t).2.2.2.1.2]
  scale y := by blk_ext [iblk, V, (stays t).1.1, (stays t).1.2]

theorem weight_block (t : Fin cfg0.N) (z : Fin 1536) (k : Fin 1024) : iblk m c 5 t (ix2 z k) = w m c (ix2 z k) := by
  blk_ext [iblk, V, (stays t).2.1.1, (stays t).2.1.2]

/-- The grid's points run over the blocks. -/
theorem run : Run (ds m c) (dh m c) (s m c) (g m c) (fun n h => have o := outsAt0 m c n h; (o.1, o.2.1, o.2.2.1, o.2.2.2.1))
    (iblk m c 0) (iblk m c 1) (iblk m c 2) (iblk m c 4) (iblk m c 3) where
  blocks := blocks m c
  first t h := by
    rw [outsAt0_A m c t h]
    frame_out
    rfl
  next t h := by
    rw [outsAt0_B m c t h]
    frame_out
    rfl

/-- At every point the product is of the rows' gradient in the narrower format. -/
theorem mixed_point (t : Fin cfg0.N) (r : Fin 688) (z : Fin 1536) :
    (outsAt0 m c t.val t.isLt).2.2.2.2 (ix2 r z) = mixed (ds m c) (dh m c) (s m c) (g m c) (w m c) (at_ t r) z := by
  refine Eq.trans ?_ ((blocks m c t).mixed_eq (weight_block m c t) r z)
  by_cases h : t.val % 3 = 0
  · rw [outsAt0_A m c t h]
    frame_out
    unfold k0_pay3
    pointwise
    rfl
  · rw [outsAt0_B m c t h]
    frame_out
    unfold k0_pay3
    pointwise
    rfl

/-- The rows' gradient, and that in the narrower format. -/
theorem back_array : (dats m 0 c).arrAt 6 cfg0.N = fun y : S2064x1024.Idx => whole (ds m c) (dh m c) (s m c) (g m c) (y 0) (y 1) := by
  refine (dats m 0 c).arrAt_eq_of_covers 6 _ (by decide +kernel) fun t hf y => ?_
  obtain ⟨r, y, rfl⟩ := exists_ix2 y
  rw [show (((cfg0.win 6).blk t).view.emb (ix2 r y) : S2064x1024.Idx) = ix2 (at_ t r) y by
    blk_ext [(walks t).2.2.2.2.1.1, (walks t).2.2.2.2.1.2]]
  blk_simp
  rw [after0_6]
  exact (run m c).back_point t r y

theorem rounded_array : (dats m 0 c).arrAt 7 cfg0.N = fun y : S2064x1024.Idx => whole (ds m c) (dh m c) (s m c) (g m c) (y 0) (y 1) := by
  refine (dats m 0 c).arrAt_eq_of_covers 7 _ (by decide +kernel) fun t hf y => ?_
  obtain ⟨r, y, rfl⟩ := exists_ix2 y
  rw [show (((cfg0.win 7).blk t).view.emb (ix2 r y) : S2064x1024.Idx) = ix2 (at_ t r) y by
    blk_ext [(walks t).2.2.2.2.2.1.1, (walks t).2.2.2.2.2.1.2]]
  blk_simp
  rw [after0_7]
  exact (run m c).rounded_point t r y

/-- The scale's gradient, and the shift's. -/
theorem scale_array : (dats m 0 c).arrAt 8 cfg0.N = fun y : S1x1024.Idx => ∑ r : Fin 2064, outer (ds m c) (dh m c) r (y 1) * xhat (row (s m c) r) (y 1) := by
  refine (dats m 0 c).arrAt_eq_of_covers 8 _ (by decide +kernel) fun t hf y => ?_
  obtain ⟨y, rfl⟩ := line y
  rw [show (((cfg0.win 8).blk t).view.emb (ix2 0 y) : S1x1024.Idx) = ix2 0 y by blk_ext [(stays t).2.2.1.1, (stays t).2.2.1.2]]
  blk_simp
  rw [after0_8]
  exact (run m c).scale_point t ((flush0_8 t).mp hf) y

theorem shift_array : (dats m 0 c).arrAt 9 cfg0.N = fun y : S1x1024.Idx => ∑ r : Fin 2064, outer (ds m c) (dh m c) r (y 1) := by
  refine (dats m 0 c).arrAt_eq_of_covers 9 _ (by decide +kernel) fun t hf y => ?_
  obtain ⟨y, rfl⟩ := line y
  rw [show (((cfg0.win 9).blk t).view.emb (ix2 0 y) : S1x1024.Idx) = ix2 0 y by blk_ext [(stays t).2.2.2.1, (stays t).2.2.2.2]]
  blk_simp
  rw [after0_9]
  exact (run m c).shift_point t ((flush0_9 t).mp hf) y

/-- The gradient in front of the product. -/
theorem mixed_array : (dats m 0 c).arrAt 10 cfg0.N = fun y : S2064x1536.Idx => mixed (ds m c) (dh m c) (s m c) (g m c) (w m c) (y 0) (y 1) := by
  refine (dats m 0 c).arrAt_eq_of_covers 10 _ (by decide +kernel) fun t hf y => ?_
  obtain ⟨r, y, rfl⟩ := exists_ix2 y
  rw [show (((cfg0.win 10).blk t).view.emb (ix2 r y) : S2064x1536.Idx) = ix2 (at_ t r) y by
    blk_ext [(walks t).2.2.2.2.2.2.1, (walks t).2.2.2.2.2.2.2]]
  blk_simp
  rw [after0_10]
  exact mixed_point m c t r y

/-- With finite gradients and a finite scale the reference's chain rule is what the program leaves. -/
theorem chain_array (h : Cert.Pre_LruBackIdeal_finite_lru_rows m) : Cert.FfnBackRefIdeal.Read.val_main_v61 (F := Ideal) (ds m c) (dh m c) (s m c) (g m c)
    = fun y : S2064x1024.Idx => whole (ds m c) (dh m c) (s m c) (g m c) (y 0) (y 1) :=
  NormRef.chain_whole (fun i => Cert.Attn.real_of_abs (congrFun (h c).1 i)) (fun i => Cert.Attn.real_of_abs (congrFun (h c).2.1 i))
    (fun i => Cert.Attn.real_of_abs (congrFun (h c).2.2 i))

end Kernel

theorem frame_program : Cert.quiescent_LruBack := fun m ρ _ => Cert.LruBack.Gen.frame m ρ
theorem frame_ideal : Cert.quiescent_LruBackIdeal := fun m ρ _ => Cert.LruBackIdeal.Gen.frame m ρ
theorem frame_reference : Cert.quiescent_LruBackRefIdeal := fun m ρ _ =>
  (θ_run Cert.LruBackRefIdeal.defs _ _).mono (fun r h => ⟨fun c => (h c).2.2.2.2.2,
      Idealize.ShloMosaic.sem_eq_zero_of_no_sems (by decide) r.2⟩)
    (Cert.LruBackRefIdeal.Value.run (F := Ideal) m ρ)
theorem frame_ideal_finite : Cert.quiescent_LruBackIdeal_pre_finite_lru_rows := fun m ρ _ => Cert.LruBackIdeal.Gen.frame m ρ
theorem frame_reference_finite : Cert.quiescent_LruBackRefIdeal_pre_finite_lru_rows := fun m ρ _ => frame_reference m ρ trivial

/-- The reference's results are the arrays the program ends with. -/
theorem same_results : Cert.algebraic_LruBackIdeal_LruBackRefIdeal_pre_finite_lru_rows := by
  intro m ρ m' ρ' hpre hagree
  refine ⟨_, _, _, _, _, Cert.LruBackIdeal.Value.run_blocks (F := Ideal) m ρ, ?_⟩
  refine (θ_run Cert.LruBackRefIdeal.defs _ _).mono (fun _ h c => ?_) (Cert.LruBackRefIdeal.Value.run (F := Ideal) m' ρ')
  obtain ⟨h0, h1, h2, h3, h4, hk⟩ := h c
  obtain ⟨a0, a1, a2, a3, a4⟩ := hagree c
  refine ⟨h0.trans ?_, h1.trans ?_, h2.trans ?_, h3.trans ?_, h4.trans ?_, hk⟩
  · rw [Cert.LruBackRefIdeal.Read.val_main_v61_eq, a0, a1, a2, a3, back_array]
    exact chain_array m c hpre
  · rw [Cert.LruBackRefIdeal.Read.val_main_v62_eq, a0, a1, a2, a3, rounded_array]
    exact chain_array m c hpre
  · rw [Cert.LruBackRefIdeal.Read.val_main_v35_eq, a0, a1, a2, scale_array]
    exact funext fun y => NormRef.scale_at _ _ _ y
  · rw [Cert.LruBackRefIdeal.Read.val_main_v32_eq, a0, a1, shift_array]
    exact funext fun y => NormRef.shift_at _ _ y
  · rw [Cert.LruBackRefIdeal.Read.val_main_v67_eq, a0, a1, a2, a3, a4, mixed_array]
    funext y
    rw [Cert.LruBackRefIdeal.Read.val_main_v67_apply]
    refine Finset.sum_congr rfl fun k _ => congrArg₂ (· * ·) ?_ (congrArg (w m c) (ix2_of rfl rfl))
    exact congrFun (chain_array m c hpre) (Cert.LruBackRefIdeal.Read.lidx_main_v67 y k)

end Cert.Products.LruBack

end
-- ==== Proof.AttnBack.lean ====
/- The gradient through the layer normalisation behind a block's attention, and through the product in front of it:
   a row block per grid point, and the gradients of the scale and the shift added up over the points. -/
module

public import proofs.«01_k».proof.Defs
public import proofs.«01_k».proof.Proof.Operands
public import proofs.«01_k».proof.Proof.NormRef
public import proofs.«01_k».proof.Proof.Gen.Pre_finite_attn_rows
public import proofs.«01_k».proof.Proof.Gen.AttnBack.Frame
public import proofs.«01_k».proof.Proof.Gen.AttnBackIdeal.Frame
public import proofs.«01_k».proof.Proof.Gen.AttnBackIdeal.Value
public import proofs.«01_k».proof.Proof.Gen.AttnBackRefIdeal.Run
public import proofs.«01_k».proof.Proof.Gen.AttnBackRefIdeal.Read
public import Idealize.ShloMosaic.Lib.Quiescent

@[expose] public section

set_option maxRecDepth 16384

noncomputable section

namespace Cert.Products.AttnBack

open Idealize.ShloMosaic Idealize.ShloMosaic.TcCoe Idealize.SL.Sem Cert.Products.Norm

section Kernel

open Cert.AttnBackIdeal Cert.AttnBackIdeal.Gen Cert.AttnBackIdeal.Value

variable (m : (ℓ : Loc nD τ sig) → Buf (Elt Ideal) ℓ) (c : Dev nD)

/-- The windows that walk down the rows, and those that stay. -/
theorem walks : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_6.index t 0 = t.val ∧ win0_6.index t 1 = 0) ∧ (win0_7.index t 0 = t.val ∧ win0_7.index t 1 = 0)
    ∧ (win0_10.index t 0 = t.val ∧ win0_10.index t 1 = 0) :=
  (by decide +kernel : ∀ t : Fin grid0.N, _)
theorem stays : ∀ t : Fin cfg0.N, (win0_4.index t 0 = 0 ∧ win0_4.index t 1 = 0) ∧ (win0_5.index t 0 = 0 ∧ win0_5.index t 1 = 0)
    ∧ (win0_8.index t 0 = 0 ∧ win0_8.index t 1 = 0) ∧ (win0_9.index t 0 = 0 ∧ win0_9.index t 1 = 0) :=
  (by decide +kernel : ∀ t : Fin grid0.N, _)

/-- The gradient of the residual stream, of the branch, the rows that were normalised, the scale, and the weights, as launched. -/
abbrev ds : Mat .f32 2064 1024 := m ((c : Thread nD τ).loc main_arg0)
abbrev dh : Mat .f32 2064 1024 := m ((c : Thread nD τ).loc main_arg1)
abbrev s : Mat .f32 2064 1024 := m ((c : Thread nD τ).loc main_arg2)
abbrev g : Mat .f32 1 1024 := m ((c : Thread nD τ).loc main_arg3)
abbrev w : Mat .bf16 1024 1024 := m ((c : Thread nD τ).loc main_arg4)

/-- The host normalises the rows as the reference does. -/
theorem host_xhat : V m c main_v17 = Cert.FfnBackRefIdeal.Read.val_main_v26 (F := Ideal) (s m c) := by
  show StableHlo.after hostOps0 _ _ = _
  after_results
  rfl

theorem host_rstd : V m c main_v13 = Cert.FfnBackRefIdeal.Read.val_main_v19 (F := Ideal) (s m c) := by
  show StableHlo.after hostOps0 _ _ = _
  after_results
  rfl

theorem blocks (t : Fin cfg0.N) : Blocks (ds m c) (dh m c) (s m c) (g m c) t (iblk m c 0 t) (iblk m c 1 t) (iblk m c 2 t) (iblk m c 4 t) (iblk m c 3 t) where
  stream r y := by blk_ext [iblk, V, (walks t).1.1, (walks t).1.2]
  branch r y := by blk_ext [iblk, V, (walks t).2.1.1, (walks t).2.1.2]
  xhat r y := by
    refine Eq.trans ?_ ((congrFun (host_xhat m c) (ix2 (at_ t r) y)).trans (NormRef.xhat_at _ _))
    blk_ext [iblk, (walks t).2.2.1.1, (walks t).2.2.1.2]
  rstd r := by
    refine Eq.trans ?_ ((congrFun (host_rstd m c) (ix2 (at_ t r) 0)).trans (NormRef.rstd_at _ _))
    blk_ext [iblk, (walks t).2.2.2.1.1, (walks t).2.2.2.1.2]
  scale y := by blk_ext [iblk, V, (stays t).1.1, (stays t).1.2]

theorem weight_block (t : Fin cfg0.N) (z : Fin 1024) (k : Fin 1024) : iblk m c 5 t (ix2 z k) = w m c (ix2 z k) := by
  blk_ext [iblk, V, (stays t).2.1.1, (stays t).2.1.2]

/-- The grid's points run over the blocks. -/
theorem run : Run (ds m c) (dh m c) (s m c) (g m c) (fun n h => have o := outsAt0 m c n h; (o.1, o.2.1, o.2.2.1, o.2.2.2.1))
    (iblk m c 0) (iblk m c 1) (iblk m c 2) (iblk m c 4) (iblk m c 3) where
  blocks := blocks m c
  first t h := by
    rw [outsAt0_A m c t h]
    frame_out
    rfl
  next t h := by
    rw [outsAt0_B m c t h]
    frame_out
    rfl

/-- At every point the product is of the rows' gradient in the narrower format. -/
theorem mixed_point (t : Fin cfg0.N) (r : Fin 688) (z : Fin 1024) :
    (outsAt0 m c t.val t.isLt).2.2.2.2 (ix2 r z) = mixed (ds m c) (dh m c) (s m c) (g m c) (w m c) (at_ t r) z := by
  refine Eq.trans ?_ ((blocks m c t).mixed_eq (weight_block m c t) r z)
  by_cases h : t.val % 3 = 0
  · rw [outsAt0_A m c t h]
    frame_out
    unfold k0_pay3
    pointwise
    rfl
  · rw [outsAt0_B m c t h]
    frame_out
    unfold k0_pay3
    pointwise
    rfl

/-- The rows' gradient, and that in the narrower format. -/
theorem back_array : (dats m 0 c).arrAt 6 cfg0.N = fun y : S2064x1024.Idx => whole (ds m c) (dh m c) (s m c) (g m c) (y 0) (y 1) := by
  refine (dats m 0 c).arrAt_eq_of_covers 6 _ (by decide +kernel) fun t hf y => ?_
  obtain ⟨r, y, rfl⟩ := exists_ix2 y
  rw [show (((cfg0.win 6).blk t).view.emb (ix2 r y) : S2064x1024.Idx) = ix2 (at_ t r) y by
    blk_ext [(walks t).2.2.2.2.1.1, (walks t).2.2.2.2.1.2]]
  blk_simp
  rw [after0_6]
  exact (run m c).back_point t r y

theorem rounded_array : (dats m 0 c).arrAt 7 cfg0.N = fun y : S2064x1024.Idx => whole (ds m c) (dh m c) (s m c) (g m c) (y 0) (y 1) := by
  refine (dats m 0 c).arrAt_eq_of_covers 7 _ (by decide +kernel) fun t hf y => ?_
  obtain ⟨r, y, rfl⟩ := exists_ix2 y
  rw [show (((cfg0.win 7).blk t).view.emb (ix2 r y) : S2064x1024.Idx) = ix2 (at_ t r) y by
    blk_ext [(walks t).2.2.2.2.2.1.1, (walks t).2.2.2.2.2.1.2]]
  blk_simp
  rw [after0_7]
  exact (run m c).rounded_point t r y

/-- The scale's gradient, and the shift's. -/
theorem scale_array : (dats m 0 c).arrAt 8 cfg0.N = fun y : S1x1024.Idx => ∑ r : Fin 2064, outer (ds m c) (dh m c) r (y 1) * xhat (row (s m c) r) (y 1) := by
  refine (dats m 0 c).arrAt_eq_of_covers 8 _ (by decide +kernel) fun t hf y => ?_
  obtain ⟨y, rfl⟩ := line y
  rw [show (((cfg0.win 8).blk t).view.emb (ix2 0 y) : S1x1024.Idx) = ix2 0 y by blk_ext [(stays t).2.2.1.1, (stays t).2.2.1.2]]
  blk_simp
  rw [after0_8]
  exact (run m c).scale_point t ((flush0_8 t).mp hf) y

theorem shift_array : (dats m 0 c).arrAt 9 cfg0.N = fun y : S1x1024.Idx => ∑ r : Fin 2064, outer (ds m c) (dh m c) r (y 1) := by
  refine (dats m 0 c).arrAt_eq_of_covers 9 _ (by decide +kernel) fun t hf y => ?_
  obtain ⟨y, rfl⟩ := line y
  rw [show (((cfg0.win 9).blk t).view.emb (ix2 0 y) : S1x1024.Idx) = ix2 0 y by blk_ext [(stays t).2.2.2.1, (stays t).2.2.2.2]]
  blk_simp
  rw [after0_9]
  exact (run m c).shift_point t ((flush0_9 t).mp hf) y

/-- The gradient in front of the product. -/
theorem mixed_array : (dats m 0 c).arrAt 10 cfg0.N = fun y : S2064x1024.Idx => mixed (ds m c) (dh m c) (s m c) (g m c) (w m c) (y 0) (y 1) := by
  refine (dats m 0 c).arrAt_eq_of_covers 10 _ (by decide +kernel) fun t hf y => ?_
  obtain ⟨r, y, rfl⟩ := exists_ix2 y
  rw [show (((cfg0.win 10).blk t).view.emb (ix2 r y) : S2064x1024.Idx) = ix2 (at_ t r) y by
    blk_ext [(walks t).2.2.2.2.2.2.1, (walks t).2.2.2.2.2.2.2]]
  blk_simp
  rw [after0_10]
  exact mixed_point m c t r y

/-- With finite gradients and a finite scale the reference's chain rule is what the program leaves. -/
theorem chain_array (h : Cert.Pre_AttnBackIdeal_finite_attn_rows m) : Cert.FfnBackRefIdeal.Read.val_main_v61 (F := Ideal) (ds m c) (dh m c) (s m c) (g m c)
    = fun y : S2064x1024.Idx => whole (ds m c) (dh m c) (s m c) (g m c) (y 0) (y 1) :=
  NormRef.chain_whole (fun i => Cert.Attn.real_of_abs (congrFun (h c).1 i)) (fun i => Cert.Attn.real_of_abs (congrFun (h c).2.1 i))
    (fun i => Cert.Attn.real_of_abs (congrFun (h c).2.2 i))

end Kernel

theorem frame_program : Cert.quiescent_AttnBack := fun m ρ _ => Cert.AttnBack.Gen.frame m ρ
theorem frame_ideal : Cert.quiescent_AttnBackIdeal := fun m ρ _ => Cert.AttnBackIdeal.Gen.frame m ρ
theorem frame_reference : Cert.quiescent_AttnBackRefIdeal := fun m ρ _ =>
  (θ_run Cert.AttnBackRefIdeal.defs _ _).mono (fun r h => ⟨fun c => (h c).2.2.2.2.2,
      Idealize.ShloMosaic.sem_eq_zero_of_no_sems (by decide) r.2⟩)
    (Cert.AttnBackRefIdeal.Value.run (F := Ideal) m ρ)
theorem frame_ideal_finite : Cert.quiescent_AttnBackIdeal_pre_finite_attn_rows := fun m ρ _ => Cert.AttnBackIdeal.Gen.frame m ρ
theorem frame_reference_finite : Cert.quiescent_AttnBackRefIdeal_pre_finite_attn_rows := fun m ρ _ => frame_reference m ρ trivial

/-- The reference's results are the arrays the program ends with. -/
theorem same_results : Cert.algebraic_AttnBackIdeal_AttnBackRefIdeal_pre_finite_attn_rows := by
  intro m ρ m' ρ' hpre hagree
  refine ⟨_, _, _, _, _, Cert.AttnBackIdeal.Value.run_blocks (F := Ideal) m ρ, ?_⟩
  refine (θ_run Cert.AttnBackRefIdeal.defs _ _).mono (fun _ h c => ?_) (Cert.AttnBackRefIdeal.Value.run (F := Ideal) m' ρ')
  obtain ⟨h0, h1, h2, h3, h4, hk⟩ := h c
  obtain ⟨a0, a1, a2, a3, a4⟩ := hagree c
  refine ⟨h0.trans ?_, h1.trans ?_, h2.trans ?_, h3.trans ?_, h4.trans ?_, hk⟩
  · rw [Cert.AttnBackRefIdeal.Read.val_main_v61_eq, a0, a1, a2, a3, back_array]
    exact chain_array m c hpre
  · rw [Cert.AttnBackRefIdeal.Read.val_main_v62_eq, a0, a1, a2, a3, rounded_array]
    exact chain_array m c hpre
  · rw [Cert.AttnBackRefIdeal.Read.val_main_v35_eq, a0, a1, a2, scale_array]
    exact funext fun y => NormRef.scale_at _ _ _ y
  · rw [Cert.AttnBackRefIdeal.Read.val_main_v32_eq, a0, a1, shift_array]
    exact funext fun y => NormRef.shift_at _ _ y
  · rw [Cert.AttnBackRefIdeal.Read.val_main_v67_eq, a0, a1, a2, a3, a4, mixed_array]
    funext y
    rw [Cert.AttnBackRefIdeal.Read.val_main_v67_apply]
    refine Finset.sum_congr rfl fun k _ => congrArg₂ (· * ·) ?_ (congrArg (w m c) (ix2_of rfl rfl))
    exact congrFun (chain_array m c hpre) (Cert.AttnBackRefIdeal.Read.lidx_main_v67 y k)

end Cert.Products.AttnBack

end
-- ==== Proof.lean ====
/- The proof of the certificate's claims, behind the facts that the programs state: the attention's gradient (Proof/Equation.lean),
   then a module for each further call. -/
module

public import proofs.«01_k».proof.Defs
public import proofs.«01_k».proof.Proof.Equation
public import proofs.«01_k».proof.Proof.FfnIn
public import proofs.«01_k».proof.Proof.FfnInDx
public import proofs.«01_k».proof.Proof.FfnInDw
public import proofs.«01_k».proof.Proof.FfnOut
public import proofs.«01_k».proof.Proof.FfnOutDx
public import proofs.«01_k».proof.Proof.FfnOutDw
public import proofs.«01_k».proof.Proof.LruIn
public import proofs.«01_k».proof.Proof.LruInDx
public import proofs.«01_k».proof.Proof.LruInDw
public import proofs.«01_k».proof.Proof.LruOut
public import proofs.«01_k».proof.Proof.LruOutDw
public import proofs.«01_k».proof.Proof.AttnIn
public import proofs.«01_k».proof.Proof.AttnInDx
public import proofs.«01_k».proof.Proof.AttnInDw
public import proofs.«01_k».proof.Proof.AttnOut
public import proofs.«01_k».proof.Proof.AttnOutDw
public import proofs.«01_k».proof.Proof.KvIn
public import proofs.«01_k».proof.Proof.KvInDx
public import proofs.«01_k».proof.Proof.KvInDw
public import proofs.«01_k».proof.Proof.FfnBack
public import proofs.«01_k».proof.Proof.LruBack
public import proofs.«01_k».proof.Proof.AttnBack
public import proofs.«01_k».proof.Proof.Gen.AttnGrad
public import proofs.«01_k».proof.Proof.Gen.AttnGradIdeal
public import proofs.«01_k».proof.Proof.Gen.AttnGradRefIdeal
public import proofs.«01_k».proof.Proof.Gen.FfnIn
public import proofs.«01_k».proof.Proof.Gen.FfnInIdeal
public import proofs.«01_k».proof.Proof.Gen.FfnInRefIdeal
public import proofs.«01_k».proof.Proof.Gen.FfnInDx
public import proofs.«01_k».proof.Proof.Gen.FfnInDxIdeal
public import proofs.«01_k».proof.Proof.Gen.FfnInDxRefIdeal
public import proofs.«01_k».proof.Proof.Gen.FfnInDw
public import proofs.«01_k».proof.Proof.Gen.FfnInDwIdeal
public import proofs.«01_k».proof.Proof.Gen.FfnInDwRefIdeal
public import proofs.«01_k».proof.Proof.Gen.FfnOut
public import proofs.«01_k».proof.Proof.Gen.FfnOutIdeal
public import proofs.«01_k».proof.Proof.Gen.FfnOutRefIdeal
public import proofs.«01_k».proof.Proof.Gen.FfnOutDx
public import proofs.«01_k».proof.Proof.Gen.FfnOutDxIdeal
public import proofs.«01_k».proof.Proof.Gen.FfnOutDxRefIdeal
public import proofs.«01_k».proof.Proof.Gen.FfnOutDw
public import proofs.«01_k».proof.Proof.Gen.FfnOutDwIdeal
public import proofs.«01_k».proof.Proof.Gen.FfnOutDwRefIdeal
public import proofs.«01_k».proof.Proof.Gen.LruIn
public import proofs.«01_k».proof.Proof.Gen.LruInIdeal
public import proofs.«01_k».proof.Proof.Gen.LruInRefIdeal
public import proofs.«01_k».proof.Proof.Gen.LruInDx
public import proofs.«01_k».proof.Proof.Gen.LruInDxIdeal
public import proofs.«01_k».proof.Proof.Gen.LruInDxRefIdeal
public import proofs.«01_k».proof.Proof.Gen.LruInDw
public import proofs.«01_k».proof.Proof.Gen.LruInDwIdeal
public import proofs.«01_k».proof.Proof.Gen.LruInDwRefIdeal
public import proofs.«01_k».proof.Proof.Gen.LruOut
public import proofs.«01_k».proof.Proof.Gen.LruOutIdeal
public import proofs.«01_k».proof.Proof.Gen.LruOutRefIdeal
public import proofs.«01_k».proof.Proof.Gen.LruOutDw
public import proofs.«01_k».proof.Proof.Gen.LruOutDwIdeal
public import proofs.«01_k».proof.Proof.Gen.LruOutDwRefIdeal
public import proofs.«01_k».proof.Proof.Gen.AttnIn
public import proofs.«01_k».proof.Proof.Gen.AttnInIdeal
public import proofs.«01_k».proof.Proof.Gen.AttnInRefIdeal
public import proofs.«01_k».proof.Proof.Gen.AttnInDx
public import proofs.«01_k».proof.Proof.Gen.AttnInDxIdeal
public import proofs.«01_k».proof.Proof.Gen.AttnInDxRefIdeal
public import proofs.«01_k».proof.Proof.Gen.AttnInDw
public import proofs.«01_k».proof.Proof.Gen.AttnInDwIdeal
public import proofs.«01_k».proof.Proof.Gen.AttnInDwRefIdeal
public import proofs.«01_k».proof.Proof.Gen.AttnOut
public import proofs.«01_k».proof.Proof.Gen.AttnOutIdeal
public import proofs.«01_k».proof.Proof.Gen.AttnOutRefIdeal
public import proofs.«01_k».proof.Proof.Gen.AttnOutDw
public import proofs.«01_k».proof.Proof.Gen.AttnOutDwIdeal
public import proofs.«01_k».proof.Proof.Gen.AttnOutDwRefIdeal
public import proofs.«01_k».proof.Proof.Gen.KvIn
public import proofs.«01_k».proof.Proof.Gen.KvInIdeal
public import proofs.«01_k».proof.Proof.Gen.KvInRefIdeal
public import proofs.«01_k».proof.Proof.Gen.KvInDx
public import proofs.«01_k».proof.Proof.Gen.KvInDxIdeal
public import proofs.«01_k».proof.Proof.Gen.KvInDxRefIdeal
public import proofs.«01_k».proof.Proof.Gen.KvInDw
public import proofs.«01_k».proof.Proof.Gen.KvInDwIdeal
public import proofs.«01_k».proof.Proof.Gen.KvInDwRefIdeal
public import proofs.«01_k».proof.Proof.Gen.FfnBack
public import proofs.«01_k».proof.Proof.Gen.FfnBackIdeal
public import proofs.«01_k».proof.Proof.Gen.FfnBackRefIdeal
public import proofs.«01_k».proof.Proof.Gen.LruBack
public import proofs.«01_k».proof.Proof.Gen.LruBackIdeal
public import proofs.«01_k».proof.Proof.Gen.LruBackRefIdeal
public import proofs.«01_k».proof.Proof.Gen.AttnBack
public import proofs.«01_k».proof.Proof.Gen.AttnBackIdeal
public import proofs.«01_k».proof.Proof.Gen.AttnBackRefIdeal
public import proofs.«01_k».proof.Proof.Gen.Pre_finite_operands
public import proofs.«01_k».proof.Proof.Gen.Pre_finite_rows
public import proofs.«01_k».proof.Proof.Gen.Pre_finite_lru_rows
public import proofs.«01_k».proof.Proof.Gen.Pre_finite_attn_rows
public import Idealize.ShloMosaic.Adequacy
public import Idealize.ShloMosaic.Init

@[expose] public section

noncomputable section

namespace Cert.Proof

open Idealize.ShloMosaic Idealize.SL.Sem

theorem claim : Cert.Claim :=
  ⟨Cert.AttnGrad.Gen.facts, Cert.AttnGradIdeal.Gen.facts, Cert.AttnGradRefIdeal.Gen.facts,
    Cert.FfnIn.Gen.facts, Cert.FfnInIdeal.Gen.facts, Cert.FfnInRefIdeal.Gen.facts,
    Cert.FfnInDx.Gen.facts, Cert.FfnInDxIdeal.Gen.facts, Cert.FfnInDxRefIdeal.Gen.facts,
    Cert.FfnInDw.Gen.facts, Cert.FfnInDwIdeal.Gen.facts, Cert.FfnInDwRefIdeal.Gen.facts,
    Cert.FfnOut.Gen.facts, Cert.FfnOutIdeal.Gen.facts, Cert.FfnOutRefIdeal.Gen.facts,
    Cert.FfnOutDx.Gen.facts, Cert.FfnOutDxIdeal.Gen.facts, Cert.FfnOutDxRefIdeal.Gen.facts,
    Cert.FfnOutDw.Gen.facts, Cert.FfnOutDwIdeal.Gen.facts, Cert.FfnOutDwRefIdeal.Gen.facts,
    Cert.LruIn.Gen.facts, Cert.LruInIdeal.Gen.facts, Cert.LruInRefIdeal.Gen.facts,
    Cert.LruInDx.Gen.facts, Cert.LruInDxIdeal.Gen.facts, Cert.LruInDxRefIdeal.Gen.facts,
    Cert.LruInDw.Gen.facts, Cert.LruInDwIdeal.Gen.facts, Cert.LruInDwRefIdeal.Gen.facts,
    Cert.LruOut.Gen.facts, Cert.LruOutIdeal.Gen.facts, Cert.LruOutRefIdeal.Gen.facts,
    Cert.LruOutDw.Gen.facts, Cert.LruOutDwIdeal.Gen.facts, Cert.LruOutDwRefIdeal.Gen.facts,
    Cert.AttnIn.Gen.facts, Cert.AttnInIdeal.Gen.facts, Cert.AttnInRefIdeal.Gen.facts,
    Cert.AttnInDx.Gen.facts, Cert.AttnInDxIdeal.Gen.facts, Cert.AttnInDxRefIdeal.Gen.facts,
    Cert.AttnInDw.Gen.facts, Cert.AttnInDwIdeal.Gen.facts, Cert.AttnInDwRefIdeal.Gen.facts,
    Cert.AttnOut.Gen.facts, Cert.AttnOutIdeal.Gen.facts, Cert.AttnOutRefIdeal.Gen.facts,
    Cert.AttnOutDw.Gen.facts, Cert.AttnOutDwIdeal.Gen.facts, Cert.AttnOutDwRefIdeal.Gen.facts,
    Cert.KvIn.Gen.facts, Cert.KvInIdeal.Gen.facts, Cert.KvInRefIdeal.Gen.facts,
    Cert.KvInDx.Gen.facts, Cert.KvInDxIdeal.Gen.facts, Cert.KvInDxRefIdeal.Gen.facts,
    Cert.KvInDw.Gen.facts, Cert.KvInDwIdeal.Gen.facts, Cert.KvInDwRefIdeal.Gen.facts,
    Cert.FfnBack.Gen.facts, Cert.FfnBackIdeal.Gen.facts, Cert.FfnBackRefIdeal.Gen.facts,
    Cert.LruBack.Gen.facts, Cert.LruBackIdeal.Gen.facts, Cert.LruBackRefIdeal.Gen.facts,
    Cert.AttnBack.Gen.facts, Cert.AttnBackIdeal.Gen.facts, Cert.AttnBackRefIdeal.Gen.facts,
    Cert.Pre_finite_operands.Gen.facts,
    Cert.Pre_finite_rows.Gen.facts,
    Cert.Pre_finite_lru_rows.Gen.facts,
    Cert.Pre_finite_attn_rows.Gen.facts,
    Attn.frame_program, Attn.frame_ideal, Attn.frame_ideal_finite, Attn.frame_reference, Attn.frame_reference_finite,
    Products.FfnIn.frame_program, Products.FfnIn.frame_ideal, Products.FfnIn.frame_reference,
    Products.FfnInDx.frame_program, Products.FfnInDx.frame_ideal, Products.FfnInDx.frame_reference,
    Products.FfnInDw.frame_program, Products.FfnInDw.frame_ideal, Products.FfnInDw.frame_reference,
    Products.FfnOut.frame_program, Products.FfnOut.frame_ideal, Products.FfnOut.frame_reference,
    Products.FfnOutDx.frame_program, Products.FfnOutDx.frame_ideal, Products.FfnOutDx.frame_reference,
    Products.FfnOutDw.frame_program, Products.FfnOutDw.frame_ideal, Products.FfnOutDw.frame_reference,
    Products.LruIn.frame_program, Products.LruIn.frame_ideal, Products.LruIn.frame_reference,
    Products.LruInDx.frame_program, Products.LruInDx.frame_ideal, Products.LruInDx.frame_reference,
    Products.LruInDw.frame_program, Products.LruInDw.frame_ideal, Products.LruInDw.frame_reference,
    Products.LruOut.frame_program, Products.LruOut.frame_ideal, Products.LruOut.frame_reference,
    Products.LruOutDw.frame_program, Products.LruOutDw.frame_ideal, Products.LruOutDw.frame_reference,
    Products.AttnIn.frame_program, Products.AttnIn.frame_ideal, Products.AttnIn.frame_reference,
    Products.AttnInDx.frame_program, Products.AttnInDx.frame_ideal, Products.AttnInDx.frame_reference,
    Products.AttnInDw.frame_program, Products.AttnInDw.frame_ideal, Products.AttnInDw.frame_reference,
    Products.AttnOut.frame_program, Products.AttnOut.frame_ideal, Products.AttnOut.frame_reference,
    Products.AttnOutDw.frame_program, Products.AttnOutDw.frame_ideal, Products.AttnOutDw.frame_reference,
    Products.KvIn.frame_program, Products.KvIn.frame_ideal, Products.KvIn.frame_reference,
    Products.KvInDx.frame_program, Products.KvInDx.frame_ideal, Products.KvInDx.frame_reference,
    Products.KvInDw.frame_program, Products.KvInDw.frame_ideal, Products.KvInDw.frame_reference,
    Products.FfnBack.frame_program, Products.FfnBack.frame_ideal, Products.FfnBack.frame_ideal_finite, Products.FfnBack.frame_reference, Products.FfnBack.frame_reference_finite,
    Products.LruBack.frame_program, Products.LruBack.frame_ideal, Products.LruBack.frame_ideal_finite, Products.LruBack.frame_reference, Products.LruBack.frame_reference_finite,
    Products.AttnBack.frame_program, Products.AttnBack.frame_ideal, Products.AttnBack.frame_ideal_finite, Products.AttnBack.frame_reference, Products.AttnBack.frame_reference_finite,
    Attn.mask_preserved, Attn.same_results,
    trivial, Products.FfnIn.same_results,
    trivial, Products.FfnInDx.same_results,
    trivial, Products.FfnInDw.same_results,
    trivial, Products.FfnOut.same_results,
    trivial, Products.FfnOutDx.same_results,
    trivial, Products.FfnOutDw.same_results,
    trivial, Products.LruIn.same_results,
    trivial, Products.LruInDx.same_results,
    trivial, Products.LruInDw.same_results,
    trivial, Products.LruOut.same_results,
    trivial, Products.LruOutDw.same_results,
    trivial, Products.AttnIn.same_results,
    trivial, Products.AttnInDx.same_results,
    trivial, Products.AttnInDw.same_results,
    trivial, Products.AttnOut.same_results,
    trivial, Products.AttnOutDw.same_results,
    trivial, Products.KvIn.same_results,
    trivial, Products.KvInDx.same_results,
    trivial, Products.KvInDw.same_results,
    trivial, Products.FfnBack.same_results,
    trivial, Products.LruBack.same_results,
    trivial, Products.AttnBack.same_results⟩

end Cert.Proof

end
